-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_LnMod (m : (ℓ : Loc Cert.LnMod.nD Cert.LnMod.τ Cert.LnMod.sig) → Buf (Elt Bits) ℓ) : Prop :=
  True

def Pre_LnModIdeal (m : (ℓ : Loc Cert.LnModIdeal.nD Cert.LnModIdeal.τ Cert.LnModIdeal.sig) → Buf (Elt Ideal) ℓ) : Prop :=
  True

def Pre_LnModRefIdeal (m : (ℓ : Loc Cert.LnModRefIdeal.nD Cert.LnModRefIdeal.τ Cert.LnModRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DWUp (m : (ℓ : Loc Cert.DWUp.nD Cert.DWUp.τ Cert.DWUp.sig) → Buf (Elt Bits) ℓ) : Prop :=
  True

def Pre_DWUpIdeal (m : (ℓ : Loc Cert.DWUpIdeal.nD Cert.DWUpIdeal.τ Cert.DWUpIdeal.sig) → Buf (Elt Ideal) ℓ) : Prop :=
  True

def Pre_DWUpRefIdeal (m : (ℓ : Loc Cert.DWUpRefIdeal.nD Cert.DWUpRefIdeal.τ Cert.DWUpRefIdeal.sig) → Buf (Elt Ideal) ℓ) : Prop :=
  True

def Pre_DO (m : (ℓ : Loc Cert.DO.nD Cert.DO.τ Cert.DO.sig) → Buf (Elt Bits) ℓ) : Prop :=
  True

def Pre_DOIdeal (m : (ℓ : Loc Cert.DOIdeal.nD Cert.DOIdeal.τ Cert.DOIdeal.sig) → Buf (Elt Ideal) ℓ) : Prop :=
  True

def Pre_DORefIdeal (m : (ℓ : Loc Cert.DORefIdeal.nD Cert.DORefIdeal.τ Cert.DORefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_MIn (m : (ℓ : Loc Cert.MIn.nD Cert.MIn.τ Cert.MIn.sig) → Buf (Elt Bits) ℓ) : Prop :=
  True

def Pre_MInIdeal (m : (ℓ : Loc Cert.MInIdeal.nD Cert.MInIdeal.τ Cert.MInIdeal.sig) → Buf (Elt Ideal) ℓ) : Prop :=
  True

def Pre_MInRefIdeal (m : (ℓ : Loc Cert.MInRefIdeal.nD Cert.MInRefIdeal.τ Cert.MInRefIdeal.sig) → Buf (Elt Ideal) ℓ) : Prop :=
  True

def Pre_MOut (m : (ℓ : Loc Cert.MOut.nD Cert.MOut.τ Cert.MOut.sig) → Buf (Elt Bits) ℓ) : Prop :=
  True

def Pre_MOutIdeal (m : (ℓ : Loc Cert.MOutIdeal.nD Cert.MOutIdeal.τ Cert.MOutIdeal.sig) → Buf (Elt Ideal) ℓ) : Prop :=
  True

def Pre_MOutRefIdeal (m : (ℓ : Loc Cert.MOutRefIdeal.nD Cert.MOutRefIdeal.τ Cert.MOutRefIdeal.sig) → Buf (Elt Ideal) ℓ) : Prop :=
  True

def Pre_MUp (m : (ℓ : Loc Cert.MUp.nD Cert.MUp.τ Cert.MUp.sig) → Buf (Elt Bits) ℓ) : Prop :=
  True

def Pre_MUpIdeal (m : (ℓ : Loc Cert.MUpIdeal.nD Cert.MUpIdeal.τ Cert.MUpIdeal.sig) → Buf (Elt Ideal) ℓ) : Prop :=
  True

def Pre_MUpRefIdeal (m : (ℓ : Loc Cert.MUpRefIdeal.nD Cert.MUpRefIdeal.τ Cert.MUpRefIdeal.sig) → Buf (Elt Ideal) ℓ) : Prop :=
  True

def Pre_MDown (m : (ℓ : Loc Cert.MDown.nD Cert.MDown.τ Cert.MDown.sig) → Buf (Elt Bits) ℓ) : Prop :=
  True

def Pre_MDownIdeal (m : (ℓ : Loc Cert.MDownIdeal.nD Cert.MDownIdeal.τ Cert.MDownIdeal.sig) → Buf (Elt Ideal) ℓ) : Prop :=
  True

def Pre_MDownRefIdeal (m : (ℓ : Loc Cert.MDownRefIdeal.nD Cert.MDownRefIdeal.τ Cert.MDownRefIdeal.sig) → Buf (Elt Ideal) ℓ) : Prop :=
  True

def Pre_OptIn (m : (ℓ : Loc Cert.OptIn.nD Cert.OptIn.τ Cert.OptIn.sig) → Buf (Elt Bits) ℓ) : Prop :=
  True

def Pre_OptInIdeal (m : (ℓ : Loc Cert.OptInIdeal.nD Cert.OptInIdeal.τ Cert.OptInIdeal.sig) → Buf (Elt Ideal) ℓ) : Prop :=
  True

def Pre_OptInRefIdeal (m : (ℓ : Loc Cert.OptInRefIdeal.nD Cert.OptInRefIdeal.τ Cert.OptInRefIdeal.sig) → Buf (Elt Ideal) ℓ) : Prop :=
  True

def Pre_OptOut (m : (ℓ : Loc Cert.OptOut.nD Cert.OptOut.τ Cert.OptOut.sig) → Buf (Elt Bits) ℓ) : Prop :=
  True

def Pre_OptOutIdeal (m : (ℓ : Loc Cert.OptOutIdeal.nD Cert.OptOutIdeal.τ Cert.OptOutIdeal.sig) → Buf (Elt Ideal) ℓ) : Prop :=
  True

def Pre_OptOutRefIdeal (m : (ℓ : Loc Cert.OptOutRefIdeal.nD Cert.OptOutRefIdeal.τ Cert.OptOutRefIdeal.sig) → Buf (Elt Ideal) ℓ) : Prop :=
  True

def Pre_OptUp (m : (ℓ : Loc Cert.OptUp.nD Cert.OptUp.τ Cert.OptUp.sig) → Buf (Elt Bits) ℓ) : Prop :=
  True

def Pre_OptUpIdeal (m : (ℓ : Loc Cert.OptUpIdeal.nD Cert.OptUpIdeal.τ Cert.OptUpIdeal.sig) → Buf (Elt Ideal) ℓ) : Prop :=
  True

def Pre_OptUpRefIdeal (m : (ℓ : Loc Cert.OptUpRefIdeal.nD Cert.OptUpRefIdeal.τ Cert.OptUpRefIdeal.sig) → Buf (Elt Ideal) ℓ) : Prop :=
  True

def Pre_OptConv (m : (ℓ : Loc Cert.OptConv.nD Cert.OptConv.τ Cert.OptConv.sig) → Buf (Elt Bits) ℓ) : Prop :=
  True

def Pre_OptConvIdeal (m : (ℓ : Loc Cert.OptConvIdeal.nD Cert.OptConvIdeal.τ Cert.OptConvIdeal.sig) → Buf (Elt Ideal) ℓ) : Prop :=
  True

def Pre_OptConvRefIdeal (m : (ℓ : Loc Cert.OptConvRefIdeal.nD Cert.OptConvRefIdeal.τ Cert.OptConvRefIdeal.sig) → Buf (Elt Ideal) ℓ) : Prop :=
  True

def Pre_OptDown (m : (ℓ : Loc Cert.OptDown.nD Cert.OptDown.τ Cert.OptDown.sig) → Buf (Elt Bits) ℓ) : Prop :=
  True

def Pre_OptDownIdeal (m : (ℓ : Loc Cert.OptDownIdeal.nD Cert.OptDownIdeal.τ Cert.OptDownIdeal.sig) → Buf (Elt Ideal) ℓ) : Prop :=
  True

def Pre_OptDownRefIdeal (m : (ℓ : Loc Cert.OptDownRefIdeal.nD Cert.OptDownRefIdeal.τ Cert.OptDownRefIdeal.sig) → Buf (Elt Ideal) ℓ) : Prop :=
  True

def Pre_OptAda (m : (ℓ : Loc Cert.OptAda.nD Cert.OptAda.τ Cert.OptAda.sig) → Buf (Elt Bits) ℓ) : Prop :=
  True

def Pre_OptAdaIdeal (m : (ℓ : Loc Cert.OptAdaIdeal.nD Cert.OptAdaIdeal.τ Cert.OptAdaIdeal.sig) → Buf (Elt Ideal) ℓ) : Prop :=
  True

def Pre_OptAdaRefIdeal (m : (ℓ : Loc Cert.OptAdaRefIdeal.nD Cert.OptAdaRefIdeal.τ Cert.OptAdaRefIdeal.sig) → Buf (Elt Ideal) ℓ) : Prop :=
  True

def Pre_OptSmall (m : (ℓ : Loc Cert.OptSmall.nD Cert.OptSmall.τ Cert.OptSmall.sig) → Buf (Elt Bits) ℓ) : Prop :=
  True

def Pre_OptSmallIdeal (m : (ℓ : Loc Cert.OptSmallIdeal.nD Cert.OptSmallIdeal.τ Cert.OptSmallIdeal.sig) → Buf (Elt Ideal) ℓ) : Prop :=
  True

def Pre_OptSmallRefIdeal (m : (ℓ : Loc Cert.OptSmallRefIdeal.nD Cert.OptSmallRefIdeal.τ Cert.OptSmallRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_LnMod [hLnMod : Cert.LnMod.Facts] : Prop :=
  ∀ (m : (ℓ : Loc Cert.LnMod.nD Cert.LnMod.τ Cert.LnMod.sig) → Buf (Elt Bits) ℓ) (g : Dev Cert.LnMod.nD → PrngReg), Pre_LnMod m →
    θ_run (Cert.LnMod.defs (F := Bits)) (onTc (τ := Cert.LnMod.τ) (Cert.LnMod.main (F := Bits))) ⟨m, fun _ => 0, g⟩ (fun r => (∀ c : Dev Cert.LnMod.nD,
      r.2.mem ((c.tc : Thread Cert.LnMod.nD Cert.LnMod.τ).loc Cert.LnMod.main_arg0) = m ((c.tc : Thread Cert.LnMod.nD Cert.LnMod.τ).loc Cert.LnMod.main_arg0)
      ∧ r.2.mem ((c.tc : Thread Cert.LnMod.nD Cert.LnMod.τ).loc Cert.LnMod.main_arg1) = m ((c.tc : Thread Cert.LnMod.nD Cert.LnMod.τ).loc Cert.LnMod.main_arg1)
      ∧ r.2.mem ((c.tc : Thread Cert.LnMod.nD Cert.LnMod.τ).loc Cert.LnMod.main_arg2) = m ((c.tc : Thread Cert.LnMod.nD Cert.LnMod.τ).loc Cert.LnMod.main_arg2)
      ∧ r.2.mem ((c.tc : Thread Cert.LnMod.nD Cert.LnMod.τ).loc Cert.LnMod.main_arg3) = m ((c.tc : Thread Cert.LnMod.nD Cert.LnMod.τ).loc Cert.LnMod.main_arg3)
      ∧ r.2.mem ((c.tc : Thread Cert.LnMod.nD Cert.LnMod.τ).loc Cert.LnMod.main_arg4) = m ((c.tc : Thread Cert.LnMod.nD Cert.LnMod.τ).loc Cert.LnMod.main_arg4)
      ∧ r.2.mem ((c.tc : Thread Cert.LnMod.nD Cert.LnMod.τ).loc Cert.LnMod.main_arg5) = m ((c.tc : Thread Cert.LnMod.nD Cert.LnMod.τ).loc Cert.LnMod.main_arg5))
      ∧ r.2.sem = fun _ => 0)

def quiescent_LnModIdeal [hLnModIdeal : Cert.LnModIdeal.Facts] : Prop :=
  ∀ (m : (ℓ : Loc Cert.LnModIdeal.nD Cert.LnModIdeal.τ Cert.LnModIdeal.sig) → Buf (Elt Ideal) ℓ) (g : Dev Cert.LnModIdeal.nD → PrngReg), Pre_LnModIdeal m →
    θ_run (Cert.LnModIdeal.defs (F := Ideal)) (onTc (τ := Cert.LnModIdeal.τ) (Cert.LnModIdeal.main (F := Ideal))) ⟨m, fun _ => 0, g⟩ (fun r => (∀ c : Dev Cert.LnModIdeal.nD,
      r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
      ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
      ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2)
      ∧ r.2.mem ((c.tc : Thread Cert.LnModIdeal.nD Cert.LnModIdeal.τ).loc Cert.LnModIdeal.main_arg3) = m ((c.tc : Thread Cert.LnModIdeal.nD Cert.LnModIdeal.τ).loc Cert.LnModIdeal.main_arg3)
      ∧ r.2.mem ((c.tc : Thread Cert.LnModIdeal.nD Cert.LnModIdeal.τ).loc Cert.LnModIdeal.main_arg4) = m ((c.tc : Thread Cert.LnModIdeal.nD Cert.LnModIdeal.τ).loc Cert.LnModIdeal.main_arg4)
      ∧ r.2.mem ((c.tc : Thread Cert.LnModIdeal.nD Cert.LnModIdeal.τ).loc Cert.LnModIdeal.main_arg5) = m ((c.tc : Thread Cert.LnModIdeal.nD Cert.LnModIdeal.τ).loc Cert.LnModIdeal.main_arg5))
      ∧ r.2.sem = fun _ => 0)

def quiescent_LnModRefIdeal [hLnModRefIdeal : Cert.LnModRefIdeal.Facts] : Prop :=
  ∀ (m : (ℓ : Loc Cert.LnModRefIdeal.nD Cert.LnModRefIdeal.τ Cert.LnModRefIdeal.sig) → Buf (Elt Ideal) ℓ) (g : Dev Cert.LnModRefIdeal.nD → PrngReg), Pre_LnModRefIdeal m →
    θ_run (Cert.LnModRefIdeal.defs (F := Ideal)) (onTc (τ := Cert.LnModRefIdeal.τ) (Cert.LnModRefIdeal.main (F := Ideal))) ⟨m, fun _ => 0, g⟩ (fun r => (∀ c : Dev Cert.LnModRefIdeal.nD,
      r.2.mem ((c.tc : Thread Cert.LnModRefIdeal.nD Cert.LnModRefIdeal.τ).loc Cert.LnModRefIdeal.main_arg0) = m ((c.tc : Thread Cert.LnModRefIdeal.nD Cert.LnModRefIdeal.τ).loc Cert.LnModRefIdeal.main_arg0)
      ∧ r.2.mem ((c.tc : Thread Cert.LnModRefIdeal.nD Cert.LnModRefIdeal.τ).loc Cert.LnModRefIdeal.main_arg1) = m ((c.tc : Thread Cert.LnModRefIdeal.nD Cert.LnModRefIdeal.τ).loc Cert.LnModRefIdeal.main_arg1)
      ∧ r.2.mem ((c.tc : Thread Cert.LnModRefIdeal.nD Cert.LnModRefIdeal.τ).loc Cert.LnModRefIdeal.main_arg2) = m ((c.tc : Thread Cert.LnModRefIdeal.nD Cert.LnModRefIdeal.τ).loc Cert.LnModRefIdeal.main_arg2)
      ∧ r.2.mem ((c.tc : Thread Cert.LnModRefIdeal.nD Cert.LnModRefIdeal.τ).loc Cert.LnModRefIdeal.main_arg3) = m ((c.tc : Thread Cert.LnModRefIdeal.nD Cert.LnModRefIdeal.τ).loc Cert.LnModRefIdeal.main_arg3)
      ∧ r.2.mem ((c.tc : Thread Cert.LnModRefIdeal.nD Cert.LnModRefIdeal.τ).loc Cert.LnModRefIdeal.main_arg4) = m ((c.tc : Thread Cert.LnModRefIdeal.nD Cert.LnModRefIdeal.τ).loc Cert.LnModRefIdeal.main_arg4)
      ∧ r.2.mem ((c.tc : Thread Cert.LnModRefIdeal.nD Cert.LnModRefIdeal.τ).loc Cert.LnModRefIdeal.main_arg5) = m ((c.tc : Thread Cert.LnModRefIdeal.nD Cert.LnModRefIdeal.τ).loc Cert.LnModRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_DWUp [hDWUp : Cert.DWUp.Facts] : Prop :=
  ∀ (m : (ℓ : Loc Cert.DWUp.nD Cert.DWUp.τ Cert.DWUp.sig) → Buf (Elt Bits) ℓ) (g : Dev Cert.DWUp.nD → PrngReg), Pre_DWUp m →
    θ_run (Cert.DWUp.defs (F := Bits)) (onTc (τ := Cert.DWUp.τ) (Cert.DWUp.main (F := Bits))) ⟨m, fun _ => 0, g⟩ (fun r => (∀ c : Dev Cert.DWUp.nD,
      r.2.mem ((c.tc : Thread Cert.DWUp.nD Cert.DWUp.τ).loc Cert.DWUp.main_arg0) = m ((c.tc : Thread Cert.DWUp.nD Cert.DWUp.τ).loc Cert.DWUp.main_arg0)
      ∧ r.2.mem ((c.tc : Thread Cert.DWUp.nD Cert.DWUp.τ).loc Cert.DWUp.main_arg1) = m ((c.tc : Thread Cert.DWUp.nD Cert.DWUp.τ).loc Cert.DWUp.main_arg1))
      ∧ r.2.sem = fun _ => 0)

def quiescent_DWUpIdeal [hDWUpIdeal : Cert.DWUpIdeal.Facts] : Prop :=
  ∀ (m : (ℓ : Loc Cert.DWUpIdeal.nD Cert.DWUpIdeal.τ Cert.DWUpIdeal.sig) → Buf (Elt Ideal) ℓ) (g : Dev Cert.DWUpIdeal.nD → PrngReg), Pre_DWUpIdeal m →
    θ_run (Cert.DWUpIdeal.defs (F := Ideal)) (onTc (τ := Cert.DWUpIdeal.τ) (Cert.DWUpIdeal.main (F := Ideal))) ⟨m, fun _ => 0, g⟩ (fun r => (∀ c : Dev Cert.DWUpIdeal.nD,
      r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
      ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ r.2.sem = fun _ => 0)

def quiescent_DWUpRefIdeal [hDWUpRefIdeal : Cert.DWUpRefIdeal.Facts] : Prop :=
  ∀ (m : (ℓ : Loc Cert.DWUpRefIdeal.nD Cert.DWUpRefIdeal.τ Cert.DWUpRefIdeal.sig) → Buf (Elt Ideal) ℓ) (g : Dev Cert.DWUpRefIdeal.nD → PrngReg), Pre_DWUpRefIdeal m →
    θ_run (Cert.DWUpRefIdeal.defs (F := Ideal)) (onTc (τ := Cert.DWUpRefIdeal.τ) (Cert.DWUpRefIdeal.main (F := Ideal))) ⟨m, fun _ => 0, g⟩ (fun r => (∀ c : Dev Cert.DWUpRefIdeal.nD,
      r.2.mem ((c.tc : Thread Cert.DWUpRefIdeal.nD Cert.DWUpRefIdeal.τ).loc Cert.DWUpRefIdeal.main_arg0) = m ((c.tc : Thread Cert.DWUpRefIdeal.nD Cert.DWUpRefIdeal.τ).loc Cert.DWUpRefIdeal.main_arg0)
      ∧ r.2.mem ((c.tc : Thread Cert.DWUpRefIdeal.nD Cert.DWUpRefIdeal.τ).loc Cert.DWUpRefIdeal.main_arg1) = m ((c.tc : Thread Cert.DWUpRefIdeal.nD Cert.DWUpRefIdeal.τ).loc Cert.DWUpRefIdeal.main_arg1))
      ∧ r.2.sem = fun _ => 0)

def quiescent_DO [hDO : Cert.DO.Facts] : Prop :=
  ∀ (m : (ℓ : Loc Cert.DO.nD Cert.DO.τ Cert.DO.sig) → Buf (Elt Bits) ℓ) (g : Dev Cert.DO.nD → PrngReg), Pre_DO m →
    θ_run (Cert.DO.defs (F := Bits)) (onTc (τ := Cert.DO.τ) (Cert.DO.main (F := Bits))) ⟨m, fun _ => 0, g⟩ (fun r => (∀ c : Dev Cert.DO.nD,
      r.2.mem ((c.tc : Thread Cert.DO.nD Cert.DO.τ).loc Cert.DO.main_arg0) = m ((c.tc : Thread Cert.DO.nD Cert.DO.τ).loc Cert.DO.main_arg0)
      ∧ r.2.mem ((c.tc : Thread Cert.DO.nD Cert.DO.τ).loc Cert.DO.main_arg1) = m ((c.tc : Thread Cert.DO.nD Cert.DO.τ).loc Cert.DO.main_arg1))
      ∧ r.2.sem = fun _ => 0)

def quiescent_DOIdeal [hDOIdeal : Cert.DOIdeal.Facts] : Prop :=
  ∀ (m : (ℓ : Loc Cert.DOIdeal.nD Cert.DOIdeal.τ Cert.DOIdeal.sig) → Buf (Elt Ideal) ℓ) (g : Dev Cert.DOIdeal.nD → PrngReg), Pre_DOIdeal m →
    θ_run (Cert.DOIdeal.defs (F := Ideal)) (onTc (τ := Cert.DOIdeal.τ) (Cert.DOIdeal.main (F := Ideal))) ⟨m, fun _ => 0, g⟩ (fun r => (∀ c : Dev Cert.DOIdeal.nD,
      r.2.mem ((c.tc : Thread Cert.DOIdeal.nD Cert.DOIdeal.τ).loc Cert.DOIdeal.main_arg0) = m ((c.tc : Thread Cert.DOIdeal.nD Cert.DOIdeal.τ).loc Cert.DOIdeal.main_arg0)
      ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ r.2.sem = fun _ => 0)

def quiescent_DORefIdeal [hDORefIdeal : Cert.DORefIdeal.Facts] : Prop :=
  ∀ (m : (ℓ : Loc Cert.DORefIdeal.nD Cert.DORefIdeal.τ Cert.DORefIdeal.sig) → Buf (Elt Ideal) ℓ) (g : Dev Cert.DORefIdeal.nD → PrngReg), Pre_DORefIdeal m →
    θ_run (Cert.DORefIdeal.defs (F := Ideal)) (onTc (τ := Cert.DORefIdeal.τ) (Cert.DORefIdeal.main (F := Ideal))) ⟨m, fun _ => 0, g⟩ (fun r => (∀ c : Dev Cert.DORefIdeal.nD,
      r.2.mem ((c.tc : Thread Cert.DORefIdeal.nD Cert.DORefIdeal.τ).loc Cert.DORefIdeal.main_arg0) = m ((c.tc : Thread Cert.DORefIdeal.nD Cert.DORefIdeal.τ).loc Cert.DORefIdeal.main_arg0)
      ∧ r.2.mem ((c.tc : Thread Cert.DORefIdeal.nD Cert.DORefIdeal.τ).loc Cert.DORefIdeal.main_arg1) = m ((c.tc : Thread Cert.DORefIdeal.nD Cert.DORefIdeal.τ).loc Cert.DORefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_MIn [hMIn : Cert.MIn.Facts] : Prop :=
  ∀ (m : (ℓ : Loc Cert.MIn.nD Cert.MIn.τ Cert.MIn.sig) → Buf (Elt Bits) ℓ) (g : Dev Cert.MIn.nD → PrngReg), Pre_MIn m →
    θ_run (Cert.MIn.defs (F := Bits)) (onTc (τ := Cert.MIn.τ) (Cert.MIn.main (F := Bits))) ⟨m, fun _ => 0, g⟩ (fun r => (∀ c : Dev Cert.MIn.nD,
      r.2.mem ((c.tc : Thread Cert.MIn.nD Cert.MIn.τ).loc Cert.MIn.main_arg0) = m ((c.tc : Thread Cert.MIn.nD Cert.MIn.τ).loc Cert.MIn.main_arg0)
      ∧ r.2.mem ((c.tc : Thread Cert.MIn.nD Cert.MIn.τ).loc Cert.MIn.main_arg1) = m ((c.tc : Thread Cert.MIn.nD Cert.MIn.τ).loc Cert.MIn.main_arg1))
      ∧ r.2.sem = fun _ => 0)

def quiescent_MInIdeal [hMInIdeal : Cert.MInIdeal.Facts] : Prop :=
  ∀ (m : (ℓ : Loc Cert.MInIdeal.nD Cert.MInIdeal.τ Cert.MInIdeal.sig) → Buf (Elt Ideal) ℓ) (g : Dev Cert.MInIdeal.nD → PrngReg), Pre_MInIdeal m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1))
      ∧ r.2.sem = fun _ => 0)

def quiescent_MInRefIdeal [hMInRefIdeal : Cert.MInRefIdeal.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1))
      ∧ r.2.sem = fun _ => 0)

def quiescent_MOut [hMOut : Cert.MOut.Facts] : Prop :=
  ∀ (m : (ℓ : Loc Cert.MOut.nD Cert.MOut.τ Cert.MOut.sig) → Buf (Elt Bits) ℓ) (g : Dev Cert.MOut.nD → PrngReg), Pre_MOut m →
    θ_run (Cert.MOut.defs (F := Bits)) (onTc (τ := Cert.MOut.τ) (Cert.MOut.main (F := Bits))) ⟨m, fun _ => 0, g⟩ (fun r => (∀ c : Dev Cert.MOut.nD,
      r.2.mem ((c.tc : Thread Cert.MOut.nD Cert.MOut.τ).loc Cert.MOut.main_arg0) = m ((c.tc : Thread Cert.MOut.nD Cert.MOut.τ).loc Cert.MOut.main_arg0)
      ∧ r.2.mem ((c.tc : Thread Cert.MOut.nD Cert.MOut.τ).loc Cert.MOut.main_arg1) = m ((c.tc : Thread Cert.MOut.nD Cert.MOut.τ).loc Cert.MOut.main_arg1)
      ∧ r.2.mem ((c.tc : Thread Cert.MOut.nD Cert.MOut.τ).loc Cert.MOut.main_arg2) = m ((c.tc : Thread Cert.MOut.nD Cert.MOut.τ).loc Cert.MOut.main_arg2)
      ∧ r.2.mem ((c.tc : Thread Cert.MOut.nD Cert.MOut.τ).loc Cert.MOut.main_arg3) = m ((c.tc : Thread Cert.MOut.nD Cert.MOut.τ).loc Cert.MOut.main_arg3))
      ∧ r.2.sem = fun _ => 0)

def quiescent_MOutIdeal [hMOutIdeal : Cert.MOutIdeal.Facts] : Prop :=
  ∀ (m : (ℓ : Loc Cert.MOutIdeal.nD Cert.MOutIdeal.τ Cert.MOutIdeal.sig) → Buf (Elt Ideal) ℓ) (g : Dev Cert.MOutIdeal.nD → PrngReg), Pre_MOutIdeal m →
    θ_run (Cert.MOutIdeal.defs (F := Ideal)) (onTc (τ := Cert.MOutIdeal.τ) (Cert.MOutIdeal.main (F := Ideal))) ⟨m, fun _ => 0, g⟩ (fun r => (∀ c : Dev Cert.MOutIdeal.nD,
      r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
      ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
      ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
      ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3))
      ∧ r.2.sem = fun _ => 0)

def quiescent_MOutRefIdeal [hMOutRefIdeal : Cert.MOutRefIdeal.Facts] : Prop :=
  ∀ (m : (ℓ : Loc Cert.MOutRefIdeal.nD Cert.MOutRefIdeal.τ Cert.MOutRefIdeal.sig) → Buf (Elt Ideal) ℓ) (g : Dev Cert.MOutRefIdeal.nD → PrngReg), Pre_MOutRefIdeal m →
    θ_run (Cert.MOutRefIdeal.defs (F := Ideal)) (onTc (τ := Cert.MOutRefIdeal.τ) (Cert.MOutRefIdeal.main (F := Ideal))) ⟨m, fun _ => 0, g⟩ (fun r => (∀ c : Dev Cert.MOutRefIdeal.nD,
      r.2.mem ((c.tc : Thread Cert.MOutRefIdeal.nD Cert.MOutRefIdeal.τ).loc Cert.MOutRefIdeal.main_arg0) = m ((c.tc : Thread Cert.MOutRefIdeal.nD Cert.MOutRefIdeal.τ).loc Cert.MOutRefIdeal.main_arg0)
      ∧ r.2.mem ((c.tc : Thread Cert.MOutRefIdeal.nD Cert.MOutRefIdeal.τ).loc Cert.MOutRefIdeal.main_arg1) = m ((c.tc : Thread Cert.MOutRefIdeal.nD Cert.MOutRefIdeal.τ).loc Cert.MOutRefIdeal.main_arg1)
      ∧ r.2.mem ((c.tc : Thread Cert.MOutRefIdeal.nD Cert.MOutRefIdeal.τ).loc Cert.MOutRefIdeal.main_arg2) = m ((c.tc : Thread Cert.MOutRefIdeal.nD Cert.MOutRefIdeal.τ).loc Cert.MOutRefIdeal.main_arg2)
      ∧ r.2.mem ((c.tc : Thread Cert.MOutRefIdeal.nD Cert.MOutRefIdeal.τ).loc Cert.MOutRefIdeal.main_arg3) = m ((c.tc : Thread Cert.MOutRefIdeal.nD Cert.MOutRefIdeal.τ).loc Cert.MOutRefIdeal.main_arg3))
      ∧ r.2.sem = fun _ => 0)

def quiescent_MUp [hMUp : Cert.MUp.Facts] : Prop :=
  ∀ (m : (ℓ : Loc Cert.MUp.nD Cert.MUp.τ Cert.MUp.sig) → Buf (Elt Bits) ℓ) (g : Dev Cert.MUp.nD → PrngReg), Pre_MUp m →
    θ_run (Cert.MUp.defs (F := Bits)) (onTc (τ := Cert.MUp.τ) (Cert.MUp.main (F := Bits))) ⟨m, fun _ => 0, g⟩ (fun r => (∀ c : Dev Cert.MUp.nD,
      r.2.mem ((c.tc : Thread Cert.MUp.nD Cert.MUp.τ).loc Cert.MUp.main_arg0) = m ((c.tc : Thread Cert.MUp.nD Cert.MUp.τ).loc Cert.MUp.main_arg0)
      ∧ r.2.mem ((c.tc : Thread Cert.MUp.nD Cert.MUp.τ).loc Cert.MUp.main_arg1) = m ((c.tc : Thread Cert.MUp.nD Cert.MUp.τ).loc Cert.MUp.main_arg1))
      ∧ r.2.sem = fun _ => 0)

def quiescent_MUpIdeal [hMUpIdeal : Cert.MUpIdeal.Facts] : Prop :=
  ∀ (m : (ℓ : Loc Cert.MUpIdeal.nD Cert.MUpIdeal.τ Cert.MUpIdeal.sig) → Buf (Elt Ideal) ℓ) (g : Dev Cert.MUpIdeal.nD → PrngReg), Pre_MUpIdeal m →
    θ_run (Cert.MUpIdeal.defs (F := Ideal)) (onTc (τ := Cert.MUpIdeal.τ) (Cert.MUpIdeal.main (F := Ideal))) ⟨m, fun _ => 0, g⟩ (fun r => (∀ c : Dev Cert.MUpIdeal.nD,
      r.2.mem ((c.tc : Thread Cert.MUpIdeal.nD Cert.MUpIdeal.τ).loc Cert.MUpIdeal.main_arg0) = m ((c.tc : Thread Cert.MUpIdeal.nD Cert.MUpIdeal.τ).loc Cert.MUpIdeal.main_arg0)
      ∧ r.2.mem ((c.tc : Thread Cert.MUpIdeal.nD Cert.MUpIdeal.τ).loc Cert.MUpIdeal.main_arg1) = m ((c.tc : Thread Cert.MUpIdeal.nD Cert.MUpIdeal.τ).loc Cert.MUpIdeal.main_arg1))
      ∧ r.2.sem = fun _ => 0)

def quiescent_MUpRefIdeal [hMUpRefIdeal : Cert.MUpRefIdeal.Facts] : Prop :=
  ∀ (m : (ℓ : Loc Cert.MUpRefIdeal.nD Cert.MUpRefIdeal.τ Cert.MUpRefIdeal.sig) → Buf (Elt Ideal) ℓ) (g : Dev Cert.MUpRefIdeal.nD → PrngReg), Pre_MUpRefIdeal m →
    θ_run (Cert.MUpRefIdeal.defs (F := Ideal)) (onTc (τ := Cert.MUpRefIdeal.τ) (Cert.MUpRefIdeal.main (F := Ideal))) ⟨m, fun _ => 0, g⟩ (fun r => (∀ c : Dev Cert.MUpRefIdeal.nD,
      r.2.mem ((c.tc : Thread Cert.MUpRefIdeal.nD Cert.MUpRefIdeal.τ).loc Cert.MUpRefIdeal.main_arg0) = m ((c.tc : Thread Cert.MUpRefIdeal.nD Cert.MUpRefIdeal.τ).loc Cert.MUpRefIdeal.main_arg0)
      ∧ r.2.mem ((c.tc : Thread Cert.MUpRefIdeal.nD Cert.MUpRefIdeal.τ).loc Cert.MUpRefIdeal.main_arg1) = m ((c.tc : Thread Cert.MUpRefIdeal.nD Cert.MUpRefIdeal.τ).loc Cert.MUpRefIdeal.main_arg1))
      ∧ r.2.sem = fun _ => 0)

def quiescent_MDown [hMDown : Cert.MDown.Facts] : Prop :=
  ∀ (m : (ℓ : Loc Cert.MDown.nD Cert.MDown.τ Cert.MDown.sig) → Buf (Elt Bits) ℓ) (g : Dev Cert.MDown.nD → PrngReg), Pre_MDown m →
    θ_run (Cert.MDown.defs (F := Bits)) (onTc (τ := Cert.MDown.τ) (Cert.MDown.main (F := Bits))) ⟨m, fun _ => 0, g⟩ (fun r => (∀ c : Dev Cert.MDown.nD,
      r.2.mem ((c.tc : Thread Cert.MDown.nD Cert.MDown.τ).loc Cert.MDown.main_arg0) = m ((c.tc : Thread Cert.MDown.nD Cert.MDown.τ).loc Cert.MDown.main_arg0)
      ∧ r.2.mem ((c.tc : Thread Cert.MDown.nD Cert.MDown.τ).loc Cert.MDown.main_arg1) = m ((c.tc : Thread Cert.MDown.nD Cert.MDown.τ).loc Cert.MDown.main_arg1)
      ∧ r.2.mem ((c.tc : Thread Cert.MDown.nD Cert.MDown.τ).loc Cert.MDown.main_arg2) = m ((c.tc : Thread Cert.MDown.nD Cert.MDown.τ).loc Cert.MDown.main_arg2)
      ∧ r.2.mem ((c.tc : Thread Cert.MDown.nD Cert.MDown.τ).loc Cert.MDown.main_arg3) = m ((c.tc : Thread Cert.MDown.nD Cert.MDown.τ).loc Cert.MDown.main_arg3))
      ∧ r.2.sem = fun _ => 0)

def quiescent_MDownIdeal [hMDownIdeal : Cert.MDownIdeal.Facts] : Prop :=
  ∀ (m : (ℓ : Loc Cert.MDownIdeal.nD Cert.MDownIdeal.τ Cert.MDownIdeal.sig) → Buf (Elt Ideal) ℓ) (g : Dev Cert.MDownIdeal.nD → PrngReg), Pre_MDownIdeal m →
    θ_run (Cert.MDownIdeal.defs (F := Ideal)) (onTc (τ := Cert.MDownIdeal.τ) (Cert.MDownIdeal.main (F := Ideal))) ⟨m, fun _ => 0, g⟩ (fun r => (∀ c : Dev Cert.MDownIdeal.nD,
      r.2.mem ((c.tc : Thread Cert.MDownIdeal.nD Cert.MDownIdeal.τ).loc Cert.MDownIdeal.main_arg0) = m ((c.tc : Thread Cert.MDownIdeal.nD Cert.MDownIdeal.τ).loc Cert.MDownIdeal.main_arg0)
      ∧ r.2.mem ((c.tc : Thread Cert.MDownIdeal.nD Cert.MDownIdeal.τ).loc Cert.MDownIdeal.main_arg1) = m ((c.tc : Thread Cert.MDownIdeal.nD Cert.MDownIdeal.τ).loc Cert.MDownIdeal.main_arg1)
      ∧ r.2.mem ((c.tc : Thread Cert.MDownIdeal.nD Cert.MDownIdeal.τ).loc Cert.MDownIdeal.main_arg2) = m ((c.tc : Thread Cert.MDownIdeal.nD Cert.MDownIdeal.τ).loc Cert.MDownIdeal.main_arg2)
      ∧ r.2.mem ((c.tc : Thread Cert.MDownIdeal.nD Cert.MDownIdeal.τ).loc Cert.MDownIdeal.main_arg3) = m ((c.tc : Thread Cert.MDownIdeal.nD Cert.MDownIdeal.τ).loc Cert.MDownIdeal.main_arg3))
      ∧ r.2.sem = fun _ => 0)

def quiescent_MDownRefIdeal [hMDownRefIdeal : Cert.MDownRefIdeal.Facts] : Prop :=
  ∀ (m : (ℓ : Loc Cert.MDownRefIdeal.nD Cert.MDownRefIdeal.τ Cert.MDownRefIdeal.sig) → Buf (Elt Ideal) ℓ) (g : Dev Cert.MDownRefIdeal.nD → PrngReg), Pre_MDownRefIdeal m →
    θ_run (Cert.MDownRefIdeal.defs (F := Ideal)) (onTc (τ := Cert.MDownRefIdeal.τ) (Cert.MDownRefIdeal.main (F := Ideal))) ⟨m, fun _ => 0, g⟩ (fun r => (∀ c : Dev Cert.MDownRefIdeal.nD,
      r.2.mem ((c.tc : Thread Cert.MDownRefIdeal.nD Cert.MDownRefIdeal.τ).loc Cert.MDownRefIdeal.main_arg0) = m ((c.tc : Thread Cert.MDownRefIdeal.nD Cert.MDownRefIdeal.τ).loc Cert.MDownRefIdeal.main_arg0)
      ∧ r.2.mem ((c.tc : Thread Cert.MDownRefIdeal.nD Cert.MDownRefIdeal.τ).loc Cert.MDownRefIdeal.main_arg1) = m ((c.tc : Thread Cert.MDownRefIdeal.nD Cert.MDownRefIdeal.τ).loc Cert.MDownRefIdeal.main_arg1)
      ∧ r.2.mem ((c.tc : Thread Cert.MDownRefIdeal.nD Cert.MDownRefIdeal.τ).loc Cert.MDownRefIdeal.main_arg2) = m ((c.tc : Thread Cert.MDownRefIdeal.nD Cert.MDownRefIdeal.τ).loc Cert.MDownRefIdeal.main_arg2)
      ∧ r.2.mem ((c.tc : Thread Cert.MDownRefIdeal.nD Cert.MDownRefIdeal.τ).loc Cert.MDownRefIdeal.main_arg3) = m ((c.tc : Thread Cert.MDownRefIdeal.nD Cert.MDownRefIdeal.τ).loc Cert.MDownRefIdeal.main_arg3))
      ∧ r.2.sem = fun _ => 0)

def quiescent_OptIn [hOptIn : Cert.OptIn.Facts] : Prop :=
  ∀ (m : (ℓ : Loc Cert.OptIn.nD Cert.OptIn.τ Cert.OptIn.sig) → Buf (Elt Bits) ℓ) (g : Dev Cert.OptIn.nD → PrngReg), Pre_OptIn m →
    θ_run (Cert.OptIn.defs (F := Bits)) (onTc (τ := Cert.OptIn.τ) (Cert.OptIn.main (F := Bits))) ⟨m, fun _ => 0, g⟩ (fun r => (∀ c : Dev Cert.OptIn.nD,
      r.2.mem ((c.tc : Thread Cert.OptIn.nD Cert.OptIn.τ).loc Cert.OptIn.main_arg0) = m ((c.tc : Thread Cert.OptIn.nD Cert.OptIn.τ).loc Cert.OptIn.main_arg0)
      ∧ r.2.mem ((c.tc : Thread Cert.OptIn.nD Cert.OptIn.τ).loc Cert.OptIn.main_arg1) = m ((c.tc : Thread Cert.OptIn.nD Cert.OptIn.τ).loc Cert.OptIn.main_arg1)
      ∧ r.2.mem ((c.tc : Thread Cert.OptIn.nD Cert.OptIn.τ).loc Cert.OptIn.main_arg2) = m ((c.tc : Thread Cert.OptIn.nD Cert.OptIn.τ).loc Cert.OptIn.main_arg2)
      ∧ r.2.mem ((c.tc : Thread Cert.OptIn.nD Cert.OptIn.τ).loc Cert.OptIn.main_arg3) = m ((c.tc : Thread Cert.OptIn.nD Cert.OptIn.τ).loc Cert.OptIn.main_arg3))
      ∧ r.2.sem = fun _ => 0)

def quiescent_OptInIdeal [hOptInIdeal : Cert.OptInIdeal.Facts] : Prop :=
  ∀ (m : (ℓ : Loc Cert.OptInIdeal.nD Cert.OptInIdeal.τ Cert.OptInIdeal.sig) → Buf (Elt Ideal) ℓ) (g : Dev Cert.OptInIdeal.nD → PrngReg), Pre_OptInIdeal m →
    θ_run (Cert.OptInIdeal.defs (F := Ideal)) (onTc (τ := Cert.OptInIdeal.τ) (Cert.OptInIdeal.main (F := Ideal))) ⟨m, fun _ => 0, g⟩ (fun r => (∀ c : Dev Cert.OptInIdeal.nD,
      r.2.mem ((c.tc : Thread Cert.OptInIdeal.nD Cert.OptInIdeal.τ).loc Cert.OptInIdeal.main_arg0) = m ((c.tc : Thread Cert.OptInIdeal.nD Cert.OptInIdeal.τ).loc Cert.OptInIdeal.main_arg0)
      ∧ r.2.mem ((c.tc : Thread Cert.OptInIdeal.nD Cert.OptInIdeal.τ).loc Cert.OptInIdeal.main_arg1) = m ((c.tc : Thread Cert.OptInIdeal.nD Cert.OptInIdeal.τ).loc Cert.OptInIdeal.main_arg1)
      ∧ r.2.mem ((c.tc : Thread Cert.OptInIdeal.nD Cert.OptInIdeal.τ).loc Cert.OptInIdeal.main_arg2) = m ((c.tc : Thread Cert.OptInIdeal.nD Cert.OptInIdeal.τ).loc Cert.OptInIdeal.main_arg2)
      ∧ r.2.mem ((c.tc : Thread Cert.OptInIdeal.nD Cert.OptInIdeal.τ).loc Cert.OptInIdeal.main_arg3) = m ((c.tc : Thread Cert.OptInIdeal.nD Cert.OptInIdeal.τ).loc Cert.OptInIdeal.main_arg3))
      ∧ r.2.sem = fun _ => 0)

def quiescent_OptInRefIdeal [hOptInRefIdeal : Cert.OptInRefIdeal.Facts] : Prop :=
  ∀ (m : (ℓ : Loc Cert.OptInRefIdeal.nD Cert.OptInRefIdeal.τ Cert.OptInRefIdeal.sig) → Buf (Elt Ideal) ℓ) (g : Dev Cert.OptInRefIdeal.nD → PrngReg), Pre_OptInRefIdeal m →
    θ_run (Cert.OptInRefIdeal.defs (F := Ideal)) (onTc (τ := Cert.OptInRefIdeal.τ) (Cert.OptInRefIdeal.main (F := Ideal))) ⟨m, fun _ => 0, g⟩ (fun r => (∀ c : Dev Cert.OptInRefIdeal.nD,
      r.2.mem ((c.tc : Thread Cert.OptInRefIdeal.nD Cert.OptInRefIdeal.τ).loc Cert.OptInRefIdeal.main_arg0) = m ((c.tc : Thread Cert.OptInRefIdeal.nD Cert.OptInRefIdeal.τ).loc Cert.OptInRefIdeal.main_arg0)
      ∧ r.2.mem ((c.tc : Thread Cert.OptInRefIdeal.nD Cert.OptInRefIdeal.τ).loc Cert.OptInRefIdeal.main_arg1) = m ((c.tc : Thread Cert.OptInRefIdeal.nD Cert.OptInRefIdeal.τ).loc Cert.OptInRefIdeal.main_arg1)
      ∧ r.2.mem ((c.tc : Thread Cert.OptInRefIdeal.nD Cert.OptInRefIdeal.τ).loc Cert.OptInRefIdeal.main_arg2) = m ((c.tc : Thread Cert.OptInRefIdeal.nD Cert.OptInRefIdeal.τ).loc Cert.OptInRefIdeal.main_arg2)
      ∧ r.2.mem ((c.tc : Thread Cert.OptInRefIdeal.nD Cert.OptInRefIdeal.τ).loc Cert.OptInRefIdeal.main_arg3) = m ((c.tc : Thread Cert.OptInRefIdeal.nD Cert.OptInRefIdeal.τ).loc Cert.OptInRefIdeal.main_arg3))
      ∧ r.2.sem = fun _ => 0)

def quiescent_OptOut [hOptOut : Cert.OptOut.Facts] : Prop :=
  ∀ (m : (ℓ : Loc Cert.OptOut.nD Cert.OptOut.τ Cert.OptOut.sig) → Buf (Elt Bits) ℓ) (g : Dev Cert.OptOut.nD → PrngReg), Pre_OptOut m →
    θ_run (Cert.OptOut.defs (F := Bits)) (onTc (τ := Cert.OptOut.τ) (Cert.OptOut.main (F := Bits))) ⟨m, fun _ => 0, g⟩ (fun r => (∀ c : Dev Cert.OptOut.nD,
      r.2.mem ((c.tc : Thread Cert.OptOut.nD Cert.OptOut.τ).loc Cert.OptOut.main_arg0) = m ((c.tc : Thread Cert.OptOut.nD Cert.OptOut.τ).loc Cert.OptOut.main_arg0)
      ∧ r.2.mem ((c.tc : Thread Cert.OptOut.nD Cert.OptOut.τ).loc Cert.OptOut.main_arg1) = m ((c.tc : Thread Cert.OptOut.nD Cert.OptOut.τ).loc Cert.OptOut.main_arg1)
      ∧ r.2.mem ((c.tc : Thread Cert.OptOut.nD Cert.OptOut.τ).loc Cert.OptOut.main_arg2) = m ((c.tc : Thread Cert.OptOut.nD Cert.OptOut.τ).loc Cert.OptOut.main_arg2)
      ∧ r.2.mem ((c.tc : Thread Cert.OptOut.nD Cert.OptOut.τ).loc Cert.OptOut.main_arg3) = m ((c.tc : Thread Cert.OptOut.nD Cert.OptOut.τ).loc Cert.OptOut.main_arg3))
      ∧ r.2.sem = fun _ => 0)

def quiescent_OptOutIdeal [hOptOutIdeal : Cert.OptOutIdeal.Facts] : Prop :=
  ∀ (m : (ℓ : Loc Cert.OptOutIdeal.nD Cert.OptOutIdeal.τ Cert.OptOutIdeal.sig) → Buf (Elt Ideal) ℓ) (g : Dev Cert.OptOutIdeal.nD → PrngReg), Pre_OptOutIdeal m →
    θ_run (Cert.OptOutIdeal.defs (F := Ideal)) (onTc (τ := Cert.OptOutIdeal.τ) (Cert.OptOutIdeal.main (F := Ideal))) ⟨m, fun _ => 0, g⟩ (fun r => (∀ c : Dev Cert.OptOutIdeal.nD,
      r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
      ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
      ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
      ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3))
      ∧ r.2.sem = fun _ => 0)

def quiescent_OptOutRefIdeal [hOptOutRefIdeal : Cert.OptOutRefIdeal.Facts] : Prop :=
  ∀ (m : (ℓ : Loc Cert.OptOutRefIdeal.nD Cert.OptOutRefIdeal.τ Cert.OptOutRefIdeal.sig) → Buf (Elt Ideal) ℓ) (g : Dev Cert.OptOutRefIdeal.nD → PrngReg), Pre_OptOutRefIdeal m →
    θ_run (Cert.OptOutRefIdeal.defs (F := Ideal)) (onTc (τ := Cert.OptOutRefIdeal.τ) (Cert.OptOutRefIdeal.main (F := Ideal))) ⟨m, fun _ => 0, g⟩ (fun r => (∀ c : Dev Cert.OptOutRefIdeal.nD,
      r.2.mem ((c.tc : Thread Cert.OptOutRefIdeal.nD Cert.OptOutRefIdeal.τ).loc Cert.OptOutRefIdeal.main_arg0) = m ((c.tc : Thread Cert.OptOutRefIdeal.nD Cert.OptOutRefIdeal.τ).loc Cert.OptOutRefIdeal.main_arg0)
      ∧ r.2.mem ((c.tc : Thread Cert.OptOutRefIdeal.nD Cert.OptOutRefIdeal.τ).loc Cert.OptOutRefIdeal.main_arg1) = m ((c.tc : Thread Cert.OptOutRefIdeal.nD Cert.OptOutRefIdeal.τ).loc Cert.OptOutRefIdeal.main_arg1)
      ∧ r.2.mem ((c.tc : Thread Cert.OptOutRefIdeal.nD Cert.OptOutRefIdeal.τ).loc Cert.OptOutRefIdeal.main_arg2) = m ((c.tc : Thread Cert.OptOutRefIdeal.nD Cert.OptOutRefIdeal.τ).loc Cert.OptOutRefIdeal.main_arg2)
      ∧ r.2.mem ((c.tc : Thread Cert.OptOutRefIdeal.nD Cert.OptOutRefIdeal.τ).loc Cert.OptOutRefIdeal.main_arg3) = m ((c.tc : Thread Cert.OptOutRefIdeal.nD Cert.OptOutRefIdeal.τ).loc Cert.OptOutRefIdeal.main_arg3))
      ∧ r.2.sem = fun _ => 0)

def quiescent_OptUp [hOptUp : Cert.OptUp.Facts] : Prop :=
  ∀ (m : (ℓ : Loc Cert.OptUp.nD Cert.OptUp.τ Cert.OptUp.sig) → Buf (Elt Bits) ℓ) (g : Dev Cert.OptUp.nD → PrngReg), Pre_OptUp m →
    θ_run (Cert.OptUp.defs (F := Bits)) (onTc (τ := Cert.OptUp.τ) (Cert.OptUp.main (F := Bits))) ⟨m, fun _ => 0, g⟩ (fun r => (∀ c : Dev Cert.OptUp.nD,
      r.2.mem ((c.tc : Thread Cert.OptUp.nD Cert.OptUp.τ).loc Cert.OptUp.main_arg0) = m ((c.tc : Thread Cert.OptUp.nD Cert.OptUp.τ).loc Cert.OptUp.main_arg0)
      ∧ r.2.mem ((c.tc : Thread Cert.OptUp.nD Cert.OptUp.τ).loc Cert.OptUp.main_arg1) = m ((c.tc : Thread Cert.OptUp.nD Cert.OptUp.τ).loc Cert.OptUp.main_arg1)
      ∧ r.2.mem ((c.tc : Thread Cert.OptUp.nD Cert.OptUp.τ).loc Cert.OptUp.main_arg2) = m ((c.tc : Thread Cert.OptUp.nD Cert.OptUp.τ).loc Cert.OptUp.main_arg2)
      ∧ r.2.mem ((c.tc : Thread Cert.OptUp.nD Cert.OptUp.τ).loc Cert.OptUp.main_arg3) = m ((c.tc : Thread Cert.OptUp.nD Cert.OptUp.τ).loc Cert.OptUp.main_arg3))
      ∧ r.2.sem = fun _ => 0)

def quiescent_OptUpIdeal [hOptUpIdeal : Cert.OptUpIdeal.Facts] : Prop :=
  ∀ (m : (ℓ : Loc Cert.OptUpIdeal.nD Cert.OptUpIdeal.τ Cert.OptUpIdeal.sig) → Buf (Elt Ideal) ℓ) (g : Dev Cert.OptUpIdeal.nD → PrngReg), Pre_OptUpIdeal m →
    θ_run (Cert.OptUpIdeal.defs (F := Ideal)) (onTc (τ := Cert.OptUpIdeal.τ) (Cert.OptUpIdeal.main (F := Ideal))) ⟨m, fun _ => 0, g⟩ (fun r => (∀ c : Dev Cert.OptUpIdeal.nD,
      r.2.mem ((c.tc : Thread Cert.OptUpIdeal.nD Cert.OptUpIdeal.τ).loc Cert.OptUpIdeal.main_arg0) = m ((c.tc : Thread Cert.OptUpIdeal.nD Cert.OptUpIdeal.τ).loc Cert.OptUpIdeal.main_arg0)
      ∧ r.2.mem ((c.tc : Thread Cert.OptUpIdeal.nD Cert.OptUpIdeal.τ).loc Cert.OptUpIdeal.main_arg1) = m ((c.tc : Thread Cert.OptUpIdeal.nD Cert.OptUpIdeal.τ).loc Cert.OptUpIdeal.main_arg1)
      ∧ r.2.mem ((c.tc : Thread Cert.OptUpIdeal.nD Cert.OptUpIdeal.τ).loc Cert.OptUpIdeal.main_arg2) = m ((c.tc : Thread Cert.OptUpIdeal.nD Cert.OptUpIdeal.τ).loc Cert.OptUpIdeal.main_arg2)
      ∧ r.2.mem ((c.tc : Thread Cert.OptUpIdeal.nD Cert.OptUpIdeal.τ).loc Cert.OptUpIdeal.main_arg3) = m ((c.tc : Thread Cert.OptUpIdeal.nD Cert.OptUpIdeal.τ).loc Cert.OptUpIdeal.main_arg3))
      ∧ r.2.sem = fun _ => 0)

def quiescent_OptUpRefIdeal [hOptUpRefIdeal : Cert.OptUpRefIdeal.Facts] : Prop :=
  ∀ (m : (ℓ : Loc Cert.OptUpRefIdeal.nD Cert.OptUpRefIdeal.τ Cert.OptUpRefIdeal.sig) → Buf (Elt Ideal) ℓ) (g : Dev Cert.OptUpRefIdeal.nD → PrngReg), Pre_OptUpRefIdeal m →
    θ_run (Cert.OptUpRefIdeal.defs (F := Ideal)) (onTc (τ := Cert.OptUpRefIdeal.τ) (Cert.OptUpRefIdeal.main (F := Ideal))) ⟨m, fun _ => 0, g⟩ (fun r => (∀ c : Dev Cert.OptUpRefIdeal.nD,
      r.2.mem ((c.tc : Thread Cert.OptUpRefIdeal.nD Cert.OptUpRefIdeal.τ).loc Cert.OptUpRefIdeal.main_arg0) = m ((c.tc : Thread Cert.OptUpRefIdeal.nD Cert.OptUpRefIdeal.τ).loc Cert.OptUpRefIdeal.main_arg0)
      ∧ r.2.mem ((c.tc : Thread Cert.OptUpRefIdeal.nD Cert.OptUpRefIdeal.τ).loc Cert.OptUpRefIdeal.main_arg1) = m ((c.tc : Thread Cert.OptUpRefIdeal.nD Cert.OptUpRefIdeal.τ).loc Cert.OptUpRefIdeal.main_arg1)
      ∧ r.2.mem ((c.tc : Thread Cert.OptUpRefIdeal.nD Cert.OptUpRefIdeal.τ).loc Cert.OptUpRefIdeal.main_arg2) = m ((c.tc : Thread Cert.OptUpRefIdeal.nD Cert.OptUpRefIdeal.τ).loc Cert.OptUpRefIdeal.main_arg2)
      ∧ r.2.mem ((c.tc : Thread Cert.OptUpRefIdeal.nD Cert.OptUpRefIdeal.τ).loc Cert.OptUpRefIdeal.main_arg3) = m ((c.tc : Thread Cert.OptUpRefIdeal.nD Cert.OptUpRefIdeal.τ).loc Cert.OptUpRefIdeal.main_arg3))
      ∧ r.2.sem = fun _ => 0)

def quiescent_OptConv [hOptConv : Cert.OptConv.Facts] : Prop :=
  ∀ (m : (ℓ : Loc Cert.OptConv.nD Cert.OptConv.τ Cert.OptConv.sig) → Buf (Elt Bits) ℓ) (g : Dev Cert.OptConv.nD → PrngReg), Pre_OptConv m →
    θ_run (Cert.OptConv.defs (F := Bits)) (onTc (τ := Cert.OptConv.τ) (Cert.OptConv.main (F := Bits))) ⟨m, fun _ => 0, g⟩ (fun r => (∀ c : Dev Cert.OptConv.nD,
      r.2.mem ((c.tc : Thread Cert.OptConv.nD Cert.OptConv.τ).loc Cert.OptConv.main_arg0) = m ((c.tc : Thread Cert.OptConv.nD Cert.OptConv.τ).loc Cert.OptConv.main_arg0)
      ∧ r.2.mem ((c.tc : Thread Cert.OptConv.nD Cert.OptConv.τ).loc Cert.OptConv.main_arg1) = m ((c.tc : Thread Cert.OptConv.nD Cert.OptConv.τ).loc Cert.OptConv.main_arg1)
      ∧ r.2.mem ((c.tc : Thread Cert.OptConv.nD Cert.OptConv.τ).loc Cert.OptConv.main_arg2) = m ((c.tc : Thread Cert.OptConv.nD Cert.OptConv.τ).loc Cert.OptConv.main_arg2)
      ∧ r.2.mem ((c.tc : Thread Cert.OptConv.nD Cert.OptConv.τ).loc Cert.OptConv.main_arg3) = m ((c.tc : Thread Cert.OptConv.nD Cert.OptConv.τ).loc Cert.OptConv.main_arg3))
      ∧ r.2.sem = fun _ => 0)

def quiescent_OptConvIdeal [hOptConvIdeal : Cert.OptConvIdeal.Facts] : Prop :=
  ∀ (m : (ℓ : Loc Cert.OptConvIdeal.nD Cert.OptConvIdeal.τ Cert.OptConvIdeal.sig) → Buf (Elt Ideal) ℓ) (g : Dev Cert.OptConvIdeal.nD → PrngReg), Pre_OptConvIdeal m →
    θ_run (Cert.OptConvIdeal.defs (F := Ideal)) (onTc (τ := Cert.OptConvIdeal.τ) (Cert.OptConvIdeal.main (F := Ideal))) ⟨m, fun _ => 0, g⟩ (fun r => (∀ c : Dev Cert.OptConvIdeal.nD,
      r.2.mem ((c.tc : Thread Cert.OptConvIdeal.nD Cert.OptConvIdeal.τ).loc Cert.OptConvIdeal.main_arg0) = m ((c.tc : Thread Cert.OptConvIdeal.nD Cert.OptConvIdeal.τ).loc Cert.OptConvIdeal.main_arg0)
      ∧ r.2.mem ((c.tc : Thread Cert.OptConvIdeal.nD Cert.OptConvIdeal.τ).loc Cert.OptConvIdeal.main_arg1) = m ((c.tc : Thread Cert.OptConvIdeal.nD Cert.OptConvIdeal.τ).loc Cert.OptConvIdeal.main_arg1)
      ∧ r.2.mem ((c.tc : Thread Cert.OptConvIdeal.nD Cert.OptConvIdeal.τ).loc Cert.OptConvIdeal.main_arg2) = m ((c.tc : Thread Cert.OptConvIdeal.nD Cert.OptConvIdeal.τ).loc Cert.OptConvIdeal.main_arg2)
      ∧ r.2.mem ((c.tc : Thread Cert.OptConvIdeal.nD Cert.OptConvIdeal.τ).loc Cert.OptConvIdeal.main_arg3) = m ((c.tc : Thread Cert.OptConvIdeal.nD Cert.OptConvIdeal.τ).loc Cert.OptConvIdeal.main_arg3))
      ∧ r.2.sem = fun _ => 0)

def quiescent_OptConvRefIdeal [hOptConvRefIdeal : Cert.OptConvRefIdeal.Facts] : Prop :=
  ∀ (m : (ℓ : Loc Cert.OptConvRefIdeal.nD Cert.OptConvRefIdeal.τ Cert.OptConvRefIdeal.sig) → Buf (Elt Ideal) ℓ) (g : Dev Cert.OptConvRefIdeal.nD → PrngReg), Pre_OptConvRefIdeal m →
    θ_run (Cert.OptConvRefIdeal.defs (F := Ideal)) (onTc (τ := Cert.OptConvRefIdeal.τ) (Cert.OptConvRefIdeal.main (F := Ideal))) ⟨m, fun _ => 0, g⟩ (fun r => (∀ c : Dev Cert.OptConvRefIdeal.nD,
      r.2.mem ((c.tc : Thread Cert.OptConvRefIdeal.nD Cert.OptConvRefIdeal.τ).loc Cert.OptConvRefIdeal.main_arg0) = m ((c.tc : Thread Cert.OptConvRefIdeal.nD Cert.OptConvRefIdeal.τ).loc Cert.OptConvRefIdeal.main_arg0)
      ∧ r.2.mem ((c.tc : Thread Cert.OptConvRefIdeal.nD Cert.OptConvRefIdeal.τ).loc Cert.OptConvRefIdeal.main_arg1) = m ((c.tc : Thread Cert.OptConvRefIdeal.nD Cert.OptConvRefIdeal.τ).loc Cert.OptConvRefIdeal.main_arg1)
      ∧ r.2.mem ((c.tc : Thread Cert.OptConvRefIdeal.nD Cert.OptConvRefIdeal.τ).loc Cert.OptConvRefIdeal.main_arg2) = m ((c.tc : Thread Cert.OptConvRefIdeal.nD Cert.OptConvRefIdeal.τ).loc Cert.OptConvRefIdeal.main_arg2)
      ∧ r.2.mem ((c.tc : Thread Cert.OptConvRefIdeal.nD Cert.OptConvRefIdeal.τ).loc Cert.OptConvRefIdeal.main_arg3) = m ((c.tc : Thread Cert.OptConvRefIdeal.nD Cert.OptConvRefIdeal.τ).loc Cert.OptConvRefIdeal.main_arg3))
      ∧ r.2.sem = fun _ => 0)

def quiescent_OptDown [hOptDown : Cert.OptDown.Facts] : Prop :=
  ∀ (m : (ℓ : Loc Cert.OptDown.nD Cert.OptDown.τ Cert.OptDown.sig) → Buf (Elt Bits) ℓ) (g : Dev Cert.OptDown.nD → PrngReg), Pre_OptDown m →
    θ_run (Cert.OptDown.defs (F := Bits)) (onTc (τ := Cert.OptDown.τ) (Cert.OptDown.main (F := Bits))) ⟨m, fun _ => 0, g⟩ (fun r => (∀ c : Dev Cert.OptDown.nD,
      r.2.mem ((c.tc : Thread Cert.OptDown.nD Cert.OptDown.τ).loc Cert.OptDown.main_arg0) = m ((c.tc : Thread Cert.OptDown.nD Cert.OptDown.τ).loc Cert.OptDown.main_arg0)
      ∧ r.2.mem ((c.tc : Thread Cert.OptDown.nD Cert.OptDown.τ).loc Cert.OptDown.main_arg1) = m ((c.tc : Thread Cert.OptDown.nD Cert.OptDown.τ).loc Cert.OptDown.main_arg1)
      ∧ r.2.mem ((c.tc : Thread Cert.OptDown.nD Cert.OptDown.τ).loc Cert.OptDown.main_arg2) = m ((c.tc : Thread Cert.OptDown.nD Cert.OptDown.τ).loc Cert.OptDown.main_arg2)
      ∧ r.2.mem ((c.tc : Thread Cert.OptDown.nD Cert.OptDown.τ).loc Cert.OptDown.main_arg3) = m ((c.tc : Thread Cert.OptDown.nD Cert.OptDown.τ).loc Cert.OptDown.main_arg3))
      ∧ r.2.sem = fun _ => 0)

def quiescent_OptDownIdeal [hOptDownIdeal : Cert.OptDownIdeal.Facts] : Prop :=
  ∀ (m : (ℓ : Loc Cert.OptDownIdeal.nD Cert.OptDownIdeal.τ Cert.OptDownIdeal.sig) → Buf (Elt Ideal) ℓ) (g : Dev Cert.OptDownIdeal.nD → PrngReg), Pre_OptDownIdeal m →
    θ_run (Cert.OptDownIdeal.defs (F := Ideal)) (onTc (τ := Cert.OptDownIdeal.τ) (Cert.OptDownIdeal.main (F := Ideal))) ⟨m, fun _ => 0, g⟩ (fun r => (∀ c : Dev Cert.OptDownIdeal.nD,
      r.2.mem ((c.tc : Thread Cert.OptDownIdeal.nD Cert.OptDownIdeal.τ).loc Cert.OptDownIdeal.main_arg0) = m ((c.tc : Thread Cert.OptDownIdeal.nD Cert.OptDownIdeal.τ).loc Cert.OptDownIdeal.main_arg0)
      ∧ r.2.mem ((c.tc : Thread Cert.OptDownIdeal.nD Cert.OptDownIdeal.τ).loc Cert.OptDownIdeal.main_arg1) = m ((c.tc : Thread Cert.OptDownIdeal.nD Cert.OptDownIdeal.τ).loc Cert.OptDownIdeal.main_arg1)
      ∧ r.2.mem ((c.tc : Thread Cert.OptDownIdeal.nD Cert.OptDownIdeal.τ).loc Cert.OptDownIdeal.main_arg2) = m ((c.tc : Thread Cert.OptDownIdeal.nD Cert.OptDownIdeal.τ).loc Cert.OptDownIdeal.main_arg2)
      ∧ r.2.mem ((c.tc : Thread Cert.OptDownIdeal.nD Cert.OptDownIdeal.τ).loc Cert.OptDownIdeal.main_arg3) = m ((c.tc : Thread Cert.OptDownIdeal.nD Cert.OptDownIdeal.τ).loc Cert.OptDownIdeal.main_arg3))
      ∧ r.2.sem = fun _ => 0)

def quiescent_OptDownRefIdeal [hOptDownRefIdeal : Cert.OptDownRefIdeal.Facts] : Prop :=
  ∀ (m : (ℓ : Loc Cert.OptDownRefIdeal.nD Cert.OptDownRefIdeal.τ Cert.OptDownRefIdeal.sig) → Buf (Elt Ideal) ℓ) (g : Dev Cert.OptDownRefIdeal.nD → PrngReg), Pre_OptDownRefIdeal m →
    θ_run (Cert.OptDownRefIdeal.defs (F := Ideal)) (onTc (τ := Cert.OptDownRefIdeal.τ) (Cert.OptDownRefIdeal.main (F := Ideal))) ⟨m, fun _ => 0, g⟩ (fun r => (∀ c : Dev Cert.OptDownRefIdeal.nD,
      r.2.mem ((c.tc : Thread Cert.OptDownRefIdeal.nD Cert.OptDownRefIdeal.τ).loc Cert.OptDownRefIdeal.main_arg0) = m ((c.tc : Thread Cert.OptDownRefIdeal.nD Cert.OptDownRefIdeal.τ).loc Cert.OptDownRefIdeal.main_arg0)
      ∧ r.2.mem ((c.tc : Thread Cert.OptDownRefIdeal.nD Cert.OptDownRefIdeal.τ).loc Cert.OptDownRefIdeal.main_arg1) = m ((c.tc : Thread Cert.OptDownRefIdeal.nD Cert.OptDownRefIdeal.τ).loc Cert.OptDownRefIdeal.main_arg1)
      ∧ r.2.mem ((c.tc : Thread Cert.OptDownRefIdeal.nD Cert.OptDownRefIdeal.τ).loc Cert.OptDownRefIdeal.main_arg2) = m ((c.tc : Thread Cert.OptDownRefIdeal.nD Cert.OptDownRefIdeal.τ).loc Cert.OptDownRefIdeal.main_arg2)
      ∧ r.2.mem ((c.tc : Thread Cert.OptDownRefIdeal.nD Cert.OptDownRefIdeal.τ).loc Cert.OptDownRefIdeal.main_arg3) = m ((c.tc : Thread Cert.OptDownRefIdeal.nD Cert.OptDownRefIdeal.τ).loc Cert.OptDownRefIdeal.main_arg3))
      ∧ r.2.sem = fun _ => 0)

def quiescent_OptAda [hOptAda : Cert.OptAda.Facts] : Prop :=
  ∀ (m : (ℓ : Loc Cert.OptAda.nD Cert.OptAda.τ Cert.OptAda.sig) → Buf (Elt Bits) ℓ) (g : Dev Cert.OptAda.nD → PrngReg), Pre_OptAda m →
    θ_run (Cert.OptAda.defs (F := Bits)) (onTc (τ := Cert.OptAda.τ) (Cert.OptAda.main (F := Bits))) ⟨m, fun _ => 0, g⟩ (fun r => (∀ c : Dev Cert.OptAda.nD,
      r.2.mem ((c.tc : Thread Cert.OptAda.nD Cert.OptAda.τ).loc Cert.OptAda.main_arg0) = m ((c.tc : Thread Cert.OptAda.nD Cert.OptAda.τ).loc Cert.OptAda.main_arg0)
      ∧ r.2.mem ((c.tc : Thread Cert.OptAda.nD Cert.OptAda.τ).loc Cert.OptAda.main_arg1) = m ((c.tc : Thread Cert.OptAda.nD Cert.OptAda.τ).loc Cert.OptAda.main_arg1)
      ∧ r.2.mem ((c.tc : Thread Cert.OptAda.nD Cert.OptAda.τ).loc Cert.OptAda.main_arg2) = m ((c.tc : Thread Cert.OptAda.nD Cert.OptAda.τ).loc Cert.OptAda.main_arg2)
      ∧ r.2.mem ((c.tc : Thread Cert.OptAda.nD Cert.OptAda.τ).loc Cert.OptAda.main_arg3) = m ((c.tc : Thread Cert.OptAda.nD Cert.OptAda.τ).loc Cert.OptAda.main_arg3))
      ∧ r.2.sem = fun _ => 0)

def quiescent_OptAdaIdeal [hOptAdaIdeal : Cert.OptAdaIdeal.Facts] : Prop :=
  ∀ (m : (ℓ : Loc Cert.OptAdaIdeal.nD Cert.OptAdaIdeal.τ Cert.OptAdaIdeal.sig) → Buf (Elt Ideal) ℓ) (g : Dev Cert.OptAdaIdeal.nD → PrngReg), Pre_OptAdaIdeal m →
    θ_run (Cert.OptAdaIdeal.defs (F := Ideal)) (onTc (τ := Cert.OptAdaIdeal.τ) (Cert.OptAdaIdeal.main (F := Ideal))) ⟨m, fun _ => 0, g⟩ (fun r => (∀ c : Dev Cert.OptAdaIdeal.nD,
      r.2.mem ((c.tc : Thread Cert.OptAdaIdeal.nD Cert.OptAdaIdeal.τ).loc Cert.OptAdaIdeal.main_arg0) = m ((c.tc : Thread Cert.OptAdaIdeal.nD Cert.OptAdaIdeal.τ).loc Cert.OptAdaIdeal.main_arg0)
      ∧ r.2.mem ((c.tc : Thread Cert.OptAdaIdeal.nD Cert.OptAdaIdeal.τ).loc Cert.OptAdaIdeal.main_arg1) = m ((c.tc : Thread Cert.OptAdaIdeal.nD Cert.OptAdaIdeal.τ).loc Cert.OptAdaIdeal.main_arg1)
      ∧ r.2.mem ((c.tc : Thread Cert.OptAdaIdeal.nD Cert.OptAdaIdeal.τ).loc Cert.OptAdaIdeal.main_arg2) = m ((c.tc : Thread Cert.OptAdaIdeal.nD Cert.OptAdaIdeal.τ).loc Cert.OptAdaIdeal.main_arg2)
      ∧ r.2.mem ((c.tc : Thread Cert.OptAdaIdeal.nD Cert.OptAdaIdeal.τ).loc Cert.OptAdaIdeal.main_arg3) = m ((c.tc : Thread Cert.OptAdaIdeal.nD Cert.OptAdaIdeal.τ).loc Cert.OptAdaIdeal.main_arg3))
      ∧ r.2.sem = fun _ => 0)

def quiescent_OptAdaRefIdeal [hOptAdaRefIdeal : Cert.OptAdaRefIdeal.Facts] : Prop :=
  ∀ (m : (ℓ : Loc Cert.OptAdaRefIdeal.nD Cert.OptAdaRefIdeal.τ Cert.OptAdaRefIdeal.sig) → Buf (Elt Ideal) ℓ) (g : Dev Cert.OptAdaRefIdeal.nD → PrngReg), Pre_OptAdaRefIdeal m →
    θ_run (Cert.OptAdaRefIdeal.defs (F := Ideal)) (onTc (τ := Cert.OptAdaRefIdeal.τ) (Cert.OptAdaRefIdeal.main (F := Ideal))) ⟨m, fun _ => 0, g⟩ (fun r => (∀ c : Dev Cert.OptAdaRefIdeal.nD,
      r.2.mem ((c.tc : Thread Cert.OptAdaRefIdeal.nD Cert.OptAdaRefIdeal.τ).loc Cert.OptAdaRefIdeal.main_arg0) = m ((c.tc : Thread Cert.OptAdaRefIdeal.nD Cert.OptAdaRefIdeal.τ).loc Cert.OptAdaRefIdeal.main_arg0)
      ∧ r.2.mem ((c.tc : Thread Cert.OptAdaRefIdeal.nD Cert.OptAdaRefIdeal.τ).loc Cert.OptAdaRefIdeal.main_arg1) = m ((c.tc : Thread Cert.OptAdaRefIdeal.nD Cert.OptAdaRefIdeal.τ).loc Cert.OptAdaRefIdeal.main_arg1)
      ∧ r.2.mem ((c.tc : Thread Cert.OptAdaRefIdeal.nD Cert.OptAdaRefIdeal.τ).loc Cert.OptAdaRefIdeal.main_arg2) = m ((c.tc : Thread Cert.OptAdaRefIdeal.nD Cert.OptAdaRefIdeal.τ).loc Cert.OptAdaRefIdeal.main_arg2)
      ∧ r.2.mem ((c.tc : Thread Cert.OptAdaRefIdeal.nD Cert.OptAdaRefIdeal.τ).loc Cert.OptAdaRefIdeal.main_arg3) = m ((c.tc : Thread Cert.OptAdaRefIdeal.nD Cert.OptAdaRefIdeal.τ).loc Cert.OptAdaRefIdeal.main_arg3))
      ∧ r.2.sem = fun _ => 0)

def quiescent_OptSmall [hOptSmall : Cert.OptSmall.Facts] : Prop :=
  ∀ (m : (ℓ : Loc Cert.OptSmall.nD Cert.OptSmall.τ Cert.OptSmall.sig) → Buf (Elt Bits) ℓ) (g : Dev Cert.OptSmall.nD → PrngReg), Pre_OptSmall m →
    θ_run (Cert.OptSmall.defs (F := Bits)) (onTc (τ := Cert.OptSmall.τ) (Cert.OptSmall.main (F := Bits))) ⟨m, fun _ => 0, g⟩ (fun r => (∀ c : Dev Cert.OptSmall.nD,
      r.2.mem ((c.tc : Thread Cert.OptSmall.nD Cert.OptSmall.τ).loc Cert.OptSmall.main_arg0) = m ((c.tc : Thread Cert.OptSmall.nD Cert.OptSmall.τ).loc Cert.OptSmall.main_arg0)
      ∧ r.2.mem ((c.tc : Thread Cert.OptSmall.nD Cert.OptSmall.τ).loc Cert.OptSmall.main_arg1) = m ((c.tc : Thread Cert.OptSmall.nD Cert.OptSmall.τ).loc Cert.OptSmall.main_arg1)
      ∧ r.2.mem ((c.tc : Thread Cert.OptSmall.nD Cert.OptSmall.τ).loc Cert.OptSmall.main_arg2) = m ((c.tc : Thread Cert.OptSmall.nD Cert.OptSmall.τ).loc Cert.OptSmall.main_arg2)
      ∧ r.2.mem ((c.tc : Thread Cert.OptSmall.nD Cert.OptSmall.τ).loc Cert.OptSmall.main_arg3) = m ((c.tc : Thread Cert.OptSmall.nD Cert.OptSmall.τ).loc Cert.OptSmall.main_arg3))
      ∧ r.2.sem = fun _ => 0)

def quiescent_OptSmallIdeal [hOptSmallIdeal : Cert.OptSmallIdeal.Facts] : Prop :=
  ∀ (m : (ℓ : Loc Cert.OptSmallIdeal.nD Cert.OptSmallIdeal.τ Cert.OptSmallIdeal.sig) → Buf (Elt Ideal) ℓ) (g : Dev Cert.OptSmallIdeal.nD → PrngReg), Pre_OptSmallIdeal m →
    θ_run (Cert.OptSmallIdeal.defs (F := Ideal)) (onTc (τ := Cert.OptSmallIdeal.τ) (Cert.OptSmallIdeal.main (F := Ideal))) ⟨m, fun _ => 0, g⟩ (fun r => (∀ c : Dev Cert.OptSmallIdeal.nD,
      r.2.mem ((c.tc : Thread Cert.OptSmallIdeal.nD Cert.OptSmallIdeal.τ).loc Cert.OptSmallIdeal.main_arg0) = m ((c.tc : Thread Cert.OptSmallIdeal.nD Cert.OptSmallIdeal.τ).loc Cert.OptSmallIdeal.main_arg0)
      ∧ r.2.mem ((c.tc : Thread Cert.OptSmallIdeal.nD Cert.OptSmallIdeal.τ).loc Cert.OptSmallIdeal.main_arg1) = m ((c.tc : Thread Cert.OptSmallIdeal.nD Cert.OptSmallIdeal.τ).loc Cert.OptSmallIdeal.main_arg1)
      ∧ r.2.mem ((c.tc : Thread Cert.OptSmallIdeal.nD Cert.OptSmallIdeal.τ).loc Cert.OptSmallIdeal.main_arg2) = m ((c.tc : Thread Cert.OptSmallIdeal.nD Cert.OptSmallIdeal.τ).loc Cert.OptSmallIdeal.main_arg2)
      ∧ r.2.mem ((c.tc : Thread Cert.OptSmallIdeal.nD Cert.OptSmallIdeal.τ).loc Cert.OptSmallIdeal.main_arg3) = m ((c.tc : Thread Cert.OptSmallIdeal.nD Cert.OptSmallIdeal.τ).loc Cert.OptSmallIdeal.main_arg3))
      ∧ r.2.sem = fun _ => 0)

def quiescent_OptSmallRefIdeal [hOptSmallRefIdeal : Cert.OptSmallRefIdeal.Facts] : Prop :=
  ∀ (m : (ℓ : Loc Cert.OptSmallRefIdeal.nD Cert.OptSmallRefIdeal.τ Cert.OptSmallRefIdeal.sig) → Buf (Elt Ideal) ℓ) (g : Dev Cert.OptSmallRefIdeal.nD → PrngReg), Pre_OptSmallRefIdeal m →
    θ_run (Cert.OptSmallRefIdeal.defs (F := Ideal)) (onTc (τ := Cert.OptSmallRefIdeal.τ) (Cert.OptSmallRefIdeal.main (F := Ideal))) ⟨m, fun _ => 0, g⟩ (fun r => (∀ c : Dev Cert.OptSmallRefIdeal.nD,
      r.2.mem ((c.tc : Thread Cert.OptSmallRefIdeal.nD Cert.OptSmallRefIdeal.τ).loc Cert.OptSmallRefIdeal.main_arg0) = m ((c.tc : Thread Cert.OptSmallRefIdeal.nD Cert.OptSmallRefIdeal.τ).loc Cert.OptSmallRefIdeal.main_arg0)
      ∧ r.2.mem ((c.tc : Thread Cert.OptSmallRefIdeal.nD Cert.OptSmallRefIdeal.τ).loc Cert.OptSmallRefIdeal.main_arg1) = m ((c.tc : Thread Cert.OptSmallRefIdeal.nD Cert.OptSmallRefIdeal.τ).loc Cert.OptSmallRefIdeal.main_arg1)
      ∧ r.2.mem ((c.tc : Thread Cert.OptSmallRefIdeal.nD Cert.OptSmallRefIdeal.τ).loc Cert.OptSmallRefIdeal.main_arg2) = m ((c.tc : Thread Cert.OptSmallRefIdeal.nD Cert.OptSmallRefIdeal.τ).loc Cert.OptSmallRefIdeal.main_arg2)
      ∧ r.2.mem ((c.tc : Thread Cert.OptSmallRefIdeal.nD Cert.OptSmallRefIdeal.τ).loc Cert.OptSmallRefIdeal.main_arg3) = m ((c.tc : Thread Cert.OptSmallRefIdeal.nD Cert.OptSmallRefIdeal.τ).loc Cert.OptSmallRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v7) = v0 c
          ∧ r.2.mem ((c.tc : Thread Cert.LossHeadRefIdeal.nD Cert.LossHeadRefIdeal.τ).loc Cert.LossHeadRefIdeal.main_v22) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_LnMod_LnModIdeal : Prop :=
  True

def algebraic_LnModIdeal_LnModRefIdeal [hLnModIdeal : Cert.LnModIdeal.Facts] [hLnModRefIdeal : Cert.LnModRefIdeal.Facts] : Prop :=
  ∀ (m : (ℓ : Loc Cert.LnModIdeal.nD Cert.LnModIdeal.τ Cert.LnModIdeal.sig) → Buf (Elt Ideal) ℓ) (g : Dev Cert.LnModIdeal.nD → PrngReg)
    (m' : (ℓ : Loc Cert.LnModRefIdeal.nD Cert.LnModRefIdeal.τ Cert.LnModRefIdeal.sig) → Buf (Elt Ideal) ℓ) (g' : Dev Cert.LnModRefIdeal.nD → PrngReg), Pre_LnModIdeal m →
    (∀ c : Dev Cert.LnModIdeal.nD,
      m' ((c.tc : Thread Cert.LnModRefIdeal.nD Cert.LnModRefIdeal.τ).loc Cert.LnModRefIdeal.main_arg0) = m ((c.tc : Thread Cert.LnModIdeal.nD Cert.LnModIdeal.τ).loc Cert.LnModIdeal.main_arg0)
      ∧ m' ((c.tc : Thread Cert.LnModRefIdeal.nD Cert.LnModRefIdeal.τ).loc Cert.LnModRefIdeal.main_arg1) = m ((c.tc : Thread Cert.LnModIdeal.nD Cert.LnModIdeal.τ).loc Cert.LnModIdeal.main_arg1)
      ∧ m' ((c.tc : Thread Cert.LnModRefIdeal.nD Cert.LnModRefIdeal.τ).loc Cert.LnModRefIdeal.main_arg2) = m ((c.tc : Thread Cert.LnModIdeal.nD Cert.LnModIdeal.τ).loc Cert.LnModIdeal.main_arg2)
      ∧ m' ((c.tc : Thread Cert.LnModRefIdeal.nD Cert.LnModRefIdeal.τ).loc Cert.LnModRefIdeal.main_arg3) = m ((c.tc : Thread Cert.LnModIdeal.nD Cert.LnModIdeal.τ).loc Cert.LnModIdeal.main_arg3)
      ∧ m' ((c.tc : Thread Cert.LnModRefIdeal.nD Cert.LnModRefIdeal.τ).loc Cert.LnModRefIdeal.main_arg4) = m ((c.tc : Thread Cert.LnModIdeal.nD Cert.LnModIdeal.τ).loc Cert.LnModIdeal.main_arg4)
      ∧ m' ((c.tc : Thread Cert.LnModRefIdeal.nD Cert.LnModRefIdeal.τ).loc Cert.LnModRefIdeal.main_arg5) = m ((c.tc : Thread Cert.LnModIdeal.nD Cert.LnModIdeal.τ).loc Cert.LnModIdeal.main_arg5)) →
    ∃ (v0 : (c : Dev Cert.LnModIdeal.nD) → Buf (Elt Ideal) ((c.tc : Thread Cert.LnModIdeal.nD Cert.LnModIdeal.τ).loc Cert.LnModIdeal.main_v3_0)) (v1 : (c : Dev Cert.LnModIdeal.nD) → Buf (Elt Ideal) ((c.tc : Thread Cert.LnModIdeal.nD Cert.LnModIdeal.τ).loc Cert.LnModIdeal.main_v3_1)) (v2 : (c : Dev Cert.LnModIdeal.nD) → Buf (Elt Ideal) ((c.tc : Thread Cert.LnModIdeal.nD Cert.LnModIdeal.τ).loc Cert.LnModIdeal.main_v3_2)) (v3 : (c : Dev Cert.LnModIdeal.nD) → Buf (Elt Ideal) ((c.tc : Thread Cert.LnModIdeal.nD Cert.LnModIdeal.τ).loc Cert.LnModIdeal.main_v3_3)),
      θ_run (Cert.LnModIdeal.defs (F := Ideal)) (onTc (τ := Cert.LnModIdeal.τ) (Cert.LnModIdeal.main (F := Ideal))) ⟨m, fun _ => 0, g⟩ (fun r => ∀ c : Dev Cert.LnModIdeal.nD,
          r.2.mem ((c.tc : Thread Cert.LnModIdeal.nD Cert.LnModIdeal.τ).loc Cert.LnModIdeal.main_v3_0) = v0 c
          ∧ r.2.mem ((c.tc : Thread Cert.LnModIdeal.nD Cert.LnModIdeal.τ).loc Cert.LnModIdeal.main_v3_1) = v1 c
          ∧ r.2.mem ((c.tc : Thread Cert.LnModIdeal.nD Cert.LnModIdeal.τ).loc Cert.LnModIdeal.main_v3_2) = v2 c
          ∧ r.2.mem ((c.tc : Thread Cert.LnModIdeal.nD Cert.LnModIdeal.τ).loc Cert.LnModIdeal.main_v3_3) = v3 c
          ∧ r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
          ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
          ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2)
          ∧ r.2.mem ((c.tc : Thread Cert.LnModIdeal.nD Cert.LnModIdeal.τ).loc Cert.LnModIdeal.main_arg3) = m ((c.tc : Thread Cert.LnModIdeal.nD Cert.LnModIdeal.τ).loc Cert.LnModIdeal.main_arg3)
          ∧ r.2.mem ((c.tc : Thread Cert.LnModIdeal.nD Cert.LnModIdeal.τ).loc Cert.LnModIdeal.main_arg4) = m ((c.tc : Thread Cert.LnModIdeal.nD Cert.LnModIdeal.τ).loc Cert.LnModIdeal.main_arg4)
          ∧ r.2.mem ((c.tc : Thread Cert.LnModIdeal.nD Cert.LnModIdeal.τ).loc Cert.LnModIdeal.main_arg5) = m ((c.tc : Thread Cert.LnModIdeal.nD Cert.LnModIdeal.τ).loc Cert.LnModIdeal.main_arg5))
      ∧ θ_run (Cert.LnModRefIdeal.defs (F := Ideal)) (onTc (τ := Cert.LnModRefIdeal.τ) (Cert.LnModRefIdeal.main (F := Ideal))) ⟨m', fun _ => 0, g'⟩ (fun r => ∀ c : Dev Cert.LnModRefIdeal.nD,
          r.2.mem ((c.tc : Thread Cert.LnModRefIdeal.nD Cert.LnModRefIdeal.τ).loc Cert.LnModRefIdeal.main_v54) = v0 c
          ∧ r.2.mem ((c.tc : Thread Cert.LnModRefIdeal.nD Cert.LnModRefIdeal.τ).loc Cert.LnModRefIdeal.main_v55) = v1 c
          ∧ r.2.mem ((c.tc : Thread Cert.LnModRefIdeal.nD Cert.LnModRefIdeal.τ).loc Cert.LnModRefIdeal.main_v56) = v2 c
          ∧ r.2.mem ((c.tc : Thread Cert.LnModRefIdeal.nD Cert.LnModRefIdeal.τ).loc Cert.LnModRefIdeal.main_v57) = v3 c
          ∧ r.2.mem ((c.tc : Thread Cert.LnModRefIdeal.nD Cert.LnModRefIdeal.τ).loc Cert.LnModRefIdeal.main_arg0) = m' ((c.tc : Thread Cert.LnModRefIdeal.nD Cert.LnModRefIdeal.τ).loc Cert.LnModRefIdeal.main_arg0)
          ∧ r.2.mem ((c.tc : Thread Cert.LnModRefIdeal.nD Cert.LnModRefIdeal.τ).loc Cert.LnModRefIdeal.main_arg1) = m' ((c.tc : Thread Cert.LnModRefIdeal.nD Cert.LnModRefIdeal.τ).loc Cert.LnModRefIdeal.main_arg1)
          ∧ r.2.mem ((c.tc : Thread Cert.LnModRefIdeal.nD Cert.LnModRefIdeal.τ).loc Cert.LnModRefIdeal.main_arg2) = m' ((c.tc : Thread Cert.LnModRefIdeal.nD Cert.LnModRefIdeal.τ).loc Cert.LnModRefIdeal.main_arg2)
          ∧ r.2.mem ((c.tc : Thread Cert.LnModRefIdeal.nD Cert.LnModRefIdeal.τ).loc Cert.LnModRefIdeal.main_arg3) = m' ((c.tc : Thread Cert.LnModRefIdeal.nD Cert.LnModRefIdeal.τ).loc Cert.LnModRefIdeal.main_arg3)
          ∧ r.2.mem ((c.tc : Thread Cert.LnModRefIdeal.nD Cert.LnModRefIdeal.τ).loc Cert.LnModRefIdeal.main_arg4) = m' ((c.tc : Thread Cert.LnModRefIdeal.nD Cert.LnModRefIdeal.τ).loc Cert.LnModRefIdeal.main_arg4)
          ∧ r.2.mem ((c.tc : Thread Cert.LnModRefIdeal.nD Cert.LnModRefIdeal.τ).loc Cert.LnModRefIdeal.main_arg5) = m' ((c.tc : Thread Cert.LnModRefIdeal.nD Cert.LnModRefIdeal.τ).loc Cert.LnModRefIdeal.main_arg5))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v2)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v2) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v2)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v2) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v5) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v5)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v5) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v2) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_DWUp_DWUpIdeal : Prop :=
  True

def algebraic_DWUpIdeal_DWUpRefIdeal [hDWUpIdeal : Cert.DWUpIdeal.Facts] [hDWUpRefIdeal : Cert.DWUpRefIdeal.Facts] : Prop :=
  ∀ (m : (ℓ : Loc Cert.DWUpIdeal.nD Cert.DWUpIdeal.τ Cert.DWUpIdeal.sig) → Buf (Elt Ideal) ℓ) (g : Dev Cert.DWUpIdeal.nD → PrngReg)
    (m' : (ℓ : Loc Cert.DWUpRefIdeal.nD Cert.DWUpRefIdeal.τ Cert.DWUpRefIdeal.sig) → Buf (Elt Ideal) ℓ) (g' : Dev Cert.DWUpRefIdeal.nD → PrngReg), Pre_DWUpIdeal m →
    (∀ c : Dev Cert.DWUpIdeal.nD,
      m' ((c.tc : Thread Cert.DWUpRefIdeal.nD Cert.DWUpRefIdeal.τ).loc Cert.DWUpRefIdeal.main_arg0) = m ((c.tc : Thread Cert.DWUpIdeal.nD Cert.DWUpIdeal.τ).loc Cert.DWUpIdeal.main_arg0)
      ∧ m' ((c.tc : Thread Cert.DWUpRefIdeal.nD Cert.DWUpRefIdeal.τ).loc Cert.DWUpRefIdeal.main_arg1) = m ((c.tc : Thread Cert.DWUpIdeal.nD Cert.DWUpIdeal.τ).loc Cert.DWUpIdeal.main_arg1)) →
    ∃ (v0 : (c : Dev Cert.DWUpIdeal.nD) → Buf (Elt Ideal) ((c.tc : Thread Cert.DWUpIdeal.nD Cert.DWUpIdeal.τ).loc Cert.DWUpIdeal.main_v2)),
      θ_run (Cert.DWUpIdeal.defs (F := Ideal)) (onTc (τ := Cert.DWUpIdeal.τ) (Cert.DWUpIdeal.main (F := Ideal))) ⟨m, fun _ => 0, g⟩ (fun r => ∀ c : Dev Cert.DWUpIdeal.nD,
          r.2.mem ((c.tc : Thread Cert.DWUpIdeal.nD Cert.DWUpIdeal.τ).loc Cert.DWUpIdeal.main_v2) = v0 c
          ∧ r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
          ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ θ_run (Cert.DWUpRefIdeal.defs (F := Ideal)) (onTc (τ := Cert.DWUpRefIdeal.τ) (Cert.DWUpRefIdeal.main (F := Ideal))) ⟨m', fun _ => 0, g'⟩ (fun r => ∀ c : Dev Cert.DWUpRefIdeal.nD,
          r.2.mem ((c.tc : Thread Cert.DWUpRefIdeal.nD Cert.DWUpRefIdeal.τ).loc Cert.DWUpRefIdeal.main_v6) = v0 c
          ∧ r.2.mem ((c.tc : Thread Cert.DWUpRefIdeal.nD Cert.DWUpRefIdeal.τ).loc Cert.DWUpRefIdeal.main_arg0) = m' ((c.tc : Thread Cert.DWUpRefIdeal.nD Cert.DWUpRefIdeal.τ).loc Cert.DWUpRefIdeal.main_arg0)
          ∧ r.2.mem ((c.tc : Thread Cert.DWUpRefIdeal.nD Cert.DWUpRefIdeal.τ).loc Cert.DWUpRefIdeal.main_arg1) = m' ((c.tc : Thread Cert.DWUpRefIdeal.nD Cert.DWUpRefIdeal.τ).loc Cert.DWUpRefIdeal.main_arg1))

def preserves_DO_DOIdeal : Prop :=
  True

def algebraic_DOIdeal_DORefIdeal [hDOIdeal : Cert.DOIdeal.Facts] [hDORefIdeal : Cert.DORefIdeal.Facts] : Prop :=
  ∀ (m : (ℓ : Loc Cert.DOIdeal.nD Cert.DOIdeal.τ Cert.DOIdeal.sig) → Buf (Elt Ideal) ℓ) (g : Dev Cert.DOIdeal.nD → PrngReg)
    (m' : (ℓ : Loc Cert.DORefIdeal.nD Cert.DORefIdeal.τ Cert.DORefIdeal.sig) → Buf (Elt Ideal) ℓ) (g' : Dev Cert.DORefIdeal.nD → PrngReg), Pre_DOIdeal m →
    (∀ c : Dev Cert.DOIdeal.nD,
      m' ((c.tc : Thread Cert.DORefIdeal.nD Cert.DORefIdeal.τ).loc Cert.DORefIdeal.main_arg0) = m ((c.tc : Thread Cert.DOIdeal.nD Cert.DOIdeal.τ).loc Cert.DOIdeal.main_arg0)
      ∧ m' ((c.tc : Thread Cert.DORefIdeal.nD Cert.DORefIdeal.τ).loc Cert.DORefIdeal.main_arg1) = m ((c.tc : Thread Cert.DOIdeal.nD Cert.DOIdeal.τ).loc Cert.DOIdeal.main_arg1)) →
    ∃ (v0 : (c : Dev Cert.DOIdeal.nD) → Buf (Elt Ideal) ((c.tc : Thread Cert.DOIdeal.nD Cert.DOIdeal.τ).loc Cert.DOIdeal.main_v1)),
      θ_run (Cert.DOIdeal.defs (F := Ideal)) (onTc (τ := Cert.DOIdeal.τ) (Cert.DOIdeal.main (F := Ideal))) ⟨m, fun _ => 0, g⟩ (fun r => ∀ c : Dev Cert.DOIdeal.nD,
          r.2.mem ((c.tc : Thread Cert.DOIdeal.nD Cert.DOIdeal.τ).loc Cert.DOIdeal.main_v1) = v0 c
          ∧ r.2.mem ((c.tc : Thread Cert.DOIdeal.nD Cert.DOIdeal.τ).loc Cert.DOIdeal.main_arg0) = m ((c.tc : Thread Cert.DOIdeal.nD Cert.DOIdeal.τ).loc Cert.DOIdeal.main_arg0)
          ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ θ_run (Cert.DORefIdeal.defs (F := Ideal)) (onTc (τ := Cert.DORefIdeal.τ) (Cert.DORefIdeal.main (F := Ideal))) ⟨m', fun _ => 0, g'⟩ (fun r => ∀ c : Dev Cert.DORefIdeal.nD,
          r.2.mem ((c.tc : Thread Cert.DORefIdeal.nD Cert.DORefIdeal.τ).loc Cert.DORefIdeal.main_v2) = v0 c
          ∧ r.2.mem ((c.tc : Thread Cert.DORefIdeal.nD Cert.DORefIdeal.τ).loc Cert.DORefIdeal.main_arg0) = m' ((c.tc : Thread Cert.DORefIdeal.nD Cert.DORefIdeal.τ).loc Cert.DORefIdeal.main_arg0)
          ∧ r.2.mem ((c.tc : Thread Cert.DORefIdeal.nD Cert.DORefIdeal.τ).loc Cert.DORefIdeal.main_arg1) = m' ((c.tc : Thread Cert.DORefIdeal.nD Cert.DORefIdeal.τ).loc Cert.DORefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v4) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v1)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v1) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v2) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v6) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_MIn_MInIdeal : Prop :=
  True

def algebraic_MInIdeal_MInRefIdeal [hMInIdeal : Cert.MInIdeal.Facts] [hMInRefIdeal : Cert.MInRefIdeal.Facts] : Prop :=
  ∀ (m : (ℓ : Loc Cert.MInIdeal.nD Cert.MInIdeal.τ Cert.MInIdeal.sig) → Buf (Elt Ideal) ℓ) (g : Dev Cert.MInIdeal.nD → PrngReg)
    (m' : (ℓ : Loc Cert.MInRefIdeal.nD Cert.MInRefIdeal.τ Cert.MInRefIdeal.sig) → Buf (Elt Ideal) ℓ) (g' : Dev Cert.MInRefIdeal.nD → PrngReg), Pre_MInIdeal m →
    (∀ c : Dev Cert.MInIdeal.nD,
      m' ((c.tc : Thread Cert.MInRefIdeal.nD Cert.MInRefIdeal.τ).loc Cert.MInRefIdeal.main_arg0) = m ((c.tc : Thread Cert.MInIdeal.nD Cert.MInIdeal.τ).loc Cert.MInIdeal.main_arg0)
      ∧ m' ((c.tc : Thread Cert.MInRefIdeal.nD Cert.MInRefIdeal.τ).loc Cert.MInRefIdeal.main_arg1) = m ((c.tc : Thread Cert.MInIdeal.nD Cert.MInIdeal.τ).loc Cert.MInIdeal.main_arg1)) →
    ∃ (v0 : (c : Dev Cert.MInIdeal.nD) → Buf (Elt Ideal) ((c.tc : Thread Cert.MInIdeal.nD Cert.MInIdeal.τ).loc Cert.MInIdeal.main_v1)),
      θ_run (Cert.MInIdeal.defs (F := Ideal)) (onTc (τ := Cert.MInIdeal.τ) (Cert.MInIdeal.main (F := Ideal))) ⟨m, fun _ => 0, g⟩ (fun r => ∀ c : Dev Cert.MInIdeal.nD,
          r.2.mem ((c.tc : Thread Cert.MInIdeal.nD Cert.MInIdeal.τ).loc Cert.MInIdeal.main_v1) = v0 c
          ∧ r.2.mem ((c.tc : Thread Cert.MInIdeal.nD Cert.MInIdeal.τ).loc Cert.MInIdeal.main_arg0) = m ((c.tc : Thread Cert.MInIdeal.nD Cert.MInIdeal.τ).loc Cert.MInIdeal.main_arg0)
          ∧ r.2.mem ((c.tc : Thread Cert.MInIdeal.nD Cert.MInIdeal.τ).loc Cert.MInIdeal.main_arg1) = m ((c.tc : Thread Cert.MInIdeal.nD Cert.MInIdeal.τ).loc Cert.MInIdeal.main_arg1))
      ∧ θ_run (Cert.MInRefIdeal.defs (F := Ideal)) (onTc (τ := Cert.MInRefIdeal.τ) (Cert.MInRefIdeal.main (F := Ideal))) ⟨m', fun _ => 0, g'⟩ (fun r => ∀ c : Dev Cert.MInRefIdeal.nD,
          r.2.mem ((c.tc : Thread Cert.MInRefIdeal.nD Cert.MInRefIdeal.τ).loc Cert.MInRefIdeal.main_v1) = v0 c
          ∧ r.2.mem ((c.tc : Thread Cert.MInRefIdeal.nD Cert.MInRefIdeal.τ).loc Cert.MInRefIdeal.main_arg0) = m' ((c.tc : Thread Cert.MInRefIdeal.nD Cert.MInRefIdeal.τ).loc Cert.MInRefIdeal.main_arg0)
          ∧ r.2.mem ((c.tc : Thread Cert.MInRefIdeal.nD Cert.MInRefIdeal.τ).loc Cert.MInRefIdeal.main_arg1) = m' ((c.tc : Thread Cert.MInRefIdeal.nD Cert.MInRefIdeal.τ).loc Cert.MInRefIdeal.main_arg1))

def preserves_MOut_MOutIdeal : Prop :=
  True

def algebraic_MOutIdeal_MOutRefIdeal [hMOutIdeal : Cert.MOutIdeal.Facts] [hMOutRefIdeal : Cert.MOutRefIdeal.Facts] : Prop :=
  ∀ (m : (ℓ : Loc Cert.MOutIdeal.nD Cert.MOutIdeal.τ Cert.MOutIdeal.sig) → Buf (Elt Ideal) ℓ) (g : Dev Cert.MOutIdeal.nD → PrngReg)
    (m' : (ℓ : Loc Cert.MOutRefIdeal.nD Cert.MOutRefIdeal.τ Cert.MOutRefIdeal.sig) → Buf (Elt Ideal) ℓ) (g' : Dev Cert.MOutRefIdeal.nD → PrngReg), Pre_MOutIdeal m →
    (∀ c : Dev Cert.MOutIdeal.nD,
      m' ((c.tc : Thread Cert.MOutRefIdeal.nD Cert.MOutRefIdeal.τ).loc Cert.MOutRefIdeal.main_arg0) = m ((c.tc : Thread Cert.MOutIdeal.nD Cert.MOutIdeal.τ).loc Cert.MOutIdeal.main_arg0)
      ∧ m' ((c.tc : Thread Cert.MOutRefIdeal.nD Cert.MOutRefIdeal.τ).loc Cert.MOutRefIdeal.main_arg1) = m ((c.tc : Thread Cert.MOutIdeal.nD Cert.MOutIdeal.τ).loc Cert.MOutIdeal.main_arg1)
      ∧ m' ((c.tc : Thread Cert.MOutRefIdeal.nD Cert.MOutRefIdeal.τ).loc Cert.MOutRefIdeal.main_arg2) = m ((c.tc : Thread Cert.MOutIdeal.nD Cert.MOutIdeal.τ).loc Cert.MOutIdeal.main_arg2)
      ∧ m' ((c.tc : Thread Cert.MOutRefIdeal.nD Cert.MOutRefIdeal.τ).loc Cert.MOutRefIdeal.main_arg3) = m ((c.tc : Thread Cert.MOutIdeal.nD Cert.MOutIdeal.τ).loc Cert.MOutIdeal.main_arg3)) →
    ∃ (v0 : (c : Dev Cert.MOutIdeal.nD) → Buf (Elt Ideal) ((c.tc : Thread Cert.MOutIdeal.nD Cert.MOutIdeal.τ).loc Cert.MOutIdeal.main_v2_0)) (v1 : (c : Dev Cert.MOutIdeal.nD) → Buf (Elt Ideal) ((c.tc : Thread Cert.MOutIdeal.nD Cert.MOutIdeal.τ).loc Cert.MOutIdeal.main_v2_1)),
      θ_run (Cert.MOutIdeal.defs (F := Ideal)) (onTc (τ := Cert.MOutIdeal.τ) (Cert.MOutIdeal.main (F := Ideal))) ⟨m, fun _ => 0, g⟩ (fun r => ∀ c : Dev Cert.MOutIdeal.nD,
          r.2.mem ((c.tc : Thread Cert.MOutIdeal.nD Cert.MOutIdeal.τ).loc Cert.MOutIdeal.main_v2_0) = v0 c
          ∧ r.2.mem ((c.tc : Thread Cert.MOutIdeal.nD Cert.MOutIdeal.τ).loc Cert.MOutIdeal.main_v2_1) = v1 c
          ∧ r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
          ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
          ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
          ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3))
      ∧ θ_run (Cert.MOutRefIdeal.defs (F := Ideal)) (onTc (τ := Cert.MOutRefIdeal.τ) (Cert.MOutRefIdeal.main (F := Ideal))) ⟨m', fun _ => 0, g'⟩ (fun r => ∀ c : Dev Cert.MOutRefIdeal.nD,
          r.2.mem ((c.tc : Thread Cert.MOutRefIdeal.nD Cert.MOutRefIdeal.τ).loc Cert.MOutRefIdeal.main_v1) = v0 c
          ∧ r.2.mem ((c.tc : Thread Cert.MOutRefIdeal.nD Cert.MOutRefIdeal.τ).loc Cert.MOutRefIdeal.main_v5) = v1 c
          ∧ r.2.mem ((c.tc : Thread Cert.MOutRefIdeal.nD Cert.MOutRefIdeal.τ).loc Cert.MOutRefIdeal.main_arg0) = m' ((c.tc : Thread Cert.MOutRefIdeal.nD Cert.MOutRefIdeal.τ).loc Cert.MOutRefIdeal.main_arg0)
          ∧ r.2.mem ((c.tc : Thread Cert.MOutRefIdeal.nD Cert.MOutRefIdeal.τ).loc Cert.MOutRefIdeal.main_arg1) = m' ((c.tc : Thread Cert.MOutRefIdeal.nD Cert.MOutRefIdeal.τ).loc Cert.MOutRefIdeal.main_arg1)
          ∧ r.2.mem ((c.tc : Thread Cert.MOutRefIdeal.nD Cert.MOutRefIdeal.τ).loc Cert.MOutRefIdeal.main_arg2) = m' ((c.tc : Thread Cert.MOutRefIdeal.nD Cert.MOutRefIdeal.τ).loc Cert.MOutRefIdeal.main_arg2)
          ∧ r.2.mem ((c.tc : Thread Cert.MOutRefIdeal.nD Cert.MOutRefIdeal.τ).loc Cert.MOutRefIdeal.main_arg3) = m' ((c.tc : Thread Cert.MOutRefIdeal.nD Cert.MOutRefIdeal.τ).loc Cert.MOutRefIdeal.main_arg3))

def preserves_MUp_MUpIdeal : Prop :=
  True

def algebraic_MUpIdeal_MUpRefIdeal [hMUpIdeal : Cert.MUpIdeal.Facts] [hMUpRefIdeal : Cert.MUpRefIdeal.Facts] : Prop :=
  ∀ (m : (ℓ : Loc Cert.MUpIdeal.nD Cert.MUpIdeal.τ Cert.MUpIdeal.sig) → Buf (Elt Ideal) ℓ) (g : Dev Cert.MUpIdeal.nD → PrngReg)
    (m' : (ℓ : Loc Cert.MUpRefIdeal.nD Cert.MUpRefIdeal.τ Cert.MUpRefIdeal.sig) → Buf (Elt Ideal) ℓ) (g' : Dev Cert.MUpRefIdeal.nD → PrngReg), Pre_MUpIdeal m →
    (∀ c : Dev Cert.MUpIdeal.nD,
      m' ((c.tc : Thread Cert.MUpRefIdeal.nD Cert.MUpRefIdeal.τ).loc Cert.MUpRefIdeal.main_arg0) = m ((c.tc : Thread Cert.MUpIdeal.nD Cert.MUpIdeal.τ).loc Cert.MUpIdeal.main_arg0)
      ∧ m' ((c.tc : Thread Cert.MUpRefIdeal.nD Cert.MUpRefIdeal.τ).loc Cert.MUpRefIdeal.main_arg1) = m ((c.tc : Thread Cert.MUpIdeal.nD Cert.MUpIdeal.τ).loc Cert.MUpIdeal.main_arg1)) →
    ∃ (v0 : (c : Dev Cert.MUpIdeal.nD) → Buf (Elt Ideal) ((c.tc : Thread Cert.MUpIdeal.nD Cert.MUpIdeal.τ).loc Cert.MUpIdeal.main_v3)),
      θ_run (Cert.MUpIdeal.defs (F := Ideal)) (onTc (τ := Cert.MUpIdeal.τ) (Cert.MUpIdeal.main (F := Ideal))) ⟨m, fun _ => 0, g⟩ (fun r => ∀ c : Dev Cert.MUpIdeal.nD,
          r.2.mem ((c.tc : Thread Cert.MUpIdeal.nD Cert.MUpIdeal.τ).loc Cert.MUpIdeal.main_v3) = v0 c
          ∧ r.2.mem ((c.tc : Thread Cert.MUpIdeal.nD Cert.MUpIdeal.τ).loc Cert.MUpIdeal.main_arg0) = m ((c.tc : Thread Cert.MUpIdeal.nD Cert.MUpIdeal.τ).loc Cert.MUpIdeal.main_arg0)
          ∧ r.2.mem ((c.tc : Thread Cert.MUpIdeal.nD Cert.MUpIdeal.τ).loc Cert.MUpIdeal.main_arg1) = m ((c.tc : Thread Cert.MUpIdeal.nD Cert.MUpIdeal.τ).loc Cert.MUpIdeal.main_arg1))
      ∧ θ_run (Cert.MUpRefIdeal.defs (F := Ideal)) (onTc (τ := Cert.MUpRefIdeal.τ) (Cert.MUpRefIdeal.main (F := Ideal))) ⟨m', fun _ => 0, g'⟩ (fun r => ∀ c : Dev Cert.MUpRefIdeal.nD,
          r.2.mem ((c.tc : Thread Cert.MUpRefIdeal.nD Cert.MUpRefIdeal.τ).loc Cert.MUpRefIdeal.main_v3) = v0 c
          ∧ r.2.mem ((c.tc : Thread Cert.MUpRefIdeal.nD Cert.MUpRefIdeal.τ).loc Cert.MUpRefIdeal.main_arg0) = m' ((c.tc : Thread Cert.MUpRefIdeal.nD Cert.MUpRefIdeal.τ).loc Cert.MUpRefIdeal.main_arg0)
          ∧ r.2.mem ((c.tc : Thread Cert.MUpRefIdeal.nD Cert.MUpRefIdeal.τ).loc Cert.MUpRefIdeal.main_arg1) = m' ((c.tc : Thread Cert.MUpRefIdeal.nD Cert.MUpRefIdeal.τ).loc Cert.MUpRefIdeal.main_arg1))

def preserves_MDown_MDownIdeal : Prop :=
  True

def algebraic_MDownIdeal_MDownRefIdeal [hMDownIdeal : Cert.MDownIdeal.Facts] [hMDownRefIdeal : Cert.MDownRefIdeal.Facts] : Prop :=
  ∀ (m : (ℓ : Loc Cert.MDownIdeal.nD Cert.MDownIdeal.τ Cert.MDownIdeal.sig) → Buf (Elt Ideal) ℓ) (g : Dev Cert.MDownIdeal.nD → PrngReg)
    (m' : (ℓ : Loc Cert.MDownRefIdeal.nD Cert.MDownRefIdeal.τ Cert.MDownRefIdeal.sig) → Buf (Elt Ideal) ℓ) (g' : Dev Cert.MDownRefIdeal.nD → PrngReg), Pre_MDownIdeal m →
    (∀ c : Dev Cert.MDownIdeal.nD,
      m' ((c.tc : Thread Cert.MDownRefIdeal.nD Cert.MDownRefIdeal.τ).loc Cert.MDownRefIdeal.main_arg0) = m ((c.tc : Thread Cert.MDownIdeal.nD Cert.MDownIdeal.τ).loc Cert.MDownIdeal.main_arg0)
      ∧ m' ((c.tc : Thread Cert.MDownRefIdeal.nD Cert.MDownRefIdeal.τ).loc Cert.MDownRefIdeal.main_arg1) = m ((c.tc : Thread Cert.MDownIdeal.nD Cert.MDownIdeal.τ).loc Cert.MDownIdeal.main_arg1)
      ∧ m' ((c.tc : Thread Cert.MDownRefIdeal.nD Cert.MDownRefIdeal.τ).loc Cert.MDownRefIdeal.main_arg2) = m ((c.tc : Thread Cert.MDownIdeal.nD Cert.MDownIdeal.τ).loc Cert.MDownIdeal.main_arg2)
      ∧ m' ((c.tc : Thread Cert.MDownRefIdeal.nD Cert.MDownRefIdeal.τ).loc Cert.MDownRefIdeal.main_arg3) = m ((c.tc : Thread Cert.MDownIdeal.nD Cert.MDownIdeal.τ).loc Cert.MDownIdeal.main_arg3)) →
    ∃ (v0 : (c : Dev Cert.MDownIdeal.nD) → Buf (Elt Ideal) ((c.tc : Thread Cert.MDownIdeal.nD Cert.MDownIdeal.τ).loc Cert.MDownIdeal.main_v5_0)) (v1 : (c : Dev Cert.MDownIdeal.nD) → Buf (Elt Ideal) ((c.tc : Thread Cert.MDownIdeal.nD Cert.MDownIdeal.τ).loc Cert.MDownIdeal.main_v5_1)),
      θ_run (Cert.MDownIdeal.defs (F := Ideal)) (onTc (τ := Cert.MDownIdeal.τ) (Cert.MDownIdeal.main (F := Ideal))) ⟨m, fun _ => 0, g⟩ (fun r => ∀ c : Dev Cert.MDownIdeal.nD,
          r.2.mem ((c.tc : Thread Cert.MDownIdeal.nD Cert.MDownIdeal.τ).loc Cert.MDownIdeal.main_v5_0) = v0 c
          ∧ r.2.mem ((c.tc : Thread Cert.MDownIdeal.nD Cert.MDownIdeal.τ).loc Cert.MDownIdeal.main_v5_1) = v1 c
          ∧ r.2.mem ((c.tc : Thread Cert.MDownIdeal.nD Cert.MDownIdeal.τ).loc Cert.MDownIdeal.main_arg0) = m ((c.tc : Thread Cert.MDownIdeal.nD Cert.MDownIdeal.τ).loc Cert.MDownIdeal.main_arg0)
          ∧ r.2.mem ((c.tc : Thread Cert.MDownIdeal.nD Cert.MDownIdeal.τ).loc Cert.MDownIdeal.main_arg1) = m ((c.tc : Thread Cert.MDownIdeal.nD Cert.MDownIdeal.τ).loc Cert.MDownIdeal.main_arg1)
          ∧ r.2.mem ((c.tc : Thread Cert.MDownIdeal.nD Cert.MDownIdeal.τ).loc Cert.MDownIdeal.main_arg2) = m ((c.tc : Thread Cert.MDownIdeal.nD Cert.MDownIdeal.τ).loc Cert.MDownIdeal.main_arg2)
          ∧ r.2.mem ((c.tc : Thread Cert.MDownIdeal.nD Cert.MDownIdeal.τ).loc Cert.MDownIdeal.main_arg3) = m ((c.tc : Thread Cert.MDownIdeal.nD Cert.MDownIdeal.τ).loc Cert.MDownIdeal.main_arg3))
      ∧ θ_run (Cert.MDownRefIdeal.defs (F := Ideal)) (onTc (τ := Cert.MDownRefIdeal.τ) (Cert.MDownRefIdeal.main (F := Ideal))) ⟨m', fun _ => 0, g'⟩ (fun r => ∀ c : Dev Cert.MDownRefIdeal.nD,
          r.2.mem ((c.tc : Thread Cert.MDownRefIdeal.nD Cert.MDownRefIdeal.τ).loc Cert.MDownRefIdeal.main_v1) = v0 c
          ∧ r.2.mem ((c.tc : Thread Cert.MDownRefIdeal.nD Cert.MDownRefIdeal.τ).loc Cert.MDownRefIdeal.main_v5) = v1 c
          ∧ r.2.mem ((c.tc : Thread Cert.MDownRefIdeal.nD Cert.MDownRefIdeal.τ).loc Cert.MDownRefIdeal.main_arg0) = m' ((c.tc : Thread Cert.MDownRefIdeal.nD Cert.MDownRefIdeal.τ).loc Cert.MDownRefIdeal.main_arg0)
          ∧ r.2.mem ((c.tc : Thread Cert.MDownRefIdeal.nD Cert.MDownRefIdeal.τ).loc Cert.MDownRefIdeal.main_arg1) = m' ((c.tc : Thread Cert.MDownRefIdeal.nD Cert.MDownRefIdeal.τ).loc Cert.MDownRefIdeal.main_arg1)
          ∧ r.2.mem ((c.tc : Thread Cert.MDownRefIdeal.nD Cert.MDownRefIdeal.τ).loc Cert.MDownRefIdeal.main_arg2) = m' ((c.tc : Thread Cert.MDownRefIdeal.nD Cert.MDownRefIdeal.τ).loc Cert.MDownRefIdeal.main_arg2)
          ∧ r.2.mem ((c.tc : Thread Cert.MDownRefIdeal.nD Cert.MDownRefIdeal.τ).loc Cert.MDownRefIdeal.main_arg3) = m' ((c.tc : Thread Cert.MDownRefIdeal.nD Cert.MDownRefIdeal.τ).loc Cert.MDownRefIdeal.main_arg3))

def preserves_OptIn_OptInIdeal : Prop :=
  True

def algebraic_OptInIdeal_OptInRefIdeal [hOptInIdeal : Cert.OptInIdeal.Facts] [hOptInRefIdeal : Cert.OptInRefIdeal.Facts] : Prop :=
  ∀ (m : (ℓ : Loc Cert.OptInIdeal.nD Cert.OptInIdeal.τ Cert.OptInIdeal.sig) → Buf (Elt Ideal) ℓ) (g : Dev Cert.OptInIdeal.nD → PrngReg)
    (m' : (ℓ : Loc Cert.OptInRefIdeal.nD Cert.OptInRefIdeal.τ Cert.OptInRefIdeal.sig) → Buf (Elt Ideal) ℓ) (g' : Dev Cert.OptInRefIdeal.nD → PrngReg), Pre_OptInIdeal m →
    (∀ c : Dev Cert.OptInIdeal.nD,
      m' ((c.tc : Thread Cert.OptInRefIdeal.nD Cert.OptInRefIdeal.τ).loc Cert.OptInRefIdeal.main_arg0) = m ((c.tc : Thread Cert.OptInIdeal.nD Cert.OptInIdeal.τ).loc Cert.OptInIdeal.main_arg0)
      ∧ m' ((c.tc : Thread Cert.OptInRefIdeal.nD Cert.OptInRefIdeal.τ).loc Cert.OptInRefIdeal.main_arg1) = m ((c.tc : Thread Cert.OptInIdeal.nD Cert.OptInIdeal.τ).loc Cert.OptInIdeal.main_arg1)
      ∧ m' ((c.tc : Thread Cert.OptInRefIdeal.nD Cert.OptInRefIdeal.τ).loc Cert.OptInRefIdeal.main_arg2) = m ((c.tc : Thread Cert.OptInIdeal.nD Cert.OptInIdeal.τ).loc Cert.OptInIdeal.main_arg2)
      ∧ m' ((c.tc : Thread Cert.OptInRefIdeal.nD Cert.OptInRefIdeal.τ).loc Cert.OptInRefIdeal.main_arg3) = m ((c.tc : Thread Cert.OptInIdeal.nD Cert.OptInIdeal.τ).loc Cert.OptInIdeal.main_arg3)) →
    ∃ (v0 : (c : Dev Cert.OptInIdeal.nD) → Buf (Elt Ideal) ((c.tc : Thread Cert.OptInIdeal.nD Cert.OptInIdeal.τ).loc Cert.OptInIdeal.main_v0_0)) (v1 : (c : Dev Cert.OptInIdeal.nD) → Buf (Elt Ideal) ((c.tc : Thread Cert.OptInIdeal.nD Cert.OptInIdeal.τ).loc Cert.OptInIdeal.main_v0_1)) (v2 : (c : Dev Cert.OptInIdeal.nD) → Buf (Elt Ideal) ((c.tc : Thread Cert.OptInIdeal.nD Cert.OptInIdeal.τ).loc Cert.OptInIdeal.main_v0_2)) (v3 : (c : Dev Cert.OptInIdeal.nD) → Buf (Elt Ideal) ((c.tc : Thread Cert.OptInIdeal.nD Cert.OptInIdeal.τ).loc Cert.OptInIdeal.main_v0_3)),
      θ_run (Cert.OptInIdeal.defs (F := Ideal)) (onTc (τ := Cert.OptInIdeal.τ) (Cert.OptInIdeal.main (F := Ideal))) ⟨m, fun _ => 0, g⟩ (fun r => ∀ c : Dev Cert.OptInIdeal.nD,
          r.2.mem ((c.tc : Thread Cert.OptInIdeal.nD Cert.OptInIdeal.τ).loc Cert.OptInIdeal.main_v0_0) = v0 c
          ∧ r.2.mem ((c.tc : Thread Cert.OptInIdeal.nD Cert.OptInIdeal.τ).loc Cert.OptInIdeal.main_v0_1) = v1 c
          ∧ r.2.mem ((c.tc : Thread Cert.OptInIdeal.nD Cert.OptInIdeal.τ).loc Cert.OptInIdeal.main_v0_2) = v2 c
          ∧ r.2.mem ((c.tc : Thread Cert.OptInIdeal.nD Cert.OptInIdeal.τ).loc Cert.OptInIdeal.main_v0_3) = v3 c
          ∧ r.2.mem ((c.tc : Thread Cert.OptInIdeal.nD Cert.OptInIdeal.τ).loc Cert.OptInIdeal.main_arg0) = m ((c.tc : Thread Cert.OptInIdeal.nD Cert.OptInIdeal.τ).loc Cert.OptInIdeal.main_arg0)
          ∧ r.2.mem ((c.tc : Thread Cert.OptInIdeal.nD Cert.OptInIdeal.τ).loc Cert.OptInIdeal.main_arg1) = m ((c.tc : Thread Cert.OptInIdeal.nD Cert.OptInIdeal.τ).loc Cert.OptInIdeal.main_arg1)
          ∧ r.2.mem ((c.tc : Thread Cert.OptInIdeal.nD Cert.OptInIdeal.τ).loc Cert.OptInIdeal.main_arg2) = m ((c.tc : Thread Cert.OptInIdeal.nD Cert.OptInIdeal.τ).loc Cert.OptInIdeal.main_arg2)
          ∧ r.2.mem ((c.tc : Thread Cert.OptInIdeal.nD Cert.OptInIdeal.τ).loc Cert.OptInIdeal.main_arg3) = m ((c.tc : Thread Cert.OptInIdeal.nD Cert.OptInIdeal.τ).loc Cert.OptInIdeal.main_arg3))
      ∧ θ_run (Cert.OptInRefIdeal.defs (F := Ideal)) (onTc (τ := Cert.OptInRefIdeal.τ) (Cert.OptInRefIdeal.main (F := Ideal))) ⟨m', fun _ => 0, g'⟩ (fun r => ∀ c : Dev Cert.OptInRefIdeal.nD,
          r.2.mem ((c.tc : Thread Cert.OptInRefIdeal.nD Cert.OptInRefIdeal.τ).loc Cert.OptInRefIdeal.main_v1) = v0 c
          ∧ r.2.mem ((c.tc : Thread Cert.OptInRefIdeal.nD Cert.OptInRefIdeal.τ).loc Cert.OptInRefIdeal.main_v25) = v1 c
          ∧ r.2.mem ((c.tc : Thread Cert.OptInRefIdeal.nD Cert.OptInRefIdeal.τ).loc Cert.OptInRefIdeal.main_v6) = v2 c
          ∧ r.2.mem ((c.tc : Thread Cert.OptInRefIdeal.nD Cert.OptInRefIdeal.τ).loc Cert.OptInRefIdeal.main_v12) = v3 c
          ∧ r.2.mem ((c.tc : Thread Cert.OptInRefIdeal.nD Cert.OptInRefIdeal.τ).loc Cert.OptInRefIdeal.main_arg0) = m' ((c.tc : Thread Cert.OptInRefIdeal.nD Cert.OptInRefIdeal.τ).loc Cert.OptInRefIdeal.main_arg0)
          ∧ r.2.mem ((c.tc : Thread Cert.OptInRefIdeal.nD Cert.OptInRefIdeal.τ).loc Cert.OptInRefIdeal.main_arg1) = m' ((c.tc : Thread Cert.OptInRefIdeal.nD Cert.OptInRefIdeal.τ).loc Cert.OptInRefIdeal.main_arg1)
          ∧ r.2.mem ((c.tc : Thread Cert.OptInRefIdeal.nD Cert.OptInRefIdeal.τ).loc Cert.OptInRefIdeal.main_arg2) = m' ((c.tc : Thread Cert.OptInRefIdeal.nD Cert.OptInRefIdeal.τ).loc Cert.OptInRefIdeal.main_arg2)
          ∧ r.2.mem ((c.tc : Thread Cert.OptInRefIdeal.nD Cert.OptInRefIdeal.τ).loc Cert.OptInRefIdeal.main_arg3) = m' ((c.tc : Thread Cert.OptInRefIdeal.nD Cert.OptInRefIdeal.τ).loc Cert.OptInRefIdeal.main_arg3))

def preserves_OptOut_OptOutIdeal : Prop :=
  True

def algebraic_OptOutIdeal_OptOutRefIdeal [hOptOutIdeal : Cert.OptOutIdeal.Facts] [hOptOutRefIdeal : Cert.OptOutRefIdeal.Facts] : Prop :=
  ∀ (m : (ℓ : Loc Cert.OptOutIdeal.nD Cert.OptOutIdeal.τ Cert.OptOutIdeal.sig) → Buf (Elt Ideal) ℓ) (g : Dev Cert.OptOutIdeal.nD → PrngReg)
    (m' : (ℓ : Loc Cert.OptOutRefIdeal.nD Cert.OptOutRefIdeal.τ Cert.OptOutRefIdeal.sig) → Buf (Elt Ideal) ℓ) (g' : Dev Cert.OptOutRefIdeal.nD → PrngReg), Pre_OptOutIdeal m →
    (∀ c : Dev Cert.OptOutIdeal.nD,
      m' ((c.tc : Thread Cert.OptOutRefIdeal.nD Cert.OptOutRefIdeal.τ).loc Cert.OptOutRefIdeal.main_arg0) = m ((c.tc : Thread Cert.OptOutIdeal.nD Cert.OptOutIdeal.τ).loc Cert.OptOutIdeal.main_arg0)
      ∧ m' ((c.tc : Thread Cert.OptOutRefIdeal.nD Cert.OptOutRefIdeal.τ).loc Cert.OptOutRefIdeal.main_arg1) = m ((c.tc : Thread Cert.OptOutIdeal.nD Cert.OptOutIdeal.τ).loc Cert.OptOutIdeal.main_arg1)
      ∧ m' ((c.tc : Thread Cert.OptOutRefIdeal.nD Cert.OptOutRefIdeal.τ).loc Cert.OptOutRefIdeal.main_arg2) = m ((c.tc : Thread Cert.OptOutIdeal.nD Cert.OptOutIdeal.τ).loc Cert.OptOutIdeal.main_arg2)
      ∧ m' ((c.tc : Thread Cert.OptOutRefIdeal.nD Cert.OptOutRefIdeal.τ).loc Cert.OptOutRefIdeal.main_arg3) = m ((c.tc : Thread Cert.OptOutIdeal.nD Cert.OptOutIdeal.τ).loc Cert.OptOutIdeal.main_arg3)) →
    ∃ (v0 : (c : Dev Cert.OptOutIdeal.nD) → Buf (Elt Ideal) ((c.tc : Thread Cert.OptOutIdeal.nD Cert.OptOutIdeal.τ).loc Cert.OptOutIdeal.main_v0_0)) (v1 : (c : Dev Cert.OptOutIdeal.nD) → Buf (Elt Ideal) ((c.tc : Thread Cert.OptOutIdeal.nD Cert.OptOutIdeal.τ).loc Cert.OptOutIdeal.main_v0_1)) (v2 : (c : Dev Cert.OptOutIdeal.nD) → Buf (Elt Ideal) ((c.tc : Thread Cert.OptOutIdeal.nD Cert.OptOutIdeal.τ).loc Cert.OptOutIdeal.main_v0_2)) (v3 : (c : Dev Cert.OptOutIdeal.nD) → Buf (Elt Ideal) ((c.tc : Thread Cert.OptOutIdeal.nD Cert.OptOutIdeal.τ).loc Cert.OptOutIdeal.main_v0_3)),
      θ_run (Cert.OptOutIdeal.defs (F := Ideal)) (onTc (τ := Cert.OptOutIdeal.τ) (Cert.OptOutIdeal.main (F := Ideal))) ⟨m, fun _ => 0, g⟩ (fun r => ∀ c : Dev Cert.OptOutIdeal.nD,
          r.2.mem ((c.tc : Thread Cert.OptOutIdeal.nD Cert.OptOutIdeal.τ).loc Cert.OptOutIdeal.main_v0_0) = v0 c
          ∧ r.2.mem ((c.tc : Thread Cert.OptOutIdeal.nD Cert.OptOutIdeal.τ).loc Cert.OptOutIdeal.main_v0_1) = v1 c
          ∧ r.2.mem ((c.tc : Thread Cert.OptOutIdeal.nD Cert.OptOutIdeal.τ).loc Cert.OptOutIdeal.main_v0_2) = v2 c
          ∧ r.2.mem ((c.tc : Thread Cert.OptOutIdeal.nD Cert.OptOutIdeal.τ).loc Cert.OptOutIdeal.main_v0_3) = v3 c
          ∧ r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
          ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
          ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
          ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3))
      ∧ θ_run (Cert.OptOutRefIdeal.defs (F := Ideal)) (onTc (τ := Cert.OptOutRefIdeal.τ) (Cert.OptOutRefIdeal.main (F := Ideal))) ⟨m', fun _ => 0, g'⟩ (fun r => ∀ c : Dev Cert.OptOutRefIdeal.nD,
          r.2.mem ((c.tc : Thread Cert.OptOutRefIdeal.nD Cert.OptOutRefIdeal.τ).loc Cert.OptOutRefIdeal.main_v1) = v0 c
          ∧ r.2.mem ((c.tc : Thread Cert.OptOutRefIdeal.nD Cert.OptOutRefIdeal.τ).loc Cert.OptOutRefIdeal.main_v25) = v1 c
          ∧ r.2.mem ((c.tc : Thread Cert.OptOutRefIdeal.nD Cert.OptOutRefIdeal.τ).loc Cert.OptOutRefIdeal.main_v6) = v2 c
          ∧ r.2.mem ((c.tc : Thread Cert.OptOutRefIdeal.nD Cert.OptOutRefIdeal.τ).loc Cert.OptOutRefIdeal.main_v12) = v3 c
          ∧ r.2.mem ((c.tc : Thread Cert.OptOutRefIdeal.nD Cert.OptOutRefIdeal.τ).loc Cert.OptOutRefIdeal.main_arg0) = m' ((c.tc : Thread Cert.OptOutRefIdeal.nD Cert.OptOutRefIdeal.τ).loc Cert.OptOutRefIdeal.main_arg0)
          ∧ r.2.mem ((c.tc : Thread Cert.OptOutRefIdeal.nD Cert.OptOutRefIdeal.τ).loc Cert.OptOutRefIdeal.main_arg1) = m' ((c.tc : Thread Cert.OptOutRefIdeal.nD Cert.OptOutRefIdeal.τ).loc Cert.OptOutRefIdeal.main_arg1)
          ∧ r.2.mem ((c.tc : Thread Cert.OptOutRefIdeal.nD Cert.OptOutRefIdeal.τ).loc Cert.OptOutRefIdeal.main_arg2) = m' ((c.tc : Thread Cert.OptOutRefIdeal.nD Cert.OptOutRefIdeal.τ).loc Cert.OptOutRefIdeal.main_arg2)
          ∧ r.2.mem ((c.tc : Thread Cert.OptOutRefIdeal.nD Cert.OptOutRefIdeal.τ).loc Cert.OptOutRefIdeal.main_arg3) = m' ((c.tc : Thread Cert.OptOutRefIdeal.nD Cert.OptOutRefIdeal.τ).loc Cert.OptOutRefIdeal.main_arg3))

def preserves_OptUp_OptUpIdeal : Prop :=
  True

def algebraic_OptUpIdeal_OptUpRefIdeal [hOptUpIdeal : Cert.OptUpIdeal.Facts] [hOptUpRefIdeal : Cert.OptUpRefIdeal.Facts] : Prop :=
  ∀ (m : (ℓ : Loc Cert.OptUpIdeal.nD Cert.OptUpIdeal.τ Cert.OptUpIdeal.sig) → Buf (Elt Ideal) ℓ) (g : Dev Cert.OptUpIdeal.nD → PrngReg)
    (m' : (ℓ : Loc Cert.OptUpRefIdeal.nD Cert.OptUpRefIdeal.τ Cert.OptUpRefIdeal.sig) → Buf (Elt Ideal) ℓ) (g' : Dev Cert.OptUpRefIdeal.nD → PrngReg), Pre_OptUpIdeal m →
    (∀ c : Dev Cert.OptUpIdeal.nD,
      m' ((c.tc : Thread Cert.OptUpRefIdeal.nD Cert.OptUpRefIdeal.τ).loc Cert.OptUpRefIdeal.main_arg0) = m ((c.tc : Thread Cert.OptUpIdeal.nD Cert.OptUpIdeal.τ).loc Cert.OptUpIdeal.main_arg0)
      ∧ m' ((c.tc : Thread Cert.OptUpRefIdeal.nD Cert.OptUpRefIdeal.τ).loc Cert.OptUpRefIdeal.main_arg1) = m ((c.tc : Thread Cert.OptUpIdeal.nD Cert.OptUpIdeal.τ).loc Cert.OptUpIdeal.main_arg1)
      ∧ m' ((c.tc : Thread Cert.OptUpRefIdeal.nD Cert.OptUpRefIdeal.τ).loc Cert.OptUpRefIdeal.main_arg2) = m ((c.tc : Thread Cert.OptUpIdeal.nD Cert.OptUpIdeal.τ).loc Cert.OptUpIdeal.main_arg2)
      ∧ m' ((c.tc : Thread Cert.OptUpRefIdeal.nD Cert.OptUpRefIdeal.τ).loc Cert.OptUpRefIdeal.main_arg3) = m ((c.tc : Thread Cert.OptUpIdeal.nD Cert.OptUpIdeal.τ).loc Cert.OptUpIdeal.main_arg3)) →
    ∃ (v0 : (c : Dev Cert.OptUpIdeal.nD) → Buf (Elt Ideal) ((c.tc : Thread Cert.OptUpIdeal.nD Cert.OptUpIdeal.τ).loc Cert.OptUpIdeal.main_v0_0)) (v1 : (c : Dev Cert.OptUpIdeal.nD) → Buf (Elt Ideal) ((c.tc : Thread Cert.OptUpIdeal.nD Cert.OptUpIdeal.τ).loc Cert.OptUpIdeal.main_v0_1)) (v2 : (c : Dev Cert.OptUpIdeal.nD) → Buf (Elt Ideal) ((c.tc : Thread Cert.OptUpIdeal.nD Cert.OptUpIdeal.τ).loc Cert.OptUpIdeal.main_v0_2)) (v3 : (c : Dev Cert.OptUpIdeal.nD) → Buf (Elt Ideal) ((c.tc : Thread Cert.OptUpIdeal.nD Cert.OptUpIdeal.τ).loc Cert.OptUpIdeal.main_v0_3)),
      θ_run (Cert.OptUpIdeal.defs (F := Ideal)) (onTc (τ := Cert.OptUpIdeal.τ) (Cert.OptUpIdeal.main (F := Ideal))) ⟨m, fun _ => 0, g⟩ (fun r => ∀ c : Dev Cert.OptUpIdeal.nD,
          r.2.mem ((c.tc : Thread Cert.OptUpIdeal.nD Cert.OptUpIdeal.τ).loc Cert.OptUpIdeal.main_v0_0) = v0 c
          ∧ r.2.mem ((c.tc : Thread Cert.OptUpIdeal.nD Cert.OptUpIdeal.τ).loc Cert.OptUpIdeal.main_v0_1) = v1 c
          ∧ r.2.mem ((c.tc : Thread Cert.OptUpIdeal.nD Cert.OptUpIdeal.τ).loc Cert.OptUpIdeal.main_v0_2) = v2 c
          ∧ r.2.mem ((c.tc : Thread Cert.OptUpIdeal.nD Cert.OptUpIdeal.τ).loc Cert.OptUpIdeal.main_v0_3) = v3 c
          ∧ r.2.mem ((c.tc : Thread Cert.OptUpIdeal.nD Cert.OptUpIdeal.τ).loc Cert.OptUpIdeal.main_arg0) = m ((c.tc : Thread Cert.OptUpIdeal.nD Cert.OptUpIdeal.τ).loc Cert.OptUpIdeal.main_arg0)
          ∧ r.2.mem ((c.tc : Thread Cert.OptUpIdeal.nD Cert.OptUpIdeal.τ).loc Cert.OptUpIdeal.main_arg1) = m ((c.tc : Thread Cert.OptUpIdeal.nD Cert.OptUpIdeal.τ).loc Cert.OptUpIdeal.main_arg1)
          ∧ r.2.mem ((c.tc : Thread Cert.OptUpIdeal.nD Cert.OptUpIdeal.τ).loc Cert.OptUpIdeal.main_arg2) = m ((c.tc : Thread Cert.OptUpIdeal.nD Cert.OptUpIdeal.τ).loc Cert.OptUpIdeal.main_arg2)
          ∧ r.2.mem ((c.tc : Thread Cert.OptUpIdeal.nD Cert.OptUpIdeal.τ).loc Cert.OptUpIdeal.main_arg3) = m ((c.tc : Thread Cert.OptUpIdeal.nD Cert.OptUpIdeal.τ).loc Cert.OptUpIdeal.main_arg3))
      ∧ θ_run (Cert.OptUpRefIdeal.defs (F := Ideal)) (onTc (τ := Cert.OptUpRefIdeal.τ) (Cert.OptUpRefIdeal.main (F := Ideal))) ⟨m', fun _ => 0, g'⟩ (fun r => ∀ c : Dev Cert.OptUpRefIdeal.nD,
          r.2.mem ((c.tc : Thread Cert.OptUpRefIdeal.nD Cert.OptUpRefIdeal.τ).loc Cert.OptUpRefIdeal.main_v1) = v0 c
          ∧ r.2.mem ((c.tc : Thread Cert.OptUpRefIdeal.nD Cert.OptUpRefIdeal.τ).loc Cert.OptUpRefIdeal.main_v25) = v1 c
          ∧ r.2.mem ((c.tc : Thread Cert.OptUpRefIdeal.nD Cert.OptUpRefIdeal.τ).loc Cert.OptUpRefIdeal.main_v6) = v2 c
          ∧ r.2.mem ((c.tc : Thread Cert.OptUpRefIdeal.nD Cert.OptUpRefIdeal.τ).loc Cert.OptUpRefIdeal.main_v12) = v3 c
          ∧ r.2.mem ((c.tc : Thread Cert.OptUpRefIdeal.nD Cert.OptUpRefIdeal.τ).loc Cert.OptUpRefIdeal.main_arg0) = m' ((c.tc : Thread Cert.OptUpRefIdeal.nD Cert.OptUpRefIdeal.τ).loc Cert.OptUpRefIdeal.main_arg0)
          ∧ r.2.mem ((c.tc : Thread Cert.OptUpRefIdeal.nD Cert.OptUpRefIdeal.τ).loc Cert.OptUpRefIdeal.main_arg1) = m' ((c.tc : Thread Cert.OptUpRefIdeal.nD Cert.OptUpRefIdeal.τ).loc Cert.OptUpRefIdeal.main_arg1)
          ∧ r.2.mem ((c.tc : Thread Cert.OptUpRefIdeal.nD Cert.OptUpRefIdeal.τ).loc Cert.OptUpRefIdeal.main_arg2) = m' ((c.tc : Thread Cert.OptUpRefIdeal.nD Cert.OptUpRefIdeal.τ).loc Cert.OptUpRefIdeal.main_arg2)
          ∧ r.2.mem ((c.tc : Thread Cert.OptUpRefIdeal.nD Cert.OptUpRefIdeal.τ).loc Cert.OptUpRefIdeal.main_arg3) = m' ((c.tc : Thread Cert.OptUpRefIdeal.nD Cert.OptUpRefIdeal.τ).loc Cert.OptUpRefIdeal.main_arg3))

def preserves_OptConv_OptConvIdeal : Prop :=
  True

def algebraic_OptConvIdeal_OptConvRefIdeal [hOptConvIdeal : Cert.OptConvIdeal.Facts] [hOptConvRefIdeal : Cert.OptConvRefIdeal.Facts] : Prop :=
  ∀ (m : (ℓ : Loc Cert.OptConvIdeal.nD Cert.OptConvIdeal.τ Cert.OptConvIdeal.sig) → Buf (Elt Ideal) ℓ) (g : Dev Cert.OptConvIdeal.nD → PrngReg)
    (m' : (ℓ : Loc Cert.OptConvRefIdeal.nD Cert.OptConvRefIdeal.τ Cert.OptConvRefIdeal.sig) → Buf (Elt Ideal) ℓ) (g' : Dev Cert.OptConvRefIdeal.nD → PrngReg), Pre_OptConvIdeal m →
    (∀ c : Dev Cert.OptConvIdeal.nD,
      m' ((c.tc : Thread Cert.OptConvRefIdeal.nD Cert.OptConvRefIdeal.τ).loc Cert.OptConvRefIdeal.main_arg0) = m ((c.tc : Thread Cert.OptConvIdeal.nD Cert.OptConvIdeal.τ).loc Cert.OptConvIdeal.main_arg0)
      ∧ m' ((c.tc : Thread Cert.OptConvRefIdeal.nD Cert.OptConvRefIdeal.τ).loc Cert.OptConvRefIdeal.main_arg1) = m ((c.tc : Thread Cert.OptConvIdeal.nD Cert.OptConvIdeal.τ).loc Cert.OptConvIdeal.main_arg1)
      ∧ m' ((c.tc : Thread Cert.OptConvRefIdeal.nD Cert.OptConvRefIdeal.τ).loc Cert.OptConvRefIdeal.main_arg2) = m ((c.tc : Thread Cert.OptConvIdeal.nD Cert.OptConvIdeal.τ).loc Cert.OptConvIdeal.main_arg2)
      ∧ m' ((c.tc : Thread Cert.OptConvRefIdeal.nD Cert.OptConvRefIdeal.τ).loc Cert.OptConvRefIdeal.main_arg3) = m ((c.tc : Thread Cert.OptConvIdeal.nD Cert.OptConvIdeal.τ).loc Cert.OptConvIdeal.main_arg3)) →
    ∃ (v0 : (c : Dev Cert.OptConvIdeal.nD) → Buf (Elt Ideal) ((c.tc : Thread Cert.OptConvIdeal.nD Cert.OptConvIdeal.τ).loc Cert.OptConvIdeal.main_v0_0)) (v1 : (c : Dev Cert.OptConvIdeal.nD) → Buf (Elt Ideal) ((c.tc : Thread Cert.OptConvIdeal.nD Cert.OptConvIdeal.τ).loc Cert.OptConvIdeal.main_v0_1)) (v2 : (c : Dev Cert.OptConvIdeal.nD) → Buf (Elt Ideal) ((c.tc : Thread Cert.OptConvIdeal.nD Cert.OptConvIdeal.τ).loc Cert.OptConvIdeal.main_v0_2)) (v3 : (c : Dev Cert.OptConvIdeal.nD) → Buf (Elt Ideal) ((c.tc : Thread Cert.OptConvIdeal.nD Cert.OptConvIdeal.τ).loc Cert.OptConvIdeal.main_v0_3)),
      θ_run (Cert.OptConvIdeal.defs (F := Ideal)) (onTc (τ := Cert.OptConvIdeal.τ) (Cert.OptConvIdeal.main (F := Ideal))) ⟨m, fun _ => 0, g⟩ (fun r => ∀ c : Dev Cert.OptConvIdeal.nD,
          r.2.mem ((c.tc : Thread Cert.OptConvIdeal.nD Cert.OptConvIdeal.τ).loc Cert.OptConvIdeal.main_v0_0) = v0 c
          ∧ r.2.mem ((c.tc : Thread Cert.OptConvIdeal.nD Cert.OptConvIdeal.τ).loc Cert.OptConvIdeal.main_v0_1) = v1 c
          ∧ r.2.mem ((c.tc : Thread Cert.OptConvIdeal.nD Cert.OptConvIdeal.τ).loc Cert.OptConvIdeal.main_v0_2) = v2 c
          ∧ r.2.mem ((c.tc : Thread Cert.OptConvIdeal.nD Cert.OptConvIdeal.τ).loc Cert.OptConvIdeal.main_v0_3) = v3 c
          ∧ r.2.mem ((c.tc : Thread Cert.OptConvIdeal.nD Cert.OptConvIdeal.τ).loc Cert.OptConvIdeal.main_arg0) = m ((c.tc : Thread Cert.OptConvIdeal.nD Cert.OptConvIdeal.τ).loc Cert.OptConvIdeal.main_arg0)
          ∧ r.2.mem ((c.tc : Thread Cert.OptConvIdeal.nD Cert.OptConvIdeal.τ).loc Cert.OptConvIdeal.main_arg1) = m ((c.tc : Thread Cert.OptConvIdeal.nD Cert.OptConvIdeal.τ).loc Cert.OptConvIdeal.main_arg1)
          ∧ r.2.mem ((c.tc : Thread Cert.OptConvIdeal.nD Cert.OptConvIdeal.τ).loc Cert.OptConvIdeal.main_arg2) = m ((c.tc : Thread Cert.OptConvIdeal.nD Cert.OptConvIdeal.τ).loc Cert.OptConvIdeal.main_arg2)
          ∧ r.2.mem ((c.tc : Thread Cert.OptConvIdeal.nD Cert.OptConvIdeal.τ).loc Cert.OptConvIdeal.main_arg3) = m ((c.tc : Thread Cert.OptConvIdeal.nD Cert.OptConvIdeal.τ).loc Cert.OptConvIdeal.main_arg3))
      ∧ θ_run (Cert.OptConvRefIdeal.defs (F := Ideal)) (onTc (τ := Cert.OptConvRefIdeal.τ) (Cert.OptConvRefIdeal.main (F := Ideal))) ⟨m', fun _ => 0, g'⟩ (fun r => ∀ c : Dev Cert.OptConvRefIdeal.nD,
          r.2.mem ((c.tc : Thread Cert.OptConvRefIdeal.nD Cert.OptConvRefIdeal.τ).loc Cert.OptConvRefIdeal.main_v0) = v0 c
          ∧ r.2.mem ((c.tc : Thread Cert.OptConvRefIdeal.nD Cert.OptConvRefIdeal.τ).loc Cert.OptConvRefIdeal.main_v24) = v1 c
          ∧ r.2.mem ((c.tc : Thread Cert.OptConvRefIdeal.nD Cert.OptConvRefIdeal.τ).loc Cert.OptConvRefIdeal.main_v5) = v2 c
          ∧ r.2.mem ((c.tc : Thread Cert.OptConvRefIdeal.nD Cert.OptConvRefIdeal.τ).loc Cert.OptConvRefIdeal.main_v11) = v3 c
          ∧ r.2.mem ((c.tc : Thread Cert.OptConvRefIdeal.nD Cert.OptConvRefIdeal.τ).loc Cert.OptConvRefIdeal.main_arg0) = m' ((c.tc : Thread Cert.OptConvRefIdeal.nD Cert.OptConvRefIdeal.τ).loc Cert.OptConvRefIdeal.main_arg0)
          ∧ r.2.mem ((c.tc : Thread Cert.OptConvRefIdeal.nD Cert.OptConvRefIdeal.τ).loc Cert.OptConvRefIdeal.main_arg1) = m' ((c.tc : Thread Cert.OptConvRefIdeal.nD Cert.OptConvRefIdeal.τ).loc Cert.OptConvRefIdeal.main_arg1)
          ∧ r.2.mem ((c.tc : Thread Cert.OptConvRefIdeal.nD Cert.OptConvRefIdeal.τ).loc Cert.OptConvRefIdeal.main_arg2) = m' ((c.tc : Thread Cert.OptConvRefIdeal.nD Cert.OptConvRefIdeal.τ).loc Cert.OptConvRefIdeal.main_arg2)
          ∧ r.2.mem ((c.tc : Thread Cert.OptConvRefIdeal.nD Cert.OptConvRefIdeal.τ).loc Cert.OptConvRefIdeal.main_arg3) = m' ((c.tc : Thread Cert.OptConvRefIdeal.nD Cert.OptConvRefIdeal.τ).loc Cert.OptConvRefIdeal.main_arg3))

def preserves_OptDown_OptDownIdeal : Prop :=
  True

def algebraic_OptDownIdeal_OptDownRefIdeal [hOptDownIdeal : Cert.OptDownIdeal.Facts] [hOptDownRefIdeal : Cert.OptDownRefIdeal.Facts] : Prop :=
  ∀ (m : (ℓ : Loc Cert.OptDownIdeal.nD Cert.OptDownIdeal.τ Cert.OptDownIdeal.sig) → Buf (Elt Ideal) ℓ) (g : Dev Cert.OptDownIdeal.nD → PrngReg)
    (m' : (ℓ : Loc Cert.OptDownRefIdeal.nD Cert.OptDownRefIdeal.τ Cert.OptDownRefIdeal.sig) → Buf (Elt Ideal) ℓ) (g' : Dev Cert.OptDownRefIdeal.nD → PrngReg), Pre_OptDownIdeal m →
    (∀ c : Dev Cert.OptDownIdeal.nD,
      m' ((c.tc : Thread Cert.OptDownRefIdeal.nD Cert.OptDownRefIdeal.τ).loc Cert.OptDownRefIdeal.main_arg0) = m ((c.tc : Thread Cert.OptDownIdeal.nD Cert.OptDownIdeal.τ).loc Cert.OptDownIdeal.main_arg0)
      ∧ m' ((c.tc : Thread Cert.OptDownRefIdeal.nD Cert.OptDownRefIdeal.τ).loc Cert.OptDownRefIdeal.main_arg1) = m ((c.tc : Thread Cert.OptDownIdeal.nD Cert.OptDownIdeal.τ).loc Cert.OptDownIdeal.main_arg1)
      ∧ m' ((c.tc : Thread Cert.OptDownRefIdeal.nD Cert.OptDownRefIdeal.τ).loc Cert.OptDownRefIdeal.main_arg2) = m ((c.tc : Thread Cert.OptDownIdeal.nD Cert.OptDownIdeal.τ).loc Cert.OptDownIdeal.main_arg2)
      ∧ m' ((c.tc : Thread Cert.OptDownRefIdeal.nD Cert.OptDownRefIdeal.τ).loc Cert.OptDownRefIdeal.main_arg3) = m ((c.tc : Thread Cert.OptDownIdeal.nD Cert.OptDownIdeal.τ).loc Cert.OptDownIdeal.main_arg3)) →
    ∃ (v0 : (c : Dev Cert.OptDownIdeal.nD) → Buf (Elt Ideal) ((c.tc : Thread Cert.OptDownIdeal.nD Cert.OptDownIdeal.τ).loc Cert.OptDownIdeal.main_v0_0)) (v1 : (c : Dev Cert.OptDownIdeal.nD) → Buf (Elt Ideal) ((c.tc : Thread Cert.OptDownIdeal.nD Cert.OptDownIdeal.τ).loc Cert.OptDownIdeal.main_v0_1)) (v2 : (c : Dev Cert.OptDownIdeal.nD) → Buf (Elt Ideal) ((c.tc : Thread Cert.OptDownIdeal.nD Cert.OptDownIdeal.τ).loc Cert.OptDownIdeal.main_v0_2)) (v3 : (c : Dev Cert.OptDownIdeal.nD) → Buf (Elt Ideal) ((c.tc : Thread Cert.OptDownIdeal.nD Cert.OptDownIdeal.τ).loc Cert.OptDownIdeal.main_v0_3)),
      θ_run (Cert.OptDownIdeal.defs (F := Ideal)) (onTc (τ := Cert.OptDownIdeal.τ) (Cert.OptDownIdeal.main (F := Ideal))) ⟨m, fun _ => 0, g⟩ (fun r => ∀ c : Dev Cert.OptDownIdeal.nD,
          r.2.mem ((c.tc : Thread Cert.OptDownIdeal.nD Cert.OptDownIdeal.τ).loc Cert.OptDownIdeal.main_v0_0) = v0 c
          ∧ r.2.mem ((c.tc : Thread Cert.OptDownIdeal.nD Cert.OptDownIdeal.τ).loc Cert.OptDownIdeal.main_v0_1) = v1 c
          ∧ r.2.mem ((c.tc : Thread Cert.OptDownIdeal.nD Cert.OptDownIdeal.τ).loc Cert.OptDownIdeal.main_v0_2) = v2 c
          ∧ r.2.mem ((c.tc : Thread Cert.OptDownIdeal.nD Cert.OptDownIdeal.τ).loc Cert.OptDownIdeal.main_v0_3) = v3 c
          ∧ r.2.mem ((c.tc : Thread Cert.OptDownIdeal.nD Cert.OptDownIdeal.τ).loc Cert.OptDownIdeal.main_arg0) = m ((c.tc : Thread Cert.OptDownIdeal.nD Cert.OptDownIdeal.τ).loc Cert.OptDownIdeal.main_arg0)
          ∧ r.2.mem ((c.tc : Thread Cert.OptDownIdeal.nD Cert.OptDownIdeal.τ).loc Cert.OptDownIdeal.main_arg1) = m ((c.tc : Thread Cert.OptDownIdeal.nD Cert.OptDownIdeal.τ).loc Cert.OptDownIdeal.main_arg1)
          ∧ r.2.mem ((c.tc : Thread Cert.OptDownIdeal.nD Cert.OptDownIdeal.τ).loc Cert.OptDownIdeal.main_arg2) = m ((c.tc : Thread Cert.OptDownIdeal.nD Cert.OptDownIdeal.τ).loc Cert.OptDownIdeal.main_arg2)
          ∧ r.2.mem ((c.tc : Thread Cert.OptDownIdeal.nD Cert.OptDownIdeal.τ).loc Cert.OptDownIdeal.main_arg3) = m ((c.tc : Thread Cert.OptDownIdeal.nD Cert.OptDownIdeal.τ).loc Cert.OptDownIdeal.main_arg3))
      ∧ θ_run (Cert.OptDownRefIdeal.defs (F := Ideal)) (onTc (τ := Cert.OptDownRefIdeal.τ) (Cert.OptDownRefIdeal.main (F := Ideal))) ⟨m', fun _ => 0, g'⟩ (fun r => ∀ c : Dev Cert.OptDownRefIdeal.nD,
          r.2.mem ((c.tc : Thread Cert.OptDownRefIdeal.nD Cert.OptDownRefIdeal.τ).loc Cert.OptDownRefIdeal.main_v1) = v0 c
          ∧ r.2.mem ((c.tc : Thread Cert.OptDownRefIdeal.nD Cert.OptDownRefIdeal.τ).loc Cert.OptDownRefIdeal.main_v25) = v1 c
          ∧ r.2.mem ((c.tc : Thread Cert.OptDownRefIdeal.nD Cert.OptDownRefIdeal.τ).loc Cert.OptDownRefIdeal.main_v6) = v2 c
          ∧ r.2.mem ((c.tc : Thread Cert.OptDownRefIdeal.nD Cert.OptDownRefIdeal.τ).loc Cert.OptDownRefIdeal.main_v12) = v3 c
          ∧ r.2.mem ((c.tc : Thread Cert.OptDownRefIdeal.nD Cert.OptDownRefIdeal.τ).loc Cert.OptDownRefIdeal.main_arg0) = m' ((c.tc : Thread Cert.OptDownRefIdeal.nD Cert.OptDownRefIdeal.τ).loc Cert.OptDownRefIdeal.main_arg0)
          ∧ r.2.mem ((c.tc : Thread Cert.OptDownRefIdeal.nD Cert.OptDownRefIdeal.τ).loc Cert.OptDownRefIdeal.main_arg1) = m' ((c.tc : Thread Cert.OptDownRefIdeal.nD Cert.OptDownRefIdeal.τ).loc Cert.OptDownRefIdeal.main_arg1)
          ∧ r.2.mem ((c.tc : Thread Cert.OptDownRefIdeal.nD Cert.OptDownRefIdeal.τ).loc Cert.OptDownRefIdeal.main_arg2) = m' ((c.tc : Thread Cert.OptDownRefIdeal.nD Cert.OptDownRefIdeal.τ).loc Cert.OptDownRefIdeal.main_arg2)
          ∧ r.2.mem ((c.tc : Thread Cert.OptDownRefIdeal.nD Cert.OptDownRefIdeal.τ).loc Cert.OptDownRefIdeal.main_arg3) = m' ((c.tc : Thread Cert.OptDownRefIdeal.nD Cert.OptDownRefIdeal.τ).loc Cert.OptDownRefIdeal.main_arg3))

def preserves_OptAda_OptAdaIdeal : Prop :=
  True

def algebraic_OptAdaIdeal_OptAdaRefIdeal [hOptAdaIdeal : Cert.OptAdaIdeal.Facts] [hOptAdaRefIdeal : Cert.OptAdaRefIdeal.Facts] : Prop :=
  ∀ (m : (ℓ : Loc Cert.OptAdaIdeal.nD Cert.OptAdaIdeal.τ Cert.OptAdaIdeal.sig) → Buf (Elt Ideal) ℓ) (g : Dev Cert.OptAdaIdeal.nD → PrngReg)
    (m' : (ℓ : Loc Cert.OptAdaRefIdeal.nD Cert.OptAdaRefIdeal.τ Cert.OptAdaRefIdeal.sig) → Buf (Elt Ideal) ℓ) (g' : Dev Cert.OptAdaRefIdeal.nD → PrngReg), Pre_OptAdaIdeal m →
    (∀ c : Dev Cert.OptAdaIdeal.nD,
      m' ((c.tc : Thread Cert.OptAdaRefIdeal.nD Cert.OptAdaRefIdeal.τ).loc Cert.OptAdaRefIdeal.main_arg0) = m ((c.tc : Thread Cert.OptAdaIdeal.nD Cert.OptAdaIdeal.τ).loc Cert.OptAdaIdeal.main_arg0)
      ∧ m' ((c.tc : Thread Cert.OptAdaRefIdeal.nD Cert.OptAdaRefIdeal.τ).loc Cert.OptAdaRefIdeal.main_arg1) = m ((c.tc : Thread Cert.OptAdaIdeal.nD Cert.OptAdaIdeal.τ).loc Cert.OptAdaIdeal.main_arg1)
      ∧ m' ((c.tc : Thread Cert.OptAdaRefIdeal.nD Cert.OptAdaRefIdeal.τ).loc Cert.OptAdaRefIdeal.main_arg2) = m ((c.tc : Thread Cert.OptAdaIdeal.nD Cert.OptAdaIdeal.τ).loc Cert.OptAdaIdeal.main_arg2)
      ∧ m' ((c.tc : Thread Cert.OptAdaRefIdeal.nD Cert.OptAdaRefIdeal.τ).loc Cert.OptAdaRefIdeal.main_arg3) = m ((c.tc : Thread Cert.OptAdaIdeal.nD Cert.OptAdaIdeal.τ).loc Cert.OptAdaIdeal.main_arg3)) →
    ∃ (v0 : (c : Dev Cert.OptAdaIdeal.nD) → Buf (Elt Ideal) ((c.tc : Thread Cert.OptAdaIdeal.nD Cert.OptAdaIdeal.τ).loc Cert.OptAdaIdeal.main_v0_0)) (v1 : (c : Dev Cert.OptAdaIdeal.nD) → Buf (Elt Ideal) ((c.tc : Thread Cert.OptAdaIdeal.nD Cert.OptAdaIdeal.τ).loc Cert.OptAdaIdeal.main_v0_1)) (v2 : (c : Dev Cert.OptAdaIdeal.nD) → Buf (Elt Ideal) ((c.tc : Thread Cert.OptAdaIdeal.nD Cert.OptAdaIdeal.τ).loc Cert.OptAdaIdeal.main_v0_2)) (v3 : (c : Dev Cert.OptAdaIdeal.nD) → Buf (Elt Ideal) ((c.tc : Thread Cert.OptAdaIdeal.nD Cert.OptAdaIdeal.τ).loc Cert.OptAdaIdeal.main_v0_3)),
      θ_run (Cert.OptAdaIdeal.defs (F := Ideal)) (onTc (τ := Cert.OptAdaIdeal.τ) (Cert.OptAdaIdeal.main (F := Ideal))) ⟨m, fun _ => 0, g⟩ (fun r => ∀ c : Dev Cert.OptAdaIdeal.nD,
          r.2.mem ((c.tc : Thread Cert.OptAdaIdeal.nD Cert.OptAdaIdeal.τ).loc Cert.OptAdaIdeal.main_v0_0) = v0 c
          ∧ r.2.mem ((c.tc : Thread Cert.OptAdaIdeal.nD Cert.OptAdaIdeal.τ).loc Cert.OptAdaIdeal.main_v0_1) = v1 c
          ∧ r.2.mem ((c.tc : Thread Cert.OptAdaIdeal.nD Cert.OptAdaIdeal.τ).loc Cert.OptAdaIdeal.main_v0_2) = v2 c
          ∧ r.2.mem ((c.tc : Thread Cert.OptAdaIdeal.nD Cert.OptAdaIdeal.τ).loc Cert.OptAdaIdeal.main_v0_3) = v3 c
          ∧ r.2.mem ((c.tc : Thread Cert.OptAdaIdeal.nD Cert.OptAdaIdeal.τ).loc Cert.OptAdaIdeal.main_arg0) = m ((c.tc : Thread Cert.OptAdaIdeal.nD Cert.OptAdaIdeal.τ).loc Cert.OptAdaIdeal.main_arg0)
          ∧ r.2.mem ((c.tc : Thread Cert.OptAdaIdeal.nD Cert.OptAdaIdeal.τ).loc Cert.OptAdaIdeal.main_arg1) = m ((c.tc : Thread Cert.OptAdaIdeal.nD Cert.OptAdaIdeal.τ).loc Cert.OptAdaIdeal.main_arg1)
          ∧ r.2.mem ((c.tc : Thread Cert.OptAdaIdeal.nD Cert.OptAdaIdeal.τ).loc Cert.OptAdaIdeal.main_arg2) = m ((c.tc : Thread Cert.OptAdaIdeal.nD Cert.OptAdaIdeal.τ).loc Cert.OptAdaIdeal.main_arg2)
          ∧ r.2.mem ((c.tc : Thread Cert.OptAdaIdeal.nD Cert.OptAdaIdeal.τ).loc Cert.OptAdaIdeal.main_arg3) = m ((c.tc : Thread Cert.OptAdaIdeal.nD Cert.OptAdaIdeal.τ).loc Cert.OptAdaIdeal.main_arg3))
      ∧ θ_run (Cert.OptAdaRefIdeal.defs (F := Ideal)) (onTc (τ := Cert.OptAdaRefIdeal.τ) (Cert.OptAdaRefIdeal.main (F := Ideal))) ⟨m', fun _ => 0, g'⟩ (fun r => ∀ c : Dev Cert.OptAdaRefIdeal.nD,
          r.2.mem ((c.tc : Thread Cert.OptAdaRefIdeal.nD Cert.OptAdaRefIdeal.τ).loc Cert.OptAdaRefIdeal.main_v0) = v0 c
          ∧ r.2.mem ((c.tc : Thread Cert.OptAdaRefIdeal.nD Cert.OptAdaRefIdeal.τ).loc Cert.OptAdaRefIdeal.main_v24) = v1 c
          ∧ r.2.mem ((c.tc : Thread Cert.OptAdaRefIdeal.nD Cert.OptAdaRefIdeal.τ).loc Cert.OptAdaRefIdeal.main_v5) = v2 c
          ∧ r.2.mem ((c.tc : Thread Cert.OptAdaRefIdeal.nD Cert.OptAdaRefIdeal.τ).loc Cert.OptAdaRefIdeal.main_v11) = v3 c
          ∧ r.2.mem ((c.tc : Thread Cert.OptAdaRefIdeal.nD Cert.OptAdaRefIdeal.τ).loc Cert.OptAdaRefIdeal.main_arg0) = m' ((c.tc : Thread Cert.OptAdaRefIdeal.nD Cert.OptAdaRefIdeal.τ).loc Cert.OptAdaRefIdeal.main_arg0)
          ∧ r.2.mem ((c.tc : Thread Cert.OptAdaRefIdeal.nD Cert.OptAdaRefIdeal.τ).loc Cert.OptAdaRefIdeal.main_arg1) = m' ((c.tc : Thread Cert.OptAdaRefIdeal.nD Cert.OptAdaRefIdeal.τ).loc Cert.OptAdaRefIdeal.main_arg1)
          ∧ r.2.mem ((c.tc : Thread Cert.OptAdaRefIdeal.nD Cert.OptAdaRefIdeal.τ).loc Cert.OptAdaRefIdeal.main_arg2) = m' ((c.tc : Thread Cert.OptAdaRefIdeal.nD Cert.OptAdaRefIdeal.τ).loc Cert.OptAdaRefIdeal.main_arg2)
          ∧ r.2.mem ((c.tc : Thread Cert.OptAdaRefIdeal.nD Cert.OptAdaRefIdeal.τ).loc Cert.OptAdaRefIdeal.main_arg3) = m' ((c.tc : Thread Cert.OptAdaRefIdeal.nD Cert.OptAdaRefIdeal.τ).loc Cert.OptAdaRefIdeal.main_arg3))

def preserves_OptSmall_OptSmallIdeal : Prop :=
  True

def algebraic_OptSmallIdeal_OptSmallRefIdeal [hOptSmallIdeal : Cert.OptSmallIdeal.Facts] [hOptSmallRefIdeal : Cert.OptSmallRefIdeal.Facts] : Prop :=
  ∀ (m : (ℓ : Loc Cert.OptSmallIdeal.nD Cert.OptSmallIdeal.τ Cert.OptSmallIdeal.sig) → Buf (Elt Ideal) ℓ) (g : Dev Cert.OptSmallIdeal.nD → PrngReg)
    (m' : (ℓ : Loc Cert.OptSmallRefIdeal.nD Cert.OptSmallRefIdeal.τ Cert.OptSmallRefIdeal.sig) → Buf (Elt Ideal) ℓ) (g' : Dev Cert.OptSmallRefIdeal.nD → PrngReg), Pre_OptSmallIdeal m →
    (∀ c : Dev Cert.OptSmallIdeal.nD,
      m' ((c.tc : Thread Cert.OptSmallRefIdeal.nD Cert.OptSmallRefIdeal.τ).loc Cert.OptSmallRefIdeal.main_arg0) = m ((c.tc : Thread Cert.OptSmallIdeal.nD Cert.OptSmallIdeal.τ).loc Cert.OptSmallIdeal.main_arg0)
      ∧ m' ((c.tc : Thread Cert.OptSmallRefIdeal.nD Cert.OptSmallRefIdeal.τ).loc Cert.OptSmallRefIdeal.main_arg1) = m ((c.tc : Thread Cert.OptSmallIdeal.nD Cert.OptSmallIdeal.τ).loc Cert.OptSmallIdeal.main_arg1)
      ∧ m' ((c.tc : Thread Cert.OptSmallRefIdeal.nD Cert.OptSmallRefIdeal.τ).loc Cert.OptSmallRefIdeal.main_arg2) = m ((c.tc : Thread Cert.OptSmallIdeal.nD Cert.OptSmallIdeal.τ).loc Cert.OptSmallIdeal.main_arg2)
      ∧ m' ((c.tc : Thread Cert.OptSmallRefIdeal.nD Cert.OptSmallRefIdeal.τ).loc Cert.OptSmallRefIdeal.main_arg3) = m ((c.tc : Thread Cert.OptSmallIdeal.nD Cert.OptSmallIdeal.τ).loc Cert.OptSmallIdeal.main_arg3)) →
    ∃ (v0 : (c : Dev Cert.OptSmallIdeal.nD) → Buf (Elt Ideal) ((c.tc : Thread Cert.OptSmallIdeal.nD Cert.OptSmallIdeal.τ).loc Cert.OptSmallIdeal.main_v0_0)) (v1 : (c : Dev Cert.OptSmallIdeal.nD) → Buf (Elt Ideal) ((c.tc : Thread Cert.OptSmallIdeal.nD Cert.OptSmallIdeal.τ).loc Cert.OptSmallIdeal.main_v0_1)) (v2 : (c : Dev Cert.OptSmallIdeal.nD) → Buf (Elt Ideal) ((c.tc : Thread Cert.OptSmallIdeal.nD Cert.OptSmallIdeal.τ).loc Cert.OptSmallIdeal.main_v0_2)) (v3 : (c : Dev Cert.OptSmallIdeal.nD) → Buf (Elt Ideal) ((c.tc : Thread Cert.OptSmallIdeal.nD Cert.OptSmallIdeal.τ).loc Cert.OptSmallIdeal.main_v0_3)),
      θ_run (Cert.OptSmallIdeal.defs (F := Ideal)) (onTc (τ := Cert.OptSmallIdeal.τ) (Cert.OptSmallIdeal.main (F := Ideal))) ⟨m, fun _ => 0, g⟩ (fun r => ∀ c : Dev Cert.OptSmallIdeal.nD,
          r.2.mem ((c.tc : Thread Cert.OptSmallIdeal.nD Cert.OptSmallIdeal.τ).loc Cert.OptSmallIdeal.main_v0_0) = v0 c
          ∧ r.2.mem ((c.tc : Thread Cert.OptSmallIdeal.nD Cert.OptSmallIdeal.τ).loc Cert.OptSmallIdeal.main_v0_1) = v1 c
          ∧ r.2.mem ((c.tc : Thread Cert.OptSmallIdeal.nD Cert.OptSmallIdeal.τ).loc Cert.OptSmallIdeal.main_v0_2) = v2 c
          ∧ r.2.mem ((c.tc : Thread Cert.OptSmallIdeal.nD Cert.OptSmallIdeal.τ).loc Cert.OptSmallIdeal.main_v0_3) = v3 c
          ∧ r.2.mem ((c.tc : Thread Cert.OptSmallIdeal.nD Cert.OptSmallIdeal.τ).loc Cert.OptSmallIdeal.main_arg0) = m ((c.tc : Thread Cert.OptSmallIdeal.nD Cert.OptSmallIdeal.τ).loc Cert.OptSmallIdeal.main_arg0)
          ∧ r.2.mem ((c.tc : Thread Cert.OptSmallIdeal.nD Cert.OptSmallIdeal.τ).loc Cert.OptSmallIdeal.main_arg1) = m ((c.tc : Thread Cert.OptSmallIdeal.nD Cert.OptSmallIdeal.τ).loc Cert.OptSmallIdeal.main_arg1)
          ∧ r.2.mem ((c.tc : Thread Cert.OptSmallIdeal.nD Cert.OptSmallIdeal.τ).loc Cert.OptSmallIdeal.main_arg2) = m ((c.tc : Thread Cert.OptSmallIdeal.nD Cert.OptSmallIdeal.τ).loc Cert.OptSmallIdeal.main_arg2)
          ∧ r.2.mem ((c.tc : Thread Cert.OptSmallIdeal.nD Cert.OptSmallIdeal.τ).loc Cert.OptSmallIdeal.main_arg3) = m ((c.tc : Thread Cert.OptSmallIdeal.nD Cert.OptSmallIdeal.τ).loc Cert.OptSmallIdeal.main_arg3))
      ∧ θ_run (Cert.OptSmallRefIdeal.defs (F := Ideal)) (onTc (τ := Cert.OptSmallRefIdeal.τ) (Cert.OptSmallRefIdeal.main (F := Ideal))) ⟨m', fun _ => 0, g'⟩ (fun r => ∀ c : Dev Cert.OptSmallRefIdeal.nD,
          r.2.mem ((c.tc : Thread Cert.OptSmallRefIdeal.nD Cert.OptSmallRefIdeal.τ).loc Cert.OptSmallRefIdeal.main_v1) = v0 c
          ∧ r.2.mem ((c.tc : Thread Cert.OptSmallRefIdeal.nD Cert.OptSmallRefIdeal.τ).loc Cert.OptSmallRefIdeal.main_v25) = v1 c
          ∧ r.2.mem ((c.tc : Thread Cert.OptSmallRefIdeal.nD Cert.OptSmallRefIdeal.τ).loc Cert.OptSmallRefIdeal.main_v6) = v2 c
          ∧ r.2.mem ((c.tc : Thread Cert.OptSmallRefIdeal.nD Cert.OptSmallRefIdeal.τ).loc Cert.OptSmallRefIdeal.main_v12) = v3 c
          ∧ r.2.mem ((c.tc : Thread Cert.OptSmallRefIdeal.nD Cert.OptSmallRefIdeal.τ).loc Cert.OptSmallRefIdeal.main_arg0) = m' ((c.tc : Thread Cert.OptSmallRefIdeal.nD Cert.OptSmallRefIdeal.τ).loc Cert.OptSmallRefIdeal.main_arg0)
          ∧ r.2.mem ((c.tc : Thread Cert.OptSmallRefIdeal.nD Cert.OptSmallRefIdeal.τ).loc Cert.OptSmallRefIdeal.main_arg1) = m' ((c.tc : Thread Cert.OptSmallRefIdeal.nD Cert.OptSmallRefIdeal.τ).loc Cert.OptSmallRefIdeal.main_arg1)
          ∧ r.2.mem ((c.tc : Thread Cert.OptSmallRefIdeal.nD Cert.OptSmallRefIdeal.τ).loc Cert.OptSmallRefIdeal.main_arg2) = m' ((c.tc : Thread Cert.OptSmallRefIdeal.nD Cert.OptSmallRefIdeal.τ).loc Cert.OptSmallRefIdeal.main_arg2)
          ∧ r.2.mem ((c.tc : Thread Cert.OptSmallRefIdeal.nD Cert.OptSmallRefIdeal.τ).loc Cert.OptSmallRefIdeal.main_arg3) = m' ((c.tc : Thread Cert.OptSmallRefIdeal.nD Cert.OptSmallRefIdeal.τ).loc Cert.OptSmallRefIdeal.main_arg3))

def preserves_AttnFwd_AttnFwdIdeal : Prop :=
  True

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v28) = v0 c
          ∧ r.2.mem ((c.tc : Thread Cert.AttnFwdRefIdeal.nD Cert.AttnFwdRefIdeal.τ).loc Cert.AttnFwdRefIdeal.main_v32) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def Claim : Prop :=
  ∃ (hLossHead : Cert.LossHead.Facts) (hLossHeadIdeal : Cert.LossHeadIdeal.Facts) (hLossHeadRefIdeal : Cert.LossHeadRefIdeal.Facts) (hLnMod : Cert.LnMod.Facts) (hLnModIdeal : Cert.LnModIdeal.Facts) (hLnModRefIdeal : Cert.LnModRefIdeal.Facts) (hGate : Cert.Gate.Facts) (hGateIdeal : Cert.GateIdeal.Facts) (hGateRefIdeal : Cert.GateRefIdeal.Facts) (hDAct : Cert.DAct.Facts) (hDActIdeal : Cert.DActIdeal.Facts) (hDActRefIdeal : Cert.DActRefIdeal.Facts) (hDWDown : Cert.DWDown.Facts) (hDWDownIdeal : Cert.DWDownIdeal.Facts) (hDWDownRefIdeal : Cert.DWDownRefIdeal.Facts) (hDH2 : Cert.DH2.Facts) (hDH2Ideal : Cert.DH2Ideal.Facts) (hDH2RefIdeal : Cert.DH2RefIdeal.Facts) (hDWUp : Cert.DWUp.Facts) (hDWUpIdeal : Cert.DWUpIdeal.Facts) (hDWUpRefIdeal : Cert.DWUpRefIdeal.Facts) (hDO : Cert.DO.Facts) (hDOIdeal : Cert.DOIdeal.Facts) (hDORefIdeal : Cert.DORefIdeal.Facts) (hDWOut : Cert.DWOut.Facts) (hDWOutIdeal : Cert.DWOutIdeal.Facts) (hDWOutRefIdeal : Cert.DWOutRefIdeal.Facts) (hDH : Cert.DH.Facts) (hDHIdeal : Cert.DHIdeal.Facts) (hDHRefIdeal : Cert.DHRefIdeal.Facts) (hDWIn : Cert.DWIn.Facts) (hDWInIdeal : Cert.DWInIdeal.Facts) (hDWInRefIdeal : Cert.DWInRefIdeal.Facts) (hMIn : Cert.MIn.Facts) (hMInIdeal : Cert.MInIdeal.Facts) (hMInRefIdeal : Cert.MInRefIdeal.Facts) (hMOut : Cert.MOut.Facts) (hMOutIdeal : Cert.MOutIdeal.Facts) (hMOutRefIdeal : Cert.MOutRefIdeal.Facts) (hMUp : Cert.MUp.Facts) (hMUpIdeal : Cert.MUpIdeal.Facts) (hMUpRefIdeal : Cert.MUpRefIdeal.Facts) (hMDown : Cert.MDown.Facts) (hMDownIdeal : Cert.MDownIdeal.Facts) (hMDownRefIdeal : Cert.MDownRefIdeal.Facts) (hOptIn : Cert.OptIn.Facts) (hOptInIdeal : Cert.OptInIdeal.Facts) (hOptInRefIdeal : Cert.OptInRefIdeal.Facts) (hOptOut : Cert.OptOut.Facts) (hOptOutIdeal : Cert.OptOutIdeal.Facts) (hOptOutRefIdeal : Cert.OptOutRefIdeal.Facts) (hOptUp : Cert.OptUp.Facts) (hOptUpIdeal : Cert.OptUpIdeal.Facts) (hOptUpRefIdeal : Cert.OptUpRefIdeal.Facts) (hOptConv : Cert.OptConv.Facts) (hOptConvIdeal : Cert.OptConvIdeal.Facts) (hOptConvRefIdeal : Cert.OptConvRefIdeal.Facts) (hOptDown : Cert.OptDown.Facts) (hOptDownIdeal : Cert.OptDownIdeal.Facts) (hOptDownRefIdeal : Cert.OptDownRefIdeal.Facts) (hOptAda : Cert.OptAda.Facts) (hOptAdaIdeal : Cert.OptAdaIdeal.Facts) (hOptAdaRefIdeal : Cert.OptAdaRefIdeal.Facts) (hOptSmall : Cert.OptSmall.Facts) (hOptSmallIdeal : Cert.OptSmallIdeal.Facts) (hOptSmallRefIdeal : Cert.OptSmallRefIdeal.Facts) (hAttnFwd : Cert.AttnFwd.Facts) (hAttnFwdIdeal : Cert.AttnFwdIdeal.Facts) (hAttnFwdRefIdeal : Cert.AttnFwdRefIdeal.Facts) (hPre_finite_qk : Cert.Pre_finite_qk.Facts),
    quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_LnMod (hLnMod := hLnMod)
    ∧ quiescent_LnModIdeal (hLnModIdeal := hLnModIdeal)
    ∧ quiescent_LnModRefIdeal (hLnModRefIdeal := hLnModRefIdeal)
    ∧ quiescent_Gate (hGate := hGate)
    ∧ quiescent_GateIdeal (hGateIdeal := hGateIdeal)
    ∧ quiescent_GateRefIdeal (hGateRefIdeal := hGateRefIdeal)
    ∧ quiescent_DAct (hDAct := hDAct)
    ∧ quiescent_DActIdeal (hDActIdeal := hDActIdeal)
    ∧ quiescent_DActRefIdeal (hDActRefIdeal := hDActRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DWUp (hDWUp := hDWUp)
    ∧ quiescent_DWUpIdeal (hDWUpIdeal := hDWUpIdeal)
    ∧ quiescent_DWUpRefIdeal (hDWUpRefIdeal := hDWUpRefIdeal)
    ∧ quiescent_DO (hDO := hDO)
    ∧ quiescent_DOIdeal (hDOIdeal := hDOIdeal)
    ∧ quiescent_DORefIdeal (hDORefIdeal := hDORefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DH (hDH := hDH)
    ∧ quiescent_DHIdeal (hDHIdeal := hDHIdeal)
    ∧ quiescent_DHRefIdeal (hDHRefIdeal := hDHRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_MIn (hMIn := hMIn)
    ∧ quiescent_MInIdeal (hMInIdeal := hMInIdeal)
    ∧ quiescent_MInRefIdeal (hMInRefIdeal := hMInRefIdeal)
    ∧ quiescent_MOut (hMOut := hMOut)
    ∧ quiescent_MOutIdeal (hMOutIdeal := hMOutIdeal)
    ∧ quiescent_MOutRefIdeal (hMOutRefIdeal := hMOutRefIdeal)
    ∧ quiescent_MUp (hMUp := hMUp)
    ∧ quiescent_MUpIdeal (hMUpIdeal := hMUpIdeal)
    ∧ quiescent_MUpRefIdeal (hMUpRefIdeal := hMUpRefIdeal)
    ∧ quiescent_MDown (hMDown := hMDown)
    ∧ quiescent_MDownIdeal (hMDownIdeal := hMDownIdeal)
    ∧ quiescent_MDownRefIdeal (hMDownRefIdeal := hMDownRefIdeal)
    ∧ quiescent_OptIn (hOptIn := hOptIn)
    ∧ quiescent_OptInIdeal (hOptInIdeal := hOptInIdeal)
    ∧ quiescent_OptInRefIdeal (hOptInRefIdeal := hOptInRefIdeal)
    ∧ quiescent_OptOut (hOptOut := hOptOut)
    ∧ quiescent_OptOutIdeal (hOptOutIdeal := hOptOutIdeal)
    ∧ quiescent_OptOutRefIdeal (hOptOutRefIdeal := hOptOutRefIdeal)
    ∧ quiescent_OptUp (hOptUp := hOptUp)
    ∧ quiescent_OptUpIdeal (hOptUpIdeal := hOptUpIdeal)
    ∧ quiescent_OptUpRefIdeal (hOptUpRefIdeal := hOptUpRefIdeal)
    ∧ quiescent_OptConv (hOptConv := hOptConv)
    ∧ quiescent_OptConvIdeal (hOptConvIdeal := hOptConvIdeal)
    ∧ quiescent_OptConvRefIdeal (hOptConvRefIdeal := hOptConvRefIdeal)
    ∧ quiescent_OptDown (hOptDown := hOptDown)
    ∧ quiescent_OptDownIdeal (hOptDownIdeal := hOptDownIdeal)
    ∧ quiescent_OptDownRefIdeal (hOptDownRefIdeal := hOptDownRefIdeal)
    ∧ quiescent_OptAda (hOptAda := hOptAda)
    ∧ quiescent_OptAdaIdeal (hOptAdaIdeal := hOptAdaIdeal)
    ∧ quiescent_OptAdaRefIdeal (hOptAdaRefIdeal := hOptAdaRefIdeal)
    ∧ quiescent_OptSmall (hOptSmall := hOptSmall)
    ∧ quiescent_OptSmallIdeal (hOptSmallIdeal := hOptSmallIdeal)
    ∧ quiescent_OptSmallRefIdeal (hOptSmallRefIdeal := hOptSmallRefIdeal)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ preserves_LossHead_LossHeadIdeal
    ∧ algebraic_LossHeadIdeal_LossHeadRefIdeal (hLossHeadIdeal := hLossHeadIdeal) (hLossHeadRefIdeal := hLossHeadRefIdeal)
    ∧ preserves_LnMod_LnModIdeal
    ∧ algebraic_LnModIdeal_LnModRefIdeal (hLnModIdeal := hLnModIdeal) (hLnModRefIdeal := hLnModRefIdeal)
    ∧ preserves_Gate_GateIdeal
    ∧ algebraic_GateIdeal_GateRefIdeal (hGateIdeal := hGateIdeal) (hGateRefIdeal := hGateRefIdeal)
    ∧ preserves_DAct_DActIdeal
    ∧ algebraic_DActIdeal_DActRefIdeal (hDActIdeal := hDActIdeal) (hDActRefIdeal := hDActRefIdeal)
    ∧ preserves_DWDown_DWDownIdeal
    ∧ algebraic_DWDownIdeal_DWDownRefIdeal (hDWDownIdeal := hDWDownIdeal) (hDWDownRefIdeal := hDWDownRefIdeal)
    ∧ preserves_DH2_DH2Ideal
    ∧ algebraic_DH2Ideal_DH2RefIdeal (hDH2Ideal := hDH2Ideal) (hDH2RefIdeal := hDH2RefIdeal)
    ∧ preserves_DWUp_DWUpIdeal
    ∧ algebraic_DWUpIdeal_DWUpRefIdeal (hDWUpIdeal := hDWUpIdeal) (hDWUpRefIdeal := hDWUpRefIdeal)
    ∧ preserves_DO_DOIdeal
    ∧ algebraic_DOIdeal_DORefIdeal (hDOIdeal := hDOIdeal) (hDORefIdeal := hDORefIdeal)
    ∧ preserves_DWOut_DWOutIdeal
    ∧ algebraic_DWOutIdeal_DWOutRefIdeal (hDWOutIdeal := hDWOutIdeal) (hDWOutRefIdeal := hDWOutRefIdeal)
    ∧ preserves_DH_DHIdeal
    ∧ algebraic_DHIdeal_DHRefIdeal (hDHIdeal := hDHIdeal) (hDHRefIdeal := hDHRefIdeal)
    ∧ preserves_DWIn_DWInIdeal
    ∧ algebraic_DWInIdeal_DWInRefIdeal (hDWInIdeal := hDWInIdeal) (hDWInRefIdeal := hDWInRefIdeal)
    ∧ preserves_MIn_MInIdeal
    ∧ algebraic_MInIdeal_MInRefIdeal (hMInIdeal := hMInIdeal) (hMInRefIdeal := hMInRefIdeal)
    ∧ preserves_MOut_MOutIdeal
    ∧ algebraic_MOutIdeal_MOutRefIdeal (hMOutIdeal := hMOutIdeal) (hMOutRefIdeal := hMOutRefIdeal)
    ∧ preserves_MUp_MUpIdeal
    ∧ algebraic_MUpIdeal_MUpRefIdeal (hMUpIdeal := hMUpIdeal) (hMUpRefIdeal := hMUpRefIdeal)
    ∧ preserves_MDown_MDownIdeal
    ∧ algebraic_MDownIdeal_MDownRefIdeal (hMDownIdeal := hMDownIdeal) (hMDownRefIdeal := hMDownRefIdeal)
    ∧ preserves_OptIn_OptInIdeal
    ∧ algebraic_OptInIdeal_OptInRefIdeal (hOptInIdeal := hOptInIdeal) (hOptInRefIdeal := hOptInRefIdeal)
    ∧ preserves_OptOut_OptOutIdeal
    ∧ algebraic_OptOutIdeal_OptOutRefIdeal (hOptOutIdeal := hOptOutIdeal) (hOptOutRefIdeal := hOptOutRefIdeal)
    ∧ preserves_OptUp_OptUpIdeal
    ∧ algebraic_OptUpIdeal_OptUpRefIdeal (hOptUpIdeal := hOptUpIdeal) (hOptUpRefIdeal := hOptUpRefIdeal)
    ∧ preserves_OptConv_OptConvIdeal
    ∧ algebraic_OptConvIdeal_OptConvRefIdeal (hOptConvIdeal := hOptConvIdeal) (hOptConvRefIdeal := hOptConvRefIdeal)
    ∧ preserves_OptDown_OptDownIdeal
    ∧ algebraic_OptDownIdeal_OptDownRefIdeal (hOptDownIdeal := hOptDownIdeal) (hOptDownRefIdeal := hOptDownRefIdeal)
    ∧ preserves_OptAda_OptAdaIdeal
    ∧ algebraic_OptAdaIdeal_OptAdaRefIdeal (hOptAdaIdeal := hOptAdaIdeal) (hOptAdaRefIdeal := hOptAdaRefIdeal)
    ∧ preserves_OptSmall_OptSmallIdeal
    ∧ algebraic_OptSmallIdeal_OptSmallRefIdeal (hOptSmallIdeal := hOptSmallIdeal) (hOptSmallRefIdeal := hOptSmallRefIdeal)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
-- ==== Pre_finite_qk.lean ====
abbrev S4096x1024 : Shape := ⟨2, ![4096, 1024]⟩
abbrev S4096x2048 : Shape := ⟨2, ![4096, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x2048 .f32) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== LossHead.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_cst_9 : Ref sig .tc := ⟨.hbm, 29, rfl⟩
abbrev main_v17 : Ref sig .tc := ⟨.hbm, 30, rfl⟩
abbrev main_v18 : Ref sig .tc := ⟨.hbm, 31, rfl⟩
abbrev main_cst_10 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== LnMod.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_21 : BitVec 32 := 0#32
  let v56 : BitVec 1 := Scalar.cmpi .ne v55 c0_i32_21
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_22 : BitVec 32 := 0#32
  let v59 : BitVec 1 := Scalar.cmpi .ne v58 c0_i32_22
  v59

def k0_cond3 (i : grid0.Coords) : BitVec 1 :=
  let arg0 : BitVec 32 := BitVec.ofNat 32 (i 0).val
  let c0_i32 : BitVec 32 := 0#32
  let v54 : BitVec 1 := Scalar.cmpi .eq arg0 c0_i32
  let v60 : BitVec 32 := Scalar.extui v54
  let c0_i32_23 : BitVec 32 := 0#32
  let v61 : BitVec 1 := Scalar.cmpi .ne v60 c0_i32_23
  v61

def k0_cond4 (i : grid0.Coords) : BitVec 1 :=
  let arg0 : BitVec 32 := BitVec.ofNat 32 (i 0).val
  let c0_i32 : BitVec 32 := 0#32
  let v54 : BitVec 1 := Scalar.cmpi .eq arg0 c0_i32
  let true_24 : BitVec 1 := 1#1
  let v62 : BitVec 1 := Scalar.xori v54 true_24
  let v63 : BitVec 32 := Scalar.extui v62
  let c0_i32_25 : BitVec 32 := 0#32
  let v64 : BitVec 1 := Scalar.cmpi .ne v63 c0_i32_25
  v64

def k0_cond5 (i : grid0.Coords) : BitVec 1 :=
  let arg0 : BitVec 32 := BitVec.ofNat 32 (i 0).val
  let c0_i32 : BitVec 32 := 0#32
  let v54 : BitVec 1 := Scalar.cmpi .eq arg0 c0_i32
  let v65 : BitVec 32 := Scalar.extui v54
  let c0_i32_26 : BitVec 32 := 0#32
  let v66 : BitVec 1 := Scalar.cmpi .ne v65 c0_i32_26
  v66

def k0_cond6 (i : grid0.Coords) : BitVec 1 :=
  let arg0 : BitVec 32 := BitVec.ofNat 32 (i 0).val
  let c0_i32 : BitVec 32 := 0#32
  let v54 : BitVec 1 := Scalar.cmpi .eq arg0 c0_i32
  let true_27 : BitVec 1 := 1#1
  let v67 : BitVec 1 := Scalar.xori v54 true_27
  let v68 : BitVec 32 := Scalar.extui v67
  let c0_i32_28 : BitVec 32 := 0#32
  let v69 : BitVec 1 := Scalar.cmpi .ne v68 c0_i32_28
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnModRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S1x1024, .f32⟩
  | .hbm, ⟨77, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Gate.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32 : BitVec 32 := 0#32
  let v11 : BitVec 1 := Scalar.cmpi .eq arg0 c0_i32
  let v_true : BitVec 1 := 1#1
  let v14 : BitVec 1 := Scalar.xori v11 v_true
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S4096x1024 : Shape := ⟨2, ![4096, 1024]⟩
abbrev S1024 : Shape := ⟨1, ![1024]⟩
abbrev S1x1024 : Shape := ⟨2, ![1, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S4096x1024, .bf16⟩
  | .hbm, ⟨15, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S4x704x1024, .f32⟩
  | .hbm, ⟨3, _⟩ => ⟨S4x704x1024, .bf16⟩
  | .hbm, ⟨4, _⟩ => ⟨S4x4096x704, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .f32⟩
  | .local _ .vmem, ⟨5, _⟩ => ⟨S1x1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DActRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x4x704, .f32⟩
  | .hbm, ⟨6, _⟩ => ⟨S4x4096x704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DWDown.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S4096x512 : Shape := ⟨2, ![4096, 512]⟩
abbrev S1x704x512 : Shape := ⟨3, ![1, 704, 512]⟩
abbrev S4096x704 : Shape := ⟨2, ![4096, 704]⟩
abbrev S704x512 : Shape := ⟨2, ![704, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x512, .bf16⟩
  | .local _ .vmem, ⟨3, _⟩ => ⟨S4096x512, .bf16⟩
  | .local _ .vmem, ⟨4, _⟩ => ⟨S1x704x512, .bf16⟩
  | .local _ .vmem, ⟨5, _⟩ => ⟨S1x704x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWDownRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x4096, .bf16⟩
  | .hbm, ⟨3, _⟩ => ⟨S2816x4096, .f32⟩
  | .hbm, ⟨4, _⟩ => ⟨S4096x1024, .f32⟩
  | .hbm, ⟨5, _⟩ => ⟨S2816x1024, .f32⟩
  | .hbm, ⟨6, _⟩ => ⟨S2816x1024, .bf16⟩
  | .hbm, ⟨7, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DH2.lean ====
abbrev S4096x5632 : Shape := ⟨2, ![4096, 5632]⟩
abbrev S1024x5632 : Shape := ⟨2, ![1024, 5632]⟩
abbrev S4096x8x704 : Shape := ⟨3, ![4096, 8, 704]⟩
abbrev S8x4096x704 : Shape := ⟨3, ![8, 4096, 704]⟩
abbrev S1024x8x704 : Shape := ⟨3, ![1024, 8, 704]⟩
abbrev S8x1024x704 : Shape := ⟨3, ![8, 1024, 704]⟩
abbrev S4096x1024 : Shape := ⟨2, ![4096, 1024]⟩
abbrev S8x256x704 : Shape := ⟨3, ![8, 256, 704]⟩
abbrev S256x1024 : Shape := ⟨2, ![256, 1024]⟩
abbrev S1x256x704 : Shape := ⟨3, ![1, 256, 704]⟩
abbrev S256x704 : Shape := ⟨2, ![256, 704]⟩
abbrev S1x1024x704 : Shape := ⟨3, ![1, 1024, 704]⟩
abbrev S1024x704 : Shape := ⟨2, ![1024, 704]⟩

abbrev nBuf : Space → Nat
  | .hbm => 8
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x8x704, .bf16⟩
  | .hbm, ⟨3, _⟩ => ⟨S8x4096x704, .bf16⟩
  | .hbm, ⟨4, _⟩ => ⟨S1024x8x704, .f32⟩
  | .hbm, ⟨5, _⟩ => ⟨S8x1024x704, .f32⟩
  | .hbm, ⟨6, _⟩ => ⟨S8x1024x704, .bf16⟩
  | .hbm, ⟨7, _⟩ => ⟨S4096x1024, .f32⟩
  | .local _ .vmem, ⟨0, _⟩ => ⟨S8x256x704, .bf16⟩
  | .local _ .vmem, ⟨1, _⟩ => ⟨S8x256x704, .bf16⟩
  | .local _ .vmem, ⟨2, _⟩ => ⟨S8x1024x704, .bf16⟩
  | .local _ .vmem, ⟨3, _⟩ => ⟨S256x1024, .f32⟩
  | .local _ .vmem, ⟨4, _⟩ => ⟨S256x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DH2RefIdeal.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S5632x1024, .f32⟩
  | .hbm, ⟨3, _⟩ => ⟨S4096x5632, .f32⟩
  | .hbm, ⟨4, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DWUp.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x1024x704 : Shape := ⟨3, ![8, 1024, 704]⟩
abbrev S1x4096x704 : Shape := ⟨3, ![1, 4096, 704]⟩
abbrev S1x1024x704 : Shape := ⟨3, ![1, 1024, 704]⟩
abbrev S4096x704 : Shape := ⟨2, ![4096, 704]⟩
abbrev S1024x704 : Shape := ⟨2, ![1024, 704]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x8x704, .bf16⟩
  | .hbm, ⟨3, _⟩ => ⟨S8x4096x704, .bf16⟩
  | .hbm, ⟨4, _⟩ => ⟨S8x1024x704, .bf16⟩
  | .local _ .vmem, ⟨0, _⟩ => ⟨S4096x1024, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x1024x704, .bf16⟩
  | .local _ .vmem, ⟨4, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DWUpRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩
abbrev S1024x8x704 : Shape := ⟨3, ![1024, 8, 704]⟩
abbrev S8x1024x704 : Shape := ⟨3, ![8, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x4096, .bf16⟩
  | .hbm, ⟨3, _⟩ => ⟨S1024x4096, .f32⟩
  | .hbm, ⟨4, _⟩ => ⟨S4096x5632, .f32⟩
  | .hbm, ⟨5, _⟩ => ⟨S1024x5632, .f32⟩
  | .hbm, ⟨6, _⟩ => ⟨S1024x5632, .bf16⟩
  | .hbm, ⟨7, _⟩ => ⟨S1024x8x704, .bf16⟩
  | .hbm, ⟨8, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DO.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DORefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DWOut.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWOutRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DH.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S1024x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DHRefIdeal.lean ====
abbrev S4096x2048 : Shape := ⟨2, ![4096, 2048]⟩
abbrev S1024x2048 : Shape := ⟨2, ![1024, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S2048x1024, .f32⟩
  | .hbm, ⟨3, _⟩ => ⟨S4096x2048, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DWIn.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DWInRefIdeal.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x4096, .bf16⟩
  | .hbm, ⟨3, _⟩ => ⟨S1024x4096, .f32⟩
  | .hbm, ⟨4, _⟩ => ⟨S4096x2048, .f32⟩
  | .hbm, ⟨5, _⟩ => ⟨S1024x2048, .f32⟩
  | .hbm, ⟨6, _⟩ => ⟨S1024x2048, .bf16⟩
  | .hbm, ⟨7, _⟩ => ⟨S1024x8x256, .bf16⟩
  | .hbm, ⟨8, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MIn.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S1024x2048, .bf16⟩
  | .hbm, ⟨3, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x1024, .f32⟩
  | .hbm, ⟨3, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MOutRefIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MUp.lean ====
abbrev S4096x1024 : Shape := ⟨2, ![4096, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S8x4096x704 : Shape := ⟨3, ![8, 4096, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x8x704, .f32⟩
  | .hbm, ⟨3, _⟩ => ⟨S8x1024x704, .f32⟩
  | .hbm, ⟨4, _⟩ => ⟨S8x1024x704, .bf16⟩
  | .hbm, ⟨5, _⟩ => ⟨S8x4096x704, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .f32⟩
  | .local _ .vmem, ⟨5, _⟩ => ⟨S1x1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MUpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x8x704, .f32⟩
  | .hbm, ⟨5, _⟩ => ⟨S8x4096x704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MDown.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024 : Shape := ⟨2, ![1, 1024]⟩
abbrev S4x512x704 : Shape := ⟨3, ![4, 512, 704]⟩
abbrev S4x704x512 : Shape := ⟨3, ![4, 704, 512]⟩
abbrev S512x512 : Shape := ⟨2, ![512, 512]⟩
abbrev S1x512 : Shape := ⟨2, ![1, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩

abbrev nBuf : Space → Nat
  | .hbm => 11
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x4x704, .bf16⟩
  | .hbm, ⟨5, _⟩ => ⟨S4x4096x704, .bf16⟩
  | .hbm, ⟨6, _⟩ => ⟨S4x704x1024, .f32⟩
  | .hbm, ⟨7, _⟩ => ⟨S4x704x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x512, .bf16⟩
  | .local _ .vmem, ⟨3, _⟩ => ⟨S4x704x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OptIn.lean ====
abbrev S4x8x1024x256 : Shape := ⟨4, ![4, 8, 1024, 256]⟩
abbrev S4x1024x256 : Shape := ⟨3, ![4, 1024, 256]⟩
abbrev S1x8x512x256 : Shape := ⟨4, ![1, 8, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .local _ .vmem, ⟨0, _⟩ => ⟨S1x8x512x256, .bf16⟩
  | .local _ .vmem, ⟨1, _⟩ => ⟨S1x8x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptInIdeal.lean ====
abbrev S4x8x1024x256 : Shape := ⟨4, ![4, 8, 1024, 256]⟩
abbrev S4x1024x256 : Shape := ⟨3, ![4, 1024, 256]⟩
abbrev S1x8x512x256 : Shape := ⟨4, ![1, 8, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .local _ .vmem, ⟨0, _⟩ => ⟨S1x8x512x256, .bf16⟩
  | .local _ .vmem, ⟨1, _⟩ => ⟨S1x8x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptInRefIdeal.lean ====
abbrev S4x8x1024x256 : Shape := ⟨4, ![4, 8, 1024, 256]⟩
abbrev S4x1024x256 : Shape := ⟨3, ![4, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x8x1024x256, .f32⟩
  | .hbm, ⟨5, _⟩ => ⟨S_, .f32⟩
  | .hbm, ⟨6, _⟩ => ⟨S4x1024x256, .f32⟩
  | .hbm, ⟨7, _⟩ => ⟨S_, .f32⟩
  | .hbm, ⟨8, _⟩ => ⟨S4x1024x256, .f32⟩
  | .hbm, ⟨9, _⟩ => ⟨S4x1024x256, .f32⟩
  | .hbm, ⟨10, _⟩ => ⟨S_, .f32⟩
  | .hbm, ⟨11, _⟩ => ⟨S4x1024x256, .f32⟩
  | .hbm, ⟨12, _⟩ => ⟨S4x1024x256, .f32⟩
  | .hbm, ⟨13, _⟩ => ⟨S4x1024x256, .f32⟩
  | .hbm, ⟨14, _⟩ => ⟨S_, .f32⟩
  | .hbm, ⟨15, _⟩ => ⟨S4x1024x256, .f32⟩
  | .hbm, ⟨16, _⟩ => ⟨S4x1024x256, .f32⟩
  | .hbm, ⟨17, _⟩ => ⟨S4x1024x256, .f32⟩
  | .hbm, ⟨18, _⟩ => ⟨S_, .f32⟩
  | .hbm, ⟨19, _⟩ => ⟨S4x1024x256, .f32⟩
  | .hbm, ⟨20, _⟩ => ⟨S4x1024x256, .f32⟩
  | .hbm, ⟨21, _⟩ => ⟨S4x1024x256, .f32⟩
  | .hbm, ⟨22, _⟩ => ⟨S_, .f32⟩
  | .hbm, ⟨23, _⟩ => ⟨S4x1024x256, .f32⟩
  | .hbm, ⟨24, _⟩ => ⟨S4x1024x256, .f32⟩
  | .hbm, ⟨25, _⟩ => ⟨S_, .f32⟩
  | .hbm, ⟨26, _⟩ => ⟨S4x1024x256, .f32⟩
  | .hbm, ⟨27, _⟩ => ⟨S4x1024x256, .f32⟩
  | .hbm, ⟨28, _⟩ => ⟨S4x1024x256, .f32⟩
  | .hbm, ⟨29, _⟩ => ⟨S_, .f32⟩
  | .hbm, ⟨30, _⟩ => ⟨S4x1024x256, .f32⟩
  | .hbm, ⟨31, _⟩ => ⟨S4x1024x256, .f32⟩
  | .hbm, ⟨32, _⟩ => ⟨S4x1024x256, .f32⟩
  | .hbm, ⟨33, _⟩ => ⟨S_, .f32⟩
  | .hbm, ⟨34, _⟩ => ⟨S4x1024x256, .f32⟩
  | .hbm, ⟨35, _⟩ => ⟨S4x1024x256, .f32⟩
  | .hbm, ⟨36, _⟩ => ⟨S4x1024x256, .f32⟩
  | .hbm, ⟨37, _⟩ => ⟨S_, .f32⟩
  | .hbm, ⟨38, _⟩ => ⟨S4x1024x256, .f32⟩
  | .hbm, ⟨39, _⟩ => ⟨S4x1024x256, .f32⟩
  | _, _ => ⟨S4x8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== OptOut.lean ====
abbrev S4x8x128x1024 : Shape := ⟨4, ![4, 8, 128, 1024]⟩
abbrev S4x128x1024 : Shape := ⟨3, ![4, 128, 1024]⟩
abbrev S1x8x128x1024 : Shape := ⟨4, ![1, 8, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S1x8x128x1024, .bf16⟩
  | .local _ .vmem, ⟨1, _⟩ => ⟨S1x8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptOutIdeal.lean ====
abbrev S4x8x128x1024 : Shape := ⟨4, ![4, 8, 128, 1024]⟩
abbrev S4x128x1024 : Shape := ⟨3, ![4, 128, 1024]⟩
abbrev S1x8x128x1024 : Shape := ⟨4, ![1, 8, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S1x8x128x1024, .bf16⟩
  | .local _ .vmem, ⟨1, _⟩ => ⟨S1x8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptOutRefIdeal.lean ====
abbrev S4x8x128x1024 : Shape := ⟨4, ![4, 8, 128, 1024]⟩
abbrev S4x128x1024 : Shape := ⟨3, ![4, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x8x128x1024, .f32⟩
  | .hbm, ⟨5, _⟩ => ⟨S_, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S_, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S_, .f32⟩
  | .hbm, ⟨15, _⟩ => ⟨S4x128x1024, .f32⟩
  | .hbm, ⟨16, _⟩ => ⟨S4x128x1024, .f32⟩
  | .hbm, ⟨17, _⟩ => ⟨S4x128x1024, .f32⟩
  | .hbm, ⟨18, _⟩ => ⟨S_, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S_, .f32⟩
  | .hbm, ⟨26, _⟩ => ⟨S4x128x1024, .f32⟩
  | .hbm, ⟨27, _⟩ => ⟨S4x128x1024, .f32⟩
  | .hbm, ⟨28, _⟩ => ⟨S4x128x1024, .f32⟩
  | .hbm, ⟨29, _⟩ => ⟨S_, .f32⟩
  | .hbm, ⟨30, _⟩ => ⟨S4x128x1024, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S4x128x1024, .f32⟩
  | .hbm, ⟨37, _⟩ => ⟨S_, .f32⟩
  | .hbm, ⟨38, _⟩ => ⟨S4x128x1024, .f32⟩
  | .hbm, ⟨39, _⟩ => ⟨S4x128x1024, .f32⟩
  | _, _ => ⟨S4x8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== OptUp.lean ====
abbrev S4x8x1024x704 : Shape := ⟨4, ![4, 8, 1024, 704]⟩
abbrev S4x1024x704 : Shape := ⟨3, ![4, 1024, 704]⟩
abbrev S1x8x512x704 : Shape := ⟨4, ![1, 8, 512, 704]⟩
abbrev S1x512x704 : Shape := ⟨3, ![1, 512, 704]⟩
abbrev S1x1x512x704 : Shape := ⟨4, ![1, 1, 512, 704]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .local _ .vmem, ⟨0, _⟩ => ⟨S1x8x512x704, .bf16⟩
  | .local _ .vmem, ⟨1, _⟩ => ⟨S1x8x512x704, .bf16⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | _, _ => ⟨S4x8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptUpIdeal.lean ====
abbrev S4x8x1024x704 : Shape := ⟨4, ![4, 8, 1024, 704]⟩
abbrev S4x1024x704 : Shape := ⟨3, ![4, 1024, 704]⟩
abbrev S1x8x512x704 : Shape := ⟨4, ![1, 8, 512, 704]⟩
abbrev S1x512x704 : Shape := ⟨3, ![1, 512, 704]⟩
abbrev S1x1x512x704 : Shape := ⟨4, ![1, 1, 512, 704]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .local _ .vmem, ⟨0, _⟩ => ⟨S1x8x512x704, .bf16⟩
  | .local _ .vmem, ⟨1, _⟩ => ⟨S1x8x512x704, .bf16⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | _, _ => ⟨S4x8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptUpRefIdeal.lean ====
abbrev S4x8x1024x704 : Shape := ⟨4, ![4, 8, 1024, 704]⟩
abbrev S4x1024x704 : Shape := ⟨3, ![4, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x8x1024x704, .f32⟩
  | .hbm, ⟨5, _⟩ => ⟨S_, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S_, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .hbm, ⟨14, _⟩ => ⟨S_, .f32⟩
  | .hbm, ⟨15, _⟩ => ⟨S4x1024x704, .f32⟩
  | .hbm, ⟨16, _⟩ => ⟨S4x1024x704, .f32⟩
  | .hbm, ⟨17, _⟩ => ⟨S4x1024x704, .f32⟩
  | .hbm, ⟨18, _⟩ => ⟨S_, .f32⟩
  | .hbm, ⟨19, _⟩ => ⟨S4x1024x704, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S_, .f32⟩
  | .hbm, ⟨26, _⟩ => ⟨S4x1024x704, .f32⟩
  | .hbm, ⟨27, _⟩ => ⟨S4x1024x704, .f32⟩
  | .hbm, ⟨28, _⟩ => ⟨S4x1024x704, .f32⟩
  | .hbm, ⟨29, _⟩ => ⟨S_, .f32⟩
  | .hbm, ⟨30, _⟩ => ⟨S4x1024x704, .f32⟩
  | .hbm, ⟨31, _⟩ => ⟨S4x1024x704, .f32⟩
  | .hbm, ⟨32, _⟩ => ⟨S4x1024x704, .f32⟩
  | .hbm, ⟨33, _⟩ => ⟨S_, .f32⟩
  | .hbm, ⟨34, _⟩ => ⟨S4x1024x704, .f32⟩
  | .hbm, ⟨35, _⟩ => ⟨S4x1024x704, .f32⟩
  | .hbm, ⟨36, _⟩ => ⟨S4x1024x704, .f32⟩
  | .hbm, ⟨37, _⟩ => ⟨S_, .f32⟩
  | .hbm, ⟨38, _⟩ => ⟨S4x1024x704, .f32⟩
  | .hbm, ⟨39, _⟩ => ⟨S4x1024x704, .f32⟩
  | _, _ => ⟨S4x8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== OptConv.lean ====
abbrev S4x8x3x704 : Shape := ⟨4, ![4, 8, 3, 704]⟩
abbrev S4x3x704 : Shape := ⟨3, ![4, 3, 704]⟩
abbrev S1x8x3x704 : Shape := ⟨4, ![1, 8, 3, 704]⟩
abbrev S1x3x704 : Shape := ⟨3, ![1, 3, 704]⟩
abbrev S1x1x3x704 : Shape := ⟨4, ![1, 1, 3, 704]⟩
abbrev S3x704 : Shape := ⟨2, ![3, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S4x3x704, .f32⟩
  | .hbm, ⟨5, _⟩ => ⟨S4x3x704, .f32⟩
  | .hbm, ⟨6, _⟩ => ⟨S4x3x704, .f32⟩
  | .hbm, ⟨7, _⟩ => ⟨S4x3x704, .f32⟩
  | .local _ .vmem, ⟨0, _⟩ => ⟨S1x8x3x704, .f32⟩
  | .local _ .vmem, ⟨1, _⟩ => ⟨S1x8x3x704, .f32⟩
  | .local _ .vmem, ⟨2, _⟩ => ⟨S1x3x704, .f32⟩
  | .local _ .vmem, ⟨3, _⟩ => ⟨S1x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | _, _ => ⟨S4x8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x3x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptConvIdeal.lean ====
abbrev S4x8x3x704 : Shape := ⟨4, ![4, 8, 3, 704]⟩
abbrev S4x3x704 : Shape := ⟨3, ![4, 3, 704]⟩
abbrev S1x8x3x704 : Shape := ⟨4, ![1, 8, 3, 704]⟩
abbrev S1x3x704 : Shape := ⟨3, ![1, 3, 704]⟩
abbrev S1x1x3x704 : Shape := ⟨4, ![1, 1, 3, 704]⟩
abbrev S3x704 : Shape := ⟨2, ![3, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S4x3x704, .f32⟩
  | .hbm, ⟨5, _⟩ => ⟨S4x3x704, .f32⟩
  | .hbm, ⟨6, _⟩ => ⟨S4x3x704, .f32⟩
  | .hbm, ⟨7, _⟩ => ⟨S4x3x704, .f32⟩
  | .local _ .vmem, ⟨0, _⟩ => ⟨S1x8x3x704, .f32⟩
  | .local _ .vmem, ⟨1, _⟩ => ⟨S1x8x3x704, .f32⟩
  | .local _ .vmem, ⟨2, _⟩ => ⟨S1x3x704, .f32⟩
  | .local _ .vmem, ⟨3, _⟩ => ⟨S1x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | _, _ => ⟨S4x8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x3x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptConvRefIdeal.lean ====
abbrev S4x8x3x704 : Shape := ⟨4, ![4, 8, 3, 704]⟩
abbrev S4x3x704 : Shape := ⟨3, ![4, 3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S_, .f32⟩
  | .hbm, ⟨7, _⟩ => ⟨S4x3x704, .f32⟩
  | .hbm, ⟨8, _⟩ => ⟨S4x3x704, .f32⟩
  | .hbm, ⟨9, _⟩ => ⟨S_, .f32⟩
  | .hbm, ⟨10, _⟩ => ⟨S4x3x704, .f32⟩
  | .hbm, ⟨11, _⟩ => ⟨S4x3x704, .f32⟩
  | .hbm, ⟨12, _⟩ => ⟨S4x3x704, .f32⟩
  | .hbm, ⟨13, _⟩ => ⟨S_, .f32⟩
  | .hbm, ⟨14, _⟩ => ⟨S4x3x704, .f32⟩
  | .hbm, ⟨15, _⟩ => ⟨S4x3x704, .f32⟩
  | .hbm, ⟨16, _⟩ => ⟨S4x3x704, .f32⟩
  | .hbm, ⟨17, _⟩ => ⟨S_, .f32⟩
  | .hbm, ⟨18, _⟩ => ⟨S4x3x704, .f32⟩
  | .hbm, ⟨19, _⟩ => ⟨S4x3x704, .f32⟩
  | .hbm, ⟨20, _⟩ => ⟨S4x3x704, .f32⟩
  | .hbm, ⟨21, _⟩ => ⟨S_, .f32⟩
  | .hbm, ⟨22, _⟩ => ⟨S4x3x704, .f32⟩
  | .hbm, ⟨23, _⟩ => ⟨S4x3x704, .f32⟩
  | .hbm, ⟨24, _⟩ => ⟨S_, .f32⟩
  | .hbm, ⟨25, _⟩ => ⟨S4x3x704, .f32⟩
  | .hbm, ⟨26, _⟩ => ⟨S4x3x704, .f32⟩
  | .hbm, ⟨27, _⟩ => ⟨S4x3x704, .f32⟩
  | .hbm, ⟨28, _⟩ => ⟨S_, .f32⟩
  | .hbm, ⟨29, _⟩ => ⟨S4x3x704, .f32⟩
  | .hbm, ⟨30, _⟩ => ⟨S4x3x704, .f32⟩
  | .hbm, ⟨31, _⟩ => ⟨S4x3x704, .f32⟩
  | .hbm, ⟨32, _⟩ => ⟨S_, .f32⟩
  | .hbm, ⟨33, _⟩ => ⟨S4x3x704, .f32⟩
  | .hbm, ⟨34, _⟩ => ⟨S4x3x704, .f32⟩
  | .hbm, ⟨35, _⟩ => ⟨S4x3x704, .f32⟩
  | .hbm, ⟨36, _⟩ => ⟨S_, .f32⟩
  | .hbm, ⟨37, _⟩ => ⟨S4x3x704, .f32⟩
  | .hbm, ⟨38, _⟩ => ⟨S4x3x704, .f32⟩
  | _, _ => ⟨S4x8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OptDown.lean ====
abbrev S4x8x352x1024 : Shape := ⟨4, ![4, 8, 352, 1024]⟩
abbrev S4x352x1024 : Shape := ⟨3, ![4, 352, 1024]⟩
abbrev S1x8x352x1024 : Shape := ⟨4, ![1, 8, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptDownIdeal.lean ====
abbrev S4x8x352x1024 : Shape := ⟨4, ![4, 8, 352, 1024]⟩
abbrev S4x352x1024 : Shape := ⟨3, ![4, 352, 1024]⟩
abbrev S1x8x352x1024 : Shape := ⟨4, ![1, 8, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptDownRefIdeal.lean ====
abbrev S4x8x352x1024 : Shape := ⟨4, ![4, 8, 352, 1024]⟩
abbrev S4x352x1024 : Shape := ⟨3, ![4, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x8x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | _, _ => ⟨S4x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== OptAda.lean ====
abbrev S4x1x1024x768 : Shape := ⟨4, ![4, 1, 1024, 768]⟩
abbrev S4x1024x768 : Shape := ⟨3, ![4, 1024, 768]⟩
abbrev S1x1x512x768 : Shape := ⟨4, ![1, 1, 512, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .local _ .vmem, ⟨0, _⟩ => ⟨S1x1x512x768, .f32⟩
  | .local _ .vmem, ⟨1, _⟩ => ⟨S1x1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S4x1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptAdaIdeal.lean ====
abbrev S4x1x1024x768 : Shape := ⟨4, ![4, 1, 1024, 768]⟩
abbrev S4x1024x768 : Shape := ⟨3, ![4, 1024, 768]⟩
abbrev S1x1x512x768 : Shape := ⟨4, ![1, 1, 512, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .local _ .vmem, ⟨0, _⟩ => ⟨S1x1x512x768, .f32⟩
  | .local _ .vmem, ⟨1, _⟩ => ⟨S1x1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S4x1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptAdaRefIdeal.lean ====
abbrev S4x1x1024x768 : Shape := ⟨4, ![4, 1, 1024, 768]⟩
abbrev S4x1024x768 : Shape := ⟨3, ![4, 1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S_, .f32⟩
  | .hbm, ⟨7, _⟩ => ⟨S4x1024x768, .f32⟩
  | .hbm, ⟨8, _⟩ => ⟨S4x1024x768, .f32⟩
  | .hbm, ⟨9, _⟩ => ⟨S_, .f32⟩
  | .hbm, ⟨10, _⟩ => ⟨S4x1024x768, .f32⟩
  | .hbm, ⟨11, _⟩ => ⟨S4x1024x768, .f32⟩
  | .hbm, ⟨12, _⟩ => ⟨S4x1024x768, .f32⟩
  | .hbm, ⟨13, _⟩ => ⟨S_, .f32⟩
  | .hbm, ⟨14, _⟩ => ⟨S4x1024x768, .f32⟩
  | .hbm, ⟨15, _⟩ => ⟨S4x1024x768, .f32⟩
  | .hbm, ⟨16, _⟩ => ⟨S4x1024x768, .f32⟩
  | .hbm, ⟨17, _⟩ => ⟨S_, .f32⟩
  | .hbm, ⟨18, _⟩ => ⟨S4x1024x768, .f32⟩
  | .hbm, ⟨19, _⟩ => ⟨S4x1024x768, .f32⟩
  | .hbm, ⟨20, _⟩ => ⟨S4x1024x768, .f32⟩
  | .hbm, ⟨21, _⟩ => ⟨S_, .f32⟩
  | .hbm, ⟨22, _⟩ => ⟨S4x1024x768, .f32⟩
  | .hbm, ⟨23, _⟩ => ⟨S4x1024x768, .f32⟩
  | .hbm, ⟨24, _⟩ => ⟨S_, .f32⟩
  | .hbm, ⟨25, _⟩ => ⟨S4x1024x768, .f32⟩
  | .hbm, ⟨26, _⟩ => ⟨S4x1024x768, .f32⟩
  | .hbm, ⟨27, _⟩ => ⟨S4x1024x768, .f32⟩
  | .hbm, ⟨28, _⟩ => ⟨S_, .f32⟩
  | .hbm, ⟨29, _⟩ => ⟨S4x1024x768, .f32⟩
  | .hbm, ⟨30, _⟩ => ⟨S4x1024x768, .f32⟩
  | .hbm, ⟨31, _⟩ => ⟨S4x1024x768, .f32⟩
  | .hbm, ⟨32, _⟩ => ⟨S_, .f32⟩
  | .hbm, ⟨33, _⟩ => ⟨S4x1024x768, .f32⟩
  | .hbm, ⟨34, _⟩ => ⟨S4x1024x768, .f32⟩
  | .hbm, ⟨35, _⟩ => ⟨S4x1024x768, .f32⟩
  | .hbm, ⟨36, _⟩ => ⟨S_, .f32⟩
  | .hbm, ⟨37, _⟩ => ⟨S4x1024x768, .f32⟩
  | .hbm, ⟨38, _⟩ => ⟨S4x1024x768, .f32⟩
  | _, _ => ⟨S4x1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OptSmall.lean ====
abbrev S1x8x5120x128 : Shape := ⟨4, ![1, 8, 5120, 128]⟩
abbrev S1x5120x128 : Shape := ⟨3, ![1, 5120, 128]⟩
abbrev S1x8x512x128 : Shape := ⟨4, ![1, 8, 512, 128]⟩
abbrev S1x512x128 : Shape := ⟨3, ![1, 512, 128]⟩
abbrev S1x1x512x128 : Shape := ⟨4, ![1, 1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x8x5120x128, .bf16⟩
  | .hbm, ⟨1, _⟩ => ⟨S1x5120x128, .f32⟩
  | .hbm, ⟨2, _⟩ => ⟨S1x5120x128, .f32⟩
  | .hbm, ⟨3, _⟩ => ⟨S1x5120x128, .f32⟩
  | .hbm, ⟨4, _⟩ => ⟨S1x5120x128, .f32⟩
  | .hbm, ⟨5, _⟩ => ⟨S1x5120x128, .f32⟩
  | .hbm, ⟨6, _⟩ => ⟨S1x5120x128, .f32⟩
  | .hbm, ⟨7, _⟩ => ⟨S1x5120x128, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S1x8x5120x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptSmallRefIdeal.lean ====
abbrev S1x8x5120x128 : Shape := ⟨4, ![1, 8, 5120, 128]⟩
abbrev S1x5120x128 : Shape := ⟨3, ![1, 5120, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x8x5120x128, .bf16⟩
  | .hbm, ⟨1, _⟩ => ⟨S1x5120x128, .f32⟩
  | .hbm, ⟨2, _⟩ => ⟨S1x5120x128, .f32⟩
  | .hbm, ⟨3, _⟩ => ⟨S1x5120x128, .f32⟩
  | .hbm, ⟨4, _⟩ => ⟨S1x8x5120x128, .f32⟩
  | .hbm, ⟨5, _⟩ => ⟨S_, .f32⟩
  | .hbm, ⟨6, _⟩ => ⟨S1x5120x128, .f32⟩
  | .hbm, ⟨7, _⟩ => ⟨S_, .f32⟩
  | .hbm, ⟨8, _⟩ => ⟨S1x5120x128, .f32⟩
  | .hbm, ⟨9, _⟩ => ⟨S1x5120x128, .f32⟩
  | .hbm, ⟨10, _⟩ => ⟨S_, .f32⟩
  | .hbm, ⟨11, _⟩ => ⟨S1x5120x128, .f32⟩
  | .hbm, ⟨12, _⟩ => ⟨S1x5120x128, .f32⟩
  | .hbm, ⟨13, _⟩ => ⟨S1x5120x128, .f32⟩
  | .hbm, ⟨14, _⟩ => ⟨S_, .f32⟩
  | .hbm, ⟨15, _⟩ => ⟨S1x5120x128, .f32⟩
  | .hbm, ⟨16, _⟩ => ⟨S1x5120x128, .f32⟩
  | .hbm, ⟨17, _⟩ => ⟨S1x5120x128, .f32⟩
  | .hbm, ⟨18, _⟩ => ⟨S_, .f32⟩
  | .hbm, ⟨19, _⟩ => ⟨S1x5120x128, .f32⟩
  | .hbm, ⟨20, _⟩ => ⟨S1x5120x128, .f32⟩
  | .hbm, ⟨21, _⟩ => ⟨S1x5120x128, .f32⟩
  | .hbm, ⟨22, _⟩ => ⟨S_, .f32⟩
  | .hbm, ⟨23, _⟩ => ⟨S1x5120x128, .f32⟩
  | .hbm, ⟨24, _⟩ => ⟨S1x5120x128, .f32⟩
  | .hbm, ⟨25, _⟩ => ⟨S_, .f32⟩
  | .hbm, ⟨26, _⟩ => ⟨S1x5120x128, .f32⟩
  | .hbm, ⟨27, _⟩ => ⟨S1x5120x128, .f32⟩
  | .hbm, ⟨28, _⟩ => ⟨S1x5120x128, .f32⟩
  | .hbm, ⟨29, _⟩ => ⟨S_, .f32⟩
  | .hbm, ⟨30, _⟩ => ⟨S1x5120x128, .f32⟩
  | .hbm, ⟨31, _⟩ => ⟨S1x5120x128, .f32⟩
  | .hbm, ⟨32, _⟩ => ⟨S1x5120x128, .f32⟩
  | .hbm, ⟨33, _⟩ => ⟨S_, .f32⟩
  | .hbm, ⟨34, _⟩ => ⟨S1x5120x128, .f32⟩
  | .hbm, ⟨35, _⟩ => ⟨S1x5120x128, .f32⟩
  | .hbm, ⟨36, _⟩ => ⟨S1x5120x128, .f32⟩
  | .hbm, ⟨37, _⟩ => ⟨S_, .f32⟩
  | .hbm, ⟨38, _⟩ => ⟨S1x5120x128, .f32⟩
  | .hbm, ⟨39, _⟩ => ⟨S1x5120x128, .f32⟩
  | _, _ => ⟨S1x8x5120x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AttnFwd.lean ====
abbrev S4096x1024 : Shape := ⟨2, ![4096, 1024]⟩
abbrev S4096x2048 : Shape := ⟨2, ![4096, 2048]⟩
abbrev S4096x512 : Shape := ⟨2, ![4096, 512]⟩
abbrev S256x128 : Shape := ⟨2, ![256, 128]⟩
abbrev S4096x128 : Shape := ⟨2, ![4096, 128]⟩
abbrev S256x256 : Shape := ⟨2, ![256, 256]⟩
abbrev S1x128 : Shape := ⟨2, ![1, 128]⟩
abbrev S32x256 : Shape := ⟨2, ![32, 256]⟩
abbrev S32 : Shape := ⟨1, ![32]⟩
abbrev S32x1 : Shape := ⟨2, ![32, 1]⟩
abbrev S32x128 : Shape := ⟨2, ![32, 128]⟩

abbrev nBuf : Space → Nat
  | .hbm => 4
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S4096x512, .f32⟩
  | .hbm, ⟨3, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c0_i32 : BitVec 32 := 0#32
  let v21 : BitVec 32 := Scalar.maxsi arg1 c0_i32
  let c256_i32 : BitVec 32 := 256#32
  let v22 : BitVec 32 := Scalar.muli v21 c256_i32
  v22
def k0_off1 (i : grid0.Coords) : Fin 2 → Nat :=
  let arg1 : BitVec 32 := BitVec.ofNat 32 (i 1).val
  let c0_i32 : BitVec 32 := 0#32
  let v21 : BitVec 32 := Scalar.maxsi arg1 c0_i32
  let c256_i32 : BitVec 32 := 256#32
  let v22 : BitVec 32 := Scalar.muli v21 c256_i32
  let v23 : BitVec 32 := v22
  let v24 : Index := Scalar.indexCast v23
  let c0_4 : Index := 0#32
  ![v24.toNat, 0]
def k0_cond1 (i : grid0.Coords) : BitVec 1 :=
  let arg1 : BitVec 32 := BitVec.ofNat 32 (i 1).val
  let c0_i32_166 : BitVec 32 := 0#32
  let v486 : BitVec 1 := Scalar.cmpi .eq arg1 c0_i32_166
  let v487 : BitVec 32 := Scalar.extui v486
  let c0_i32_167 : BitVec 32 := 0#32
  let v488 : BitVec 1 := Scalar.cmpi .ne v487 c0_i32_167
  v488

def k0_mult2 (i : grid0.Coords) : BitVec 32 :=
  let arg1 : BitVec 32 := BitVec.ofNat 32 (i 1).val
  let c0_i32_170 : BitVec 32 := 0#32
  let v492 : BitVec 32 := Scalar.maxsi arg1 c0_i32_170
  let c256_i32_171 : BitVec 32 := 256#32
  let v493 : BitVec 32 := Scalar.muli v492 c256_i32_171
  v493
def k0_off2 (i : grid0.Coords) : Fin 2 → Nat :=
  let arg1 : BitVec 32 := BitVec.ofNat 32 (i 1).val
  let c0_i32_170 : BitVec 32 := 0#32
  let v492 : BitVec 32 := Scalar.maxsi arg1 c0_i32_170
  let c256_i32_171 : BitVec 32 := 256#32
  let v493 : BitVec 32 := Scalar.muli v492 c256_i32_171
  let v494 : BitVec 32 := v493
  let v495 : Index := Scalar.indexCast v494
  let c0_172 : Index := 0#32
  ![v495.toNat, 0]
def k0_cond2 (i : grid0.Coords) : BitVec 1 :=
  let arg1 : BitVec 32 := BitVec.ofNat 32 (i 1).val
  let c0_i32_168 : BitVec 32 := 0#32
  let v489 : BitVec 1 := Scalar.cmpi .sgt arg1 c0_i32_168
  let v490 : BitVec 32 := Scalar.extui v489
  let c0_i32_169 : BitVec 32 := 0#32
  let v491 : BitVec 1 := Scalar.cmpi .ne v490 c0_i32_169
  v491

def k0_mult3 (i : grid0.Coords) : BitVec 32 :=
  let arg1 : BitVec 32 := BitVec.ofNat 32 (i 1).val
  let c1_i32 : BitVec 32 := 1#32
  let v492 : BitVec 32 := Scalar.subi arg1 c1_i32
  let c0_i32_170 : BitVec 32 := 0#32
  let v493 : BitVec 32 := Scalar.maxsi v492 c0_i32_170
  let c256_i32_171 : BitVec 32 := 256#32
  let v494 : BitVec 32 := Scalar.muli v493 c256_i32_171
  v494
def k0_off3 (i : grid0.Coords) : Fin 2 → Nat :=
  let arg1 : BitVec 32 := BitVec.ofNat 32 (i 1).val
  let c1_i32 : BitVec 32 := 1#32
  let v492 : BitVec 32 := Scalar.subi arg1 c1_i32
  let c0_i32_170 : BitVec 32 := 0#32
  let v493 : BitVec 32 := Scalar.maxsi v492 c0_i32_170
  let c256_i32_171 : BitVec 32 := 256#32
  let v494 : BitVec 32 := Scalar.muli v493 c256_i32_171
  let v495 : BitVec 32 := v494
  let v496 : Index := Scalar.indexCast v495
  let c0_172 : Index := 0#32
  ![v496.toNat, 0]
def k0_mult4 (i : grid0.Coords) : BitVec 32 :=
  let arg1 : BitVec 32 := BitVec.ofNat 32 (i 1).val
  let c0_i32_175 : BitVec 32 := 0#32
  let v500 : BitVec 32 := Scalar.maxsi arg1 c0_i32_175
  let c256_i32_176 : BitVec 32 := 256#32
  let v501 : BitVec 32 := Scalar.muli v500 c256_i32_176
  v501
def k0_off4 (i : grid0.Coords) : Fin 2 → Nat :=
  let arg1 : BitVec 32 := BitVec.ofNat 32 (i 1).val
  let c0_i32_175 : BitVec 32 := 0#32
  let v500 : BitVec 32 := Scalar.maxsi arg1 c0_i32_175
  let c256_i32_176 : BitVec 32 := 256#32
  let v501 : BitVec 32 := Scalar.muli v500 c256_i32_176
  let v502 : BitVec 32 := v501
  let v503 : Index := Scalar.indexCast v502
  let c0_177 : Index := 0#32
  ![v503.toNat, 0]
@[reducible] def k0_t1_loop (i : grid0.Coords) : Scf.Loop 32 :=
  let c0_i32_429 : BitVec 32 := 0#32
  let arg1 : BitVec 32 := BitVec.ofNat 32 (i 1).val
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_431 : BitVec 32 := 1#32
  ⟨c0_i32_429, v1080, c1_i32_431⟩
def k0_mult5 (i : grid0.Coords) (k0_t1 : Fin (k0_t1_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_435 : BitVec 32 := 1#32
  let v1086 : BitVec 32 := Scalar.subi v1085 c1_i32_435
  let c0_i32_436 : BitVec 32 := 0#32
  let v1087 : BitVec 32 := Scalar.maxsi v1086 c0_i32_436
  let c256_i32_437 : BitVec 32 := 256#32
  let v1088 : BitVec 32 := Scalar.muli v1087 c256_i32_437
  v1088
def k0_off5 (i : grid0.Coords) (k0_t1 : Fin (k0_t1_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_435 : BitVec 32 := 1#32
  let v1086 : BitVec 32 := Scalar.subi v1085 c1_i32_435
  let c0_i32_436 : BitVec 32 := 0#32
  let v1087 : BitVec 32 := Scalar.maxsi v1086 c0_i32_436
  let c256_i32_437 : BitVec 32 := 256#32
  let v1088 : BitVec 32 := Scalar.muli v1087 c256_i32_437
  let v1089 : BitVec 32 := v1088
  let v1090 : Index := Scalar.indexCast v1089
  let c0_438 : Index := 0#32
  ![v1090.toNat, 0]
def k0_mult6 (i : grid0.Coords) (k0_t1 : Fin (k0_t1_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c0_i32_441 : BitVec 32 := 0#32
  let v1094 : BitVec 32 := Scalar.maxsi v1085 c0_i32_441
  let c256_i32_442 : BitVec 32 := 256#32
  let v1095 : BitVec 32 := Scalar.muli v1094 c256_i32_442
  v1095
def k0_off6 (i : grid0.Coords) (k0_t1 : Fin (k0_t1_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c0_i32_441 : BitVec 32 := 0#32
  let v1094 : BitVec 32 := Scalar.maxsi v1085 c0_i32_441
  let c256_i32_442 : BitVec 32 := 256#32
  let v1095 : BitVec 32 := Scalar.muli v1094 c256_i32_442
  let v1096 : BitVec 32 := v1095
  let v1097 : Index := Scalar.indexCast v1096
  let c0_443 : Index := 0#32
  ![v1097.toNat, 0]
def k0_cond3 (i : grid0.Coords) (k0_t1 : Fin (k0_t1_loop i).trips) : BitVec 1 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c0_i32_672 : BitVec 32 := 0#32
  let v1610 : BitVec 1 := Scalar.cmpi .sgt v1085 c0_i32_672
  let v1611 : BitVec 32 := Scalar.extui v1610
  let c0_i32_673 : BitVec 32 := 0#32
  let v1612 : BitVec 1 := Scalar.cmpi .ne v1611 c0_i32_673
  v1612

def k0_mult7 (i : grid0.Coords) (k0_t1 : Fin (k0_t1_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c1_i32_675 : BitVec 32 := 1#32
  let v1614 : BitVec 32 := Scalar.subi v1613 c1_i32_675
  let c0_i32_676 : BitVec 32 := 0#32
  let v1615 : BitVec 32 := Scalar.maxsi v1614 c0_i32_676
  let c256_i32_677 : BitVec 32 := 256#32
  let v1616 : BitVec 32 := Scalar.muli v1615 c256_i32_677
  v1616
def k0_off7 (i : grid0.Coords) (k0_t1 : Fin (k0_t1_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c1_i32_675 : BitVec 32 := 1#32
  let v1614 : BitVec 32 := Scalar.subi v1613 c1_i32_675
  let c0_i32_676 : BitVec 32 := 0#32
  let v1615 : BitVec 32 := Scalar.maxsi v1614 c0_i32_676
  let c256_i32_677 : BitVec 32 := 256#32
  let v1616 : BitVec 32 := Scalar.muli v1615 c256_i32_677
  let v1617 : BitVec 32 := v1616
  let v1618 : Index := Scalar.indexCast v1617
  let c0_678 : Index := 0#32
  ![v1618.toNat, 0]
def k0_mult8 (i : grid0.Coords) (k0_t1 : Fin (k0_t1_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c0_i32_681 : BitVec 32 := 0#32
  let v1622 : BitVec 32 := Scalar.maxsi v1613 c0_i32_681
  let c256_i32_682 : BitVec 32 := 256#32
  let v1623 : BitVec 32 := Scalar.muli v1622 c256_i32_682
  v1623
def k0_off8 (i : grid0.Coords) (k0_t1 : Fin (k0_t1_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_431 : BitVec 32 := 1#32
  let arg17 : BitVec 32 := Scf.iv c0_i32_429 c1_i32_431 k0_t1
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c0_i32_681 : BitVec 32 := 0#32
  let v1622 : BitVec 32 := Scalar.maxsi v1613 c0_i32_681
  let c256_i32_682 : BitVec 32 := 256#32
  let v1623 : BitVec 32 := Scalar.muli v1622 c256_i32_682
  let v1624 : BitVec 32 := v1623
  let v1625 : Index := Scalar.indexCast v1624
  let c0_683 : Index := 0#32
  ![v1625.toNat, 0]
@[reducible] def k0_t2_loop (i : grid0.Coords) : Scf.Loop 32 :=
  let c0_i32_429 : BitVec 32 := 0#32
  let arg1 : BitVec 32 := BitVec.ofNat 32 (i 1).val
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let v1077 : BitVec 32 := Scalar.addi c0_i32_429 v1076
  let c1_i32_432 : BitVec 32 := 1#32
  ⟨v1080, v1077, c1_i32_432⟩
def k0_mult9 (i : grid0.Coords) (k0_t2 : Fin (k0_t2_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_435 : BitVec 32 := 1#32
  let v1086 : BitVec 32 := Scalar.subi v1085 c1_i32_435
  let c0_i32_436 : BitVec 32 := 0#32
  let v1087 : BitVec 32 := Scalar.maxsi v1086 c0_i32_436
  let c256_i32_437 : BitVec 32 := 256#32
  let v1088 : BitVec 32 := Scalar.muli v1087 c256_i32_437
  v1088
def k0_off9 (i : grid0.Coords) (k0_t2 : Fin (k0_t2_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_435 : BitVec 32 := 1#32
  let v1086 : BitVec 32 := Scalar.subi v1085 c1_i32_435
  let c0_i32_436 : BitVec 32 := 0#32
  let v1087 : BitVec 32 := Scalar.maxsi v1086 c0_i32_436
  let c256_i32_437 : BitVec 32 := 256#32
  let v1088 : BitVec 32 := Scalar.muli v1087 c256_i32_437
  let v1089 : BitVec 32 := v1088
  let v1090 : Index := Scalar.indexCast v1089
  let c0_438 : Index := 0#32
  ![v1090.toNat, 0]
def k0_mult10 (i : grid0.Coords) (k0_t2 : Fin (k0_t2_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c0_i32_441 : BitVec 32 := 0#32
  let v1094 : BitVec 32 := Scalar.maxsi v1085 c0_i32_441
  let c256_i32_442 : BitVec 32 := 256#32
  let v1095 : BitVec 32 := Scalar.muli v1094 c256_i32_442
  v1095
def k0_off10 (i : grid0.Coords) (k0_t2 : Fin (k0_t2_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c0_i32_441 : BitVec 32 := 0#32
  let v1094 : BitVec 32 := Scalar.maxsi v1085 c0_i32_441
  let c256_i32_442 : BitVec 32 := 256#32
  let v1095 : BitVec 32 := Scalar.muli v1094 c256_i32_442
  let v1096 : BitVec 32 := v1095
  let v1097 : Index := Scalar.indexCast v1096
  let c0_443 : Index := 0#32
  ![v1097.toNat, 0]
def k0_cond4 (i : grid0.Coords) (k0_t2 : Fin (k0_t2_loop i).trips) : BitVec 1 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c0_i32_672 : BitVec 32 := 0#32
  let v1610 : BitVec 1 := Scalar.cmpi .sgt v1085 c0_i32_672
  let v1611 : BitVec 32 := Scalar.extui v1610
  let c0_i32_673 : BitVec 32 := 0#32
  let v1612 : BitVec 1 := Scalar.cmpi .ne v1611 c0_i32_673
  v1612

def k0_mult11 (i : grid0.Coords) (k0_t2 : Fin (k0_t2_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c1_i32_675 : BitVec 32 := 1#32
  let v1614 : BitVec 32 := Scalar.subi v1613 c1_i32_675
  let c0_i32_676 : BitVec 32 := 0#32
  let v1615 : BitVec 32 := Scalar.maxsi v1614 c0_i32_676
  let c256_i32_677 : BitVec 32 := 256#32
  let v1616 : BitVec 32 := Scalar.muli v1615 c256_i32_677
  v1616
def k0_off11 (i : grid0.Coords) (k0_t2 : Fin (k0_t2_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c1_i32_675 : BitVec 32 := 1#32
  let v1614 : BitVec 32 := Scalar.subi v1613 c1_i32_675
  let c0_i32_676 : BitVec 32 := 0#32
  let v1615 : BitVec 32 := Scalar.maxsi v1614 c0_i32_676
  let c256_i32_677 : BitVec 32 := 256#32
  let v1616 : BitVec 32 := Scalar.muli v1615 c256_i32_677
  let v1617 : BitVec 32 := v1616
  let v1618 : Index := Scalar.indexCast v1617
  let c0_678 : Index := 0#32
  ![v1618.toNat, 0]
def k0_mult12 (i : grid0.Coords) (k0_t2 : Fin (k0_t2_loop i).trips) : BitVec 32 :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c0_i32_681 : BitVec 32 := 0#32
  let v1622 : BitVec 32 := Scalar.maxsi v1613 c0_i32_681
  let c256_i32_682 : BitVec 32 := 256#32
  let v1623 : BitVec 32 := Scalar.muli v1622 c256_i32_682
  v1623
def k0_off12 (i : grid0.Coords) (k0_t2 : Fin (k0_t2_loop i).trips) : Fin 2 → Nat :=
  let arg1 : BitVec 32 := BitVec.ofNat 32 (i 1).val
  let c1_i32_433 : BitVec 32 := 1#32
  let v1083 : BitVec 32 := Scalar.subi arg1 c1_i32_433
  let c2_i32_434 : BitVec 32 := 2#32
  let c0_i32_428 : BitVec 32 := 0#32
  let c0_i32_429 : BitVec 32 := 0#32
  let c1_i32_416 : BitVec 32 := 1#32
  let v1054 : BitVec 32 := Scalar.addi arg1 c1_i32_416
  let c0_i32_417 : BitVec 32 := 0#32
  let v1056 : BitVec 1 := Scalar.cmpi .sgt v1054 c0_i32_417
  let v1057 : BitVec 32 := Scalar.extui v1056
  let c0_i32_418 : BitVec 32 := 0#32
  let v1058 : BitVec 1 := Scalar.cmpi .slt v1054 c0_i32_418
  let v1059 : BitVec 32 := Scalar.extui v1058
  let v1060 : BitVec 32 := Scalar.subi v1057 v1059
  let c2_i32 : BitVec 32 := 2#32
  let c0_i32_419 : BitVec 32 := 0#32
  let v1061 : BitVec 1 := Scalar.cmpi .sgt c2_i32 c0_i32_419
  let v1062 : BitVec 32 := Scalar.extui v1061
  let c0_i32_420 : BitVec 32 := 0#32
  let v1063 : BitVec 1 := Scalar.cmpi .slt c2_i32 c0_i32_420
  let v1064 : BitVec 32 := Scalar.extui v1063
  let v1065 : BitVec 32 := Scalar.subi v1062 v1064
  let v1066 : BitVec 1 := Scalar.cmpi .ne v1060 v1065
  let v1067 : BitVec 32 := Scalar.remsi v1054 c2_i32
  let c0_i32_421 : BitVec 32 := 0#32
  let v1068 : BitVec 1 := Scalar.cmpi .ne v1067 c0_i32_421
  let v1069 : BitVec 1 := Scalar.andi v1066 v1068
  let v1055 : BitVec 32 := Scalar.divsi v1054 c2_i32
  let c1_i32_422 : BitVec 32 := 1#32
  let v1070 : BitVec 32 := Scalar.subi v1055 c1_i32_422
  let v1071 : BitVec 32 := Scalar.select v1069 v1070 v1055
  let c0_i32_423 : BitVec 32 := 0#32
  let v1072 : BitVec 32 := Scalar.subi v1071 c0_i32_423
  let c1_i32_424 : BitVec 32 := 1#32
  let c1_i32_425 : BitVec 32 := 1#32
  let v1073 : BitVec 32 := Scalar.subi c1_i32_424 c1_i32_425
  let v1074 : BitVec 32 := Scalar.addi v1072 v1073
  let c1_i32_426 : BitVec 32 := 1#32
  let v1075 : BitVec 32 := Scalar.divsi v1074 c1_i32_426
  let v1076 : BitVec 32 := Scalar.subi v1075 c0_i32_429
  let c1_i32_430 : BitVec 32 := 1#32
  let v1078 : BitVec 32 := Scalar.divsi v1076 c1_i32_430
  let v1079 : BitVec 32 := Scalar.muli v1078 c1_i32_430
  let v1080 : BitVec 32 := Scalar.addi c0_i32_429 v1079
  let c1_i32_432 : BitVec 32 := 1#32
  let arg17 : BitVec 32 := Scf.iv v1080 c1_i32_432 k0_t2
  let c1_i32_427 : BitVec 32 := 1#32
  let v1081 : BitVec 32 := Scalar.muli arg17 c1_i32_427
  let v1082 : BitVec 32 := Scalar.addi c0_i32_428 v1081
  let v1084 : BitVec 32 := Scalar.muli c2_i32_434 v1082
  let v1085 : BitVec 32 := Scalar.subi v1083 v1084
  let c1_i32_674 : BitVec 32 := 1#32
  let v1613 : BitVec 32 := Scalar.subi v1085 c1_i32_674
  let c0_i32_681 : BitVec 32 := 0#32
  let v1622 : BitVec 32 := Scalar.maxsi v1613 c0_i32_681
  let c256_i32_682 : BitVec 32 := 256#32
  let v1623 : BitVec 32 := Scalar.muli v1622 c256_i32_682
  let v1624 : BitVec 32 := v1623
  let v1625 : Index := Scalar.indexCast v1624
  let c0_683 : Index := 0#32
  ![v1625.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S4096x1024 : Shape := ⟨2, ![4096, 1024]⟩
abbrev S4096x2048 : Shape := ⟨2, ![4096, 2048]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096 : Shape := ⟨2, ![8, 4096]⟩
abbrev S4096x8 : Shape := ⟨2, ![4096, 8]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S4096x512, .bf16⟩
  | .hbm, ⟨3, _⟩ => ⟨S4096x512, .f32⟩
  | .hbm, ⟨4, _⟩ => ⟨S4096x8x64, .f32⟩
  | .hbm, ⟨5, _⟩ => ⟨S4096x512, .bf16⟩
  | .hbm, ⟨6, _⟩ => ⟨S4096x512, .f32⟩
  | .hbm, ⟨7, _⟩ => ⟨S4096x8x64, .f32⟩
  | .hbm, ⟨8, _⟩ => ⟨S4096x512, .f32⟩
  | .hbm, ⟨9, _⟩ => ⟨S4096x8x64, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S8x64x4096, .f32⟩
  | .hbm, ⟨70, _⟩ => ⟨S4096x8x64, .f32⟩
  | .hbm, ⟨71, _⟩ => ⟨S4096x512, .f32⟩
  | .hbm, ⟨72, _⟩ => ⟨S_, .f32⟩
  | .hbm, ⟨73, _⟩ => ⟨S8x4096, .f32⟩
  | .hbm, ⟨74, _⟩ => ⟨S4096x8, .f32⟩
  | .hbm, ⟨75, _⟩ => ⟨S4096x8x64, .f32⟩
  | .hbm, ⟨76, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_2 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩

abbrev nD : Nat := 1
abbrev τ : Topo := Topo.v7x

variable {F : FTy → Type} [FloatOps F]
-- ==== Proof.Dots.lean ====
/-
  Matrix products over the extended reals, as the sums the proofs below compare: a product with the right operand
  transposed, a product with the left operand transposed, the plain product, and the two casts that add or drop a leading
  axis of length one.
-/
module

public import Idealize.ShloMosaic.Lib.MatmulPlain
public import Idealize.ShloMosaic.Lib.Pipeline.Value

@[expose] public section

noncomputable section

namespace Cert.Proof.Dots

open Idealize.ShloMosaic Idealize.ShloMosaic.ValueIdx

/-- A kernel's product into a zero accumulator, the right operand contracted on its last axis: rows of `x` against rows of
    `y`. -/
theorem nt_apply {M K N : ℕ} {φ₁ φ₂ : FTy} (x : FVec Ideal ⟨2, ![M, K]⟩ φ₁) (y : FVec Ideal ⟨2, ![N, K]⟩ φ₂)
    (r : Fin M) (c : Fin N) :
    matmul (DotDims.transposedRhs M K N) none x y (constant ⟨2, ![M, N]⟩ .f32 0x00000000#32) (ix2 r c)
      = ∑ k : Fin K, x (ix2 r k) * y (ix2 c k) := by
  show FloatOps.matmul (DotDims.transposedRhs M K N) none x y _ (ix2 r c) = _
  rw [Ideal.matmul_transposedRhs_apply]
  show Ideal.ofBits .f32 0x00000000#32 + _ = _
  rw [Ideal.ofBits_zero_f32, zero_add]

/-- The plain product into a zero accumulator. -/
theorem nn_apply {M K N : ℕ} {φ₁ φ₂ : FTy} (x : FVec Ideal ⟨2, ![M, K]⟩ φ₁) (y : FVec Ideal ⟨2, ![K, N]⟩ φ₂)
    (r : Fin M) (c : Fin N) :
    matmul (DotDims.plain M K N) none x y (constant ⟨2, ![M, N]⟩ .f32 0x00000000#32) (ix2 r c)
      = ∑ k : Fin K, x (ix2 r k) * y (ix2 k c) := by
  show FloatOps.matmul (DotDims.plain M K N) none x y _ (ix2 r c) = _
  rw [Ideal.matmul_plain_apply]
  show Ideal.ofBits .f32 0x00000000#32 + _ = _
  rw [Ideal.ofBits_zero_f32, zero_add]

/-- The contraction of both operands on their first axis: `K×M` by `K×N`. -/
def transposedLhs (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A kernel's product into a zero accumulator, both operands contracted on their first axis: columns of `x` against columns
    of `y`. -/
theorem tn_apply {M K N : ℕ} {φ₁ φ₂ : FTy} (x : FVec Ideal ⟨2, ![K, M]⟩ φ₁) (y : FVec Ideal ⟨2, ![K, N]⟩ φ₂)
    (r : Fin M) (c : Fin N) :
    matmul (transposedLhs M K N) none x y (constant ⟨2, ![M, N]⟩ .f32 0x00000000#32) (ix2 r c)
      = ∑ k : Fin K, x (ix2 k r) * y (ix2 k c) := by
  show FloatOps.matmul (transposedLhs M K N) none x y _ (ix2 r c) = _
  rw [Ideal.matmul_constant_zero_apply, ← Equiv.sum_comp (contrEquiv1 (transposedLhs M K N) K rfl rfl).symm]
  refine Finset.sum_congr rfl fun k _ => ?_
  have hk := contrEquiv1_symm_val (transposedLhs M K N) K rfl rfl k
  have el : (transposedLhs M K N).lhsIdx (ix2 r c) ((contrEquiv1 (transposedLhs M K N) K rfl rfl).symm k) = ix2 k r :=
    funext fun a => Fin.ext (by
      match a with
      | ⟨0, _⟩ => exact ((transposedLhs M K N).lhsIdx_val_of_single rfl _ _).trans hk
      | ⟨1, _⟩ => rfl)
  have er : (transposedLhs M K N).rhsIdx (ix2 r c) ((contrEquiv1 (transposedLhs M K N) K rfl rfl).symm k) = ix2 k c :=
    funext fun a => Fin.ext (by
      match a with
      | ⟨0, _⟩ => exact ((transposedLhs M K N).rhsIdx_val_of_single rfl _ _).trans hk
      | ⟨1, _⟩ => rfl)
  rw [el, er]

/-- A block of one leading unit axis, cast to a matrix, at row `r` and column `c`. -/
theorem drop_apply {α : Type} {A B : ℕ} (v : (⟨3, ![1, A, B]⟩ : Shape).Idx → α)
    (h : (⟨3, ![1, A, B]⟩ : Shape).ShapeCasts ⟨2, ![A, B]⟩) (r : Fin A) (c : Fin B) :
    shapeCast ⟨2, ![A, B]⟩ v h (ix2 r c) = v (ix3 ⟨0, Nat.one_pos⟩ r c) := by
  refine (shapeCast_dropUnit_apply (n := 2) ![A, B] v h (ix2 r c)).trans (congrArg v ?_)
  funext a
  match a with
  | ⟨0, _⟩ => rfl
  | ⟨1, _⟩ => rfl
  | ⟨2, _⟩ => rfl

/-- A matrix cast to a block with one leading unit axis, at `j`. -/
theorem add_apply {α : Type} {A B : ℕ} (v : (⟨2, ![A, B]⟩ : Shape).Idx → α)
    (h : (⟨2, ![A, B]⟩ : Shape).ShapeCasts ⟨3, ![1, A, B]⟩) (j : (⟨3, ![1, A, B]⟩ : Shape).Idx) :
    shapeCast ⟨3, ![1, A, B]⟩ v h j = v (ix2 (j 1) (j 2)) := by
  refine (shapeCast_addUnit_apply (n := 2) ![A, B] v h j).trans (congrArg v ?_)
  funext a
  match a with
  | ⟨0, _⟩ => rfl
  | ⟨1, _⟩ => rfl

/-- A sum over `a * b` positions, block by block. -/
theorem sum_blocks {a b : ℕ} (f : Fin a → Fin b → EReal) :
    ∑ k : Fin (a * b), f k.divNat k.modNat = ∑ s : Fin a, ∑ k : Fin b, f s k := by
  rw [← Fintype.sum_prod_type' f]
  exact Equiv.sum_comp finProdFinEquiv.symm fun p : Fin a × Fin b => f p.1 p.2

end Cert.Proof.Dots

end
-- ==== Proof.Acc.lean ====
/-
  Accumulators over a grid: a block that grows by one addend at each point holds the sum of the addends, and a sum over
  blocks of rows is the sum over all rows.
-/
module

public import proofs.«01_k».proof.Proof.Dots

@[expose] public section

noncomputable section

namespace Cert.Proof.Acc

open Idealize.ShloMosaic Idealize.ShloMosaic.ValueIdx

/-- What starts at the first addend and grows by the next addend at each point is the sum of the addends so far. -/
theorem sum_of_steps {ι : Type} {N : ℕ} (f : (n : ℕ) → n < N → ι → EReal) (M : ℕ → ι → EReal)
    (h0 : ∀ (h : 0 < N) (i : ι), f 0 h i = M 0 i)
    (hs : ∀ (n : ℕ) (h : n + 1 < N) (i : ι), f (n + 1) h i = f n (Nat.lt_of_succ_lt h) i + M (n + 1) i) :
    ∀ (n : ℕ) (h : n < N) (i : ι), f n h i = ∑ s ∈ Finset.range (n + 1), M s i
  | 0, h, i => by rw [h0, Finset.sum_range_one]
  | n + 1, h, i => by rw [hs, sum_of_steps f M h0 hs n _ i, Finset.sum_range_succ _ (n + 1)]

/-- The sum of `a` blocks' sums of `b` rows is the sum over all rows. -/
theorem sum_rows {a b : ℕ} (g : Fin (a * b) → EReal) (M : ℕ → EReal)
    (hM : ∀ s : Fin a, M s.val = ∑ k : Fin b, g ⟨s.val * b + k.val, by
      have h1 := s.isLt; have h2 := k.isLt
      calc s.val * b + k.val < s.val * b + b := by omega
        _ = (s.val + 1) * b := (Nat.succ_mul _ _).symm
        _ ≤ a * b := Nat.mul_le_mul_right _ h1⟩) :
    ∑ s ∈ Finset.range a, M s = ∑ k : Fin (a * b), g k := by
  rw [Finset.sum_range]
  simp only [hM]
  refine (Dots.sum_blocks (a := a) (b := b) fun s k => g ⟨s.val * b + k.val, by
      have h1 := s.isLt; have h2 := k.isLt
      calc s.val * b + k.val < s.val * b + b := by omega
        _ = (s.val + 1) * b := (Nat.succ_mul _ _).symm
        _ ≤ a * b := Nat.mul_le_mul_right _ h1⟩).symm.trans ?_
  refine Finset.sum_congr rfl fun k _ => congrArg g (Fin.ext ?_)
  show k.val / b * b + k.val % b = k.val
  rw [Nat.mul_comm]; exact Nat.div_add_mod _ _

end Cert.Proof.Acc

end
-- ==== Proof.LossHead.lean ====
/-
  The loss head: what the kernel's two result arrays hold after the run is, entry by entry, the reference's loss (in every
  lane) and the reference's gradient of the loss; the kernel sums the halved means of the squared errors over its row blocks.
-/
module

public import proofs.«01_k».proof.Defs
public import proofs.«01_k».proof.Proof.Acc
public import proofs.«01_k».proof.Proof.Gen.LossHeadIdeal.Value
public import proofs.«01_k».proof.Proof.Gen.LossHeadRefIdeal.Read

@[expose] public section

noncomputable section

namespace Cert.Proof.LossHead

open Idealize.ShloMosaic Idealize.SL.Sem Idealize.ShloMosaic.TcCoe Idealize.ShloMosaic.ValueIdx
open Cert.LossHeadIdeal Cert.LossHeadIdeal.Gen Cert.LossHeadRefIdeal.Read
open Idealize.ShloMosaic.Pipeline (Dat)

/-! ### Numbers -/

/-- The pattern of one half. -/
theorem half : Ideal.ofBits .f32 0x3F000000#32 = ((1 / 2 : ℝ) : EReal) := by
  simp [Ideal.ofBits, Ideal.ieee, -EReal.coe_mul]; norm_num

/-- The pattern of two. -/
theorem two : Ideal.ofBits .f32 0x40000000#32 = ((2 : ℝ) : EReal) := by
  simp [Ideal.ofBits, Ideal.ieee, -EReal.coe_mul]; norm_num

/-- The pattern of one. -/
theorem one : Ideal.ofBits .f32 0x3F800000#32 = 1 := by
  simp [Ideal.ofBits, Ideal.ieee, -EReal.coe_mul]; norm_num

/-- The pattern of the row's length. -/
theorem len : Ideal.ofBits .f32 0x44800000#32 = ((1024 : ℝ) : EReal) := by
  simp [Ideal.ofBits, Ideal.ieee, -EReal.coe_mul]; norm_num

/-- Half a sum is the sum of the halves, whatever the addends. -/
theorem half_sum {ι : Type} (s : Finset ι) (f : ι → EReal) :
    Ideal.ofBits .f32 0x3F000000#32 * ∑ k ∈ s, f k = ∑ k ∈ s, Ideal.ofBits .f32 0x3F000000#32 * f k := by
  classical
  rw [half]
  induction s using Finset.induction_on with
  | empty => rw [Finset.sum_empty, Finset.sum_empty, mul_zero]
  | insert a s ha ih =>
    rw [Finset.sum_insert ha, Finset.sum_insert ha, ← ih]
    exact EReal.left_distrib_of_nonneg_of_ne_top (EReal.coe_nonneg.mpr (by norm_num)) (EReal.coe_ne_top _) _ _

/-- The reference's factors of an error come to the division by the row's length. -/
theorem grad_factor (e : EReal) :
    Ideal.div (Ideal.ofBits .f32 0x3F000000#32 * Ideal.ofBits .f32 0x3F800000#32) (Ideal.ofBits .f32 0x44800000#32)
      * (Ideal.ofBits .f32 0x40000000#32 * e) = Ideal.div e (Ideal.ofBits .f32 0x44800000#32) := by
  rw [len, half, two, one, mul_one, Ideal.div_coe (by norm_num), Ideal.div_coe (by norm_num), ← mul_assoc,
    ← EReal.coe_mul, ← EReal.coe_mul, mul_comm e]
  norm_num

/-- The mean of a row's squared errors. -/
def mean (x y : Fin 1024 → EReal) : EReal :=
  Ideal.div (∑ k, (x k - y k) * (x k - y k)) (Ideal.ofBits .f32 0x44800000#32)

section Values

variable (m : (ℓ : Loc nD τ sig) → Buf (Elt Ideal) ℓ)

/-- The trunk's output. -/
abbrev arg0 (c : Dev nD) : S4096x1024.Idx → EReal := m ((c : Thread nD τ).loc main_arg0)
/-- The target. -/
abbrev arg1 (c : Dev nD) : S4096x1024.Idx → EReal := m ((c : Thread nD τ).loc main_arg1)

/-- A row's part of the loss: half the mean of its squared errors. -/
def g2 (c : Dev nD) (r : Fin 4096) : EReal :=
  Ideal.ofBits .f32 0x3F000000#32 * mean (fun k => arg0 m c (ix2 r k)) (fun k => arg1 m c (ix2 r k))
/-- The loss, in every lane: the sum of the rows' parts. -/
def R2 (c : Dev nD) : S1x128.Idx → EReal := fun _ => ∑ r : Fin 4096, g2 m c r
/-- The loss's gradient at an index: the error over the row's length. -/
def R3 (c : Dev nD) : S4096x1024.Idx → EReal := fun i => Ideal.div (arg0 m c i - arg1 m c i) (Ideal.ofBits .f32 0x44800000#32)

/-! ### The reference -/

/-- An index of the rows is its two coordinates. -/
theorem at2 (p : S4096x1024.Idx) (r : Fin 4096) (k : Fin 1024) (h0 : (p 0).val = r.val) (h1 : (p 1).val = k.val) : p = ix2 r k :=
  funext fun a => Fin.ext (by match a with
    | ⟨0, _⟩ => exact h0
    | ⟨1, _⟩ => exact h1)

/-- A vector's indices are its coordinates. -/
def vecIdx : Fin 4096 ≃ LossHeadRefIdeal.S4096.Idx where
  toFun := ix1
  invFun := fun j => j 0
  left_inv := fun _ => rfl
  right_inv := fun j => (eq_ix1 j).symm

/-- The reference's mean of a row's squared errors. -/
theorem ref_mean (x y : S4096x1024.Idx → EReal) (r : Fin 4096) :
    val_main_v4 (F := Ideal) x y (ix1 r) = mean (fun k => x (ix2 r k)) (fun k => y (ix2 r k)) := by
  rw [val_main_v4_apply, val_main_v2_apply, val_main_v3_apply, val_main_cst_apply, val_main_cst_0_apply]
  show Ideal.div (Ideal.ofBits .f32 0x00000000#32 + _) _ = _
  rw [Ideal.ofBits_zero_f32, zero_add]
  refine congrArg (fun z => Ideal.div z (Ideal.ofBits .f32 0x44800000#32)) (Finset.sum_congr rfl fun k _ => ?_)
  rw [val_main_v1_apply, val_main_v0_apply]
  exact congrArg (fun p => (x p - y p) * (x p - y p)) (at2 _ r k rfl rfl)

/-- The reference's loss is that array. -/
theorem ref2 (c : Dev nD) :
    val_main_v7 (F := Ideal) (m ((c : Thread nD τ).loc main_arg0)) (m ((c : Thread nD τ).loc main_arg1)) = R2 m c := by
  funext i
  rw [val_main_v7_apply, val_main_v6_apply, val_main_v5_apply, val_main_cst_2_apply, val_main_cst_1_apply]
  show Ideal.ofBits .f32 0x3F000000#32 * (Ideal.ofBits .f32 0x00000000#32 + _) = _
  rw [Ideal.ofBits_zero_f32, zero_add, half_sum, ← Equiv.sum_comp vecIdx]
  exact Finset.sum_congr rfl fun r _ => congrArg (Ideal.ofBits .f32 0x3F000000#32 * ·) (ref_mean _ _ r)

/-- The reference's gradient is that array. -/
theorem ref3 (c : Dev nD) :
    val_main_v22 (F := Ideal) (m ((c : Thread nD τ).loc main_arg0)) (m ((c : Thread nD τ).loc main_arg1)) = R3 m c := by
  funext i
  rw [val_main_v22_apply, val_main_v21_apply, val_main_v20_apply, val_main_v18_apply, val_main_v17_apply, val_main_v19_apply,
    val_main_v11_apply, val_main_v10_apply, val_main_v8_apply, val_main_cst_3_apply, val_main_cst_8_apply, val_main_cst_9_apply,
    val_main_cst_10_apply]
  exact grad_factor _

/-! ### What one point computes -/

/-- The gradient over one block, an entry. -/
theorem pay2_apply (x y : Vec Ideal S512x1024 .f32) (j : S512x1024.Idx) :
    k0_pay2 (F := Ideal) x y j = Ideal.div (x j - y j) (Ideal.ofBits .f32 0x44800000#32) := by
  unfold k0_pay2 k0_pay1
  rfl

/-- The sums of a block's rows, an entry. -/
theorem rowsum_apply (f : Vec Ideal S512x1024 .f32) (j : S512x1.Idx) :
    (shapeCast S512x1 (multiReduction .add [1] S512 (f : FVec Ideal S512x1024 .f32) 0x00000000#32 reduces_S512x1024_S512 (.inl rfl) rfl : FVec Ideal S512 .f32)
      shapeCasts_S512_S512x1 : FVec Ideal S512x1 .f32) j = ∑ k : Fin 1024, f (ix2 (j 0) k) := by
  have h1 : (j 1).val < 1 := (j 1).isLt
  refine (shapeCast_apply _ shapeCasts_S512_S512x1 j (ix1 (j 0)) ?_).trans ?_
  · rewrite [Shape.rowMajor_val_one, Shape.rowMajor_val_two]
    show (j 0).val = (j 0).val * 1 + (j 1).val
    omega
  refine (Ideal.multiReduction_add_single _ _ reduces_S512x1024_S512 _ _ _).trans (Finset.sum_congr rfl fun k _ => congrArg f ?_)
  exact funext fun a => Fin.ext (by match a with
    | ⟨0, _⟩ => rfl
    | ⟨1, _⟩ => rfl)

/-- One block's part of the loss, in every lane: the sum of its rows' parts. -/
theorem pay3_apply (x y : Vec Ideal S512x1024 .f32) (j : S1x128.Idx) :
    k0_pay3 (F := Ideal) x y j
      = ∑ r : Fin 512, Ideal.ofBits .f32 0x3F000000#32 * mean (fun k => x (ix2 r k)) (fun k => y (ix2 r k)) := by
  unfold k0_pay3
  rw [shapeCast_self, ← half_sum]
  refine (broadcastTo_apply _ broadcasts_S1x1_S1x128 j (ix2 ⟨0, Nat.one_pos⟩ ⟨0, Nat.one_pos⟩) (fun a => match a with
    | ⟨0, _⟩ => rfl
    | ⟨1, _⟩ => rfl)).trans ?_
  refine congrArg (Ideal.ofBits .f32 0x3F000000#32 * ·) ?_
  refine (shapeCast_apply _ shapeCasts_S1_S1x1 _ (ix1 ⟨0, Nat.one_pos⟩) ?_).trans ?_
  · rewrite [Shape.rowMajor_val_one, Shape.rowMajor_val_two]
    rfl
  refine (Ideal.multiReduction_add_single _ _ reduces_S512x1_S1 _ _ _).trans (Finset.sum_congr rfl fun r _ => ?_)
  refine congrArg (fun z => Ideal.div z (Ideal.ofBits .f32 0x44800000#32))
    ((rowsum_apply (fun i => (x i - y i) * (x i - y i)) _).trans (Finset.sum_congr rfl fun k _ => ?_))
  exact congrArg (fun p : S512x1024.Idx => (x p - y p) * (x p - y p)) (funext fun a => Fin.ext (by match a with
    | ⟨0, _⟩ => rfl
    | ⟨1, _⟩ => rfl))

section Point

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x128 .f32) (h3 : a3.IsWhole) (a4 : Memref sig .tc .vmem S512x1024 .f32) (h4 : a4.IsWhole)
  (x0 x1 : Vec Ideal S512x1024 .f32) (o2 : Vec Ideal S1x128 .f32)

/-- The first point leaves its block's part of the loss and the gradient of its block. -/
theorem outA (c0 : cond0_0 i) (c1 : ¬cond0_1 i) : out0_A_2 c i a1 h1 a2 h2 a3 h3 a4 h4 c0 c1 x0 x1 = k0_pay3 (F := Ideal) x0 x1
    ∧ out0_A_3 c i a1 h1 a2 h2 a3 h3 a4 h4 c0 c1 x0 x1 = k0_pay2 (F := Ideal) x0 x1 := by
  unfold out0_A_2 out0_A_3
  rw [View.read_writes_eq_canon _ _ _ (cover0_A_2 c i a1 h1 a2 h2 a3 h3 a4 h4 c0 c1 x0 x1), View.read_writes_eq_canon _ _ _ (cover0_A_3 c i a1 h1 a2 h2 a3 h3 a4 h4 c0 c1 x0 x1)]
  unfold kernelRun0_A
  dsimp only
  sl_unfold_words
  rw [View.canon_unit_zero (by funext a; fin_cases a <;> rfl), View.canon_unit_zero (by funext a; fin_cases a <;> rfl)]
  simp only [View.readAt_eq_ld, h1.read_unread, h2.read_unread]
  repeat rw [View.ld_unit_zero (by funext a; fin_cases a <;> rfl)]
  exact ⟨rfl, rfl⟩

/-- Every later point adds its block's part of the loss and leaves the gradient of its block. -/
theorem outB (c0 : ¬cond0_0 i) (c1 : cond0_1 i) : out0_B_2 c i a1 h1 a2 h2 a3 h3 a4 h4 c0 c1 x0 x1 o2 = addf o2 (k0_pay3 (F := Ideal) x0 x1)
    ∧ out0_B_3 c i a1 h1 a2 h2 a3 h3 a4 h4 c0 c1 x0 x1 o2 = k0_pay2 (F := Ideal) x0 x1 := by
  unfold out0_B_2 out0_B_3
  rw [View.read_writes_eq_canon _ _ _ (cover0_B_2 c i a1 h1 a2 h2 a3 h3 a4 h4 c0 c1 x0 x1 o2), View.read_writes_eq_canon _ _ _ (cover0_B_3 c i a1 h1 a2 h2 a3 h3 a4 h4 c0 c1 x0 x1 o2)]
  unfold kernelRun0_B
  dsimp only
  sl_unfold_words
  rw [View.canon_unit_zero (by funext a; fin_cases a <;> rfl), View.canon_unit_zero (by funext a; fin_cases a <;> rfl)]
  simp only [View.readAt_eq_ld, h1.read_unread, h2.read_unread, h3.read_unread]
  repeat rw [View.ld_unit_zero (by funext a; fin_cases a <;> rfl)]
  unfold k0_pay4
  rw [shapeCast_self]
  exact ⟨rfl, rfl⟩

end Point

/-! ### The windows -/

/-- Which blocks the windows are at, at each point. -/
theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ win0_3.index t 0 = t.val ∧ win0_3.index t 1 = 0)

/-- Row `r` of block `t` is this row of the array. -/
def row (t : Fin cfg0.N) (r : Fin 512) : Fin 4096 := ⟨t.val * 512 + r.val, by
  have h : t.val < 8 := lt_of_lt_of_eq t.isLt (show cfg0.N = 8 from N_0)
  omega⟩

/-- The block of the trunk's output at point `t`, an entry. -/
theorem blk0 (c : Dev nD) (t : Fin cfg0.N) (j : S512x1024.Idx) : iblk m c 0 t j = arg0 m c (ix2 (row t (j 0)) (j 1)) := by
  obtain ⟨⟨e0, e1⟩, _⟩ := idx_facts t
  show V m c main_arg0 ((win0_0.rect t).emb j) = _
  rw [show V m c main_arg0 = arg0 m c from V_main_arg0 m c]
  exact congrArg (arg0 m c) (at2 _ _ _ ((win0_0.rect_emb_val t j 0).trans (by rw [e0]; rfl)) (win0_0.rect_emb_val_of_index_zero t 1 e1 j))

/-- The block of the target at point `t`, an entry. -/
theorem blk1 (c : Dev nD) (t : Fin cfg0.N) (j : S512x1024.Idx) : iblk m c 1 t j = arg1 m c (ix2 (row t (j 0)) (j 1)) := by
  obtain ⟨_, ⟨e0, e1⟩, _⟩ := idx_facts t
  show V m c main_arg1 ((win0_1.rect t).emb j) = _
  rw [show V m c main_arg1 = arg1 m c from V_main_arg1 m c]
  exact congrArg (arg1 m c) (at2 _ _ _ ((win0_1.rect_emb_val t j 0).trans (by rw [e0]; rfl)) (win0_1.rect_emb_val_of_index_zero t 1 e1 j))

/-! ### The outputs after each point -/

/-- Point `t` leaves the gradient of its block. -/
theorem outs3 (c : Dev nD) (t : Fin cfg0.N) : (outsAt0 m c t.val t.isLt).2 = k0_pay2 (F := Ideal) (iblk m c 0 t) (iblk m c 1 t) := by
  have hN : cfg0.N = 8 := N_0
  have ht := t.isLt
  by_cases h : t.val = 0
  · have e := congrArg Prod.snd (outsAt0_A m c t (by omega) (by omega))
    dsimp only at e
    exact e.trans (outA ..).2
  · have e := congrArg Prod.snd (outsAt0_B m c t (by omega) (by omega))
    dsimp only at e
    exact e.trans (outB ..).2

/-- What a point writes back of the gradient is its block of it. -/
theorem flushed3 (c : Dev nD) (t : Fin cfg0.N) :
    (dats m 0 c).flushed 3 t = ((cfg0.win 3).blk t).view.read (Elt Ideal) (R3 m c) := by
  rw [Value.flushed3, outs3]
  funext j
  obtain ⟨_, _, _, e0, e1⟩ := idx_facts t
  show k0_pay2 (F := Ideal) _ _ j = R3 m c ((win0_3.rect t).emb j)
  rw [pay2_apply, blk0, blk1, at2 ((win0_3.rect t).emb j) (row t (j 0)) (j 1) ((win0_3.rect_emb_val t j 0).trans (by rw [e0]; rfl))
    (win0_3.rect_emb_val_of_index_zero t 1 e1 j)]
  rfl

/-- Every index of the gradient lies in the block of some point. -/
theorem covered3 (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  refine ⟨⟨(i 0).val / 512, by show _ < 8; omega⟩, flush0_3 _, ?_⟩
  generalize ht : (⟨(i 0).val / 512, _⟩ : Fin cfg0.N) = t
  have hv : t.val = (i 0).val / 512 := by rw [← ht]
  obtain ⟨_, _, _, e0, e1⟩ := idx_facts t
  show i ∈ ((View.whole main_v0_1).slice (win0_3.rect t)).set
  rw [View.set_slice_whole, Rect.mem_set_unit]
  intro a
  match a with
  | ⟨0, _⟩ => show win0_3.index t 0 * 512 ≤ (i 0).val ∧ (i 0).val < win0_3.index t 0 * 512 + 512
              rw [e0]; omega
  | ⟨1, _⟩ => show win0_3.index t 1 * 1024 ≤ (i 1).val ∧ (i 1).val < win0_3.index t 1 * 1024 + 1024
              rw [e1]; omega

/-- Block `s`'s part of the loss; zero beyond the last block. -/
def part (c : Dev nD) (s : ℕ) : S1x128.Idx → EReal :=
  if h : s < cfg0.N then k0_pay3 (F := Ideal) (iblk m c 0 ⟨s, h⟩) (iblk m c 1 ⟨s, h⟩) else fun _ => 0

/-- After point `n` the loss's block holds the sum of the parts so far. -/
theorem outs2 (c : Dev nD) (n : ℕ) (h : n < cfg0.N) (i : S1x128.Idx) :
    (outsAt0 m c n h).1 i = ∑ s ∈ Finset.range (n + 1), part m c s i := by
  have hN : cfg0.N = 8 := N_0
  refine Acc.sum_of_steps (fun n h => (outsAt0 m c n h).1) (part m c) (fun h i => ?_) (fun n h i => ?_) n h i
  · rw [part, dif_pos h]
    have e := congrArg Prod.fst (outsAt0_A m c ⟨0, h⟩ (by rfl) (by dsimp only; omega))
    dsimp only at e
    rw [e, (outA ..).1]
  · rw [part, dif_pos h]
    have e := congrArg Prod.fst (outsAt0_B m c ⟨n + 1, h⟩ (by dsimp only; omega) (by dsimp only; omega))
    dsimp only at e
    rw [e, (outB ..).1]
    rfl

/-- The last point writes back the whole loss. -/
theorem flushed2 (c : Dev nD) (t : Fin cfg0.N) (hf : (cfg0.win 2).flush t = true) :
    (dats m 0 c).flushed 2 t = ((cfg0.win 2).blk t).view.read (Elt Ideal) (R2 m c) := by
  have hN : cfg0.N = 8 := N_0
  have h7 : t.val = 7 := by have := (flush0_2 t).mp hf; have := t.isLt; omega
  rw [Value.flushed2]
  funext j
  show (outsAt0 m c t.val t.isLt).1 j = ∑ r : Fin 4096, g2 m c r
  rw [outs2, h7]
  refine Acc.sum_rows (a := 8) (b := 512) (g2 m c) (fun s => part m c s j) fun s => ?_
  have hs : s.val < cfg0.N := lt_of_lt_of_eq s.isLt hN.symm
  rw [part, dif_pos hs, pay3_apply]
  refine Finset.sum_congr rfl fun k _ => ?_
  simp only [blk0, blk1]
  rfl

/-- The last point's block is the whole loss. -/
theorem covered2 (i : S1x128.Idx) :
    ∃ t : Fin cfg0.N, (cfg0.win 2).flush t = true ∧ i ∈ ((cfg0.win 2).blk t).view.set := by
  have h0 : (i 0).val < 1 := (i 0).isLt
  have h1 : (i 1).val < 128 := (i 1).isLt
  refine ⟨⟨7, by show _ < 8; omega⟩, (flush0_2 _).mpr rfl, ?_⟩
  generalize (⟨7, _⟩ : Fin cfg0.N) = t
  obtain ⟨_, _, ⟨e0, e1⟩, _⟩ := idx_facts t
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e0]; omega
  | ⟨1, _⟩ => show win0_2.index t 1 * 128 ≤ (i 1).val ∧ (i 1).val < win0_2.index t 1 * 128 + 128
              rw [e1]; omega

end Values

/-- The reference's own run: its arguments end unchanged. -/
theorem frame_ref : Cert.quiescent_LossHeadRefIdeal := fun m ρ _ =>
  (θ_run _ _ _).mono (fun r h => ⟨fun c => (h c).2.2, sem_eq_zero_of_no_sems (by decide) r.2⟩) (LossHeadRefIdeal.Value.run m ρ)

/-- The claim: run on the same arguments, kernel and reference leave the same two arrays. -/
theorem algebraic : Cert.algebraic_LossHeadIdeal_LossHeadRefIdeal := by
  intro m ρ m' ρ' _ hag
  refine ⟨fun c => R2 m c, fun c => R3 m c, (θ_run _ _ _).mono (fun r h c => ?_) (LossHeadIdeal.Value.run_blocks m ρ),
    (θ_run _ _ _).mono (fun r h c => ?_) (LossHeadRefIdeal.Value.run m' ρ')⟩
  · obtain ⟨h2, h3, k⟩ := h c
    exact ⟨h2.trans ((dats m 0 c).arrAt_eq_of_cover 2 (R2 m c) (flushed2 m c) covered2),
      h3.trans ((dats m 0 c).arrAt_eq_of_cover 3 (R3 m c) (fun t _ => flushed3 m c t) covered3), k⟩
  · obtain ⟨h2, h3, k⟩ := h c
    obtain ⟨a0, a1⟩ := hag c
    refine ⟨h2.trans ?_, h3.trans ?_, k⟩
    · rw [LossHeadRefIdeal.Read.val_main_v7_eq, a0, a1]
      exact ref2 m c
    · rw [LossHeadRefIdeal.Read.val_main_v22_eq, a0, a1]
      exact ref3 m c

end Cert.Proof.LossHead

end
-- ==== Proof.LnMod.lean ====
/-
  The gradient of the modulated norm: what the kernel's four result arrays hold after the run is, entry by entry, the
  reference's gradient of the rows (with the gradient that arrives past the norm added), of the gain, of the shift and of the scale.
-/
module

public import proofs.«01_k».proof.Defs
public import proofs.«01_k».proof.Proof.Acc
public import proofs.«01_k».proof.Proof.Gen.LnModIdeal.Value
public import proofs.«01_k».proof.Proof.Gen.LnModRefIdeal.Read

@[expose] public section

noncomputable section

namespace Cert.Proof.LnMod

open Idealize.ShloMosaic Idealize.SL.Sem Idealize.ShloMosaic.TcCoe Idealize.ShloMosaic.ValueIdx
open Cert.LnModIdeal Cert.LnModIdeal.Gen Cert.LnModRefIdeal.Read
open Idealize.ShloMosaic.Pipeline (Dat)

/-! ### One row -/

/-- The mean of a row's squares, plus the norm's epsilon. -/
def ms (x : Fin 1024 → EReal) : EReal :=
  Ideal.div (∑ k, x k * x k) (Ideal.ofBits .f32 0x44800000#32) + Ideal.ofBits .f32 0x358637BD#32

/-- The norm's factor of a row. -/
def inv (x : Fin 1024 → EReal) : EReal := Ideal.rsqrt (ms x)

/-- What arrives at the gained row's entry: the gradient times one plus the scale. -/
def dp (d s : EReal) : EReal := d * (Ideal.ofBits .f32 0x3F800000#32 + s)

/-- The gradient of the mean of the row's squares, over the row's length. -/
def dms (x d s g : Fin 1024 → EReal) : EReal :=
  Ideal.div ((∑ k, x k * (dp (d k) (s k) * g k)) * (Ideal.ofBits .f32 0xBF000000#32 * Ideal.div (inv x) (ms x))) (Ideal.ofBits .f32 0x44800000#32)

/-- The gradient of a row's entry. -/
def dx (x d s g : Fin 1024 → EReal) (k : Fin 1024) : EReal :=
  dp (d k) (s k) * g k * inv x + x k * dms x d s g + dms x d s g * x k

section Values

variable (m : (ℓ : Loc nD τ sig) → Buf (Elt Ideal) ℓ)

/-- The gradient that arrives. -/
abbrev arg0 (c : Dev nD) : S4096x1024.Idx → EReal := m ((c : Thread nD τ).loc main_arg0)
/-- The rows. -/
abbrev arg1 (c : Dev nD) : S4096x1024.Idx → EReal := m ((c : Thread nD τ).loc main_arg1)
/-- The gain. -/
abbrev arg2 (c : Dev nD) : S1024.Idx → EReal := m ((c : Thread nD τ).loc main_arg2)
/-- The scale. -/
abbrev arg4 (c : Dev nD) : S1024.Idx → EReal := m ((c : Thread nD τ).loc main_arg4)
/-- The gradient that arrives past the norm. -/
abbrev arg5 (c : Dev nD) : S4096x1024.Idx → EReal := m ((c : Thread nD τ).loc main_arg5)

/-- The rows' gradient at an index. -/
def R6 (c : Dev nD) : S4096x1024.Idx → EReal := fun i =>
  dx (fun k => arg1 m c (ix2 (i 0) k)) (fun k => arg0 m c (ix2 (i 0) k)) (fun k => arg4 m c (ix1 k)) (fun k => arg2 m c (ix1 k)) (i 1) + arg5 m c i
/-- A row's part of the gain's gradient. -/
def g7 (c : Dev nD) (q : Fin 1024) (r : Fin 4096) : EReal :=
  arg1 m c (ix2 r q) * inv (fun k => arg1 m c (ix2 r k)) * dp (arg0 m c (ix2 r q)) (arg4 m c (ix1 q))
/-- A row's part of the shift's gradient. -/
def g8 (c : Dev nD) (q : Fin 1024) (r : Fin 4096) : EReal := arg0 m c (ix2 r q)
/-- A row's part of the scale's gradient. -/
def g9 (c : Dev nD) (q : Fin 1024) (r : Fin 4096) : EReal :=
  arg1 m c (ix2 r q) * inv (fun k => arg1 m c (ix2 r k)) * arg2 m c (ix1 q) * arg0 m c (ix2 r q)
/-- The gain's gradient at an index: the sum of the rows' parts. -/
def R7 (c : Dev nD) : S1x1024.Idx → EReal := fun i => ∑ r : Fin 4096, g7 m c (i 1) r
/-- The shift's gradient at an index: the sum of the rows' parts. -/
def R8 (c : Dev nD) : S1x1024.Idx → EReal := fun i => ∑ r : Fin 4096, g8 m c (i 1) r
/-- The scale's gradient at an index: the sum of the rows' parts. -/
def R9 (c : Dev nD) : S1x1024.Idx → EReal := fun i => ∑ r : Fin 4096, g9 m c (i 1) r

/-! ### The reference -/

/-- An index of the rows is its two coordinates. -/
theorem at2 (p : S4096x1024.Idx) (r : Fin 4096) (k : Fin 1024) (h0 : (p 0).val = r.val) (h1 : (p 1).val = k.val) : p = ix2 r k :=
  funext fun a => Fin.ext (by match a with
    | ⟨0, _⟩ => exact h0
    | ⟨1, _⟩ => exact h1)

/-- An index of a vector is its coordinate. -/
theorem at1 (p : S1024.Idx) (k : Fin 1024) (h : (p 0).val = k.val) : p = ix1 k :=
  funext fun a => Fin.ext (by match a with | ⟨0, _⟩ => exact h)

/-- The reference's row factor's argument is the mean of squares plus epsilon. -/
theorem ref_ms (x : S4096x1024.Idx → EReal) (i : Cert.LnModRefIdeal.S4096x1.Idx) (r : Fin 4096) (h : (i 0).val = r.val) :
    val_main_v6 (F := Ideal) x i = ms fun k => x (ix2 r k) := by
  rw [val_main_v6_apply, val_main_v4_apply, val_main_v2_apply,
    val_main_v1_apply, val_main_v3_apply, val_main_v5_apply,
    val_main_cst_apply, val_main_cst_0_apply, val_main_cst_1_apply]
  show Ideal.div (Ideal.ofBits .f32 0x00000000#32 + _) _ + _ = _
  rw [Ideal.ofBits_zero_f32, zero_add]
  refine congrArg (fun z => Ideal.div z (Ideal.ofBits .f32 0x44800000#32) + Ideal.ofBits .f32 0x358637BD#32) (Finset.sum_congr rfl fun k _ => ?_)
  rw [val_main_v0_apply]
  exact congrArg (fun p => x p * x p) (at2 _ r k h rfl)

/-- The reference's row factor. -/
theorem ref_inv (x : S4096x1024.Idx → EReal) (i : Cert.LnModRefIdeal.S4096x1.Idx) (r : Fin 4096) (h : (i 0).val = r.val) :
    val_main_v7 (F := Ideal) x i = inv fun k => x (ix2 r k) := by
  rw [val_main_v7_apply, ref_ms x i r h]
  rfl

/-- The reference's normed row. -/
theorem ref_v12 (x : S4096x1024.Idx → EReal) (i : S4096x1024.Idx) (r : Fin 4096) (k : Fin 1024) (h0 : (i 0).val = r.val) (h1 : (i 1).val = k.val) :
    val_main_v12 (F := Ideal) x i = x (ix2 r k) * inv fun k => x (ix2 r k) := by
  rw [val_main_v12_apply, val_main_v11_apply]
  exact congrArg₂ (· * ·) (congrArg x (at2 i r k h0 h1)) (ref_inv x _ r h0)

/-- The reference's gradient behind the scale. -/
theorem ref_v32 (d : S4096x1024.Idx → EReal) (s : S1024.Idx → EReal) (i : S4096x1024.Idx) (r : Fin 4096) (k : Fin 1024)
    (h0 : (i 0).val = r.val) (h1 : (i 1).val = k.val) :
    val_main_v32 (F := Ideal) d s i = dp (d (ix2 r k)) (s (ix1 k)) := by
  have e : val_main_v24 (F := Ideal) d = d := by
    unfold val_main_v24; exact shapeCast_self _ _
  rw [val_main_v32_apply, e, val_main_v31_apply, val_main_v18_apply,
    val_main_v17_apply, val_main_v16_apply, val_main_cst_3_apply]
  exact congrArg₂ dp (congrArg d (at2 i r k h0 h1)) (congrArg s (at1 _ k h1))

/-- The reference's gradient behind the gain. -/
theorem ref_v38 (d : S4096x1024.Idx → EReal) (g s : S1024.Idx → EReal) (i : S4096x1024.Idx) (r : Fin 4096) (k : Fin 1024)
    (h0 : (i 0).val = r.val) (h1 : (i 1).val = k.val) :
    val_main_v38 (F := Ideal) d g s i = dp (d (ix2 r k)) (s (ix1 k)) * g (ix1 k) := by
  rw [val_main_v38_apply, val_main_v37_apply, val_main_v13_apply]
  exact congrArg₂ (· * ·) (ref_v32 d s i r k h0 h1) (congrArg g (at1 _ k h1))

/-- The reference's gradient of the mean of squares. -/
theorem ref_v49 (d x : S4096x1024.Idx → EReal) (g s : S1024.Idx → EReal) (i : S4096x1024.Idx) (r : Fin 4096) (h : (i 0).val = r.val) :
    val_main_v49 (F := Ideal) d x g s i = dms (fun k => x (ix2 r k)) (fun k => d (ix2 r k)) (fun k => s (ix1 k)) (fun k => g (ix1 k)) := by
  have h' : (i 0).val * 1 + 0 = r.val := by omega
  rw [val_main_v49_apply, val_main_v48_apply, Fin.sum_univ_one, val_main_v47_apply,
    val_main_v45_apply, val_main_v46_apply, val_main_v42_apply,
    val_main_v41_apply, val_main_v10_apply, val_main_v9_apply,
    val_main_v8_apply, val_main_cst_12_apply, val_main_cst_11_apply,
    val_main_cst_10_apply, val_main_cst_2_apply]
  show Ideal.ofBits .f32 0x00000000#32 + Ideal.div ((Ideal.ofBits .f32 0x00000000#32 + _) * (_ * Ideal.div _ _)) _ = _
  rw [Ideal.ofBits_zero_f32, zero_add, zero_add]
  refine congrArg₂ (fun a b => Ideal.div (a * (Ideal.ofBits .f32 0xBF000000#32 * b)) (Ideal.ofBits .f32 0x44800000#32))
    (Finset.sum_congr rfl fun k _ => ?_) (congrArg₂ Ideal.div (ref_inv x _ r h) (ref_ms x _ r h))
  rw [val_main_v40_apply]
  exact congrArg₂ (· * ·) (congrArg x (at2 _ r k h' rfl)) (ref_v38 d g s _ r k h' rfl)

/-- The reference's first result is the rows' gradient. -/
theorem ref6 (c : Dev nD) : val_main_v54 (F := Ideal) (m ((c : Thread nD τ).loc main_arg0))
    (m ((c : Thread nD τ).loc main_arg1)) (m ((c : Thread nD τ).loc main_arg2)) (m ((c : Thread nD τ).loc main_arg4))
    (m ((c : Thread nD τ).loc main_arg5)) = R6 m c := by
  funext i
  rw [val_main_v54_apply, val_main_v53_apply, val_main_v51_apply,
    val_main_v52_apply, val_main_v50_apply, val_main_v44_apply,
    val_main_v43_apply]
  refine congrArg (· + arg5 m c i) (congrArg₂ (· + ·) (congrArg₂ (· + ·) (congrArg₂ (· * ·) (ref_v38 _ _ _ i (i 0) (i 1) rfl rfl)
    (ref_inv _ _ (i 0) rfl)) (congrArg₂ (· * ·) (congrArg (arg1 m c) (at2 i (i 0) (i 1) rfl rfl)) (ref_v49 _ _ _ _ i (i 0) rfl)))
    (congrArg₂ (· * ·) (ref_v49 _ _ _ _ i (i 0) rfl) (congrArg (arg1 m c) (at2 i (i 0) (i 1) rfl rfl))))

/-- The reference's gradient of the gain. -/
theorem ref7 (c : Dev nD) : val_main_v55 (F := Ideal) (m ((c : Thread nD τ).loc main_arg0)) (m ((c : Thread nD τ).loc main_arg1)) (m ((c : Thread nD τ).loc main_arg4)) = R7 m c := by
  funext i
  have h0 : (i 0).val < 1 := (i 0).isLt
  have H : 0 * 1024 + ((i 0).val * 1024 + (i 1).val) = (i 1).val := by omega
  rw [val_main_v55_apply, val_main_v39_apply, Fin.sum_univ_one, val_main_v36_apply,
    val_main_v35_apply, val_main_cst_9_apply, val_main_cst_8_apply]
  show Ideal.ofBits .f32 0x00000000#32 + (Ideal.ofBits .f32 0x00000000#32 + _) = _
  rw [Ideal.ofBits_zero_f32, zero_add, zero_add]
  refine Finset.sum_congr rfl fun r _ => ?_
  rw [val_main_v34_apply]
  exact congrArg₂ (· * ·) (ref_v12 _ _ r (i 1) rfl H) (ref_v32 _ _ _ r (i 1) rfl H)

/-- The reference's gradient of the shift. -/
theorem ref8 (c : Dev nD) : val_main_v56 (F := Ideal) (m ((c : Thread nD τ).loc main_arg0)) = R8 m c := by
  funext i
  have h0 : (i 0).val < 1 := (i 0).isLt
  have H : 0 * 1024 + ((i 0).val * 1024 + (i 1).val) = (i 1).val := by omega
  rw [val_main_v56_apply, val_main_v27_apply, Fin.sum_univ_one, val_main_v26_apply,
    val_main_v25_apply, val_main_cst_5_apply, val_main_cst_4_apply]
  show Ideal.ofBits .f32 0x00000000#32 + (Ideal.ofBits .f32 0x00000000#32 + _) = _
  rw [Ideal.ofBits_zero_f32, zero_add, zero_add]
  refine Finset.sum_congr rfl fun r _ => ?_
  exact congrArg (arg0 m c) (at2 _ r (i 1) rfl H)

/-- The reference's gradient of the scale. -/
theorem ref9 (c : Dev nD) : val_main_v57 (F := Ideal) (m ((c : Thread nD τ).loc main_arg0)) (m ((c : Thread nD τ).loc main_arg1)) (m ((c : Thread nD τ).loc main_arg2)) = R9 m c := by
  funext i
  have h0 : (i 0).val < 1 := (i 0).isLt
  have H : 0 * 1024 + ((i 0).val * 1024 + (i 1).val) = (i 1).val := by omega
  have e24 : val_main_v24 (F := Ideal) (arg0 m c) = arg0 m c := by
    unfold val_main_v24; exact shapeCast_self _ _
  rw [val_main_v57_apply, val_main_v33_apply, Fin.sum_univ_one, val_main_v30_apply,
    val_main_v29_apply, val_main_cst_7_apply, val_main_cst_6_apply]
  show Ideal.ofBits .f32 0x00000000#32 + (Ideal.ofBits .f32 0x00000000#32 + _) = _
  rw [Ideal.ofBits_zero_f32, zero_add, zero_add]
  refine Finset.sum_congr rfl fun r _ => ?_
  rw [val_main_v28_apply, e24, val_main_v15_apply, val_main_v14_apply, val_main_v13_apply]
  exact congrArg₂ (· * ·) (congrArg₂ (· * ·) (ref_v12 _ _ r (i 1) rfl H) (congrArg (arg2 m c) (at1 _ (i 1) H))) (congrArg (arg0 m c) (at2 _ r (i 1) rfl H))

/-! ### What one point computes -/

/-- A vector laid out as one row, an entry. -/
theorem row_apply (f : S1024.Idx → EReal) (j : S1x1024.Idx) : shapeCast S1x1024 f shapeCasts_S1024_S1x1024 j = f (ix1 (j 1)) := by
  have h0 : (j 0).val < 1 := (j 0).isLt
  refine shapeCast_apply _ shapeCasts_S1024_S1x1024 j (ix1 (j 1)) ?_
  rewrite [Shape.rowMajor_val_one, Shape.rowMajor_val_two]
  show (j 1).val = (j 0).val * 1024 + (j 1).val
  omega

/-- The sums of a block's rows, an entry. -/
theorem rowsum_apply (f : Vec Ideal S512x1024 .f32) (j : S512x1.Idx) :
    (shapeCast S512x1 (multiReduction .add [1] S512 (f : FVec Ideal S512x1024 .f32) 0x00000000#32 reduces_S512x1024_S512 (.inl rfl) rfl : FVec Ideal S512 .f32)
      shapeCasts_S512_S512x1 : FVec Ideal S512x1 .f32) j = ∑ k : Fin 1024, f (ix2 (j 0) k) := by
  have h1 : (j 1).val < 1 := (j 1).isLt
  refine (shapeCast_apply _ shapeCasts_S512_S512x1 j (ix1 (j 0)) ?_).trans ?_
  · rewrite [Shape.rowMajor_val_one, Shape.rowMajor_val_two]
    show (j 0).val = (j 0).val * 1 + (j 1).val
    omega
  refine (Ideal.multiReduction_add_single _ _ reduces_S512x1024_S512 _ _ _).trans (Finset.sum_congr rfl fun k _ => congrArg f ?_)
  exact funext fun a => Fin.ext (by match a with
    | ⟨0, _⟩ => rfl
    | ⟨1, _⟩ => rfl)

/-- The sums of a block's columns, an entry. -/
theorem colsum_apply (f : Vec Ideal S512x1024 .f32) (j : S1x1024.Idx) :
    (shapeCast S1x1024 (multiReduction .add [0] S1024 (f : FVec Ideal S512x1024 .f32) 0x00000000#32 reduces_S512x1024_S1024 (.inl rfl) rfl : FVec Ideal S1024 .f32)
      shapeCasts_S1024_S1x1024 : FVec Ideal S1x1024 .f32) j = ∑ k : Fin 512, f (ix2 k (j 1)) := by
  refine (row_apply _ j).trans ?_
  refine (Ideal.multiReduction_add_single _ _ reduces_S512x1024_S1024 _ _ _).trans (Finset.sum_congr rfl fun k _ => congrArg f ?_)
  exact funext fun a => Fin.ext (by match a with
    | ⟨0, _⟩ => rfl
    | ⟨1, _⟩ => rfl)

/-- A column spread over a block, an entry. -/
theorem col_apply (f : Vec Ideal S512x1 .f32) (j : S512x1024.Idx) :
    broadcastTo S512x1024 f broadcasts_S512x1_S512x1024 j = f (ix2 (j 0) ⟨0, Nat.one_pos⟩) :=
  broadcastTo_apply f broadcasts_S512x1_S512x1024 j (ix2 (j 0) ⟨0, Nat.one_pos⟩) (fun a => match a with
    | ⟨0, _⟩ => rfl
    | ⟨1, _⟩ => rfl)

/-- A row spread over a block, an entry. -/
theorem spread_apply (f : Vec Ideal S1x1024 .f32) (j : S512x1024.Idx) :
    broadcastTo S512x1024 f broadcasts_S1x1024_S512x1024 j = f (ix2 ⟨0, Nat.one_pos⟩ (j 1)) :=
  broadcastTo_apply f broadcasts_S1x1024_S512x1024 j (ix2 ⟨0, Nat.one_pos⟩ (j 1)) (fun a => match a with
    | ⟨0, _⟩ => rfl
    | ⟨1, _⟩ => rfl)

/-- The mean of squares plus epsilon over one block. -/
theorem pay6_apply (x : Vec Ideal S512x1024 .f32) (j : S512x1.Idx) : k0_pay6 (F := Ideal) x j = ms fun k => x (ix2 (j 0) k) := by
  unfold k0_pay6
  exact congrArg (fun z => Ideal.div z (Ideal.ofBits .f32 0x44800000#32) + Ideal.ofBits .f32 0x358637BD#32) (rowsum_apply (fun i => x i * x i) j)

/-- The factor over one block. -/
theorem pay7_apply (x : Vec Ideal S512x1024 .f32) (j : S512x1.Idx) : k0_pay7 (F := Ideal) x j = inv fun k => x (ix2 (j 0) k) := by
  unfold k0_pay7
  exact congrArg Ideal.rsqrt (pay6_apply x j)

/-- The normed rows over one block. -/
theorem pay8_apply (x : Vec Ideal S512x1024 .f32) (j : S512x1024.Idx) :
    k0_pay8 (F := Ideal) x j = x j * inv fun k => x (ix2 (j 0) k) := by
  unfold k0_pay8
  exact congrArg (x j * ·) ((col_apply _ j).trans (pay7_apply x _))

/-- The gradient behind the scale over one block. -/
theorem pay12_apply (s : Vec Ideal S1x1024 .f32) (d : Vec Ideal S512x1024 .f32) (j : S512x1024.Idx) :
    k0_pay12 (F := Ideal) s d j = dp (d j) (s (ix2 ⟨0, Nat.one_pos⟩ (j 1))) := by
  unfold k0_pay12 k0_pay9
  rw [shapeCast_self, shapeCast_self]
  exact congrArg (d j * ·) (spread_apply _ j)

/-- The gradient behind the gain over one block. -/
theorem pay14_apply (g s : Vec Ideal S1x1024 .f32) (d : Vec Ideal S512x1024 .f32) (j : S512x1024.Idx) :
    k0_pay14 (F := Ideal) g s d j = dp (d j) (s (ix2 ⟨0, Nat.one_pos⟩ (j 1))) * g (ix2 ⟨0, Nat.one_pos⟩ (j 1)) := by
  unfold k0_pay14 k0_pay5
  rw [shapeCast_self]
  exact congrArg₂ (· * ·) (pay12_apply s d j) (spread_apply _ j)

/-- The rows' gradient over one block, an entry. -/
theorem pay1_apply (x d e : Vec Ideal S512x1024 .f32) (g s : Vec Ideal S1x1024 .f32) (j : S512x1024.Idx) :
    k0_pay1 (F := Ideal) x (k0_pay15 x g s d) (k0_pay16 x g s d) e j
      = dx (fun k => x (ix2 (j 0) k)) (fun k => d (ix2 (j 0) k)) (fun k => s (ix2 ⟨0, Nat.one_pos⟩ k)) (fun k => g (ix2 ⟨0, Nat.one_pos⟩ k)) (j 1) + e j := by
  have h15 : k0_pay15 (F := Ideal) x g s d j
      = dp (d j) (s (ix2 ⟨0, Nat.one_pos⟩ (j 1))) * g (ix2 ⟨0, Nat.one_pos⟩ (j 1)) * inv fun k => x (ix2 (j 0) k) := by
    unfold k0_pay15
    exact congrArg₂ (· * ·) (pay14_apply g s d j) ((col_apply _ j).trans (pay7_apply x _))
  have h16 (q : S512x1.Idx) : Ideal.div (k0_pay16 (F := Ideal) x g s d q) (Ideal.ofBits .f32 0x44800000#32)
      = dms (fun k => x (ix2 (q 0) k)) (fun k => d (ix2 (q 0) k)) (fun k => s (ix2 ⟨0, Nat.one_pos⟩ k)) (fun k => g (ix2 ⟨0, Nat.one_pos⟩ k)) := by
    unfold k0_pay16
    refine congrArg (fun z => Ideal.div z (Ideal.ofBits .f32 0x44800000#32)) (congrArg₂ (· * ·) ((rowsum_apply (fun i => x i * k0_pay14 (F := Ideal) g s d i) q).trans ?_)
      (congrArg (Ideal.ofBits .f32 0xBF000000#32 * ·) (congrArg₂ Ideal.div (pay7_apply x q) (pay6_apply x q))))
    refine Finset.sum_congr rfl fun k _ => ?_
    exact congrArg (x (ix2 (q 0) k) * ·) (pay14_apply g s d _)
  have ht : (broadcastTo S512x1024 (shapeCast S512x1 (multiReduction .add [1] S512 (divf (k0_pay16 (F := Ideal) x g s d)
        (broadcast S512x1 (Scalar.ofBits (F := Ideal) .f32 0x44800000#32))) 0x00000000#32 reduces_S512x1_S512 (.inl rfl) rfl : FVec Ideal S512 .f32)
        shapeCasts_S512_S512x1 : FVec Ideal S512x1 .f32) broadcasts_S512x1_S512x1024 : FVec Ideal S512x1024 .f32) j
      = dms (fun k => x (ix2 (j 0) k)) (fun k => d (ix2 (j 0) k)) (fun k => s (ix2 ⟨0, Nat.one_pos⟩ k)) (fun k => g (ix2 ⟨0, Nat.one_pos⟩ k)) := by
    refine (col_apply _ j).trans ((shapeCast_apply _ shapeCasts_S512_S512x1 _ (ix1 (j 0)) ?_).trans ?_)
    · rewrite [Shape.rowMajor_val_one, Shape.rowMajor_val_two]
      show (j 0).val = (j 0).val * 1 + 0
      omega
    refine (Ideal.multiReduction_add_single _ _ reduces_S512x1_S512 _ _ _).trans (Eq.trans (Fin.sum_univ_one _) ?_)
    refine Eq.trans ?_ (h16 (ix2 (j 0) ⟨0, Nat.one_pos⟩))
    refine congrArg (fun q => Ideal.div (k0_pay16 (F := Ideal) x g s d q) (Ideal.ofBits .f32 0x44800000#32)) ?_
    exact funext fun a => Fin.ext (by match a with
      | ⟨0, _⟩ => rfl
      | ⟨1, _⟩ => rfl)
  unfold k0_pay1
  show k0_pay15 (F := Ideal) x g s d j + x j * broadcastTo _ _ _ j + broadcastTo _ _ _ j * x j + e j = _
  rw [ht, h15, eq_ix2 j]
  rfl

/-- The gain's part of one block, an entry. -/
theorem pay13_apply (x d : Vec Ideal S512x1024 .f32) (s : Vec Ideal S1x1024 .f32) (j : S1x1024.Idx) :
    k0_pay13 (F := Ideal) x s d j = ∑ r : Fin 512, x (ix2 r (j 1)) * (inv fun k => x (ix2 r k)) * dp (d (ix2 r (j 1))) (s (ix2 ⟨0, Nat.one_pos⟩ (j 1))) := by
  unfold k0_pay13
  refine (colsum_apply _ j).trans (Finset.sum_congr rfl fun r _ => ?_)
  exact congrArg₂ (· * ·) (pay8_apply x _) (pay12_apply s d _)

/-- The scale's part of one block, an entry. -/
theorem pay11_apply (x d : Vec Ideal S512x1024 .f32) (g : Vec Ideal S1x1024 .f32) (j : S1x1024.Idx) :
    k0_pay11 (F := Ideal) x g d j = ∑ r : Fin 512, x (ix2 r (j 1)) * (inv fun k => x (ix2 r k)) * g (ix2 ⟨0, Nat.one_pos⟩ (j 1)) * d (ix2 r (j 1)) := by
  unfold k0_pay11 k0_pay5 k0_pay9
  rw [shapeCast_self, shapeCast_self]
  refine (colsum_apply _ j).trans (Finset.sum_congr rfl fun r _ => ?_)
  exact congrArg (· * d (ix2 r (j 1))) (congrArg₂ (· * ·) (pay8_apply x _) (spread_apply g _))

section Point

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S1x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole)
  (a9 : Memref sig .tc .vmem S1x1024 .f32) (h9 : a9.IsWhole) (a10 : Memref sig .tc .vmem S1x1024 .f32) (h10 : a10.IsWhole)
  (x0 x1 x5 : Vec Ideal S512x1024 .f32) (x2 x3 x4 o7 o8 o9 : Vec Ideal S1x1024 .f32)

section PointA

variable (c0 : cond0_0 i) (c1 : ¬cond0_1 i) (c2 : cond0_2 i) (c3 : ¬cond0_3 i) (c4 : cond0_4 i) (c5 : ¬cond0_5 i)

/-- The first point leaves the rows' gradient of its block. -/
theorem outA6 :
    out0_A_6 c i a1 h1 a2 h2 a3 h3 a4 h4 a5 h5 a6 h6 a7 h7 a8 h8 a9 h9 a10 h10 c0 c1 c2 c3 c4 c5 x0 x1 x2 x3 x4 x5
      = k0_pay1 (F := Ideal) x1 (k0_pay15 x1 x2 x4 x0) (k0_pay16 x1 x2 x4 x0) x5 := by
  unfold out0_A_6
  rw [View.read_writes_eq_canon _ _ _ (cover0_A_6 c i a1 h1 a2 h2 a3 h3 a4 h4 a5 h5 a6 h6 a7 h7 a8 h8 a9 h9 a10 h10 c0 c1 c2 c3 c4 c5 x0 x1 x2 x3 x4 x5)]
  unfold kernelRun0_A
  dsimp only
  sl_unfold_words
  rw [View.canon_unit_zero (by funext a; fin_cases a <;> rfl)]
  simp only [View.readAt_eq_ld, h1.read_unread, h2.read_unread, h3.read_unread, h5.read_unread, h6.read_unread]
  repeat rw [View.ld_unit_zero (by funext a; fin_cases a <;> rfl)]

/-- The first point leaves its block's part of the gain's gradient. -/
theorem outA7 :
    out0_A_7 c i a1 h1 a2 h2 a3 h3 a4 h4 a5 h5 a6 h6 a7 h7 a8 h8 a9 h9 a10 h10 c0 c1 c2 c3 c4 c5 x0 x1 x2 x3 x4 x5
      = k0_pay13 (F := Ideal) x1 x4 x0 := by
  unfold out0_A_7
  rw [View.read_writes_eq_canon _ _ _ (cover0_A_7 c i a1 h1 a2 h2 a3 h3 a4 h4 a5 h5 a6 h6 a7 h7 a8 h8 a9 h9 a10 h10 c0 c1 c2 c3 c4 c5 x0 x1 x2 x3 x4 x5)]
  unfold kernelRun0_A
  dsimp only
  sl_unfold_words
  rw [View.canon_unit_zero (by funext a; fin_cases a <;> rfl)]
  simp only [View.readAt_eq_ld, h1.read_unread, h2.read_unread, h5.read_unread]
  repeat rw [View.ld_unit_zero (by funext a; fin_cases a <;> rfl)]

/-- The first point leaves its block's part of the shift's gradient. -/
theorem outA8 :
    out0_A_8 c i a1 h1 a2 h2 a3 h3 a4 h4 a5 h5 a6 h6 a7 h7 a8 h8 a9 h9 a10 h10 c0 c1 c2 c3 c4 c5 x0 x1 x2 x3 x4 x5
      = k0_pay10 (F := Ideal) x0 := by
  unfold out0_A_8
  rw [View.read_writes_eq_canon _ _ _ (cover0_A_8 c i a1 h1 a2 h2 a3 h3 a4 h4 a5 h5 a6 h6 a7 h7 a8 h8 a9 h9 a10 h10 c0 c1 c2 c3 c4 c5 x0 x1 x2 x3 x4 x5)]
  unfold kernelRun0_A
  dsimp only
  sl_unfold_words
  rw [View.canon_unit_zero (by funext a; fin_cases a <;> rfl)]
  simp only [View.readAt_eq_ld, h1.read_unread]
  rw [View.ld_unit_zero (by funext a; fin_cases a <;> rfl)]

/-- The first point leaves its block's part of the scale's gradient. -/
theorem outA9 :
    out0_A_9 c i a1 h1 a2 h2 a3 h3 a4 h4 a5 h5 a6 h6 a7 h7 a8 h8 a9 h9 a10 h10 c0 c1 c2 c3 c4 c5 x0 x1 x2 x3 x4 x5
      = k0_pay11 (F := Ideal) x1 x2 x0 := by
  unfold out0_A_9
  rw [View.read_writes_eq_canon _ _ _ (cover0_A_9 c i a1 h1 a2 h2 a3 h3 a4 h4 a5 h5 a6 h6 a7 h7 a8 h8 a9 h9 a10 h10 c0 c1 c2 c3 c4 c5 x0 x1 x2 x3 x4 x5)]
  unfold kernelRun0_A
  dsimp only
  sl_unfold_words
  rw [View.canon_unit_zero (by funext a; fin_cases a <;> rfl)]
  simp only [View.readAt_eq_ld, h1.read_unread, h2.read_unread, h3.read_unread]
  repeat rw [View.ld_unit_zero (by funext a; fin_cases a <;> rfl)]

end PointA

section PointB

variable (c0 : ¬cond0_0 i) (c1 : cond0_1 i) (c2 : ¬cond0_2 i) (c3 : cond0_3 i) (c4 : ¬cond0_4 i) (c5 : cond0_5 i)

/-- Every later point leaves the rows' gradient of its block. -/
theorem outB6 :
    out0_B_6 c i a1 h1 a2 h2 a3 h3 a4 h4 a5 h5 a6 h6 a7 h7 a8 h8 a9 h9 a10 h10 c0 c1 c2 c3 c4 c5 x0 x1 x2 x3 x4 x5 o7 o8 o9
      = k0_pay1 (F := Ideal) x1 (k0_pay15 x1 x2 x4 x0) (k0_pay16 x1 x2 x4 x0) x5 := by
  unfold out0_B_6
  rw [View.read_writes_eq_canon _ _ _ (cover0_B_6 c i a1 h1 a2 h2 a3 h3 a4 h4 a5 h5 a6 h6 a7 h7 a8 h8 a9 h9 a10 h10 c0 c1 c2 c3 c4 c5 x0 x1 x2 x3 x4 x5 o7 o8 o9)]
  unfold kernelRun0_B
  dsimp only
  sl_unfold_words
  rw [View.canon_unit_zero (by funext a; fin_cases a <;> rfl)]
  simp only [View.readAt_eq_ld, h1.read_unread, h2.read_unread, h3.read_unread, h5.read_unread, h6.read_unread]
  repeat rw [View.ld_unit_zero (by funext a; fin_cases a <;> rfl)]

/-- Every later point adds its block's part of the gain's gradient. -/
theorem outB7 :
    out0_B_7 c i a1 h1 a2 h2 a3 h3 a4 h4 a5 h5 a6 h6 a7 h7 a8 h8 a9 h9 a10 h10 c0 c1 c2 c3 c4 c5 x0 x1 x2 x3 x4 x5 o7 o8 o9
      = addf o7 (k0_pay13 (F := Ideal) x1 x4 x0) := by
  unfold out0_B_7
  rw [View.read_writes_eq_canon _ _ _ (cover0_B_7 c i a1 h1 a2 h2 a3 h3 a4 h4 a5 h5 a6 h6 a7 h7 a8 h8 a9 h9 a10 h10 c0 c1 c2 c3 c4 c5 x0 x1 x2 x3 x4 x5 o7 o8 o9)]
  unfold kernelRun0_B
  dsimp only
  sl_unfold_words
  rw [View.canon_unit_zero (by funext a; fin_cases a <;> rfl)]
  simp only [View.readAt_eq_ld, h1.read_unread, h2.read_unread, h5.read_unread, h8.read_unread]
  repeat rw [View.ld_unit_zero (by funext a; fin_cases a <;> rfl)]
  unfold k0_pay2
  rw [shapeCast_self]

/-- Every later point adds its block's part of the shift's gradient. -/
theorem outB8 :
    out0_B_8 c i a1 h1 a2 h2 a3 h3 a4 h4 a5 h5 a6 h6 a7 h7 a8 h8 a9 h9 a10 h10 c0 c1 c2 c3 c4 c5 x0 x1 x2 x3 x4 x5 o7 o8 o9
      = addf o8 (k0_pay10 (F := Ideal) x0) := by
  unfold out0_B_8
  rw [View.read_writes_eq_canon _ _ _ (cover0_B_8 c i a1 h1 a2 h2 a3 h3 a4 h4 a5 h5 a6 h6 a7 h7 a8 h8 a9 h9 a10 h10 c0 c1 c2 c3 c4 c5 x0 x1 x2 x3 x4 x5 o7 o8 o9)]
  unfold kernelRun0_B
  dsimp only
  sl_unfold_words
  rw [View.canon_unit_zero (by funext a; fin_cases a <;> rfl)]
  simp only [View.readAt_eq_ld, h1.read_unread, h9.read_unread]
  repeat rw [View.ld_unit_zero (by funext a; fin_cases a <;> rfl)]
  unfold k0_pay3
  rw [shapeCast_self]

/-- Every later point adds its block's part of the scale's gradient. -/
theorem outB9 :
    out0_B_9 c i a1 h1 a2 h2 a3 h3 a4 h4 a5 h5 a6 h6 a7 h7 a8 h8 a9 h9 a10 h10 c0 c1 c2 c3 c4 c5 x0 x1 x2 x3 x4 x5 o7 o8 o9
      = addf o9 (k0_pay11 (F := Ideal) x1 x2 x0) := by
  unfold out0_B_9
  rw [View.read_writes_eq_canon _ _ _ (cover0_B_9 c i a1 h1 a2 h2 a3 h3 a4 h4 a5 h5 a6 h6 a7 h7 a8 h8 a9 h9 a10 h10 c0 c1 c2 c3 c4 c5 x0 x1 x2 x3 x4 x5 o7 o8 o9)]
  unfold kernelRun0_B
  dsimp only
  sl_unfold_words
  rw [View.canon_unit_zero (by funext a; fin_cases a <;> rfl)]
  simp only [View.readAt_eq_ld, h1.read_unread, h2.read_unread, h3.read_unread, h10.read_unread]
  repeat rw [View.ld_unit_zero (by funext a; fin_cases a <;> rfl)]
  unfold k0_pay4
  rw [shapeCast_self]

end PointB

end Point

/-! ### The windows -/

/-- Which blocks the windows are at, at each point. -/
theorem idx_facts : ∀ t : Fin cfg0.N, (win0_0.index t 0 = t.val ∧ win0_0.index t 1 = 0) ∧ (win0_1.index t 0 = t.val ∧ win0_1.index t 1 = 0)
    ∧ win0_2.index t 1 = 0 ∧ win0_4.index t 1 = 0 ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) ∧ win0_9.index t 0 = 0 ∧ win0_9.index t 1 = 0 :=
  (by decide +kernel : ∀ t : Fin grid0.N, (win0_0.index t 0 = t.val ∧ win0_0.index t 1 = 0) ∧ (win0_1.index t 0 = t.val ∧ win0_1.index t 1 = 0)
    ∧ win0_2.index t 1 = 0 ∧ win0_4.index t 1 = 0 ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) ∧ win0_9.index t 0 = 0 ∧ win0_9.index t 1 = 0)

/-- Row `r` of block `t` is this row of the array. -/
def row (t : Fin cfg0.N) (r : Fin 512) : Fin 4096 := ⟨t.val * 512 + r.val, by
  have h : t.val < 8 := lt_of_lt_of_eq t.isLt (show cfg0.N = 8 from N_0)
  omega⟩

/-- The block of the gradient that arrives at point `t`, an entry. -/
theorem blk0 (c : Dev nD) (t : Fin cfg0.N) (j : S512x1024.Idx) : iblk m c 0 t j = arg0 m c (ix2 (row t (j 0)) (j 1)) := by
  obtain ⟨⟨e0, e1⟩, _⟩ := idx_facts t
  show V m c main_arg0 ((win0_0.rect t).emb j) = _
  rw [show V m c main_arg0 = arg0 m c from V_main_arg0 m c]
  exact congrArg (arg0 m c) (at2 _ _ _ ((win0_0.rect_emb_val t j 0).trans (by rw [e0]; rfl)) (win0_0.rect_emb_val_of_index_zero t 1 e1 j))

/-- The block of the rows at point `t`, an entry. -/
theorem blk1 (c : Dev nD) (t : Fin cfg0.N) (j : S512x1024.Idx) : iblk m c 1 t j = arg1 m c (ix2 (row t (j 0)) (j 1)) := by
  obtain ⟨_, ⟨e0, e1⟩, _⟩ := idx_facts t
  show V m c main_arg1 ((win0_1.rect t).emb j) = _
  rw [show V m c main_arg1 = arg1 m c from V_main_arg1 m c]
  exact congrArg (arg1 m c) (at2 _ _ _ ((win0_1.rect_emb_val t j 0).trans (by rw [e0]; rfl)) (win0_1.rect_emb_val_of_index_zero t 1 e1 j))

/-- The block of the gradient that arrives past the norm at point `t`, an entry. -/
theorem blk5 (c : Dev nD) (t : Fin cfg0.N) (j : S512x1024.Idx) : iblk m c 5 t j = arg5 m c (ix2 (row t (j 0)) (j 1)) := by
  obtain ⟨_, _, _, _, ⟨e0, e1⟩, _⟩ := idx_facts t
  show V m c main_arg5 ((win0_5.rect t).emb j) = _
  rw [show V m c main_arg5 = arg5 m c from V_main_arg5 m c]
  exact congrArg (arg5 m c) (at2 _ _ _ ((win0_5.rect_emb_val t j 0).trans (by rw [e0]; rfl)) (win0_5.rect_emb_val_of_index_zero t 1 e1 j))

/-- The gain at point `t`, an entry. -/
theorem blk2 (c : Dev nD) (t : Fin cfg0.N) (j : S1x1024.Idx) : iblk m c 2 t j = arg2 m c (ix1 (j 1)) := by
  obtain ⟨_, _, e1, _⟩ := idx_facts t
  have e : V m c main_v0 = shapeCast S1x1024 (arg2 m c) shapeCasts_S1024_S1x1024 := by
    dsimp only [V, hostOps0]; after_results; rfl
  show V m c main_v0 ((win0_2.rect t).emb j) = _
  rw [e, row_apply]
  exact congrArg (arg2 m c) (at1 _ _ (win0_2.rect_emb_val_of_index_zero t 1 e1 j))

/-- The scale at point `t`, an entry. -/
theorem blk4 (c : Dev nD) (t : Fin cfg0.N) (j : S1x1024.Idx) : iblk m c 4 t j = arg4 m c (ix1 (j 1)) := by
  obtain ⟨_, _, _, e1, _⟩ := idx_facts t
  have e : V m c main_v2 = shapeCast S1x1024 (arg4 m c) shapeCasts_S1024_S1x1024 := by
    dsimp only [V, hostOps0]; after_results; rfl
  show V m c main_v2 ((win0_4.rect t).emb j) = _
  rw [e, row_apply]
  exact congrArg (arg4 m c) (at1 _ _ (win0_4.rect_emb_val_of_index_zero t 1 e1 j))

/-! ### The outputs after each point -/

/-- Point `t` leaves the rows' gradient of its block. -/
theorem outs6 (c : Dev nD) (t : Fin cfg0.N) : (outsAt0 m c t.val t.isLt).1
    = k0_pay1 (F := Ideal) (iblk m c 1 t) (k0_pay15 (iblk m c 1 t) (iblk m c 2 t) (iblk m c 4 t) (iblk m c 0 t))
      (k0_pay16 (iblk m c 1 t) (iblk m c 2 t) (iblk m c 4 t) (iblk m c 0 t)) (iblk m c 5 t) := by
  have hN : cfg0.N = 8 := N_0
  have ht := t.isLt
  by_cases h : t.val = 0
  · have e := congrArg Prod.fst (outsAt0_A m c t (by omega) (by omega) (by omega) (by omega) (by omega) (by omega))
    dsimp only at e
    rw [e, outA6]
  · have e := congrArg Prod.fst (outsAt0_B m c t (by omega) (by omega) (by omega) (by omega) (by omega) (by omega))
    dsimp only at e
    rw [e, outB6]

/-- What a point writes back of the rows' gradient is its block of it. -/
theorem flushed6 (c : Dev nD) (t : Fin cfg0.N) :
    (dats m 0 c).flushed 6 t = ((cfg0.win 6).blk t).view.read (Elt Ideal) (R6 m c) := by
  rw [Value.flushed6, outs6]
  funext j
  obtain ⟨_, _, _, _, _, ⟨e0, e1⟩, _⟩ := idx_facts t
  show k0_pay1 (F := Ideal) _ _ _ _ j = R6 m c ((win0_6.rect t).emb j)
  rw [pay1_apply, at2 ((win0_6.rect t).emb j) (row t (j 0)) (j 1) ((win0_6.rect_emb_val t j 0).trans (by rw [e0]; rfl))
    (win0_6.rect_emb_val_of_index_zero t 1 e1 j)]
  simp only [blk0, blk1, blk2, blk4, blk5]
  rfl

/-- Every index of the rows' gradient lies in the block of some point. -/
theorem covered6 (i : S4096x1024.Idx) :
    ∃ t : Fin cfg0.N, (cfg0.win 6).flush t = true ∧ i ∈ ((cfg0.win 6).blk t).view.set := by
  have h0 : (i 0).val < 4096 := (i 0).isLt
  have h1 : (i 1).val < 1024 := (i 1).isLt
  refine ⟨⟨(i 0).val / 512, by show _ < 8; omega⟩, flush0_6 _, ?_⟩
  generalize ht : (⟨(i 0).val / 512, _⟩ : Fin cfg0.N) = t
  have hv : t.val = (i 0).val / 512 := by rw [← ht]
  obtain ⟨_, _, _, _, _, ⟨e0, e1⟩, _⟩ := idx_facts t
  show i ∈ ((View.whole main_v3_0).slice (win0_6.rect t)).set
  rw [View.set_slice_whole, Rect.mem_set_unit]
  intro a
  match a with
  | ⟨0, _⟩ => show win0_6.index t 0 * 512 ≤ (i 0).val ∧ (i 0).val < win0_6.index t 0 * 512 + 512
              rw [e0]; omega
  | ⟨1, _⟩ => show win0_6.index t 1 * 1024 ≤ (i 1).val ∧ (i 1).val < win0_6.index t 1 * 1024 + 1024
              rw [e1]; omega

/-- Block `s`'s part of the gain's gradient; zero beyond the last block. -/
def part7 (c : Dev nD) (s : ℕ) : S1x1024.Idx → EReal :=
  if h : s < cfg0.N then k0_pay13 (F := Ideal) (iblk m c 1 ⟨s, h⟩) (iblk m c 4 ⟨s, h⟩) (iblk m c 0 ⟨s, h⟩) else fun _ => 0

/-- After point `n` the gain's gradient holds the sum of the parts so far. -/
theorem outs7 (c : Dev nD) (n : ℕ) (h : n < cfg0.N) (i : S1x1024.Idx) :
    (outsAt0 m c n h).2.1 i = ∑ s ∈ Finset.range (n + 1), part7 m c s i := by
  have hN : cfg0.N = 8 := N_0
  refine Acc.sum_of_steps (fun n h => (outsAt0 m c n h).2.1) (part7 m c) (fun h i => ?_) (fun n h i => ?_) n h i
  · rw [part7, dif_pos h]
    have e := congrArg (fun z => z.2.1) (outsAt0_A m c ⟨0, h⟩ (by rfl) (by dsimp only; omega) (by rfl) (by dsimp only; omega) (by rfl) (by dsimp only; omega))
    dsimp only at e
    rw [e, outA7]
  · rw [part7, dif_pos h]
    have e := congrArg (fun z => z.2.1) (outsAt0_B m c ⟨n + 1, h⟩ (by dsimp only; omega) (by dsimp only; omega) (by dsimp only; omega) (by dsimp only; omega)
      (by dsimp only; omega) (by dsimp only; omega))
    dsimp only at e
    rw [e, outB7]
    rfl

/-- The last point writes back the whole gradient of the gain. -/
theorem flushed7 (c : Dev nD) (t : Fin cfg0.N) (hf : (cfg0.win 7).flush t = true) :
    (dats m 0 c).flushed 7 t = ((cfg0.win 7).blk t).view.read (Elt Ideal) (R7 m c) := by
  have hN : cfg0.N = 8 := N_0
  have h7 : t.val = 7 := by have := (flush0_7 t).mp hf; have := t.isLt; omega
  rw [Value.flushed7]
  funext j
  obtain ⟨_, _, _, _, _, _, ⟨e0, e1⟩, _⟩ := idx_facts t
  show (outsAt0 m c t.val t.isLt).2.1 j = R7 m c ((win0_7.rect t).emb j)
  rw [outs7, h7]
  have e : (win0_7.rect t).emb j = j := funext fun a => Fin.ext (by
    match a with
    | ⟨0, _⟩ => exact win0_7.rect_emb_val_of_index_zero t 0 e0 j
    | ⟨1, _⟩ => exact win0_7.rect_emb_val_of_index_zero t 1 e1 j)
  rw [e]
  refine Acc.sum_rows (a := 8) (b := 512) (g7 m c (j 1)) (fun s => part7 m c s j) fun s => ?_
  have hs : s.val < cfg0.N := lt_of_lt_of_eq s.isLt hN.symm
  rw [part7, dif_pos hs, pay13_apply]
  refine Finset.sum_congr rfl fun k _ => ?_
  simp only [blk0, blk1, blk4]
  rfl

/-- The last point's block of a row of sums is the whole row. -/
theorem inRow (i : S1x1024.Idx) : ∃ t : Fin cfg0.N, t.val % 8 = 7 ∧ i ∈ (win0_7.rect t).set := by
  have h0 : (i 0).val < 1 := (i 0).isLt
  have h1 : (i 1).val < 1024 := (i 1).isLt
  refine ⟨⟨7, by show _ < 8; omega⟩, rfl, ?_⟩
  generalize (⟨7, _⟩ : Fin cfg0.N) = t
  obtain ⟨_, _, _, _, _, _, ⟨e0, e1⟩, _⟩ := idx_facts t
  rw [Rect.mem_set_unit]
  intro a
  match a with
  | ⟨0, _⟩ => show win0_7.index t 0 * 1 ≤ (i 0).val ∧ (i 0).val < win0_7.index t 0 * 1 + 1
              rw [e0]; omega
  | ⟨1, _⟩ => show win0_7.index t 1 * 1024 ≤ (i 1).val ∧ (i 1).val < win0_7.index t 1 * 1024 + 1024
              rw [e1]; omega

/-- The last point's block is the whole gradient of the gain. -/
theorem covered7 (i : S1x1024.Idx) :
    ∃ t : Fin cfg0.N, (cfg0.win 7).flush t = true ∧ i ∈ ((cfg0.win 7).blk t).view.set :=
  let ⟨t, e, h⟩ := inRow i; ⟨t, (flush0_7 t).mpr e, by show i ∈ ((View.whole main_v3_1).slice (win0_7.rect t)).set; rw [View.set_slice_whole]; exact h⟩

/-- Block `s`'s part of the shift's gradient; zero beyond the last block. -/
def part8 (c : Dev nD) (s : ℕ) : S1x1024.Idx → EReal :=
  if h : s < cfg0.N then k0_pay10 (F := Ideal) (iblk m c 0 ⟨s, h⟩) else fun _ => 0

/-- After point `n` the shift's gradient holds the sum of the parts so far. -/
theorem outs8 (c : Dev nD) (n : ℕ) (h : n < cfg0.N) (i : S1x1024.Idx) :
    (outsAt0 m c n h).2.2.1 i = ∑ s ∈ Finset.range (n + 1), part8 m c s i := by
  have hN : cfg0.N = 8 := N_0
  refine Acc.sum_of_steps (fun n h => (outsAt0 m c n h).2.2.1) (part8 m c) (fun h i => ?_) (fun n h i => ?_) n h i
  · rw [part8, dif_pos h]
    have e := congrArg (fun z => z.2.2.1) (outsAt0_A m c ⟨0, h⟩ (by rfl) (by dsimp only; omega) (by rfl) (by dsimp only; omega) (by rfl) (by dsimp only; omega))
    dsimp only at e
    rw [e, outA8]
  · rw [part8, dif_pos h]
    have e := congrArg (fun z => z.2.2.1) (outsAt0_B m c ⟨n + 1, h⟩ (by dsimp only; omega) (by dsimp only; omega) (by dsimp only; omega) (by dsimp only; omega)
      (by dsimp only; omega) (by dsimp only; omega))
    dsimp only at e
    rw [e, outB8]
    rfl

/-- The last point writes back the whole gradient of the shift. -/
theorem flushed8 (c : Dev nD) (t : Fin cfg0.N) (hf : (cfg0.win 8).flush t = true) :
    (dats m 0 c).flushed 8 t = ((cfg0.win 8).blk t).view.read (Elt Ideal) (R8 m c) := by
  have hN : cfg0.N = 8 := N_0
  have h7 : t.val = 7 := by have := (flush0_8 t).mp hf; have := t.isLt; omega
  rw [Value.flushed8]
  funext j
  obtain ⟨_, _, _, _, _, _, _, ⟨e0, e1⟩, _⟩ := idx_facts t
  show (outsAt0 m c t.val t.isLt).2.2.1 j = R8 m c ((win0_8.rect t).emb j)
  rw [outs8, h7]
  have e : (win0_8.rect t).emb j = j := funext fun a => Fin.ext (by
    match a with
    | ⟨0, _⟩ => exact win0_8.rect_emb_val_of_index_zero t 0 e0 j
    | ⟨1, _⟩ => exact win0_8.rect_emb_val_of_index_zero t 1 e1 j)
  rw [e]
  refine Acc.sum_rows (a := 8) (b := 512) (g8 m c (j 1)) (fun s => part8 m c s j) fun s => ?_
  have hs : s.val < cfg0.N := lt_of_lt_of_eq s.isLt hN.symm
  rw [part8, dif_pos hs]
  refine (colsum_apply _ j).trans ?_
  refine Finset.sum_congr rfl fun k _ => ?_
  exact blk0 m c _ _

/-- The last point's block is the whole gradient of the shift. -/
theorem covered8 (i : S1x1024.Idx) :
    ∃ t : Fin cfg0.N, (cfg0.win 8).flush t = true ∧ i ∈ ((cfg0.win 8).blk t).view.set :=
  let ⟨t, e, h⟩ := inRow i; ⟨t, (flush0_8 t).mpr e, by show i ∈ ((View.whole main_v3_2).slice (win0_8.rect t)).set; rw [View.set_slice_whole]; exact h⟩

/-- Block `s`'s part of the scale's gradient; zero beyond the last block. -/
def part9 (c : Dev nD) (s : ℕ) : S1x1024.Idx → EReal :=
  if h : s < cfg0.N then k0_pay11 (F := Ideal) (iblk m c 1 ⟨s, h⟩) (iblk m c 2 ⟨s, h⟩) (iblk m c 0 ⟨s, h⟩) else fun _ => 0

/-- After point `n` the scale's gradient holds the sum of the parts so far. -/
theorem outs9 (c : Dev nD) (n : ℕ) (h : n < cfg0.N) (i : S1x1024.Idx) :
    (outsAt0 m c n h).2.2.2 i = ∑ s ∈ Finset.range (n + 1), part9 m c s i := by
  have hN : cfg0.N = 8 := N_0
  refine Acc.sum_of_steps (fun n h => (outsAt0 m c n h).2.2.2) (part9 m c) (fun h i => ?_) (fun n h i => ?_) n h i
  · rw [part9, dif_pos h]
    have e := congrArg (fun z => z.2.2.2) (outsAt0_A m c ⟨0, h⟩ (by rfl) (by dsimp only; omega) (by rfl) (by dsimp only; omega) (by rfl) (by dsimp only; omega))
    dsimp only at e
    rw [e, outA9]
  · rw [part9, dif_pos h]
    have e := congrArg (fun z => z.2.2.2) (outsAt0_B m c ⟨n + 1, h⟩ (by dsimp only; omega) (by dsimp only; omega) (by dsimp only; omega) (by dsimp only; omega)
      (by dsimp only; omega) (by dsimp only; omega))
    dsimp only at e
    rw [e, outB9]
    rfl

/-- The last point writes back the whole gradient of the scale. -/
theorem flushed9 (c : Dev nD) (t : Fin cfg0.N) (hf : (cfg0.win 9).flush t = true) :
    (dats m 0 c).flushed 9 t = ((cfg0.win 9).blk t).view.read (Elt Ideal) (R9 m c) := by
  have hN : cfg0.N = 8 := N_0
  have h7 : t.val = 7 := by have := (flush0_9 t).mp hf; have := t.isLt; omega
  rw [Value.flushed9]
  funext j
  obtain ⟨_, _, _, _, _, _, _, _, e0, e1⟩ := idx_facts t
  show (outsAt0 m c t.val t.isLt).2.2.2 j = R9 m c ((win0_9.rect t).emb j)
  rw [outs9, h7]
  have e : (win0_9.rect t).emb j = j := funext fun a => Fin.ext (by
    match a with
    | ⟨0, _⟩ => exact win0_9.rect_emb_val_of_index_zero t 0 e0 j
    | ⟨1, _⟩ => exact win0_9.rect_emb_val_of_index_zero t 1 e1 j)
  rw [e]
  refine Acc.sum_rows (a := 8) (b := 512) (g9 m c (j 1)) (fun s => part9 m c s j) fun s => ?_
  have hs : s.val < cfg0.N := lt_of_lt_of_eq s.isLt hN.symm
  rw [part9, dif_pos hs, pay11_apply]
  refine Finset.sum_congr rfl fun k _ => ?_
  simp only [blk0, blk1, blk2]
  rfl

/-- The last point's block is the whole gradient of the scale. -/
theorem covered9 (i : S1x1024.Idx) :
    ∃ t : Fin cfg0.N, (cfg0.win 9).flush t = true ∧ i ∈ ((cfg0.win 9).blk t).view.set :=
  let ⟨t, e, h⟩ := inRow i; ⟨t, (flush0_9 t).mpr e, by show i ∈ ((View.whole main_v3_3).slice (win0_9.rect t)).set; rw [View.set_slice_whole]; exact h⟩

end Values

/-- The reference's own run: its arguments end unchanged. -/
theorem frame_ref : Cert.quiescent_LnModRefIdeal := fun m ρ _ =>
  (θ_run _ _ _).mono (fun r h => ⟨fun c => (h c).2.2.2.2, sem_eq_zero_of_no_sems (by decide) r.2⟩) (LnModRefIdeal.Value.run m ρ)

/-- The claim: run on the same arguments, kernel and reference leave the same four arrays. -/
theorem algebraic : Cert.algebraic_LnModIdeal_LnModRefIdeal := by
  intro m ρ m' ρ' _ hag
  refine ⟨fun c => R6 m c, fun c => R7 m c, fun c => R8 m c, fun c => R9 m c, (θ_run _ _ _).mono (fun r h c => ?_) (LnModIdeal.Value.run_blocks m ρ),
    (θ_run _ _ _).mono (fun r h c => ?_) (LnModRefIdeal.Value.run m' ρ')⟩
  · obtain ⟨h6, h7, h8, h9, k⟩ := h c
    exact ⟨h6.trans ((dats m 0 c).arrAt_eq_of_cover 6 (R6 m c) (fun t _ => flushed6 m c t) covered6),
      h7.trans ((dats m 0 c).arrAt_eq_of_cover 7 (R7 m c) (flushed7 m c) covered7),
      h8.trans ((dats m 0 c).arrAt_eq_of_cover 8 (R8 m c) (flushed8 m c) covered8),
      h9.trans ((dats m 0 c).arrAt_eq_of_cover 9 (R9 m c) (flushed9 m c) covered9), k⟩
  · obtain ⟨h6, h7, h8, h9, k⟩ := h c
    obtain ⟨a0, a1, a2, a3, a4, a5⟩ := hag c
    refine ⟨h6.trans ?_, h7.trans ((val_main_v55_eq _ _ _).trans ?_), h8.trans ((val_main_v56_eq _).trans ?_),
      h9.trans ((val_main_v57_eq _ _ _).trans ?_), k⟩
    · rw [val_main_v54_eq, a0, a1, a2, a4, a5]
      exact ref6 m c
    · rw [a0, a1, a4]
      exact ref7 m c
    · rw [a0]
      exact ref8 m c
    · rw [a0, a1, a2]
      exact ref9 m c

end Cert.Proof.LnMod

end
-- ==== Proof.Gate.lean ====
/-
  The gradient of the gated residual: what the kernel's two result arrays hold after the run is, entry by entry, the
  reference's gradient of the gated branch and the reference's gradient of the gate; the kernel sums the latter over its row blocks.
-/
module

public import proofs.«01_k».proof.Defs
public import proofs.«01_k».proof.Proof.Acc
public import proofs.«01_k».proof.Proof.Gen.GateIdeal.Value
public import proofs.«01_k».proof.Proof.Gen.GateRefIdeal.Read

@[expose] public section

noncomputable section

namespace Cert.Proof.Gate

open Idealize.ShloMosaic Idealize.SL.Sem Idealize.ShloMosaic.TcCoe Idealize.ShloMosaic.ValueIdx
open Cert.GateIdeal Cert.GateIdeal.Gen
open Idealize.ShloMosaic.Pipeline (Dat)

section Values

variable (m : (ℓ : Loc nD τ sig) → Buf (Elt Ideal) ℓ)

/-- The gradient that arrives. -/
abbrev arg0 (c : Dev nD) : S4096x1024.Idx → EReal := m ((c : Thread nD τ).loc main_arg0)
/-- The branch the gate multiplies. -/
abbrev arg1 (c : Dev nD) : S4096x1024.Idx → EReal := m ((c : Thread nD τ).loc main_arg1)
/-- The gate. -/
abbrev arg2 (c : Dev nD) : S1024.Idx → EReal := m ((c : Thread nD τ).loc main_arg2)

/-- The branch's gradient at an index: the gate times what arrives. -/
def R3 (c : Dev nD) : S4096x1024.Idx → EReal := fun i => arg2 m c (ix1 (i 1)) * arg0 m c i
/-- The gate's gradient at an index: the sum over the rows of what arrives times the branch. -/
def R4 (c : Dev nD) : S1x1024.Idx → EReal := fun i => ∑ k : Fin 4096, arg0 m c (ix2 k (i 1)) * arg1 m c (ix2 k (i 1))

/-- The reference's first result is that array. -/
theorem ref3 (c : Dev nD) :
    GateRefIdeal.Read.val_main_v9 (F := Ideal) (m ((c : Thread nD τ).loc main_arg0)) (m ((c : Thread nD τ).loc main_arg2)) = R3 m c := by
  funext i
  rw [GateRefIdeal.Read.val_main_v9_apply, GateRefIdeal.Read.val_main_v4_apply, GateRefIdeal.Read.val_main_v3_apply,
    GateRefIdeal.Read.val_main_v0_apply]
  refine congrArg (· * arg0 m c i) (congrArg (arg2 m c) (funext fun a => ?_))
  match a with
  | ⟨0, _⟩ => rfl

/-- The reference's second result is that array. -/
theorem ref4 (c : Dev nD) :
    GateRefIdeal.Read.val_main_v10 (F := Ideal) (m ((c : Thread nD τ).loc main_arg0)) (m ((c : Thread nD τ).loc main_arg1)) = R4 m c := by
  funext i
  have h0 : (i 0).val < 1 := (i 0).isLt
  rw [GateRefIdeal.Read.val_main_v10_apply, GateRefIdeal.Read.val_main_v8_apply, Fin.sum_univ_one, GateRefIdeal.Read.val_main_v7_apply,
    GateRefIdeal.Read.val_main_v6_apply, GateRefIdeal.Read.val_main_cst_0_apply, GateRefIdeal.Read.val_main_cst_apply]
  show Ideal.ofBits .f32 0x00000000#32 + (Ideal.ofBits .f32 0x00000000#32 + _) = _
  rw [Ideal.ofBits_zero_f32, zero_add, zero_add]
  refine Finset.sum_congr rfl fun k _ => ?_
  rw [GateRefIdeal.Read.val_main_v5_apply]
  have e : GateRefIdeal.Read.idx_main_v6 (GateRefIdeal.Read.idx_main_v7 (GateRefIdeal.Read.idx_main_v8 (GateRefIdeal.Read.idx_main_v10 i) 0)) k
      = ix2 k (i 1) := funext fun a => Fin.ext (by
    match a with
    | ⟨0, _⟩ => rfl
    | ⟨1, _⟩ => show 0 * 1024 + ((i 0).val * 1024 + (i 1).val) = (i 1).val; omega)
  rw [e]
  rfl

/-- The gate as the region finds it: one row. -/
theorem V2_apply (c : Dev nD) (i : S1x1024.Idx) : V m c main_v0 i = arg2 m c (ix1 (i 1)) := by
  have h0 : (i 0).val < 1 := (i 0).isLt
  have e : V m c main_v0 = shapeCast S1x1024 (arg2 m c) shapeCasts_S1024_S1x1024 := by
    dsimp only [V, hostOps0]; after_results; rfl
  rw [e]
  refine shapeCast_apply _ shapeCasts_S1024_S1x1024 i _ ?_
  rewrite [Shape.rowMajor_val_one, Shape.rowMajor_val_two]
  show (i 1).val = (i 0).val * 1024 + (i 1).val
  omega

/-! ### What one point computes -/

/-- The branch's gradient over one block, an entry. -/
theorem pay1_apply (x : Vec Ideal S1024x1024 .f32) (g : Vec Ideal S1x1024 .f32) (j : S1024x1024.Idx) :
    k0_pay1 (F := Ideal) x g j = g (ix2 ⟨0, Nat.one_pos⟩ (j 1)) * x j := by
  unfold k0_pay1
  refine congrArg (· * x j) ?_
  rw [shapeCast_self]
  exact broadcastTo_apply g broadcasts_S1x1024_S1024x1024 j (ix2 ⟨0, Nat.one_pos⟩ (j 1)) (fun a => match a with
    | ⟨0, _⟩ => rfl
    | ⟨1, _⟩ => rfl)

/-- The gate's gradient over one block, an entry. -/
theorem pay2_apply (x y : Vec Ideal S1024x1024 .f32) (j : S1x1024.Idx) :
    k0_pay2 (F := Ideal) x y j = ∑ k : Fin 1024, x (ix2 k (j 1)) * y (ix2 k (j 1)) := by
  have h0 : (j 0).val < 1 := (j 0).isLt
  unfold k0_pay2
  refine (shapeCast_apply _ shapeCasts_S1024_S1x1024 j (ix1 (j 1)) ?_).trans ?_
  · rewrite [Shape.rowMajor_val_one, Shape.rowMajor_val_two]
    show (j 1).val = (j 0).val * 1024 + (j 1).val
    omega
  refine (Ideal.multiReduction_add_single _ _ reduces_S1024x1024_S1024 _ _ _).trans (Finset.sum_congr rfl fun k _ => ?_)
  have e : reduces_S1024x1024_S1024.lift (ix1 (j 1)) k = ix2 k (j 1) := funext fun a => Fin.ext (by
    match a with
    | ⟨0, _⟩ => rfl
    | ⟨1, _⟩ => rfl)
  rw [e]
  rfl

/-- The first point leaves the branch's gradient of its block. -/
theorem outA3 (c : Dev nD) (i : grid0.Coords) (a1 : Memref sig .tc .vmem S1024x1024 .f32) (h1 : a1.IsWhole)
    (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1x1024 .f32) (h5 : a5.IsWhole)
    (c0 : cond0_0 i) (c1 : ¬cond0_1 i) (x0 x1 : Vec Ideal S1024x1024 .f32) (x2 : Vec Ideal S1x1024 .f32) :
    out0_A_3 c i a1 h1 a2 h2 a3 h3 a4 h4 a5 h5 c0 c1 x0 x1 x2 = k0_pay1 (F := Ideal) x0 x2 := by
  unfold out0_A_3
  rw [View.read_writes_eq_canon _ _ _ (cover0_A_3 c i a1 h1 a2 h2 a3 h3 a4 h4 a5 h5 c0 c1 x0 x1 x2)]
  unfold kernelRun0_A
  dsimp only
  sl_unfold_words
  rw [View.canon_unit_zero (by funext a; fin_cases a <;> rfl)]
  simp only [View.readAt_eq_ld, h1.read_unread, h3.read_unread]
  rw [View.ld_unit_zero (by funext a; fin_cases a <;> rfl), View.ld_unit_zero (by funext a; fin_cases a <;> rfl)]

/-- The first point leaves its block's part of the gate's gradient. -/
theorem outA4 (c : Dev nD) (i : grid0.Coords) (a1 : Memref sig .tc .vmem S1024x1024 .f32) (h1 : a1.IsWhole)
    (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1x1024 .f32) (h5 : a5.IsWhole)
    (c0 : cond0_0 i) (c1 : ¬cond0_1 i) (x0 x1 : Vec Ideal S1024x1024 .f32) (x2 : Vec Ideal S1x1024 .f32) :
    out0_A_4 c i a1 h1 a2 h2 a3 h3 a4 h4 a5 h5 c0 c1 x0 x1 x2 = k0_pay2 (F := Ideal) x0 x1 := by
  unfold out0_A_4
  rw [View.read_writes_eq_canon _ _ _ (cover0_A_4 c i a1 h1 a2 h2 a3 h3 a4 h4 a5 h5 c0 c1 x0 x1 x2)]
  unfold kernelRun0_A
  dsimp only
  sl_unfold_words
  rw [View.canon_unit_zero (by funext a; fin_cases a <;> rfl)]
  simp only [View.readAt_eq_ld, h1.read_unread, h2.read_unread]
  rw [View.ld_unit_zero (by funext a; fin_cases a <;> rfl), View.ld_unit_zero (by funext a; fin_cases a <;> rfl)]

/-- Every later point leaves the branch's gradient of its block. -/
theorem outB3 (c : Dev nD) (i : grid0.Coords) (a1 : Memref sig .tc .vmem S1024x1024 .f32) (h1 : a1.IsWhole)
    (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1x1024 .f32) (h5 : a5.IsWhole)
    (c0 : ¬cond0_0 i) (c1 : cond0_1 i) (x0 x1 : Vec Ideal S1024x1024 .f32) (x2 xo : Vec Ideal S1x1024 .f32) :
    out0_B_3 c i a1 h1 a2 h2 a3 h3 a4 h4 a5 h5 c0 c1 x0 x1 x2 xo = k0_pay1 (F := Ideal) x0 x2 := by
  unfold out0_B_3
  rw [View.read_writes_eq_canon _ _ _ (cover0_B_3 c i a1 h1 a2 h2 a3 h3 a4 h4 a5 h5 c0 c1 x0 x1 x2 xo)]
  unfold kernelRun0_B
  dsimp only
  sl_unfold_words
  rw [View.canon_unit_zero (by funext a; fin_cases a <;> rfl)]
  simp only [View.readAt_eq_ld, h1.read_unread, h3.read_unread]
  rw [View.ld_unit_zero (by funext a; fin_cases a <;> rfl), View.ld_unit_zero (by funext a; fin_cases a <;> rfl)]

/-- Every later point adds its block's part to the gate's gradient. -/
theorem outB4 (c : Dev nD) (i : grid0.Coords) (a1 : Memref sig .tc .vmem S1024x1024 .f32) (h1 : a1.IsWhole)
    (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1x1024 .f32) (h5 : a5.IsWhole)
    (c0 : ¬cond0_0 i) (c1 : cond0_1 i) (x0 x1 : Vec Ideal S1024x1024 .f32) (x2 xo : Vec Ideal S1x1024 .f32) :
    out0_B_4 c i a1 h1 a2 h2 a3 h3 a4 h4 a5 h5 c0 c1 x0 x1 x2 xo = addf xo (k0_pay2 (F := Ideal) x0 x1) := by
  unfold out0_B_4
  rw [View.read_writes_eq_canon _ _ _ (cover0_B_4 c i a1 h1 a2 h2 a3 h3 a4 h4 a5 h5 c0 c1 x0 x1 x2 xo)]
  unfold kernelRun0_B
  dsimp only
  sl_unfold_words
  rw [View.canon_unit_zero (by funext a; fin_cases a <;> rfl)]
  simp only [View.readAt_eq_ld, h1.read_unread, h2.read_unread, h5.read_unread]
  rw [View.ld_unit_zero (by funext a; fin_cases a <;> rfl), View.ld_unit_zero (by funext a; fin_cases a <;> rfl),
    View.ld_unit_zero (by funext a; fin_cases a <;> rfl)]
  unfold k0_pay3
  rw [shapeCast_self]

/-! ### The windows -/

/-- Which blocks the windows are at, at each point. -/
theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 ∧ win0_4.index t 0 = 0 ∧ win0_4.index t 1 = 0 :=
  (by decide +kernel : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 ∧ win0_4.index t 0 = 0 ∧ win0_4.index t 1 = 0)

/-- Row `r` of block `t` is this row of the array. -/
def row (t : Fin cfg0.N) (r : Fin 1024) : Fin 4096 := ⟨t.val * 1024 + r.val, by
  have h : t.val < 4 := lt_of_lt_of_eq t.isLt (show cfg0.N = 4 from N_0)
  omega⟩

/-- The block of what arrives at point `t`, an entry. -/
theorem blk0 (c : Dev nD) (t : Fin cfg0.N) (j : S1024x1024.Idx) : iblk m c 0 t j = arg0 m c (ix2 (row t (j 0)) (j 1)) := by
  obtain ⟨e0, e1, _⟩ := idx_facts t
  show V m c main_arg0 ((win0_0.rect t).emb j) = _
  rw [show V m c main_arg0 = arg0 m c from V_main_arg0 m c]
  refine congrArg (arg0 m c) (funext fun a => Fin.ext ?_)
  match a with
  | ⟨0, _⟩ => exact (win0_0.rect_emb_val t j 0).trans (by rw [e0]; rfl)
  | ⟨1, _⟩ => exact win0_0.rect_emb_val_of_index_zero t 1 e1 j

/-- The branch's block at point `t`, an entry. -/
theorem blk1 (c : Dev nD) (t : Fin cfg0.N) (j : S1024x1024.Idx) : iblk m c 1 t j = arg1 m c (ix2 (row t (j 0)) (j 1)) := by
  obtain ⟨_, _, e0, e1, _⟩ := idx_facts t
  show V m c main_arg1 ((win0_1.rect t).emb j) = _
  rw [show V m c main_arg1 = arg1 m c from V_main_arg1 m c]
  refine congrArg (arg1 m c) (funext fun a => Fin.ext ?_)
  match a with
  | ⟨0, _⟩ => exact (win0_1.rect_emb_val t j 0).trans (by rw [e0]; rfl)
  | ⟨1, _⟩ => exact win0_1.rect_emb_val_of_index_zero t 1 e1 j

/-- The gate at point `t`, an entry. -/
theorem blk2 (c : Dev nD) (t : Fin cfg0.N) (j : S1x1024.Idx) : iblk m c 2 t j = arg2 m c (ix1 (j 1)) := by
  obtain ⟨_, _, _, _, e0, e1, _⟩ := idx_facts t
  show V m c main_v0 ((win0_2.rect t).emb j) = _
  rw [V2_apply]
  refine congrArg (arg2 m c) (funext fun a => Fin.ext ?_)
  match a with
  | ⟨0, _⟩ => exact win0_2.rect_emb_val_of_index_zero t 1 e1 j

/-! ### The outputs after each point -/

/-- Point `t` leaves the branch's gradient of its block. -/
theorem outs3 (c : Dev nD) (t : Fin cfg0.N) : (outsAt0 m c t.val t.isLt).1 = k0_pay1 (F := Ideal) (iblk m c 0 t) (iblk m c 2 t) := by
  have hN : cfg0.N = 4 := N_0
  have ht := t.isLt
  by_cases h : t.val = 0
  · have e := congrArg Prod.fst (outsAt0_A m c t (by omega) (by omega))
    dsimp only at e
    rw [e, outA3]
  · have e := congrArg Prod.fst (outsAt0_B m c t (by omega) (by omega))
    dsimp only at e
    rw [e, outB3]

/-- Block `s`'s part of the gate's gradient; zero beyond the last block. -/
def part (c : Dev nD) (s : ℕ) : S1x1024.Idx → EReal :=
  if h : s < cfg0.N then k0_pay2 (F := Ideal) (iblk m c 0 ⟨s, h⟩) (iblk m c 1 ⟨s, h⟩) else fun _ => 0

/-- After point `n` the gate's gradient holds the sum of the parts so far. -/
theorem outs4 (c : Dev nD) (n : ℕ) (h : n < cfg0.N) (i : S1x1024.Idx) :
    (outsAt0 m c n h).2 i = ∑ s ∈ Finset.range (n + 1), part m c s i := by
  have hN : cfg0.N = 4 := N_0
  refine Acc.sum_of_steps (fun n h => (outsAt0 m c n h).2) (part m c) (fun h i => ?_) (fun n h i => ?_) n h i
  · rw [part, dif_pos h]
    have e := congrArg Prod.snd (outsAt0_A m c ⟨0, h⟩ (by rfl) (by dsimp only; omega))
    dsimp only at e
    rw [e, outA4]
  · rw [part, dif_pos h]
    have e := congrArg Prod.snd (outsAt0_B m c ⟨n + 1, h⟩ (by dsimp only; omega) (by dsimp only; omega))
    dsimp only at e
    rw [e, outB4]
    rfl

/-- What a point writes back of the branch's gradient is its block of it. -/
theorem flushed3 (c : Dev nD) (t : Fin cfg0.N) :
    (dats m 0 c).flushed 3 t = ((cfg0.win 3).blk t).view.read (Elt Ideal) (R3 m c) := by
  rw [Value.flushed3, outs3]
  funext j
  obtain ⟨_, _, _, _, _, _, e0, e1, _⟩ := idx_facts t
  show k0_pay1 (F := Ideal) (iblk m c 0 t) (iblk m c 2 t) j = R3 m c ((win0_3.rect t).emb j)
  rw [pay1_apply, blk0, blk2]
  have e : (win0_3.rect t).emb j = ix2 (row t (j 0)) (j 1) := funext fun a => Fin.ext (by
    match a with
    | ⟨0, _⟩ => exact (win0_3.rect_emb_val t j 0).trans (by rw [e0]; rfl)
    | ⟨1, _⟩ => exact win0_3.rect_emb_val_of_index_zero t 1 e1 j)
  rw [e]
  rfl

/-- Every index of the branch's gradient lies in the block of some point. -/
theorem covered3 (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  refine ⟨⟨(i 0).val / 1024, by show _ < 4; omega⟩, flush0_3 _, ?_⟩
  generalize ht : (⟨(i 0).val / 1024, _⟩ : Fin cfg0.N) = t
  have hv : t.val = (i 0).val / 1024 := by rw [← ht]
  obtain ⟨_, _, _, _, _, _, e0, e1, _⟩ := idx_facts t
  show i ∈ ((View.whole main_v1_0).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [e0]; omega
  | ⟨1, _⟩ => show win0_3.index t 1 * 1024 ≤ (i 1).val ∧ (i 1).val < win0_3.index t 1 * 1024 + 1024
              rw [e1]; omega

/-- The last point writes back the whole gradient of the gate. -/
theorem flushed4 (c : Dev nD) (t : Fin cfg0.N) (hf : (cfg0.win 4).flush t = true) :
    (dats m 0 c).flushed 4 t = ((cfg0.win 4).blk t).view.read (Elt Ideal) (R4 m c) := by
  have hN : cfg0.N = 4 := N_0
  have h3 : t.val = 3 := by have := (flush0_4 t).mp hf; have := t.isLt; omega
  rw [Value.flushed4]
  funext j
  obtain ⟨_, _, _, _, _, _, _, _, e0, e1⟩ := idx_facts t
  show (outsAt0 m c t.val t.isLt).2 j = R4 m c ((win0_4.rect t).emb j)
  rw [outs4, h3]
  have e : (win0_4.rect t).emb j = j := funext fun a => Fin.ext (by
    match a with
    | ⟨0, _⟩ => exact win0_4.rect_emb_val_of_index_zero t 0 e0 j
    | ⟨1, _⟩ => exact win0_4.rect_emb_val_of_index_zero t 1 e1 j)
  rw [e]
  refine Acc.sum_rows (a := 4) (b := 1024) (fun k => arg0 m c (ix2 k (j 1)) * arg1 m c (ix2 k (j 1))) (fun s => part m c s j) fun s => ?_
  have hs : s.val < cfg0.N := lt_of_lt_of_eq s.isLt hN.symm
  rw [part, dif_pos hs, pay2_apply]
  refine Finset.sum_congr rfl fun k _ => ?_
  rw [blk0, blk1]
  rfl

/-- The last point's block is the whole gradient of the gate. -/
theorem covered4 (i : S1x1024.Idx) :
    ∃ t : Fin cfg0.N, (cfg0.win 4).flush t = true ∧ i ∈ ((cfg0.win 4).blk t).view.set := by
  have h0 : (i 0).val < 1 := (i 0).isLt
  have h1 : (i 1).val < 1024 := (i 1).isLt
  refine ⟨⟨3, by show _ < 4; omega⟩, (flush0_4 _).mpr rfl, ?_⟩
  generalize (⟨3, _⟩ : Fin cfg0.N) = t
  obtain ⟨_, _, _, _, _, _, _, _, e0, e1⟩ := idx_facts t
  show i ∈ ((View.whole main_v1_1).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 1024 ≤ (i 1).val ∧ (i 1).val < win0_4.index t 1 * 1024 + 1024
              rw [e1]; omega

end Values

/-- The reference's own run: its arguments end unchanged. -/
theorem frame_ref : Cert.quiescent_GateRefIdeal := fun m ρ _ =>
  (θ_run _ _ _).mono (fun r h => ⟨fun c => (h c).2.2, sem_eq_zero_of_no_sems (by decide) r.2⟩) (GateRefIdeal.Value.run m ρ)

/-- The claim: run on the same arguments, kernel and reference leave the same two arrays. -/
theorem algebraic : Cert.algebraic_GateIdeal_GateRefIdeal := by
  intro m ρ m' ρ' _ hag
  refine ⟨fun c => R3 m c, fun c => R4 m c, (θ_run _ _ _).mono (fun r h c => ?_) (GateIdeal.Value.run_blocks m ρ),
    (θ_run _ _ _).mono (fun r h c => ?_) (GateRefIdeal.Value.run m' ρ')⟩
  · obtain ⟨h3, h4, k⟩ := h c
    exact ⟨h3.trans ((dats m 0 c).arrAt_eq_of_cover 3 (R3 m c) (fun t _ => flushed3 m c t) covered3),
      h4.trans ((dats m 0 c).arrAt_eq_of_cover 4 (R4 m c) (flushed4 m c) covered4), k⟩
  · obtain ⟨h3, h4, k⟩ := h c
    obtain ⟨a0, a1, a2⟩ := hag c
    refine ⟨h3.trans ?_, h4.trans ?_, k⟩
    · rw [GateRefIdeal.Read.val_main_v9_eq, a0, a2]
      exact ref3 m c
    · rw [GateRefIdeal.Read.val_main_v10_eq, a0, a1]
      exact ref4 m c

end Cert.Proof.Gate

end
-- ==== Proof.DAct.lean ====
/-
  The gradient of the activation through the down projection: what the kernel's result array holds after the run is, entry by
  entry, the reference's product of the incoming gradient with the transposed weight, laid out shard by shard.
-/
module

public import proofs.«01_k».proof.Defs
public import proofs.«01_k».proof.Proof.Dots
public import proofs.«01_k».proof.Proof.Gen.DActIdeal.Value
public import proofs.«01_k».proof.Proof.Gen.DActRefIdeal.Read

@[expose] public section

noncomputable section

namespace Cert.Proof.DAct

open Idealize.ShloMosaic Idealize.SL.Sem Idealize.ShloMosaic.TcCoe Idealize.ShloMosaic.ValueIdx
open Cert.DActIdeal Cert.DActIdeal.Gen
open Idealize.ShloMosaic.Pipeline (Dat)

variable (m : (ℓ : Loc nD τ sig) → Buf (Elt Ideal) ℓ) (ρ : Dev nD → PrngReg)

/-- The incoming gradient. -/
abbrev arg0 (c : Dev nD) : S4096x1024.Idx → EReal := m ((c : Thread nD τ).loc main_arg0)
/-- The weight. -/
abbrev arg1 (c : Dev nD) : S2816x1024.Idx → EReal := m ((c : Thread nD τ).loc main_arg1)

/-- The reference's array for the kernel's arguments. -/
abbrev R (c : Dev nD) : S4x4096x704.Idx → EReal :=
  DActRefIdeal.Read.val_main_v4 (F := Ideal) (m ((c : Thread nD τ).loc main_arg0)) (m ((c : Thread nD τ).loc main_arg1))

/-- The reference's array at an index is the sum over the hidden axis. -/
theorem R_apply (c : Dev nD) (i : S4x4096x704.Idx) :
    R m c i = ∑ k : Fin 1024, arg0 m c (ix2 (i 1) k)
      * arg1 m c (ix2 ⟨(i 0).val * 704 + (i 2).val, by
          have h0 : (i 0).val < 4 := (i 0).isLt; have h2 : (i 2).val < 704 := (i 2).isLt; omega⟩ k) := by
  have h0 : (i 0).val < 4 := (i 0).isLt
  have h1 : (i 1).val < 4096 := (i 1).isLt
  have h2 : (i 2).val < 704 := (i 2).isLt
  rw [R, DActRefIdeal.Read.val_main_v4_apply, DActRefIdeal.Read.val_main_v3_apply, DActRefIdeal.Read.val_main_v2_apply]
  refine Finset.sum_congr rfl fun k _ => ?_
  rw [DActRefIdeal.Read.val_main_v1_apply, DActRefIdeal.Read.val_main_v0_apply]
  refine congrArg₂ (· * ·) (congrArg (arg0 m c) ?_)
    (congrArg (arg1 m c) ?_)
  · funext a
    match a with
    | ⟨0, _⟩ => exact Fin.ext (show (((i 1).val * 4 + (i 0).val) * 704 + (i 2).val) / 2816 = (i 1).val by omega)
    | ⟨1, _⟩ => rfl
  · funext a
    match a with
    | ⟨0, _⟩ => exact Fin.ext (show (((i 1).val * 4 + (i 0).val) * 704 + (i 2).val) % 2816 = (i 0).val * 704 + (i 2).val by omega)
    | ⟨1, _⟩ => rfl

/-- The weight as the region finds it: the argument cut into four shards. -/
theorem V1_apply (c : Dev nD) (i : S4x704x1024.Idx) :
    V m c main_v1 i = arg1 m c (ix2 ⟨(i 0).val * 704 + (i 1).val, by
          have h0 : (i 0).val < 4 := (i 0).isLt; have h2 : (i 1).val < 704 := (i 1).isLt; omega⟩ (i 2)) := by
  have h0 : (i 0).val < 4 := (i 0).isLt
  have h1 : (i 1).val < 704 := (i 1).isLt
  have h2 : (i 2).val < 1024 := (i 2).isLt
  have e : V m c main_v1 = (truncf .bf16 (shapeCast S4x704x1024 (m ((c : Thread nD τ).loc main_arg1) : FVec Ideal S2816x1024 .f32) shapeCasts_S2816x1024_S4x704x1024) bitsLt_bf16_f32 : FVec Ideal S4x704x1024 .bf16) := by
    dsimp only [V, hostOps0]; after_results; rfl
  rw [e, truncf_apply]
  refine shapeCast_apply _ shapeCasts_S2816x1024_S4x704x1024 i _ ?_
  rewrite [Shape.rowMajor_val_two, Shape.rowMajor_val_three]
  show ((i 0).val * 704 + (i 1).val) * 1024 + (i 2).val = ((i 0).val * 704 + (i 1).val) * 1024 + (i 2).val
  rfl

/-- The body's payload at an index. -/
theorem pay_apply (x : Vec Ideal S1024x1024 .bf16) (w : Vec Ideal S1x704x1024 .bf16) (j : S1x1024x704.Idx) :
    k0_pay1 (F := Ideal) x w j = ∑ k : Fin 1024, x (ix2 (j 1) k) * w (ix3 ⟨0, Nat.one_pos⟩ (j 2) k) := by
  unfold k0_pay1
  refine (Dots.add_apply _ shapeCasts_S1024x704_S1x1024x704 j).trans ?_
  refine (Dots.nt_apply x (shapeCast S704x1024 w shapeCasts_S1x704x1024_S704x1024) (j 1) (j 2)).trans ?_
  exact Finset.sum_congr rfl fun k _ => congrArg (x (ix2 (j 1) k) * ·) (Dots.drop_apply w _ (j 2) k)

/-- The body's store covers its buffer with the payload of the two input blocks. -/
theorem out_eq (x : Vec Ideal S1024x1024 .bf16) (w : Vec Ideal S1x704x1024 .bf16) :
    out0_2 (F := Ideal) x w = k0_pay1 x w := by
  unfold out0_2
  rw [View.canon_unit_zero (by funext a; fin_cases a <;> rfl), View.ld_unit_zero (by funext a; fin_cases a <;> rfl),
    View.ld_unit_zero (by funext a; fin_cases a <;> rfl)]

/-- Which blocks the windows are at, at each point. -/
theorem idx_facts : ∀ t : Fin cfg0.N, (win0_0.index t 0 = t.val / 4 ∧ win0_0.index t 1 = 0)
    ∧ (win0_1.index t 0 = t.val % 4 ∧ win0_1.index t 1 = 0 ∧ win0_1.index t 2 = 0)
    ∧ (win0_2.index t 0 = t.val % 4 ∧ win0_2.index t 1 = t.val / 4 ∧ win0_2.index t 2 = 0) :=
  (by decide +kernel : ∀ t : Fin grid0.N, (win0_0.index t 0 = t.val / 4 ∧ win0_0.index t 1 = 0)
    ∧ (win0_1.index t 0 = t.val % 4 ∧ win0_1.index t 1 = 0 ∧ win0_1.index t 2 = 0)
    ∧ (win0_2.index t 0 = t.val % 4 ∧ win0_2.index t 1 = t.val / 4 ∧ win0_2.index t 2 = 0))

/-- What a point writes back is its block of the reference's array. -/
theorem flushed_eq (c : Dev nD) (t : Fin cfg0.N) :
    (dats m 0 c).flushed 2 t = ((cfg0.win 2).blk t).view.read (Elt Ideal) (R m c) := by
  obtain ⟨⟨a0, a1⟩, ⟨b0, b1, b2⟩, ⟨o0, o1, o2⟩⟩ := idx_facts t
  rw [Value.flushed2, out_eq]
  funext j
  show k0_pay1 (F := Ideal) (iblk m c 0 t) (iblk m c 1 t) j = R m c ((win0_2.rect t).emb j)
  rw [pay_apply, R_apply]
  refine Finset.sum_congr rfl fun k _ => congrArg₂ (· * ·) ?_ ?_
  · show V m c main_arg0 ((win0_0.rect t).emb _) = _
    rw [V_main_arg0]
    refine congrArg (arg0 m c) ?_
    funext a
    match a with
    | ⟨0, _⟩ => exact Fin.ext ((win0_0.rect_emb_val t _ 0).trans (by rw [a0]; exact ((win0_2.rect_emb_val t j 1).trans (by rw [o1]; rfl)).symm))
    | ⟨1, _⟩ => exact Fin.ext (win0_0.rect_emb_val_of_index_zero t 1 a1 _)
  · show V m c main_v1 ((win0_1.rect t).emb _) = _
    rw [V1_apply]
    refine congrArg (arg1 m c) ?_
    funext a
    match a with
    | ⟨0, _⟩ =>
      refine Fin.ext ?_
      show ((win0_1.rect t).emb _ 0 : Nat) * 704 + ((win0_1.rect t).emb _ 1 : Nat) = ((win0_2.rect t).emb j 0 : Nat) * 704 + ((win0_2.rect t).emb j 2 : Nat)
      rw [win0_1.rect_emb_val t _ 0, win0_1.rect_emb_val_of_index_zero t 1 b1, win0_2.rect_emb_val t j 0,
        win0_2.rect_emb_val_of_index_zero t 2 o2, b0, o0]
      have hj : (j 0).val < 1 := (j 0).isLt
      show (t.val % 4 * 1 + 0) * 704 + (j 2).val = (t.val % 4 * 1 + (j 0).val) * 704 + (j 2).val
      omega
    | ⟨1, _⟩ => exact Fin.ext (win0_1.rect_emb_val_of_index_zero t 2 b2 _)

/-- Every index of the result lies in the block of some point. -/
theorem covered (i : S4x4096x704.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 704 := (i 2).isLt
  refine ⟨⟨(i 1).val / 1024 * 4 + (i 0).val, by show _ < 16; omega⟩, flush0_2 _, ?_⟩
  generalize ht : (⟨(i 1).val / 1024 * 4 + (i 0).val, _⟩ : Fin cfg0.N) = t
  have hv : t.val = (i 1).val / 1024 * 4 + (i 0).val := by rw [← ht]
  obtain ⟨_, _, ⟨o0, o1, o2⟩⟩ := idx_facts t
  show i ∈ ((View.whole main_v2).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [o0, hv]; omega
  | ⟨1, _⟩ => show win0_2.index t 1 * 1024 ≤ (i 1).val ∧ (i 1).val < win0_2.index t 1 * 1024 + 1024
              rw [o1, hv]; omega
  | ⟨2, _⟩ => show win0_2.index t 2 * 704 ≤ (i 2).val ∧ (i 2).val < win0_2.index t 2 * 704 + 704
              rw [o2]; omega

/-- After the run the kernel's result array is the reference's. -/
theorem final (c : Dev nD) : (dats m 0 c).arrAt 2 cfg0.N = R m c :=
  (dats m 0 c).arrAt_eq_of_cover 2 (R m c) (fun t _ => flushed_eq m c t) covered

end Cert.Proof.DAct

namespace Cert.Proof.DAct

open Idealize.ShloMosaic Idealize.SL.Sem Idealize.ShloMosaic.TcCoe

/-- The reference's own run: its arguments end unchanged. -/
theorem frame_ref : Cert.quiescent_DActRefIdeal := fun m ρ _ =>
  (θ_run _ _ _).mono (fun r h => ⟨fun c => (h c).2, sem_eq_zero_of_no_sems (by decide) r.2⟩) (DActRefIdeal.Value.run m ρ)

/-- The claim: run on the same arguments, kernel and reference leave the same array. -/
theorem algebraic : Cert.algebraic_DActIdeal_DActRefIdeal := by
  intro m ρ m' ρ' _ hag
  refine ⟨fun c => R m c, (θ_run _ _ _).mono (fun r h c => ?_) (DActIdeal.Value.run_blocks m ρ),
    (θ_run _ _ _).mono (fun r h c => ?_) (DActRefIdeal.Value.run m' ρ')⟩
  · obtain ⟨h, k⟩ := h c
    exact ⟨h.trans (final m c), k⟩
  · obtain ⟨h, k⟩ := h c
    refine ⟨h.trans ?_, k⟩
    rw [DActRefIdeal.Read.val_main_v4_eq, (hag c).1, (hag c).2]

end Cert.Proof.DAct

end
-- ==== Proof.DWDown.lean ====
/-
  The gradient of the down projection's weight: what the kernel's result array holds after the run is, entry by entry,
  the reference's product of the transposed activation with the incoming gradient, laid out shard by shard.
-/
module

public import proofs.«01_k».proof.Defs
public import proofs.«01_k».proof.Proof.Dots
public import proofs.«01_k».proof.Proof.Gen.DWDownIdeal.Value
public import proofs.«01_k».proof.Proof.Gen.DWDownRefIdeal.Read

@[expose] public section

noncomputable section

namespace Cert.Proof.DWDown

open Idealize.ShloMosaic Idealize.SL.Sem Idealize.ShloMosaic.TcCoe Idealize.ShloMosaic.ValueIdx
open Cert.DWDownIdeal Cert.DWDownIdeal.Gen
open Idealize.ShloMosaic.Pipeline (Dat)

section Values

variable (m : (ℓ : Loc nD τ sig) → Buf (Elt Ideal) ℓ)

/-- The activation. -/
abbrev arg0 (c : Dev nD) : S4096x2816.Idx → EReal := m ((c : Thread nD τ).loc main_arg0)
/-- The incoming gradient. -/
abbrev arg1 (c : Dev nD) : S4096x1024.Idx → EReal := m ((c : Thread nD τ).loc main_arg1)

/-- The reference's array for the kernel's arguments. -/
abbrev R (c : Dev nD) : S4x704x1024.Idx → EReal :=
  DWDownRefIdeal.Read.val_main_v5 (F := Ideal) (m ((c : Thread nD τ).loc main_arg0)) (m ((c : Thread nD τ).loc main_arg1))

/-- The reference's array at an index, as the sum over the contracted axis. -/
theorem R_apply (c : Dev nD) (i : S4x704x1024.Idx) :
    R m c i = ∑ k : Fin 4096, arg0 m c (ix2 k ⟨(i 0).val * 704 + (i 1).val, by
          have h0 : (i 0).val < 4 := (i 0).isLt; have h1 : (i 1).val < 704 := (i 1).isLt; have h2 : (i 2).val < 1024 := (i 2).isLt; omega⟩) * arg1 m c (ix2 k (i 2)) := by
  have h0 : (i 0).val < 4 := (i 0).isLt
  have h1 : (i 1).val < 704 := (i 1).isLt
  have h2 : (i 2).val < 1024 := (i 2).isLt
  rw [R, DWDownRefIdeal.Read.val_main_v5_apply, DWDownRefIdeal.Read.val_main_v4_apply, DWDownRefIdeal.Read.val_main_v3_apply]
  show (∑ k : Fin 4096, _) = _
  refine Finset.sum_congr rfl fun k _ => ?_
  rw [DWDownRefIdeal.Read.val_main_v1_apply, DWDownRefIdeal.Read.val_main_v0_apply, DWDownRefIdeal.Read.val_main_v2_apply]
  refine congrArg₂ (· * ·) (congrArg (arg0 m c) ?_) (congrArg (arg1 m c) ?_)
  · funext a
    match a with
    | ⟨0, _⟩ => rfl
    | ⟨1, _⟩ => exact Fin.ext (show (((i 0).val * 704 + (i 1).val) * 1024 + (i 2).val) / 1024 = (i 0).val * 704 + (i 1).val by omega)
  · funext a
    match a with
    | ⟨0, _⟩ => rfl
    | ⟨1, _⟩ => exact Fin.ext (show (((i 0).val * 704 + (i 1).val) * 1024 + (i 2).val) % 1024 = (i 2).val by omega)

/-- The activation as the region finds it: its columns cut into shards, the shards first. -/
theorem V0_apply (c : Dev nD) (i : S4x4096x704.Idx) :
    V m c main_v1 i = arg0 m c (ix2 (i 1) ⟨(i 0).val * 704 + (i 2).val, by
          have h0 : (i 0).val < 4 := (i 0).isLt; have h2 : (i 2).val < 704 := (i 2).isLt; omega⟩) := by
  have h0 : (i 0).val < 4 := (i 0).isLt
  have h1 : (i 1).val < 4096 := (i 1).isLt
  have h2 : (i 2).val < 704 := (i 2).isLt
  have e : V m c main_v1 = transpose S4x4096x704 [1, 0, 2] (shapeCast S4096x4x704 (arg0 m c) shapeCasts_S4096x2816_S4096x4x704) transposes_S4096x4x704_S4x4096x704_1_0_2 := by
    dsimp only [V, hostOps0]; after_results; rfl
  rw [e]
  refine (transpose_apply [1, 0, 2] _ transposes_S4096x4x704_S4x4096x704_1_0_2 i (ix3 (i 1) (i 0) (i 2)) (fun b => match b with
    | ⟨0, _⟩ => rfl
    | ⟨1, _⟩ => rfl
    | ⟨2, _⟩ => rfl)).trans ?_
  refine shapeCast_apply _ shapeCasts_S4096x2816_S4096x4x704 (ix3 (i 1) (i 0) (i 2)) _ ?_
  rewrite [Shape.rowMajor_val_two, Shape.rowMajor_val_three]
  show (i 1).val * 2816 + ((i 0).val * 704 + (i 2).val) = ((i 1).val * 4 + (i 0).val) * 704 + (i 2).val
  omega

/-- The body's store covers its buffer with the payload of the two input blocks. -/
theorem out_eq (x : Vec Ideal S1x4096x704 .bf16) (y : Vec Ideal S4096x512 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S1x4096x704 .bf16) (y : Vec Ideal S4096x512 .bf16) (j : S1x704x512.Idx) :
    k0_pay1 (F := Ideal) x y j = ∑ k : Fin 4096, x (ix3 ⟨0, Nat.one_pos⟩ k (j 1)) * y (ix2 k (j 2)) := by
  unfold k0_pay1
  refine (Dots.add_apply _ shapeCasts_S704x512_S1x704x512 j).trans ?_
  refine (Dots.tn_apply (φ₁ := .bf16) (φ₂ := .bf16) (shapeCast S4096x704 x shapeCasts_S1x4096x704_S4096x704) y (j 1) (j 2)).trans ?_
  exact Finset.sum_congr rfl fun k _ => congrArg (· * y (ix2 k (j 2))) (Dots.drop_apply x _ k (j 1))

/-- Which blocks the windows are at, at each point. -/
theorem idx_facts : ∀ t : Fin cfg0.N, win0_0.index t 0 = t.val / 2 ∧ win0_0.index t 1 = 0 ∧ win0_0.index t 2 = 0 ∧ win0_1.index t 0 = 0 ∧ win0_1.index t 1 = t.val % 2 ∧ win0_2.index t 0 = t.val / 2 ∧ win0_2.index t 1 = 0 ∧ win0_2.index t 2 = t.val % 2 :=
  (by decide +kernel : ∀ t : Fin grid0.N, win0_0.index t 0 = t.val / 2 ∧ win0_0.index t 1 = 0 ∧ win0_0.index t 2 = 0 ∧ win0_1.index t 0 = 0 ∧ win0_1.index t 1 = t.val % 2 ∧ win0_2.index t 0 = t.val / 2 ∧ win0_2.index t 1 = 0 ∧ win0_2.index t 2 = t.val % 2)

/-- Where an entry of window 0's block lies in its array. -/
theorem emb0 (t : Fin cfg0.N) (y : S1x4096x704.Idx) : ((win0_0.rect t).emb y 0 : Nat) = (t.val / 2) * 1 + (y 0).val ∧ ((win0_0.rect t).emb y 1 : Nat) = (y 1).val ∧ ((win0_0.rect t).emb y 2 : Nat) = (y 2).val := by
  obtain ⟨e00, e01, e02, _, _, _, _, _⟩ := idx_facts t
  exact ⟨(win0_0.rect_emb_val t y 0).trans (by rw [e00]; rfl), win0_0.rect_emb_val_of_index_zero t 1 e01 y, win0_0.rect_emb_val_of_index_zero t 2 e02 y⟩

/-- Where an entry of window 1's block lies in its array. -/
theorem emb1 (t : Fin cfg0.N) (y : S4096x512.Idx) : ((win0_1.rect t).emb y 0 : Nat) = (y 0).val ∧ ((win0_1.rect t).emb y 1 : Nat) = (t.val % 2) * 512 + (y 1).val := by
  obtain ⟨_, _, _, e10, e11, _, _, _⟩ := idx_facts t
  exact ⟨win0_1.rect_emb_val_of_index_zero t 0 e10 y, (win0_1.rect_emb_val t y 1).trans (by rw [e11]; rfl)⟩

/-- Where an entry of window 2's block lies in its array. -/
theorem emb2 (t : Fin cfg0.N) (y : S1x704x512.Idx) : ((win0_2.rect t).emb y 0 : Nat) = (t.val / 2) * 1 + (y 0).val ∧ ((win0_2.rect t).emb y 1 : Nat) = (y 1).val ∧ ((win0_2.rect t).emb y 2 : Nat) = (t.val % 2) * 512 + (y 2).val := by
  obtain ⟨_, _, _, _, _, e20, e21, e22⟩ := idx_facts t
  exact ⟨(win0_2.rect_emb_val t y 0).trans (by rw [e20]; rfl), win0_2.rect_emb_val_of_index_zero t 1 e21 y, (win0_2.rect_emb_val t y 2).trans (by rw [e22]; rfl)⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 1 := (j 0).isLt
  have j1 : (j 1).val < 704 := (j 1).isLt
  have j2 : (j 2).val < 512 := (j 2).isLt
  obtain ⟨o0, o1, o2⟩ := emb2 t j
  rw [pay_apply, R_apply]
  refine Finset.sum_congr rfl fun k _ => congrArg₂ (· * ·) ?_ ?_
  · show V m c main_v1 ((win0_0.rect t).emb (ix3 ⟨0, Nat.one_pos⟩ k (j 1))) = _
    obtain ⟨p0, p1, p2⟩ := emb0 t (ix3 ⟨0, Nat.one_pos⟩ k (j 1))
    rw [V0_apply]
    refine congrArg (arg0 m c) (funext fun a => Fin.ext ?_)
    match a with
    | ⟨0, _⟩ => exact p1
    | ⟨1, _⟩ =>
      show ((win0_0.rect t).emb (ix3 ⟨0, Nat.one_pos⟩ k (j 1)) 0 : Nat) * 704 + ((win0_0.rect t).emb (ix3 ⟨0, Nat.one_pos⟩ k (j 1)) 2 : Nat) = ((win0_2.rect t).emb j 0 : Nat) * 704 + ((win0_2.rect t).emb j 1 : Nat)
      rw [p0, p2, o0, o1]
      show (t.val / 2 * 1 + 0) * 704 + (j 1).val = (t.val / 2 * 1 + (j 0).val) * 704 + (j 1).val
      omega
  · show V m c main_arg1 ((win0_1.rect t).emb (ix2 k (j 2))) = _
    obtain ⟨p0, p1⟩ := emb1 t (ix2 k (j 2))
    rw [V_main_arg1]
    refine congrArg (arg1 m c) (funext fun a => Fin.ext ?_)
    match a with
    | ⟨0, _⟩ => exact p0
    | ⟨1, _⟩ => exact p1.trans o2.symm

/-- Every index of the result lies in the block of some point. -/
theorem covered (i : S4x704x1024.Idx) :
    ∃ t : Fin cfg0.N, (cfg0.win 2).flush t = true ∧ i ∈ ((cfg0.win 2).blk t).view.set := by
  have h0 : (i 0).val < 4 := (i 0).isLt
  have h1 : (i 1).val < 704 := (i 1).isLt
  have h2 : (i 2).val < 1024 := (i 2).isLt
  refine ⟨⟨(i 0).val * 2 + (i 2).val / 512, by show _ < 8; omega⟩, flush0_2 _, ?_⟩
  generalize ht : (⟨(i 0).val * 2 + (i 2).val / 512, _⟩ : Fin cfg0.N) = t
  have hv : t.val = (i 0).val * 2 + (i 2).val / 512 := by rw [← ht]
  obtain ⟨_, _, _, _, _, e20, e21, e22⟩ := idx_facts t
  show i ∈ ((View.whole main_v2).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e20]; omega
  | ⟨1, _⟩ => show win0_2.index t 1 * 704 ≤ (i 1).val ∧ (i 1).val < win0_2.index t 1 * 704 + 704
              rw [e21]; omega
  | ⟨2, _⟩ => show win0_2.index t 2 * 512 ≤ (i 2).val ∧ (i 2).val < win0_2.index t 2 * 512 + 512
              rw [e22]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DWDownRefIdeal := fun m ρ _ =>
  (θ_run _ _ _).mono (fun r h => ⟨fun c => (h c).2, sem_eq_zero_of_no_sems (by decide) r.2⟩) (DWDownRefIdeal.Value.run m ρ)

/-- The claim: run on the same arguments, kernel and reference leave the same array. -/
theorem algebraic : Cert.algebraic_DWDownIdeal_DWDownRefIdeal := by
  intro m ρ m' ρ' _ hag
  refine ⟨fun c => R m c, (θ_run _ _ _).mono (fun r h c => ?_) (DWDownIdeal.Value.run_blocks m ρ),
    (θ_run _ _ _).mono (fun r h c => ?_) (DWDownRefIdeal.Value.run m' ρ')⟩
  · obtain ⟨h, k⟩ := h c
    exact ⟨h.trans (final m c), k⟩
  · obtain ⟨h, k⟩ := h c
    refine ⟨h.trans ?_, k⟩
    rw [DWDownRefIdeal.Read.val_main_v5_eq, (hag c).1, (hag c).2]

end Cert.Proof.DWDown

end
-- ==== Proof.DH2.lean ====
/-
  The gradient of the second hidden state through the up projection: what the kernel's result array holds after the run is,
  entry by entry, the reference's product of the incoming gradient with the transposed weight; the kernel sums shard by
  shard, the reference over all columns at once.
-/
module

public import proofs.«01_k».proof.Defs
public import proofs.«01_k».proof.Proof.Dots
public import proofs.«01_k».proof.Proof.Gen.DH2Ideal.Value
public import proofs.«01_k».proof.Proof.Gen.DH2RefIdeal.Read

@[expose] public section

noncomputable section

namespace Cert.Proof.DH2

open Idealize.ShloMosaic Idealize.SL.Sem Idealize.ShloMosaic.TcCoe Idealize.ShloMosaic.ValueIdx
open Cert.DH2Ideal Cert.DH2Ideal.Gen
open Idealize.ShloMosaic.Pipeline (Dat)

section Values

variable (m : (ℓ : Loc nD τ sig) → Buf (Elt Ideal) ℓ)

/-- The incoming gradient. -/
abbrev arg0 (c : Dev nD) : S4096x5632.Idx → EReal := m ((c : Thread nD τ).loc main_arg0)
/-- The weight. -/
abbrev arg1 (c : Dev nD) : S1024x5632.Idx → EReal := m ((c : Thread nD τ).loc main_arg1)

/-- The reference's array for the kernel's arguments. -/
abbrev R (c : Dev nD) : S4096x1024.Idx → EReal :=
  DH2RefIdeal.Read.val_main_v2 (F := Ideal) (m ((c : Thread nD τ).loc main_arg0)) (m ((c : Thread nD τ).loc main_arg1))

/-- The reference's array at an index, as the sum over the contracted axis. -/
theorem R_apply (c : Dev nD) (i : S4096x1024.Idx) :
    R m c i = ∑ k : Fin 5632, arg0 m c (ix2 (i 0) k) * arg1 m c (ix2 (i 1) k) := by
  have h0 : (i 0).val < 4096 := (i 0).isLt
  have h1 : (i 1).val < 1024 := (i 1).isLt
  rw [R, DH2RefIdeal.Read.val_main_v2_apply]
  refine Finset.sum_congr rfl fun k _ => ?_
  rw [DH2RefIdeal.Read.val_main_v1_apply, DH2RefIdeal.Read.val_main_v0_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The incoming gradient as the region finds it: its columns cut into shards, the shards first. -/
theorem V0_apply (c : Dev nD) (i : S8x4096x704.Idx) :
    V m c main_v1 i = arg0 m c (ix2 (i 1) ⟨(i 0).val * 704 + (i 2).val, by
          have h0 : (i 0).val < 8 := (i 0).isLt; have h2 : (i 2).val < 704 := (i 2).isLt; omega⟩) := by
  have h0 : (i 0).val < 8 := (i 0).isLt
  have h1 : (i 1).val < 4096 := (i 1).isLt
  have h2 : (i 2).val < 704 := (i 2).isLt
  have e : V m c main_v1 = transpose S8x4096x704 [1, 0, 2] (shapeCast S4096x8x704 (arg0 m c) shapeCasts_S4096x5632_S4096x8x704) transposes_S4096x8x704_S8x4096x704_1_0_2 := by
    dsimp only [V, hostOps0]; after_results; rfl
  rw [e]
  refine (transpose_apply [1, 0, 2] _ transposes_S4096x8x704_S8x4096x704_1_0_2 i (ix3 (i 1) (i 0) (i 2)) (fun b => match b with
    | ⟨0, _⟩ => rfl
    | ⟨1, _⟩ => rfl
    | ⟨2, _⟩ => rfl)).trans ?_
  refine shapeCast_apply _ shapeCasts_S4096x5632_S4096x8x704 (ix3 (i 1) (i 0) (i 2)) _ ?_
  rewrite [Shape.rowMajor_val_two, Shape.rowMajor_val_three]
  show (i 1).val * 5632 + ((i 0).val * 704 + (i 2).val) = ((i 1).val * 8 + (i 0).val) * 704 + (i 2).val
  omega

/-- The weight as the region finds it: its columns cut into shards, the shards first, its format changed. -/
theorem V1_apply (c : Dev nD) (i : S8x1024x704.Idx) :
    V m c main_v4 i = arg1 m c (ix2 (i 1) ⟨(i 0).val * 704 + (i 2).val, by
          have h0 : (i 0).val < 8 := (i 0).isLt; have h2 : (i 2).val < 704 := (i 2).isLt; omega⟩) := by
  have h0 : (i 0).val < 8 := (i 0).isLt
  have h1 : (i 1).val < 1024 := (i 1).isLt
  have h2 : (i 2).val < 704 := (i 2).isLt
  have e : V m c main_v4 = transpose S8x1024x704 [1, 0, 2] (shapeCast S1024x8x704 (arg1 m c) shapeCasts_S1024x5632_S1024x8x704) transposes_S1024x8x704_S8x1024x704_1_0_2 := by
    dsimp only [V, hostOps0]; after_results; rfl
  rw [e]
  refine (transpose_apply [1, 0, 2] _ transposes_S1024x8x704_S8x1024x704_1_0_2 i (ix3 (i 1) (i 0) (i 2)) (fun b => match b with
    | ⟨0, _⟩ => rfl
    | ⟨1, _⟩ => rfl
    | ⟨2, _⟩ => rfl)).trans ?_
  refine shapeCast_apply _ shapeCasts_S1024x5632_S1024x8x704 (ix3 (i 1) (i 0) (i 2)) _ ?_
  rewrite [Shape.rowMajor_val_two, Shape.rowMajor_val_three]
  show (i 1).val * 5632 + ((i 0).val * 704 + (i 2).val) = ((i 1).val * 8 + (i 0).val) * 704 + (i 2).val
  omega

/-- The product of one pair of blocks the body loads: shard `s` of the gradient against shard `s` of the weight. -/
theorem part_apply (x : Vec Ideal S8x256x704 .bf16) (y : Vec Ideal S8x1024x704 .bf16) (s : Fin 8)
    (hx : ∀ a, (![s.val, 0, 0] : Fin 3 → Nat) a + S1x256x704.size a ≤ S8x256x704.size a)
    (hy : ∀ a, (![s.val, 0, 0] : Fin 3 → Nat) a + S1x1024x704.size a ≤ S8x1024x704.size a) (r : Fin 256) (q : Fin 1024) :
    matmul (φ₁ := .bf16) (φ₂ := .bf16) dot_S256x704_S1024x704_S256x1024_1_1_0_0_n_n none
        (shapeCast S256x704 (View.ld x (Rect.unit (s := S8x256x704) ![s.val, 0, 0] S1x256x704.size hx)) shapeCasts_S1x256x704_S256x704)
        (shapeCast S1024x704 (View.ld y (Rect.unit (s := S8x1024x704) ![s.val, 0, 0] S1x1024x704.size hy)) shapeCasts_S1x1024x704_S1024x704)
        (constant S256x1024 .f32 0x00000000#32 : FVec Ideal S256x1024 .f32) (ix2 r q)
      = ∑ k : Fin 704, x (ix3 s r k) * y (ix3 s q k) := by
  refine (Dots.nt_apply (φ₁ := .bf16) (φ₂ := .bf16) _ _ r q).trans (Finset.sum_congr rfl fun k _ => congrArg₂ (· * ·) ?_ ?_)
  · refine (Dots.drop_apply _ shapeCasts_S1x256x704_S256x704 r k).trans (congrArg x (funext fun a => Fin.ext ?_))
    match a with
    | ⟨0, _⟩ => show s.val + 1 * 0 = s.val; omega
    | ⟨1, _⟩ => show 0 + 1 * r.val = r.val; omega
    | ⟨2, _⟩ => show 0 + 1 * k.val = k.val; omega
  · refine (Dots.drop_apply _ shapeCasts_S1x1024x704_S1024x704 q k).trans (congrArg y (funext fun a => Fin.ext ?_))
    match a with
    | ⟨0, _⟩ => show s.val + 1 * 0 = s.val; omega
    | ⟨1, _⟩ => show 0 + 1 * q.val = q.val; omega
    | ⟨2, _⟩ => show 0 + 1 * k.val = k.val; omega

/-- What the body leaves in its output block, an entry: the sum over the shards of the sum over a shard's columns. -/
def pay (x : Vec Ideal S8x256x704 .bf16) (y : Vec Ideal S8x1024x704 .bf16) : Vec Ideal S256x1024 .f32 :=
  fun j => ∑ s : Fin 8, ∑ k : Fin 704, x (ix3 s (j 0) k) * y (ix3 s (j 1) k)

/-- The body's store covers its buffer with that sum. -/
theorem out_eq (x : Vec Ideal S8x256x704 .bf16) (y : Vec Ideal S8x1024x704 .bf16) : out0_2 (F := Ideal) x y = pay x y := by
  unfold out0_2
  rw [View.canon_unit_zero (by funext a; fin_cases a <;> rfl)]
  unfold k0_pay1 k0_pay2 k0_pay3
  funext j
  rw [eq_ix2 j]
  unfold pay
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x y 0 _ _ (j 0) (j 1)) (part_apply x y 1 _ _ (j 0) (j 1)))
    (part_apply x y 2 _ _ (j 0) (j 1))) (part_apply x y 3 _ _ (j 0) (j 1))) (part_apply x y 4 _ _ (j 0) (j 1)))
    (part_apply x y 5 _ _ (j 0) (j 1))) (part_apply x y 6 _ _ (j 0) (j 1))) (part_apply x y 7 _ _ (j 0) (j 1))

/-- The same entry as one sum over all columns. -/
theorem pay_apply (x : Vec Ideal S8x256x704 .bf16) (y : Vec Ideal S8x1024x704 .bf16) (j : S256x1024.Idx) :
    pay x y j = ∑ k : Fin 5632, x (ix3 (k.divNat (m := 8) (n := 704)) (j 0) (k.modNat (m := 8) (n := 704)))
      * y (ix3 (k.divNat (m := 8) (n := 704)) (j 1) (k.modNat (m := 8) (n := 704))) :=
  (Dots.sum_blocks (a := 8) (b := 704) fun s k => x (ix3 s (j 0) k) * y (ix3 s (j 1) k)).symm

/-- Which blocks the windows are at, at each point. -/
theorem idx_facts : ∀ t : Fin cfg0.N, win0_0.index t 0 = 0 ∧ win0_0.index t 1 = t.val ∧ win0_0.index t 2 = 0 ∧ win0_1.index t 0 = 0 ∧ win0_1.index t 1 = 0 ∧ win0_1.index t 2 = 0 ∧ win0_2.index t 0 = t.val ∧ win0_2.index t 1 = 0 :=
  (by decide +kernel : ∀ t : Fin grid0.N, win0_0.index t 0 = 0 ∧ win0_0.index t 1 = t.val ∧ win0_0.index t 2 = 0 ∧ win0_1.index t 0 = 0 ∧ win0_1.index t 1 = 0 ∧ win0_1.index t 2 = 0 ∧ win0_2.index t 0 = t.val ∧ win0_2.index t 1 = 0)

/-- Where an entry of window 0's block lies in its array. -/
theorem emb0 (t : Fin cfg0.N) (y : S8x256x704.Idx) : ((win0_0.rect t).emb y 0 : Nat) = (y 0).val ∧ ((win0_0.rect t).emb y 1 : Nat) = (t.val) * 256 + (y 1).val ∧ ((win0_0.rect t).emb y 2 : Nat) = (y 2).val := by
  obtain ⟨e00, e01, e02, _, _, _, _, _⟩ := idx_facts t
  exact ⟨win0_0.rect_emb_val_of_index_zero t 0 e00 y, (win0_0.rect_emb_val t y 1).trans (by rw [e01]; rfl), win0_0.rect_emb_val_of_index_zero t 2 e02 y⟩

/-- Where an entry of window 1's block lies in its array. -/
theorem emb1 (t : Fin cfg0.N) (y : S8x1024x704.Idx) : ((win0_1.rect t).emb y 0 : Nat) = (y 0).val ∧ ((win0_1.rect t).emb y 1 : Nat) = (y 1).val ∧ ((win0_1.rect t).emb y 2 : Nat) = (y 2).val := by
  obtain ⟨_, _, _, e10, e11, e12, _, _⟩ := idx_facts t
  exact ⟨win0_1.rect_emb_val_of_index_zero t 0 e10 y, win0_1.rect_emb_val_of_index_zero t 1 e11 y, win0_1.rect_emb_val_of_index_zero t 2 e12 y⟩

/-- Where an entry of window 2's block lies in its array. -/
theorem emb2 (t : Fin cfg0.N) (y : S256x1024.Idx) : ((win0_2.rect t).emb y 0 : Nat) = (t.val) * 256 + (y 0).val ∧ ((win0_2.rect t).emb y 1 : Nat) = (y 1).val := by
  obtain ⟨_, _, _, _, _, _, e20, e21⟩ := idx_facts t
  exact ⟨(win0_2.rect_emb_val t y 0).trans (by rw [e20]; rfl), win0_2.rect_emb_val_of_index_zero t 1 e21 y⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show pay (iblk m c 0 t) (iblk m c 1 t) j = R m c ((win0_2.rect t).emb j)
  have j0 : (j 0).val < 256 := (j 0).isLt
  have j1 : (j 1).val < 1024 := (j 1).isLt
  obtain ⟨o0, o1⟩ := emb2 t j
  rw [pay_apply, R_apply]
  refine Finset.sum_congr rfl fun k _ => congrArg₂ (· * ·) ?_ ?_
  · show V m c main_v1 ((win0_0.rect t).emb (ix3 (k.divNat (m := 8) (n := 704)) (j 0) (k.modNat (m := 8) (n := 704)))) = _
    obtain ⟨p0, p1, p2⟩ := emb0 t (ix3 (k.divNat (m := 8) (n := 704)) (j 0) (k.modNat (m := 8) (n := 704)))
    rw [V0_apply]
    refine congrArg (arg0 m c) (funext fun a => Fin.ext ?_)
    match a with
    | ⟨0, _⟩ => exact p1.trans o0.symm
    | ⟨1, _⟩ =>
      show ((win0_0.rect t).emb (ix3 (k.divNat (m := 8) (n := 704)) (j 0) (k.modNat (m := 8) (n := 704))) 0 : Nat) * 704 + ((win0_0.rect t).emb (ix3 (k.divNat (m := 8) (n := 704)) (j 0) (k.modNat (m := 8) (n := 704))) 2 : Nat) = k.val
      rw [p0, p2]
      show k.val / 704 * 704 + k.val % 704 = k.val
      omega
  · show V m c main_v4 ((win0_1.rect t).emb (ix3 (k.divNat (m := 8) (n := 704)) (j 1) (k.modNat (m := 8) (n := 704)))) = _
    obtain ⟨p0, p1, p2⟩ := emb1 t (ix3 (k.divNat (m := 8) (n := 704)) (j 1) (k.modNat (m := 8) (n := 704)))
    rw [V1_apply]
    refine congrArg (arg1 m c) (funext fun a => Fin.ext ?_)
    match a with
    | ⟨0, _⟩ => exact p1.trans o1.symm
    | ⟨1, _⟩ =>
      show ((win0_1.rect t).emb (ix3 (k.divNat (m := 8) (n := 704)) (j 1) (k.modNat (m := 8) (n := 704))) 0 : Nat) * 704 + ((win0_1.rect t).emb (ix3 (k.divNat (m := 8) (n := 704)) (j 1) (k.modNat (m := 8) (n := 704))) 2 : Nat) = k.val
      rw [p0, p2]
      show k.val / 704 * 704 + k.val % 704 = k.val
      omega

/-- Every index of the result lies in the block of some point. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 256, by show _ < 16; omega⟩, flush0_2 _, ?_⟩
  generalize ht : (⟨(i 0).val / 256, _⟩ : Fin cfg0.N) = t
  have hv : t.val = (i 0).val / 256 := by rw [← ht]
  obtain ⟨_, _, _, _, _, _, e20, e21⟩ := idx_facts t
  show i ∈ ((View.whole main_v5).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e20]; omega
  | ⟨1, _⟩ => show win0_2.index t 1 * 1024 ≤ (i 1).val ∧ (i 1).val < win0_2.index t 1 * 1024 + 1024
              rw [e21]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DH2RefIdeal := fun m ρ _ =>
  (θ_run _ _ _).mono (fun r h => ⟨fun c => (h c).2, sem_eq_zero_of_no_sems (by decide) r.2⟩) (DH2RefIdeal.Value.run m ρ)

/-- The claim: run on the same arguments, kernel and reference leave the same array. -/
theorem algebraic : Cert.algebraic_DH2Ideal_DH2RefIdeal := by
  intro m ρ m' ρ' _ hag
  refine ⟨fun c => R m c, (θ_run _ _ _).mono (fun r h c => ?_) (DH2Ideal.Value.run_blocks m ρ),
    (θ_run _ _ _).mono (fun r h c => ?_) (DH2RefIdeal.Value.run m' ρ')⟩
  · obtain ⟨h, k⟩ := h c
    exact ⟨h.trans (final m c), k⟩
  · obtain ⟨h, k⟩ := h c
    refine ⟨h.trans ?_, k⟩
    rw [DH2RefIdeal.Read.val_main_v2_eq, (hag c).1, (hag c).2]

end Cert.Proof.DH2

end
-- ==== Proof.DWUp.lean ====
/-
  The gradient of the up projection's weight: what the kernel's result array holds after the run is, entry by entry, the
  reference's product of the transposed hidden state with the incoming gradient, laid out shard by shard.
-/
module

public import proofs.«01_k».proof.Defs
public import proofs.«01_k».proof.Proof.Dots
public import proofs.«01_k».proof.Proof.Gen.DWUpIdeal.Value
public import proofs.«01_k».proof.Proof.Gen.DWUpRefIdeal.Read

@[expose] public section

noncomputable section

namespace Cert.Proof.DWUp

open Idealize.ShloMosaic Idealize.SL.Sem Idealize.ShloMosaic.TcCoe Idealize.ShloMosaic.ValueIdx
open Cert.DWUpIdeal Cert.DWUpIdeal.Gen
open Idealize.ShloMosaic.Pipeline (Dat)

section Values

variable (m : (ℓ : Loc nD τ sig) → Buf (Elt Ideal) ℓ)

/-- The hidden state. -/
abbrev arg0 (c : Dev nD) : S4096x1024.Idx → EReal := m ((c : Thread nD τ).loc main_arg0)
/-- The incoming gradient. -/
abbrev arg1 (c : Dev nD) : S4096x5632.Idx → EReal := m ((c : Thread nD τ).loc main_arg1)

/-- The reference's array for the kernel's arguments. -/
abbrev R (c : Dev nD) : S8x1024x704.Idx → EReal :=
  DWUpRefIdeal.Read.val_main_v6 (F := Ideal) (m ((c : Thread nD τ).loc main_arg0)) (m ((c : Thread nD τ).loc main_arg1))

/-- The reference's array at an index, as the sum over the contracted axis. -/
theorem R_apply (c : Dev nD) (i : S8x1024x704.Idx) :
    R m c i = ∑ k : Fin 4096, arg0 m c (ix2 k (i 1)) * arg1 m c (ix2 k ⟨(i 0).val * 704 + (i 2).val, by
          have h0 : (i 0).val < 8 := (i 0).isLt; have h1 : (i 1).val < 1024 := (i 1).isLt; have h2 : (i 2).val < 704 := (i 2).isLt; omega⟩) := by
  have h0 : (i 0).val < 8 := (i 0).isLt
  have h1 : (i 1).val < 1024 := (i 1).isLt
  have h2 : (i 2).val < 704 := (i 2).isLt
  rw [R, DWUpRefIdeal.Read.val_main_v6_apply, DWUpRefIdeal.Read.val_main_v5_apply, DWUpRefIdeal.Read.val_main_v4_apply, DWUpRefIdeal.Read.val_main_v3_apply]
  show (∑ k : Fin 4096, _) = _
  refine Finset.sum_congr rfl fun k _ => ?_
  rw [DWUpRefIdeal.Read.val_main_v1_apply, DWUpRefIdeal.Read.val_main_v0_apply, DWUpRefIdeal.Read.val_main_v2_apply]
  refine congrArg₂ (· * ·) (congrArg (arg0 m c) ?_) (congrArg (arg1 m c) ?_)
  · funext a
    match a with
    | ⟨0, _⟩ => rfl
    | ⟨1, _⟩ => exact Fin.ext (show (((i 1).val * 8 + (i 0).val) * 704 + (i 2).val) / 5632 = (i 1).val by omega)
  · funext a
    match a with
    | ⟨0, _⟩ => rfl
    | ⟨1, _⟩ => exact Fin.ext (show (((i 1).val * 8 + (i 0).val) * 704 + (i 2).val) % 5632 = (i 0).val * 704 + (i 2).val by omega)

/-- The incoming gradient as the region finds it: its columns cut into shards, the shards first. -/
theorem V1_apply (c : Dev nD) (i : S8x4096x704.Idx) :
    V m c main_v1 i = arg1 m c (ix2 (i 1) ⟨(i 0).val * 704 + (i 2).val, by
          have h0 : (i 0).val < 8 := (i 0).isLt; have h2 : (i 2).val < 704 := (i 2).isLt; omega⟩) := by
  have h0 : (i 0).val < 8 := (i 0).isLt
  have h1 : (i 1).val < 4096 := (i 1).isLt
  have h2 : (i 2).val < 704 := (i 2).isLt
  have e : V m c main_v1 = transpose S8x4096x704 [1, 0, 2] (shapeCast S4096x8x704 (arg1 m c) shapeCasts_S4096x5632_S4096x8x704) transposes_S4096x8x704_S8x4096x704_1_0_2 := by
    dsimp only [V, hostOps0]; after_results; rfl
  rw [e]
  refine (transpose_apply [1, 0, 2] _ transposes_S4096x8x704_S8x4096x704_1_0_2 i (ix3 (i 1) (i 0) (i 2)) (fun b => match b with
    | ⟨0, _⟩ => rfl
    | ⟨1, _⟩ => rfl
    | ⟨2, _⟩ => rfl)).trans ?_
  refine shapeCast_apply _ shapeCasts_S4096x5632_S4096x8x704 (ix3 (i 1) (i 0) (i 2)) _ ?_
  rewrite [Shape.rowMajor_val_two, Shape.rowMajor_val_three]
  show (i 1).val * 5632 + ((i 0).val * 704 + (i 2).val) = ((i 1).val * 8 + (i 0).val) * 704 + (i 2).val
  omega

/-- The body's store covers its buffer with the payload of the two input blocks. -/
theorem out_eq (x : Vec Ideal S4096x1024 .bf16) (y : Vec Ideal S1x4096x704 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S4096x1024 .bf16) (y : Vec Ideal S1x4096x704 .bf16) (j : S1x1024x704.Idx) :
    k0_pay1 (F := Ideal) x y j = ∑ k : Fin 4096, x (ix2 k (j 1)) * y (ix3 ⟨0, Nat.one_pos⟩ k (j 2)) := by
  unfold k0_pay1
  refine (Dots.add_apply _ shapeCasts_S1024x704_S1x1024x704 j).trans ?_
  refine (Dots.tn_apply (φ₁ := .bf16) (φ₂ := .bf16) x (shapeCast S4096x704 y shapeCasts_S1x4096x704_S4096x704) (j 1) (j 2)).trans ?_
  exact Finset.sum_congr rfl fun k _ => congrArg (x (ix2 k (j 1)) * ·) (Dots.drop_apply y _ k (j 2))

/-- Which blocks the windows are at, at each point. -/
theorem idx_facts : ∀ t : Fin cfg0.N, win0_0.index t 0 = 0 ∧ win0_0.index t 1 = 0 ∧ win0_1.index t 0 = t.val ∧ win0_1.index t 1 = 0 ∧ win0_1.index t 2 = 0 ∧ win0_2.index t 0 = t.val ∧ win0_2.index t 1 = 0 ∧ win0_2.index t 2 = 0 :=
  (by decide +kernel : ∀ t : Fin grid0.N, win0_0.index t 0 = 0 ∧ win0_0.index t 1 = 0 ∧ win0_1.index t 0 = t.val ∧ win0_1.index t 1 = 0 ∧ win0_1.index t 2 = 0 ∧ win0_2.index t 0 = t.val ∧ win0_2.index t 1 = 0 ∧ win0_2.index t 2 = 0)

/-- Where an entry of window 0's block lies in its array. -/
theorem emb0 (t : Fin cfg0.N) (y : S4096x1024.Idx) : ((win0_0.rect t).emb y 0 : Nat) = (y 0).val ∧ ((win0_0.rect t).emb y 1 : Nat) = (y 1).val := by
  obtain ⟨e00, e01, _, _, _, _, _, _⟩ := idx_facts t
  exact ⟨win0_0.rect_emb_val_of_index_zero t 0 e00 y, win0_0.rect_emb_val_of_index_zero t 1 e01 y⟩

/-- Where an entry of window 1's block lies in its array. -/
theorem emb1 (t : Fin cfg0.N) (y : S1x4096x704.Idx) : ((win0_1.rect t).emb y 0 : Nat) = (t.val) * 1 + (y 0).val ∧ ((win0_1.rect t).emb y 1 : Nat) = (y 1).val ∧ ((win0_1.rect t).emb y 2 : Nat) = (y 2).val := by
  obtain ⟨_, _, e10, e11, e12, _, _, _⟩ := idx_facts t
  exact ⟨(win0_1.rect_emb_val t y 0).trans (by rw [e10]; rfl), win0_1.rect_emb_val_of_index_zero t 1 e11 y, win0_1.rect_emb_val_of_index_zero t 2 e12 y⟩

/-- Where an entry of window 2's block lies in its array. -/
theorem emb2 (t : Fin cfg0.N) (y : S1x1024x704.Idx) : ((win0_2.rect t).emb y 0 : Nat) = (t.val) * 1 + (y 0).val ∧ ((win0_2.rect t).emb y 1 : Nat) = (y 1).val ∧ ((win0_2.rect t).emb y 2 : Nat) = (y 2).val := by
  obtain ⟨_, _, _, _, _, e20, e21, e22⟩ := idx_facts t
  exact ⟨(win0_2.rect_emb_val t y 0).trans (by rw [e20]; rfl), win0_2.rect_emb_val_of_index_zero t 1 e21 y, win0_2.rect_emb_val_of_index_zero t 2 e22 y⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 1 := (j 0).isLt
  have j1 : (j 1).val < 1024 := (j 1).isLt
  have j2 : (j 2).val < 704 := (j 2).isLt
  obtain ⟨o0, o1, o2⟩ := emb2 t j
  rw [pay_apply, R_apply]
  refine Finset.sum_congr rfl fun k _ => congrArg₂ (· * ·) ?_ ?_
  · show V m c main_arg0 ((win0_0.rect t).emb (ix2 k (j 1))) = _
    obtain ⟨p0, p1⟩ := emb0 t (ix2 k (j 1))
    rw [V_main_arg0]
    refine congrArg (arg0 m c) (funext fun a => Fin.ext ?_)
    match a with
    | ⟨0, _⟩ => exact p0
    | ⟨1, _⟩ => exact p1.trans o1.symm
  · show V m c main_v1 ((win0_1.rect t).emb (ix3 ⟨0, Nat.one_pos⟩ k (j 2))) = _
    obtain ⟨p0, p1, p2⟩ := emb1 t (ix3 ⟨0, Nat.one_pos⟩ k (j 2))
    rw [V1_apply]
    refine congrArg (arg1 m c) (funext fun a => Fin.ext ?_)
    match a with
    | ⟨0, _⟩ => exact p1
    | ⟨1, _⟩ =>
      show ((win0_1.rect t).emb (ix3 ⟨0, Nat.one_pos⟩ k (j 2)) 0 : Nat) * 704 + ((win0_1.rect t).emb (ix3 ⟨0, Nat.one_pos⟩ k (j 2)) 2 : Nat) = ((win0_2.rect t).emb j 0 : Nat) * 704 + ((win0_2.rect t).emb j 2 : Nat)
      rw [p0, p2, o0, o2]
      show (t.val * 1 + 0) * 704 + (j 2).val = (t.val * 1 + (j 0).val) * 704 + (j 2).val
      omega

/-- Every index of the result lies in the block of some point. -/
theorem covered (i : S8x1024x704.Idx) :
    ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 704 := (i 2).isLt
  refine ⟨⟨(i 0).val, by show _ < 8; omega⟩, flush0_2 _, ?_⟩
  generalize ht : (⟨(i 0).val, _⟩ : Fin cfg0.N) = t
  have hv : t.val = (i 0).val := by rw [← ht]
  obtain ⟨_, _, _, _, _, e20, e21, e22⟩ := idx_facts t
  show i ∈ ((View.whole main_v2).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e20]; omega
  | ⟨1, _⟩ => show win0_2.index t 1 * 1024 ≤ (i 1).val ∧ (i 1).val < win0_2.index t 1 * 1024 + 1024
              rw [e21]; omega
  | ⟨2, _⟩ => show win0_2.index t 2 * 704 ≤ (i 2).val ∧ (i 2).val < win0_2.index t 2 * 704 + 704
              rw [e22]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DWUpRefIdeal := fun m ρ _ =>
  (θ_run _ _ _).mono (fun r h => ⟨fun c => (h c).2, sem_eq_zero_of_no_sems (by decide) r.2⟩) (DWUpRefIdeal.Value.run m ρ)

/-- The claim: run on the same arguments, kernel and reference leave the same array. -/
theorem algebraic : Cert.algebraic_DWUpIdeal_DWUpRefIdeal := by
  intro m ρ m' ρ' _ hag
  refine ⟨fun c => R m c, (θ_run _ _ _).mono (fun r h c => ?_) (DWUpIdeal.Value.run_blocks m ρ),
    (θ_run _ _ _).mono (fun r h c => ?_) (DWUpRefIdeal.Value.run m' ρ')⟩
  · obtain ⟨h, k⟩ := h c
    exact ⟨h.trans (final m c), k⟩
  · obtain ⟨h, k⟩ := h c
    refine ⟨h.trans ?_, k⟩
    rw [DWUpRefIdeal.Read.val_main_v6_eq, (hag c).1, (hag c).2]

end Cert.Proof.DWUp

end
-- ==== Proof.DO.lean ====
/-
  The gradient of the mixed state through the output projection: what the kernel's result array holds after the run is,
  entry by entry, the reference's product of the incoming gradient with the transposed weight.
-/
module

public import proofs.«01_k».proof.Defs
public import proofs.«01_k».proof.Proof.Dots
public import proofs.«01_k».proof.Proof.Gen.DOIdeal.Value
public import proofs.«01_k».proof.Proof.Gen.DORefIdeal.Read

@[expose] public section

noncomputable section

namespace Cert.Proof.DO

open Idealize.ShloMosaic Idealize.SL.Sem Idealize.ShloMosaic.TcCoe Idealize.ShloMosaic.ValueIdx
open Cert.DOIdeal Cert.DOIdeal.Gen
open Idealize.ShloMosaic.Pipeline (Dat)

section Values

variable (m : (ℓ : Loc nD τ sig) → Buf (Elt Ideal) ℓ)

/-- The incoming gradient. -/
abbrev arg0 (c : Dev nD) : S4096x1024.Idx → EReal := m ((c : Thread nD τ).loc main_arg0)
/-- The weight. -/
abbrev arg1 (c : Dev nD) : S1024x1024.Idx → EReal := m ((c : Thread nD τ).loc main_arg1)

/-- The reference's array for the kernel's arguments. -/
abbrev R (c : Dev nD) : S4096x1024.Idx → EReal :=
  DORefIdeal.Read.val_main_v2 (F := Ideal) (m ((c : Thread nD τ).loc main_arg0)) (m ((c : Thread nD τ).loc main_arg1))

/-- The reference's array at an index, as the sum over the contracted axis. -/
theorem R_apply (c : Dev nD) (i : S4096x1024.Idx) :
    R m c i = ∑ k : Fin 1024, arg0 m c (ix2 (i 0) k) * arg1 m c (ix2 (i 1) k) := by
  have h0 : (i 0).val < 4096 := (i 0).isLt
  have h1 : (i 1).val < 1024 := (i 1).isLt
  rw [R, DORefIdeal.Read.val_main_v2_apply]
  refine Finset.sum_congr rfl fun k _ => ?_
  rw [DORefIdeal.Read.val_main_v1_apply, DORefIdeal.Read.val_main_v0_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The weight as the region finds it: the argument, its format changed. -/
theorem V1_eq (c : Dev nD) : (V m c main_v0 : S1024x1024.Idx → EReal) = arg1 m c := by
  dsimp only [V, hostOps0]; after_results; rfl

/-- The body's store covers its buffer with the payload of the two input blocks. -/
theorem out_eq (x : Vec Ideal S1024x1024 .bf16) (y : Vec Ideal S512x1024 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S1024x1024 .bf16) (y : Vec Ideal S512x1024 .bf16) (j : S1024x512.Idx) :
    k0_pay1 (F := Ideal) x y j = ∑ k : Fin 1024, x (ix2 (j 0) k) * y (ix2 (j 1) k) := by
  unfold k0_pay1
  rw [eq_ix2 j]
  refine (Dots.nt_apply x (shapeCast S512x1024 y shapeCasts_S512x1024_S512x1024) (j 0) (j 1)).trans ?_
  rw [shapeCast_self]

/-- Which blocks the windows are at, at each point. -/
theorem idx_facts : ∀ t : Fin cfg0.N, win0_0.index t 0 = t.val / 2 ∧ win0_0.index t 1 = 0 ∧ win0_1.index t 0 = t.val % 2 ∧ win0_1.index t 1 = 0 ∧ win0_2.index t 0 = t.val / 2 ∧ win0_2.index t 1 = t.val % 2 :=
  (by decide +kernel : ∀ t : Fin grid0.N, win0_0.index t 0 = t.val / 2 ∧ win0_0.index t 1 = 0 ∧ win0_1.index t 0 = t.val % 2 ∧ win0_1.index t 1 = 0 ∧ win0_2.index t 0 = t.val / 2 ∧ win0_2.index t 1 = t.val % 2)

/-- Where an entry of window 0's block lies in its array. -/
theorem emb0 (t : Fin cfg0.N) (y : S1024x1024.Idx) : ((win0_0.rect t).emb y 0 : Nat) = (t.val / 2) * 1024 + (y 0).val ∧ ((win0_0.rect t).emb y 1 : Nat) = (y 1).val := by
  obtain ⟨e00, e01, _, _, _, _⟩ := idx_facts t
  exact ⟨(win0_0.rect_emb_val t y 0).trans (by rw [e00]; rfl), win0_0.rect_emb_val_of_index_zero t 1 e01 y⟩

/-- Where an entry of window 1's block lies in its array. -/
theorem emb1 (t : Fin cfg0.N) (y : S512x1024.Idx) : ((win0_1.rect t).emb y 0 : Nat) = (t.val % 2) * 512 + (y 0).val ∧ ((win0_1.rect t).emb y 1 : Nat) = (y 1).val := by
  obtain ⟨_, _, e10, e11, _, _⟩ := idx_facts t
  exact ⟨(win0_1.rect_emb_val t y 0).trans (by rw [e10]; rfl), win0_1.rect_emb_val_of_index_zero t 1 e11 y⟩

/-- Where an entry of window 2's block lies in its array. -/
theorem emb2 (t : Fin cfg0.N) (y : S1024x512.Idx) : ((win0_2.rect t).emb y 0 : Nat) = (t.val / 2) * 1024 + (y 0).val ∧ ((win0_2.rect t).emb y 1 : Nat) = (t.val % 2) * 512 + (y 1).val := by
  obtain ⟨_, _, _, _, e20, e21⟩ := idx_facts t
  exact ⟨(win0_2.rect_emb_val t y 0).trans (by rw [e20]; rfl), (win0_2.rect_emb_val t y 1).trans (by rw [e21]; rfl)⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 1024 := (j 0).isLt
  have j1 : (j 1).val < 512 := (j 1).isLt
  obtain ⟨o0, o1⟩ := emb2 t j
  rw [pay_apply, R_apply]
  refine Finset.sum_congr rfl fun k _ => congrArg₂ (· * ·) ?_ ?_
  · show V m c main_arg0 ((win0_0.rect t).emb (ix2 (j 0) k)) = _
    obtain ⟨p0, p1⟩ := emb0 t (ix2 (j 0) k)
    rw [V_main_arg0]
    refine congrArg (arg0 m c) (funext fun a => Fin.ext ?_)
    match a with
    | ⟨0, _⟩ => exact p0.trans o0.symm
    | ⟨1, _⟩ => exact p1
  · show V m c main_v0 ((win0_1.rect t).emb (ix2 (j 1) k)) = _
    obtain ⟨p0, p1⟩ := emb1 t (ix2 (j 1) k)
    rw [V1_eq]
    refine congrArg (arg1 m c) (funext fun a => Fin.ext ?_)
    match a with
    | ⟨0, _⟩ => exact p0.trans o1.symm
    | ⟨1, _⟩ => exact p1

/-- Every index of the result lies in the block of some point. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 1024 * 2 + (i 1).val / 512, by show _ < 8; omega⟩, flush0_2 _, ?_⟩
  generalize ht : (⟨(i 0).val / 1024 * 2 + (i 1).val / 512, _⟩ : Fin cfg0.N) = t
  have hv : t.val = (i 0).val / 1024 * 2 + (i 1).val / 512 := by rw [← ht]
  obtain ⟨_, _, _, _, e20, e21⟩ := idx_facts t
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              rw [e20]; omega
  | ⟨1, _⟩ => show win0_2.index t 1 * 512 ≤ (i 1).val ∧ (i 1).val < win0_2.index t 1 * 512 + 512
              rw [e21]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DORefIdeal := fun m ρ _ =>
  (θ_run _ _ _).mono (fun r h => ⟨fun c => (h c).2, sem_eq_zero_of_no_sems (by decide) r.2⟩) (DORefIdeal.Value.run m ρ)

/-- The claim: run on the same arguments, kernel and reference leave the same array. -/
theorem algebraic : Cert.algebraic_DOIdeal_DORefIdeal := by
  intro m ρ m' ρ' _ hag
  refine ⟨fun c => R m c, (θ_run _ _ _).mono (fun r h c => ?_) (DOIdeal.Value.run_blocks m ρ),
    (θ_run _ _ _).mono (fun r h c => ?_) (DORefIdeal.Value.run m' ρ')⟩
  · obtain ⟨h, k⟩ := h c
    exact ⟨h.trans (final m c), k⟩
  · obtain ⟨h, k⟩ := h c
    refine ⟨h.trans ?_, k⟩
    rw [DORefIdeal.Read.val_main_v2_eq, (hag c).1, (hag c).2]

end Cert.Proof.DO

end
-- ==== Proof.DWOut.lean ====
/-
  The gradient of the output projection's weight: what the kernel's result array holds after the run is, entry by entry,
  the reference's product of the transposed mixed state with the incoming gradient.
-/
module

public import proofs.«01_k».proof.Defs
public import proofs.«01_k».proof.Proof.Dots
public import proofs.«01_k».proof.Proof.Gen.DWOutIdeal.Value
public import proofs.«01_k».proof.Proof.Gen.DWOutRefIdeal.Read

@[expose] public section

noncomputable section

namespace Cert.Proof.DWOut

open Idealize.ShloMosaic Idealize.SL.Sem Idealize.ShloMosaic.TcCoe Idealize.ShloMosaic.ValueIdx
open Cert.DWOutIdeal Cert.DWOutIdeal.Gen
open Idealize.ShloMosaic.Pipeline (Dat)

section Values

variable (m : (ℓ : Loc nD τ sig) → Buf (Elt Ideal) ℓ)

/-- The mixed state. -/
abbrev arg0 (c : Dev nD) : S4096x1024.Idx → EReal := m ((c : Thread nD τ).loc main_arg0)
/-- The incoming gradient. -/
abbrev arg1 (c : Dev nD) : S4096x1024.Idx → EReal := m ((c : Thread nD τ).loc main_arg1)

/-- The reference's array for the kernel's arguments. -/
abbrev R (c : Dev nD) : S1024x1024.Idx → EReal :=
  DWOutRefIdeal.Read.val_main_v4 (F := Ideal) (m ((c : Thread nD τ).loc main_arg0)) (m ((c : Thread nD τ).loc main_arg1))

/-- The reference's array at an index, as the sum over the contracted axis. -/
theorem R_apply (c : Dev nD) (i : S1024x1024.Idx) :
    R m c i = ∑ k : Fin 4096, arg0 m c (ix2 k (i 0)) * arg1 m c (ix2 k (i 1)) := by
  have h0 : (i 0).val < 1024 := (i 0).isLt
  have h1 : (i 1).val < 1024 := (i 1).isLt
  rw [R, DWOutRefIdeal.Read.val_main_v4_apply, DWOutRefIdeal.Read.val_main_v3_apply]
  show (∑ k : Fin 4096, _) = _
  refine Finset.sum_congr rfl fun k _ => ?_
  rw [DWOutRefIdeal.Read.val_main_v1_apply, DWOutRefIdeal.Read.val_main_v0_apply, DWOutRefIdeal.Read.val_main_v2_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The body's store covers its buffer with the payload of the two input blocks. -/
theorem out_eq (x : Vec Ideal S4096x512 .bf16) (y : Vec Ideal S4096x512 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S4096x512 .bf16) (y : Vec Ideal S4096x512 .bf16) (j : S512x512.Idx) :
    k0_pay1 (F := Ideal) x y j = ∑ k : Fin 4096, x (ix2 k (j 0)) * y (ix2 k (j 1)) := by
  unfold k0_pay1
  rw [eq_ix2 j]
  refine (Dots.tn_apply (φ₁ := .bf16) (φ₂ := .bf16) x y (j 0) (j 1)).trans ?_
  rfl

/-- Which blocks the windows are at, at each point. -/
theorem idx_facts : ∀ t : Fin cfg0.N, win0_0.index t 0 = 0 ∧ win0_0.index t 1 = t.val / 2 ∧ win0_1.index t 0 = 0 ∧ win0_1.index t 1 = t.val % 2 ∧ win0_2.index t 0 = t.val / 2 ∧ win0_2.index t 1 = t.val % 2 :=
  (by decide +kernel : ∀ t : Fin grid0.N, win0_0.index t 0 = 0 ∧ win0_0.index t 1 = t.val / 2 ∧ win0_1.index t 0 = 0 ∧ win0_1.index t 1 = t.val % 2 ∧ win0_2.index t 0 = t.val / 2 ∧ win0_2.index t 1 = t.val % 2)

/-- Where an entry of window 0's block lies in its array. -/
theorem emb0 (t : Fin cfg0.N) (y : S4096x512.Idx) : ((win0_0.rect t).emb y 0 : Nat) = (y 0).val ∧ ((win0_0.rect t).emb y 1 : Nat) = (t.val / 2) * 512 + (y 1).val := by
  obtain ⟨e00, e01, _, _, _, _⟩ := idx_facts t
  exact ⟨win0_0.rect_emb_val_of_index_zero t 0 e00 y, (win0_0.rect_emb_val t y 1).trans (by rw [e01]; rfl)⟩

/-- Where an entry of window 1's block lies in its array. -/
theorem emb1 (t : Fin cfg0.N) (y : S4096x512.Idx) : ((win0_1.rect t).emb y 0 : Nat) = (y 0).val ∧ ((win0_1.rect t).emb y 1 : Nat) = (t.val % 2) * 512 + (y 1).val := by
  obtain ⟨_, _, e10, e11, _, _⟩ := idx_facts t
  exact ⟨win0_1.rect_emb_val_of_index_zero t 0 e10 y, (win0_1.rect_emb_val t y 1).trans (by rw [e11]; rfl)⟩

/-- Where an entry of window 2's block lies in its array. -/
theorem emb2 (t : Fin cfg0.N) (y : S512x512.Idx) : ((win0_2.rect t).emb y 0 : Nat) = (t.val / 2) * 512 + (y 0).val ∧ ((win0_2.rect t).emb y 1 : Nat) = (t.val % 2) * 512 + (y 1).val := by
  obtain ⟨_, _, _, _, e20, e21⟩ := idx_facts t
  exact ⟨(win0_2.rect_emb_val t y 0).trans (by rw [e20]; rfl), (win0_2.rect_emb_val t y 1).trans (by rw [e21]; rfl)⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 512 := (j 0).isLt
  have j1 : (j 1).val < 512 := (j 1).isLt
  obtain ⟨o0, o1⟩ := emb2 t j
  rw [pay_apply, R_apply]
  refine Finset.sum_congr rfl fun k _ => congrArg₂ (· * ·) ?_ ?_
  · show V m c main_arg0 ((win0_0.rect t).emb (ix2 k (j 0))) = _
    obtain ⟨p0, p1⟩ := emb0 t (ix2 k (j 0))
    rw [show V m c main_arg0 = arg0 m c from rfl]
    refine congrArg (arg0 m c) (funext fun a => Fin.ext ?_)
    match a with
    | ⟨0, _⟩ => exact p0
    | ⟨1, _⟩ => exact p1.trans o0.symm
  · show V m c main_arg1 ((win0_1.rect t).emb (ix2 k (j 1))) = _
    obtain ⟨p0, p1⟩ := emb1 t (ix2 k (j 1))
    rw [show V m c main_arg1 = arg1 m c from rfl]
    refine congrArg (arg1 m c) (funext fun a => Fin.ext ?_)
    match a with
    | ⟨0, _⟩ => exact p0
    | ⟨1, _⟩ => exact p1.trans o1.symm

/-- Every index of the result lies in the block of some point. -/
theorem covered (i : S1024x1024.Idx) :
    ∃ t : Fin cfg0.N, (cfg0.win 2).flush t = true ∧ i ∈ ((cfg0.win 2).blk t).view.set := by
  have h0 : (i 0).val < 1024 := (i 0).isLt
  have h1 : (i 1).val < 1024 := (i 1).isLt
  refine ⟨⟨(i 0).val / 512 * 2 + (i 1).val / 512, by show _ < 4; omega⟩, flush0_2 _, ?_⟩
  generalize ht : (⟨(i 0).val / 512 * 2 + (i 1).val / 512, _⟩ : Fin cfg0.N) = t
  have hv : t.val = (i 0).val / 512 * 2 + (i 1).val / 512 := by rw [← ht]
  obtain ⟨_, _, _, _, e20, e21⟩ := idx_facts t
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512
              rw [e20]; omega
  | ⟨1, _⟩ => show win0_2.index t 1 * 512 ≤ (i 1).val ∧ (i 1).val < win0_2.index t 1 * 512 + 512
              rw [e21]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DWOutRefIdeal := fun m ρ _ =>
  (θ_run _ _ _).mono (fun r h => ⟨fun c => (h c).2, sem_eq_zero_of_no_sems (by decide) r.2⟩) (DWOutRefIdeal.Value.run m ρ)

/-- The claim: run on the same arguments, kernel and reference leave the same array. -/
theorem algebraic : Cert.algebraic_DWOutIdeal_DWOutRefIdeal := by
  intro m ρ m' ρ' _ hag
  refine ⟨fun c => R m c, (θ_run _ _ _).mono (fun r h c => ?_) (DWOutIdeal.Value.run_blocks m ρ),
    (θ_run _ _ _).mono (fun r h c => ?_) (DWOutRefIdeal.Value.run m' ρ')⟩
  · obtain ⟨h, k⟩ := h c
    exact ⟨h.trans (final m c), k⟩
  · obtain ⟨h, k⟩ := h c
    refine ⟨h.trans ?_, k⟩
    rw [DWOutRefIdeal.Read.val_main_v4_eq, (hag c).1, (hag c).2]

end Cert.Proof.DWOut

end
-- ==== Proof.DH.lean ====
/-
  The gradient of the hidden state through the input projection: what the kernel's result array holds after the run is,
  entry by entry, the reference's product of the incoming gradient with the transposed weight.
-/
module

public import proofs.«01_k».proof.Defs
public import proofs.«01_k».proof.Proof.Dots
public import proofs.«01_k».proof.Proof.Gen.DHIdeal.Value
public import proofs.«01_k».proof.Proof.Gen.DHRefIdeal.Read

@[expose] public section

noncomputable section

namespace Cert.Proof.DH

open Idealize.ShloMosaic Idealize.SL.Sem Idealize.ShloMosaic.TcCoe Idealize.ShloMosaic.ValueIdx
open Cert.DHIdeal Cert.DHIdeal.Gen
open Idealize.ShloMosaic.Pipeline (Dat)

section Values

variable (m : (ℓ : Loc nD τ sig) → Buf (Elt Ideal) ℓ)

/-- The incoming gradient. -/
abbrev arg0 (c : Dev nD) : S4096x2048.Idx → EReal := m ((c : Thread nD τ).loc main_arg0)
/-- The weight. -/
abbrev arg1 (c : Dev nD) : S1024x2048.Idx → EReal := m ((c : Thread nD τ).loc main_arg1)

/-- The reference's array for the kernel's arguments. -/
abbrev R (c : Dev nD) : S4096x1024.Idx → EReal :=
  DHRefIdeal.Read.val_main_v2 (F := Ideal) (m ((c : Thread nD τ).loc main_arg0)) (m ((c : Thread nD τ).loc main_arg1))

/-- The reference's array at an index, as the sum over the contracted axis. -/
theorem R_apply (c : Dev nD) (i : S4096x1024.Idx) :
    R m c i = ∑ k : Fin 2048, arg0 m c (ix2 (i 0) k) * arg1 m c (ix2 (i 1) k) := by
  have h0 : (i 0).val < 4096 := (i 0).isLt
  have h1 : (i 1).val < 1024 := (i 1).isLt
  rw [R, DHRefIdeal.Read.val_main_v2_apply]
  refine Finset.sum_congr rfl fun k _ => ?_
  rw [DHRefIdeal.Read.val_main_v1_apply, DHRefIdeal.Read.val_main_v0_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The weight as the region finds it: the argument, its format changed. -/
theorem V1_eq (c : Dev nD) : (V m c main_v0 : S1024x2048.Idx → EReal) = arg1 m c := by
  dsimp only [V, hostOps0]; after_results; rfl

/-- The body's store covers its buffer with the payload of the two input blocks. -/
theorem out_eq (x : Vec Ideal S1024x2048 .bf16) (y : Vec Ideal S1024x2048 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S1024x2048 .bf16) (y : Vec Ideal S1024x2048 .bf16) (j : S1024x1024.Idx) :
    k0_pay1 (F := Ideal) x y j = ∑ k : Fin 2048, x (ix2 (j 0) k) * y (ix2 (j 1) k) := by
  unfold k0_pay1
  rw [eq_ix2 j]
  refine (Dots.nt_apply x (shapeCast S1024x2048 y shapeCasts_S1024x2048_S1024x2048) (j 0) (j 1)).trans ?_
  rw [shapeCast_self]

/-- Which blocks the windows are at, at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0 ∧ win0_1.index t 1 = 0 ∧ win0_2.index t 0 = t.val ∧ win0_2.index t 1 = 0)

/-- Where an entry of window 0's block lies in its array. -/
theorem emb0 (t : Fin cfg0.N) (y : S1024x2048.Idx) : ((win0_0.rect t).emb y 0 : Nat) = (t.val) * 1024 + (y 0).val ∧ ((win0_0.rect t).emb y 1 : Nat) = (y 1).val := by
  obtain ⟨e00, e01, _, _, _, _⟩ := idx_facts t
  exact ⟨(win0_0.rect_emb_val t y 0).trans (by rw [e00]; rfl), win0_0.rect_emb_val_of_index_zero t 1 e01 y⟩

/-- Where an entry of window 1's block lies in its array. -/
theorem emb1 (t : Fin cfg0.N) (y : S1024x2048.Idx) : ((win0_1.rect t).emb y 0 : Nat) = (y 0).val ∧ ((win0_1.rect t).emb y 1 : Nat) = (y 1).val := by
  obtain ⟨_, _, e10, e11, _, _⟩ := idx_facts t
  exact ⟨win0_1.rect_emb_val_of_index_zero t 0 e10 y, win0_1.rect_emb_val_of_index_zero t 1 e11 y⟩

/-- Where an entry of window 2's block lies in its array. -/
theorem emb2 (t : Fin cfg0.N) (y : S1024x1024.Idx) : ((win0_2.rect t).emb y 0 : Nat) = (t.val) * 1024 + (y 0).val ∧ ((win0_2.rect t).emb y 1 : Nat) = (y 1).val := by
  obtain ⟨_, _, _, _, e20, e21⟩ := idx_facts t
  exact ⟨(win0_2.rect_emb_val t y 0).trans (by rw [e20]; rfl), win0_2.rect_emb_val_of_index_zero t 1 e21 y⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 1024 := (j 0).isLt
  have j1 : (j 1).val < 1024 := (j 1).isLt
  obtain ⟨o0, o1⟩ := emb2 t j
  rw [pay_apply, R_apply]
  refine Finset.sum_congr rfl fun k _ => congrArg₂ (· * ·) ?_ ?_
  · show V m c main_arg0 ((win0_0.rect t).emb (ix2 (j 0) k)) = _
    obtain ⟨p0, p1⟩ := emb0 t (ix2 (j 0) k)
    rw [V_main_arg0]
    refine congrArg (arg0 m c) (funext fun a => Fin.ext ?_)
    match a with
    | ⟨0, _⟩ => exact p0.trans o0.symm
    | ⟨1, _⟩ => exact p1
  · show V m c main_v0 ((win0_1.rect t).emb (ix2 (j 1) k)) = _
    obtain ⟨p0, p1⟩ := emb1 t (ix2 (j 1) k)
    rw [V1_eq]
    refine congrArg (arg1 m c) (funext fun a => Fin.ext ?_)
    match a with
    | ⟨0, _⟩ => exact p0.trans o1.symm
    | ⟨1, _⟩ => exact p1

/-- Every index of the result lies in the block of some point. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 1024, by show _ < 4; omega⟩, flush0_2 _, ?_⟩
  generalize ht : (⟨(i 0).val / 1024, _⟩ : Fin cfg0.N) = t
  have hv : t.val = (i 0).val / 1024 := by rw [← ht]
  obtain ⟨_, _, _, _, e20, e21⟩ := idx_facts t
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              rw [e20]; omega
  | ⟨1, _⟩ => show win0_2.index t 1 * 1024 ≤ (i 1).val ∧ (i 1).val < win0_2.index t 1 * 1024 + 1024
              rw [e21]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DHRefIdeal := fun m ρ _ =>
  (θ_run _ _ _).mono (fun r h => ⟨fun c => (h c).2, sem_eq_zero_of_no_sems (by decide) r.2⟩) (DHRefIdeal.Value.run m ρ)

/-- The claim: run on the same arguments, kernel and reference leave the same array. -/
theorem algebraic : Cert.algebraic_DHIdeal_DHRefIdeal := by
  intro m ρ m' ρ' _ hag
  refine ⟨fun c => R m c, (θ_run _ _ _).mono (fun r h c => ?_) (DHIdeal.Value.run_blocks m ρ),
    (θ_run _ _ _).mono (fun r h c => ?_) (DHRefIdeal.Value.run m' ρ')⟩
  · obtain ⟨h, k⟩ := h c
    exact ⟨h.trans (final m c), k⟩
  · obtain ⟨h, k⟩ := h c
    refine ⟨h.trans ?_, k⟩
    rw [DHRefIdeal.Read.val_main_v2_eq, (hag c).1, (hag c).2]

end Cert.Proof.DH

end
-- ==== Proof.DWIn.lean ====
/-
  The gradient of the input projection's weight: what the kernel's result array holds after the run is, entry by entry,
  the reference's product of the transposed hidden state with the incoming gradient, laid out shard by shard.
-/
module

public import proofs.«01_k».proof.Defs
public import proofs.«01_k».proof.Proof.Dots
public import proofs.«01_k».proof.Proof.Gen.DWInIdeal.Value
public import proofs.«01_k».proof.Proof.Gen.DWInRefIdeal.Read

@[expose] public section

noncomputable section

namespace Cert.Proof.DWIn

open Idealize.ShloMosaic Idealize.SL.Sem Idealize.ShloMosaic.TcCoe Idealize.ShloMosaic.ValueIdx
open Cert.DWInIdeal Cert.DWInIdeal.Gen
open Idealize.ShloMosaic.Pipeline (Dat)

section Values

variable (m : (ℓ : Loc nD τ sig) → Buf (Elt Ideal) ℓ)

/-- The hidden state. -/
abbrev arg0 (c : Dev nD) : S4096x1024.Idx → EReal := m ((c : Thread nD τ).loc main_arg0)
/-- The incoming gradient. -/
abbrev arg1 (c : Dev nD) : S4096x2048.Idx → EReal := m ((c : Thread nD τ).loc main_arg1)

/-- The reference's array for the kernel's arguments. -/
abbrev R (c : Dev nD) : S8x1024x256.Idx → EReal :=
  DWInRefIdeal.Read.val_main_v6 (F := Ideal) (m ((c : Thread nD τ).loc main_arg0)) (m ((c : Thread nD τ).loc main_arg1))

/-- The reference's array at an index, as the sum over the contracted axis. -/
theorem R_apply (c : Dev nD) (i : S8x1024x256.Idx) :
    R m c i = ∑ k : Fin 4096, arg0 m c (ix2 k (i 1)) * arg1 m c (ix2 k ⟨(i 0).val * 256 + (i 2).val, by
          have h0 : (i 0).val < 8 := (i 0).isLt; have h1 : (i 1).val < 1024 := (i 1).isLt; have h2 : (i 2).val < 256 := (i 2).isLt; omega⟩) := by
  have h0 : (i 0).val < 8 := (i 0).isLt
  have h1 : (i 1).val < 1024 := (i 1).isLt
  have h2 : (i 2).val < 256 := (i 2).isLt
  rw [R, DWInRefIdeal.Read.val_main_v6_apply, DWInRefIdeal.Read.val_main_v5_apply, DWInRefIdeal.Read.val_main_v4_apply, DWInRefIdeal.Read.val_main_v3_apply]
  show (∑ k : Fin 4096, _) = _
  refine Finset.sum_congr rfl fun k _ => ?_
  rw [DWInRefIdeal.Read.val_main_v1_apply, DWInRefIdeal.Read.val_main_v0_apply, DWInRefIdeal.Read.val_main_v2_apply]
  refine congrArg₂ (· * ·) (congrArg (arg0 m c) ?_) (congrArg (arg1 m c) ?_)
  · funext a
    match a with
    | ⟨0, _⟩ => rfl
    | ⟨1, _⟩ => exact Fin.ext (show (((i 1).val * 8 + (i 0).val) * 256 + (i 2).val) / 2048 = (i 1).val by omega)
  · funext a
    match a with
    | ⟨0, _⟩ => rfl
    | ⟨1, _⟩ => exact Fin.ext (show (((i 1).val * 8 + (i 0).val) * 256 + (i 2).val) % 2048 = (i 0).val * 256 + (i 2).val by omega)

/-- The body's store covers its buffer with the payload of the two input blocks. -/
theorem out_eq (x : Vec Ideal S4096x1024 .bf16) (y : Vec Ideal S4096x256 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S4096x1024 .bf16) (y : Vec Ideal S4096x256 .bf16) (j : S1x1024x256.Idx) :
    k0_pay1 (F := Ideal) x y j = ∑ k : Fin 4096, x (ix2 k (j 1)) * y (ix2 k (j 2)) := by
  unfold k0_pay1
  refine (Dots.add_apply _ shapeCasts_S1024x256_S1x1024x256 j).trans ?_
  refine (Dots.tn_apply (φ₁ := .bf16) (φ₂ := .bf16) x y (j 1) (j 2)).trans ?_
  rfl

/-- Which blocks the windows are at, at each point. -/
theorem idx_facts : ∀ t : Fin cfg0.N, win0_0.index t 0 = 0 ∧ win0_0.index t 1 = 0 ∧ win0_1.index t 0 = 0 ∧ win0_1.index t 1 = t.val ∧ win0_2.index t 0 = t.val ∧ win0_2.index t 1 = 0 ∧ win0_2.index t 2 = 0 :=
  (by decide +kernel : ∀ t : Fin grid0.N, win0_0.index t 0 = 0 ∧ win0_0.index t 1 = 0 ∧ win0_1.index t 0 = 0 ∧ win0_1.index t 1 = t.val ∧ win0_2.index t 0 = t.val ∧ win0_2.index t 1 = 0 ∧ win0_2.index t 2 = 0)

/-- Where an entry of window 0's block lies in its array. -/
theorem emb0 (t : Fin cfg0.N) (y : S4096x1024.Idx) : ((win0_0.rect t).emb y 0 : Nat) = (y 0).val ∧ ((win0_0.rect t).emb y 1 : Nat) = (y 1).val := by
  obtain ⟨e00, e01, _, _, _, _, _⟩ := idx_facts t
  exact ⟨win0_0.rect_emb_val_of_index_zero t 0 e00 y, win0_0.rect_emb_val_of_index_zero t 1 e01 y⟩

/-- Where an entry of window 1's block lies in its array. -/
theorem emb1 (t : Fin cfg0.N) (y : S4096x256.Idx) : ((win0_1.rect t).emb y 0 : Nat) = (y 0).val ∧ ((win0_1.rect t).emb y 1 : Nat) = (t.val) * 256 + (y 1).val := by
  obtain ⟨_, _, e10, e11, _, _, _⟩ := idx_facts t
  exact ⟨win0_1.rect_emb_val_of_index_zero t 0 e10 y, (win0_1.rect_emb_val t y 1).trans (by rw [e11]; rfl)⟩

/-- Where an entry of window 2's block lies in its array. -/
theorem emb2 (t : Fin cfg0.N) (y : S1x1024x256.Idx) : ((win0_2.rect t).emb y 0 : Nat) = (t.val) * 1 + (y 0).val ∧ ((win0_2.rect t).emb y 1 : Nat) = (y 1).val ∧ ((win0_2.rect t).emb y 2 : Nat) = (y 2).val := by
  obtain ⟨_, _, _, _, e20, e21, e22⟩ := idx_facts t
  exact ⟨(win0_2.rect_emb_val t y 0).trans (by rw [e20]; rfl), win0_2.rect_emb_val_of_index_zero t 1 e21 y, win0_2.rect_emb_val_of_index_zero t 2 e22 y⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 1 := (j 0).isLt
  have j1 : (j 1).val < 1024 := (j 1).isLt
  have j2 : (j 2).val < 256 := (j 2).isLt
  obtain ⟨o0, o1, o2⟩ := emb2 t j
  rw [pay_apply, R_apply]
  refine Finset.sum_congr rfl fun k _ => congrArg₂ (· * ·) ?_ ?_
  · show V m c main_arg0 ((win0_0.rect t).emb (ix2 k (j 1))) = _
    obtain ⟨p0, p1⟩ := emb0 t (ix2 k (j 1))
    rw [show V m c main_arg0 = arg0 m c from rfl]
    refine congrArg (arg0 m c) (funext fun a => Fin.ext ?_)
    match a with
    | ⟨0, _⟩ => exact p0
    | ⟨1, _⟩ => exact p1.trans o1.symm
  · show V m c main_arg1 ((win0_1.rect t).emb (ix2 k (j 2))) = _
    obtain ⟨p0, p1⟩ := emb1 t (ix2 k (j 2))
    rw [show V m c main_arg1 = arg1 m c from rfl]
    refine congrArg (arg1 m c) (funext fun a => Fin.ext ?_)
    match a with
    | ⟨0, _⟩ => exact p0
    | ⟨1, _⟩ =>
      show ((win0_1.rect t).emb (ix2 k (j 2)) 1 : Nat) = ((win0_2.rect t).emb j 0 : Nat) * 256 + ((win0_2.rect t).emb j 2 : Nat)
      rw [p1, o0, o2]
      show t.val * 256 + (j 2).val = (t.val * 1 + (j 0).val) * 256 + (j 2).val
      omega

/-- Every index of the result lies in the block of some point. -/
theorem covered (i : S8x1024x256.Idx) :
    ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 256 := (i 2).isLt
  refine ⟨⟨(i 0).val, by show _ < 8; omega⟩, flush0_2 _, ?_⟩
  generalize ht : (⟨(i 0).val, _⟩ : Fin cfg0.N) = t
  have hv : t.val = (i 0).val := by rw [← ht]
  obtain ⟨_, _, _, _, e20, e21, e22⟩ := idx_facts t
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e20]; omega
  | ⟨1, _⟩ => show win0_2.index t 1 * 1024 ≤ (i 1).val ∧ (i 1).val < win0_2.index t 1 * 1024 + 1024
              rw [e21]; omega
  | ⟨2, _⟩ => show win0_2.index t 2 * 256 ≤ (i 2).val ∧ (i 2).val < win0_2.index t 2 * 256 + 256
              rw [e22]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_DWInRefIdeal := fun m ρ _ =>
  (θ_run _ _ _).mono (fun r h => ⟨fun c => (h c).2, sem_eq_zero_of_no_sems (by decide) r.2⟩) (DWInRefIdeal.Value.run m ρ)

/-- The claim: run on the same arguments, kernel and reference leave the same array. -/
theorem algebraic : Cert.algebraic_DWInIdeal_DWInRefIdeal := by
  intro m ρ m' ρ' _ hag
  refine ⟨fun c => R m c, (θ_run _ _ _).mono (fun r h c => ?_) (DWInIdeal.Value.run_blocks m ρ),
    (θ_run _ _ _).mono (fun r h c => ?_) (DWInRefIdeal.Value.run m' ρ')⟩
  · obtain ⟨h, k⟩ := h c
    exact ⟨h.trans (final m c), k⟩
  · obtain ⟨h, k⟩ := h c
    refine ⟨h.trans ?_, k⟩
    rw [DWInRefIdeal.Read.val_main_v6_eq, (hag c).1, (hag c).2]

end Cert.Proof.DWIn

end
-- ==== Proof.MIn.lean ====
/-
  The input projection: what the kernel's result array holds after the run is, entry by entry, the reference's product of
  the hidden state with the weight.
-/
module

public import proofs.«01_k».proof.Defs
public import proofs.«01_k».proof.Proof.Dots
public import proofs.«01_k».proof.Proof.Gen.MInIdeal.Value
public import proofs.«01_k».proof.Proof.Gen.MInRefIdeal.Read

@[expose] public section

noncomputable section

namespace Cert.Proof.MIn

open Idealize.ShloMosaic Idealize.SL.Sem Idealize.ShloMosaic.TcCoe Idealize.ShloMosaic.ValueIdx
open Cert.MInIdeal Cert.MInIdeal.Gen
open Idealize.ShloMosaic.Pipeline (Dat)

section Values

variable (m : (ℓ : Loc nD τ sig) → Buf (Elt Ideal) ℓ)

/-- The hidden state. -/
abbrev arg0 (c : Dev nD) : S4096x1024.Idx → EReal := m ((c : Thread nD τ).loc main_arg0)
/-- The weight. -/
abbrev arg1 (c : Dev nD) : S1024x2048.Idx → EReal := m ((c : Thread nD τ).loc main_arg1)

/-- The reference's array for the kernel's arguments. -/
abbrev R (c : Dev nD) : S4096x2048.Idx → EReal :=
  MInRefIdeal.Read.val_main_v1 (F := Ideal) (m ((c : Thread nD τ).loc main_arg0)) (m ((c : Thread nD τ).loc main_arg1))

/-- The reference's array at an index, as the sum over the contracted axis. -/
theorem R_apply (c : Dev nD) (i : S4096x2048.Idx) :
    R m c i = ∑ k : Fin 1024, arg0 m c (ix2 (i 0) k) * arg1 m c (ix2 k (i 1)) := by
  have h0 : (i 0).val < 4096 := (i 0).isLt
  have h1 : (i 1).val < 2048 := (i 1).isLt
  rw [R, MInRefIdeal.Read.val_main_v1_apply]
  refine Finset.sum_congr rfl fun k _ => ?_
  rw [MInRefIdeal.Read.val_main_v0_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The weight as the region finds it: the argument, its format changed. -/
theorem V1_eq (c : Dev nD) : (V m c main_v0 : S1024x2048.Idx → EReal) = arg1 m c := by
  dsimp only [V, hostOps0]; after_results; rfl

/-- The body's store covers its buffer with the payload of the two input blocks. -/
theorem out_eq (x : Vec Ideal S512x1024 .bf16) (y : Vec Ideal S1024x2048 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S512x1024 .bf16) (y : Vec Ideal S1024x2048 .bf16) (j : S512x2048.Idx) :
    k0_pay1 (F := Ideal) x y j = ∑ k : Fin 1024, x (ix2 (j 0) k) * y (ix2 k (j 1)) := by
  unfold k0_pay1
  rw [eq_ix2 j]
  refine (Dots.nn_apply (φ₁ := .bf16) (φ₂ := .bf16) x (shapeCast S1024x2048 y shapeCasts_S1024x2048_S1024x2048) (j 0) (j 1)).trans ?_
  rw [shapeCast_self]

/-- Which blocks the windows are at, at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0 ∧ win0_1.index t 1 = 0 ∧ win0_2.index t 0 = t.val ∧ win0_2.index t 1 = 0)

/-- Where an entry of window 0's block lies in its array. -/
theorem emb0 (t : Fin cfg0.N) (y : S512x1024.Idx) : ((win0_0.rect t).emb y 0 : Nat) = (t.val) * 512 + (y 0).val ∧ ((win0_0.rect t).emb y 1 : Nat) = (y 1).val := by
  obtain ⟨e00, e01, _, _, _, _⟩ := idx_facts t
  exact ⟨(win0_0.rect_emb_val t y 0).trans (by rw [e00]; rfl), win0_0.rect_emb_val_of_index_zero t 1 e01 y⟩

/-- Where an entry of window 1's block lies in its array. -/
theorem emb1 (t : Fin cfg0.N) (y : S1024x2048.Idx) : ((win0_1.rect t).emb y 0 : Nat) = (y 0).val ∧ ((win0_1.rect t).emb y 1 : Nat) = (y 1).val := by
  obtain ⟨_, _, e10, e11, _, _⟩ := idx_facts t
  exact ⟨win0_1.rect_emb_val_of_index_zero t 0 e10 y, win0_1.rect_emb_val_of_index_zero t 1 e11 y⟩

/-- Where an entry of window 2's block lies in its array. -/
theorem emb2 (t : Fin cfg0.N) (y : S512x2048.Idx) : ((win0_2.rect t).emb y 0 : Nat) = (t.val) * 512 + (y 0).val ∧ ((win0_2.rect t).emb y 1 : Nat) = (y 1).val := by
  obtain ⟨_, _, _, _, e20, e21⟩ := idx_facts t
  exact ⟨(win0_2.rect_emb_val t y 0).trans (by rw [e20]; rfl), win0_2.rect_emb_val_of_index_zero t 1 e21 y⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 512 := (j 0).isLt
  have j1 : (j 1).val < 2048 := (j 1).isLt
  obtain ⟨o0, o1⟩ := emb2 t j
  rw [pay_apply, R_apply]
  refine Finset.sum_congr rfl fun k _ => congrArg₂ (· * ·) ?_ ?_
  · show V m c main_arg0 ((win0_0.rect t).emb (ix2 (j 0) k)) = _
    obtain ⟨p0, p1⟩ := emb0 t (ix2 (j 0) k)
    rw [V_main_arg0]
    refine congrArg (arg0 m c) (funext fun a => Fin.ext ?_)
    match a with
    | ⟨0, _⟩ => exact p0.trans o0.symm
    | ⟨1, _⟩ => exact p1
  · show V m c main_v0 ((win0_1.rect t).emb (ix2 k (j 1))) = _
    obtain ⟨p0, p1⟩ := emb1 t (ix2 k (j 1))
    rw [V1_eq]
    refine congrArg (arg1 m c) (funext fun a => Fin.ext ?_)
    match a with
    | ⟨0, _⟩ => exact p0
    | ⟨1, _⟩ => exact p1.trans o1.symm

/-- Every index of the result lies in the block of some point. -/
theorem covered (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  refine ⟨⟨(i 0).val / 512, by show _ < 8; omega⟩, flush0_2 _, ?_⟩
  generalize ht : (⟨(i 0).val / 512, _⟩ : Fin cfg0.N) = t
  have hv : t.val = (i 0).val / 512 := by rw [← ht]
  obtain ⟨_, _, _, _, e20, e21⟩ := idx_facts t
  show i ∈ ((View.whole main_v1).slice (win0_2.rect t)).set
  rw [View.set_slice_whole, Rect.mem_set_unit]
  intro a
  match a with
  | ⟨0, _⟩ => show win0_2.index t 0 * 512 ≤ (i 0).val ∧ (i 0).val < win0_2.index t 0 * 512 + 512
              rw [e20]; omega
  | ⟨1, _⟩ => show win0_2.index t 1 * 2048 ≤ (i 1).val ∧ (i 1).val < win0_2.index t 1 * 2048 + 2048
              rw [e21]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_MInRefIdeal := fun m ρ _ =>
  (θ_run _ _ _).mono (fun r h => ⟨fun c => (h c).2, sem_eq_zero_of_no_sems (by decide) r.2⟩) (MInRefIdeal.Value.run m ρ)

/-- The claim: run on the same arguments, kernel and reference leave the same array. -/
theorem algebraic : Cert.algebraic_MInIdeal_MInRefIdeal := by
  intro m ρ m' ρ' _ hag
  refine ⟨fun c => R m c, (θ_run _ _ _).mono (fun r h c => ?_) (MInIdeal.Value.run_blocks m ρ),
    (θ_run _ _ _).mono (fun r h c => ?_) (MInRefIdeal.Value.run m' ρ')⟩
  · obtain ⟨h, k⟩ := h c
    exact ⟨h.trans (final m c), k⟩
  · obtain ⟨h, k⟩ := h c
    refine ⟨h.trans ?_, k⟩
    rw [MInRefIdeal.Read.val_main_v1_eq, (hag c).1, (hag c).2]

end Cert.Proof.MIn

end
-- ==== Proof.MOut.lean ====
/-
  The output projection with its residual: the kernel's two result arrays are, entry by entry, the reference's product of the
  mixed state with the weight, and the residual with the gated product added.
-/
module

public import proofs.«01_k».proof.Defs
public import proofs.«01_k».proof.Proof.Dots
public import proofs.«01_k».proof.Proof.Gen.MOutIdeal.Value
public import proofs.«01_k».proof.Proof.Gen.MOutRefIdeal.Read

@[expose] public section

noncomputable section

namespace Cert.Proof.MOut

open Idealize.ShloMosaic Idealize.SL.Sem Idealize.ShloMosaic.TcCoe Idealize.ShloMosaic.ValueIdx
open Cert.MOutIdeal Cert.MOutIdeal.Gen
open Idealize.ShloMosaic.Pipeline (Dat)

section Values

variable (m : (ℓ : Loc nD τ sig) → Buf (Elt Ideal) ℓ)

/-- The mixed state. -/
abbrev arg0 (c : Dev nD) : S4096x1024.Idx → EReal := m ((c : Thread nD τ).loc main_arg0)
/-- The weight. -/
abbrev arg1 (c : Dev nD) : S1024x1024.Idx → EReal := m ((c : Thread nD τ).loc main_arg1)
/-- The residual. -/
abbrev arg2 (c : Dev nD) : S4096x1024.Idx → EReal := m ((c : Thread nD τ).loc main_arg2)
/-- The gate. -/
abbrev arg3 (c : Dev nD) : S1024.Idx → EReal := m ((c : Thread nD τ).loc main_arg3)

/-- The product at an index. -/
def R4 (c : Dev nD) : S4096x1024.Idx → EReal := fun i => ∑ k : Fin 1024, arg0 m c (ix2 (i 0) k) * arg1 m c (ix2 k (i 1))
/-- The residual and the gated product at an index. -/
def R5 (c : Dev nD) : S4096x1024.Idx → EReal := fun i => arg2 m c i + arg3 m c (ix1 (i 1)) * R4 m c i

/-- The reference's product is that array. -/
theorem ref4 (c : Dev nD) :
    MOutRefIdeal.Read.val_main_v1 (F := Ideal) (m ((c : Thread nD τ).loc main_arg0)) (m ((c : Thread nD τ).loc main_arg1)) = R4 m c := by
  funext i
  rw [MOutRefIdeal.Read.val_main_v1_apply]
  refine Finset.sum_congr rfl fun k _ => ?_
  rw [MOutRefIdeal.Read.val_main_v0_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The reference's second result is that array. -/
theorem ref5 (c : Dev nD) :
    MOutRefIdeal.Read.val_main_v5 (F := Ideal) (m ((c : Thread nD τ).loc main_arg0)) (m ((c : Thread nD τ).loc main_arg1))
      (m ((c : Thread nD τ).loc main_arg2)) (m ((c : Thread nD τ).loc main_arg3)) = R5 m c := by
  funext i
  rw [MOutRefIdeal.Read.val_main_v5_apply, MOutRefIdeal.Read.val_main_v4_apply, MOutRefIdeal.Read.val_main_v3_apply,
    MOutRefIdeal.Read.val_main_v2_apply, ref4 m c]
  refine congrArg (arg2 m c i + ·) (congrArg (· * R4 m c i) (congrArg (arg3 m c) ?_))
  funext a
  match a with
  | ⟨0, _⟩ => rfl

/-- The weight as the region finds it: the argument, its format changed. -/
theorem V1_eq (c : Dev nD) : (V m c main_v0 : S1024x1024.Idx → EReal) = arg1 m c := by
  dsimp only [V, hostOps0]; after_results; rfl

/-- The gate as the region finds it: one row. -/
theorem V3_apply (c : Dev nD) (i : S1x1024.Idx) : V m c main_v1 i = arg3 m c (ix1 (i 1)) := by
  have h0 : (i 0).val < 1 := (i 0).isLt
  have e : V m c main_v1 = shapeCast S1x1024 (arg3 m c) shapeCasts_S1024_S1x1024 := by
    dsimp only [V, hostOps0]; after_results; rfl
  rw [e]
  refine shapeCast_apply _ shapeCasts_S1024_S1x1024 i _ ?_
  rewrite [Shape.rowMajor_val_one, Shape.rowMajor_val_two]
  show (i 1).val = (i 0).val * 1024 + (i 1).val
  omega

/-- The product the body computes from its two blocks, an entry. -/
def pay (x : Vec Ideal S1024x1024 .bf16) (y : Vec Ideal S1024x512 .bf16) : Vec Ideal S1024x512 .f32 :=
  fun j => ∑ k : Fin 1024, x (ix2 (j 0) k) * y (ix2 k (j 1))

/-- That product at an index. -/
theorem pay_apply (x : Vec Ideal S1024x1024 .bf16) (y : Vec Ideal S1024x512 .bf16) (j : S1024x512.Idx) :
    pay x y j = ∑ k : Fin 1024, x (ix2 (j 0) k) * y (ix2 k (j 1)) := rfl

/-- The body's product is that one. -/
theorem pay_eq (x : Vec Ideal S1024x1024 .bf16) (y : Vec Ideal S1024x512 .bf16) : k0_pay1 (F := Ideal) x y = pay x y := by
  funext j
  rw [eq_ix2 j]
  unfold k0_pay1
  refine (Dots.nn_apply (φ₁ := .bf16) (φ₂ := .bf16) x (shapeCast S1024x512 y shapeCasts_S1024x512_S1024x512) (j 0) (j 1)).trans ?_
  rw [shapeCast_self]
  rfl

/-- The gate's row spread over a block, an entry. -/
theorem row_apply (g : Vec Ideal S1x512 .f32) (r : Fin 1024) (q : Fin 512) :
    broadcastTo S1024x512 (shapeCast S1x512 g shapeCasts_S1x512_S1x512) broadcasts_S1x512_S1024x512 (ix2 r q) = g (ix2 ⟨0, Nat.one_pos⟩ q) := by
  rw [shapeCast_self]
  exact broadcastTo_apply g broadcasts_S1x512_S1024x512 (ix2 r q) (ix2 ⟨0, Nat.one_pos⟩ q) (fun a => match a with
    | ⟨0, _⟩ => rfl
    | ⟨1, _⟩ => rfl)

/-- What the body leaves in its first output's block. -/
theorem out4_eq (x : Vec Ideal S1024x1024 .bf16) (y : Vec Ideal S1024x512 .bf16) (z : Vec Ideal S1024x512 .f32) (g : Vec Ideal S1x512 .f32) :
    out0_4 (F := Ideal) x y z g = pay x y := by
  unfold out0_4
  rw [View.canon_unit_zero (by funext a; fin_cases a <;> rfl), View.ld_unit_zero (by funext a; fin_cases a <;> rfl),
    View.ld_unit_zero (by funext a; fin_cases a <;> rfl)]
  exact pay_eq x y

/-- What the body leaves in its second output's block, an entry. -/
theorem out5_apply (x : Vec Ideal S1024x1024 .bf16) (y : Vec Ideal S1024x512 .bf16) (z : Vec Ideal S1024x512 .f32) (g : Vec Ideal S1x512 .f32)
    (j : S1024x512.Idx) : out0_5 (F := Ideal) x y z g j = z j + g (ix2 ⟨0, Nat.one_pos⟩ (j 1)) * pay x y j := by
  unfold out0_5
  rw [View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl)]
  unfold k0_pay2
  rw [eq_ix2 j]
  exact congrArg (z (ix2 (j 0) (j 1)) + ·) (congrArg₂ (· * ·) (row_apply g (j 0) (j 1)) (congrFun (pay_eq x y) _))

/-- Which blocks the windows are at, at each point. -/
theorem idx_facts : ∀ t : Fin cfg0.N, win0_0.index t 0 = t.val / 2 ∧ win0_0.index t 1 = 0 ∧ win0_1.index t 0 = 0 ∧ win0_1.index t 1 = t.val % 2 ∧ win0_2.index t 0 = t.val / 2 ∧ win0_2.index t 1 = t.val % 2 ∧ win0_3.index t 0 = 0 ∧ win0_3.index t 1 = t.val % 2 ∧ win0_4.index t 0 = t.val / 2 ∧ win0_4.index t 1 = t.val % 2 ∧ win0_5.index t 0 = t.val / 2 ∧ win0_5.index t 1 = t.val % 2 :=
  (by decide +kernel : ∀ t : Fin grid0.N, win0_0.index t 0 = t.val / 2 ∧ win0_0.index t 1 = 0 ∧ win0_1.index t 0 = 0 ∧ win0_1.index t 1 = t.val % 2 ∧ win0_2.index t 0 = t.val / 2 ∧ win0_2.index t 1 = t.val % 2 ∧ win0_3.index t 0 = 0 ∧ win0_3.index t 1 = t.val % 2 ∧ win0_4.index t 0 = t.val / 2 ∧ win0_4.index t 1 = t.val % 2 ∧ win0_5.index t 0 = t.val / 2 ∧ win0_5.index t 1 = t.val % 2)

/-- Where an entry of window 0's block lies in its array. -/
theorem emb0 (t : Fin cfg0.N) (y : S1024x1024.Idx) : ((win0_0.rect t).emb y 0 : Nat) = (t.val / 2) * 1024 + (y 0).val ∧ ((win0_0.rect t).emb y 1 : Nat) = (y 1).val := by
  obtain ⟨e00, e01, _, _, _, _, _, _, _, _, _, _⟩ := idx_facts t
  exact ⟨(win0_0.rect_emb_val t y 0).trans (by rw [e00]; rfl), win0_0.rect_emb_val_of_index_zero t 1 e01 y⟩

/-- Where an entry of window 1's block lies in its array. -/
theorem emb1 (t : Fin cfg0.N) (y : S1024x512.Idx) : ((win0_1.rect t).emb y 0 : Nat) = (y 0).val ∧ ((win0_1.rect t).emb y 1 : Nat) = (t.val % 2) * 512 + (y 1).val := by
  obtain ⟨_, _, e10, e11, _, _, _, _, _, _, _, _⟩ := idx_facts t
  exact ⟨win0_1.rect_emb_val_of_index_zero t 0 e10 y, (win0_1.rect_emb_val t y 1).trans (by rw [e11]; rfl)⟩

/-- Where an entry of window 2's block lies in its array. -/
theorem emb2 (t : Fin cfg0.N) (y : S1024x512.Idx) : ((win0_2.rect t).emb y 0 : Nat) = (t.val / 2) * 1024 + (y 0).val ∧ ((win0_2.rect t).emb y 1 : Nat) = (t.val % 2) * 512 + (y 1).val := by
  obtain ⟨_, _, _, _, e20, e21, _, _, _, _, _, _⟩ := idx_facts t
  exact ⟨(win0_2.rect_emb_val t y 0).trans (by rw [e20]; rfl), (win0_2.rect_emb_val t y 1).trans (by rw [e21]; rfl)⟩

/-- Where an entry of window 3's block lies in its array. -/
theorem emb3 (t : Fin cfg0.N) (y : S1x512.Idx) : ((win0_3.rect t).emb y 0 : Nat) = (y 0).val ∧ ((win0_3.rect t).emb y 1 : Nat) = (t.val % 2) * 512 + (y 1).val := by
  obtain ⟨_, _, _, _, _, _, e30, e31, _, _, _, _⟩ := idx_facts t
  exact ⟨win0_3.rect_emb_val_of_index_zero t 0 e30 y, (win0_3.rect_emb_val t y 1).trans (by rw [e31]; rfl)⟩

/-- Where an entry of window 4's block lies in its array. -/
theorem emb4 (t : Fin cfg0.N) (y : S1024x512.Idx) : ((win0_4.rect t).emb y 0 : Nat) = (t.val / 2) * 1024 + (y 0).val ∧ ((win0_4.rect t).emb y 1 : Nat) = (t.val % 2) * 512 + (y 1).val := by
  obtain ⟨_, _, _, _, _, _, _, _, e40, e41, _, _⟩ := idx_facts t
  exact ⟨(win0_4.rect_emb_val t y 0).trans (by rw [e40]; rfl), (win0_4.rect_emb_val t y 1).trans (by rw [e41]; rfl)⟩

/-- Where an entry of window 5's block lies in its array. -/
theorem emb5 (t : Fin cfg0.N) (y : S1024x512.Idx) : ((win0_5.rect t).emb y 0 : Nat) = (t.val / 2) * 1024 + (y 0).val ∧ ((win0_5.rect t).emb y 1 : Nat) = (t.val % 2) * 512 + (y 1).val := by
  obtain ⟨_, _, _, _, _, _, _, _, _, _, e50, e51⟩ := idx_facts t
  exact ⟨(win0_5.rect_emb_val t y 0).trans (by rw [e50]; rfl), (win0_5.rect_emb_val t y 1).trans (by rw [e51]; rfl)⟩

/-- The product of the blocks point `t` finds is its block of the product. -/
theorem prod_eq (c : Dev nD) (t : Fin cfg0.N) (j : S1024x512.Idx) :
    pay (iblk m c 0 t) (iblk m c 1 t) j = R4 m c ((win0_4.rect t).emb j) := by
  obtain ⟨o0, o1⟩ := emb4 t j
  rw [pay_apply]
  refine Finset.sum_congr rfl fun k _ => congrArg₂ (· * ·) ?_ ?_
  · show V m c main_arg0 ((win0_0.rect t).emb (ix2 (j 0) k)) = _
    obtain ⟨p0, p1⟩ := emb0 t (ix2 (j 0) k)
    rw [show V m c main_arg0 = arg0 m c from V_main_arg0 m c]
    refine congrArg (arg0 m c) (funext fun a => Fin.ext ?_)
    match a with
    | ⟨0, _⟩ => exact p0.trans o0.symm
    | ⟨1, _⟩ => exact p1
  · show V m c main_v0 ((win0_1.rect t).emb (ix2 k (j 1))) = _
    obtain ⟨p0, p1⟩ := emb1 t (ix2 k (j 1))
    rw [V1_eq]
    refine congrArg (arg1 m c) (funext fun a => Fin.ext ?_)
    match a with
    | ⟨0, _⟩ => exact p0
    | ⟨1, _⟩ => exact p1.trans o1.symm

/-- The residual's block at point `t`. -/
theorem blk2 (c : Dev nD) (t : Fin cfg0.N) (j : S1024x512.Idx) : iblk m c 2 t j = arg2 m c ((win0_4.rect t).emb j) := by
  obtain ⟨o0, o1⟩ := emb4 t j
  obtain ⟨p0, p1⟩ := emb2 t j
  show V m c main_arg2 ((win0_2.rect t).emb j) = _
  rw [show V m c main_arg2 = arg2 m c from V_main_arg2 m c]
  refine congrArg (arg2 m c) (funext fun a => Fin.ext ?_)
  match a with
  | ⟨0, _⟩ => exact p0.trans o0.symm
  | ⟨1, _⟩ => exact p1.trans o1.symm

/-- The gate's block at point `t`. -/
theorem blk3 (c : Dev nD) (t : Fin cfg0.N) (j : S1024x512.Idx) :
    iblk m c 3 t (ix2 ⟨0, Nat.one_pos⟩ (j 1)) = arg3 m c (ix1 ((win0_4.rect t).emb j 1)) := by
  obtain ⟨o0, o1⟩ := emb4 t j
  obtain ⟨p0, p1⟩ := emb3 t (ix2 ⟨0, Nat.one_pos⟩ (j 1))
  show V m c main_v1 ((win0_3.rect t).emb (ix2 ⟨0, Nat.one_pos⟩ (j 1))) = _
  rw [V3_apply]
  refine congrArg (arg3 m c) (funext fun a => Fin.ext ?_)
  match a with
  | ⟨0, _⟩ => exact p1.trans o1.symm

/-- What a point writes back is its block of the result. -/
theorem flushed4 (c : Dev nD) (t : Fin cfg0.N) :
    (dats m 0 c).flushed 4 t = ((cfg0.win 4).blk t).view.read (Elt Ideal) (R4 m c) := by
  rw [Value.flushed4, out4_eq]
  funext j
  exact prod_eq m c t j

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c ((win0_4.rect t).emb j)
  rw [out5_apply, prod_eq, blk2, blk3]
  rfl

/-- Every index of the result lies in the block of some point. -/
theorem covered4 (i : S4096x1024.Idx) :
    ∃ t : Fin cfg0.N, (cfg0.win 4).flush t = true ∧ i ∈ ((cfg0.win 4).blk t).view.set := by
  have h0 : (i 0).val < 4096 := (i 0).isLt
  have h1 : (i 1).val < 1024 := (i 1).isLt
  refine ⟨⟨(i 0).val / 1024 * 2 + (i 1).val / 512, by show _ < 8; omega⟩, flush0_4 _, ?_⟩
  generalize ht : (⟨(i 0).val / 1024 * 2 + (i 1).val / 512, _⟩ : Fin cfg0.N) = t
  have hv : t.val = (i 0).val / 1024 * 2 + (i 1).val / 512 := by rw [← ht]
  obtain ⟨_, _, _, _, _, _, _, _, e40, e41, _, _⟩ := idx_facts t
  show i ∈ ((View.whole main_v2_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024
              rw [e40]; omega
  | ⟨1, _⟩ => show win0_4.index t 1 * 512 ≤ (i 1).val ∧ (i 1).val < win0_4.index t 1 * 512 + 512
              rw [e41]; omega

/-- Every index of the result lies in the block of some point. -/
theorem covered5 (i : S4096x1024.Idx) :
    ∃ t : Fin cfg0.N, (cfg0.win 5).flush t = true ∧ i ∈ ((cfg0.win 5).blk t).view.set := by
  have h0 : (i 0).val < 4096 := (i 0).isLt
  have h1 : (i 1).val < 1024 := (i 1).isLt
  refine ⟨⟨(i 0).val / 1024 * 2 + (i 1).val / 512, by show _ < 8; omega⟩, flush0_5 _, ?_⟩
  generalize ht : (⟨(i 0).val / 1024 * 2 + (i 1).val / 512, _⟩ : Fin cfg0.N) = t
  have hv : t.val = (i 0).val / 1024 * 2 + (i 1).val / 512 := by rw [← ht]
  obtain ⟨_, _, _, _, _, _, _, _, _, _, e50, e51⟩ := idx_facts t
  show i ∈ ((View.whole main_v2_1).slice (win0_5.rect t)).set
  rw [View.set_slice_whole, Rect.mem_set_unit]
  intro a
  match a with
  | ⟨0, _⟩ => show win0_5.index t 0 * 1024 ≤ (i 0).val ∧ (i 0).val < win0_5.index t 0 * 1024 + 1024
              rw [e50]; omega
  | ⟨1, _⟩ => show win0_5.index t 1 * 512 ≤ (i 1).val ∧ (i 1).val < win0_5.index t 1 * 512 + 512
              rw [e51]; omega

end Values

/-- The reference's own run: its arguments end unchanged. -/
theorem frame_ref : Cert.quiescent_MOutRefIdeal := fun m ρ _ =>
  (θ_run _ _ _).mono (fun r h => ⟨fun c => (h c).2.2, sem_eq_zero_of_no_sems (by decide) r.2⟩) (MOutRefIdeal.Value.run m ρ)

/-- The claim: run on the same arguments, kernel and reference leave the same two arrays. -/
theorem algebraic : Cert.algebraic_MOutIdeal_MOutRefIdeal := by
  intro m ρ m' ρ' _ hag
  refine ⟨fun c => R4 m c, fun c => R5 m c, (θ_run _ _ _).mono (fun r h c => ?_) (MOutIdeal.Value.run_blocks m ρ),
    (θ_run _ _ _).mono (fun r h c => ?_) (MOutRefIdeal.Value.run m' ρ')⟩
  · obtain ⟨h4, h5, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5), k⟩
  · obtain ⟨h4, h5, k⟩ := h c
    obtain ⟨a0, a1, a2, a3⟩ := hag c
    refine ⟨h4.trans ?_, h5.trans ?_, k⟩
    · rw [MOutRefIdeal.Read.val_main_v1_eq, a0, a1]
      exact ref4 m c
    · rw [MOutRefIdeal.Read.val_main_v5_eq, a0, a1, a2, a3]
      exact ref5 m c

end Cert.Proof.MOut

end
-- ==== Proof.MUp.lean ====
/-
  The up projection: what the kernel's result array holds after the run is, entry by entry, the reference's product of the
  second hidden state with the weight, laid out shard by shard.
-/
module

public import proofs.«01_k».proof.Defs
public import proofs.«01_k».proof.Proof.Dots
public import proofs.«01_k».proof.Proof.Gen.MUpIdeal.Value
public import proofs.«01_k».proof.Proof.Gen.MUpRefIdeal.Read

@[expose] public section

noncomputable section

namespace Cert.Proof.MUp

open Idealize.ShloMosaic Idealize.SL.Sem Idealize.ShloMosaic.TcCoe Idealize.ShloMosaic.ValueIdx
open Cert.MUpIdeal Cert.MUpIdeal.Gen
open Idealize.ShloMosaic.Pipeline (Dat)

section Values

variable (m : (ℓ : Loc nD τ sig) → Buf (Elt Ideal) ℓ)

/-- The second hidden state. -/
abbrev arg0 (c : Dev nD) : S4096x1024.Idx → EReal := m ((c : Thread nD τ).loc main_arg0)
/-- The weight. -/
abbrev arg1 (c : Dev nD) : S1024x5632.Idx → EReal := m ((c : Thread nD τ).loc main_arg1)

/-- The reference's array for the kernel's arguments. -/
abbrev R (c : Dev nD) : S8x4096x704.Idx → EReal :=
  MUpRefIdeal.Read.val_main_v3 (F := Ideal) (m ((c : Thread nD τ).loc main_arg0)) (m ((c : Thread nD τ).loc main_arg1))

/-- The reference's array at an index, as the sum over the contracted axis. -/
theorem R_apply (c : Dev nD) (i : S8x4096x704.Idx) :
    R m c i = ∑ k : Fin 1024, arg0 m c (ix2 (i 1) k) * arg1 m c (ix2 k ⟨(i 0).val * 704 + (i 2).val, by
          have h0 : (i 0).val < 8 := (i 0).isLt; have h1 : (i 1).val < 4096 := (i 1).isLt; have h2 : (i 2).val < 704 := (i 2).isLt; omega⟩) := by
  have h0 : (i 0).val < 8 := (i 0).isLt
  have h1 : (i 1).val < 4096 := (i 1).isLt
  have h2 : (i 2).val < 704 := (i 2).isLt
  rw [R, MUpRefIdeal.Read.val_main_v3_apply, MUpRefIdeal.Read.val_main_v2_apply, MUpRefIdeal.Read.val_main_v1_apply]
  show (∑ k : Fin 1024, _) = _
  refine Finset.sum_congr rfl fun k _ => ?_
  rw [MUpRefIdeal.Read.val_main_v0_apply]
  refine congrArg₂ (· * ·) (congrArg (arg0 m c) ?_) (congrArg (arg1 m c) ?_)
  · funext a
    match a with
    | ⟨0, _⟩ => exact Fin.ext (show (((i 1).val * 8 + (i 0).val) * 704 + (i 2).val) / 5632 = (i 1).val by omega)
    | ⟨1, _⟩ => rfl
  · funext a
    match a with
    | ⟨0, _⟩ => rfl
    | ⟨1, _⟩ => exact Fin.ext (show (((i 1).val * 8 + (i 0).val) * 704 + (i 2).val) % 5632 = (i 0).val * 704 + (i 2).val by omega)

/-- The weight as the region finds it: its columns cut into shards, the shards first. -/
theorem V1_apply (c : Dev nD) (i : S8x1024x704.Idx) :
    V m c main_v2 i = arg1 m c (ix2 (i 1) ⟨(i 0).val * 704 + (i 2).val, by
          have h0 : (i 0).val < 8 := (i 0).isLt; have h2 : (i 2).val < 704 := (i 2).isLt; omega⟩) := by
  have h0 : (i 0).val < 8 := (i 0).isLt
  have h1 : (i 1).val < 1024 := (i 1).isLt
  have h2 : (i 2).val < 704 := (i 2).isLt
  have e : V m c main_v2 = transpose S8x1024x704 [1, 0, 2] (shapeCast S1024x8x704 (arg1 m c) shapeCasts_S1024x5632_S1024x8x704) transposes_S1024x8x704_S8x1024x704_1_0_2 := by
    dsimp only [V, hostOps0]; after_results; rfl
  rw [e]
  refine (transpose_apply [1, 0, 2] _ transposes_S1024x8x704_S8x1024x704_1_0_2 i (ix3 (i 1) (i 0) (i 2)) (fun b => match b with
    | ⟨0, _⟩ => rfl
    | ⟨1, _⟩ => rfl
    | ⟨2, _⟩ => rfl)).trans ?_
  refine shapeCast_apply _ shapeCasts_S1024x5632_S1024x8x704 (ix3 (i 1) (i 0) (i 2)) _ ?_
  rewrite [Shape.rowMajor_val_two, Shape.rowMajor_val_three]
  show (i 1).val * 5632 + ((i 0).val * 704 + (i 2).val) = ((i 1).val * 8 + (i 0).val) * 704 + (i 2).val
  omega

/-- The body's store covers its buffer with the payload of the two input blocks. -/
theorem out_eq (x : Vec Ideal S1024x1024 .bf16) (y : Vec Ideal S1x1024x704 .bf16) :
    out0_2 (F := Ideal) x y = k0_pay1 x y := by
  unfold out0_2
  rw [View.canon_unit_zero (by funext a; fin_cases a <;> rfl), View.ld_unit_zero (by funext a; fin_cases a <;> rfl),
    View.ld_unit_zero (by funext a; fin_cases a <;> rfl)]

/-- The body's payload at an index. -/
theorem pay_apply (x : Vec Ideal S1024x1024 .bf16) (y : Vec Ideal S1x1024x704 .bf16) (j : S1x1024x704.Idx) :
    k0_pay1 (F := Ideal) x y j = ∑ k : Fin 1024, x (ix2 (j 1) k) * y (ix3 ⟨0, Nat.one_pos⟩ k (j 2)) := by
  unfold k0_pay1
  refine (Dots.add_apply _ shapeCasts_S1024x704_S1x1024x704 j).trans ?_
  refine (Dots.nn_apply (φ₁ := .bf16) (φ₂ := .bf16) x (shapeCast S1024x704 y shapeCasts_S1x1024x704_S1024x704) (j 1) (j 2)).trans ?_
  exact Finset.sum_congr rfl fun k _ => congrArg (x (ix2 (j 1) k) * ·) (Dots.drop_apply y _ k (j 2))

/-- Which blocks the windows are at, at each point. -/
theorem idx_facts : ∀ t : Fin cfg0.N, win0_0.index t 0 = t.val / 8 ∧ win0_0.index t 1 = 0 ∧ win0_1.index t 0 = t.val % 8 ∧ win0_1.index t 1 = 0 ∧ win0_1.index t 2 = 0 ∧ win0_2.index t 0 = t.val % 8 ∧ win0_2.index t 1 = t.val / 8 ∧ win0_2.index t 2 = 0 :=
  (by decide +kernel : ∀ t : Fin grid0.N, win0_0.index t 0 = t.val / 8 ∧ win0_0.index t 1 = 0 ∧ win0_1.index t 0 = t.val % 8 ∧ win0_1.index t 1 = 0 ∧ win0_1.index t 2 = 0 ∧ win0_2.index t 0 = t.val % 8 ∧ win0_2.index t 1 = t.val / 8 ∧ win0_2.index t 2 = 0)

/-- Where an entry of window 0's block lies in its array. -/
theorem emb0 (t : Fin cfg0.N) (y : S1024x1024.Idx) : ((win0_0.rect t).emb y 0 : Nat) = (t.val / 8) * 1024 + (y 0).val ∧ ((win0_0.rect t).emb y 1 : Nat) = (y 1).val := by
  obtain ⟨e00, e01, _, _, _, _, _, _⟩ := idx_facts t
  exact ⟨(win0_0.rect_emb_val t y 0).trans (by rw [e00]; rfl), win0_0.rect_emb_val_of_index_zero t 1 e01 y⟩

/-- Where an entry of window 1's block lies in its array. -/
theorem emb1 (t : Fin cfg0.N) (y : S1x1024x704.Idx) : ((win0_1.rect t).emb y 0 : Nat) = (t.val % 8) * 1 + (y 0).val ∧ ((win0_1.rect t).emb y 1 : Nat) = (y 1).val ∧ ((win0_1.rect t).emb y 2 : Nat) = (y 2).val := by
  obtain ⟨_, _, e10, e11, e12, _, _, _⟩ := idx_facts t
  exact ⟨(win0_1.rect_emb_val t y 0).trans (by rw [e10]; rfl), win0_1.rect_emb_val_of_index_zero t 1 e11 y, win0_1.rect_emb_val_of_index_zero t 2 e12 y⟩

/-- Where an entry of window 2's block lies in its array. -/
theorem emb2 (t : Fin cfg0.N) (y : S1x1024x704.Idx) : ((win0_2.rect t).emb y 0 : Nat) = (t.val % 8) * 1 + (y 0).val ∧ ((win0_2.rect t).emb y 1 : Nat) = (t.val / 8) * 1024 + (y 1).val ∧ ((win0_2.rect t).emb y 2 : Nat) = (y 2).val := by
  obtain ⟨_, _, _, _, _, e20, e21, e22⟩ := idx_facts t
  exact ⟨(win0_2.rect_emb_val t y 0).trans (by rw [e20]; rfl), (win0_2.rect_emb_val t y 1).trans (by rw [e21]; rfl), win0_2.rect_emb_val_of_index_zero t 2 e22 y⟩

/-- What a point writes back is its block of the reference's array. -/
theorem flushed_eq (c : Dev nD) (t : Fin cfg0.N) :
    (dats m 0 c).flushed 2 t = ((cfg0.win 2).blk t).view.read (Elt Ideal) (R m c) := by
  rw [Value.flushed2, out_eq]
  funext j
  show k0_pay1 (F := Ideal) (iblk m c 0 t) (iblk m c 1 t) j = R m c ((win0_2.rect t).emb j)
  have j0 : (j 0).val < 1 := (j 0).isLt
  have j1 : (j 1).val < 1024 := (j 1).isLt
  have j2 : (j 2).val < 704 := (j 2).isLt
  obtain ⟨o0, o1, o2⟩ := emb2 t j
  rw [pay_apply, R_apply]
  refine Finset.sum_congr rfl fun k _ => congrArg₂ (· * ·) ?_ ?_
  · show V m c main_arg0 ((win0_0.rect t).emb (ix2 (j 1) k)) = _
    obtain ⟨p0, p1⟩ := emb0 t (ix2 (j 1) k)
    rw [V_main_arg0]
    refine congrArg (arg0 m c) (funext fun a => Fin.ext ?_)
    match a with
    | ⟨0, _⟩ => exact p0.trans o1.symm
    | ⟨1, _⟩ => exact p1
  · show V m c main_v2 ((win0_1.rect t).emb (ix3 ⟨0, Nat.one_pos⟩ k (j 2))) = _
    obtain ⟨p0, p1, p2⟩ := emb1 t (ix3 ⟨0, Nat.one_pos⟩ k (j 2))
    rw [V1_apply]
    refine congrArg (arg1 m c) (funext fun a => Fin.ext ?_)
    match a with
    | ⟨0, _⟩ => exact p1
    | ⟨1, _⟩ =>
      show ((win0_1.rect t).emb (ix3 ⟨0, Nat.one_pos⟩ k (j 2)) 0 : Nat) * 704 + ((win0_1.rect t).emb (ix3 ⟨0, Nat.one_pos⟩ k (j 2)) 2 : Nat) = ((win0_2.rect t).emb j 0 : Nat) * 704 + ((win0_2.rect t).emb j 2 : Nat)
      rw [p0, p2, o0, o2]
      show (t.val % 8 * 1 + 0) * 704 + (j 2).val = (t.val % 8 * 1 + (j 0).val) * 704 + (j 2).val
      omega

/-- Every index of the result lies in the block of some point. -/
theorem covered (i : S8x4096x704.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 704 := (i 2).isLt
  refine ⟨⟨(i 1).val / 1024 * 8 + (i 0).val, by show _ < 32; omega⟩, flush0_2 _, ?_⟩
  generalize ht : (⟨(i 1).val / 1024 * 8 + (i 0).val, _⟩ : Fin cfg0.N) = t
  have hv : t.val = (i 1).val / 1024 * 8 + (i 0).val := by rw [← ht]
  obtain ⟨_, _, _, _, _, e20, e21, e22⟩ := idx_facts t
  show i ∈ ((View.whole main_v3).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e20]; omega
  | ⟨1, _⟩ => show win0_2.index t 1 * 1024 ≤ (i 1).val ∧ (i 1).val < win0_2.index t 1 * 1024 + 1024
              rw [e21]; omega
  | ⟨2, _⟩ => show win0_2.index t 2 * 704 ≤ (i 2).val ∧ (i 2).val < win0_2.index t 2 * 704 + 704
              rw [e22]; omega

/-- After the run the kernel's result array is the reference's. -/
theorem final (c : Dev nD) : (dats m 0 c).arrAt 2 cfg0.N = R m c :=
  (dats m 0 c).arrAt_eq_of_cover 2 (R m c) (fun t _ => flushed_eq m c t) covered

end Values

/-- The reference's own run: its arguments end unchanged. -/
theorem frame_ref : Cert.quiescent_MUpRefIdeal := fun m ρ _ =>
  (θ_run _ _ _).mono (fun r h => ⟨fun c => (h c).2, sem_eq_zero_of_no_sems (by decide) r.2⟩) (MUpRefIdeal.Value.run m ρ)

/-- The claim: run on the same arguments, kernel and reference leave the same array. -/
theorem algebraic : Cert.algebraic_MUpIdeal_MUpRefIdeal := by
  intro m ρ m' ρ' _ hag
  refine ⟨fun c => R m c, (θ_run _ _ _).mono (fun r h c => ?_) (MUpIdeal.Value.run_blocks m ρ),
    (θ_run _ _ _).mono (fun r h c => ?_) (MUpRefIdeal.Value.run m' ρ')⟩
  · obtain ⟨h, k⟩ := h c
    exact ⟨h.trans (final m c), k⟩
  · obtain ⟨h, k⟩ := h c
    refine ⟨h.trans ?_, k⟩
    rw [MUpRefIdeal.Read.val_main_v3_eq, (hag c).1, (hag c).2]

end Cert.Proof.MUp

end
-- ==== Proof.MDown.lean ====
/-
  The down projection with its residual: the kernel's two result arrays are, entry by entry, the reference's product of the
  activation with the weight, and the residual with the gated product added; the kernel sums shard by shard.
-/
module

public import proofs.«01_k».proof.Defs
public import proofs.«01_k».proof.Proof.Dots
public import proofs.«01_k».proof.Proof.Gen.MDownIdeal.Value
public import proofs.«01_k».proof.Proof.Gen.MDownRefIdeal.Read

@[expose] public section

noncomputable section

namespace Cert.Proof.MDown

open Idealize.ShloMosaic Idealize.SL.Sem Idealize.ShloMosaic.TcCoe Idealize.ShloMosaic.ValueIdx
open Cert.MDownIdeal Cert.MDownIdeal.Gen
open Idealize.ShloMosaic.Pipeline (Dat)

section Values

variable (m : (ℓ : Loc nD τ sig) → Buf (Elt Ideal) ℓ)

/-- The activation. -/
abbrev arg0 (c : Dev nD) : S4096x2816.Idx → EReal := m ((c : Thread nD τ).loc main_arg0)
/-- The weight. -/
abbrev arg1 (c : Dev nD) : S2816x1024.Idx → EReal := m ((c : Thread nD τ).loc main_arg1)
/-- The residual. -/
abbrev arg2 (c : Dev nD) : S4096x1024.Idx → EReal := m ((c : Thread nD τ).loc main_arg2)
/-- The gate. -/
abbrev arg3 (c : Dev nD) : S1024.Idx → EReal := m ((c : Thread nD τ).loc main_arg3)

/-- The product at an index. -/
def R4 (c : Dev nD) : S4096x1024.Idx → EReal := fun i => ∑ k : Fin 2816, arg0 m c (ix2 (i 0) k) * arg1 m c (ix2 k (i 1))
/-- The residual and the gated product at an index. -/
def R5 (c : Dev nD) : S4096x1024.Idx → EReal := fun i => arg2 m c i + arg3 m c (ix1 (i 1)) * R4 m c i

/-- The reference's product is that array. -/
theorem ref4 (c : Dev nD) :
    MDownRefIdeal.Read.val_main_v1 (F := Ideal) (m ((c : Thread nD τ).loc main_arg0)) (m ((c : Thread nD τ).loc main_arg1)) = R4 m c := by
  funext i
  rw [MDownRefIdeal.Read.val_main_v1_apply]
  refine Finset.sum_congr rfl fun k _ => ?_
  rw [MDownRefIdeal.Read.val_main_v0_apply]
  refine congrArg₂ (· * ·) (congrArg (arg0 m c) ?_) (congrArg (arg1 m c) ?_)
  · funext a
    match a with
    | ⟨0, _⟩ => rfl
    | ⟨1, _⟩ => rfl
  · funext a
    match a with
    | ⟨0, _⟩ => rfl
    | ⟨1, _⟩ => rfl

/-- The reference's second result is that array. -/
theorem ref5 (c : Dev nD) :
    MDownRefIdeal.Read.val_main_v5 (F := Ideal) (m ((c : Thread nD τ).loc main_arg0)) (m ((c : Thread nD τ).loc main_arg1))
      (m ((c : Thread nD τ).loc main_arg2)) (m ((c : Thread nD τ).loc main_arg3)) = R5 m c := by
  funext i
  rw [MDownRefIdeal.Read.val_main_v5_apply, MDownRefIdeal.Read.val_main_v4_apply, MDownRefIdeal.Read.val_main_v3_apply,
    MDownRefIdeal.Read.val_main_v2_apply, ref4 m c]
  refine congrArg (arg2 m c i + ·) (congrArg (· * R4 m c i) (congrArg (arg3 m c) ?_))
  funext a
  match a with
  | ⟨0, _⟩ => rfl

/-- The activation as the region finds it: its columns cut into shards, the shards first. -/
theorem V0_apply (c : Dev nD) (i : S4x4096x704.Idx) :
    V m c main_v1 i = arg0 m c (ix2 (i 1) ⟨(i 0).val * 704 + (i 2).val, by
          have h0 : (i 0).val < 4 := (i 0).isLt; have h2 : (i 2).val < 704 := (i 2).isLt; omega⟩) := by
  have h0 : (i 0).val < 4 := (i 0).isLt
  have h1 : (i 1).val < 4096 := (i 1).isLt
  have h2 : (i 2).val < 704 := (i 2).isLt
  have e : V m c main_v1 = transpose S4x4096x704 [1, 0, 2] (shapeCast S4096x4x704 (arg0 m c) shapeCasts_S4096x2816_S4096x4x704) transposes_S4096x4x704_S4x4096x704_1_0_2 := by
    dsimp only [V, hostOps0]; after_results; rfl
  rw [e]
  refine (transpose_apply [1, 0, 2] _ transposes_S4096x4x704_S4x4096x704_1_0_2 i (ix3 (i 1) (i 0) (i 2)) (fun b => match b with
    | ⟨0, _⟩ => rfl
    | ⟨1, _⟩ => rfl
    | ⟨2, _⟩ => rfl)).trans ?_
  refine shapeCast_apply _ shapeCasts_S4096x2816_S4096x4x704 (ix3 (i 1) (i 0) (i 2)) _ ?_
  rewrite [Shape.rowMajor_val_two, Shape.rowMajor_val_three]
  show (i 1).val * 2816 + ((i 0).val * 704 + (i 2).val) = ((i 1).val * 4 + (i 0).val) * 704 + (i 2).val
  omega

/-- The weight as the region finds it: its rows cut into shards, its format changed. -/
theorem V1_apply (c : Dev nD) (i : S4x704x1024.Idx) :
    V m c main_v3 i = arg1 m c (ix2 ⟨(i 0).val * 704 + (i 1).val, by
          have h0 : (i 0).val < 4 := (i 0).isLt; have h1 : (i 1).val < 704 := (i 1).isLt; omega⟩ (i 2)) := by
  have e : V m c main_v3 = shapeCast S4x704x1024 (arg1 m c) shapeCasts_S2816x1024_S4x704x1024 := by
    dsimp only [V, hostOps0]; after_results; rfl
  rw [e]
  refine shapeCast_apply _ shapeCasts_S2816x1024_S4x704x1024 i _ ?_
  rewrite [Shape.rowMajor_val_two, Shape.rowMajor_val_three]
  rfl

/-- The gate as the region finds it: one row. -/
theorem V3_apply (c : Dev nD) (i : S1x1024.Idx) : V m c main_v4 i = arg3 m c (ix1 (i 1)) := by
  have h0 : (i 0).val < 1 := (i 0).isLt
  have e : V m c main_v4 = shapeCast S1x1024 (arg3 m c) shapeCasts_S1024_S1x1024 := by
    dsimp only [V, hostOps0]; after_results; rfl
  rw [e]
  refine shapeCast_apply _ shapeCasts_S1024_S1x1024 i _ ?_
  rewrite [Shape.rowMajor_val_one, Shape.rowMajor_val_two]
  show (i 1).val = (i 0).val * 1024 + (i 1).val
  omega

/-- The product of one pair of blocks the body loads: shard `s` of the activation against shard `s` of the weight. -/
theorem part_apply (x : Vec Ideal S4x512x704 .bf16) (y : Vec Ideal S4x704x512 .bf16) (s : Fin 4)
    (hx : ∀ a, (![s.val, 0, 0] : Fin 3 → Nat) a + S1x512x704.size a ≤ S4x512x704.size a)
    (hy : ∀ a, (![s.val, 0, 0] : Fin 3 → Nat) a + S1x704x512.size a ≤ S4x704x512.size a) (r : Fin 512) (q : Fin 512) :
    matmul (φ₁ := .bf16) (φ₂ := .bf16) dot_S512x704_S704x512_S512x512_1_0_0_1_n_n none
        (shapeCast S512x704 (View.ld x (Rect.unit (s := S4x512x704) ![s.val, 0, 0] S1x512x704.size hx)) shapeCasts_S1x512x704_S512x704)
        (shapeCast S704x512 (View.ld y (Rect.unit (s := S4x704x512) ![s.val, 0, 0] S1x704x512.size hy)) shapeCasts_S1x704x512_S704x512)
        (constant S512x512 .f32 0x00000000#32 : FVec Ideal S512x512 .f32) (ix2 r q)
      = ∑ k : Fin 704, x (ix3 s r k) * y (ix3 s k q) := by
  refine (Dots.nn_apply (φ₁ := .bf16) (φ₂ := .bf16) _ _ r q).trans (Finset.sum_congr rfl fun k _ => congrArg₂ (· * ·) ?_ ?_)
  · refine (Dots.drop_apply _ shapeCasts_S1x512x704_S512x704 r k).trans (congrArg x (funext fun a => Fin.ext ?_))
    match a with
    | ⟨0, _⟩ => show s.val + 1 * 0 = s.val; omega
    | ⟨1, _⟩ => show 0 + 1 * r.val = r.val; omega
    | ⟨2, _⟩ => show 0 + 1 * k.val = k.val; omega
  · refine (Dots.drop_apply _ shapeCasts_S1x704x512_S704x512 k q).trans (congrArg y (funext fun a => Fin.ext ?_))
    match a with
    | ⟨0, _⟩ => show s.val + 1 * 0 = s.val; omega
    | ⟨1, _⟩ => show 0 + 1 * k.val = k.val; omega
    | ⟨2, _⟩ => show 0 + 1 * q.val = q.val; omega

/-- The product the body computes, an entry: the sum over the shards of the sum over a shard's columns. -/
def pay (x : Vec Ideal S4x512x704 .bf16) (y : Vec Ideal S4x704x512 .bf16) : Vec Ideal S512x512 .f32 :=
  fun j => ∑ s : Fin 4, ∑ k : Fin 704, x (ix3 s (j 0) k) * y (ix3 s k (j 1))

/-- The same entry as one sum over all columns. -/
theorem pay_apply (x : Vec Ideal S4x512x704 .bf16) (y : Vec Ideal S4x704x512 .bf16) (j : S512x512.Idx) :
    pay x y j = ∑ k : Fin 2816, x (ix3 (k.divNat (m := 4) (n := 704)) (j 0) (k.modNat (m := 4) (n := 704))) * y (ix3 (k.divNat (m := 4) (n := 704)) (k.modNat (m := 4) (n := 704)) (j 1)) :=
  (Dots.sum_blocks (a := 4) (b := 704) fun s k => x (ix3 s (j 0) k) * y (ix3 s k (j 1))).symm

/-- The body's product is that one. -/
theorem pay_eq (x : Vec Ideal S4x512x704 .bf16) (y : Vec Ideal S4x704x512 .bf16) (z : Vec Ideal S512x512 .f32) (g : Vec Ideal S1x512 .f32) :
    k0_pay4 (F := Ideal) x y z g = pay x y := by
  unfold k0_pay4 k0_pay2
  funext j
  rw [eq_ix2 j]
  unfold pay
  rw [Fin.sum_univ_four]
  exact congrArg₂ (· + ·) (congrArg₂ (· + ·) (congrArg₂ (· + ·) (part_apply x y 0 _ _ (j 0) (j 1)) (part_apply x y 1 _ _ (j 0) (j 1)))
    (part_apply x y 2 _ _ (j 0) (j 1))) (part_apply x y 3 _ _ (j 0) (j 1))

/-- The gate's row spread over a block, an entry. -/
theorem row_apply (g : Vec Ideal S1x512 .f32) (r : Fin 512) (q : Fin 512) :
    broadcastTo S512x512 (shapeCast S1x512 g shapeCasts_S1x512_S1x512) broadcasts_S1x512_S512x512 (ix2 r q) = g (ix2 ⟨0, Nat.one_pos⟩ q) := by
  rw [shapeCast_self]
  exact broadcastTo_apply g broadcasts_S1x512_S512x512 (ix2 r q) (ix2 ⟨0, Nat.one_pos⟩ q) (fun a => match a with
    | ⟨0, _⟩ => rfl
    | ⟨1, _⟩ => rfl)

/-- What the body leaves in its first output's block. -/
theorem out4_eq (x : Vec Ideal S4x512x704 .bf16) (y : Vec Ideal S4x704x512 .bf16) (z : Vec Ideal S512x512 .f32) (g : Vec Ideal S1x512 .f32) :
    out0_4 (F := Ideal) x y z g = pay x y := by
  unfold out0_4
  rw [View.canon_unit_zero (by funext a; fin_cases a <;> rfl)]
  exact pay_eq x y z g

/-- What the body leaves in its second output's block, an entry. -/
theorem out5_apply (x : Vec Ideal S4x512x704 .bf16) (y : Vec Ideal S4x704x512 .bf16) (z : Vec Ideal S512x512 .f32) (g : Vec Ideal S1x512 .f32)
    (j : S512x512.Idx) : out0_5 (F := Ideal) x y z g j = z j + g (ix2 ⟨0, Nat.one_pos⟩ (j 1)) * pay x y j := by
  unfold out0_5
  rw [View.canon_unit_zero (by funext a; fin_cases a <;> rfl), View.ld_unit_zero (by funext a; fin_cases a <;> rfl),
    View.ld_unit_zero (by funext a; fin_cases a <;> rfl)]
  unfold k0_pay1 k0_pay3
  rw [eq_ix2 j]
  exact congrArg (z (ix2 (j 0) (j 1)) + ·) (congrArg₂ (· * ·) (row_apply g (j 0) (j 1)) (congrFun (pay_eq x y z g) _))

/-- Which blocks the windows are at, at each point. -/
theorem idx_facts : ∀ t : Fin cfg0.N, win0_0.index t 0 = 0 ∧ win0_0.index t 1 = t.val / 2 ∧ win0_0.index t 2 = 0 ∧ win0_1.index t 0 = 0 ∧ win0_1.index t 1 = 0 ∧ win0_1.index t 2 = t.val % 2 ∧ win0_2.index t 0 = t.val / 2 ∧ win0_2.index t 1 = t.val % 2 ∧ win0_3.index t 0 = 0 ∧ win0_3.index t 1 = t.val % 2 ∧ win0_4.index t 0 = t.val / 2 ∧ win0_4.index t 1 = t.val % 2 ∧ win0_5.index t 0 = t.val / 2 ∧ win0_5.index t 1 = t.val % 2 :=
  (by decide +kernel : ∀ t : Fin grid0.N, win0_0.index t 0 = 0 ∧ win0_0.index t 1 = t.val / 2 ∧ win0_0.index t 2 = 0 ∧ win0_1.index t 0 = 0 ∧ win0_1.index t 1 = 0 ∧ win0_1.index t 2 = t.val % 2 ∧ win0_2.index t 0 = t.val / 2 ∧ win0_2.index t 1 = t.val % 2 ∧ win0_3.index t 0 = 0 ∧ win0_3.index t 1 = t.val % 2 ∧ win0_4.index t 0 = t.val / 2 ∧ win0_4.index t 1 = t.val % 2 ∧ win0_5.index t 0 = t.val / 2 ∧ win0_5.index t 1 = t.val % 2)

/-- Where an entry of window 0's block lies in its array. -/
theorem emb0 (t : Fin cfg0.N) (y : S4x512x704.Idx) : ((win0_0.rect t).emb y 0 : Nat) = (y 0).val ∧ ((win0_0.rect t).emb y 1 : Nat) = (t.val / 2) * 512 + (y 1).val ∧ ((win0_0.rect t).emb y 2 : Nat) = (y 2).val := by
  obtain ⟨e00, e01, e02, _, _, _, _, _, _, _, _, _, _, _⟩ := idx_facts t
  exact ⟨win0_0.rect_emb_val_of_index_zero t 0 e00 y, (win0_0.rect_emb_val t y 1).trans (by rw [e01]; rfl), win0_0.rect_emb_val_of_index_zero t 2 e02 y⟩

/-- Where an entry of window 1's block lies in its array. -/
theorem emb1 (t : Fin cfg0.N) (y : S4x704x512.Idx) : ((win0_1.rect t).emb y 0 : Nat) = (y 0).val ∧ ((win0_1.rect t).emb y 1 : Nat) = (y 1).val ∧ ((win0_1.rect t).emb y 2 : Nat) = (t.val % 2) * 512 + (y 2).val := by
  obtain ⟨_, _, _, e10, e11, e12, _, _, _, _, _, _, _, _⟩ := idx_facts t
  exact ⟨win0_1.rect_emb_val_of_index_zero t 0 e10 y, win0_1.rect_emb_val_of_index_zero t 1 e11 y, (win0_1.rect_emb_val t y 2).trans (by rw [e12]; rfl)⟩

/-- Where an entry of window 2's block lies in its array. -/
theorem emb2 (t : Fin cfg0.N) (y : S512x512.Idx) : ((win0_2.rect t).emb y 0 : Nat) = (t.val / 2) * 512 + (y 0).val ∧ ((win0_2.rect t).emb y 1 : Nat) = (t.val % 2) * 512 + (y 1).val := by
  obtain ⟨_, _, _, _, _, _, e20, e21, _, _, _, _, _, _⟩ := idx_facts t
  exact ⟨(win0_2.rect_emb_val t y 0).trans (by rw [e20]; rfl), (win0_2.rect_emb_val t y 1).trans (by rw [e21]; rfl)⟩

/-- Where an entry of window 3's block lies in its array. -/
theorem emb3 (t : Fin cfg0.N) (y : S1x512.Idx) : ((win0_3.rect t).emb y 0 : Nat) = (y 0).val ∧ ((win0_3.rect t).emb y 1 : Nat) = (t.val % 2) * 512 + (y 1).val := by
  obtain ⟨_, _, _, _, _, _, _, _, e30, e31, _, _, _, _⟩ := idx_facts t
  exact ⟨win0_3.rect_emb_val_of_index_zero t 0 e30 y, (win0_3.rect_emb_val t y 1).trans (by rw [e31]; rfl)⟩

/-- Where an entry of window 4's block lies in its array. -/
theorem emb4 (t : Fin cfg0.N) (y : S512x512.Idx) : ((win0_4.rect t).emb y 0 : Nat) = (t.val / 2) * 512 + (y 0).val ∧ ((win0_4.rect t).emb y 1 : Nat) = (t.val % 2) * 512 + (y 1).val := by
  obtain ⟨_, _, _, _, _, _, _, _, _, _, e40, e41, _, _⟩ := idx_facts t
  exact ⟨(win0_4.rect_emb_val t y 0).trans (by rw [e40]; rfl), (win0_4.rect_emb_val t y 1).trans (by rw [e41]; rfl)⟩

/-- Where an entry of window 5's block lies in its array. -/
theorem emb5 (t : Fin cfg0.N) (y : S512x512.Idx) : ((win0_5.rect t).emb y 0 : Nat) = (t.val / 2) * 512 + (y 0).val ∧ ((win0_5.rect t).emb y 1 : Nat) = (t.val % 2) * 512 + (y 1).val := by
  obtain ⟨_, _, _, _, _, _, _, _, _, _, _, _, e50, e51⟩ := idx_facts t
  exact ⟨(win0_5.rect_emb_val t y 0).trans (by rw [e50]; rfl), (win0_5.rect_emb_val t y 1).trans (by rw [e51]; rfl)⟩

/-- The product of the blocks point `t` finds is its block of the product. -/
theorem prod_eq (c : Dev nD) (t : Fin cfg0.N) (j : S512x512.Idx) :
    pay (iblk m c 0 t) (iblk m c 1 t) j = R4 m c ((win0_4.rect t).emb j) := by
  obtain ⟨o0, o1⟩ := emb4 t j
  rw [pay_apply]
  refine Finset.sum_congr rfl fun k _ => congrArg₂ (· * ·) ?_ ?_
  · show V m c main_v1 ((win0_0.rect t).emb (ix3 (k.divNat (m := 4) (n := 704)) (j 0) (k.modNat (m := 4) (n := 704)))) = _
    obtain ⟨p0, p1, p2⟩ := emb0 t (ix3 (k.divNat (m := 4) (n := 704)) (j 0) (k.modNat (m := 4) (n := 704)))
    rw [V0_apply]
    refine congrArg (arg0 m c) (funext fun a => Fin.ext ?_)
    match a with
    | ⟨0, _⟩ => exact p1.trans o0.symm
    | ⟨1, _⟩ =>
      show ((win0_0.rect t).emb (ix3 (k.divNat (m := 4) (n := 704)) (j 0) (k.modNat (m := 4) (n := 704))) 0 : Nat) * 704 + ((win0_0.rect t).emb (ix3 (k.divNat (m := 4) (n := 704)) (j 0) (k.modNat (m := 4) (n := 704))) 2 : Nat) = k.val
      rw [p0, p2]
      show k.val / 704 * 704 + k.val % 704 = k.val
      omega
  · show V m c main_v3 ((win0_1.rect t).emb (ix3 (k.divNat (m := 4) (n := 704)) (k.modNat (m := 4) (n := 704)) (j 1))) = _
    obtain ⟨p0, p1, p2⟩ := emb1 t (ix3 (k.divNat (m := 4) (n := 704)) (k.modNat (m := 4) (n := 704)) (j 1))
    rw [V1_apply]
    refine congrArg (arg1 m c) (funext fun a => Fin.ext ?_)
    match a with
    | ⟨0, _⟩ =>
      show ((win0_1.rect t).emb (ix3 (k.divNat (m := 4) (n := 704)) (k.modNat (m := 4) (n := 704)) (j 1)) 0 : Nat) * 704 + ((win0_1.rect t).emb (ix3 (k.divNat (m := 4) (n := 704)) (k.modNat (m := 4) (n := 704)) (j 1)) 1 : Nat) = k.val
      rw [p0, p1]
      show k.val / 704 * 704 + k.val % 704 = k.val
      omega
    | ⟨1, _⟩ => exact p2.trans o1.symm

/-- The residual's block at point `t`. -/
theorem blk2 (c : Dev nD) (t : Fin cfg0.N) (j : S512x512.Idx) : iblk m c 2 t j = arg2 m c ((win0_4.rect t).emb j) := by
  obtain ⟨o0, o1⟩ := emb4 t j
  obtain ⟨p0, p1⟩ := emb2 t j
  show V m c main_arg2 ((win0_2.rect t).emb j) = _
  rw [show V m c main_arg2 = arg2 m c from V_main_arg2 m c]
  refine congrArg (arg2 m c) (funext fun a => Fin.ext ?_)
  match a with
  | ⟨0, _⟩ => exact p0.trans o0.symm
  | ⟨1, _⟩ => exact p1.trans o1.symm

/-- The gate's block at point `t`. -/
theorem blk3 (c : Dev nD) (t : Fin cfg0.N) (j : S512x512.Idx) :
    iblk m c 3 t (ix2 ⟨0, Nat.one_pos⟩ (j 1)) = arg3 m c (ix1 ((win0_4.rect t).emb j 1)) := by
  obtain ⟨o0, o1⟩ := emb4 t j
  obtain ⟨p0, p1⟩ := emb3 t (ix2 ⟨0, Nat.one_pos⟩ (j 1))
  show V m c main_v4 ((win0_3.rect t).emb (ix2 ⟨0, Nat.one_pos⟩ (j 1))) = _
  rw [V3_apply]
  refine congrArg (arg3 m c) (funext fun a => Fin.ext ?_)
  match a with
  | ⟨0, _⟩ => exact p1.trans o1.symm

/-- What a point writes back is its block of the result. -/
theorem flushed4 (c : Dev nD) (t : Fin cfg0.N) :
    (dats m 0 c).flushed 4 t = ((cfg0.win 4).blk t).view.read (Elt Ideal) (R4 m c) := by
  rw [Value.flushed4, out4_eq]
  funext j
  exact prod_eq m c t j

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c ((win0_4.rect t).emb j)
  rw [out5_apply, prod_eq, blk2, blk3]
  rfl

/-- Every index of the result lies in the block of some point. -/
theorem covered4 (i : S4096x1024.Idx) :
    ∃ t : Fin cfg0.N, (cfg0.win 4).flush t = true ∧ i ∈ ((cfg0.win 4).blk t).view.set := by
  have h0 : (i 0).val < 4096 := (i 0).isLt
  have h1 : (i 1).val < 1024 := (i 1).isLt
  refine ⟨⟨(i 0).val / 512 * 2 + (i 1).val / 512, by show _ < 16; omega⟩, flush0_4 _, ?_⟩
  generalize ht : (⟨(i 0).val / 512 * 2 + (i 1).val / 512, _⟩ : Fin cfg0.N) = t
  have hv : t.val = (i 0).val / 512 * 2 + (i 1).val / 512 := by rw [← ht]
  obtain ⟨_, _, _, _, _, _, _, _, _, _, e40, e41, _, _⟩ := idx_facts t
  show i ∈ ((View.whole main_v5_0).slice (win0_4.rect t)).set
  rw [View.set_slice_whole, Rect.mem_set_unit]
  intro a
  match a with
  | ⟨0, _⟩ => show win0_4.index t 0 * 512 ≤ (i 0).val ∧ (i 0).val < win0_4.index t 0 * 512 + 512
              rw [e40]; omega
  | ⟨1, _⟩ => show win0_4.index t 1 * 512 ≤ (i 1).val ∧ (i 1).val < win0_4.index t 1 * 512 + 512
              rw [e41]; omega

/-- Every index of the result lies in the block of some point. -/
theorem covered5 (i : S4096x1024.Idx) :
    ∃ t : Fin cfg0.N, (cfg0.win 5).flush t = true ∧ i ∈ ((cfg0.win 5).blk t).view.set := by
  have h0 : (i 0).val < 4096 := (i 0).isLt
  have h1 : (i 1).val < 1024 := (i 1).isLt
  refine ⟨⟨(i 0).val / 512 * 2 + (i 1).val / 512, by show _ < 16; omega⟩, flush0_5 _, ?_⟩
  generalize ht : (⟨(i 0).val / 512 * 2 + (i 1).val / 512, _⟩ : Fin cfg0.N) = t
  have hv : t.val = (i 0).val / 512 * 2 + (i 1).val / 512 := by rw [← ht]
  obtain ⟨_, _, _, _, _, _, _, _, _, _, _, _, e50, e51⟩ := idx_facts t
  show i ∈ ((View.whole main_v5_1).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [e50]; omega
  | ⟨1, _⟩ => show win0_5.index t 1 * 512 ≤ (i 1).val ∧ (i 1).val < win0_5.index t 1 * 512 + 512
              rw [e51]; omega

end Values

/-- The reference's own run: its arguments end unchanged. -/
theorem frame_ref : Cert.quiescent_MDownRefIdeal := fun m ρ _ =>
  (θ_run _ _ _).mono (fun r h => ⟨fun c => (h c).2.2, sem_eq_zero_of_no_sems (by decide) r.2⟩) (MDownRefIdeal.Value.run m ρ)

/-- The claim: run on the same arguments, kernel and reference leave the same two arrays. -/
theorem algebraic : Cert.algebraic_MDownIdeal_MDownRefIdeal := by
  intro m ρ m' ρ' _ hag
  refine ⟨fun c => R4 m c, fun c => R5 m c, (θ_run _ _ _).mono (fun r h c => ?_) (MDownIdeal.Value.run_blocks m ρ),
    (θ_run _ _ _).mono (fun r h c => ?_) (MDownRefIdeal.Value.run m' ρ')⟩
  · obtain ⟨h4, h5, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5), k⟩
  · obtain ⟨h4, h5, k⟩ := h c
    obtain ⟨a0, a1, a2, a3⟩ := hag c
    refine ⟨h4.trans ?_, h5.trans ?_, k⟩
    · rw [MDownRefIdeal.Read.val_main_v1_eq, a0, a1]
      exact ref4 m c
    · rw [MDownRefIdeal.Read.val_main_v5_eq, a0, a1, a2, a3]
      exact ref5 m c

end Cert.Proof.MDown

end
-- ==== Proof.Adam.lean ====
/-
  One step of the optimiser at one entry of a weight, over the extended reals, with the literals both programs carry: the two
  running moments and the change of the weight. Also the cast that drops two leading axes of length one.
-/
module

public import Idealize.ShloMosaic.Lib.Pipeline.Value
public import proofs.«01_k».proof.Proof.Dots

@[expose] public section

noncomputable section

namespace Cert.Proof.Adam

open Idealize.ShloMosaic Idealize.ShloMosaic.ValueIdx

/-- The new first moment, from the gradient and the old one. -/
def moment (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight `w`. -/
def change (g w m v : EReal) : EReal :=
  Ideal.ofBits .f32 0xBA83126F#32 *
    (Ideal.div (Ideal.div (moment g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- A block of two leading unit axes, cast to a matrix, at row `r` and column `c`. -/
theorem drop2_apply {α : Type} {A B : ℕ} (v : (⟨4, ![1, 1, A, B]⟩ : Shape).Idx → α)
    (h : (⟨4, ![1, 1, A, B]⟩ : Shape).ShapeCasts ⟨2, ![A, B]⟩) (r : Fin A) (c : Fin B) :
    shapeCast ⟨2, ![A, B]⟩ v h (ix2 r c) = v (ix4 ⟨0, Nat.one_pos⟩ ⟨0, Nat.one_pos⟩ r c) := by
  refine shapeCast_apply v h (ix2 r c) _ ?_
  rewrite [Shape.rowMajor_val_two, Shape.rowMajor_val_four]
  show ((0 * 1 + 0) * A + r.val) * B + c.val = r.val * B + c.val
  ring

end Cert.Proof.Adam

end
-- ==== Proof.OptIn.lean ====
/-
  The optimiser's step on the input projection's weight: each of the four arrays the kernel leaves (the summed gradient, the change of the weight,
  the two new moments) is, entry by entry, the reference's.
-/
module

public import proofs.«01_k».proof.Defs
public import proofs.«01_k».proof.Proof.Adam
public import proofs.«01_k».proof.Proof.Gen.OptInIdeal.Value
public import proofs.«01_k».proof.Proof.Gen.OptInRefIdeal.Read

@[expose] public section

noncomputable section

namespace Cert.Proof.OptIn

open Idealize.ShloMosaic Idealize.SL.Sem Idealize.ShloMosaic.TcCoe Idealize.ShloMosaic.ValueIdx
open Cert.OptInIdeal Cert.OptInIdeal.Gen
open Idealize.ShloMosaic.Pipeline (Dat)
open Cert.OptInRefIdeal.Read

section Values

variable (m : (ℓ : Loc nD τ sig) → Buf (Elt Ideal) ℓ)

/-- The gradient's parts. -/
abbrev arg0 (c : Dev nD) : S4x8x1024x256.Idx → EReal := m ((c : Thread nD τ).loc main_arg0)
/-- The weight. -/
abbrev arg1 (c : Dev nD) : S4x1024x256.Idx → EReal := m ((c : Thread nD τ).loc main_arg1)
/-- The first moment. -/
abbrev arg2 (c : Dev nD) : S4x1024x256.Idx → EReal := m ((c : Thread nD τ).loc main_arg2)
/-- The second moment. -/
abbrev arg3 (c : Dev nD) : S4x1024x256.Idx → EReal := m ((c : Thread nD τ).loc main_arg3)

/-- The gradient at an index: the sum of the parts there. -/
def grad (c : Dev nD) (i : S4x1024x256.Idx) : EReal := ∑ k : Fin 8, arg0 m c (ix4 (i 0) k (i 1) (i 2))

/-- The four result arrays. -/
def R4 (c : Dev nD) : S4x1024x256.Idx → EReal := fun i => grad m c i
@[inherit_doc R4] def R5 (c : Dev nD) : S4x1024x256.Idx → EReal := fun i => Adam.change (grad m c i) (arg1 m c i) (arg2 m c i) (arg3 m c i)
@[inherit_doc R4] def R6 (c : Dev nD) : S4x1024x256.Idx → EReal := fun i => Adam.moment (grad m c i) (arg2 m c i)
@[inherit_doc R4] def R7 (c : Dev nD) : S4x1024x256.Idx → EReal := fun i => Adam.second (grad m c i) (arg3 m c i)

/-- The reference's summed gradient at an index. -/
theorem grad_ref (c : Dev nD) (i : S4x1024x256.Idx) :
    val_main_v1 (F := Ideal) (m ((c : Thread nD τ).loc main_arg0)) i = grad m c i := by
  rw [val_main_v1_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v1 (F := Ideal) (m ((c : Thread nD τ).loc main_arg0)) = R4 m c := by
  exact funext fun i => grad_ref m c i

/-- The reference's result 2 is that array. -/
theorem ref5 (c : Dev nD) : val_main_v25 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply,
    grad_ref m c]
  rfl

/-- The reference's result 3 is that array. -/
theorem ref6 (c : Dev nD) : val_main_v6 (F := Ideal) (m ((c : Thread nD τ).loc main_arg0)) (m ((c : Thread nD τ).loc main_arg2)) = R6 m c := by
  funext i
  simp only [val_main_cst_0_apply, val_main_v2_apply, val_main_v3_apply, val_main_cst_1_apply, val_main_v4_apply, val_main_v5_apply, val_main_v6_apply,
    grad_ref m c]
  rfl

/-- The reference's result 4 is that array. -/
theorem ref7 (c : Dev nD) : val_main_v12 (F := Ideal) (m ((c : Thread nD τ).loc main_arg0)) (m ((c : Thread nD τ).loc main_arg3)) = R7 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply,
    grad_ref m c]
  rfl

/-- A part of the loaded block, as a matrix. -/
theorem part_apply (x : Vec Ideal S1x8x512x256 .bf16) (k : Fin 8) (h : ∀ a, (![0, k.val, 0, 0] : Fin 4 → Nat) a + S1x1x512x256.size a ≤ S1x8x512x256.size a)
    (r : Fin 512) (q : Fin 256) :
    shapeCast S512x256 (View.ld x (Rect.unit (s := S1x8x512x256) ![0, k.val, 0, 0] S1x1x512x256.size h)) shapeCasts_S1x1x512x256_S512x256 (ix2 r q)
      = x (ix4 ⟨0, Nat.one_pos⟩ k r q) := by
  refine (Adam.drop2_apply _ shapeCasts_S1x1x512x256_S512x256 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x8x512x256 .bf16) : Vec Ideal S512x256 .f32 := fun j => ∑ k : Fin 8, x (ix4 ⟨0, Nat.one_pos⟩ k (j 0) (j 1))

/-- The body's sum of the parts. -/
theorem sums_eq (x0 : Vec Ideal S1x8x512x256 .bf16) (x1 x2 x3 : Vec Ideal S1x512x256 .f32) : k0_pay5 (F := Ideal) (k0_pay10 x0 x1 x2 x3) (View.ld x0 r0_7) = sums x0 := by
  funext j
  rw [eq_ix2 j]
  unfold k0_pay5 k0_pay10 k0_pay4 sums
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x0 0 _ (j 0) (j 1)) (part_apply x0 1 _ (j 0) (j 1)))
    (part_apply x0 2 _ (j 0) (j 1))) (part_apply x0 3 _ (j 0) (j 1))) (part_apply x0 4 _ (j 0) (j 1)))
    (part_apply x0 5 _ (j 0) (j 1))) (part_apply x0 6 _ (j 0) (j 1))) (part_apply x0 7 _ (j 0) (j 1))

/-- A load of a whole block is the block. -/
theorem ld_whole (x : Vec Ideal S1x512x256 .f32) : View.ld x r0_8 = x := View.ld_unit_zero (by funext a; fin_cases a <;> rfl) _ x

/-- An entry of a block, as a matrix's. -/
theorem entry (j : S1x512x256.Idx) (x : Vec Ideal S1x512x256 .f32) : shapeCast S512x256 x shapeCasts_S1x512x256_S512x256 (ix2 (j 1) (j 2)) = x j :=
  (Dots.drop_apply x shapeCasts_S1x512x256_S512x256 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x8x512x256 .bf16) (x1 x2 x3 : Vec Ideal S1x512x256 .f32) (j : S1x512x256.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S512x256_S1x512x256 j).trans (congrFun (sums_eq x0 x1 x2 x3) _)

@[inherit_doc out4_apply]
theorem out5_apply (x0 : Vec Ideal S1x8x512x256 .bf16) (x1 x2 x3 : Vec Ideal S1x512x256 .f32) (j : S1x512x256.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay1 k0_pay9 k0_pay6 k0_pay7
  dsimp only
  simp only [sums_eq x0 x1 x2 x3]
  refine (Dots.add_apply _ shapeCasts_S512x256_S1x512x256 j).trans ?_
  rw [← entry j x1, ← entry j x2, ← entry j x3]
  rfl

@[inherit_doc out4_apply]
theorem out6_apply (x0 : Vec Ideal S1x8x512x256 .bf16) (x1 x2 x3 : Vec Ideal S1x512x256 .f32) (j : S1x512x256.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay2 k0_pay6
  dsimp only
  simp only [sums_eq x0 x1 x2 x3]
  refine (Dots.add_apply _ shapeCasts_S512x256_S1x512x256 j).trans ?_
  rw [← entry j x2]
  rfl

@[inherit_doc out4_apply]
theorem out7_apply (x0 : Vec Ideal S1x8x512x256 .bf16) (x1 x2 x3 : Vec Ideal S1x512x256 .f32) (j : S1x512x256.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay3 k0_pay7
  dsimp only
  simp only [sums_eq x0 x1 x2 x3]
  refine (Dots.add_apply _ shapeCasts_S512x256_S1x512x256 j).trans ?_
  rw [← entry j x3]
  rfl

/-- Which blocks the windows are at, at each point. -/
theorem idx0 : ∀ t : Fin cfg0.N, win0_0.index t 0 = t.val / 2 ∧ win0_0.index t 1 = 0 ∧ win0_0.index t 2 = t.val % 2 ∧ win0_0.index t 3 = 0 :=
  (by decide +kernel : ∀ t : Fin grid0.N, win0_0.index t 0 = t.val / 2 ∧ win0_0.index t 1 = 0 ∧ win0_0.index t 2 = t.val % 2 ∧ win0_0.index t 3 = 0)
@[inherit_doc idx0] theorem idx4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)

/-- The entry of a weight's array that entry `j` of point `t`'s block is. -/
abbrev at_ (t : Fin cfg0.N) (j : S1x512x256.Idx) : S4x1024x256.Idx := (win0_4.rect t).emb j

/-- The gradient's parts as point `t` finds them. -/
theorem blk0 (c : Dev nD) (t : Fin cfg0.N) (j : S1x512x256.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (t.val / 2) * 1 + 0 = (t.val / 2) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S4x1024x256.Idx) : ∃ t : Fin cfg0.N, i ∈ (win0_4.rect t).set := by
  have h0 : (i 0).val < 4 := (i 0).isLt
  have h1 : (i 1).val < 1024 := (i 1).isLt
  have h2 : (i 2).val < 256 := (i 2).isLt
  refine ⟨⟨(i 0).val * 2 + (i 1).val / 512, by show _ < 8; omega⟩, ?_⟩
  generalize ht : (⟨(i 0).val * 2 + (i 1).val / 512, _⟩ : Fin cfg0.N) = t
  have hv : t.val = (i 0).val * 2 + (i 1).val / 512 := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 512 ≤ (i 1).val ∧ (i 1).val < win0_4.index t 1 * 512 + 512
              rw [e1]; omega
  | ⟨2, _⟩ => show win0_4.index t 2 * 256 ≤ (i 2).val ∧ (i 2).val < win0_4.index t 2 * 256 + 256
              rw [e2]; omega

/-- So every entry of each result is written by some point. -/
theorem covered4 (i : S4x1024x256.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S4x1024x256.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S4x1024x256.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S4x1024x256.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptInRefIdeal := fun m ρ _ =>
  (θ_run _ _ _).mono (fun r h => ⟨fun c => (h c).2.2.2.2, sem_eq_zero_of_no_sems (by decide) r.2⟩) (OptInRefIdeal.Value.run m ρ)

/-- The claim: run on the same arguments, kernel and reference leave the same four arrays. -/
theorem algebraic : Cert.algebraic_OptInIdeal_OptInRefIdeal := by
  intro m ρ m' ρ' _ hag
  refine ⟨fun c => R4 m c, fun c => R5 m c, fun c => R6 m c, fun c => R7 m c, (θ_run _ _ _).mono (fun r h c => ?_) (OptInIdeal.Value.run_blocks m ρ),
    (θ_run _ _ _).mono (fun r h c => ?_) (OptInRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v1_eq, a0]
      exact ref4 m c
    · rw [val_main_v25_eq, a0, a1, a2, a3]
      exact ref5 m c
    · rw [val_main_v6_eq, a0, a2]
      exact ref6 m c
    · rw [val_main_v12_eq, a0, a3]
      exact ref7 m c

end Cert.Proof.OptIn

end
-- ==== Proof.OptOut.lean ====
/-
  The optimiser's step on the output projection's weight: each of the four arrays the kernel leaves (the summed gradient, the change of the weight,
  the two new moments) is, entry by entry, the reference's.
-/
module

public import proofs.«01_k».proof.Defs
public import proofs.«01_k».proof.Proof.Adam
public import proofs.«01_k».proof.Proof.Gen.OptOutIdeal.Value
public import proofs.«01_k».proof.Proof.Gen.OptOutRefIdeal.Read

@[expose] public section

noncomputable section

namespace Cert.Proof.OptOut

open Idealize.ShloMosaic Idealize.SL.Sem Idealize.ShloMosaic.TcCoe Idealize.ShloMosaic.ValueIdx
open Cert.OptOutIdeal Cert.OptOutIdeal.Gen
open Idealize.ShloMosaic.Pipeline (Dat)
open Cert.OptOutRefIdeal.Read

section Values

variable (m : (ℓ : Loc nD τ sig) → Buf (Elt Ideal) ℓ)

/-- The gradient's parts. -/
abbrev arg0 (c : Dev nD) : S4x8x128x1024.Idx → EReal := m ((c : Thread nD τ).loc main_arg0)
/-- The weight. -/
abbrev arg1 (c : Dev nD) : S4x128x1024.Idx → EReal := m ((c : Thread nD τ).loc main_arg1)
/-- The first moment. -/
abbrev arg2 (c : Dev nD) : S4x128x1024.Idx → EReal := m ((c : Thread nD τ).loc main_arg2)
/-- The second moment. -/
abbrev arg3 (c : Dev nD) : S4x128x1024.Idx → EReal := m ((c : Thread nD τ).loc main_arg3)

/-- The gradient at an index: the sum of the parts there. -/
def grad (c : Dev nD) (i : S4x128x1024.Idx) : EReal := ∑ k : Fin 8, arg0 m c (ix4 (i 0) k (i 1) (i 2))

/-- The four result arrays. -/
def R4 (c : Dev nD) : S4x128x1024.Idx → EReal := fun i => grad m c i
@[inherit_doc R4] def R5 (c : Dev nD) : S4x128x1024.Idx → EReal := fun i => Adam.change (grad m c i) (arg1 m c i) (arg2 m c i) (arg3 m c i)
@[inherit_doc R4] def R6 (c : Dev nD) : S4x128x1024.Idx → EReal := fun i => Adam.moment (grad m c i) (arg2 m c i)
@[inherit_doc R4] def R7 (c : Dev nD) : S4x128x1024.Idx → EReal := fun i => Adam.second (grad m c i) (arg3 m c i)

/-- The reference's summed gradient at an index. -/
theorem grad_ref (c : Dev nD) (i : S4x128x1024.Idx) :
    val_main_v1 (F := Ideal) (m ((c : Thread nD τ).loc main_arg0)) i = grad m c i := by
  rw [val_main_v1_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v1 (F := Ideal) (m ((c : Thread nD τ).loc main_arg0)) = R4 m c := by
  exact funext fun i => grad_ref m c i

/-- The reference's result 2 is that array. -/
theorem ref5 (c : Dev nD) : val_main_v25 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply,
    grad_ref m c]
  rfl

/-- The reference's result 3 is that array. -/
theorem ref6 (c : Dev nD) : val_main_v6 (F := Ideal) (m ((c : Thread nD τ).loc main_arg0)) (m ((c : Thread nD τ).loc main_arg2)) = R6 m c := by
  funext i
  simp only [val_main_cst_0_apply, val_main_v2_apply, val_main_v3_apply, val_main_cst_1_apply, val_main_v4_apply, val_main_v5_apply, val_main_v6_apply,
    grad_ref m c]
  rfl

/-- The reference's result 4 is that array. -/
theorem ref7 (c : Dev nD) : val_main_v12 (F := Ideal) (m ((c : Thread nD τ).loc main_arg0)) (m ((c : Thread nD τ).loc main_arg3)) = R7 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply,
    grad_ref m c]
  rfl

/-- A part of the loaded block, as a matrix. -/
theorem part_apply (x : Vec Ideal S1x8x128x1024 .bf16) (k : Fin 8) (h : ∀ a, (![0, k.val, 0, 0] : Fin 4 → Nat) a + S1x1x128x1024.size a ≤ S1x8x128x1024.size a)
    (r : Fin 128) (q : Fin 1024) :
    shapeCast S128x1024 (View.ld x (Rect.unit (s := S1x8x128x1024) ![0, k.val, 0, 0] S1x1x128x1024.size h)) shapeCasts_S1x1x128x1024_S128x1024 (ix2 r q)
      = x (ix4 ⟨0, Nat.one_pos⟩ k r q) := by
  refine (Adam.drop2_apply _ shapeCasts_S1x1x128x1024_S128x1024 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x8x128x1024 .bf16) : Vec Ideal S128x1024 .f32 := fun j => ∑ k : Fin 8, x (ix4 ⟨0, Nat.one_pos⟩ k (j 0) (j 1))

/-- The body's sum of the parts. -/
theorem sums_eq (x0 : Vec Ideal S1x8x128x1024 .bf16) (x1 x2 x3 : Vec Ideal S1x128x1024 .f32) : k0_pay5 (F := Ideal) (k0_pay10 x0 x1 x2 x3) (View.ld x0 r0_7) = sums x0 := by
  funext j
  rw [eq_ix2 j]
  unfold k0_pay5 k0_pay10 k0_pay4 sums
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x0 0 _ (j 0) (j 1)) (part_apply x0 1 _ (j 0) (j 1)))
    (part_apply x0 2 _ (j 0) (j 1))) (part_apply x0 3 _ (j 0) (j 1))) (part_apply x0 4 _ (j 0) (j 1)))
    (part_apply x0 5 _ (j 0) (j 1))) (part_apply x0 6 _ (j 0) (j 1))) (part_apply x0 7 _ (j 0) (j 1))

/-- A load of a whole block is the block. -/
theorem ld_whole (x : Vec Ideal S1x128x1024 .f32) : View.ld x r0_8 = x := View.ld_unit_zero (by funext a; fin_cases a <;> rfl) _ x

/-- An entry of a block, as a matrix's. -/
theorem entry (j : S1x128x1024.Idx) (x : Vec Ideal S1x128x1024 .f32) : shapeCast S128x1024 x shapeCasts_S1x128x1024_S128x1024 (ix2 (j 1) (j 2)) = x j :=
  (Dots.drop_apply x shapeCasts_S1x128x1024_S128x1024 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x8x128x1024 .bf16) (x1 x2 x3 : Vec Ideal S1x128x1024 .f32) (j : S1x128x1024.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S128x1024_S1x128x1024 j).trans (congrFun (sums_eq x0 x1 x2 x3) _)

@[inherit_doc out4_apply]
theorem out5_apply (x0 : Vec Ideal S1x8x128x1024 .bf16) (x1 x2 x3 : Vec Ideal S1x128x1024 .f32) (j : S1x128x1024.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay1 k0_pay9 k0_pay6 k0_pay7
  dsimp only
  simp only [sums_eq x0 x1 x2 x3]
  refine (Dots.add_apply _ shapeCasts_S128x1024_S1x128x1024 j).trans ?_
  rw [← entry j x1, ← entry j x2, ← entry j x3]
  rfl

@[inherit_doc out4_apply]
theorem out6_apply (x0 : Vec Ideal S1x8x128x1024 .bf16) (x1 x2 x3 : Vec Ideal S1x128x1024 .f32) (j : S1x128x1024.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay2 k0_pay6
  dsimp only
  simp only [sums_eq x0 x1 x2 x3]
  refine (Dots.add_apply _ shapeCasts_S128x1024_S1x128x1024 j).trans ?_
  rw [← entry j x2]
  rfl

@[inherit_doc out4_apply]
theorem out7_apply (x0 : Vec Ideal S1x8x128x1024 .bf16) (x1 x2 x3 : Vec Ideal S1x128x1024 .f32) (j : S1x128x1024.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay3 k0_pay7
  dsimp only
  simp only [sums_eq x0 x1 x2 x3]
  refine (Dots.add_apply _ shapeCasts_S128x1024_S1x128x1024 j).trans ?_
  rw [← entry j x3]
  rfl

/-- Which blocks the windows are at, at each point. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
@[inherit_doc idx0] theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The entry of a weight's array that entry `j` of point `t`'s block is. -/
abbrev at_ (t : Fin cfg0.N) (j : S1x128x1024.Idx) : S4x128x1024.Idx := (win0_4.rect t).emb j

/-- The gradient's parts as point `t` finds them. -/
theorem blk0 (c : Dev nD) (t : Fin cfg0.N) (j : S1x128x1024.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (t.val) * 1 + 0 = (t.val) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S4x128x1024.Idx) : ∃ t : Fin cfg0.N, i ∈ (win0_4.rect t).set := by
  have h0 : (i 0).val < 4 := (i 0).isLt
  have h1 : (i 1).val < 128 := (i 1).isLt
  have h2 : (i 2).val < 1024 := (i 2).isLt
  refine ⟨⟨(i 0).val, by show _ < 4; omega⟩, ?_⟩
  generalize ht : (⟨(i 0).val, _⟩ : Fin cfg0.N) = t
  have hv : t.val = (i 0).val := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 128 ≤ (i 1).val ∧ (i 1).val < win0_4.index t 1 * 128 + 128
              rw [e1]; omega
  | ⟨2, _⟩ => show win0_4.index t 2 * 1024 ≤ (i 2).val ∧ (i 2).val < win0_4.index t 2 * 1024 + 1024
              rw [e2]; omega

/-- So every entry of each result is written by some point. -/
theorem covered4 (i : S4x128x1024.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S4x128x1024.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S4x128x1024.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S4x128x1024.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptOutRefIdeal := fun m ρ _ =>
  (θ_run _ _ _).mono (fun r h => ⟨fun c => (h c).2.2.2.2, sem_eq_zero_of_no_sems (by decide) r.2⟩) (OptOutRefIdeal.Value.run m ρ)

/-- The claim: run on the same arguments, kernel and reference leave the same four arrays. -/
theorem algebraic : Cert.algebraic_OptOutIdeal_OptOutRefIdeal := by
  intro m ρ m' ρ' _ hag
  refine ⟨fun c => R4 m c, fun c => R5 m c, fun c => R6 m c, fun c => R7 m c, (θ_run _ _ _).mono (fun r h c => ?_) (OptOutIdeal.Value.run_blocks m ρ),
    (θ_run _ _ _).mono (fun r h c => ?_) (OptOutRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v1_eq, a0]
      exact ref4 m c
    · rw [val_main_v25_eq, a0, a1, a2, a3]
      exact ref5 m c
    · rw [val_main_v6_eq, a0, a2]
      exact ref6 m c
    · rw [val_main_v12_eq, a0, a3]
      exact ref7 m c

end Cert.Proof.OptOut

end
-- ==== Proof.OptUp.lean ====
/-
  The optimiser's step on the up projection's weight: each of the four arrays the kernel leaves (the summed gradient, the change of the weight,
  the two new moments) is, entry by entry, the reference's.
-/
module

public import proofs.«01_k».proof.Defs
public import proofs.«01_k».proof.Proof.Adam
public import proofs.«01_k».proof.Proof.Gen.OptUpIdeal.Value
public import proofs.«01_k».proof.Proof.Gen.OptUpRefIdeal.Read

@[expose] public section

noncomputable section

namespace Cert.Proof.OptUp

open Idealize.ShloMosaic Idealize.SL.Sem Idealize.ShloMosaic.TcCoe Idealize.ShloMosaic.ValueIdx
open Cert.OptUpIdeal Cert.OptUpIdeal.Gen
open Idealize.ShloMosaic.Pipeline (Dat)
open Cert.OptUpRefIdeal.Read

section Values

variable (m : (ℓ : Loc nD τ sig) → Buf (Elt Ideal) ℓ)

/-- The gradient's parts. -/
abbrev arg0 (c : Dev nD) : S4x8x1024x704.Idx → EReal := m ((c : Thread nD τ).loc main_arg0)
/-- The weight. -/
abbrev arg1 (c : Dev nD) : S4x1024x704.Idx → EReal := m ((c : Thread nD τ).loc main_arg1)
/-- The first moment. -/
abbrev arg2 (c : Dev nD) : S4x1024x704.Idx → EReal := m ((c : Thread nD τ).loc main_arg2)
/-- The second moment. -/
abbrev arg3 (c : Dev nD) : S4x1024x704.Idx → EReal := m ((c : Thread nD τ).loc main_arg3)

/-- The gradient at an index: the sum of the parts there. -/
def grad (c : Dev nD) (i : S4x1024x704.Idx) : EReal := ∑ k : Fin 8, arg0 m c (ix4 (i 0) k (i 1) (i 2))

/-- The four result arrays. -/
def R4 (c : Dev nD) : S4x1024x704.Idx → EReal := fun i => grad m c i
@[inherit_doc R4] def R5 (c : Dev nD) : S4x1024x704.Idx → EReal := fun i => Adam.change (grad m c i) (arg1 m c i) (arg2 m c i) (arg3 m c i)
@[inherit_doc R4] def R6 (c : Dev nD) : S4x1024x704.Idx → EReal := fun i => Adam.moment (grad m c i) (arg2 m c i)
@[inherit_doc R4] def R7 (c : Dev nD) : S4x1024x704.Idx → EReal := fun i => Adam.second (grad m c i) (arg3 m c i)

/-- The reference's summed gradient at an index. -/
theorem grad_ref (c : Dev nD) (i : S4x1024x704.Idx) :
    val_main_v1 (F := Ideal) (m ((c : Thread nD τ).loc main_arg0)) i = grad m c i := by
  rw [val_main_v1_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v1 (F := Ideal) (m ((c : Thread nD τ).loc main_arg0)) = R4 m c := by
  exact funext fun i => grad_ref m c i

/-- The reference's result 2 is that array. -/
theorem ref5 (c : Dev nD) : val_main_v25 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply,
    grad_ref m c]
  rfl

/-- The reference's result 3 is that array. -/
theorem ref6 (c : Dev nD) : val_main_v6 (F := Ideal) (m ((c : Thread nD τ).loc main_arg0)) (m ((c : Thread nD τ).loc main_arg2)) = R6 m c := by
  funext i
  simp only [val_main_cst_0_apply, val_main_v2_apply, val_main_v3_apply, val_main_cst_1_apply, val_main_v4_apply, val_main_v5_apply, val_main_v6_apply,
    grad_ref m c]
  rfl

/-- The reference's result 4 is that array. -/
theorem ref7 (c : Dev nD) : val_main_v12 (F := Ideal) (m ((c : Thread nD τ).loc main_arg0)) (m ((c : Thread nD τ).loc main_arg3)) = R7 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply,
    grad_ref m c]
  rfl

/-- A part of the loaded block, as a matrix. -/
theorem part_apply (x : Vec Ideal S1x8x512x704 .bf16) (k : Fin 8) (h : ∀ a, (![0, k.val, 0, 0] : Fin 4 → Nat) a + S1x1x512x704.size a ≤ S1x8x512x704.size a)
    (r : Fin 512) (q : Fin 704) :
    shapeCast S512x704 (View.ld x (Rect.unit (s := S1x8x512x704) ![0, k.val, 0, 0] S1x1x512x704.size h)) shapeCasts_S1x1x512x704_S512x704 (ix2 r q)
      = x (ix4 ⟨0, Nat.one_pos⟩ k r q) := by
  refine (Adam.drop2_apply _ shapeCasts_S1x1x512x704_S512x704 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x8x512x704 .bf16) : Vec Ideal S512x704 .f32 := fun j => ∑ k : Fin 8, x (ix4 ⟨0, Nat.one_pos⟩ k (j 0) (j 1))

/-- The body's sum of the parts. -/
theorem sums_eq (x0 : Vec Ideal S1x8x512x704 .bf16) (x1 x2 x3 : Vec Ideal S1x512x704 .f32) : k0_pay5 (F := Ideal) (k0_pay10 x0 x1 x2 x3) (View.ld x0 r0_7) = sums x0 := by
  funext j
  rw [eq_ix2 j]
  unfold k0_pay5 k0_pay10 k0_pay4 sums
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x0 0 _ (j 0) (j 1)) (part_apply x0 1 _ (j 0) (j 1)))
    (part_apply x0 2 _ (j 0) (j 1))) (part_apply x0 3 _ (j 0) (j 1))) (part_apply x0 4 _ (j 0) (j 1)))
    (part_apply x0 5 _ (j 0) (j 1))) (part_apply x0 6 _ (j 0) (j 1))) (part_apply x0 7 _ (j 0) (j 1))

/-- A load of a whole block is the block. -/
theorem ld_whole (x : Vec Ideal S1x512x704 .f32) : View.ld x r0_8 = x := View.ld_unit_zero (by funext a; fin_cases a <;> rfl) _ x

/-- An entry of a block, as a matrix's. -/
theorem entry (j : S1x512x704.Idx) (x : Vec Ideal S1x512x704 .f32) : shapeCast S512x704 x shapeCasts_S1x512x704_S512x704 (ix2 (j 1) (j 2)) = x j :=
  (Dots.drop_apply x shapeCasts_S1x512x704_S512x704 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x8x512x704 .bf16) (x1 x2 x3 : Vec Ideal S1x512x704 .f32) (j : S1x512x704.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S512x704_S1x512x704 j).trans (congrFun (sums_eq x0 x1 x2 x3) _)

@[inherit_doc out4_apply]
theorem out5_apply (x0 : Vec Ideal S1x8x512x704 .bf16) (x1 x2 x3 : Vec Ideal S1x512x704 .f32) (j : S1x512x704.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay1 k0_pay9 k0_pay6 k0_pay7
  dsimp only
  simp only [sums_eq x0 x1 x2 x3]
  refine (Dots.add_apply _ shapeCasts_S512x704_S1x512x704 j).trans ?_
  rw [← entry j x1, ← entry j x2, ← entry j x3]
  rfl

@[inherit_doc out4_apply]
theorem out6_apply (x0 : Vec Ideal S1x8x512x704 .bf16) (x1 x2 x3 : Vec Ideal S1x512x704 .f32) (j : S1x512x704.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay2 k0_pay6
  dsimp only
  simp only [sums_eq x0 x1 x2 x3]
  refine (Dots.add_apply _ shapeCasts_S512x704_S1x512x704 j).trans ?_
  rw [← entry j x2]
  rfl

@[inherit_doc out4_apply]
theorem out7_apply (x0 : Vec Ideal S1x8x512x704 .bf16) (x1 x2 x3 : Vec Ideal S1x512x704 .f32) (j : S1x512x704.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay3 k0_pay7
  dsimp only
  simp only [sums_eq x0 x1 x2 x3]
  refine (Dots.add_apply _ shapeCasts_S512x704_S1x512x704 j).trans ?_
  rw [← entry j x3]
  rfl

/-- Which blocks the windows are at, at each point. -/
theorem idx0 : ∀ t : Fin cfg0.N, win0_0.index t 0 = t.val / 2 ∧ win0_0.index t 1 = 0 ∧ win0_0.index t 2 = t.val % 2 ∧ win0_0.index t 3 = 0 :=
  (by decide +kernel : ∀ t : Fin grid0.N, win0_0.index t 0 = t.val / 2 ∧ win0_0.index t 1 = 0 ∧ win0_0.index t 2 = t.val % 2 ∧ win0_0.index t 3 = 0)
@[inherit_doc idx0] theorem idx4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)

/-- The entry of a weight's array that entry `j` of point `t`'s block is. -/
abbrev at_ (t : Fin cfg0.N) (j : S1x512x704.Idx) : S4x1024x704.Idx := (win0_4.rect t).emb j

/-- The gradient's parts as point `t` finds them. -/
theorem blk0 (c : Dev nD) (t : Fin cfg0.N) (j : S1x512x704.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (t.val / 2) * 1 + 0 = (t.val / 2) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S4x1024x704.Idx) : ∃ t : Fin cfg0.N, i ∈ (win0_4.rect t).set := by
  have h0 : (i 0).val < 4 := (i 0).isLt
  have h1 : (i 1).val < 1024 := (i 1).isLt
  have h2 : (i 2).val < 704 := (i 2).isLt
  refine ⟨⟨(i 0).val * 2 + (i 1).val / 512, by show _ < 8; omega⟩, ?_⟩
  generalize ht : (⟨(i 0).val * 2 + (i 1).val / 512, _⟩ : Fin cfg0.N) = t
  have hv : t.val = (i 0).val * 2 + (i 1).val / 512 := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 512 ≤ (i 1).val ∧ (i 1).val < win0_4.index t 1 * 512 + 512
              rw [e1]; omega
  | ⟨2, _⟩ => show win0_4.index t 2 * 704 ≤ (i 2).val ∧ (i 2).val < win0_4.index t 2 * 704 + 704
              rw [e2]; omega

/-- So every entry of each result is written by some point. -/
theorem covered4 (i : S4x1024x704.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S4x1024x704.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S4x1024x704.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S4x1024x704.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptUpRefIdeal := fun m ρ _ =>
  (θ_run _ _ _).mono (fun r h => ⟨fun c => (h c).2.2.2.2, sem_eq_zero_of_no_sems (by decide) r.2⟩) (OptUpRefIdeal.Value.run m ρ)

/-- The claim: run on the same arguments, kernel and reference leave the same four arrays. -/
theorem algebraic : Cert.algebraic_OptUpIdeal_OptUpRefIdeal := by
  intro m ρ m' ρ' _ hag
  refine ⟨fun c => R4 m c, fun c => R5 m c, fun c => R6 m c, fun c => R7 m c, (θ_run _ _ _).mono (fun r h c => ?_) (OptUpIdeal.Value.run_blocks m ρ),
    (θ_run _ _ _).mono (fun r h c => ?_) (OptUpRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v1_eq, a0]
      exact ref4 m c
    · rw [val_main_v25_eq, a0, a1, a2, a3]
      exact ref5 m c
    · rw [val_main_v6_eq, a0, a2]
      exact ref6 m c
    · rw [val_main_v12_eq, a0, a3]
      exact ref7 m c

end Cert.Proof.OptUp

end
-- ==== Proof.OptConv.lean ====
/-
  The optimiser's step on the convolution's weight: each of the four arrays the kernel leaves (the summed gradient, the change of the weight,
  the two new moments) is, entry by entry, the reference's.
-/
module

public import proofs.«01_k».proof.Defs
public import proofs.«01_k».proof.Proof.Adam
public import proofs.«01_k».proof.Proof.Gen.OptConvIdeal.Value
public import proofs.«01_k».proof.Proof.Gen.OptConvRefIdeal.Read

@[expose] public section

noncomputable section

namespace Cert.Proof.OptConv

open Idealize.ShloMosaic Idealize.SL.Sem Idealize.ShloMosaic.TcCoe Idealize.ShloMosaic.ValueIdx
open Cert.OptConvIdeal Cert.OptConvIdeal.Gen
open Idealize.ShloMosaic.Pipeline (Dat)
open Cert.OptConvRefIdeal.Read

section Values

variable (m : (ℓ : Loc nD τ sig) → Buf (Elt Ideal) ℓ)

/-- The gradient's parts. -/
abbrev arg0 (c : Dev nD) : S4x8x3x704.Idx → EReal := m ((c : Thread nD τ).loc main_arg0)
/-- The weight. -/
abbrev arg1 (c : Dev nD) : S4x3x704.Idx → EReal := m ((c : Thread nD τ).loc main_arg1)
/-- The first moment. -/
abbrev arg2 (c : Dev nD) : S4x3x704.Idx → EReal := m ((c : Thread nD τ).loc main_arg2)
/-- The second moment. -/
abbrev arg3 (c : Dev nD) : S4x3x704.Idx → EReal := m ((c : Thread nD τ).loc main_arg3)

/-- The gradient at an index: the sum of the parts there. -/
def grad (c : Dev nD) (i : S4x3x704.Idx) : EReal := ∑ k : Fin 8, arg0 m c (ix4 (i 0) k (i 1) (i 2))

/-- The four result arrays. -/
def R4 (c : Dev nD) : S4x3x704.Idx → EReal := fun i => grad m c i
@[inherit_doc R4] def R5 (c : Dev nD) : S4x3x704.Idx → EReal := fun i => Adam.change (grad m c i) (arg1 m c i) (arg2 m c i) (arg3 m c i)
@[inherit_doc R4] def R6 (c : Dev nD) : S4x3x704.Idx → EReal := fun i => Adam.moment (grad m c i) (arg2 m c i)
@[inherit_doc R4] def R7 (c : Dev nD) : S4x3x704.Idx → EReal := fun i => Adam.second (grad m c i) (arg3 m c i)

/-- The reference's summed gradient at an index. -/
theorem grad_ref (c : Dev nD) (i : S4x3x704.Idx) :
    val_main_v0 (F := Ideal) (m ((c : Thread nD τ).loc main_arg0)) i = grad m c i := by
  rw [val_main_v0_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v0 (F := Ideal) (m ((c : Thread nD τ).loc main_arg0)) = R4 m c := by
  exact funext fun i => grad_ref m c i

/-- The reference's result 2 is that array. -/
theorem ref5 (c : Dev nD) : val_main_v24 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply, val_main_cst_4_apply, val_main_v12_apply, val_main_v13_apply, val_main_cst_5_apply, val_main_v14_apply, val_main_v15_apply, val_main_v16_apply, val_main_cst_6_apply, val_main_v17_apply, val_main_v18_apply, val_main_v19_apply, val_main_cst_7_apply, val_main_v20_apply, val_main_v21_apply, val_main_v22_apply, val_main_cst_8_apply, val_main_v23_apply, val_main_v24_apply,
    grad_ref m c]
  rfl

/-- The reference's result 3 is that array. -/
theorem ref6 (c : Dev nD) : val_main_v5 (F := Ideal) (m ((c : Thread nD τ).loc main_arg0)) (m ((c : Thread nD τ).loc main_arg2)) = R6 m c := by
  funext i
  simp only [val_main_cst_0_apply, val_main_v1_apply, val_main_v2_apply, val_main_cst_1_apply, val_main_v3_apply, val_main_v4_apply, val_main_v5_apply,
    grad_ref m c]
  rfl

/-- The reference's result 4 is that array. -/
theorem ref7 (c : Dev nD) : val_main_v11 (F := Ideal) (m ((c : Thread nD τ).loc main_arg0)) (m ((c : Thread nD τ).loc main_arg3)) = R7 m c := by
  funext i
  simp only [val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply,
    grad_ref m c]
  rfl

/-- A part of the loaded block, as a matrix. -/
theorem part_apply (x : Vec Ideal S1x8x3x704 .f32) (k : Fin 8) (h : ∀ a, (![0, k.val, 0, 0] : Fin 4 → Nat) a + S1x1x3x704.size a ≤ S1x8x3x704.size a)
    (r : Fin 3) (q : Fin 704) :
    shapeCast S3x704 (View.ld x (Rect.unit (s := S1x8x3x704) ![0, k.val, 0, 0] S1x1x3x704.size h)) shapeCasts_S1x1x3x704_S3x704 (ix2 r q)
      = x (ix4 ⟨0, Nat.one_pos⟩ k r q) := by
  refine (Adam.drop2_apply _ shapeCasts_S1x1x3x704_S3x704 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x8x3x704 .f32) : Vec Ideal S3x704 .f32 := fun j => ∑ k : Fin 8, x (ix4 ⟨0, Nat.one_pos⟩ k (j 0) (j 1))

/-- The body's sum of the parts. -/
theorem sums_eq (x0 : Vec Ideal S1x8x3x704 .f32) (x1 x2 x3 : Vec Ideal S1x3x704 .f32) : k0_pay8 (F := Ideal) x0 x1 x2 x3 = sums x0 := by
  funext j
  rw [eq_ix2 j]
  unfold k0_pay8 k0_pay3 sums
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x0 0 _ (j 0) (j 1)) (part_apply x0 1 _ (j 0) (j 1)))
    (part_apply x0 2 _ (j 0) (j 1))) (part_apply x0 3 _ (j 0) (j 1))) (part_apply x0 4 _ (j 0) (j 1)))
    (part_apply x0 5 _ (j 0) (j 1))) (part_apply x0 6 _ (j 0) (j 1))) (part_apply x0 7 _ (j 0) (j 1))

/-- A load of a whole block is the block. -/
theorem ld_whole (x : Vec Ideal S1x3x704 .f32) : View.ld x r0_8 = x := View.ld_unit_zero (by funext a; fin_cases a <;> rfl) _ x

/-- An entry of a block, as a matrix's. -/
theorem entry (j : S1x3x704.Idx) (x : Vec Ideal S1x3x704 .f32) : shapeCast S3x704 x shapeCasts_S1x3x704_S3x704 (ix2 (j 1) (j 2)) = x j :=
  (Dots.drop_apply x shapeCasts_S1x3x704_S3x704 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x8x3x704 .f32) (x1 x2 x3 : Vec Ideal S1x3x704 .f32) (j : S1x3x704.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S3x704_S1x3x704 j).trans (congrFun (sums_eq x0 x1 x2 x3) _)

@[inherit_doc out4_apply]
theorem out5_apply (x0 : Vec Ideal S1x8x3x704 .f32) (x1 x2 x3 : Vec Ideal S1x3x704 .f32) (j : S1x3x704.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay7 k0_pay4 k0_pay5
  dsimp only
  simp only [sums_eq x0 x1 x2 x3]
  refine (Dots.add_apply _ shapeCasts_S3x704_S1x3x704 j).trans ?_
  rw [← entry j x1, ← entry j x2, ← entry j x3]
  rfl

@[inherit_doc out4_apply]
theorem out6_apply (x0 : Vec Ideal S1x8x3x704 .f32) (x1 x2 x3 : Vec Ideal S1x3x704 .f32) (j : S1x3x704.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay1 k0_pay4
  dsimp only
  simp only [sums_eq x0 x1 x2 x3]
  refine (Dots.add_apply _ shapeCasts_S3x704_S1x3x704 j).trans ?_
  rw [← entry j x2]
  rfl

@[inherit_doc out4_apply]
theorem out7_apply (x0 : Vec Ideal S1x8x3x704 .f32) (x1 x2 x3 : Vec Ideal S1x3x704 .f32) (j : S1x3x704.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay2 k0_pay5
  dsimp only
  simp only [sums_eq x0 x1 x2 x3]
  refine (Dots.add_apply _ shapeCasts_S3x704_S1x3x704 j).trans ?_
  rw [← entry j x3]
  rfl

/-- Which blocks the windows are at, at each point. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
@[inherit_doc idx0] theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The entry of a weight's array that entry `j` of point `t`'s block is. -/
abbrev at_ (t : Fin cfg0.N) (j : S1x3x704.Idx) : S4x3x704.Idx := (win0_4.rect t).emb j

/-- The gradient's parts as point `t` finds them. -/
theorem blk0 (c : Dev nD) (t : Fin cfg0.N) (j : S1x3x704.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (t.val) * 1 + 0 = (t.val) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S4x3x704.Idx) : ∃ t : Fin cfg0.N, i ∈ (win0_4.rect t).set := by
  have h0 : (i 0).val < 4 := (i 0).isLt
  have h1 : (i 1).val < 3 := (i 1).isLt
  have h2 : (i 2).val < 704 := (i 2).isLt
  refine ⟨⟨(i 0).val, by show _ < 4; omega⟩, ?_⟩
  generalize ht : (⟨(i 0).val, _⟩ : Fin cfg0.N) = t
  have hv : t.val = (i 0).val := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 3 ≤ (i 1).val ∧ (i 1).val < win0_4.index t 1 * 3 + 3
              rw [e1]; omega
  | ⟨2, _⟩ => show win0_4.index t 2 * 704 ≤ (i 2).val ∧ (i 2).val < win0_4.index t 2 * 704 + 704
              rw [e2]; omega

/-- So every entry of each result is written by some point. -/
theorem covered4 (i : S4x3x704.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S4x3x704.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S4x3x704.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S4x3x704.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptConvRefIdeal := fun m ρ _ =>
  (θ_run _ _ _).mono (fun r h => ⟨fun c => (h c).2.2.2.2, sem_eq_zero_of_no_sems (by decide) r.2⟩) (OptConvRefIdeal.Value.run m ρ)

/-- The claim: run on the same arguments, kernel and reference leave the same four arrays. -/
theorem algebraic : Cert.algebraic_OptConvIdeal_OptConvRefIdeal := by
  intro m ρ m' ρ' _ hag
  refine ⟨fun c => R4 m c, fun c => R5 m c, fun c => R6 m c, fun c => R7 m c, (θ_run _ _ _).mono (fun r h c => ?_) (OptConvIdeal.Value.run_blocks m ρ),
    (θ_run _ _ _).mono (fun r h c => ?_) (OptConvRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v0_eq, a0]
      exact ref4 m c
    · rw [val_main_v24_eq, a0, a1, a2, a3]
      exact ref5 m c
    · rw [val_main_v5_eq, a0, a2]
      exact ref6 m c
    · rw [val_main_v11_eq, a0, a3]
      exact ref7 m c

end Cert.Proof.OptConv

end
-- ==== Proof.OptDown.lean ====
/-
  The optimiser's step on the down projection's weight: each of the four arrays the kernel leaves (the summed gradient, the change of the weight,
  the two new moments) is, entry by entry, the reference's.
-/
module

public import proofs.«01_k».proof.Defs
public import proofs.«01_k».proof.Proof.Adam
public import proofs.«01_k».proof.Proof.Gen.OptDownIdeal.Value
public import proofs.«01_k».proof.Proof.Gen.OptDownRefIdeal.Read

@[expose] public section

noncomputable section

namespace Cert.Proof.OptDown

open Idealize.ShloMosaic Idealize.SL.Sem Idealize.ShloMosaic.TcCoe Idealize.ShloMosaic.ValueIdx
open Cert.OptDownIdeal Cert.OptDownIdeal.Gen
open Idealize.ShloMosaic.Pipeline (Dat)
open Cert.OptDownRefIdeal.Read

section Values

variable (m : (ℓ : Loc nD τ sig) → Buf (Elt Ideal) ℓ)

/-- The gradient's parts. -/
abbrev arg0 (c : Dev nD) : S4x8x352x1024.Idx → EReal := m ((c : Thread nD τ).loc main_arg0)
/-- The weight. -/
abbrev arg1 (c : Dev nD) : S4x352x1024.Idx → EReal := m ((c : Thread nD τ).loc main_arg1)
/-- The first moment. -/
abbrev arg2 (c : Dev nD) : S4x352x1024.Idx → EReal := m ((c : Thread nD τ).loc main_arg2)
/-- The second moment. -/
abbrev arg3 (c : Dev nD) : S4x352x1024.Idx → EReal := m ((c : Thread nD τ).loc main_arg3)

/-- The gradient at an index: the sum of the parts there. -/
def grad (c : Dev nD) (i : S4x352x1024.Idx) : EReal := ∑ k : Fin 8, arg0 m c (ix4 (i 0) k (i 1) (i 2))

/-- The four result arrays. -/
def R4 (c : Dev nD) : S4x352x1024.Idx → EReal := fun i => grad m c i
@[inherit_doc R4] def R5 (c : Dev nD) : S4x352x1024.Idx → EReal := fun i => Adam.change (grad m c i) (arg1 m c i) (arg2 m c i) (arg3 m c i)
@[inherit_doc R4] def R6 (c : Dev nD) : S4x352x1024.Idx → EReal := fun i => Adam.moment (grad m c i) (arg2 m c i)
@[inherit_doc R4] def R7 (c : Dev nD) : S4x352x1024.Idx → EReal := fun i => Adam.second (grad m c i) (arg3 m c i)

/-- The reference's summed gradient at an index. -/
theorem grad_ref (c : Dev nD) (i : S4x352x1024.Idx) :
    val_main_v1 (F := Ideal) (m ((c : Thread nD τ).loc main_arg0)) i = grad m c i := by
  rw [val_main_v1_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v1 (F := Ideal) (m ((c : Thread nD τ).loc main_arg0)) = R4 m c := by
  exact funext fun i => grad_ref m c i

/-- The reference's result 2 is that array. -/
theorem ref5 (c : Dev nD) : val_main_v25 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply,
    grad_ref m c]
  rfl

/-- The reference's result 3 is that array. -/
theorem ref6 (c : Dev nD) : val_main_v6 (F := Ideal) (m ((c : Thread nD τ).loc main_arg0)) (m ((c : Thread nD τ).loc main_arg2)) = R6 m c := by
  funext i
  simp only [val_main_cst_0_apply, val_main_v2_apply, val_main_v3_apply, val_main_cst_1_apply, val_main_v4_apply, val_main_v5_apply, val_main_v6_apply,
    grad_ref m c]
  rfl

/-- The reference's result 4 is that array. -/
theorem ref7 (c : Dev nD) : val_main_v12 (F := Ideal) (m ((c : Thread nD τ).loc main_arg0)) (m ((c : Thread nD τ).loc main_arg3)) = R7 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply,
    grad_ref m c]
  rfl

/-- A part of the loaded block, as a matrix. -/
theorem part_apply (x : Vec Ideal S1x8x352x1024 .bf16) (k : Fin 8) (h : ∀ a, (![0, k.val, 0, 0] : Fin 4 → Nat) a + S1x1x352x1024.size a ≤ S1x8x352x1024.size a)
    (r : Fin 352) (q : Fin 1024) :
    shapeCast S352x1024 (View.ld x (Rect.unit (s := S1x8x352x1024) ![0, k.val, 0, 0] S1x1x352x1024.size h)) shapeCasts_S1x1x352x1024_S352x1024 (ix2 r q)
      = x (ix4 ⟨0, Nat.one_pos⟩ k r q) := by
  refine (Adam.drop2_apply _ shapeCasts_S1x1x352x1024_S352x1024 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x8x352x1024 .bf16) : Vec Ideal S352x1024 .f32 := fun j => ∑ k : Fin 8, x (ix4 ⟨0, Nat.one_pos⟩ k (j 0) (j 1))

/-- The body's sum of the parts. -/
theorem sums_eq (x0 : Vec Ideal S1x8x352x1024 .bf16) (x1 x2 x3 : Vec Ideal S1x352x1024 .f32) : k0_pay5 (F := Ideal) (k0_pay10 x0 x1 x2 x3) (View.ld x0 r0_7) = sums x0 := by
  funext j
  rw [eq_ix2 j]
  unfold k0_pay5 k0_pay10 k0_pay4 sums
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x0 0 _ (j 0) (j 1)) (part_apply x0 1 _ (j 0) (j 1)))
    (part_apply x0 2 _ (j 0) (j 1))) (part_apply x0 3 _ (j 0) (j 1))) (part_apply x0 4 _ (j 0) (j 1)))
    (part_apply x0 5 _ (j 0) (j 1))) (part_apply x0 6 _ (j 0) (j 1))) (part_apply x0 7 _ (j 0) (j 1))

/-- A load of a whole block is the block. -/
theorem ld_whole (x : Vec Ideal S1x352x1024 .f32) : View.ld x r0_8 = x := View.ld_unit_zero (by funext a; fin_cases a <;> rfl) _ x

/-- An entry of a block, as a matrix's. -/
theorem entry (j : S1x352x1024.Idx) (x : Vec Ideal S1x352x1024 .f32) : shapeCast S352x1024 x shapeCasts_S1x352x1024_S352x1024 (ix2 (j 1) (j 2)) = x j :=
  (Dots.drop_apply x shapeCasts_S1x352x1024_S352x1024 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x8x352x1024 .bf16) (x1 x2 x3 : Vec Ideal S1x352x1024 .f32) (j : S1x352x1024.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S352x1024_S1x352x1024 j).trans (congrFun (sums_eq x0 x1 x2 x3) _)

@[inherit_doc out4_apply]
theorem out5_apply (x0 : Vec Ideal S1x8x352x1024 .bf16) (x1 x2 x3 : Vec Ideal S1x352x1024 .f32) (j : S1x352x1024.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay1 k0_pay9 k0_pay6 k0_pay7
  dsimp only
  simp only [sums_eq x0 x1 x2 x3]
  refine (Dots.add_apply _ shapeCasts_S352x1024_S1x352x1024 j).trans ?_
  rw [← entry j x1, ← entry j x2, ← entry j x3]
  rfl

@[inherit_doc out4_apply]
theorem out6_apply (x0 : Vec Ideal S1x8x352x1024 .bf16) (x1 x2 x3 : Vec Ideal S1x352x1024 .f32) (j : S1x352x1024.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay2 k0_pay6
  dsimp only
  simp only [sums_eq x0 x1 x2 x3]
  refine (Dots.add_apply _ shapeCasts_S352x1024_S1x352x1024 j).trans ?_
  rw [← entry j x2]
  rfl

@[inherit_doc out4_apply]
theorem out7_apply (x0 : Vec Ideal S1x8x352x1024 .bf16) (x1 x2 x3 : Vec Ideal S1x352x1024 .f32) (j : S1x352x1024.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay3 k0_pay7
  dsimp only
  simp only [sums_eq x0 x1 x2 x3]
  refine (Dots.add_apply _ shapeCasts_S352x1024_S1x352x1024 j).trans ?_
  rw [← entry j x3]
  rfl

/-- Which blocks the windows are at, at each point. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
@[inherit_doc idx0] theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The entry of a weight's array that entry `j` of point `t`'s block is. -/
abbrev at_ (t : Fin cfg0.N) (j : S1x352x1024.Idx) : S4x352x1024.Idx := (win0_4.rect t).emb j

/-- The gradient's parts as point `t` finds them. -/
theorem blk0 (c : Dev nD) (t : Fin cfg0.N) (j : S1x352x1024.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (t.val) * 1 + 0 = (t.val) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S4x352x1024.Idx) : ∃ t : Fin cfg0.N, i ∈ (win0_4.rect t).set := by
  have h0 : (i 0).val < 4 := (i 0).isLt
  have h1 : (i 1).val < 352 := (i 1).isLt
  have h2 : (i 2).val < 1024 := (i 2).isLt
  refine ⟨⟨(i 0).val, by show _ < 4; omega⟩, ?_⟩
  generalize ht : (⟨(i 0).val, _⟩ : Fin cfg0.N) = t
  have hv : t.val = (i 0).val := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 352 ≤ (i 1).val ∧ (i 1).val < win0_4.index t 1 * 352 + 352
              rw [e1]; omega
  | ⟨2, _⟩ => show win0_4.index t 2 * 1024 ≤ (i 2).val ∧ (i 2).val < win0_4.index t 2 * 1024 + 1024
              rw [e2]; omega

/-- So every entry of each result is written by some point. -/
theorem covered4 (i : S4x352x1024.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S4x352x1024.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S4x352x1024.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S4x352x1024.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptDownRefIdeal := fun m ρ _ =>
  (θ_run _ _ _).mono (fun r h => ⟨fun c => (h c).2.2.2.2, sem_eq_zero_of_no_sems (by decide) r.2⟩) (OptDownRefIdeal.Value.run m ρ)

/-- The claim: run on the same arguments, kernel and reference leave the same four arrays. -/
theorem algebraic : Cert.algebraic_OptDownIdeal_OptDownRefIdeal := by
  intro m ρ m' ρ' _ hag
  refine ⟨fun c => R4 m c, fun c => R5 m c, fun c => R6 m c, fun c => R7 m c, (θ_run _ _ _).mono (fun r h c => ?_) (OptDownIdeal.Value.run_blocks m ρ),
    (θ_run _ _ _).mono (fun r h c => ?_) (OptDownRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v1_eq, a0]
      exact ref4 m c
    · rw [val_main_v25_eq, a0, a1, a2, a3]
      exact ref5 m c
    · rw [val_main_v6_eq, a0, a2]
      exact ref6 m c
    · rw [val_main_v12_eq, a0, a3]
      exact ref7 m c

end Cert.Proof.OptDown

end
-- ==== Proof.OptAda.lean ====
/-
  The optimiser's step on the modulation's weight: each of the four arrays the kernel leaves (the summed gradient, the change of the weight,
  the two new moments) is, entry by entry, the reference's.
-/
module

public import proofs.«01_k».proof.Defs
public import proofs.«01_k».proof.Proof.Adam
public import proofs.«01_k».proof.Proof.Gen.OptAdaIdeal.Value
public import proofs.«01_k».proof.Proof.Gen.OptAdaRefIdeal.Read

@[expose] public section

noncomputable section

namespace Cert.Proof.OptAda

open Idealize.ShloMosaic Idealize.SL.Sem Idealize.ShloMosaic.TcCoe Idealize.ShloMosaic.ValueIdx
open Cert.OptAdaIdeal Cert.OptAdaIdeal.Gen
open Idealize.ShloMosaic.Pipeline (Dat)
open Cert.OptAdaRefIdeal.Read

section Values

variable (m : (ℓ : Loc nD τ sig) → Buf (Elt Ideal) ℓ)

/-- The gradient's parts. -/
abbrev arg0 (c : Dev nD) : S4x1x1024x768.Idx → EReal := m ((c : Thread nD τ).loc main_arg0)
/-- The weight. -/
abbrev arg1 (c : Dev nD) : S4x1024x768.Idx → EReal := m ((c : Thread nD τ).loc main_arg1)
/-- The first moment. -/
abbrev arg2 (c : Dev nD) : S4x1024x768.Idx → EReal := m ((c : Thread nD τ).loc main_arg2)
/-- The second moment. -/
abbrev arg3 (c : Dev nD) : S4x1024x768.Idx → EReal := m ((c : Thread nD τ).loc main_arg3)

/-- The gradient at an index: the sum of the parts there. -/
def grad (c : Dev nD) (i : S4x1024x768.Idx) : EReal := ∑ k : Fin 1, arg0 m c (ix4 (i 0) k (i 1) (i 2))

/-- The four result arrays. -/
def R4 (c : Dev nD) : S4x1024x768.Idx → EReal := fun i => grad m c i
@[inherit_doc R4] def R5 (c : Dev nD) : S4x1024x768.Idx → EReal := fun i => Adam.change (grad m c i) (arg1 m c i) (arg2 m c i) (arg3 m c i)
@[inherit_doc R4] def R6 (c : Dev nD) : S4x1024x768.Idx → EReal := fun i => Adam.moment (grad m c i) (arg2 m c i)
@[inherit_doc R4] def R7 (c : Dev nD) : S4x1024x768.Idx → EReal := fun i => Adam.second (grad m c i) (arg3 m c i)

/-- The reference's summed gradient at an index. -/
theorem grad_ref (c : Dev nD) (i : S4x1024x768.Idx) :
    val_main_v0 (F := Ideal) (m ((c : Thread nD τ).loc main_arg0)) i = grad m c i := by
  rw [val_main_v0_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v0 (F := Ideal) (m ((c : Thread nD τ).loc main_arg0)) = R4 m c := by
  exact funext fun i => grad_ref m c i

/-- The reference's result 2 is that array. -/
theorem ref5 (c : Dev nD) : val_main_v24 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply, val_main_cst_4_apply, val_main_v12_apply, val_main_v13_apply, val_main_cst_5_apply, val_main_v14_apply, val_main_v15_apply, val_main_v16_apply, val_main_cst_6_apply, val_main_v17_apply, val_main_v18_apply, val_main_v19_apply, val_main_cst_7_apply, val_main_v20_apply, val_main_v21_apply, val_main_v22_apply, val_main_cst_8_apply, val_main_v23_apply, val_main_v24_apply,
    grad_ref m c]
  rfl

/-- The reference's result 3 is that array. -/
theorem ref6 (c : Dev nD) : val_main_v5 (F := Ideal) (m ((c : Thread nD τ).loc main_arg0)) (m ((c : Thread nD τ).loc main_arg2)) = R6 m c := by
  funext i
  simp only [val_main_cst_0_apply, val_main_v1_apply, val_main_v2_apply, val_main_cst_1_apply, val_main_v3_apply, val_main_v4_apply, val_main_v5_apply,
    grad_ref m c]
  rfl

/-- The reference's result 4 is that array. -/
theorem ref7 (c : Dev nD) : val_main_v11 (F := Ideal) (m ((c : Thread nD τ).loc main_arg0)) (m ((c : Thread nD τ).loc main_arg3)) = R7 m c := by
  funext i
  simp only [val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply,
    grad_ref m c]
  rfl

/-- A part of the loaded block, as a matrix. -/
theorem part_apply (x : Vec Ideal S1x1x512x768 .f32) (k : Fin 1) (h : ∀ a, (![0, k.val, 0, 0] : Fin 4 → Nat) a + S1x1x512x768.size a ≤ S1x1x512x768.size a)
    (r : Fin 512) (q : Fin 768) :
    shapeCast S512x768 (View.ld x (Rect.unit (s := S1x1x512x768) ![0, k.val, 0, 0] S1x1x512x768.size h)) shapeCasts_S1x1x512x768_S512x768 (ix2 r q)
      = x (ix4 ⟨0, Nat.one_pos⟩ k r q) := by
  refine (Adam.drop2_apply _ shapeCasts_S1x1x512x768_S512x768 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x1x512x768 .f32) : Vec Ideal S512x768 .f32 := fun j => ∑ k : Fin 1, x (ix4 ⟨0, Nat.one_pos⟩ k (j 0) (j 1))

/-- The body's sum of the parts. -/
theorem sums_eq (x0 : Vec Ideal S1x1x512x768 .f32) : k0_pay4 (F := Ideal) (View.ld x0 r0_0) = sums x0 := by
  funext j
  rw [eq_ix2 j]
  unfold k0_pay4 sums
  rw [Fin.sum_univ_one]
  exact part_apply x0 0 _ (j 0) (j 1)

/-- A load of a whole block is the block. -/
theorem ld_whole (x : Vec Ideal S1x512x768 .f32) : View.ld x r0_1 = x := View.ld_unit_zero (by funext a; fin_cases a <;> rfl) _ x

/-- An entry of a block, as a matrix's. -/
theorem entry (j : S1x512x768.Idx) (x : Vec Ideal S1x512x768 .f32) : shapeCast S512x768 x shapeCasts_S1x512x768_S512x768 (ix2 (j 1) (j 2)) = x j :=
  (Dots.drop_apply x shapeCasts_S1x512x768_S512x768 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x1x512x768 .f32) (x1 x2 x3 : Vec Ideal S1x512x768 .f32) (j : S1x512x768.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S512x768_S1x512x768 j).trans (congrFun (sums_eq x0) _)

@[inherit_doc out4_apply]
theorem out5_apply (x0 : Vec Ideal S1x1x512x768 .f32) (x1 x2 x3 : Vec Ideal S1x512x768 .f32) (j : S1x512x768.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay1 k0_pay8 k0_pay5 k0_pay6
  dsimp only
  simp only [sums_eq x0]
  refine (Dots.add_apply _ shapeCasts_S512x768_S1x512x768 j).trans ?_
  rw [← entry j x1, ← entry j x2, ← entry j x3]
  rfl

@[inherit_doc out4_apply]
theorem out6_apply (x0 : Vec Ideal S1x1x512x768 .f32) (x1 x2 x3 : Vec Ideal S1x512x768 .f32) (j : S1x512x768.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay2 k0_pay5
  dsimp only
  simp only [sums_eq x0]
  refine (Dots.add_apply _ shapeCasts_S512x768_S1x512x768 j).trans ?_
  rw [← entry j x2]
  rfl

@[inherit_doc out4_apply]
theorem out7_apply (x0 : Vec Ideal S1x1x512x768 .f32) (x1 x2 x3 : Vec Ideal S1x512x768 .f32) (j : S1x512x768.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay3 k0_pay6
  dsimp only
  simp only [sums_eq x0]
  refine (Dots.add_apply _ shapeCasts_S512x768_S1x512x768 j).trans ?_
  rw [← entry j x3]
  rfl

/-- Which blocks the windows are at, at each point. -/
theorem idx0 : ∀ t : Fin cfg0.N, win0_0.index t 0 = t.val / 2 ∧ win0_0.index t 1 = 0 ∧ win0_0.index t 2 = t.val % 2 ∧ win0_0.index t 3 = 0 :=
  (by decide +kernel : ∀ t : Fin grid0.N, win0_0.index t 0 = t.val / 2 ∧ win0_0.index t 1 = 0 ∧ win0_0.index t 2 = t.val % 2 ∧ win0_0.index t 3 = 0)
@[inherit_doc idx0] theorem idx4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)

/-- The entry of a weight's array that entry `j` of point `t`'s block is. -/
abbrev at_ (t : Fin cfg0.N) (j : S1x512x768.Idx) : S4x1024x768.Idx := (win0_4.rect t).emb j

/-- The gradient's parts as point `t` finds them. -/
theorem blk0 (c : Dev nD) (t : Fin cfg0.N) (j : S1x512x768.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (t.val / 2) * 1 + 0 = (t.val / 2) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S4x1024x768.Idx) : ∃ t : Fin cfg0.N, i ∈ (win0_4.rect t).set := by
  have h0 : (i 0).val < 4 := (i 0).isLt
  have h1 : (i 1).val < 1024 := (i 1).isLt
  have h2 : (i 2).val < 768 := (i 2).isLt
  refine ⟨⟨(i 0).val * 2 + (i 1).val / 512, by show _ < 8; omega⟩, ?_⟩
  generalize ht : (⟨(i 0).val * 2 + (i 1).val / 512, _⟩ : Fin cfg0.N) = t
  have hv : t.val = (i 0).val * 2 + (i 1).val / 512 := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 512 ≤ (i 1).val ∧ (i 1).val < win0_4.index t 1 * 512 + 512
              rw [e1]; omega
  | ⟨2, _⟩ => show win0_4.index t 2 * 768 ≤ (i 2).val ∧ (i 2).val < win0_4.index t 2 * 768 + 768
              rw [e2]; omega

/-- So every entry of each result is written by some point. -/
theorem covered4 (i : S4x1024x768.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S4x1024x768.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S4x1024x768.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S4x1024x768.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptAdaRefIdeal := fun m ρ _ =>
  (θ_run _ _ _).mono (fun r h => ⟨fun c => (h c).2.2.2.2, sem_eq_zero_of_no_sems (by decide) r.2⟩) (OptAdaRefIdeal.Value.run m ρ)

/-- The claim: run on the same arguments, kernel and reference leave the same four arrays. -/
theorem algebraic : Cert.algebraic_OptAdaIdeal_OptAdaRefIdeal := by
  intro m ρ m' ρ' _ hag
  refine ⟨fun c => R4 m c, fun c => R5 m c, fun c => R6 m c, fun c => R7 m c, (θ_run _ _ _).mono (fun r h c => ?_) (OptAdaIdeal.Value.run_blocks m ρ),
    (θ_run _ _ _).mono (fun r h c => ?_) (OptAdaRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v0_eq, a0]
      exact ref4 m c
    · rw [val_main_v24_eq, a0, a1, a2, a3]
      exact ref5 m c
    · rw [val_main_v5_eq, a0, a2]
      exact ref6 m c
    · rw [val_main_v11_eq, a0, a3]
      exact ref7 m c

end Cert.Proof.OptAda

end
-- ==== Proof.OptSmall.lean ====
/-
  The optimiser's step on the eighteen small weights, packed one after the other: each of the four arrays the kernel leaves (the summed gradient, the change of the weight,
  the two new moments) is, entry by entry, the reference's.
-/
module

public import proofs.«01_k».proof.Defs
public import proofs.«01_k».proof.Proof.Adam
public import proofs.«01_k».proof.Proof.Gen.OptSmallIdeal.Value
public import proofs.«01_k».proof.Proof.Gen.OptSmallRefIdeal.Read

@[expose] public section

noncomputable section

namespace Cert.Proof.OptSmall

open Idealize.ShloMosaic Idealize.SL.Sem Idealize.ShloMosaic.TcCoe Idealize.ShloMosaic.ValueIdx
open Cert.OptSmallIdeal Cert.OptSmallIdeal.Gen
open Idealize.ShloMosaic.Pipeline (Dat)
open Cert.OptSmallRefIdeal.Read

section Values

variable (m : (ℓ : Loc nD τ sig) → Buf (Elt Ideal) ℓ)

/-- The gradient's parts. -/
abbrev arg0 (c : Dev nD) : S1x8x5120x128.Idx → EReal := m ((c : Thread nD τ).loc main_arg0)
/-- The weight. -/
abbrev arg1 (c : Dev nD) : S1x5120x128.Idx → EReal := m ((c : Thread nD τ).loc main_arg1)
/-- The first moment. -/
abbrev arg2 (c : Dev nD) : S1x5120x128.Idx → EReal := m ((c : Thread nD τ).loc main_arg2)
/-- The second moment. -/
abbrev arg3 (c : Dev nD) : S1x5120x128.Idx → EReal := m ((c : Thread nD τ).loc main_arg3)

/-- The gradient at an index: the sum of the parts there. -/
def grad (c : Dev nD) (i : S1x5120x128.Idx) : EReal := ∑ k : Fin 8, arg0 m c (ix4 (i 0) k (i 1) (i 2))

/-- The four result arrays. -/
def R4 (c : Dev nD) : S1x5120x128.Idx → EReal := fun i => grad m c i
@[inherit_doc R4] def R5 (c : Dev nD) : S1x5120x128.Idx → EReal := fun i => Adam.change (grad m c i) (arg1 m c i) (arg2 m c i) (arg3 m c i)
@[inherit_doc R4] def R6 (c : Dev nD) : S1x5120x128.Idx → EReal := fun i => Adam.moment (grad m c i) (arg2 m c i)
@[inherit_doc R4] def R7 (c : Dev nD) : S1x5120x128.Idx → EReal := fun i => Adam.second (grad m c i) (arg3 m c i)

/-- The reference's summed gradient at an index. -/
theorem grad_ref (c : Dev nD) (i : S1x5120x128.Idx) :
    val_main_v1 (F := Ideal) (m ((c : Thread nD τ).loc main_arg0)) i = grad m c i := by
  rw [val_main_v1_apply, val_main_cst_apply]
  show Ideal.ofBits .f32 0x00000000#32 + _ = _
  rw [Ideal.ofBits_zero_f32, zero_add]
  refine Finset.sum_congr rfl fun k _ => (congrArg (arg0 m c) ?_)
  funext a
  match a with
  | ⟨0, _⟩ => rfl
  | ⟨1, _⟩ => rfl
  | ⟨2, _⟩ => rfl
  | ⟨3, _⟩ => rfl

/-- The reference's result 1 is that array. -/
theorem ref4 (c : Dev nD) : val_main_v1 (F := Ideal) (m ((c : Thread nD τ).loc main_arg0)) = R4 m c := by
  exact funext fun i => grad_ref m c i

/-- The reference's result 2 is that array. -/
theorem ref5 (c : Dev nD) : val_main_v25 (F := Ideal) (m ((c : Thread nD τ).loc main_arg0)) (m ((c : Thread nD τ).loc main_arg1)) (m ((c : Thread nD τ).loc main_arg2)) (m ((c : Thread nD τ).loc main_arg3)) = R5 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply,
    grad_ref m c]
  rfl

/-- The reference's result 3 is that array. -/
theorem ref6 (c : Dev nD) : val_main_v6 (F := Ideal) (m ((c : Thread nD τ).loc main_arg0)) (m ((c : Thread nD τ).loc main_arg2)) = R6 m c := by
  funext i
  simp only [val_main_cst_0_apply, val_main_v2_apply, val_main_v3_apply, val_main_cst_1_apply, val_main_v4_apply, val_main_v5_apply, val_main_v6_apply,
    grad_ref m c]
  rfl

/-- The reference's result 4 is that array. -/
theorem ref7 (c : Dev nD) : val_main_v12 (F := Ideal) (m ((c : Thread nD τ).loc main_arg0)) (m ((c : Thread nD τ).loc main_arg3)) = R7 m c := by
  funext i
  simp only [val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply,
    grad_ref m c]
  rfl

/-- A part of the loaded block, as a matrix. -/
theorem part_apply (x : Vec Ideal S1x8x512x128 .bf16) (k : Fin 8) (h : ∀ a, (![0, k.val, 0, 0] : Fin 4 → Nat) a + S1x1x512x128.size a ≤ S1x8x512x128.size a)
    (r : Fin 512) (q : Fin 128) :
    shapeCast S512x128 (View.ld x (Rect.unit (s := S1x8x512x128) ![0, k.val, 0, 0] S1x1x512x128.size h)) shapeCasts_S1x1x512x128_S512x128 (ix2 r q)
      = x (ix4 ⟨0, Nat.one_pos⟩ k r q) := by
  refine (Adam.drop2_apply _ shapeCasts_S1x1x512x128_S512x128 r q).trans (congrArg x (funext fun a => Fin.ext ?_))
  match a with
  | ⟨0, _⟩ => rfl
  | ⟨1, _⟩ => show k.val + 1 * 0 = k.val; omega
  | ⟨2, _⟩ => show 0 + 1 * r.val = r.val; omega
  | ⟨3, _⟩ => show 0 + 1 * q.val = q.val; omega

/-- What the body sums up: the block's parts. -/
def sums (x : Vec Ideal S1x8x512x128 .bf16) : Vec Ideal S512x128 .f32 := fun j => ∑ k : Fin 8, x (ix4 ⟨0, Nat.one_pos⟩ k (j 0) (j 1))

/-- The body's sum of the parts. -/
theorem sums_eq (x0 : Vec Ideal S1x8x512x128 .bf16) (x1 x2 x3 : Vec Ideal S1x512x128 .f32) : k0_pay5 (F := Ideal) (k0_pay10 x0 x1 x2 x3) (View.ld x0 r0_7) = sums x0 := by
  funext j
  rw [eq_ix2 j]
  unfold k0_pay5 k0_pay10 k0_pay4 sums
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x0 0 _ (j 0) (j 1)) (part_apply x0 1 _ (j 0) (j 1)))
    (part_apply x0 2 _ (j 0) (j 1))) (part_apply x0 3 _ (j 0) (j 1))) (part_apply x0 4 _ (j 0) (j 1)))
    (part_apply x0 5 _ (j 0) (j 1))) (part_apply x0 6 _ (j 0) (j 1))) (part_apply x0 7 _ (j 0) (j 1))

/-- A load of a whole block is the block. -/
theorem ld_whole (x : Vec Ideal S1x512x128 .f32) : View.ld x r0_8 = x := View.ld_unit_zero (by funext a; fin_cases a <;> rfl) _ x

/-- An entry of a block, as a matrix's. -/
theorem entry (j : S1x512x128.Idx) (x : Vec Ideal S1x512x128 .f32) : shapeCast S512x128 x shapeCasts_S1x512x128_S512x128 (ix2 (j 1) (j 2)) = x j :=
  (Dots.drop_apply x shapeCasts_S1x512x128_S512x128 (j 1) (j 2)).trans (congrArg x (by
    have h0 : (j 0).val < 1 := (j 0).isLt
    funext a
    match a with
    | ⟨0, _⟩ => exact Fin.ext (show 0 = (j 0).val by omega)
    | ⟨1, _⟩ => rfl
    | ⟨2, _⟩ => rfl))

/-- What the body leaves in each output's block, an entry. -/
theorem out4_apply (x0 : Vec Ideal S1x8x512x128 .bf16) (x1 x2 x3 : Vec Ideal S1x512x128 .f32) (j : S1x512x128.Idx) :
    out0_4 (F := Ideal) x0 x1 x2 x3 j = sums x0 (ix2 (j 1) (j 2)) := by
  unfold out0_4
  rw [View.canon_unit_zero (by funext a; fin_cases a <;> rfl)]
  exact (Dots.add_apply _ shapeCasts_S512x128_S1x512x128 j).trans (congrFun (sums_eq x0 x1 x2 x3) _)

@[inherit_doc out4_apply]
theorem out5_apply (x0 : Vec Ideal S1x8x512x128 .bf16) (x1 x2 x3 : Vec Ideal S1x512x128 .f32) (j : S1x512x128.Idx) :
    out0_5 (F := Ideal) x0 x1 x2 x3 j = Adam.change (sums x0 (ix2 (j 1) (j 2))) (x1 j) (x2 j) (x3 j) := by
  unfold out0_5
  rw [View.canon_unit_zero (by funext a; fin_cases a <;> rfl)]
  simp only [ld_whole]
  unfold k0_pay1 k0_pay9 k0_pay6 k0_pay7
  dsimp only
  simp only [sums_eq x0 x1 x2 x3]
  refine (Dots.add_apply _ shapeCasts_S512x128_S1x512x128 j).trans ?_
  rw [← entry j x1, ← entry j x2, ← entry j x3]
  rfl

@[inherit_doc out4_apply]
theorem out6_apply (x0 : Vec Ideal S1x8x512x128 .bf16) (x1 x2 x3 : Vec Ideal S1x512x128 .f32) (j : S1x512x128.Idx) :
    out0_6 (F := Ideal) x0 x1 x2 x3 j = Adam.moment (sums x0 (ix2 (j 1) (j 2))) (x2 j) := by
  unfold out0_6
  rw [View.canon_unit_zero (by funext a; fin_cases a <;> rfl)]
  simp only [ld_whole]
  unfold k0_pay2 k0_pay6
  dsimp only
  simp only [sums_eq x0 x1 x2 x3]
  refine (Dots.add_apply _ shapeCasts_S512x128_S1x512x128 j).trans ?_
  rw [← entry j x2]
  rfl

@[inherit_doc out4_apply]
theorem out7_apply (x0 : Vec Ideal S1x8x512x128 .bf16) (x1 x2 x3 : Vec Ideal S1x512x128 .f32) (j : S1x512x128.Idx) :
    out0_7 (F := Ideal) x0 x1 x2 x3 j = Adam.second (sums x0 (ix2 (j 1) (j 2))) (x3 j) := by
  unfold out0_7
  rw [View.canon_unit_zero (by funext a; fin_cases a <;> rfl)]
  simp only [ld_whole]
  unfold k0_pay3 k0_pay7
  dsimp only
  simp only [sums_eq x0 x1 x2 x3]
  refine (Dots.add_apply _ shapeCasts_S512x128_S1x512x128 j).trans ?_
  rw [← entry j x3]
  rfl

/-- Which blocks the windows are at, at each point. -/
theorem idx0 : ∀ t : Fin cfg0.N, win0_0.index t 0 = 0 ∧ win0_0.index t 1 = 0 ∧ win0_0.index t 2 = t.val ∧ win0_0.index t 3 = 0 :=
  (by decide +kernel : ∀ t : Fin grid0.N, win0_0.index t 0 = 0 ∧ win0_0.index t 1 = 0 ∧ win0_0.index t 2 = t.val ∧ win0_0.index t 3 = 0)
@[inherit_doc idx0] theorem idx4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)

/-- The entry of a weight's array that entry `j` of point `t`'s block is. -/
abbrev at_ (t : Fin cfg0.N) (j : S1x512x128.Idx) : S1x5120x128.Idx := (win0_4.rect t).emb j

/-- The gradient's parts as point `t` finds them. -/
theorem blk0 (c : Dev nD) (t : Fin cfg0.N) (j : S1x512x128.Idx) :
    sums (iblk m c 0 t) (ix2 (j 1) (j 2)) = grad m c (at_ t j) := by
  refine Finset.sum_congr rfl fun k _ => ?_
  show V m c main_arg0 ((win0_0.rect t).emb (ix4 ⟨0, Nat.one_pos⟩ k (j 1) (j 2))) = _
  rw [show V m c main_arg0 = arg0 m c from rfl]
  obtain ⟨e0, e1, e2, e3⟩ := idx0 t
  obtain ⟨o0, o1, o2⟩ := idx4 t
  have h0 : (j 0).val < 1 := (j 0).isLt
  refine congrArg (arg0 m c) (funext fun a => Fin.ext ?_)
  match a with
  | ⟨0, _⟩ =>
    refine ((win0_0.rect_emb_val t _ 0).trans ?_).trans (win0_4.rect_emb_val t j 0).symm
    rw [e0, o0]
    show (0) * 1 + 0 = (0) * 1 + (j 0).val
    omega
  | ⟨1, _⟩ => exact win0_0.rect_emb_val_of_index_zero t 1 e1 _
  | ⟨2, _⟩ =>
    refine ((win0_0.rect_emb_val t _ 2).trans ?_).trans (win0_4.rect_emb_val t j 1).symm
    rw [e2, o1]
    rfl
  | ⟨3, _⟩ => exact (win0_0.rect_emb_val_of_index_zero t 3 e3 _).trans (win0_4.rect_emb_val_of_index_zero t 2 o2 j).symm

/-- What point `t` writes back is its block of the result. -/
theorem flushed4 (c : Dev nD) (t : Fin cfg0.N) :
    (dats m 0 c).flushed 4 t = ((cfg0.win 4).blk t).view.read (Elt Ideal) (R4 m c) := by
  rw [Value.flushed4]
  funext j
  show out0_4 (F := Ideal) (iblk m c 0 t) (iblk m c 1 t) (iblk m c 2 t) (iblk m c 3 t) j = R4 m c (at_ t j)
  rw [out4_apply, blk0]
  rfl

@[inherit_doc flushed4]
theorem flushed5 (c : Dev nD) (t : Fin cfg0.N) :
    (dats m 0 c).flushed 5 t = ((cfg0.win 5).blk t).view.read (Elt Ideal) (R5 m c) := by
  rw [Value.flushed5]
  funext j
  show out0_5 (F := Ideal) (iblk m c 0 t) (iblk m c 1 t) (iblk m c 2 t) (iblk m c 3 t) j = R5 m c (at_ t j)
  rw [out5_apply, blk0]
  rfl

@[inherit_doc flushed4]
theorem flushed6 (c : Dev nD) (t : Fin cfg0.N) :
    (dats m 0 c).flushed 6 t = ((cfg0.win 6).blk t).view.read (Elt Ideal) (R6 m c) := by
  rw [Value.flushed6]
  funext j
  show out0_6 (F := Ideal) (iblk m c 0 t) (iblk m c 1 t) (iblk m c 2 t) (iblk m c 3 t) j = R6 m c (at_ t j)
  rw [out6_apply, blk0]
  rfl

@[inherit_doc flushed4]
theorem flushed7 (c : Dev nD) (t : Fin cfg0.N) :
    (dats m 0 c).flushed 7 t = ((cfg0.win 7).blk t).view.read (Elt Ideal) (R7 m c) := by
  rw [Value.flushed7]
  funext j
  show out0_7 (F := Ideal) (iblk m c 0 t) (iblk m c 1 t) (iblk m c 2 t) (iblk m c 3 t) j = R7 m c (at_ t j)
  rw [out7_apply, blk0]
  rfl

/-- Every index of a result lies in the block of some point. -/
theorem inBlock (i : S1x5120x128.Idx) : ∃ t : Fin cfg0.N, i ∈ (win0_4.rect t).set := by
  have h0 : (i 0).val < 1 := (i 0).isLt
  have h1 : (i 1).val < 5120 := (i 1).isLt
  have h2 : (i 2).val < 128 := (i 2).isLt
  refine ⟨⟨(i 1).val / 512, by show _ < 10; omega⟩, ?_⟩
  generalize ht : (⟨(i 1).val / 512, _⟩ : Fin cfg0.N) = t
  have hv : t.val = (i 1).val / 512 := by rw [← ht]
  obtain ⟨e0, e1, e2⟩ := idx4 t
  rw [Rect.mem_set_unit]
  intro a
  match a with
  | ⟨0, _⟩ => show win0_4.index t 0 * 1 ≤ (i 0).val ∧ (i 0).val < win0_4.index t 0 * 1 + 1
              rw [e0]; omega
  | ⟨1, _⟩ => show win0_4.index t 1 * 512 ≤ (i 1).val ∧ (i 1).val < win0_4.index t 1 * 512 + 512
              rw [e1]; omega
  | ⟨2, _⟩ => show win0_4.index t 2 * 128 ≤ (i 2).val ∧ (i 2).val < win0_4.index t 2 * 128 + 128
              rw [e2]; omega

/-- So every entry of each result is written by some point. -/
theorem covered4 (i : S1x5120x128.Idx) :
    ∃ t : Fin cfg0.N, (cfg0.win 4).flush t = true ∧ i ∈ ((cfg0.win 4).blk t).view.set :=
  let ⟨t, h⟩ := inBlock i; ⟨t, flush0_4 t, by show i ∈ ((View.whole main_v0_0).slice (win0_4.rect t)).set; rw [View.set_slice_whole]; exact h⟩

@[inherit_doc covered4]
theorem covered5 (i : S1x5120x128.Idx) :
    ∃ t : Fin cfg0.N, (cfg0.win 5).flush t = true ∧ i ∈ ((cfg0.win 5).blk t).view.set :=
  let ⟨t, h⟩ := inBlock i; ⟨t, flush0_5 t, by show i ∈ ((View.whole main_v0_1).slice (win0_5.rect t)).set; rw [View.set_slice_whole]; exact h⟩

@[inherit_doc covered4]
theorem covered6 (i : S1x5120x128.Idx) :
    ∃ t : Fin cfg0.N, (cfg0.win 6).flush t = true ∧ i ∈ ((cfg0.win 6).blk t).view.set :=
  let ⟨t, h⟩ := inBlock i; ⟨t, flush0_6 t, by show i ∈ ((View.whole main_v0_2).slice (win0_6.rect t)).set; rw [View.set_slice_whole]; exact h⟩

@[inherit_doc covered4]
theorem covered7 (i : S1x5120x128.Idx) :
    ∃ t : Fin cfg0.N, (cfg0.win 7).flush t = true ∧ i ∈ ((cfg0.win 7).blk t).view.set :=
  let ⟨t, h⟩ := inBlock i; ⟨t, flush0_7 t, by show i ∈ ((View.whole main_v0_3).slice (win0_7.rect t)).set; rw [View.set_slice_whole]; exact h⟩

end Values

/-- The reference's own run: its arguments end unchanged. -/
theorem frame_ref : Cert.quiescent_OptSmallRefIdeal := fun m ρ _ =>
  (θ_run _ _ _).mono (fun r h => ⟨fun c => (h c).2.2.2.2, sem_eq_zero_of_no_sems (by decide) r.2⟩) (OptSmallRefIdeal.Value.run m ρ)

/-- The claim: run on the same arguments, kernel and reference leave the same four arrays. -/
theorem algebraic : Cert.algebraic_OptSmallIdeal_OptSmallRefIdeal := by
  intro m ρ m' ρ' _ hag
  refine ⟨fun c => R4 m c, fun c => R5 m c, fun c => R6 m c, fun c => R7 m c, (θ_run _ _ _).mono (fun r h c => ?_) (OptSmallIdeal.Value.run_blocks m ρ),
    (θ_run _ _ _).mono (fun r h c => ?_) (OptSmallRefIdeal.Value.run m' ρ')⟩
  · obtain ⟨h4, h5, h6, h7, k⟩ := h c
    exact ⟨h4.trans ((dats m 0 c).arrAt_eq_of_cover 4 (R4 m c) (fun t _ => flushed4 m c t) covered4),
      h5.trans ((dats m 0 c).arrAt_eq_of_cover 5 (R5 m c) (fun t _ => flushed5 m c t) covered5),
      h6.trans ((dats m 0 c).arrAt_eq_of_cover 6 (R6 m c) (fun t _ => flushed6 m c t) covered6),
      h7.trans ((dats m 0 c).arrAt_eq_of_cover 7 (R7 m c) (fun t _ => flushed7 m c t) covered7), k⟩
  · obtain ⟨h4, h5, h6, h7, k⟩ := h c
    obtain ⟨a0, a1, a2, a3⟩ := hag c
    refine ⟨h4.trans ?_, h5.trans ?_, h6.trans ?_, h7.trans ?_, k⟩
    · rw [val_main_v1_eq, a0]
      exact ref4 m c
    · rw [val_main_v25_eq, a0, a1, a2, a3]
      exact ref5 m c
    · rw [val_main_v6_eq, a0, a2]
      exact ref6 m c
    · rw [val_main_v12_eq, a0, a3]
      exact ref7 m c

end Cert.Proof.OptSmall

end
-- ==== Proof.AttnTripA.lean ====
module

public import proofs.«01_k».proof.Proof.Gen.AttnFwdIdeal.Loops
public import proofs.«01_k».proof.Proof.Gen.AttnFwdIdeal.Frame

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trip

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (arg1 : BitVec 32) (v2 : IVec S1x128 1) (v10 : FVec F S256x256 .bf16) (v17 : FVec F S256x128 .bf16) (v20 : FVec F S256x128 .bf16)
  (h2 : k0_cond2 i = 1#1) (w1 w2 w3 : BitVec 32)

set_option maxHeartbeats 4000000 in
/-- One trip of the loop over the earlier blocks whose second block exists: what it writes, and that it runs. -/
@[irreducible] def tripA (k : Fin (k0_t1_loop i).trips) (hc : k0_cond3 i k = 1#1)
    (x3 : Vec F S4096x128 .bf16) (x4 : Vec F S4096x128 .f32) (x5 : Vec F S256x128 .f32) (x6 : Vec F S256x128 .f32) (x9 : Vec F S256x256 .f32) (x10 : Vec F S256x256 .f32) (x13 : Vec F S256x256 .f32) (x14 : Vec F S256x256 .f32) (x16 : Vec F S256x128 .f32) :
    Σ' (L5 : List (View.Piece (Elt F) S256x128 .f32)) (L6 : List (View.Piece (Elt F) S256x128 .f32)) (L9 : List (View.Piece (Elt F) S256x256 .f32)) (L10 : List (View.Piece (Elt F) S256x256 .f32)) (L13 : List (View.Piece (Elt F) S256x256 .f32)) (L14 : List (View.Piece (Elt F) S256x256 .f32)), { L16 : List (View.Piece (Elt F) S256x128 .f32) //
      ∀ (E : Set ℕ) (K : Unit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ (∃ d, owns (c : Thread nD τ) arg15 fullShare d) ∗ owns (c : Thread nD τ) arg16 fullShare x16
            ∗ (iprop(owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ f, arg16.view.loc (c : Thread nD τ) ↦[arg16.view.set]{fullShare} arg16.view.writes (Elt F) f L16)) -∗ K ⟨⟩))
          ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k ()) K } := by
  refine ⟨?_, ?_, ?_, ?_, ?_, ?_, ?_, fun E K => ?run⟩
  case run =>
    unfold k0_t1_body
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%d15, %f15, -, H15⟩, ⟨%f16, %hf16, H16⟩, Hk⟩
    obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg13.eq_unread hf13; obtain rfl := harg14.eq_unread hf14; obtain rfl := harg16.eq_unread hf16
    sl_exec_parts (disch := sl_exact hc)
    sl_step
    iapply Hk
    isplitl [H3]
    · iexists _; isplitr
      swap; · iexact H3
      ipureintro; exact harg3.read_unread _
    isplitl [H4]
    · iexists _; isplitr
      swap; · iexact H4
      ipureintro; exact harg4.read_unread _
    isplitl [H5]
    · iexists _; iexact H5
    isplitl [H6]
    · iexists _; iexact H6
    isplitl [H7]
    · iexists _, _; isplitr
      swap; · iexact H7
      ipureintro; rfl
    isplitl [H8]
    · iexists _, _; isplitr
      swap; · iexact H8
      ipureintro; rfl
    isplitl [H9]
    · iexists _; iexact H9
    isplitl [H10]
    · iexists _; iexact H10
    isplitl [H11]
    · iexists _, _; isplitr
      swap; · iexact H11
      ipureintro; rfl
    isplitl [H12]
    · iexists _, _; isplitr
      swap; · iexact H12
      ipureintro; rfl
    isplitl [H13]
    · iexists _; iexact H13
    isplitl [H14]
    · iexists _; iexact H14
    isplitl [H15]
    · iexists _, _; isplitr
      swap; · iexact H15
      ipureintro; rfl
    iexists _; iexact H16

end Trip

end Cert.Proof.Attn

end
-- ==== Proof.AttnTripB.lean ====
module

public import proofs.«01_k».proof.Proof.Gen.AttnFwdIdeal.Loops
public import proofs.«01_k».proof.Proof.Gen.AttnFwdIdeal.Frame

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trip

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (arg1 : BitVec 32) (v2 : IVec S1x128 1) (v10 : FVec F S256x256 .bf16) (v17 : FVec F S256x128 .bf16) (v20 : FVec F S256x128 .bf16)
  (h2 : k0_cond2 i = 1#1) (w1 w2 w3 : BitVec 32)

set_option maxHeartbeats 4000000 in
/-- One trip of the loop over the earlier blocks whose second block does not exist: what it writes, and that it runs. -/
@[irreducible] def tripB (k : Fin (k0_t1_loop i).trips) (hc : ¬k0_cond3 i k = 1#1)
    (x3 : Vec F S4096x128 .bf16) (x4 : Vec F S4096x128 .f32) (x5 : Vec F S256x128 .f32) (x6 : Vec F S256x128 .f32) (x9 : Vec F S256x256 .f32) (x10 : Vec F S256x256 .f32) (x13 : Vec F S256x256 .f32) (x14 : Vec F S256x256 .f32) (x16 : Vec F S256x128 .f32) :
    Σ' (L5 : List (View.Piece (Elt F) S256x128 .f32)), { L6 : List (View.Piece (Elt F) S256x128 .f32) //
      ∀ (E : Set ℕ) (K : Unit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ (∃ d, owns (c : Thread nD τ) arg15 fullShare d) ∗ owns (c : Thread nD τ) arg16 fullShare x16
            ∗ (iprop(owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ (∃ d, owns (c : Thread nD τ) arg15 fullShare d) ∗ owns (c : Thread nD τ) arg16 fullShare x16) -∗ K ⟨⟩))
          ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k ()) K } := by
  refine ⟨?_, ?_, fun E K => ?run⟩
  case run =>
    unfold k0_t1_body
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%d15, %f15, -, H15⟩, ⟨%f16, %hf16, H16⟩, Hk⟩
    obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg13.eq_unread hf13; obtain rfl := harg14.eq_unread hf14; obtain rfl := harg16.eq_unread hf16
    sl_exec_parts (disch := sl_exact hc)
    sl_step
    iapply Hk
    isplitl [H3]
    · iexists _; isplitr
      swap; · iexact H3
      ipureintro; exact harg3.read_unread _
    isplitl [H4]
    · iexists _; isplitr
      swap; · iexact H4
      ipureintro; exact harg4.read_unread _
    isplitl [H5]
    · iexists _; iexact H5
    isplitl [H6]
    · iexists _; iexact H6
    isplitl [H7]
    · iexists _, _; isplitr
      swap; · iexact H7
      ipureintro; rfl
    isplitl [H8]
    · iexists _, _; isplitr
      swap; · iexact H8
      ipureintro; rfl
    isplitl [H9]
    · iexists _; isplitr
      swap; · iexact H9
      ipureintro; exact harg9.read_unread _
    isplitl [H10]
    · iexists _; isplitr
      swap; · iexact H10
      ipureintro; exact harg10.read_unread _
    isplitl [H11]
    · iexists _, _; isplitr
      swap; · iexact H11
      ipureintro; rfl
    isplitl [H12]
    · iexists _, _; isplitr
      swap; · iexact H12
      ipureintro; rfl
    isplitl [H13]
    · iexists _; isplitr
      swap; · iexact H13
      ipureintro; exact harg13.read_unread _
    isplitl [H14]
    · iexists _; isplitr
      swap; · iexact H14
      ipureintro; exact harg14.read_unread _
    isplitl [H15]
    · iexists _, _; isplitr
      swap; · iexact H15
      ipureintro; rfl
    iexists _; isplitr
    swap; · iexact H16
    ipureintro; exact harg16.read_unread _

end Trip

end Cert.Proof.Attn

end
-- ==== Proof.AttnIdx.lean ====
module

public import proofs.«01_k».proof.Proof.Gen.AttnFwdIdeal.Loops
public import proofs.«01_k».proof.Proof.Gen.AttnFwdIdeal.Frame
public import Mathlib.Tactic.IntervalCases

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of the block of rows a grid point works on is below 16. -/
theorem blk_lt (i : grid0.Coords) : (i 1).val < 16 := (i 1).isLt

/-- The loop visits the earlier blocks two by two. -/
theorem trips1 (i : grid0.Coords) : (k0_t1_loop i).trips = ((i 1).val + 1) / 2 := by
  have h := blk_lt i
  show Scf.trips _ _ _ = _
  unfold k0_t1_loop
  dsimp only
  generalize (i 1).val = a at h ⊢
  interval_cases a <;> rfl

/-- The loop's remainder has no trip. -/
theorem trips2 (i : grid0.Coords) : (k0_t2_loop i).trips = 0 := by
  have h := blk_lt i
  show Scf.trips _ _ _ = _
  unfold k0_t2_loop
  dsimp only
  generalize (i 1).val = a at h ⊢
  interval_cases a <;> rfl

theorem trip_lt (i : grid0.Coords) (k : Fin (k0_t1_loop i).trips) : k.val < 8 := by
  have h := blk_lt i
  have hk := k.isLt.trans_eq (trips1 i)
  omega

/-- A trip works on a block that exists. -/
theorem trip_lt' (i : grid0.Coords) (k : Fin (k0_t1_loop i).trips) : 2 * k.val < (i 1).val := by
  have hk := k.isLt.trans_eq (trips1 i)
  omega

/-- The first branch is the first block's. -/
theorem cond1_iff (i : grid0.Coords) : k0_cond1 i = 1#1 ↔ (i 1).val = 0 := by
  have h := blk_lt i
  unfold k0_cond1
  dsimp only
  generalize (i 1).val = a at h ⊢
  interval_cases a <;> decide

/-- The second branch is every other block's. -/
theorem cond2_iff (i : grid0.Coords) : k0_cond2 i = 1#1 ↔ 0 < (i 1).val := by
  have h := blk_lt i
  unfold k0_cond2
  dsimp only
  generalize (i 1).val = a at h ⊢
  interval_cases a <;> decide

/-- A trip's second block exists where its first is not block 0. -/
theorem cond3_iff (i : grid0.Coords) (k : Fin (k0_t1_loop i).trips) : k0_cond3 i k = 1#1 ↔ 2 * k.val + 1 < (i 1).val := by
  have h := blk_lt i
  have hk := trip_lt' i k
  unfold k0_cond3
  dsimp only
  generalize k.val = b at hk ⊢
  generalize (i 1).val = a at h hk ⊢
  have hb : b < 8 := by omega
  interval_cases a <;> interval_cases b <;> first | (exfalso; omega) | decide

/-- The diagonal block's keys. -/
theorem off1_eq (i : grid0.Coords) : k0_off1 i = ![256 * (i 1).val, 0] := by
  have h := blk_lt i
  unfold k0_off1
  dsimp only
  generalize (i 1).val = a at h ⊢
  interval_cases a <;> rfl

/-- The first block's values. -/
theorem off2_eq (i : grid0.Coords) : k0_off2 i = ![256 * (i 1).val, 0] := by
  have h := blk_lt i
  unfold k0_off2
  dsimp only
  generalize (i 1).val = a at h ⊢
  interval_cases a <;> rfl

/-- The keys of the block before the diagonal. -/
theorem off3_eq (i : grid0.Coords) : k0_off3 i = ![256 * ((i 1).val - 1), 0] := by
  have h := blk_lt i
  unfold k0_off3
  dsimp only
  generalize (i 1).val = a at h ⊢
  interval_cases a <;> rfl

/-- The diagonal block's values. -/
theorem off4_eq (i : grid0.Coords) : k0_off4 i = ![256 * (i 1).val, 0] := by
  have h := blk_lt i
  unfold k0_off4
  dsimp only
  generalize (i 1).val = a at h ⊢
  interval_cases a <;> rfl

/-- The keys of a trip's first half: the next block. -/
theorem off5_eq (i : grid0.Coords) (k : Fin (k0_t1_loop i).trips) : k0_off5 i k = ![256 * ((i 1).val - 2 - 2 * k.val), 0] := by
  have h := blk_lt i
  have hk := trip_lt' i k
  unfold k0_off5
  dsimp only
  generalize k.val = b at hk ⊢
  generalize (i 1).val = a at h hk ⊢
  have hb : b < 8 := by omega
  interval_cases a <;> interval_cases b <;> first | (exfalso; omega) | rfl

/-- The values of a trip's first half. -/
theorem off6_eq (i : grid0.Coords) (k : Fin (k0_t1_loop i).trips) : k0_off6 i k = ![256 * ((i 1).val - 1 - 2 * k.val), 0] := by
  have h := blk_lt i
  have hk := trip_lt' i k
  unfold k0_off6
  dsimp only
  generalize k.val = b at hk ⊢
  generalize (i 1).val = a at h hk ⊢
  have hb : b < 8 := by omega
  interval_cases a <;> interval_cases b <;> first | (exfalso; omega) | rfl

/-- The keys of a trip's second half. -/
theorem off7_eq (i : grid0.Coords) (k : Fin (k0_t1_loop i).trips) : k0_off7 i k = ![256 * ((i 1).val - 3 - 2 * k.val), 0] := by
  have h := blk_lt i
  have hk := trip_lt' i k
  unfold k0_off7
  dsimp only
  generalize k.val = b at hk ⊢
  generalize (i 1).val = a at h hk ⊢
  have hb : b < 8 := by omega
  interval_cases a <;> interval_cases b <;> first | (exfalso; omega) | rfl

/-- The values of a trip's second half. -/
theorem off8_eq (i : grid0.Coords) (k : Fin (k0_t1_loop i).trips) (hc : 2 * k.val + 1 < (i 1).val) : k0_off8 i k = ![256 * ((i 1).val - 2 - 2 * k.val), 0] := by
  have h := blk_lt i
  have hk := trip_lt' i k
  unfold k0_off8
  dsimp only
  generalize k.val = b at hk hc ⊢
  generalize (i 1).val = a at h hk hc ⊢
  have hb : b < 8 := by omega
  interval_cases a <;> interval_cases b <;> first | (exfalso; omega) | rfl

end Cert.Proof.Attn

end
-- ==== Proof.AttnLoop.lean ====
module

public import proofs.«01_k».proof.Proof.Gen.AttnFwdIdeal.Loops
public import proofs.«01_k».proof.Proof.Gen.AttnFwdIdeal.Frame
public import proofs.«01_k».proof.Proof.AttnTripA
public import proofs.«01_k».proof.Proof.AttnTripB
public import proofs.«01_k».proof.Proof.AttnIdx

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one grid point carries through the loop over the earlier blocks: the two outputs, and the second slot's
    log betas, tails and row sums. -/
structure St (F : FTy → Type) [FloatOps F] where
  /-- the attention output so far -/
  o : Vec F S256x128 .f32
  /-- the running row sums -/
  tot : Vec F S256x128 .f32
  /-- the next block's log betas, first head -/
  l0 : Vec F S256x256 .f32
  /-- the same, second head -/
  l1 : Vec F S256x256 .f32
  /-- the next block's tails, first head -/
  t0 : Vec F S256x256 .f32
  /-- the same, second head -/
  t1 : Vec F S256x256 .f32
  /-- the next block's row sums -/
  sm : Vec F S256x128 .f32

section Loop

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (arg1 : BitVec 32) (v2 : IVec S1x128 1) (v10 : FVec F S256x256 .bf16) (v17 : FVec F S256x128 .bf16) (v20 : FVec F S256x128 .bf16)
  (h2 : k0_cond2 i = 1#1) (w1 w2 w3 : BitVec 32)
  (x3 : Vec F S4096x128 .bf16) (x4 : Vec F S4096x128 .f32)

theorem coverA5 (k : Fin (k0_t1_loop i).trips) (hc : k0_cond3 i k = 1#1) (s : St F) (y : S256x128.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1 S256x128.size (by sl_kernel_rfl) y

theorem coverA6 (k : Fin (k0_t1_loop i).trips) (hc : k0_cond3 i k = 1#1) (s : St F) (y : S256x128.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1 S256x128.size (by sl_kernel_rfl) y

theorem coverA9 (k : Fin (k0_t1_loop i).trips) (hc : k0_cond3 i k = 1#1) (s : St F) (y : S256x256.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.1 S32x256.size (by sl_kernel_rfl) y

theorem coverA10 (k : Fin (k0_t1_loop i).trips) (hc : k0_cond3 i k = 1#1) (s : St F) (y : S256x256.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.1 S32x256.size (by sl_kernel_rfl) y

theorem coverA13 (k : Fin (k0_t1_loop i).trips) (hc : k0_cond3 i k = 1#1) (s : St F) (y : S256x256.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.1 S256x256.size (by sl_kernel_rfl) y

theorem coverA14 (k : Fin (k0_t1_loop i).trips) (hc : k0_cond3 i k = 1#1) (s : St F) (y : S256x256.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.1 S256x256.size (by sl_kernel_rfl) y

theorem coverA16 (k : Fin (k0_t1_loop i).trips) (hc : k0_cond3 i k = 1#1) (s : St F) (y : S256x128.Idx) :
    ∃ pc ∈ (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.2.1, y ∈ pc.1.set :=
  View.cover_of_tiledL (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.2.1 S32x128.size (by sl_kernel_rfl) y

theorem coverB5 (k : Fin (k0_t1_loop i).trips) (hc : ¬k0_cond3 i k = 1#1) (s : St F) (y : S256x128.Idx) :
    ∃ pc ∈ (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1, y ∈ pc.1.set :=
  View.cover_of_tiledL (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1 S256x128.size (by sl_kernel_rfl) y

theorem coverB6 (k : Fin (k0_t1_loop i).trips) (hc : ¬k0_cond3 i k = 1#1) (s : St F) (y : S256x128.Idx) :
    ∃ pc ∈ (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1, y ∈ pc.1.set :=
  View.cover_of_tiledL (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1 S256x128.size (by sl_kernel_rfl) y

/-- One trip on what the loop carries. -/
def stepSt (k : Fin (k0_t1_loop i).trips) (s : St F) : St F :=
  if hc : k0_cond3 i k = 1#1 then
    ⟨View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.2.1⟩
  else
    ⟨View.canon (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1, View.canon (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1, s.l0, s.l1, s.t0, s.t1, s.sm⟩

/-- What the loop carries before trip `n`. -/
def stAt (s : St F) : ℕ → St F
  | 0 => s
  | n + 1 => if h : n < (k0_t1_loop i).trips then stepSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 ⟨n, h⟩ (stAt s n) else stAt s n

/-- The buffers as the loop finds them, holding `s`. -/
def inv (s : St F) : sProp 𝕄 :=
  iprop(owns (c : Thread nD τ) arg3 fullShare x3 ∗ owns (c : Thread nD τ) arg4 fullShare x4 ∗ owns (c : Thread nD τ) arg5 fullShare s.o ∗ owns (c : Thread nD τ) arg6 fullShare s.tot ∗ (∃ d, owns (c : Thread nD τ) arg7 fullShare d) ∗ (∃ d, owns (c : Thread nD τ) arg8 fullShare d) ∗ owns (c : Thread nD τ) arg9 fullShare s.l0 ∗ owns (c : Thread nD τ) arg10 fullShare s.l1 ∗ (∃ d, owns (c : Thread nD τ) arg11 fullShare d) ∗ (∃ d, owns (c : Thread nD τ) arg12 fullShare d) ∗ owns (c : Thread nD τ) arg13 fullShare s.t0 ∗ owns (c : Thread nD τ) arg14 fullShare s.t1 ∗ (∃ d, owns (c : Thread nD τ) arg15 fullShare d) ∗ owns (c : Thread nD τ) arg16 fullShare s.sm)

set_option maxHeartbeats 1000000 in
/-- One trip takes the buffers holding `s` to the buffers holding the next state. -/
theorem step_body (k : Fin (k0_t1_loop i).trips) (s : St F) (E : Set ℕ) :
    inv (F := F) c arg3 arg4 arg5 arg6 arg7 arg8 arg9 arg10 arg11 arg12 arg13 arg14 arg15 arg16 x3 x4 s
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k ())
          (fun _ => inv (F := F) c arg3 arg4 arg5 arg6 arg7 arg8 arg9 arg10 arg11 arg12 arg13 arg14 arg15 arg16 x3 x4 (stepSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k s)) := by
  by_cases hc : k0_cond3 i k = 1#1
  · have e : stepSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k s = ⟨View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.1, View.canon (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.2.1⟩ := by
      unfold stepSt; exact dif_pos hc
    rw [e]
    unfold inv
    dsimp only
    iintro ⟨H3, H4, H5, H6, H7, H8, H9, H10, H11, H12, H13, H14, H15, H16⟩
    iapply ((tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2.2.2.2.2.2 E _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H3, H4, ⟨%g5, H5⟩, ⟨%g6, H6⟩, H7, H8, ⟨%g9, H9⟩, ⟨%g10, H10⟩, H11, H12, ⟨%g13, H13⟩, ⟨%g14, H14⟩, H15, ⟨%g16, H16⟩⟩
    isplitl [H3]
    · iexact H3
    isplitl [H4]
    · iexact H4
    isplitl [H5]
    · unfold owns; iexists _; isplitr
      swap; · iexact H5
      ipureintro; exact View.read_writes_eq_canon _ _ _ (coverA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H6]
    · unfold owns; iexists _; isplitr
      swap; · iexact H6
      ipureintro; exact View.read_writes_eq_canon _ _ _ (coverA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H7]
    · iexact H7
    isplitl [H8]
    · iexact H8
    isplitl [H9]
    · unfold owns; iexists _; isplitr
      swap; · iexact H9
      ipureintro; exact View.read_writes_eq_canon _ _ _ (coverA9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H10]
    · unfold owns; iexists _; isplitr
      swap; · iexact H10
      ipureintro; exact View.read_writes_eq_canon _ _ _ (coverA10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H11]
    · iexact H11
    isplitl [H12]
    · iexact H12
    isplitl [H13]
    · unfold owns; iexists _; isplitr
      swap; · iexact H13
      ipureintro; exact View.read_writes_eq_canon _ _ _ (coverA13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H14]
    · unfold owns; iexists _; isplitr
      swap; · iexact H14
      ipureintro; exact View.read_writes_eq_canon _ _ _ (coverA14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H15]
    · iexact H15
    unfold owns; iexists _; isplitr
    swap; · iexact H16
    ipureintro; exact View.read_writes_eq_canon _ _ _ (coverA16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
  · have e : stepSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k s = ⟨View.canon (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).1, View.canon (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.1, s.l0, s.l1, s.t0, s.t1, s.sm⟩ := by
      unfold stepSt; exact dif_neg hc
    rw [e]
    unfold inv
    dsimp only
    iintro ⟨H3, H4, H5, H6, H7, H8, H9, H10, H11, H12, H13, H14, H15, H16⟩
    iapply ((tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 s.o s.tot s.l0 s.l1 s.t0 s.t1 s.sm).2.2 E _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H3, H4, ⟨%g5, H5⟩, ⟨%g6, H6⟩, H7, H8, H9, H10, H11, H12, H13, H14, H15, H16⟩
    isplitl [H3]
    · iexact H3
    isplitl [H4]
    · iexact H4
    isplitl [H5]
    · unfold owns; iexists _; isplitr
      swap; · iexact H5
      ipureintro; exact View.read_writes_eq_canon _ _ _ (coverB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H6]
    · unfold owns; iexists _; isplitr
      swap; · iexact H6
      ipureintro; exact View.read_writes_eq_canon _ _ _ (coverB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k hc s)
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16

/-- The loop from the buffers holding `s` to the buffers holding the state after its trips. -/
theorem loop1 (ok : (k0_t1_loop i).OK) (s : St F) (E : Set ℕ) {β : Type} (kk : Unit → Prog (TpuEff nD τ sig (Elt F) Λ₀ .tc) β) (Q : β → sProp 𝕄) :
    inv (F := F) c arg3 arg4 arg5 arg6 arg7 arg8 arg9 arg10 arg11 arg12 arg13 arg14 arg15 arg16 x3 x4 s
      ⊢ iprop((∀ _ : Unit, inv (F := F) c arg3 arg4 arg5 arg6 arg7 arg8 arg9 arg10 arg11 arg12 arg13 arg14 arg15 arg16 x3 x4 (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s (k0_t1_loop i).trips)
            -∗ wp frame (wpE (defs₀ (F := F)) Variants.none c none) E (kk ()) Q)
          -∗ wp frame (wpE (defs₀ (F := F)) Variants.none c none) E
              (Scf.Loop.for (k0_t1_loop i) ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3) >>= kk) Q) :=
  Scf.wp_for_bind frame (wpE (defs₀ (F := F)) Variants.none c none) E _ _ _ ok () _
    (fun n _ => inv (F := F) c arg3 arg4 arg5 arg6 arg7 arg8 arg9 arg10 arg11 arg12 arg13 arg14 arg15 arg16 x3 x4 (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s n))
    (fun k acc => by
      have e : stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s (k.val + 1) = stepSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s k.val) := by
        rw [stAt]; exact dif_pos k.isLt
      rw [e]
      exact step_body c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 k _ E)

/-- The remainder loop, which has no trip. -/
theorem loop2 (v : BitVec 32) (ok : (k0_t2_loop i).OK) (P : sProp 𝕄) (E : Set ℕ) {β : Type} (kk : Unit → Prog (TpuEff nD τ sig (Elt F) Λ₀ .tc) β) (Q : β → sProp 𝕄) :
    P ⊢ iprop((∀ _ : Unit, P -∗ wp frame (wpE (defs₀ (F := F)) Variants.none c none) E (kk ()) Q)
          -∗ wp frame (wpE (defs₀ (F := F)) Variants.none c none) E
              (Scf.Loop.for (k0_t2_loop i) ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 v) >>= kk) Q) :=
  Scf.wp_for_bind frame (wpE (defs₀ (F := F)) Variants.none c none) E _ _ _ ok () _
    (fun _ _ => P)
    (fun k _ => (Nat.not_lt_zero _ (Nat.lt_of_lt_of_eq k.isLt (trips2 i))).elim)

/-- `loop1` with its two premises side by side. -/
theorem loop1s (ok : (k0_t1_loop i).OK) (s : St F) (E : Set ℕ) {β : Type} (kk : Unit → Prog (TpuEff nD τ sig (Elt F) Λ₀ .tc) β) (Q : β → sProp 𝕄) :
    iprop(inv (F := F) c arg3 arg4 arg5 arg6 arg7 arg8 arg9 arg10 arg11 arg12 arg13 arg14 arg15 arg16 x3 x4 s
        ∗ (inv (F := F) c arg3 arg4 arg5 arg6 arg7 arg8 arg9 arg10 arg11 arg12 arg13 arg14 arg15 arg16 x3 x4 (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s (k0_t1_loop i).trips)
            -∗ wp frame (wpE (defs₀ (F := F)) Variants.none c none) E (kk ()) Q))
      ⊢ wp frame (wpE (defs₀ (F := F)) Variants.none c none) E
          (Scf.Loop.for (k0_t1_loop i) ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3) >>= kk) Q :=
  (sep_mono (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 ok s E kk Q) (forall_intro fun _ => .rfl)).trans wand_elim_left

/-- `loop2` with its two premises side by side. -/
theorem loop2s (v : BitVec 32) (ok : (k0_t2_loop i).OK) (P : sProp 𝕄) (E : Set ℕ) {β : Type} (kk : Unit → Prog (TpuEff nD τ sig (Elt F) Λ₀ .tc) β) (Q : β → sProp 𝕄) :
    iprop(P ∗ (P -∗ wp frame (wpE (defs₀ (F := F)) Variants.none c none) E (kk ()) Q))
      ⊢ wp frame (wpE (defs₀ (F := F)) Variants.none c none) E
          (Scf.Loop.for (k0_t2_loop i) ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 v) >>= kk) Q :=
  (sep_mono (loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 v ok P E kk Q) (forall_intro fun _ => .rfl)).trans wand_elim_left

end Loop

end Cert.Proof.Attn

end
-- ==== Proof.AttnRunA.lean ====
module

public import proofs.«01_k».proof.Proof.Gen.AttnFwdIdeal.Loops
public import proofs.«01_k».proof.Proof.Gen.AttnFwdIdeal.Frame
public import proofs.«01_k».proof.Proof.AttnLoop

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)

set_option maxHeartbeats 4000000 in
/-- The first block of a head pair, which has no earlier block: what it writes, and that it runs. -/
@[irreducible] def runA (hc1 : k0_cond1 i = 1#1) (hc2 : ¬k0_cond2 i = 1#1) (x2 : Vec F S256x128 .bf16) (x3 : Vec F S4096x128 .bf16) (x4 : Vec F S4096x128 .f32) :
    Σ' (L5 : List (View.Piece (Elt F) S256x128 .f32)), { L6 : List (View.Piece (Elt F) S256x128 .f32) //
      ∀ (E : Set ℕ) (K : Unit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    rw [cc0_attn_fwd_eq_skeleton]
    unfold cc0_attn_fwd_skel
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4
    sl_exec_parts (disch := first | sl_exact hc1 | sl_exact hc2)
    sl_step
    iapply Hk
    isplitl [H2]
    · iexists _; isplitr
      swap; · iexact H2
      ipureintro; exact harg2.read_unread _
    isplitl [H3]
    · iexists _; isplitr
      swap; · iexact H3
      ipureintro; exact harg3.read_unread _
    isplitl [H4]
    · iexists _; isplitr
      swap; · iexact H4
      ipureintro; exact harg4.read_unread _
    isplitl [H5]
    · iexists _; iexact H5
    isplitl [H6]
    · iexists _; iexact H6
    isplitl [H7]
    · iexists _, _; isplitr
      swap; · iexact H7
      ipureintro; rfl
    isplitl [H8]
    · iexists _, _; isplitr
      swap; · iexact H8
      ipureintro; rfl
    isplitl [H9]
    · iexists _, _; isplitr
      swap; · iexact H9
      ipureintro; rfl
    isplitl [H10]
    · iexists _, _; isplitr
      swap; · iexact H10
      ipureintro; rfl
    isplitl [H11]
    · iexists _, _; isplitr
      swap; · iexact H11
      ipureintro; rfl
    isplitl [H12]
    · iexists _, _; isplitr
      swap; · iexact H12
      ipureintro; rfl
    isplitl [H13]
    · iexists _, _; isplitr
      swap; · iexact H13
      ipureintro; rfl
    isplitl [H14]
    · iexists _, _; isplitr
      swap; · iexact H14
      ipureintro; rfl
    isplitl [H15]
    · iexists _, _; isplitr
      swap; · iexact H15
      ipureintro; rfl
    iexists _, _; isplitr
    swap; · iexact H16
    ipureintro; rfl

end Run

end Cert.Proof.Attn

end
-- ==== Proof.AttnRunB.lean ====
module

public import proofs.«01_k».proof.Proof.Gen.AttnFwdIdeal.Loops
public import proofs.«01_k».proof.Proof.Gen.AttnFwdIdeal.Frame
public import proofs.«01_k».proof.Proof.AttnLoop

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)

set_option maxHeartbeats 4000000 in
/-- A later block of a head pair: the words its loop is handed, what it writes before the loop, and that it runs to
    what the loop leaves. -/
@[irreducible] def runB (hc1 : ¬k0_cond1 i = 1#1) (hc2 : k0_cond2 i = 1#1) (x2 : Vec F S256x128 .bf16) (x3 : Vec F S4096x128 .bf16) (x4 : Vec F S4096x128 .f32) :
    Σ' (arg1 w1 w2 w3 : BitVec 32) (v2 : IVec S1x128 1) (v10 : FVec F S256x256 .bf16) (v17 v20 : FVec F S256x128 .bf16)
      (L5 : List (View.Piece (Elt F) S256x128 .f32)) (L6 : List (View.Piece (Elt F) S256x128 .f32)) (L9 : List (View.Piece (Elt F) S256x256 .f32)) (L10 : List (View.Piece (Elt F) S256x256 .f32)) (L13 : List (View.Piece (Elt F) S256x256 .f32)) (L14 : List (View.Piece (Elt F) S256x256 .f32)), { L16 : List (View.Piece (Elt F) S256x128 .f32) //
      ∀ (E : Set ℕ) (K : Unit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ inv (F := F) c arg3 arg4 arg5 arg6 arg7 arg8 arg9 arg10 arg11 arg12 arg13 arg14 arg15 arg16 x3 x4 (stAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 hc2 w1 w2 w3 x3 x4 ⟨View.canon L5, View.canon L6, View.canon L9, View.canon L10, View.canon L13, View.canon L14, View.canon L16⟩ (k0_t1_loop i).trips)) -∗ K ⟨⟩))
          ⊢ wp frame (wpE (defs₀ (F := F)) Variants.none c none) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, ?_, ?_, ?_, ?_, fun E K => ?run⟩
  case run =>
    rw [cc0_attn_fwd_eq_skeleton]
    unfold cc0_attn_fwd_skel
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4
    sl_exec_parts (disch := first | sl_exact hc1 | sl_exact hc2)
    iapply (loop1s (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) _ _ _ _ hc2 1#32 0#32 0#32 x3 x4 _ ⟨View.canon _, View.canon _, View.canon _, View.canon _, View.canon _, View.canon _, View.canon _⟩ E _ _)
    isplitl [H3 H4 H5 H6 H7 H8 H9 H10 H11 H12 H13 H14 H15 H16]
    · unfold inv
      dsimp only
      isplitl [H3]
      · unfold owns; iexists _; isplitr
        swap; · iexact H3
        ipureintro; exact harg3.read_unread _
      isplitl [H4]
      · unfold owns; iexists _; isplitr
        swap; · iexact H4
        ipureintro; exact harg4.read_unread _
      isplitl [H5]
      · unfold owns; iexists _; isplitr
        swap; · iexact H5
        ipureintro; exact View.read_writes_eq_canon _ _ _ (View.cover_of_tiledL _ S256x128.size (by sl_kernel_rfl))
      isplitl [H6]
      · unfold owns; iexists _; isplitr
        swap; · iexact H6
        ipureintro; exact View.read_writes_eq_canon _ _ _ (View.cover_of_tiledL _ S256x128.size (by sl_kernel_rfl))
      isplitl [H7]
      · unfold owns; iexists _, _; isplitr
        swap; · iexact H7
        ipureintro; rfl
      isplitl [H8]
      · unfold owns; iexists _, _; isplitr
        swap; · iexact H8
        ipureintro; rfl
      isplitl [H9]
      · unfold owns; iexists _; isplitr
        swap; · iexact H9
        ipureintro; exact View.read_writes_eq_canon _ _ _ (View.cover_of_tiledL _ S32x256.size (by sl_kernel_rfl))
      isplitl [H10]
      · unfold owns; iexists _; isplitr
        swap; · iexact H10
        ipureintro; exact View.read_writes_eq_canon _ _ _ (View.cover_of_tiledL _ S32x256.size (by sl_kernel_rfl))
      isplitl [H11]
      · unfold owns; iexists _, _; isplitr
        swap; · iexact H11
        ipureintro; rfl
      isplitl [H12]
      · unfold owns; iexists _, _; isplitr
        swap; · iexact H12
        ipureintro; rfl
      isplitl [H13]
      · unfold owns; iexists _; isplitr
        swap; · iexact H13
        ipureintro; exact View.read_writes_eq_canon _ _ _ (View.cover_of_tiledL _ S256x256.size (by sl_kernel_rfl))
      isplitl [H14]
      · unfold owns; iexists _; isplitr
        swap; · iexact H14
        ipureintro; exact View.read_writes_eq_canon _ _ _ (View.cover_of_tiledL _ S256x256.size (by sl_kernel_rfl))
      isplitl [H15]
      · unfold owns; iexists _, _; isplitr
        swap; · iexact H15
        ipureintro; rfl
      unfold owns; iexists _; isplitr
      swap; · iexact H16
      ipureintro; exact View.read_writes_eq_canon _ _ _ (View.cover_of_tiledL _ S32x128.size (by sl_kernel_rfl))

    iintro HI
    iapply (loop2s (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) _ _ _ _ hc2 1#32 0#32 _ _ _ E _ _)
    isplitl [HI]
    · iexact HI
    iintro HI
    sl_step
    iapply Hk
    isplitl [H2]
    · iexists _; isplitr
      swap; · iexact H2
      ipureintro; exact harg2.read_unread _
    iexact HI

end Run

end Cert.Proof.Attn

end
-- ==== Proof.AttnBody.lean ====
module

public import proofs.«01_k».proof.Proof.Gen.AttnFwdIdeal.Loops
public import proofs.«01_k».proof.Proof.Gen.AttnFwdIdeal.Frame
public import proofs.«01_k».proof.Proof.AttnRunA
public import proofs.«01_k».proof.Proof.AttnRunB

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)

theorem coverA0_5 (hc1 : k0_cond1 i = 1#1) (hc2 : ¬k0_cond2 i = 1#1) (x2 : Vec F S256x128 .bf16) (x3 : Vec F S4096x128 .bf16) (x4 : Vec F S4096x128 .f32) (y : S256x128.Idx) : ∃ pc ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).1, y ∈ pc.1.set :=
  View.cover_of_tiledL (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).1 S256x128.size (by sl_kernel_rfl) y

theorem coverA0_6 (hc1 : k0_cond1 i = 1#1) (hc2 : ¬k0_cond2 i = 1#1) (x2 : Vec F S256x128 .bf16) (x3 : Vec F S4096x128 .bf16) (x4 : Vec F S4096x128 .f32) (y : S256x128.Idx) : ∃ pc ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.1, y ∈ pc.1.set :=
  View.cover_of_tiledL (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.1 S256x128.size (by sl_kernel_rfl) y

/-- What the loop of a later block is entered with. -/
def startB (hc1 : ¬k0_cond1 i = 1#1) (hc2 : k0_cond2 i = 1#1) (x2 : Vec F S256x128 .bf16) (x3 : Vec F S4096x128 .bf16) (x4 : Vec F S4096x128 .f32) : St F :=
  ⟨View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.1, View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.1, View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.1, View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.1, View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.1, View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.2.1, View.canon (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.2.2.1⟩

/-- What the loop of a later block leaves. -/
def endB (hc1 : ¬k0_cond1 i = 1#1) (hc2 : k0_cond2 i = 1#1) (x2 : Vec F S256x128 .bf16) (x3 : Vec F S4096x128 .bf16) (x4 : Vec F S4096x128 .f32) : St F :=
  stAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).1 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.1 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.1 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.1 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.1 hc2 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.1 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.1 (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.1 x3 x4 (startB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4) (k0_t1_loop i).trips

omit [FloatOps F] in
theorem cond2_of_not (hc1 : ¬k0_cond1 i = 1#1) : k0_cond2 i = 1#1 :=
  (cond2_iff i).mpr (Nat.pos_of_ne_zero fun h => hc1 ((cond1_iff i).mpr h))

omit [FloatOps F] in
theorem not_cond2 (hc1 : k0_cond1 i = 1#1) : ¬k0_cond2 i = 1#1 := fun h =>
  absurd ((cond1_iff i).mp hc1) (Nat.pos_iff_ne_zero.mp ((cond2_iff i).mp h))

/-- The two outputs of one grid point. -/
def outs (x2 : Vec F S256x128 .bf16) (x3 : Vec F S4096x128 .bf16) (x4 : Vec F S4096x128 .f32) : Vec F S256x128 .f32 × Vec F S256x128 .f32 :=
  if hc1 : k0_cond1 i = 1#1 then
    (View.canon (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4).1, View.canon (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4).2.1)
  else
    ((endB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (cond2_of_not i hc1) x2 x3 x4).o, (endB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (cond2_of_not i hc1) x2 x3 x4).tot)

/-- The body at one grid point, from its blocks to its outputs. -/
theorem run_body (x2 : Vec F S256x128 .bf16) (x3 : Vec F S4096x128 .bf16) (x4 : Vec F S4096x128 .f32) (E : Set ℕ) (K : Unit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare (outs (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4).1 ∗ owns (c : Thread nD τ) arg6 fullShare (outs (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4).2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hc1 : k0_cond1 i = 1#1
  · have e : outs (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 = _ := dif_pos hc1
    rw [e]
    dsimp only
    iintro ⟨H2, H3, H4, H5, H6, H7, H8, H9, H10, H11, H12, H13, H14, H15, H16, Hk⟩
    iapply ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4).2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H2, H3, H4, ⟨%g5, H5⟩, ⟨%g6, H6⟩, H7, H8, H9, H10, H11, H12, H13, H14, H15, H16⟩
    iapply Hk
    isplitl [H2]
    · iexact H2
    isplitl [H3]
    · iexact H3
    isplitl [H4]
    · iexact H4
    isplitl [H5]
    · unfold owns; iexists _; isplitr
      swap; · iexact H5
      ipureintro; exact View.read_writes_eq_canon _ _ _ (coverA0_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4)
    isplitl [H6]
    · unfold owns; iexists _; isplitr
      swap; · iexact H6
      ipureintro; exact View.read_writes_eq_canon _ _ _ (coverA0_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4)
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    iexact H16
  · have e : outs (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 = _ := dif_neg hc1
    rw [e]
    dsimp only
    iintro ⟨H2, H3, H4, H5, H6, H7, H8, H9, H10, H11, H12, H13, H14, H15, H16, Hk⟩
    iapply ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (cond2_of_not i hc1) x2 x3 x4).2.2.2.2.2.2.2.2.2.2.2.2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold inv
    iintro ⟨H2, H3, H4, H5, H6, H7, H8, H9, H10, H11, H12, H13, H14, H15, H16⟩
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexists _; iexact H9
    isplitl [H10]
    · iexists _; iexact H10
    isplitl [H11]
    · iexact H11
    isplitl [H12]
    · iexact H12
    isplitl [H13]
    · iexists _; iexact H13
    isplitl [H14]
    · iexists _; iexact H14
    isplitl [H15]
    · iexact H15
    iexists _; iexact H16

end Body

end Cert.Proof.Attn

end
-- ==== Proof.AttnFrame.lean ====
module

public import proofs.«01_k».proof.Proof.Gen.AttnFwdIdeal.Loops
public import proofs.«01_k».proof.Proof.Gen.AttnFwdIdeal.Frame
public import proofs.«01_k».proof.Proof.AttnBody
public import Idealize.ShloMosaic.Lib.Claim

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two outputs of point `t`. -/
def outsAt (c : Dev nD) (t : Fin cfg0.N) : Vec F S256x128 .f32 × Vec F S256x128 .f32 :=
  outs (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t)

/-- The proof data of the pipeline: the arrays as launched, the inputs' blocks and the two outputs after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t).1
    | ⟨4, _⟩ => (outsAt m c t).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t).1 := by dsimp only [dats]
theorem after4 (c : Dev nD) (t : Fin cfg0.N) : (dats m 0 c).after 4 t = (outsAt m c t).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Both outputs are stored at every point. -/
theorem live3 : ∀ t : Fin cfg0.N, cfg0.idle 3 (grid0.coords t) = false := by decide +kernel
theorem live4 : ∀ t : Fin cfg0.N, cfg0.idle 4 (grid0.coords t) = false := by decide +kernel

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
    rfl, after0]
  rw [show (dats m 0 c).leavesExact 1 t = owns (c : Thread nD τ) (st0_1 t) fullShare ((dats m 0 c).after 1 t) from by
    rfl, after1]
  rw [show (dats m 0 c).leavesExact 2 t = owns (c : Thread nD τ) (st0_2 t) fullShare ((dats m 0 c).after 2 t) from by
    rfl, after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).Φ t.castSucc = iprop(Pipeline.scopedRest (Ix := Unit) (Name := ℕ) (U := UR sig nD τ) (Lvl := ℕ) (Val := Elt F) spec0 c ∗ ∃ r, prngReg c r) from rfl, scopedRest0_eq]
  simp only [← owns_whole]
  unfold outsAt
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hp⟩, Ho, ⟨%d0, H0⟩, ⟨%d1, H1⟩, ⟨%d2, H2⟩, ⟨%d3, H3⟩, ⟨%d4, H4⟩⟩
  iapply (run_body (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  iintro ⟨H0, H1, H2, H3, H4, S0, S1, S2, S3, S4, S5, S6, S7, S8, S9⟩
  isplitl [S0 S1 S2 S3 S4 S5 S6 S7 S8 S9 Hp]
  · isplitr [Hp]
    swap; · iexact Hp
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every fair execution ends, every array at what the library computes from the proof data, the counters zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every fair execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.Attn

end
-- ==== Proof.AttnTidy.lean ====
module

public import proofs.«01_k».proof.Proof.Gen.AttnFwdIdeal.Loops
public import proofs.«01_k».proof.Proof.Gen.AttnFwdIdeal.Frame

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! A block of 256 rows is worked on in eight strips of 32 rows. -/

/-- Eight strips of a block. -/
structure Strips (α : Type) where
  /-- rows 0 to 31 -/
  s0 : S32x256.Idx → α
  /-- rows 32 to 63 -/
  s1 : S32x256.Idx → α
  /-- rows 64 to 95 -/
  s2 : S32x256.Idx → α
  /-- rows 96 to 127 -/
  s3 : S32x256.Idx → α
  /-- rows 128 to 159 -/
  s4 : S32x256.Idx → α
  /-- rows 160 to 191 -/
  s5 : S32x256.Idx → α
  /-- rows 192 to 223 -/
  s6 : S32x256.Idx → α
  /-- rows 224 to 255 -/
  s7 : S32x256.Idx → α

/-- The strips of a block, loaded. -/
def ldStrips {e : EltTy} (x : Vec F S256x256 e) : Strips (Elt F e) :=
  ⟨View.ld x (Rect.unit (s := S256x256) ![0, 0] S32x256.size inb_S256x256_S32x256_0_0),
   View.ld x (Rect.unit (s := S256x256) ![32, 0] S32x256.size inb_S256x256_S32x256_32_0),
   View.ld x (Rect.unit (s := S256x256) ![64, 0] S32x256.size inb_S256x256_S32x256_64_0),
   View.ld x (Rect.unit (s := S256x256) ![96, 0] S32x256.size inb_S256x256_S32x256_96_0),
   View.ld x (Rect.unit (s := S256x256) ![128, 0] S32x256.size inb_S256x256_S32x256_128_0),
   View.ld x (Rect.unit (s := S256x256) ![160, 0] S32x256.size inb_S256x256_S32x256_160_0),
   View.ld x (Rect.unit (s := S256x256) ![192, 0] S32x256.size inb_S256x256_S32x256_192_0),
   View.ld x (Rect.unit (s := S256x256) ![224, 0] S32x256.size inb_S256x256_S32x256_224_0)⟩

/-- The strips of a buffer after the writes `L`. -/
def covStrips (arg : Memref sig .tc .vmem S256x256 .f32) (L : List (View.Piece (Elt F) S256x256 .f32)) : Strips (Elt F .f32) :=
  ⟨arg.view.readCov L (Rect.unit (s := S256x256) ![0, 0] S32x256.size inb_S256x256_S32x256_0_0).toLoadRect,
   arg.view.readCov L (Rect.unit (s := S256x256) ![32, 0] S32x256.size inb_S256x256_S32x256_32_0).toLoadRect,
   arg.view.readCov L (Rect.unit (s := S256x256) ![64, 0] S32x256.size inb_S256x256_S32x256_64_0).toLoadRect,
   arg.view.readCov L (Rect.unit (s := S256x256) ![96, 0] S32x256.size inb_S256x256_S32x256_96_0).toLoadRect,
   arg.view.readCov L (Rect.unit (s := S256x256) ![128, 0] S32x256.size inb_S256x256_S32x256_128_0).toLoadRect,
   arg.view.readCov L (Rect.unit (s := S256x256) ![160, 0] S32x256.size inb_S256x256_S32x256_160_0).toLoadRect,
   arg.view.readCov L (Rect.unit (s := S256x256) ![192, 0] S32x256.size inb_S256x256_S32x256_192_0).toLoadRect,
   arg.view.readCov L (Rect.unit (s := S256x256) ![224, 0] S32x256.size inb_S256x256_S32x256_224_0).toLoadRect⟩

/-- The strips of a buffer whose contents are `f`. -/
def atStrips (arg : Memref sig .tc .vmem S256x256 .f32) (f : arg.view.ty.Contents (Elt F)) : Strips (Elt F .f32) :=
  ⟨View.readAt (Elt F) arg.view (Rect.unit (s := S256x256) ![0, 0] S32x256.size inb_S256x256_S32x256_0_0).toLoadRect f,
   View.readAt (Elt F) arg.view (Rect.unit (s := S256x256) ![32, 0] S32x256.size inb_S256x256_S32x256_32_0).toLoadRect f,
   View.readAt (Elt F) arg.view (Rect.unit (s := S256x256) ![64, 0] S32x256.size inb_S256x256_S32x256_64_0).toLoadRect f,
   View.readAt (Elt F) arg.view (Rect.unit (s := S256x256) ![96, 0] S32x256.size inb_S256x256_S32x256_96_0).toLoadRect f,
   View.readAt (Elt F) arg.view (Rect.unit (s := S256x256) ![128, 0] S32x256.size inb_S256x256_S32x256_128_0).toLoadRect f,
   View.readAt (Elt F) arg.view (Rect.unit (s := S256x256) ![160, 0] S32x256.size inb_S256x256_S32x256_160_0).toLoadRect f,
   View.readAt (Elt F) arg.view (Rect.unit (s := S256x256) ![192, 0] S32x256.size inb_S256x256_S32x256_192_0).toLoadRect f,
   View.readAt (Elt F) arg.view (Rect.unit (s := S256x256) ![224, 0] S32x256.size inb_S256x256_S32x256_224_0).toLoadRect f⟩

/-- Loaded from the contents that hold `x`, they are the strips of `x`. -/
theorem atStrips_unread (arg : Memref sig .tc .vmem S256x256 .f32) (harg : arg.IsWhole) (x : Vec F S256x256 .f32) :
    atStrips arg (harg.unread x) = ldStrips x := by
  simp only [atStrips, ldStrips, View.readAt_eq_ld, harg.read_unread]

/-- The log beta of a strip of logits. -/
def lbS (z : FVec F S32x256 .f32) : FVec F S32x256 .f32 :=
  subf (minimumf z (broadcast S32x256 (Scalar.ofBits .f32 0x00000000#32)))
    (log (addf (broadcast S32x256 (Scalar.ofBits .f32 0x3F800000#32))
      (exp (subf (broadcast S32x256 (Scalar.ofBits .f32 0x00000000#32)) (absf z)))))

/-- The log of one minus beta of a strip of logits. -/
def l1S (z : FVec F S32x256 .f32) : FVec F S32x256 .f32 := subf (lbS z) z

/-- The log betas of a block of logits. -/
def lbs (z : FVec F S256x256 .f32) : Strips (F .f32) :=
  ⟨lbS (extractStridedSlice S32x256 ![0, 0] z slices_S256x256_o0_0_S32x256),
   lbS (extractStridedSlice S32x256 ![32, 0] z slices_S256x256_o32_0_S32x256),
   lbS (extractStridedSlice S32x256 ![64, 0] z slices_S256x256_o64_0_S32x256),
   lbS (extractStridedSlice S32x256 ![96, 0] z slices_S256x256_o96_0_S32x256),
   lbS (extractStridedSlice S32x256 ![128, 0] z slices_S256x256_o128_0_S32x256),
   lbS (extractStridedSlice S32x256 ![160, 0] z slices_S256x256_o160_0_S32x256),
   lbS (extractStridedSlice S32x256 ![192, 0] z slices_S256x256_o192_0_S32x256),
   lbS (extractStridedSlice S32x256 ![224, 0] z slices_S256x256_o224_0_S32x256)⟩

/-- The logs of one minus beta of a block of logits. -/
def l1s (z : FVec F S256x256 .f32) : Strips (F .f32) :=
  ⟨l1S (extractStridedSlice S32x256 ![0, 0] z slices_S256x256_o0_0_S32x256),
   l1S (extractStridedSlice S32x256 ![32, 0] z slices_S256x256_o32_0_S32x256),
   l1S (extractStridedSlice S32x256 ![64, 0] z slices_S256x256_o64_0_S32x256),
   l1S (extractStridedSlice S32x256 ![96, 0] z slices_S256x256_o96_0_S32x256),
   l1S (extractStridedSlice S32x256 ![128, 0] z slices_S256x256_o128_0_S32x256),
   l1S (extractStridedSlice S32x256 ![160, 0] z slices_S256x256_o160_0_S32x256),
   l1S (extractStridedSlice S32x256 ![192, 0] z slices_S256x256_o192_0_S32x256),
   l1S (extractStridedSlice S32x256 ![224, 0] z slices_S256x256_o224_0_S32x256)⟩

/-- The same where `m` holds, zero elsewhere. -/
def l1d (m : IVec S256x256 1) (z : FVec F S256x256 .f32) : Strips (F .f32) :=
  ⟨select (extractStridedSlice S32x256 ![0, 0] m slices_S256x256_o0_0_S32x256) (l1S (extractStridedSlice S32x256 ![0, 0] z slices_S256x256_o0_0_S32x256)) (broadcast S32x256 (Scalar.ofBits .f32 0x00000000#32)),
   select (extractStridedSlice S32x256 ![32, 0] m slices_S256x256_o32_0_S32x256) (l1S (extractStridedSlice S32x256 ![32, 0] z slices_S256x256_o32_0_S32x256)) (broadcast S32x256 (Scalar.ofBits .f32 0x00000000#32)),
   select (extractStridedSlice S32x256 ![64, 0] m slices_S256x256_o64_0_S32x256) (l1S (extractStridedSlice S32x256 ![64, 0] z slices_S256x256_o64_0_S32x256)) (broadcast S32x256 (Scalar.ofBits .f32 0x00000000#32)),
   select (extractStridedSlice S32x256 ![96, 0] m slices_S256x256_o96_0_S32x256) (l1S (extractStridedSlice S32x256 ![96, 0] z slices_S256x256_o96_0_S32x256)) (broadcast S32x256 (Scalar.ofBits .f32 0x00000000#32)),
   select (extractStridedSlice S32x256 ![128, 0] m slices_S256x256_o128_0_S32x256) (l1S (extractStridedSlice S32x256 ![128, 0] z slices_S256x256_o128_0_S32x256)) (broadcast S32x256 (Scalar.ofBits .f32 0x00000000#32)),
   select (extractStridedSlice S32x256 ![160, 0] m slices_S256x256_o160_0_S32x256) (l1S (extractStridedSlice S32x256 ![160, 0] z slices_S256x256_o160_0_S32x256)) (broadcast S32x256 (Scalar.ofBits .f32 0x00000000#32)),
   select (extractStridedSlice S32x256 ![192, 0] m slices_S256x256_o192_0_S32x256) (l1S (extractStridedSlice S32x256 ![192, 0] z slices_S256x256_o192_0_S32x256)) (broadcast S32x256 (Scalar.ofBits .f32 0x00000000#32)),
   select (extractStridedSlice S32x256 ![224, 0] m slices_S256x256_o224_0_S32x256) (l1S (extractStridedSlice S32x256 ![224, 0] z slices_S256x256_o224_0_S32x256)) (broadcast S32x256 (Scalar.ofBits .f32 0x00000000#32))⟩

/-- The writes of eight strips. -/
def lbList (a : Strips (F .f32)) : List (View.Piece (Elt F) S256x256 .f32) :=
  [⟨Rect.unit (s := S256x256) ![224, 0] S32x256.size inb_S256x256_S32x256_224_0, shapeCast S32x256 a.s7 shapeCasts_S32x256_S32x256⟩,
   ⟨Rect.unit (s := S256x256) ![192, 0] S32x256.size inb_S256x256_S32x256_192_0, shapeCast S32x256 a.s6 shapeCasts_S32x256_S32x256⟩,
   ⟨Rect.unit (s := S256x256) ![160, 0] S32x256.size inb_S256x256_S32x256_160_0, shapeCast S32x256 a.s5 shapeCasts_S32x256_S32x256⟩,
   ⟨Rect.unit (s := S256x256) ![128, 0] S32x256.size inb_S256x256_S32x256_128_0, shapeCast S32x256 a.s4 shapeCasts_S32x256_S32x256⟩,
   ⟨Rect.unit (s := S256x256) ![96, 0] S32x256.size inb_S256x256_S32x256_96_0, shapeCast S32x256 a.s3 shapeCasts_S32x256_S32x256⟩,
   ⟨Rect.unit (s := S256x256) ![64, 0] S32x256.size inb_S256x256_S32x256_64_0, shapeCast S32x256 a.s2 shapeCasts_S32x256_S32x256⟩,
   ⟨Rect.unit (s := S256x256) ![32, 0] S32x256.size inb_S256x256_S32x256_32_0, shapeCast S32x256 a.s1 shapeCasts_S32x256_S32x256⟩,
   ⟨Rect.unit (s := S256x256) ![0, 0] S32x256.size inb_S256x256_S32x256_0_0, shapeCast S32x256 a.s0 shapeCasts_S32x256_S32x256⟩]

/-- The row sums of a strip along every lane. -/
def rowSum (l : FVec F S32x256 .f32) : FVec F S32x128 .f32 :=
  broadcastTo S32x128 (shapeCast S32x1 (shapeCast S32x1
    (multiReduction .add [1] S32 l 0x00000000#32 reduces_S32x256_S32 (.inl rfl) rfl) shapeCasts_S32_S32x1)
      shapeCasts_S32x1_S32x1) broadcasts_S32x1_S32x128

/-- The row sums of the second head beside those of the first. -/
def sumS (v2 : IVec S1x128 1) (p : Vec F S32x128 .f32) (l : FVec F S32x256 .f32) : FVec F S32x128 .f32 :=
  shapeCast S32x128 (select (broadcastTo S32x128 (shapeCast S1x128 v2 shapeCasts_S1x128_S1x128) broadcasts_S1x128_S32x128) p (rowSum l))
    shapeCasts_S32x128_S32x128

/-- The writes of the first head's row sums. -/
def sumList0 (a : Strips (F .f32)) : List (View.Piece (Elt F) S256x128 .f32) :=
  [⟨Rect.unit (s := S256x128) ![224, 0] S32x128.size inb_S256x128_S32x128_224_0, shapeCast S32x128 (rowSum a.s7) shapeCasts_S32x128_S32x128⟩,
   ⟨Rect.unit (s := S256x128) ![192, 0] S32x128.size inb_S256x128_S32x128_192_0, shapeCast S32x128 (rowSum a.s6) shapeCasts_S32x128_S32x128⟩,
   ⟨Rect.unit (s := S256x128) ![160, 0] S32x128.size inb_S256x128_S32x128_160_0, shapeCast S32x128 (rowSum a.s5) shapeCasts_S32x128_S32x128⟩,
   ⟨Rect.unit (s := S256x128) ![128, 0] S32x128.size inb_S256x128_S32x128_128_0, shapeCast S32x128 (rowSum a.s4) shapeCasts_S32x128_S32x128⟩,
   ⟨Rect.unit (s := S256x128) ![96, 0] S32x128.size inb_S256x128_S32x128_96_0, shapeCast S32x128 (rowSum a.s3) shapeCasts_S32x128_S32x128⟩,
   ⟨Rect.unit (s := S256x128) ![64, 0] S32x128.size inb_S256x128_S32x128_64_0, shapeCast S32x128 (rowSum a.s2) shapeCasts_S32x128_S32x128⟩,
   ⟨Rect.unit (s := S256x128) ![32, 0] S32x128.size inb_S256x128_S32x128_32_0, shapeCast S32x128 (rowSum a.s1) shapeCasts_S32x128_S32x128⟩,
   ⟨Rect.unit (s := S256x128) ![0, 0] S32x128.size inb_S256x128_S32x128_0_0, shapeCast S32x128 (rowSum a.s0) shapeCasts_S32x128_S32x128⟩]

/-- Both heads' row sums. -/
def sumList (arg : Memref sig .tc .vmem S256x128 .f32) (v2 : IVec S1x128 1) (a b : Strips (F .f32)) :
    List (View.Piece (Elt F) S256x128 .f32) :=
  let L1 : List (View.Piece (Elt F) S256x128 .f32) := ⟨Rect.unit (s := S256x128) ![0, 0] S32x128.size inb_S256x128_S32x128_0_0, sumS v2 (arg.view.readCov (sumList0 a) (Rect.unit (s := S256x128) ![0, 0] S32x128.size inb_S256x128_S32x128_0_0).toLoadRect) b.s0⟩ :: (sumList0 a)
  let L2 : List (View.Piece (Elt F) S256x128 .f32) := ⟨Rect.unit (s := S256x128) ![32, 0] S32x128.size inb_S256x128_S32x128_32_0, sumS v2 (arg.view.readCov L1 (Rect.unit (s := S256x128) ![32, 0] S32x128.size inb_S256x128_S32x128_32_0).toLoadRect) b.s1⟩ :: L1
  let L3 : List (View.Piece (Elt F) S256x128 .f32) := ⟨Rect.unit (s := S256x128) ![64, 0] S32x128.size inb_S256x128_S32x128_64_0, sumS v2 (arg.view.readCov L2 (Rect.unit (s := S256x128) ![64, 0] S32x128.size inb_S256x128_S32x128_64_0).toLoadRect) b.s2⟩ :: L2
  let L4 : List (View.Piece (Elt F) S256x128 .f32) := ⟨Rect.unit (s := S256x128) ![96, 0] S32x128.size inb_S256x128_S32x128_96_0, sumS v2 (arg.view.readCov L3 (Rect.unit (s := S256x128) ![96, 0] S32x128.size inb_S256x128_S32x128_96_0).toLoadRect) b.s3⟩ :: L3
  let L5 : List (View.Piece (Elt F) S256x128 .f32) := ⟨Rect.unit (s := S256x128) ![128, 0] S32x128.size inb_S256x128_S32x128_128_0, sumS v2 (arg.view.readCov L4 (Rect.unit (s := S256x128) ![128, 0] S32x128.size inb_S256x128_S32x128_128_0).toLoadRect) b.s4⟩ :: L4
  let L6 : List (View.Piece (Elt F) S256x128 .f32) := ⟨Rect.unit (s := S256x128) ![160, 0] S32x128.size inb_S256x128_S32x128_160_0, sumS v2 (arg.view.readCov L5 (Rect.unit (s := S256x128) ![160, 0] S32x128.size inb_S256x128_S32x128_160_0).toLoadRect) b.s5⟩ :: L5
  let L7 : List (View.Piece (Elt F) S256x128 .f32) := ⟨Rect.unit (s := S256x128) ![192, 0] S32x128.size inb_S256x128_S32x128_192_0, sumS v2 (arg.view.readCov L6 (Rect.unit (s := S256x128) ![192, 0] S32x128.size inb_S256x128_S32x128_192_0).toLoadRect) b.s6⟩ :: L6
  let L8 : List (View.Piece (Elt F) S256x128 .f32) := ⟨Rect.unit (s := S256x128) ![224, 0] S32x128.size inb_S256x128_S32x128_224_0, sumS v2 (arg.view.readCov L7 (Rect.unit (s := S256x128) ![224, 0] S32x128.size inb_S256x128_S32x128_224_0).toLoadRect) b.s7⟩ :: L7
  L8

/-- The tails of a block: the strips' sums over the later keys of the block. -/
def tailOf (v10 : FVec F S256x256 .bf16) (a : Strips (F .f32)) : FVec F S256x256 .f32 :=
  shapeCast S256x256 (matmul dot_S256x256_S256x256_S256x256_1_0_0_1_n_n none
    (concatenate S256x256 0 [⟨S32x256, truncf .bf16 a.s0 bitsLt_bf16_f32⟩, ⟨S32x256, truncf .bf16 a.s1 bitsLt_bf16_f32⟩, ⟨S32x256, truncf .bf16 a.s2 bitsLt_bf16_f32⟩, ⟨S32x256, truncf .bf16 a.s3 bitsLt_bf16_f32⟩, ⟨S32x256, truncf .bf16 a.s4 bitsLt_bf16_f32⟩, ⟨S32x256, truncf .bf16 a.s5 bitsLt_bf16_f32⟩, ⟨S32x256, truncf .bf16 a.s6 bitsLt_bf16_f32⟩, ⟨S32x256, truncf .bf16 a.s7 bitsLt_bf16_f32⟩] concatenates_S32x256_S32x256_S32x256_S32x256_S32x256_S32x256_S32x256_S32x256_S256x256_d0)
    v10 (constant S256x256 .f32 0x00000000#32)) shapeCasts_S256x256_S256x256

/-- The write of a block's tails. -/
def tailList (v10 : FVec F S256x256 .bf16) (a : Strips (F .f32)) : List (View.Piece (Elt F) S256x256 .f32) :=
  [⟨Rect.unit ![0, 0] S256x256.size inb_S256x256_S256x256_0_0, tailOf v10 a⟩]

/-- The weights of a strip. -/
def wS (l t : FVec F S32x256 .f32) : FVec F S32x256 .bf16 := truncf .bf16 (exp (addf l t)) bitsLt_bf16_f32

/-- The weights of a block, from its log betas and its tails. -/
def wts (l t : Strips (F .f32)) : Strips (F .bf16) :=
  ⟨wS l.s0 t.s0, wS l.s1 t.s1, wS l.s2 t.s2, wS l.s3 t.s3, wS l.s4 t.s4, wS l.s5 t.s5, wS l.s6 t.s6, wS l.s7 t.s7⟩

/-- The weights of the block on the diagonal: zero where `m` fails. -/
def wtsD (m : IVec S256x256 1) (l t : Strips (F .f32)) : Strips (F .bf16) :=
  ⟨truncf .bf16 (select (extractStridedSlice S32x256 ![0, 0] m slices_S256x256_o0_0_S32x256) (exp (addf l.s0 t.s0)) (broadcast S32x256 (Scalar.ofBits .f32 0x00000000#32))) bitsLt_bf16_f32,
   truncf .bf16 (select (extractStridedSlice S32x256 ![32, 0] m slices_S256x256_o32_0_S32x256) (exp (addf l.s1 t.s1)) (broadcast S32x256 (Scalar.ofBits .f32 0x00000000#32))) bitsLt_bf16_f32,
   truncf .bf16 (select (extractStridedSlice S32x256 ![64, 0] m slices_S256x256_o64_0_S32x256) (exp (addf l.s2 t.s2)) (broadcast S32x256 (Scalar.ofBits .f32 0x00000000#32))) bitsLt_bf16_f32,
   truncf .bf16 (select (extractStridedSlice S32x256 ![96, 0] m slices_S256x256_o96_0_S32x256) (exp (addf l.s3 t.s3)) (broadcast S32x256 (Scalar.ofBits .f32 0x00000000#32))) bitsLt_bf16_f32,
   truncf .bf16 (select (extractStridedSlice S32x256 ![128, 0] m slices_S256x256_o128_0_S32x256) (exp (addf l.s4 t.s4)) (broadcast S32x256 (Scalar.ofBits .f32 0x00000000#32))) bitsLt_bf16_f32,
   truncf .bf16 (select (extractStridedSlice S32x256 ![160, 0] m slices_S256x256_o160_0_S32x256) (exp (addf l.s5 t.s5)) (broadcast S32x256 (Scalar.ofBits .f32 0x00000000#32))) bitsLt_bf16_f32,
   truncf .bf16 (select (extractStridedSlice S32x256 ![192, 0] m slices_S256x256_o192_0_S32x256) (exp (addf l.s6 t.s6)) (broadcast S32x256 (Scalar.ofBits .f32 0x00000000#32))) bitsLt_bf16_f32,
   truncf .bf16 (select (extractStridedSlice S32x256 ![224, 0] m slices_S256x256_o224_0_S32x256) (exp (addf l.s7 t.s7)) (broadcast S32x256 (Scalar.ofBits .f32 0x00000000#32))) bitsLt_bf16_f32⟩

/-- The weights times the values. -/
def pvOf (w : Strips (F .bf16)) (v : FVec F S256x128 .f32) : FVec F S256x128 .f32 :=
  matmul dot_S256x256_S256x128_S256x128_1_0_0_1_n_n none
    (concatenate S256x256 0 [⟨S32x256, w.s0⟩, ⟨S32x256, w.s1⟩, ⟨S32x256, w.s2⟩, ⟨S32x256, w.s3⟩, ⟨S32x256, w.s4⟩, ⟨S32x256, w.s5⟩, ⟨S32x256, w.s6⟩, ⟨S32x256, w.s7⟩] concatenates_S32x256_S32x256_S32x256_S32x256_S32x256_S32x256_S32x256_S32x256_S256x256_d0)
    (truncf .bf16 v bitsLt_bf16_f32) (constant S256x128 .f32 0x00000000#32)

/-- The two heads' products side by side. -/
def attOf (v2 : IVec S1x128 1) (w0 w1 : Strips (F .bf16)) (v : FVec F S256x128 .f32) : FVec F S256x128 .f32 :=
  select (broadcastTo S256x128 (shapeCast S1x128 v2 shapeCasts_S1x128_S1x128) broadcasts_S1x128_S256x128) (pvOf w0 v) (pvOf w1 v)

/-- The output after one more block. -/
def addO (p o t : FVec F S256x128 .f32) : FVec F S256x128 .f32 :=
  addf (shapeCast S256x128 o shapeCasts_S256x128_S256x128)
    (mulf p (exp (shapeCast S256x128 t shapeCasts_S256x128_S256x128)))

/-- The running row sums after one more block. -/
def addT (t s : FVec F S256x128 .f32) : FVec F S256x128 .f32 :=
  addf (shapeCast S256x128 t shapeCasts_S256x128_S256x128) s

/-- Half a head's logits of one block of keys. -/
def zOf (q k : FVec F S256x128 .bf16) : FVec F S256x256 .f32 :=
  matmul dot_S256x128_S256x128_S256x256_1_1_0_0_n_n none q k (constant S256x256 .f32 0x00000000#32)

end Cert.Proof.Attn

end
-- ==== Proof.AttnPoint.lean ====
/-
  The strips of a block of the attention, read back as the strips of one array.
-/
module

public import proofs.«01_k».proof.Proof.AttnTidy
public import proofs.«01_k».proof.Proof.Dots
public import Idealize.ShloMosaic.Lib.Pipeline.ReadBack
public import Idealize.ShloMosaic.Lib.Pipeline.ValueKit.Tiles
public import Idealize.ShloMosaic.Lib.IdealHost
public import Idealize.ShloMosaic.Lib.WordCmp

@[expose] public section

set_option maxRecDepth 16384

noncomputable section

namespace Cert.Proof.Attn

open Cert.AttnFwdIdeal Cert.AttnFwdIdeal.Gen
open Idealize.ShloMosaic Idealize.ShloMosaic.ValueIdx
open Idealize.SL Idealize.SL.RA

/-- A block of 256 by 256 extended reals. -/
abbrev Blk := S256x256.Idx → EReal
/-- A block of 256 by 128 extended reals. -/
abbrev Blk2 := S256x128.Idx → EReal

/-- The log of the logistic function, as the kernel writes it. -/
def lbE (z : EReal) : EReal := min z 0 - Ideal.log (1 + Ideal.exp (0 - max z (-z)))

/-- The log of one minus the logistic function. -/
def l1E (z : EReal) : EReal := lbE z - z

/-- The strips of an array of extended reals. -/
def st (G : Blk) : Strips EReal := ldStrips (F := Ideal) (e := .f32) G

theorem lbS_apply (z : FVec Ideal S32x256 .f32) (x : S32x256.Idx) : lbS (F := Ideal) z x = lbE (z x) := by
  show min (z x) (Ideal.ofBits .f32 0x00000000#32) - Ideal.log (Ideal.ofBits .f32 0x3F800000#32 + Ideal.exp (Ideal.ofBits .f32 0x00000000#32 - max (z x) (-(z x)))) = _
  rw [Ideal.ofBits_zero_f32, Ideal.ofBits_one_f32]
  rfl

theorem l1S_apply (z : FVec Ideal S32x256 .f32) (x : S32x256.Idx) : l1S (F := Ideal) z x = l1E (z x) := by
  show lbS (F := Ideal) z x - z x = _
  rw [lbS_apply]
  rfl

/-- A slice of 32 rows is the load of those rows. -/
theorem slice_ld {α : Type} (n : ℕ) (x : S256x256.Idx → α) (h : S256x256.Slices ![n, 0] S32x256) (inb) (y : S32x256.Idx) :
    extractStridedSlice S32x256 ![n, 0] x h y = x ((Rect.unit (s := S256x256) ![n, 0] S32x256.size inb).idx y) := by
  refine extractStridedSlice_apply _ _ _ _ _ fun a => ?_
  exact Rect.idx_unit_val _ _ _ _ _

/-- The log betas' strips. -/
theorem lbs_eq (z : FVec Ideal S256x256 .f32) : lbs (F := Ideal) z = st fun y => lbE (z y) := by
  unfold lbs st ldStrips
  congr 1 <;> · funext x; exact (lbS_apply _ x).trans (congrArg lbE (slice_ld _ _ _ _ x))

/-- The strips of the logs of one minus beta. -/
theorem l1s_eq (z : FVec Ideal S256x256 .f32) : l1s (F := Ideal) z = st fun y => l1E (z y) := by
  unfold l1s st ldStrips
  congr 1 <;> · funext x; exact (l1S_apply _ x).trans (congrArg l1E (slice_ld _ _ _ _ x))

/-- The same under a mask. -/
theorem l1d_eq (m : IVec S256x256 1) (z : FVec Ideal S256x256 .f32) :
    l1d (F := Ideal) m z = st fun y => Scalar.select (m y) (l1E (z y)) 0 := by
  have key : ∀ (n : ℕ) (h : S256x256.Slices ![n, 0] S32x256) (inb) (x : S32x256.Idx),
      select (extractStridedSlice S32x256 ![n, 0] m h) (l1S (F := Ideal) (extractStridedSlice S32x256 ![n, 0] z h))
        (broadcast S32x256 (Scalar.ofBits (F := Ideal) .f32 0x00000000#32)) x
      = Scalar.select (m ((Rect.unit (s := S256x256) ![n, 0] S32x256.size inb).idx x))
          (l1E (z ((Rect.unit (s := S256x256) ![n, 0] S32x256.size inb).idx x))) (0 : EReal) := by
    intro n h inb x
    rw [select_apply, slice_ld n m h inb, l1S_apply, slice_ld n z h inb]
    exact congrArg _ Ideal.ofBits_zero_f32
  unfold l1d st ldStrips
  congr 1 <;> · funext x; exact key _ _ _ x

/-- The weights' strips. -/
theorem wts_eq (A B : Blk) : wts (F := Ideal) (st A) (st B) = st fun y => Ideal.exp (A y + B y) := rfl

/-- The weights' strips under a mask. -/
theorem wtsD_eq (m : IVec S256x256 1) (A B : Blk) :
    wtsD (F := Ideal) m (st A) (st B) = st fun y => Scalar.select (m y) (Ideal.exp (A y + B y)) 0 := by
  have key : ∀ (n : ℕ) (h : S256x256.Slices ![n, 0] S32x256) (inb) (x : S32x256.Idx) (u : FVec Ideal S32x256 .f32),
      select (extractStridedSlice S32x256 ![n, 0] m h) u
        (broadcast S32x256 (Scalar.ofBits (F := Ideal) .f32 0x00000000#32)) x
      = Scalar.select (m ((Rect.unit (s := S256x256) ![n, 0] S32x256.size inb).idx x)) (u x) (0 : EReal) := by
    intro n h inb x u
    rw [select_apply, slice_ld n m h inb]
    exact congrArg _ Ideal.ofBits_zero_f32
  unfold wtsD st ldStrips
  congr 1 <;> · funext x; exact key _ _ _ x _

/-- Strips written and read back. -/
theorem covStrips_eq (arg : Memref sig .tc .vmem S256x256 .f32) (L : List (View.Piece (Elt Ideal) S256x256 .f32)) (G : Blk)
    (h : View.canon L = G) : covStrips (F := Ideal) arg L = st G := by
  unfold covStrips st ldStrips
  subst h
  congr 1 <;> exact View.readCov_eq_canon' _ _ _

theorem atStrips_eq (arg : Memref sig .tc .vmem S256x256 .f32) (harg : arg.IsWhole) (x : Blk) :
    atStrips (F := Ideal) arg (harg.unread (Val := Elt Ideal) x) = st x := atStrips_unread (F := Ideal) arg harg x

/-- Eight strips written are the array. -/
theorem canon_lbList (G : Blk) : View.canon (lbList (F := Ideal) (st G)) = G := by
  funext y
  have hc : ∃ p ∈ lbList (F := Ideal) (st G), y ∈ p.1.set := View.cover_of_tiledL (lbList (F := Ideal) (st G)) S32x256.size (by sl_kernel_rfl) y
  refine (congrArg (fun L => View.canon L y) (List.append_nil _).symm).trans
    (View.canon_append_of_piecesOf (Val := Elt Ideal) (e := .f32) G [] (lbList (F := Ideal) (st G)) ?_ y hc)
  refine ⟨?_, ?_, ?_, ?_, ?_, ?_, ?_, ?_, trivial⟩ <;> · intro x; rw [shapeCast_self]; rfl

/-- One full write is what is written. -/
theorem canon_tailList (v10 : FVec Ideal S256x256 .bf16) (a : Strips EReal) :
    View.canon (tailList (F := Ideal) v10 a) = tailOf (F := Ideal) v10 a :=
  View.canon_unit_zero (S := S256x256) (off := ![0, 0]) (by funext a; fin_cases a <;> rfl) _ _

theorem cat_inb (n : Fin 8) (a : Fin S256x256.rank) : (![32 * n.val, 0] : Fin 2 → ℕ) a + S32x256.size a ≤ S256x256.size a := by
  have := n.isLt
  match a with
  | ⟨0, _⟩ => show 32 * n.val + 32 ≤ 256; omega
  | ⟨1, _⟩ => show 0 + 256 ≤ 256; omega

/-- Eight strips side by side are the array. -/
theorem cat_apply (G : Blk) (h) (r c : Fin 256) :
    concatenate S256x256 0 [⟨S32x256, (st G).s0⟩, ⟨S32x256, (st G).s1⟩, ⟨S32x256, (st G).s2⟩, ⟨S32x256, (st G).s3⟩, ⟨S32x256, (st G).s4⟩, ⟨S32x256, (st G).s5⟩, ⟨S32x256, (st G).s6⟩, ⟨S32x256, (st G).s7⟩] h (ix2 r c) = G (ix2 r c) := by
  have hr := r.isLt
  refine (concatenate_ofFn_apply (t := S256x256) (s₁ := S32x256) 0 (N := 8)
    (fun n => View.ld (Val := Elt Ideal) (e' := .f32) G (Rect.unit (s := S256x256) ![32 * n.val, 0] S32x256.size (cat_inb n))) h rfl 32 rfl (ix2 r c)
    ⟨r.val / 32, by omega⟩ rfl (ix2 ⟨r.val % 32, Nat.mod_lt _ (by norm_num)⟩ c) rfl ?_).trans ?_
  · intro b hb
    match b with
    | ⟨0, _⟩ => exact absurd rfl hb
    | ⟨1, _⟩ => rfl
  · refine congrArg G (funext fun a => Fin.ext ?_)
    refine (Rect.idx_unit_val _ _ _ _ _).trans ?_
    match a with
    | ⟨0, _⟩ => exact Nat.div_add_mod r.val 32
    | ⟨1, _⟩ => exact Nat.zero_add _

/-! The row sums. -/

/-- The sum of a row. -/
def rsum (G : Blk) (r : Fin 256) : EReal := ∑ c : Fin 256, G (ix2 r c)

theorem rowSum_apply (l : FVec Ideal S32x256 .f32) (x : S32x128.Idx) :
    rowSum (F := Ideal) l x = ∑ c : Fin 256, l (ix2 (x 0) c) := by
  unfold rowSum
  rw [shapeCast_self]
  refine (broadcastTo_apply _ broadcasts_S32x1_S32x128 x (ix2 (x 0) ⟨0, Nat.one_pos⟩) (fun a => match a with
    | ⟨0, _⟩ => rfl
    | ⟨1, _⟩ => rfl)).trans ?_
  refine (shapeCast_apply _ shapeCasts_S32_S32x1 _ (ix1 (x 0)) ?_).trans ?_
  · rewrite [Shape.rowMajor_val_one, Shape.rowMajor_val_two]
    show (x 0).val = (x 0).val * 1 + 0
    omega
  refine (Ideal.multiReduction_add_single _ _ reduces_S32x256_S32 _ _ _).trans (Finset.sum_congr rfl fun k _ => ?_)
  refine congrArg l (funext fun a => Fin.ext ?_)
  match a with
  | ⟨0, _⟩ => rfl
  | ⟨1, _⟩ => rfl

/-- The row sums of a strip are the sums of the block's rows. -/
theorem rowSum_strip (G : Blk) (n : ℕ) (inb : ∀ a, (![n, 0] : Fin 2 → ℕ) a + S32x256.size a ≤ S256x256.size a)
    (inb' : ∀ a, (![n, 0] : Fin 2 → ℕ) a + S32x128.size a ≤ S256x128.size a) (x : S32x128.Idx) :
    rowSum (F := Ideal) (View.ld (Val := Elt Ideal) (e' := .f32) G (Rect.unit (s := S256x256) ![n, 0] S32x256.size inb)) x
      = rsum G ((Rect.unit (s := S256x128) ![n, 0] S32x128.size inb').idx x 0) := by
  refine (rowSum_apply _ x).trans (Finset.sum_congr rfl fun c _ => congrArg G (funext fun a => Fin.ext ?_))
  refine (Rect.idx_unit_val _ _ _ _ _).trans ?_
  match a with
  | ⟨0, _⟩ => exact (Rect.idx_unit_val _ _ _ _ _).symm
  | ⟨1, _⟩ => exact Nat.zero_add _

/-- The first head's row sums, written, are the rows' sums. -/
theorem canon_sumList0 (G : Blk) : View.canon (sumList0 (F := Ideal) (st G)) = (fun y => rsum G (y 0) : Blk2) := by
  funext y
  have hc : ∃ p ∈ sumList0 (F := Ideal) (st G), y ∈ p.1.set := View.cover_of_tiledL (sumList0 (F := Ideal) (st G)) S32x128.size (by sl_kernel_rfl) y
  refine (congrArg (fun L => View.canon L y) (List.append_nil _).symm).trans
    (View.canon_append_of_piecesOf (Val := Elt Ideal) (e := .f32) (fun y => rsum G (y 0) : Blk2) [] (sumList0 (F := Ideal) (st G)) ?_ y hc)
  exact ⟨fun x => (congrFun (shapeCast_self _ _) x).trans (rowSum_strip G 224 inb_S256x256_S32x256_224_0 inb_S256x128_S32x128_224_0 x),
    fun x => (congrFun (shapeCast_self _ _) x).trans (rowSum_strip G 192 inb_S256x256_S32x256_192_0 inb_S256x128_S32x128_192_0 x),
    fun x => (congrFun (shapeCast_self _ _) x).trans (rowSum_strip G 160 inb_S256x256_S32x256_160_0 inb_S256x128_S32x128_160_0 x),
    fun x => (congrFun (shapeCast_self _ _) x).trans (rowSum_strip G 128 inb_S256x256_S32x256_128_0 inb_S256x128_S32x128_128_0 x),
    fun x => (congrFun (shapeCast_self _ _) x).trans (rowSum_strip G 96 inb_S256x256_S32x256_96_0 inb_S256x128_S32x128_96_0 x),
    fun x => (congrFun (shapeCast_self _ _) x).trans (rowSum_strip G 64 inb_S256x256_S32x256_64_0 inb_S256x128_S32x128_64_0 x),
    fun x => (congrFun (shapeCast_self _ _) x).trans (rowSum_strip G 32 inb_S256x256_S32x256_32_0 inb_S256x128_S32x128_32_0 x),
    fun x => (congrFun (shapeCast_self _ _) x).trans (rowSum_strip G 0 inb_S256x256_S32x256_0_0 inb_S256x128_S32x128_0_0 x), trivial⟩

/-- The lanes of the first head. -/
theorem lane_select {α : Type} (y : Fin 128) (a b : α) : Scalar.select (k0_pay627 (ix2 ⟨0, Nat.one_pos⟩ y)) a b = if y.val < 64 then a else b := by
  have h : k0_pay627 (ix2 ⟨0, Nat.one_pos⟩ y) = BitVec.ofBool (decide (y.val < 64)) := by revert y; decide
  rw [h]
  by_cases hy : y.val < 64 <;> simp [hy, Scalar.select]

theorem lanes_apply {α : Type} {n : ℕ} (h : S1x128.Broadcasts ⟨2, ![n, 128]⟩) (hs) (a b : (⟨2, ![n, 128]⟩ : Shape).Idx → α) (x : (⟨2, ![n, 128]⟩ : Shape).Idx) :
    select (broadcastTo ⟨2, ![n, 128]⟩ (shapeCast S1x128 k0_pay627 hs) h) a b x = if (x 1).val < 64 then a x else b x := by
  have e : broadcastTo ⟨2, ![n, 128]⟩ (shapeCast S1x128 k0_pay627 hs) h x = k0_pay627 (ix2 ⟨0, Nat.one_pos⟩ (x 1)) := by
    rw [shapeCast_self]
    exact broadcastTo_apply _ h x (ix2 ⟨0, Nat.one_pos⟩ (x 1)) (fun a => match a with
      | ⟨0, _⟩ => rfl
      | ⟨1, _⟩ => rfl)
  show Scalar.select (broadcastTo ⟨2, ![n, 128]⟩ (shapeCast S1x128 k0_pay627 hs) h x) (a x) (b x) = _
  rw [e]
  exact lane_select (x 1) _ _

/-- The keys before the query. -/
theorem mask_select {α : Type} (r c : Fin 256) (a b : α) : Scalar.select (k0_pay628 (ix2 r c)) a b = if c.val < r.val then a else b := by
  have h : k0_pay628 (ix2 r c) = BitVec.ofBool (decide (c.val < r.val)) := by
    unfold k0_pay628
    show IntOp.cmpi .slt (iota .tc S256x256 32 [1] iota_S256x256_d1_w32 (ix2 r c)) (iota .tc S256x256 32 [0] iota_S256x256_d0_w32 (ix2 r c)) = _
    rw [iota_single_apply, iota_single_apply]
    exact WordCmp.cmpi_slt_ofNat (w := 32) (a := c.val) (b := r.val) (by have := c.isLt; omega) (by have := r.isLt; omega)
  rw [h]
  by_cases hy : c.val < r.val <;> simp [hy, Scalar.select]

/-- The matrix of the later keys. -/
theorem later_apply (k c : Fin 256) : k0_pay629 (F := Ideal) (ix2 k c) = (if c.val < k.val then 1 else 0 : EReal) := by
  have h : cmpi .sgt (iota .tc S256x256 32 [0] iota_S256x256_d0_w32) (iota .tc S256x256 32 [1] iota_S256x256_d1_w32) (ix2 k c)
      = BitVec.ofBool (decide (c.val < k.val)) := by
    show IntOp.cmpi .sgt (iota .tc S256x256 32 [0] iota_S256x256_d0_w32 (ix2 k c)) (iota .tc S256x256 32 [1] iota_S256x256_d1_w32 (ix2 k c)) = _
    rw [iota_single_apply, iota_single_apply]
    exact WordCmp.cmpi_sgt_ofNat (w := 32) (a := k.val) (b := c.val) (by have := k.isLt; omega) (by have := c.isLt; omega)
  show Scalar.select (cmpi .sgt (iota .tc S256x256 32 [0] iota_S256x256_d0_w32) (iota .tc S256x256 32 [1] iota_S256x256_d1_w32) (ix2 k c))
    (Ideal.ofBits .f32 0x3F800000#32) (Ideal.ofBits .f32 0x00000000#32) = _
  rw [h, Ideal.ofBits_zero_f32, Ideal.ofBits_one_f32]
  by_cases hy : c.val < k.val <;> simp [hy, Scalar.select]

/-- The writes of the second head's row sums. -/
def topSums (arg : Memref sig .tc .vmem S256x128 .f32) (G H : Blk) : List (View.Piece (Elt Ideal) S256x128 .f32) :=
  [⟨Rect.unit (s := S256x128) ![224, 0] S32x128.size inb_S256x128_S32x128_224_0, sumS (F := Ideal) k0_pay627 (arg.view.readCov (sumList0 (F := Ideal) (st G)) (Rect.unit (s := S256x128) ![224, 0] S32x128.size inb_S256x128_S32x128_224_0).toLoadRect) (st H).s7⟩,
   ⟨Rect.unit (s := S256x128) ![192, 0] S32x128.size inb_S256x128_S32x128_192_0, sumS (F := Ideal) k0_pay627 (arg.view.readCov (sumList0 (F := Ideal) (st G)) (Rect.unit (s := S256x128) ![192, 0] S32x128.size inb_S256x128_S32x128_192_0).toLoadRect) (st H).s6⟩,
   ⟨Rect.unit (s := S256x128) ![160, 0] S32x128.size inb_S256x128_S32x128_160_0, sumS (F := Ideal) k0_pay627 (arg.view.readCov (sumList0 (F := Ideal) (st G)) (Rect.unit (s := S256x128) ![160, 0] S32x128.size inb_S256x128_S32x128_160_0).toLoadRect) (st H).s5⟩,
   ⟨Rect.unit (s := S256x128) ![128, 0] S32x128.size inb_S256x128_S32x128_128_0, sumS (F := Ideal) k0_pay627 (arg.view.readCov (sumList0 (F := Ideal) (st G)) (Rect.unit (s := S256x128) ![128, 0] S32x128.size inb_S256x128_S32x128_128_0).toLoadRect) (st H).s4⟩,
   ⟨Rect.unit (s := S256x128) ![96, 0] S32x128.size inb_S256x128_S32x128_96_0, sumS (F := Ideal) k0_pay627 (arg.view.readCov (sumList0 (F := Ideal) (st G)) (Rect.unit (s := S256x128) ![96, 0] S32x128.size inb_S256x128_S32x128_96_0).toLoadRect) (st H).s3⟩,
   ⟨Rect.unit (s := S256x128) ![64, 0] S32x128.size inb_S256x128_S32x128_64_0, sumS (F := Ideal) k0_pay627 (arg.view.readCov (sumList0 (F := Ideal) (st G)) (Rect.unit (s := S256x128) ![64, 0] S32x128.size inb_S256x128_S32x128_64_0).toLoadRect) (st H).s2⟩,
   ⟨Rect.unit (s := S256x128) ![32, 0] S32x128.size inb_S256x128_S32x128_32_0, sumS (F := Ideal) k0_pay627 (arg.view.readCov (sumList0 (F := Ideal) (st G)) (Rect.unit (s := S256x128) ![32, 0] S32x128.size inb_S256x128_S32x128_32_0).toLoadRect) (st H).s1⟩,
   ⟨Rect.unit (s := S256x128) ![0, 0] S32x128.size inb_S256x128_S32x128_0_0, sumS (F := Ideal) k0_pay627 (arg.view.readCov (sumList0 (F := Ideal) (st G)) (Rect.unit (s := S256x128) ![0, 0] S32x128.size inb_S256x128_S32x128_0_0).toLoadRect) (st H).s0⟩]

/-- Both heads' row sums: the first head's in the first 64 lanes, the second's in the others. -/
def sumW (G H : Blk) : Blk2 := fun y => if (y 1).val < 64 then rsum G (y 0) else rsum H (y 0)

theorem sumS_strip (arg : Memref sig .tc .vmem S256x128 .f32) (G H : Blk)
      (n : ℕ) (inb : ∀ a, (![n, 0] : Fin 2 → ℕ) a + S32x256.size a ≤ S256x256.size a)
      (inb' : ∀ a, (![n, 0] : Fin 2 → ℕ) a + S32x128.size a ≤ S256x128.size a) (x : S32x128.Idx) :
      sumS (F := Ideal) k0_pay627 (arg.view.readCov (sumList0 (F := Ideal) (st G)) (Rect.unit (s := S256x128) ![n, 0] S32x128.size inb').toLoadRect)
        (View.ld (Val := Elt Ideal) (e' := .f32) H (Rect.unit (s := S256x256) ![n, 0] S32x256.size inb)) x
        = sumW G H ((Rect.unit (s := S256x128) ![n, 0] S32x128.size inb').idx x) := by
  unfold sumS
  rw [shapeCast_self, lanes_apply (n := 32), View.readCov_eq_canon', canon_sumList0]
  have e1 : ((Rect.unit (s := S256x128) ![n, 0] S32x128.size inb').idx x 1).val = (x 1).val :=
    (Rect.idx_unit_val _ _ _ _ _).trans (Nat.zero_add _)
  show (if (x 1).val < 64 then _ else _) = if ((Rect.unit (s := S256x128) ![n, 0] S32x128.size inb').idx x 1).val < 64 then _ else _
  rw [e1]
  by_cases hx : (x 1).val < 64
  · rw [if_pos hx, if_pos hx]
  · rw [if_neg hx, if_neg hx]; exact rowSum_strip H n inb inb' x

theorem sumList_eq (arg : Memref sig .tc .vmem S256x128 .f32) (G H : Blk) :
    sumList (F := Ideal) arg k0_pay627 (st G) (st H) = topSums arg G H ++ sumList0 (F := Ideal) (st G) := by
  generalize hL : sumList0 (F := Ideal) (st G) = L
  unfold sumList topSums
  rw [hL]
  dsimp only
  simp (disch := decide) only [View.readCov_skip]
  rfl

theorem topSums_pieces (arg : Memref sig .tc .vmem S256x128 .f32) (G H : Blk) :
    View.PiecesOf (Val := Elt Ideal) (e := .f32) (sumW G H) (topSums arg G H) :=
  ⟨sumS_strip arg G H 224 inb_S256x256_S32x256_224_0 inb_S256x128_S32x128_224_0,
    sumS_strip arg G H 192 inb_S256x256_S32x256_192_0 inb_S256x128_S32x128_192_0,
    sumS_strip arg G H 160 inb_S256x256_S32x256_160_0 inb_S256x128_S32x128_160_0,
    sumS_strip arg G H 128 inb_S256x256_S32x256_128_0 inb_S256x128_S32x128_128_0,
    sumS_strip arg G H 96 inb_S256x256_S32x256_96_0 inb_S256x128_S32x128_96_0,
    sumS_strip arg G H 64 inb_S256x256_S32x256_64_0 inb_S256x128_S32x128_64_0,
    sumS_strip arg G H 32 inb_S256x256_S32x256_32_0 inb_S256x128_S32x128_32_0,
    sumS_strip arg G H 0 inb_S256x256_S32x256_0_0 inb_S256x128_S32x128_0_0, trivial⟩

theorem topSums_cover (arg : Memref sig .tc .vmem S256x128 .f32) (G H : Blk) (y : S256x128.Idx) :
    ∃ p ∈ topSums arg G H, y ∈ p.1.set := View.cover_of_tiledL (topSums arg G H) S32x128.size (by sl_kernel_rfl) y

theorem canon_two (W : Blk2) (L L' : List (View.Piece (Elt Ideal) S256x128 .f32)) (h : View.PiecesOf (Val := Elt Ideal) (e := .f32) W L)
    (hc : ∀ y, ∃ p ∈ L, y ∈ p.1.set) : View.canon (L ++ L') = W :=
  funext fun y => View.canon_append_of_piecesOf (Val := Elt Ideal) (e := .f32) W L' L h y (hc y)

/-- Both heads' row sums, written. -/
theorem canon_sumList (arg : Memref sig .tc .vmem S256x128 .f32) (G H : Blk) :
    View.canon (sumList (F := Ideal) arg k0_pay627 (st G) (st H)) = sumW G H :=
  (congrArg View.canon (sumList_eq arg G H)).trans
    (canon_two (sumW G H) (topSums arg G H) (sumList0 (F := Ideal) (st G)) (topSums_pieces arg G H) (topSums_cover arg G H))

/-! The products. -/

theorem mm256 (x y : FVec Ideal S256x256 .bf16) (r c : Fin 256) :
    matmul dot_S256x256_S256x256_S256x256_1_0_0_1_n_n none x y (constant S256x256 .f32 0x00000000#32) (ix2 r c) = ∑ k : Fin 256, x (ix2 r k) * y (ix2 k c) :=
  Dots.nn_apply (M := 256) (K := 256) (N := 256) (φ₁ := .bf16) (φ₂ := .bf16) x y r c

theorem mm128 (x : FVec Ideal S256x256 .bf16) (y : FVec Ideal S256x128 .bf16) (r : Fin 256) (c : Fin 128) :
    matmul dot_S256x256_S256x128_S256x128_1_0_0_1_n_n none x y (constant S256x128 .f32 0x00000000#32) (ix2 r c) = ∑ k : Fin 256, x (ix2 r k) * y (ix2 k c) :=
  Dots.nn_apply (M := 256) (K := 256) (N := 128) (φ₁ := .bf16) (φ₂ := .bf16) x y r c

/-- The tails of a block. -/
theorem tailOf_apply (G : Blk) (r c : Fin 256) :
    tailOf (F := Ideal) (k0_pay629 (F := Ideal)) (st G) (ix2 r c) = ∑ k : Fin 256, G (ix2 r k) * (if c.val < k.val then 1 else 0 : EReal) := by
  unfold tailOf
  rw [shapeCast_self]
  refine (mm256 _ _ r c).trans (Finset.sum_congr rfl fun k _ => ?_)
  rw [later_apply]
  exact congrArg (· * _) (cat_apply G _ r k)

/-- The weights times the values. -/
theorem pvOf_apply (W : Blk) (v : Blk2) (r : Fin 256) (c : Fin 128) :
    pvOf (F := Ideal) (st W) v (ix2 r c) = ∑ k : Fin 256, W (ix2 r k) * v (ix2 k c) := by
  unfold pvOf
  refine (mm128 _ _ r c).trans (Finset.sum_congr rfl fun k _ => ?_)
  exact congrArg (· * _) (cat_apply W _ r k)

/-- The two heads' products side by side. -/
theorem attOf_apply (W X : Blk) (v : Blk2) (r : Fin 256) (c : Fin 128) :
    attOf (F := Ideal) k0_pay627 (st W) (st X) v (ix2 r c)
      = if c.val < 64 then ∑ k : Fin 256, W (ix2 r k) * v (ix2 k c) else ∑ k : Fin 256, X (ix2 r k) * v (ix2 k c) := by
  unfold attOf
  rw [lanes_apply (n := 256), pvOf_apply, pvOf_apply]

theorem addO_apply (p o t : Blk2) (y : S256x128.Idx) : addO (F := Ideal) p o t y = o y + p y * Ideal.exp (t y) := by
  unfold addO
  rw [shapeCast_self, shapeCast_self]
  rfl

theorem addT_apply (t s : Blk2) (y : S256x128.Idx) : addT (F := Ideal) t s y = t y + s y := by
  unfold addT
  rw [shapeCast_self]
  rfl

/-- A block of logits. -/
theorem zOf_apply (q k : Blk2) (r c : Fin 256) : zOf (F := Ideal) q k (ix2 r c) = ∑ d : Fin 128, q (ix2 r d) * k (ix2 c d) :=
  Dots.nt_apply (φ₁ := .bf16) (φ₂ := .bf16) q k r c

/-- The scaled queries of the first head. -/
theorem q0_apply (q : Blk2) (r : Fin 256) (d : Fin 128) :
    k0_pay632 (F := Ideal) q (ix2 r d) = if d.val < 64 then q (ix2 r d) * Ideal.ofBits .bf16 0x3E00#16 else 0 := by
  unfold k0_pay632
  refine (lanes_apply (n := 256) _ _ _ _ _).trans ?_
  refine if_congr Iff.rfl rfl ?_
  exact Ideal.ofBits_zero_bf16

/-- The scaled queries of the second head. -/
theorem q1_apply (q : Blk2) (r : Fin 256) (d : Fin 128) :
    k0_pay633 (F := Ideal) q (ix2 r d) = if d.val < 64 then 0 else q (ix2 r d) * Ideal.ofBits .bf16 0x3E00#16 := by
  unfold k0_pay633
  refine (lanes_apply (n := 256) _ _ _ _ _).trans ?_
  refine if_congr Iff.rfl ?_ rfl
  exact Ideal.ofBits_zero_bf16

end Cert.Proof.Attn

end
-- ==== Proof.AttnBlk.lean ====
/-
  What the attention carries from one block of keys to the next, as functions of the blocks.
-/
module

public import proofs.«01_k».proof.Proof.AttnPoint
public import proofs.«01_k».proof.Proof.AttnIdx

@[expose] public section

set_option maxRecDepth 16384

noncomputable section

namespace Cert.Proof.Attn

open Cert.AttnFwdIdeal Cert.AttnFwdIdeal.Gen
open Idealize.ShloMosaic Idealize.ShloMosaic.ValueIdx
open Idealize.SL Idealize.SL.RA

/-- The whole of a block of 256 by 128. -/
abbrev FULL : Rect S256x128 := Rect.unit (s := S256x128) ![0, 0] S256x128.size inb_S256x128_S256x128_0_0

/-- The log betas of the queries `q` and the keys `k`. -/
def LB (q k : Blk2) : Blk := fun y => lbE (zOf (F := Ideal) q k y)

/-- The logs of one minus beta. -/
def L1 (q k : Blk2) : Blk := fun y => l1E (zOf (F := Ideal) q k y)

/-- The same on the diagonal: zero from the query on. -/
def L1d (q k : Blk2) : Blk := fun y => Scalar.select (k0_pay628 y) (l1E (zOf (F := Ideal) q k y)) 0

/-- The sums over a row's later keys. -/
def TL (G : Blk) : Blk := tailOf (F := Ideal) (k0_pay629 (F := Ideal)) (st G)

/-- A block's part of the output, for both heads. -/
def PV (q0 q1 k v : Blk2) : Blk2 :=
  attOf (F := Ideal) k0_pay627 (wts (F := Ideal) (st (LB q0 k)) (st (TL (L1 q0 k)))) (wts (F := Ideal) (st (LB q1 k)) (st (TL (L1 q1 k)))) v

/-- The diagonal block's part. -/
def PVd (q0 q1 k v : Blk2) : Blk2 :=
  attOf (F := Ideal) k0_pay627 (wtsD (F := Ideal) k0_pay628 (st (LB q0 k)) (st (TL (L1d q0 k)))) (wtsD (F := Ideal) k0_pay628 (st (LB q1 k)) (st (TL (L1d q1 k)))) v

/-- A block's row sums, for both heads. -/
def RS (q0 q1 k : Blk2) : Blk2 := sumW (L1 q0 k) (L1 q1 k)

/-- The diagonal block's row sums. -/
def RSd (q0 q1 k : Blk2) : Blk2 := sumW (L1d q0 k) (L1d q1 k)

/-- Block `j` of the rows of an array. -/
def rows (x : S4096x128.Idx → EReal) (j : ℕ) : Blk2 := fun y => x (ix2 (Fin.ofNat 4096 (256 * j + (y 0).val)) (y 1))

theorem canon_lb (q k : Blk2) : View.canon (lbList (F := Ideal) (lbs (F := Ideal) (zOf (F := Ideal) q k))) = LB q k := by
  rw [lbs_eq]; exact canon_lbList _

theorem canon_tl (q k : Blk2) : View.canon (tailList (F := Ideal) (k0_pay629 (F := Ideal)) (l1s (F := Ideal) (zOf (F := Ideal) q k))) = TL (L1 q k) := by
  rw [l1s_eq]; exact canon_tailList _ _

theorem canon_tld (q k : Blk2) : View.canon (tailList (F := Ideal) (k0_pay629 (F := Ideal)) (l1d (F := Ideal) k0_pay628 (zOf (F := Ideal) q k))) = TL (L1d q k) := by
  rw [l1d_eq]; exact canon_tailList _ _

theorem canon_sm (arg : Memref sig .tc .vmem S256x128 .f32) (q0 q1 k : Blk2) :
    View.canon (sumList (F := Ideal) arg k0_pay627 (l1s (F := Ideal) (zOf (F := Ideal) q0 k)) (l1s (F := Ideal) (zOf (F := Ideal) q1 k))) = RS q0 q1 k := by
  rw [l1s_eq, l1s_eq]; exact canon_sumList _ _ _

theorem canon_smd (arg : Memref sig .tc .vmem S256x128 .f32) (q0 q1 k : Blk2) :
    View.canon (sumList (F := Ideal) arg k0_pay627 (l1d (F := Ideal) k0_pay628 (zOf (F := Ideal) q0 k)) (l1d (F := Ideal) k0_pay628 (zOf (F := Ideal) q1 k))) = RSd q0 q1 k := by
  rw [l1d_eq, l1d_eq]; exact canon_sumList _ _ _

theorem zero2 : (![0, 0] : Fin S256x128.rank → ℕ) = fun _ => 0 := by funext a; fin_cases a <;> rfl

/-- A whole block written last. -/
theorem canon_full (w : Blk2) (L : List (View.Piece (Elt Ideal) S256x128 .f32)) :
    View.canon ((⟨FULL, w⟩ : View.Piece (Elt Ideal) S256x128 .f32) :: L) = w := View.canon_cons_unit_zero zero2 _ w L

/-- A whole block read after writes. -/
theorem cov_full (arg : Memref sig .tc .vmem S256x128 .f32) (L : List (View.Piece (Elt Ideal) S256x128 .f32)) :
    arg.view.readCov (Val := Elt Ideal) L FULL.toLoadRect = View.canon L :=
  (View.readCov_eq_canon' _ _ _).trans (View.ld_unit_zero zero2 _ _)

/-- A whole block read. -/
theorem read_full {e : EltTy} (arg : Memref sig .tc .vmem S256x128 e) (harg : arg.IsWhole) (x : S256x128.Idx → Elt Ideal e) :
    View.readAt (Elt Ideal) arg.view FULL.toLoadRect (harg.unread x) = x := by
  rw [View.readAt_eq_ld, harg.read_unread]; exact View.ld_unit_zero zero2 _ _

/-- A block of rows read. -/
theorem read_rows {e : EltTy} (arg : Memref sig .tc .vmem S4096x128 e) (harg : arg.IsWhole) (x : S4096x128.Idx → Elt Ideal e) (j : ℕ)
    (off : Fin 2 → ℕ) (inb : ∀ a, off a + S256x128.size a ≤ S4096x128.size a) (h : off = ![256 * j, 0]) :
    View.readAt (Elt Ideal) arg.view (Rect.unit (s := S4096x128) off S256x128.size inb).toLoadRect (harg.unread x)
      = fun y => x (ix2 (Fin.ofNat 4096 (256 * j + (y 0).val)) (y 1)) := by
  rw [View.readAt_eq_ld, harg.read_unread]
  funext y
  show x ((Rect.unit (s := S4096x128) off S256x128.size inb).idx y) = _
  refine congrArg x (funext fun a => Fin.ext ?_)
  refine (Rect.idx_unit_val _ _ _ _ _).trans ?_
  subst h
  have h0 := inb 0
  have hy : (y 0).val < 256 := (y 0).isLt
  match a with
  | ⟨0, _⟩ =>
    show 256 * j + (y 0).val = (256 * j + (y 0).val) % 4096
    have : 256 * j + 256 ≤ 4096 := h0
    exact (Nat.mod_eq_of_lt (by omega)).symm
  | ⟨1, _⟩ => exact Nat.zero_add _

end Cert.Proof.Attn

end
-- ==== Proof.AttnEqTrip.lean ====
module

public import proofs.«01_k».proof.Proof.Gen.AttnFwdIdeal.Loops
public import proofs.«01_k».proof.Proof.Gen.AttnFwdIdeal.Frame
public import proofs.«01_k».proof.Proof.AttnTidy
public import proofs.«01_k».proof.Proof.AttnTripA
public import proofs.«01_k».proof.Proof.AttnTripB

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section TripEq

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (arg1 : BitVec 32) (v2 : IVec S1x128 1) (v10 : FVec F S256x256 .bf16) (v17 : FVec F S256x128 .bf16) (v20 : FVec F S256x128 .bf16)
  (h2 : k0_cond2 i = 1#1) (w1 w2 w3 : BitVec 32)
  (k : Fin (k0_t1_loop i).trips)
  (x3 : Vec F S4096x128 .bf16) (x4 : Vec F S4096x128 .f32) (x5 : Vec F S256x128 .f32) (x6 : Vec F S256x128 .f32) (x9 : Vec F S256x256 .f32) (x10 : Vec F S256x256 .f32) (x13 : Vec F S256x256 .f32) (x14 : Vec F S256x256 .f32) (x16 : Vec F S256x128 .f32)
/-- The log betas of the block two below, first head. -/
theorem tripA_l0 (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.2.1 =
      lbList (lbs (zOf v17 (View.readAt (Elt F) arg3.view (Rect.unit (s := S4096x128) (k0_off7 i k) S256x128.size (k0_off7_inb i k h2 hc)).toLoadRect (harg3.unread x3)))) := by
  unfold tripA
  rfl

/-- The same, second head. -/
theorem tripA_l1 (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.2.2.1 =
      lbList (lbs (zOf v20 (View.readAt (Elt F) arg3.view (Rect.unit (s := S4096x128) (k0_off7 i k) S256x128.size (k0_off7_inb i k h2 hc)).toLoadRect (harg3.unread x3)))) := by
  unfold tripA
  rfl

/-- The tails of that block, first head. -/
theorem tripA_t0 (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.2.2.2.1 =
      tailList v10 (l1s (zOf v17 (View.readAt (Elt F) arg3.view (Rect.unit (s := S4096x128) (k0_off7 i k) S256x128.size (k0_off7_inb i k h2 hc)).toLoadRect (harg3.unread x3)))) := by
  unfold tripA
  rfl

/-- The same, second head. -/
theorem tripA_t1 (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.2.2.2.2.1 =
      tailList v10 (l1s (zOf v20 (View.readAt (Elt F) arg3.view (Rect.unit (s := S4096x128) (k0_off7 i k) S256x128.size (k0_off7_inb i k h2 hc)).toLoadRect (harg3.unread x3)))) := by
  unfold tripA
  rfl

/-- The row sums of that block. -/
theorem tripA_sm (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.2.2.2.2.2.1 =
      sumList arg16 v2 (l1s (zOf v17 (View.readAt (Elt F) arg3.view (Rect.unit (s := S4096x128) (k0_off7 i k) S256x128.size (k0_off7_inb i k h2 hc)).toLoadRect (harg3.unread x3)))) (l1s (zOf v20 (View.readAt (Elt F) arg3.view (Rect.unit (s := S4096x128) (k0_off7 i k) S256x128.size (k0_off7_inb i k h2 hc)).toLoadRect (harg3.unread x3)))) := by
  unfold tripA
  rfl

/-- The running row sums after the trip. -/
theorem tripA_tot (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.1 =
      [⟨Rect.unit (s := S256x128) ![0, 0] S256x128.size inb_S256x128_S256x128_0_0, addT (arg6.view.readCov (Val := Elt F) [⟨Rect.unit (s := S256x128) ![0, 0] S256x128.size inb_S256x128_S256x128_0_0, addT (View.readAt (Elt F) arg6.view (Rect.unit (s := S256x128) ![0, 0] S256x128.size inb_S256x128_S256x128_0_0).toLoadRect (harg6.unread x6)) (View.readAt (Elt F) arg16.view (Rect.unit (s := S256x128) ![0, 0] S256x128.size inb_S256x128_S256x128_0_0).toLoadRect (harg16.unread x16))⟩] (Rect.unit (s := S256x128) ![0, 0] S256x128.size inb_S256x128_S256x128_0_0).toLoadRect)
          (arg15.view.readCov (Val := Elt F) (sumList arg15 v2 (l1s (zOf v17 (View.readAt (Elt F) arg3.view (Rect.unit (s := S4096x128) (k0_off5 i k) S256x128.size (k0_off5_inb i k h2)).toLoadRect (harg3.unread x3)))) (l1s (zOf v20 (View.readAt (Elt F) arg3.view (Rect.unit (s := S4096x128) (k0_off5 i k) S256x128.size (k0_off5_inb i k h2)).toLoadRect (harg3.unread x3))))) (Rect.unit (s := S256x128) ![0, 0] S256x128.size inb_S256x128_S256x128_0_0).toLoadRect)⟩,
        ⟨Rect.unit (s := S256x128) ![0, 0] S256x128.size inb_S256x128_S256x128_0_0, addT (View.readAt (Elt F) arg6.view (Rect.unit (s := S256x128) ![0, 0] S256x128.size inb_S256x128_S256x128_0_0).toLoadRect (harg6.unread x6)) (View.readAt (Elt F) arg16.view (Rect.unit (s := S256x128) ![0, 0] S256x128.size inb_S256x128_S256x128_0_0).toLoadRect (harg16.unread x16))⟩] := by
  unfold tripA
  rfl

/-- The output after the trip. -/
theorem tripA_o (hc : k0_cond3 i k = 1#1) :
    (tripA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).1 =
      [⟨Rect.unit (s := S256x128) ![0, 0] S256x128.size inb_S256x128_S256x128_0_0, addO (attOf v2
          (wts (covStrips arg7 (lbList (lbs (zOf v17 (View.readAt (Elt F) arg3.view (Rect.unit (s := S4096x128) (k0_off5 i k) S256x128.size (k0_off5_inb i k h2)).toLoadRect (harg3.unread x3)))))) (covStrips arg11 (tailList v10 (l1s (zOf v17 (View.readAt (Elt F) arg3.view (Rect.unit (s := S4096x128) (k0_off5 i k) S256x128.size (k0_off5_inb i k h2)).toLoadRect (harg3.unread x3)))))))
          (wts (covStrips arg8 (lbList (lbs (zOf v20 (View.readAt (Elt F) arg3.view (Rect.unit (s := S4096x128) (k0_off5 i k) S256x128.size (k0_off5_inb i k h2)).toLoadRect (harg3.unread x3)))))) (covStrips arg12 (tailList v10 (l1s (zOf v20 (View.readAt (Elt F) arg3.view (Rect.unit (s := S4096x128) (k0_off5 i k) S256x128.size (k0_off5_inb i k h2)).toLoadRect (harg3.unread x3))))))) (View.readAt (Elt F) arg4.view (Rect.unit (s := S4096x128) (k0_off8 i k) S256x128.size (k0_off8_inb i k h2 hc)).toLoadRect (harg4.unread x4)))
          (arg5.view.readCov (Val := Elt F) [⟨Rect.unit (s := S256x128) ![0, 0] S256x128.size inb_S256x128_S256x128_0_0, addO (attOf v2 (wts (atStrips arg9 (harg9.unread x9)) (atStrips arg13 (harg13.unread x13))) (wts (atStrips arg10 (harg10.unread x10)) (atStrips arg14 (harg14.unread x14))) (View.readAt (Elt F) arg4.view (Rect.unit (s := S4096x128) (k0_off6 i k) S256x128.size (k0_off6_inb i k h2)).toLoadRect (harg4.unread x4))) (View.readAt (Elt F) arg5.view (Rect.unit (s := S256x128) ![0, 0] S256x128.size inb_S256x128_S256x128_0_0).toLoadRect (harg5.unread x5)) (View.readAt (Elt F) arg6.view (Rect.unit (s := S256x128) ![0, 0] S256x128.size inb_S256x128_S256x128_0_0).toLoadRect (harg6.unread x6))⟩] (Rect.unit (s := S256x128) ![0, 0] S256x128.size inb_S256x128_S256x128_0_0).toLoadRect)
          (arg6.view.readCov (Val := Elt F) [⟨Rect.unit (s := S256x128) ![0, 0] S256x128.size inb_S256x128_S256x128_0_0, addT (View.readAt (Elt F) arg6.view (Rect.unit (s := S256x128) ![0, 0] S256x128.size inb_S256x128_S256x128_0_0).toLoadRect (harg6.unread x6)) (View.readAt (Elt F) arg16.view (Rect.unit (s := S256x128) ![0, 0] S256x128.size inb_S256x128_S256x128_0_0).toLoadRect (harg16.unread x16))⟩] (Rect.unit (s := S256x128) ![0, 0] S256x128.size inb_S256x128_S256x128_0_0).toLoadRect)⟩,
        ⟨Rect.unit (s := S256x128) ![0, 0] S256x128.size inb_S256x128_S256x128_0_0, addO (attOf v2 (wts (atStrips arg9 (harg9.unread x9)) (atStrips arg13 (harg13.unread x13))) (wts (atStrips arg10 (harg10.unread x10)) (atStrips arg14 (harg14.unread x14))) (View.readAt (Elt F) arg4.view (Rect.unit (s := S4096x128) (k0_off6 i k) S256x128.size (k0_off6_inb i k h2)).toLoadRect (harg4.unread x4))) (View.readAt (Elt F) arg5.view (Rect.unit (s := S256x128) ![0, 0] S256x128.size inb_S256x128_S256x128_0_0).toLoadRect (harg5.unread x5)) (View.readAt (Elt F) arg6.view (Rect.unit (s := S256x128) ![0, 0] S256x128.size inb_S256x128_S256x128_0_0).toLoadRect (harg6.unread x6))⟩] := by
  unfold tripA
  rfl

/-- The running row sums after the last trip of an odd count. -/
theorem tripB_tot (hc : ¬k0_cond3 i k = 1#1) :
    (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).2.1 =
      [⟨Rect.unit (s := S256x128) ![0, 0] S256x128.size inb_S256x128_S256x128_0_0, addT (View.readAt (Elt F) arg6.view (Rect.unit (s := S256x128) ![0, 0] S256x128.size inb_S256x128_S256x128_0_0).toLoadRect (harg6.unread x6)) (View.readAt (Elt F) arg16.view (Rect.unit (s := S256x128) ![0, 0] S256x128.size inb_S256x128_S256x128_0_0).toLoadRect (harg16.unread x16))⟩] := by
  unfold tripB
  rfl

/-- The output after such a trip. -/
theorem tripB_o (hc : ¬k0_cond3 i k = 1#1) :
    (tripB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 k hc x3 x4 x5 x6 x9 x10 x13 x14 x16).1 =
      [⟨Rect.unit (s := S256x128) ![0, 0] S256x128.size inb_S256x128_S256x128_0_0, addO (attOf v2 (wts (atStrips arg9 (harg9.unread x9)) (atStrips arg13 (harg13.unread x13))) (wts (atStrips arg10 (harg10.unread x10)) (atStrips arg14 (harg14.unread x14))) (View.readAt (Elt F) arg4.view (Rect.unit (s := S4096x128) (k0_off6 i k) S256x128.size (k0_off6_inb i k h2)).toLoadRect (harg4.unread x4))) (View.readAt (Elt F) arg5.view (Rect.unit (s := S256x128) ![0, 0] S256x128.size inb_S256x128_S256x128_0_0).toLoadRect (harg5.unread x5)) (View.readAt (Elt F) arg6.view (Rect.unit (s := S256x128) ![0, 0] S256x128.size inb_S256x128_S256x128_0_0).toLoadRect (harg6.unread x6))⟩] := by
  unfold tripB
  rfl

end TripEq

end Cert.Proof.Attn

end
-- ==== Proof.AttnEqRunA.lean ====
module

public import proofs.«01_k».proof.Proof.Gen.AttnFwdIdeal.Loops
public import proofs.«01_k».proof.Proof.Gen.AttnFwdIdeal.Frame
public import proofs.«01_k».proof.Proof.AttnTidy
public import proofs.«01_k».proof.Proof.AttnRunA

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RunEq

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (x2 : Vec F S256x128 .bf16) (x3 : Vec F S4096x128 .bf16) (x4 : Vec F S4096x128 .f32)

/-- The output of the block on the diagonal. -/
theorem runA_o (hc1 : k0_cond1 i = 1#1) (hc2 : ¬k0_cond2 i = 1#1) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).1 =
      [⟨Rect.unit (s := S256x128) ![0, 0] S256x128.size inb_S256x128_S256x128_0_0, attOf k0_pay627 (wtsD k0_pay628 (covStrips arg7 (lbList (lbs (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))))) (covStrips arg11 (tailList (k0_pay629 (F := F)) (l1d k0_pay628 (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))))))
          (wtsD k0_pay628 (covStrips arg8 (lbList (lbs (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))))) (covStrips arg12 (tailList (k0_pay629 (F := F)) (l1d k0_pay628 (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3))))))) (View.readAt (Elt F) arg4.view (Rect.unit (s := S4096x128) (k0_off2 i) S256x128.size (k0_off2_inb i hc1)).toLoadRect (harg4.unread x4))⟩] := by
  unfold runA
  rfl

/-- The row sums of the block on the diagonal. -/
theorem runA_tot (hc1 : k0_cond1 i = 1#1) (hc2 : ¬k0_cond2 i = 1#1) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.1 =
      [⟨Rect.unit (s := S256x128) ![0, 0] S256x128.size inb_S256x128_S256x128_0_0, arg15.view.readCov (Val := Elt F) (sumList arg15 k0_pay627 (l1d k0_pay628 (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))) (l1d k0_pay628 (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3))))) (Rect.unit (s := S256x128) ![0, 0] S256x128.size inb_S256x128_S256x128_0_0).toLoadRect⟩] := by
  unfold runA
  rfl

end RunEq

end Cert.Proof.Attn

end
-- ==== Proof.AttnEqRunB.lean ====
module

public import proofs.«01_k».proof.Proof.Gen.AttnFwdIdeal.Loops
public import proofs.«01_k».proof.Proof.Gen.AttnFwdIdeal.Frame
public import proofs.«01_k».proof.Proof.AttnTidy
public import proofs.«01_k».proof.Proof.AttnRunB

@[expose] public section

set_option maxRecDepth 16384

noncomputable section

namespace Cert.Proof.Attn

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RunEq

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (x2 : Vec F S256x128 .bf16) (x3 : Vec F S4096x128 .bf16) (x4 : Vec F S4096x128 .f32)

/-- The output of the block on the diagonal. -/
theorem runB_o (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.1 =
      [⟨Rect.unit (s := S256x128) ![0, 0] S256x128.size inb_S256x128_S256x128_0_0, attOf k0_pay627 (wtsD k0_pay628 (covStrips arg7 (lbList (lbs (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))))) (covStrips arg11 (tailList (k0_pay629 (F := F)) (l1d k0_pay628 (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))))))
          (wtsD k0_pay628 (covStrips arg8 (lbList (lbs (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))))) (covStrips arg12 (tailList (k0_pay629 (F := F)) (l1d k0_pay628 (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3))))))) (View.readAt (Elt F) arg4.view (Rect.unit (s := S4096x128) (k0_off4 i) S256x128.size (k0_off4_inb i hc2)).toLoadRect (harg4.unread x4))⟩] := by
  unfold runB
  rfl

/-- The row sums of the block on the diagonal. -/
theorem runB_tot (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.1 =
      [⟨Rect.unit (s := S256x128) ![0, 0] S256x128.size inb_S256x128_S256x128_0_0, arg15.view.readCov (Val := Elt F) (sumList arg15 k0_pay627 (l1d k0_pay628 (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3)))) (l1d k0_pay628 (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off1 i) S256x128.size (k0_off1_inb i)).toLoadRect (harg3.unread x3))))) (Rect.unit (s := S256x128) ![0, 0] S256x128.size inb_S256x128_S256x128_0_0).toLoadRect⟩] := by
  unfold runB
  rfl

/-- The lanes of the first head. -/
theorem runB_v2 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.1 =
      k0_pay627 := by
  unfold runB
  rfl

/-- The strictly lower matrix of ones. -/
theorem runB_v10 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.1 =
      k0_pay629 := by
  unfold runB
  rfl

/-- The queries of the first head. -/
theorem runB_v17 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.1 =
      (k0_pay632 (View.readAt (Elt F) arg2.view (Rect.unit (s := S256x128) ![0, 0] S256x128.size inb_S256x128_S256x128_0_0).toLoadRect (harg2.unread x2))) := by
  unfold runB
  rfl

/-- The queries of the second head. -/
theorem runB_v20 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.1 =
      (k0_pay633 (View.readAt (Elt F) arg2.view (Rect.unit (s := S256x128) ![0, 0] S256x128.size inb_S256x128_S256x128_0_0).toLoadRect (harg2.unread x2))) := by
  unfold runB
  rfl

/-- The log betas of the block below, first head. -/
theorem runB_l0 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.1 =
      lbList (lbs (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off3 i) S256x128.size (k0_off3_inb i hc2)).toLoadRect (harg3.unread x3)))) := by
  unfold runB
  rfl

/-- The same, second head. -/
theorem runB_l1 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.1 =
      lbList (lbs (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off3 i) S256x128.size (k0_off3_inb i hc2)).toLoadRect (harg3.unread x3)))) := by
  unfold runB
  rfl

/-- The tails of the block below, first head. -/
theorem runB_t0 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.1 =
      tailList (k0_pay629 (F := F)) (l1s (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off3 i) S256x128.size (k0_off3_inb i hc2)).toLoadRect (harg3.unread x3)))) := by
  unfold runB
  rfl

/-- The same, second head. -/
theorem runB_t1 (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.2.1 =
      tailList (k0_pay629 (F := F)) (l1s (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off3 i) S256x128.size (k0_off3_inb i hc2)).toLoadRect (harg3.unread x3)))) := by
  unfold runB
  rfl

/-- The row sums of the block below. -/
theorem runB_sm (hc1 : ¬k0_cond1 i = 1#1) (hc2 : k0_cond2 i = 1#1) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.2.2.1 =
      sumList arg16 k0_pay627 (l1s (zOf (k0_pay632 (View.readAt (Elt F) arg2.view (Rect.unit (s := S256x128) ![0, 0] S256x128.size inb_S256x128_S256x128_0_0).toLoadRect (harg2.unread x2))) (View.readAt (Elt F) arg3.view (Rect.unit (s := S4096x128) (k0_off3 i) S256x128.size (k0_off3_inb i hc2)).toLoadRect (harg3.unread x3)))) (l1s (zOf (k0_pay633 (View.readAt (Elt F) arg2.view (Rect.unit (s := S256x128) ![0, 0] S256x128.size inb_S256x128_S256x128_0_0).toLoadRect (harg2.unread x2))) (View.readAt (Elt F) arg3.view (Rect.unit (s := S4096x128) (k0_off3 i) S256x128.size (k0_off3_inb i hc2)).toLoadRect (harg3.unread x3)))) := by
  unfold runB
  rfl

end RunEq

end Cert.Proof.Attn

end
-- ==== Proof.AttnStep.lean ====
/-
  One trip of the attention's loop, on what it carries.
-/
module

public import proofs.«01_k».proof.Proof.AttnBlk
public import proofs.«01_k».proof.Proof.AttnEqTrip
public import proofs.«01_k».proof.Proof.AttnEqRunA
public import proofs.«01_k».proof.Proof.AttnEqRunB
public import proofs.«01_k».proof.Proof.AttnBody

@[expose] public section

set_option maxRecDepth 16384

noncomputable section

namespace Cert.Proof.Attn

open Cert.AttnFwdIdeal Cert.AttnFwdIdeal.Gen
open Idealize.ShloMosaic Idealize.ShloMosaic.ValueIdx
open Idealize.SL Idealize.SL.RA

section Step

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)
  (arg1 : BitVec 32) (q0 q1 : Blk2)
  (h2 : k0_cond2 i = 1#1) (w1 w2 w3 : BitVec 32)
  (k : Fin (k0_t1_loop i).trips)
  (x3 : S4096x128.Idx → EReal) (x4 : S4096x128.Idx → EReal) (o t sm : Blk2) (l0 l1 t0 t1 : Blk)

theorem A_l0 (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.2.1 = LB q0 (rows x3 ((i 1).val - 3 - 2 * k.val)) := by
  rw [tripA_l0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off7_eq i k)]
  exact canon_lb _ _

theorem A_l1 (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.2.2.1 = LB q1 (rows x3 ((i 1).val - 3 - 2 * k.val)) := by
  rw [tripA_l1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off7_eq i k)]
  exact canon_lb _ _

theorem A_t0 (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.2.2.2.1 = TL (L1 q0 (rows x3 ((i 1).val - 3 - 2 * k.val))) := by
  rw [tripA_t0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off7_eq i k)]
  exact canon_tl _ _

theorem A_t1 (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.2.2.2.2.1 = TL (L1 q1 (rows x3 ((i 1).val - 3 - 2 * k.val))) := by
  rw [tripA_t1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off7_eq i k)]
  exact canon_tl _ _

theorem A_sm (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.2.2.2.2.2.1 = RS q0 q1 (rows x3 ((i 1).val - 3 - 2 * k.val)) := by
  rw [tripA_sm (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off7_eq i k)]
  exact canon_sm _ _ _ _

theorem A_tot (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.1 = addT (F := Ideal) (addT (F := Ideal) t sm) (RS q0 q1 (rows x3 ((i 1).val - 2 - 2 * k.val))) := by
  rw [tripA_tot (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off5_eq i k)]
  refine (canon_full _ _).trans ?_
  refine congrArg₂ (addT (F := Ideal)) ((cov_full _ _).trans ((canon_full _ _).trans (congrArg₂ (addT (F := Ideal)) (read_full _ _ _) (read_full _ _ _)))) ?_
  exact (cov_full _ _).trans (canon_sm _ _ _ _)

theorem A_o (hc : k0_cond3 i k = 1#1) : View.canon (tripA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).1 =
    addO (F := Ideal) (PV q0 q1 (rows x3 ((i 1).val - 2 - 2 * k.val)) (rows x4 ((i 1).val - 2 - 2 * k.val)))
      (addO (F := Ideal) (attOf (F := Ideal) k0_pay627 (wts (F := Ideal) (st l0) (st t0)) (wts (F := Ideal) (st l1) (st t1)) (rows x4 ((i 1).val - 1 - 2 * k.val))) o t)
      (addT (F := Ideal) t sm) := by
  rw [tripA_o (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg3 harg3 x3 _ _ _ (off5_eq i k), read_rows arg4 harg4 x4 _ _ _ (off8_eq i k ((cond3_iff i k).mp hc)), read_rows arg4 harg4 x4 _ _ _ (off6_eq i k)]
  refine (canon_full _ _).trans ?_
  rw [covStrips_eq arg7 _ _ (canon_lb _ _), covStrips_eq arg8 _ _ (canon_lb _ _), covStrips_eq arg11 _ _ (canon_tl _ _), covStrips_eq arg12 _ _ (canon_tl _ _)]
  rw [atStrips_eq arg9 harg9 l0, atStrips_eq arg10 harg10 l1, atStrips_eq arg13 harg13 t0, atStrips_eq arg14 harg14 t1]
  refine congrArg₂ (addO (F := Ideal) _) ?_ ?_
  · exact (cov_full _ _).trans ((canon_full _ _).trans (congrArg₂ (addO (F := Ideal) _) (read_full _ _ _) (read_full _ _ _)))
  · exact (cov_full _ _).trans ((canon_full _ _).trans (congrArg₂ (addT (F := Ideal)) (read_full _ _ _) (read_full _ _ _)))

theorem B_tot (hc : ¬k0_cond3 i k = 1#1) : View.canon (tripB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).2.1 = addT (F := Ideal) t sm := by
  rw [tripB_tot (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc]
  exact (canon_full _ _).trans (congrArg₂ (addT (F := Ideal)) (read_full _ _ _) (read_full _ _ _))

theorem B_o (hc : ¬k0_cond3 i k = 1#1) : View.canon (tripB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k hc x3 x4 o t l0 l1 t0 t1 sm).1 =
    addO (F := Ideal) (attOf (F := Ideal) k0_pay627 (wts (F := Ideal) (st l0) (st t0)) (wts (F := Ideal) (st l1) (st t1)) (rows x4 ((i 1).val - 1 - 2 * k.val))) o t := by
  rw [tripB_o (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 k x3 x4 o t l0 l1 t0 t1 sm hc, read_rows arg4 harg4 x4 _ _ _ (off6_eq i k)]
  refine (canon_full _ _).trans ?_
  rw [atStrips_eq arg9 harg9 l0, atStrips_eq arg10 harg10 l1, atStrips_eq arg13 harg13 t0, atStrips_eq arg14 harg14 t1]
  exact congrArg₂ (addO (F := Ideal) _) (read_full _ _ _) (read_full _ _ _)

end Step

end Cert.Proof.Attn

end
-- ==== Proof.AttnOuts.lean ====
/-
  What the attention leaves at one grid point: the blocks of keys from the last to the first.
-/
module

public import proofs.«01_k».proof.Proof.AttnStep

@[expose] public section

set_option maxRecDepth 16384

noncomputable section

namespace Cert.Proof.Attn

open Cert.AttnFwdIdeal Cert.AttnFwdIdeal.Gen
open Idealize.ShloMosaic Idealize.ShloMosaic.ValueIdx
open Idealize.SL Idealize.SL.RA

/-- The output and the row sums after the diagonal block and `p` earlier ones. -/
def seqOT (q0 q1 : Blk2) (kb vb : ℕ → Blk2) (n : ℕ) : ℕ → Blk2 × Blk2
  | 0 => (PVd q0 q1 (kb n) (vb n), RSd q0 q1 (kb n))
  | p + 1 => (addO (F := Ideal) (PV q0 q1 (kb (n - 1 - p)) (vb (n - 1 - p))) (seqOT q0 q1 kb vb n p).1 (seqOT q0 q1 kb vb n p).2,
      addT (F := Ideal) (seqOT q0 q1 kb vb n p).2 (RS q0 q1 (kb (n - 1 - p))))

/-- What is carried when the next block is the one `p + 1` before the diagonal. -/
def atSt (q0 q1 : Blk2) (kb vb : ℕ → Blk2) (n p : ℕ) : St Ideal :=
  ⟨(seqOT q0 q1 kb vb n p).1, (seqOT q0 q1 kb vb n p).2, LB q0 (kb (n - 1 - p)), LB q1 (kb (n - 1 - p)),
    TL (L1 q0 (kb (n - 1 - p))), TL (L1 q1 (kb (n - 1 - p))), RS q0 q1 (kb (n - 1 - p))⟩

theorem St_congr {o o' t t' sm sm' : Blk2} {a a' b b' d d' e e' : Blk} (h1 : o = o') (h2 : t = t') (h3 : a = a') (h4 : b = b')
    (h5 : d = d') (h6 : e = e') (h7 : sm = sm') : (⟨o, t, a, b, d, e, sm⟩ : St Ideal) = ⟨o', t', a', b', d', e', sm'⟩ := by
  subst h1; subst h2; subst h3; subst h4; subst h5; subst h6; subst h7; rfl

section Outs

variable (c : Dev nD) (i : grid0.Coords)
  (arg2 : Memref sig .tc .vmem S256x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x128 .f32) (harg15 : arg15.IsWhole)
  (arg16 : Memref sig .tc .vmem S256x128 .f32) (harg16 : arg16.IsWhole)

/-- A trip with two blocks left. -/
theorem step_two (arg1 : BitVec 32) (h2 : k0_cond2 i = 1#1) (w1 w2 w3 : BitVec 32) (q0 q1 : Blk2) (x3 : S4096x128.Idx → EReal) (x4 : S4096x128.Idx → EReal) (k : Fin (k0_t1_loop i).trips) (hc : k0_cond3 i k = 1#1) :
    stepSt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 x3 x4 k (atSt q0 q1 (rows x3) (rows x4) (i 1).val (2 * k.val)) = atSt q0 q1 (rows x3) (rows x4) (i 1).val (2 * k.val + 2) := by
  have e3 : (i 1).val - 3 - 2 * k.val = (i 1).val - 1 - (2 * k.val + 2) := by omega
  have e2 : (i 1).val - 2 - 2 * k.val = (i 1).val - 1 - (2 * k.val + 1) := by omega
  unfold stepSt
  refine (dif_pos hc).trans ?_
  refine St_congr ?_ ?_ ?_ ?_ ?_ ?_ ?_
  · refine (A_o c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans ?_
    rw [e2]; rfl
  · refine (A_tot c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans ?_
    rw [e2]; rfl
  · exact (A_l0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans (by rw [e3])
  · exact (A_l1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans (by rw [e3])
  · exact (A_t0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans (by rw [e3])
  · exact (A_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans (by rw [e3])
  · exact (A_sm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans (by rw [e3])

/-- A trip with one block left: its output. -/
theorem step_one_o (arg1 : BitVec 32) (h2 : k0_cond2 i = 1#1) (w1 w2 w3 : BitVec 32) (q0 q1 : Blk2) (x3 : S4096x128.Idx → EReal) (x4 : S4096x128.Idx → EReal) (k : Fin (k0_t1_loop i).trips) (hc : ¬k0_cond3 i k = 1#1) :
    (stepSt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 x3 x4 k (atSt q0 q1 (rows x3) (rows x4) (i 1).val (2 * k.val))).o = (seqOT q0 q1 (rows x3) (rows x4) (i 1).val (2 * k.val + 1)).1 := by
  unfold stepSt
  refine (congrArg St.o (dif_neg hc)).trans ?_
  refine (B_o c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans ?_
  rfl

/-- A trip with one block left: its row sums. -/
theorem step_one_tot (arg1 : BitVec 32) (h2 : k0_cond2 i = 1#1) (w1 w2 w3 : BitVec 32) (q0 q1 : Blk2) (x3 : S4096x128.Idx → EReal) (x4 : S4096x128.Idx → EReal) (k : Fin (k0_t1_loop i).trips) (hc : ¬k0_cond3 i k = 1#1) :
    (stepSt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 x3 x4 k (atSt q0 q1 (rows x3) (rows x4) (i 1).val (2 * k.val))).tot = (seqOT q0 q1 (rows x3) (rows x4) (i 1).val (2 * k.val + 1)).2 := by
  unfold stepSt
  refine (congrArg St.tot (dif_neg hc)).trans ?_
  refine (B_tot c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 q0 q1 h2 w1 w2 w3 k x3 x4 _ _ _ _ _ _ _ hc).trans ?_
  rfl

/-- What is carried before each trip. -/
theorem stAt_eq (arg1 : BitVec 32) (h2 : k0_cond2 i = 1#1) (w1 w2 w3 : BitVec 32) (q0 q1 : Blk2) (x3 : S4096x128.Idx → EReal) (x4 : S4096x128.Idx → EReal) (n : ℕ) (hn : 2 * n ≤ (i 1).val) :
    stAt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 x3 x4 (atSt q0 q1 (rows x3) (rows x4) (i 1).val 0) n = atSt q0 q1 (rows x3) (rows x4) (i 1).val (2 * n) := by
  induction n with
  | zero => rfl
  | succ n ih =>
    have hlt : n < (k0_t1_loop i).trips := by rw [trips1]; omega
    rw [stAt, dif_pos hlt, ih (by omega)]
    exact step_two c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h2 w1 w2 w3 q0 q1 x3 x4 ⟨n, hlt⟩ ((cond3_iff i ⟨n, hlt⟩).mpr (by show 2 * n + 1 < _; omega))

/-- What the loop leaves. -/
theorem stAt_end (arg1 : BitVec 32) (h2 : k0_cond2 i = 1#1) (w1 w2 w3 : BitVec 32) (q0 q1 : Blk2) (x3 : S4096x128.Idx → EReal) (x4 : S4096x128.Idx → EReal) :
    (stAt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 x3 x4 (atSt q0 q1 (rows x3) (rows x4) (i 1).val 0) (k0_t1_loop i).trips).o = (seqOT q0 q1 (rows x3) (rows x4) (i 1).val (i 1).val).1
    ∧ (stAt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_pay627 (k0_pay629 (F := Ideal)) q0 q1 h2 w1 w2 w3 x3 x4 (atSt q0 q1 (rows x3) (rows x4) (i 1).val 0) (k0_t1_loop i).trips).tot = (seqOT q0 q1 (rows x3) (rows x4) (i 1).val (i 1).val).2 := by
  rcases Nat.even_or_odd' (i 1).val with ⟨n, hn | hn⟩
  · have ht : (k0_t1_loop i).trips = n := by rw [trips1]; omega
    rw [ht, stAt_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h2 w1 w2 w3 q0 q1 x3 x4 n (by omega), ← hn]
    exact ⟨rfl, rfl⟩
  · have ht : (k0_t1_loop i).trips = n + 1 := by rw [trips1]; omega
    have hlt : n < (k0_t1_loop i).trips := by omega
    have hc : ¬k0_cond3 i ⟨n, hlt⟩ = 1#1 := fun h => absurd ((cond3_iff i ⟨n, hlt⟩).mp h) (by show ¬2 * n + 1 < _; omega)
    rw [ht, stAt, dif_pos hlt, stAt_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h2 w1 w2 w3 q0 q1 x3 x4 n (by omega)]
    refine ⟨(step_one_o c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h2 w1 w2 w3 q0 q1 x3 x4 ⟨n, hlt⟩ hc).trans ?_, (step_one_tot c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h2 w1 w2 w3 q0 q1 x3 x4 ⟨n, hlt⟩ hc).trans ?_⟩
    · show (seqOT q0 q1 (rows x3) (rows x4) (i 1).val (2 * n + 1)).1 = _
      rw [← hn]
    · show (seqOT q0 q1 (rows x3) (rows x4) (i 1).val (2 * n + 1)).2 = _
      rw [← hn]

/-- The same of operands known to be these. -/
theorem stAt_end' (arg1 : BitVec 32) (h2 : k0_cond2 i = 1#1) (w1 w2 w3 : BitVec 32) (q0 q1 : Blk2) (x3 : S4096x128.Idx → EReal) (x4 : S4096x128.Idx → EReal) (v2 : IVec S1x128 1) (v10 : S256x256.Idx → EReal) (v17 v20 : Blk2) (s : St Ideal)
    (e2 : v2 = k0_pay627) (e10 : v10 = k0_pay629 (F := Ideal)) (e17 : v17 = q0) (e20 : v20 = q1) (es : s = atSt q0 q1 (rows x3) (rows x4) (i 1).val 0) :
    (stAt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s (k0_t1_loop i).trips).o = (seqOT q0 q1 (rows x3) (rows x4) (i 1).val (i 1).val).1
    ∧ (stAt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v2 v10 v17 v20 h2 w1 w2 w3 x3 x4 s (k0_t1_loop i).trips).tot = (seqOT q0 q1 (rows x3) (rows x4) (i 1).val (i 1).val).2 := by
  subst e2; subst e10; subst e17; subst e20; subst es
  exact stAt_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h2 w1 w2 w3 v17 v20 x3 x4

/-- The diagonal block's output. -/
theorem runA_o' (hc1 : k0_cond1 i = 1#1) (hc2 : ¬k0_cond2 i = 1#1) (x2 : S256x128.Idx → EReal) (x3 : S4096x128.Idx → EReal) (x4 : S4096x128.Idx → EReal) : View.canon (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).1 =
    PVd (k0_pay632 (F := Ideal) x2) (k0_pay633 (F := Ideal) x2) (rows x3 (i 1).val) (rows x4 (i 1).val) := by
  rw [runA_o (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off1_eq i), read_rows arg4 harg4 x4 _ _ _ (off2_eq i)]
  refine (canon_full _ _).trans ?_
  rw [covStrips_eq arg7 _ _ (canon_lb _ _), covStrips_eq arg8 _ _ (canon_lb _ _), covStrips_eq arg11 _ _ (canon_tld _ _), covStrips_eq arg12 _ _ (canon_tld _ _)]
  rfl

/-- The diagonal block's row sums. -/
theorem runA_tot' (hc1 : k0_cond1 i = 1#1) (hc2 : ¬k0_cond2 i = 1#1) (x2 : S256x128.Idx → EReal) (x3 : S4096x128.Idx → EReal) (x4 : S4096x128.Idx → EReal) : View.canon (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.1 =
    RSd (k0_pay632 (F := Ideal) x2) (k0_pay633 (F := Ideal) x2) (rows x3 (i 1).val) := by
  rw [runA_tot (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off1_eq i)]
  exact (canon_full _ _).trans ((cov_full _ _).trans (canon_smd _ _ _ _))

/-- The diagonal block's output. -/
theorem runB_o' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.1 =
    PVd (k0_pay632 (F := Ideal) x2) (k0_pay633 (F := Ideal) x2) (rows x3 (i 1).val) (rows x4 (i 1).val) := by
  rw [runB_o (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off1_eq i), read_rows arg4 harg4 x4 _ _ _ (off4_eq i)]
  refine (canon_full _ _).trans ?_
  rw [covStrips_eq arg7 _ _ (canon_lb _ _), covStrips_eq arg8 _ _ (canon_lb _ _), covStrips_eq arg11 _ _ (canon_tld _ _), covStrips_eq arg12 _ _ (canon_tld _ _)]
  rfl

/-- The diagonal block's row sums. -/
theorem runB_tot' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.1 =
    RSd (k0_pay632 (F := Ideal) x2) (k0_pay633 (F := Ideal) x2) (rows x3 (i 1).val) := by
  rw [runB_tot (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off1_eq i)]
  exact (canon_full _ _).trans ((cov_full _ _).trans (canon_smd _ _ _ _))

theorem runB_l0' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.1 = LB (k0_pay632 (F := Ideal) x2) (rows x3 ((i 1).val - 1)) := by
  rw [runB_l0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off3_eq i)]
  exact canon_lb _ _

theorem runB_l1' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.1 = LB (k0_pay633 (F := Ideal) x2) (rows x3 ((i 1).val - 1)) := by
  rw [runB_l1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off3_eq i)]
  exact canon_lb _ _

theorem runB_t0' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.1 = TL (L1 (k0_pay632 (F := Ideal) x2) (rows x3 ((i 1).val - 1))) := by
  rw [runB_t0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off3_eq i)]
  exact canon_tl _ _

theorem runB_t1' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.2.1 = TL (L1 (k0_pay633 (F := Ideal) x2) (rows x3 ((i 1).val - 1))) := by
  rw [runB_t1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off3_eq i)]
  exact canon_tl _ _

theorem runB_sm' (hc1 : ¬k0_cond1 i = 1#1) (hc2 : k0_cond2 i = 1#1) (x2 : S256x128.Idx → EReal) (x3 : S4096x128.Idx → EReal) (x4 : S4096x128.Idx → EReal) : View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).2.2.2.2.2.2.2.2.2.2.2.2.2.2.1 = RS (k0_pay632 (F := Ideal) x2) (k0_pay633 (F := Ideal) x2) (rows x3 ((i 1).val - 1)) := by
  rw [runB_sm (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2, read_full arg2 harg2 x2, read_rows arg3 harg3 x3 _ _ _ (off3_eq i)]
  exact canon_sm _ _ _ _

/-- What the loop is entered with. -/
theorem startB_eq (hc1 : ¬k0_cond1 i = 1#1) (hc2 : k0_cond2 i = 1#1) (x2 : S256x128.Idx → EReal) (x3 : S4096x128.Idx → EReal) (x4 : S4096x128.Idx → EReal) :
    startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4 = atSt (k0_pay632 (F := Ideal) x2) (k0_pay633 (F := Ideal) x2) (rows x3) (rows x4) (i 1).val 0 := by
  unfold startB
  exact St_congr (runB_o' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4) (runB_tot' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4) (runB_l0' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4) (runB_l1' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4)
    (runB_t0' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4) (runB_t1' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4) (runB_sm' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4)

/-- What a later block leaves. -/
theorem endB_eq (hc1 : ¬k0_cond1 i = 1#1) (hc2 : k0_cond2 i = 1#1) (x2 : S256x128.Idx → EReal) (x3 : S4096x128.Idx → EReal) (x4 : S4096x128.Idx → EReal) :
    (endB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).o = (seqOT (k0_pay632 (F := Ideal) x2) (k0_pay633 (F := Ideal) x2) (rows x3) (rows x4) (i 1).val (i 1).val).1
    ∧ (endB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4).tot = (seqOT (k0_pay632 (F := Ideal) x2) (k0_pay633 (F := Ideal) x2) (rows x3) (rows x4) (i 1).val (i 1).val).2 := by
  unfold endB
  have eq0 : k0_pay632 (F := Ideal) (View.readAt (Elt Ideal) arg2.view FULL.toLoadRect (harg2.unread x2)) = k0_pay632 (F := Ideal) x2 :=
    congrArg _ (read_full arg2 harg2 x2)
  have eq1 : k0_pay633 (F := Ideal) (View.readAt (Elt Ideal) arg2.view FULL.toLoadRect (harg2.unread x2)) = k0_pay633 (F := Ideal) x2 :=
    congrArg _ (read_full arg2 harg2 x2)
  exact stAt_end' c i arg2 harg2 arg3 harg3 arg4 harg4 arg5 harg5 arg6 harg6 arg7 harg7 arg8 harg8 arg9 harg9 arg10 harg10 arg11 harg11 arg12 harg12 arg13 harg13 arg14 harg14 arg15 harg15 arg16 harg16 _ hc2 _ _ _ (k0_pay632 (F := Ideal) x2) (k0_pay633 (F := Ideal) x2) x3 x4 _ _ _ _ _
    (runB_v2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2) (runB_v10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2) ((runB_v17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2).trans eq0)
    ((runB_v20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 hc1 hc2).trans eq1) (startB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 x2 x3 x4)

/-- The two outputs of one grid point. -/
theorem outs_eq (x2 : S256x128.Idx → EReal) (x3 : S4096x128.Idx → EReal) (x4 : S4096x128.Idx → EReal) :
    outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 = ((seqOT (k0_pay632 (F := Ideal) x2) (k0_pay633 (F := Ideal) x2) (rows x3) (rows x4) (i 1).val (i 1).val).1, (seqOT (k0_pay632 (F := Ideal) x2) (k0_pay633 (F := Ideal) x2) (rows x3) (rows x4) (i 1).val (i 1).val).2) := by
  unfold outs
  by_cases hc1 : k0_cond1 i = 1#1
  · refine (dif_pos hc1).trans ?_
    have h0 : (i 1).val = 0 := (cond1_iff i).mp hc1
    refine Prod.ext ((runA_o' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4).trans ?_) ((runA_tot' c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (not_cond2 i hc1) x2 x3 x4).trans ?_)
    · rw [h0]; rfl
    · rw [h0]; rfl
  · refine (dif_neg hc1).trans ?_
    have h := endB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (cond2_of_not i hc1) x2 x3 x4
    exact Prod.ext h.1 h.2

end Outs

end Cert.Proof.Attn

end
-- ==== Proof.AttnMath.lean ====
/-
  The mathematics of the attention's walk over the keys: the sums over the blocks from the last to the first are the sums over all
  earlier keys.
-/
module

public import Idealize.ShloMosaic.PureOps.Ideal.Laws
public import Mathlib.Data.EReal.Operations
public import Mathlib.Algebra.BigOperators.Intervals
public import Mathlib.Analysis.SpecialFunctions.Log.Basic

@[expose] public section

noncomputable section

namespace Cert.Proof.Attn

open Idealize.ShloMosaic

/-- The log beta of a real score. -/
def lbR (z : ℝ) : ℝ := min z 0 - Real.log (1 + Real.exp (-|z|))

/-- The log of one minus beta. -/
def l1R (z : ℝ) : ℝ := lbR z - z

/-- A real factor comes out of a sum. -/
theorem sum_mul_real {ι : Type*} (s : Finset ι) (f : ι → EReal) (e : ℝ) (he : 0 ≤ e) :
    (∑ k ∈ s, f k) * (e : EReal) = ∑ k ∈ s, f k * (e : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (EReal.coe_nonneg.mpr he) (EReal.coe_ne_top e) _ _

/-- The sum of reals as extended reals. -/
theorem coe_sum' {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem ioo_eq (a b : ℕ) : Finset.Ioo a b = Finset.Ico (a + 1) b := by
  ext k; simp only [Finset.mem_Ico, Finset.mem_Ioo]; omega

/-- A block's sum as one over an interval. -/
theorem sum_block {M : Type*} [AddCommMonoid M] (f : ℕ → M) (j n : ℕ) : ∑ k : Fin n, f (j + k.val) = ∑ C ∈ Finset.Ico j (j + n), f C := by
  rw [Finset.sum_Ico_eq_sum_range, Nat.add_sub_cancel_left, Finset.sum_range]

/-- The first `r` of a block. -/
theorem sum_block_lt {M : Type*} [AddCommMonoid M] (f : ℕ → M) (j n r : ℕ) (hr : r ≤ n) :
    ∑ k : Fin n, (if k.val < r then f (j + k.val) else 0) = ∑ C ∈ Finset.Ico j (j + r), f C := by
  rw [Finset.sum_Ico_eq_sum_range, Nat.add_sub_cancel_left, ← Finset.sum_range (fun k => if k < r then f (j + k) else 0), ← Finset.sum_filter]
  refine Finset.sum_congr ?_ fun _ _ => rfl
  ext k; simp only [Finset.mem_filter, Finset.mem_range]; omega

/-- Later keys of a block. -/
theorem sum_later (f : ℕ → ℝ) (j n c : ℕ) (hc : c < n) :
    ∑ k : Fin n, (f (j + k.val) : EReal) * (if c < k.val then 1 else 0) = ((∑ C ∈ Finset.Ioo (j + c) (j + n), f C : ℝ) : EReal) := by
  have h : ∀ k : Fin n, (f (j + k.val) : EReal) * (if c < k.val then 1 else 0) = (((fun C => if j + c < C then f C else 0) (j + k.val) : ℝ) : EReal) := fun k => by
    by_cases hk : c < k.val
    · rw [if_pos hk, mul_one]; simp [hk]
    · rw [if_neg hk, mul_zero]; simp [hk]
  rw [Finset.sum_congr rfl fun k _ => h k, coe_sum', sum_block (fun C => if j + c < C then f C else 0) j n, ← Finset.sum_filter]
  refine congrArg _ (Finset.sum_congr ?_ fun _ _ => rfl)
  ext k; simp only [Finset.mem_filter, Finset.mem_Ico, Finset.mem_Ioo]; omega

/-- Later keys of the diagonal block, before the query. -/
theorem sum_later_lt (f : ℕ → ℝ) (j n r c : ℕ) (hr : r ≤ n) :
    ∑ k : Fin n, (if k.val < r then (f (j + k.val) : EReal) else 0) * (if c < k.val then 1 else 0) = ((∑ C ∈ Finset.Ioo (j + c) (j + r), f C : ℝ) : EReal) := by
  have h : ∀ k : Fin n, (if k.val < r then (f (j + k.val) : EReal) else 0) * (if c < k.val then 1 else 0)
      = (((fun C => if j + c < C ∧ C < j + r then f C else 0) (j + k.val) : ℝ) : EReal) := fun k => by
    by_cases hk : c < k.val <;> by_cases hr : k.val < r <;> simp [hk, hr]
  rw [Finset.sum_congr rfl fun k _ => h k, coe_sum', sum_block (fun C => if j + c < C ∧ C < j + r then f C else 0) j n, ← Finset.sum_filter]
  refine congrArg _ (Finset.sum_congr ?_ fun _ _ => rfl)
  ext k; simp only [Finset.mem_filter, Finset.mem_Ico, Finset.mem_Ioo]; omega

variable (b l : ℕ → ℝ) (v : ℕ → EReal)

/-- The row sums over the keys from `lo` up to `R`. -/
def totR (lo R : ℕ) : ℝ := ∑ C ∈ Finset.Ico lo R, l C

/-- The weight of key `C` for the query at `R`. -/
def wR (R C : ℕ) : ℝ := Real.exp (b C + ∑ C' ∈ Finset.Ioo C R, l C')

/-- The output over the keys from `lo` up to `R`. -/
def outR (lo R : ℕ) : EReal := ∑ C ∈ Finset.Ico lo R, (wR b l R C : EReal) * v C

/-- The diagonal block's row sums. -/
theorem tot_base (n r : ℕ) (hr : r < 256) :
    ∑ k : Fin 256, (if k.val < r then (l (256 * n + k.val) : EReal) else 0) = (totR l (256 * n) (256 * n + r) : EReal) := by
  rw [sum_block_lt (fun C => (l C : EReal)) (256 * n) 256 r (by omega), coe_sum']; rfl

/-- One more block's row sums. -/
theorem tot_step (j R : ℕ) (hj : 256 * (j + 1) ≤ R) :
    (totR l (256 * (j + 1)) R : EReal) + ∑ k : Fin 256, (l (256 * j + k.val) : EReal) = (totR l (256 * j) R : EReal) := by
  rw [sum_block (fun C => (l C : EReal)) (256 * j) 256, coe_sum', ← EReal.coe_add]
  refine congrArg _ ?_
  unfold totR
  rw [add_comm, show 256 * j + 256 = 256 * (j + 1) by ring]
  exact Finset.sum_Ico_consecutive _ (by omega) hj

/-- The diagonal block's output. -/
theorem out_base (n r : ℕ) (hr : r < 256) :
    ∑ k : Fin 256, (if k.val < r then Ideal.exp ((b (256 * n + k.val) : EReal)
        + ∑ k' : Fin 256, (if k'.val < r then (l (256 * n + k'.val) : EReal) else 0) * (if k.val < k'.val then 1 else 0)) else 0) * v (256 * n + k.val)
      = outR b l v (256 * n) (256 * n + r) := by
  unfold outR
  rw [← sum_block_lt (fun C => (wR b l (256 * n + r) C : EReal) * v C) (256 * n) 256 r (by omega)]
  refine Finset.sum_congr rfl fun k _ => ?_
  by_cases hk : k.val < r
  · rw [if_pos hk, if_pos hk, sum_later_lt l (256 * n) 256 r k.val (by omega), ← EReal.coe_add, Ideal.exp_coe]; rfl
  · rw [if_neg hk, if_neg hk, zero_mul]

/-- One more block's output. -/
theorem out_step (j R : ℕ) (hj : 256 * (j + 1) ≤ R) :
    outR b l v (256 * (j + 1)) R + (∑ k : Fin 256, Ideal.exp ((b (256 * j + k.val) : EReal)
        + ∑ k' : Fin 256, (l (256 * j + k'.val) : EReal) * (if k.val < k'.val then 1 else 0)) * v (256 * j + k.val))
          * Ideal.exp (totR l (256 * (j + 1)) R : EReal)
      = outR b l v (256 * j) R := by
  rw [Ideal.exp_coe, sum_mul_real _ _ _ (Real.exp_nonneg _)]
  have e : ∀ k : Fin 256, Ideal.exp ((b (256 * j + k.val) : EReal)
        + ∑ k' : Fin 256, (l (256 * j + k'.val) : EReal) * (if k.val < k'.val then 1 else 0)) * v (256 * j + k.val)
          * (Real.exp (totR l (256 * (j + 1)) R) : EReal) = (fun C => (wR b l R C : EReal) * v C) (256 * j + k.val) := fun k => by
    rw [sum_later l (256 * j) 256 k.val k.isLt, ← EReal.coe_add, Ideal.exp_coe]
    show _ = (wR b l R (256 * j + k.val) : EReal) * v (256 * j + k.val)
    rw [mul_right_comm, ← EReal.coe_mul, ← Real.exp_add]
    refine congrArg (fun w : ℝ => (w : EReal) * v (256 * j + k.val)) ?_
    unfold wR totR
    rw [add_assoc]
    refine congrArg (fun s => Real.exp (b (256 * j + k.val) + s)) ?_
    rw [ioo_eq, ioo_eq, show 256 * j + 256 = 256 * (j + 1) by ring]
    exact Finset.sum_Ico_consecutive _ (by have := k.isLt; omega) hj
  rw [Finset.sum_congr rfl fun k _ => e k, sum_block (fun C => (wR b l R C : EReal) * v C) (256 * j) 256, add_comm]
  unfold outR
  rw [show 256 * j + 256 = 256 * (j + 1) by ring]
  exact Finset.sum_Ico_consecutive _ (by omega) hj

end Cert.Proof.Attn

end
-- ==== Proof.AttnRow.lean ====
/-
  What the attention leaves at one grid point, row by row: sums over all earlier keys.
-/
module

public import proofs.«01_k».proof.Proof.AttnOuts
public import proofs.«01_k».proof.Proof.AttnMath
public import Idealize.ShloMosaic.Lib.IdealHost

@[expose] public section

set_option maxRecDepth 16384

noncomputable section

namespace Cert.Proof.Attn

open Cert.AttnFwdIdeal Cert.AttnFwdIdeal.Gen
open Idealize.ShloMosaic Idealize.ShloMosaic.ValueIdx

theorem eighth_bf16 : Ideal.ofBits .bf16 0x3E00#16 = (((1 : ℝ) / 8 : ℝ) : EReal) := by
  simp [Ideal.ofBits, Ideal.ieee, -EReal.coe_mul]; norm_num

theorem coe_max' (a b : ℝ) : max (a : EReal) (b : EReal) = ((max a b : ℝ) : EReal) := (EReal.coe_strictMono.monotone.map_max).symm

theorem coe_min' (a b : ℝ) : min (a : EReal) (b : EReal) = ((min a b : ℝ) : EReal) := (EReal.coe_strictMono.monotone.map_min).symm

theorem lbE_coe (z : ℝ) : lbE (z : EReal) = (lbR z : EReal) := by
  unfold lbE lbR
  have h0 : (0 : EReal) = ((0 : ℝ) : EReal) := rfl
  have h1 : (1 : EReal) = ((1 : ℝ) : EReal) := rfl
  rw [← EReal.coe_neg, coe_max', h0, ← EReal.coe_sub, Ideal.exp_coe, h1, ← EReal.coe_add, Ideal.log_coe, coe_min', zero_sub, abs_eq_max_neg,
    if_neg (not_le.mpr (by positivity)), ← EReal.coe_sub]

theorem l1E_coe (z : ℝ) : l1E (z : EReal) = (l1R z : EReal) := by
  unfold l1E l1R
  rw [lbE_coe, ← EReal.coe_sub]

/-- The scores of row `r` of the queries `X2` against the keys `X3`, for the pair's head `h`. -/
def zR (X2 : S256x128.Idx → ℝ) (X3 : S4096x128.Idx → ℝ) (h : ℕ) (r : Fin 256) (C : ℕ) : ℝ :=
  (∑ d : Fin 64, X2 (ix2 r (Fin.ofNat 128 (64 * h + d.val))) * X3 (ix2 (Fin.ofNat 4096 C) (Fin.ofNat 128 (64 * h + d.val)))) * (1 / 8)

section Row

variable (X2 : S256x128.Idx → ℝ) (X3 : S4096x128.Idx → ℝ) (x4 : S4096x128.Idx → EReal)

/-- The queries as extended reals. -/
abbrev eq2 : Blk2 := fun i => (X2 i : EReal)
/-- The keys as extended reals. -/
abbrev eq3 : S4096x128.Idx → EReal := fun i => (X3 i : EReal)

theorem ofNat_val (d : Fin 128) : Fin.ofNat 128 d.val = d := Fin.ext (Nat.mod_eq_of_lt d.isLt)

theorem z_sum (h : ℕ) (r : Fin 256) (C : ℕ) :
    ∑ D ∈ Finset.Ico (64 * h) (64 * h + 64), X2 (ix2 r (Fin.ofNat 128 D)) * (1 / 8) * X3 (ix2 (Fin.ofNat 4096 C) (Fin.ofNat 128 D)) = zR X2 X3 h r C := by
  unfold zR
  rw [← sum_block (fun D => X2 (ix2 r (Fin.ofNat 128 D)) * (1 / 8) * X3 (ix2 (Fin.ofNat 4096 C) (Fin.ofNat 128 D))) (64 * h) 64, Finset.sum_mul]
  exact Finset.sum_congr rfl fun d _ => by ring

theorem z0_apply (j : ℕ) (r c : Fin 256) :
    zOf (F := Ideal) (k0_pay632 (F := Ideal) (eq2 X2)) (rows (eq3 X3) j) (ix2 r c) = (zR X2 X3 0 r (256 * j + c.val) : EReal) := by
  rw [zOf_apply, ← z_sum]
  have e : ∀ d : Fin 128, k0_pay632 (F := Ideal) (eq2 X2) (ix2 r d) * rows (eq3 X3) j (ix2 c d)
      = (((if d.val < 64 then (fun D => X2 (ix2 r (Fin.ofNat 128 D)) * (1 / 8) * X3 (ix2 (Fin.ofNat 4096 (256 * j + c.val)) (Fin.ofNat 128 D))) (0 + d.val) else 0 : ℝ)) : EReal) := fun d => by
    rw [q0_apply, eighth_bf16]
    by_cases hd : d.val < 64
    · rw [if_pos hd, if_pos hd, Nat.zero_add, EReal.coe_mul, EReal.coe_mul, ofNat_val]
      rfl
    · rw [if_neg hd, if_neg hd, zero_mul]; rfl
  rw [Finset.sum_congr rfl fun d _ => e d, coe_sum', sum_block_lt (fun D => X2 (ix2 r (Fin.ofNat 128 D)) * (1 / 8) * X3 (ix2 (Fin.ofNat 4096 (256 * j + c.val)) (Fin.ofNat 128 D))) 0 128 64 (by omega)]

theorem z1_apply (j : ℕ) (r c : Fin 256) :
    zOf (F := Ideal) (k0_pay633 (F := Ideal) (eq2 X2)) (rows (eq3 X3) j) (ix2 r c) = (zR X2 X3 1 r (256 * j + c.val) : EReal) := by
  rw [zOf_apply, ← z_sum]
  have e : ∀ d : Fin 128, k0_pay633 (F := Ideal) (eq2 X2) (ix2 r d) * rows (eq3 X3) j (ix2 c d)
      = ((((fun D => if D < 64 then 0 else X2 (ix2 r (Fin.ofNat 128 D)) * (1 / 8) * X3 (ix2 (Fin.ofNat 4096 (256 * j + c.val)) (Fin.ofNat 128 D))) (0 + d.val) : ℝ)) : EReal) := fun d => by
    rw [q1_apply, eighth_bf16, Nat.zero_add]
    by_cases hd : d.val < 64
    · simp only [if_pos hd, zero_mul]; rfl
    · simp only [if_neg hd]
      rw [EReal.coe_mul, EReal.coe_mul, ofNat_val]
      rfl
  rw [Finset.sum_congr rfl fun d _ => e d, coe_sum',
    sum_block (fun D => if D < 64 then 0 else X2 (ix2 r (Fin.ofNat 128 D)) * (1 / 8) * X3 (ix2 (Fin.ofNat 4096 (256 * j + c.val)) (Fin.ofNat 128 D))) 0 128]
  refine congrArg _ ?_
  rw [← Finset.sum_Ico_consecutive _ (show 0 ≤ 64 by omega) (show 64 ≤ 0 + 128 by omega),
    Finset.sum_eq_zero (s := Finset.Ico 0 64) (fun D hD => if_pos (Finset.mem_Ico.mp hD).2), zero_add]
  exact Finset.sum_congr rfl fun D hD => if_neg (not_lt.mpr (Finset.mem_Ico.mp hD).1)

section Head

variable (q k : Blk2) (z : Fin 256 → ℕ → ℝ) (j : ℕ)
  (hz : ∀ r c : Fin 256, zOf (F := Ideal) q k (ix2 r c) = (z r (256 * j + c.val) : EReal))

include hz

theorem LB_apply (r c : Fin 256) : LB q k (ix2 r c) = (lbR (z r (256 * j + c.val)) : EReal) := by
  unfold LB
  rw [hz, lbE_coe]

theorem L1_apply (r c : Fin 256) : L1 q k (ix2 r c) = (l1R (z r (256 * j + c.val)) : EReal) := by
  unfold L1
  rw [hz, l1E_coe]

theorem L1d_apply (r c : Fin 256) : L1d q k (ix2 r c) = if c.val < r.val then (l1R (z r (256 * j + c.val)) : EReal) else 0 := by
  unfold L1d
  rw [hz, l1E_coe, mask_select]

theorem W_apply (r c : Fin 256) : Ideal.exp (LB q k (ix2 r c) + TL (L1 q k) (ix2 r c))
    = Ideal.exp ((lbR (z r (256 * j + c.val)) : EReal) + ∑ k' : Fin 256, (l1R (z r (256 * j + k'.val)) : EReal) * (if c.val < k'.val then 1 else 0)) := by
  rw [LB_apply q k z j hz, TL, tailOf_apply]
  exact congrArg (fun s => Ideal.exp (_ + s)) (Finset.sum_congr rfl fun k' _ => by rw [L1_apply q k z j hz])

theorem Wd_apply (r c : Fin 256) : Scalar.select (k0_pay628 (ix2 r c)) (Ideal.exp (LB q k (ix2 r c) + TL (L1d q k) (ix2 r c))) 0
    = if c.val < r.val then Ideal.exp ((lbR (z r (256 * j + c.val)) : EReal)
        + ∑ k' : Fin 256, (if k'.val < r.val then (l1R (z r (256 * j + k'.val)) : EReal) else 0) * (if c.val < k'.val then 1 else 0)) else 0 := by
  rw [mask_select, LB_apply q k z j hz, TL, tailOf_apply]
  exact congrArg (fun s => if c.val < r.val then Ideal.exp (_ + s) else 0) (Finset.sum_congr rfl fun k' _ => by rw [L1d_apply q k z j hz])

end Head

/-- The scores of lane `c`'s head. -/
def zc (c : Fin 128) (r : Fin 256) (C : ℕ) : ℝ := zR X2 X3 (if c.val < 64 then 0 else 1) r C

/-- The scaled queries, first head. -/
abbrev Q0 : Blk2 := k0_pay632 (F := Ideal) (eq2 X2)
/-- The scaled queries, second head. -/
abbrev Q1 : Blk2 := k0_pay633 (F := Ideal) (eq2 X2)

theorem PV_apply (j : ℕ) (r : Fin 256) (c : Fin 128) : PV (Q0 X2) (Q1 X2) (rows (eq3 X3) j) (rows x4 j) (ix2 r c)
    = ∑ k : Fin 256, Ideal.exp (((fun C => lbR (zc X2 X3 c r C)) (256 * j + k.val) : EReal)
        + ∑ k' : Fin 256, ((fun C => l1R (zc X2 X3 c r C)) (256 * j + k'.val) : EReal) * (if k.val < k'.val then 1 else 0))
          * (fun C => x4 (ix2 (Fin.ofNat 4096 C) c)) (256 * j + k.val) := by
  unfold PV zc
  rw [wts_eq, wts_eq, attOf_apply]
  by_cases hc : c.val < 64
  · simp only [if_pos hc]
    exact Finset.sum_congr rfl fun k _ => congrArg (· * _) (W_apply (Q0 X2) (rows (eq3 X3) j) (zR X2 X3 0) j (z0_apply X2 X3 j) r k)
  · simp only [if_neg hc]
    exact Finset.sum_congr rfl fun k _ => congrArg (· * _) (W_apply (Q1 X2) (rows (eq3 X3) j) (zR X2 X3 1) j (z1_apply X2 X3 j) r k)

theorem PVd_apply (j : ℕ) (r : Fin 256) (c : Fin 128) : PVd (Q0 X2) (Q1 X2) (rows (eq3 X3) j) (rows x4 j) (ix2 r c)
    = ∑ k : Fin 256, (if k.val < r.val then Ideal.exp (((fun C => lbR (zc X2 X3 c r C)) (256 * j + k.val) : EReal)
        + ∑ k' : Fin 256, (if k'.val < r.val then ((fun C => l1R (zc X2 X3 c r C)) (256 * j + k'.val) : EReal) else 0) * (if k.val < k'.val then 1 else 0)) else 0)
          * (fun C => x4 (ix2 (Fin.ofNat 4096 C) c)) (256 * j + k.val) := by
  unfold PVd zc
  rw [wtsD_eq, wtsD_eq, attOf_apply]
  by_cases hc : c.val < 64
  · simp only [if_pos hc]
    exact Finset.sum_congr rfl fun k _ => congrArg (· * _) (Wd_apply (Q0 X2) (rows (eq3 X3) j) (zR X2 X3 0) j (z0_apply X2 X3 j) r k)
  · simp only [if_neg hc]
    exact Finset.sum_congr rfl fun k _ => congrArg (· * _) (Wd_apply (Q1 X2) (rows (eq3 X3) j) (zR X2 X3 1) j (z1_apply X2 X3 j) r k)

theorem RS_apply (j : ℕ) (r : Fin 256) (c : Fin 128) : RS (Q0 X2) (Q1 X2) (rows (eq3 X3) j) (ix2 r c)
    = ∑ k : Fin 256, ((fun C => l1R (zc X2 X3 c r C)) (256 * j + k.val) : EReal) := by
  unfold RS sumW zc rsum
  by_cases hc : c.val < 64
  · refine (if_pos hc).trans ?_
    simp only [if_pos hc]
    exact Finset.sum_congr rfl fun k _ => L1_apply (Q0 X2) (rows (eq3 X3) j) (zR X2 X3 0) j (z0_apply X2 X3 j) r k
  · refine (if_neg hc).trans ?_
    simp only [if_neg hc]
    exact Finset.sum_congr rfl fun k _ => L1_apply (Q1 X2) (rows (eq3 X3) j) (zR X2 X3 1) j (z1_apply X2 X3 j) r k

theorem RSd_apply (j : ℕ) (r : Fin 256) (c : Fin 128) : RSd (Q0 X2) (Q1 X2) (rows (eq3 X3) j) (ix2 r c)
    = ∑ k : Fin 256, (if k.val < r.val then ((fun C => l1R (zc X2 X3 c r C)) (256 * j + k.val) : EReal) else 0) := by
  unfold RSd sumW zc rsum
  by_cases hc : c.val < 64
  · refine (if_pos hc).trans ?_
    simp only [if_pos hc]
    exact Finset.sum_congr rfl fun k _ => L1d_apply (Q0 X2) (rows (eq3 X3) j) (zR X2 X3 0) j (z0_apply X2 X3 j) r k
  · refine (if_neg hc).trans ?_
    simp only [if_neg hc]
    exact Finset.sum_congr rfl fun k _ => L1d_apply (Q1 X2) (rows (eq3 X3) j) (zR X2 X3 1) j (z1_apply X2 X3 j) r k

/-- The row sums and the output after the diagonal block and `p` earlier ones. -/
theorem seq_apply (n : ℕ) (r : Fin 256) (c : Fin 128) (p : ℕ) (hp : p ≤ n) :
    (seqOT (Q0 X2) (Q1 X2) (rows (eq3 X3)) (rows x4) n p).2 (ix2 r c)
        = (totR (fun C => l1R (zc X2 X3 c r C)) (256 * (n - p)) (256 * n + r.val) : EReal)
    ∧ (seqOT (Q0 X2) (Q1 X2) (rows (eq3 X3)) (rows x4) n p).1 (ix2 r c)
        = outR (fun C => lbR (zc X2 X3 c r C)) (fun C => l1R (zc X2 X3 c r C)) (fun C => x4 (ix2 (Fin.ofNat 4096 C) c)) (256 * (n - p)) (256 * n + r.val) := by
  induction p with
  | zero =>
    refine ⟨(RSd_apply X2 X3 n r c).trans ?_, (PVd_apply X2 X3 x4 n r c).trans ?_⟩
    · exact tot_base (fun C => l1R (zc X2 X3 c r C)) n r.val r.isLt
    · exact out_base (fun C => lbR (zc X2 X3 c r C)) (fun C => l1R (zc X2 X3 c r C)) (fun C => x4 (ix2 (Fin.ofNat 4096 C) c)) n r.val r.isLt
  | succ p ih =>
    obtain ⟨i2, i1⟩ := ih (by omega)
    have e : n - p = n - 1 - p + 1 := by omega
    have e' : n - (p + 1) = n - 1 - p := by omega
    have hj : 256 * (n - 1 - p + 1) ≤ 256 * n + r.val := by omega
    rw [e']
    rw [e] at i1 i2
    constructor
    · show addT (F := Ideal) (seqOT (Q0 X2) (Q1 X2) (rows (eq3 X3)) (rows x4) n p).2 (RS (Q0 X2) (Q1 X2) (rows (eq3 X3) (n - 1 - p))) (ix2 r c) = _
      rw [addT_apply, i2, RS_apply]
      exact tot_step _ _ _ hj
    · show addO (F := Ideal) (PV (Q0 X2) (Q1 X2) (rows (eq3 X3) (n - 1 - p)) (rows x4 (n - 1 - p))) (seqOT (Q0 X2) (Q1 X2) (rows (eq3 X3)) (rows x4) n p).1
        (seqOT (Q0 X2) (Q1 X2) (rows (eq3 X3)) (rows x4) n p).2 (ix2 r c) = _
      rw [addO_apply, i1, i2, PV_apply]
      exact out_step _ _ _ _ _ hj

/-- The whole walk: all earlier keys. -/
theorem seq_end (n : ℕ) (r : Fin 256) (c : Fin 128) :
    (seqOT (Q0 X2) (Q1 X2) (rows (eq3 X3)) (rows x4) n n).2 (ix2 r c) = (totR (fun C => l1R (zc X2 X3 c r C)) 0 (256 * n + r.val) : EReal)
    ∧ (seqOT (Q0 X2) (Q1 X2) (rows (eq3 X3)) (rows x4) n n).1 (ix2 r c)
        = outR (fun C => lbR (zc X2 X3 c r C)) (fun C => l1R (zc X2 X3 c r C)) (fun C => x4 (ix2 (Fin.ofNat 4096 C) c)) 0 (256 * n + r.val) := by
  have h := seq_apply X2 X3 x4 n r c n le_rfl
  rwa [Nat.sub_self, Nat.mul_zero] at h

end Row

end Cert.Proof.Attn

end
-- ==== Proof.AttnRef.lean ====
/-
  The reference attention, entry by entry.
-/
module

public import proofs.«01_k».proof.Proof.Gen.AttnFwdRefIdeal.Read
public import proofs.«01_k».proof.Proof.AttnMath
public import Idealize.ShloMosaic.Lib.IdealHost
public import Idealize.ShloMosaic.Lib.WordCmp

@[expose] public section

set_option maxRecDepth 16384

noncomputable section

namespace Cert.Proof.AttnRef

open Cert.AttnFwdRefIdeal Cert.AttnFwdRefIdeal.Gen Cert.AttnFwdRefIdeal.Read
open Idealize.ShloMosaic Idealize.ShloMosaic.ValueIdx Idealize.ShloMosaic.StableHlo

open Cert.Proof.Attn (lbR l1R totR wR outR coe_sum' sum_block sum_block_lt ioo_eq)

theorem eighth_f32 : Ideal.ofBits .f32 0x3E000000#32 = (((1 : ℝ) / 8 : ℝ) : EReal) := by
  simp [Ideal.ofBits, Ideal.ieee, -EReal.coe_mul]; norm_num

theorem coe_max' (a b : ℝ) : max (a : EReal) (b : EReal) = ((max a b : ℝ) : EReal) := (EReal.coe_strictMono.monotone.map_max).symm

/-- The reference's softplus of a real. -/
theorem softplus_coe (x : ℝ) :
    Scalar.select (Ideal.cmp .une ((x : EReal) - 0) ((x : EReal) - 0)) ((x : EReal) + 0)
      (max (x : EReal) 0 + Ideal.log (1 + Ideal.exp (-(max ((x : EReal) - 0) (-((x : EReal) - 0))))))
      = ((max x 0 + Real.log (1 + Real.exp (-|x|)) : ℝ) : EReal) := by
  have h0 : (0 : EReal) = ((0 : ℝ) : EReal) := rfl
  have h1 : (1 : EReal) = ((1 : ℝ) : EReal) := rfl
  have hc : Ideal.cmp .une ((x : EReal) - 0) ((x : EReal) - 0) = 0#1 := by simp [Ideal.cmp]
  rw [hc, sub_zero, ← EReal.coe_neg, coe_max', ← EReal.coe_neg, Ideal.exp_coe, h1, ← EReal.coe_add, Ideal.log_coe, h0, coe_max',
    if_neg (not_le.mpr (by positivity)), ← EReal.coe_add, abs_eq_max_neg]
  rfl

/-- Which decision a choice is made by does not matter. -/
theorem dite_any {α : Type} {P : Prop} (i j : Decidable P) (f : P → α) (g : ¬P → α) : @dite α P i f g = @dite α P j f g := by
  by_cases h : P
  · rw [dif_pos h, dif_pos h]
  · rw [dif_neg h, dif_neg h]

/-- The window. -/
abbrev W : Shape := ⟨3, ![1, 1, 4096]⟩

/-- A window that reaches to the end sums what is left. -/
theorem window_sum (x : S8x4096x4096.Idx → EReal) (g : ℕ → ℝ) (h : Fin 8) (R C : Fin 4096)
    (hx : ∀ D : Fin 4096, x (ix3 h R D) = (g D.val : EReal)) (init : S_.Idx → EReal) (hi : init (Shape.Idx.first h_S_) = 0) :
    Host.reduceWindowAdd (F := Ideal) (φ := .f32) ![1, 1, 4096] ![1, 1, 1] ![0, 0, 0] ![0, 0, 4095] x init
      reduceWindows_S8x4096x4096_S8x4096x4096_w1s1p0_0_w1s1p0_0_w4096s1p0_4095 h_S_ (ix3 h R C)
      = ((∑ D ∈ Finset.Ico C.val 4096, g D : ℝ) : EReal) := by
  show Ideal.hostReduceWindowAdd ![1, 1, 4096] ![1, 1, 1] ![0, 0, 0] ![0, 0, 4095] reduceWindows_S8x4096x4096_S8x4096x4096_w1s1p0_0_w1s1p0_0_w4096s1p0_4095 x
    (init (Shape.Idx.first h_S_)) (ix3 h R C) = _
  rw [hi]
  unfold Ideal.hostReduceWindowAdd Host.reduceWindow
  dsimp only
  have fold : ∀ (N : ℕ) (G : Fin N → EReal), (List.finRange N).foldl (fun r n => r + G n) 0 = ∑ n, G n := fun N G => by
    rw [Fin.sum_univ_def, List.sum_eq_foldl, List.foldl_map]
  refine (fold _ _).trans ?_
  let G : W.Idx → EReal := fun y =>
    if hin : ∀ a, (![0, 0, 0] : Fin 3 → ℕ) a ≤ (ix3 h R C a).val * (![1, 1, 1] : Fin 3 → ℕ) a + (y a).val
        ∧ (ix3 h R C a).val * (![1, 1, 1] : Fin 3 → ℕ) a + (y a).val - (![0, 0, 0] : Fin 3 → ℕ) a < S8x4096x4096.size a then
      x (fun a => ⟨(ix3 h R C a).val * (![1, 1, 1] : Fin 3 → ℕ) a + (y a).val - (![0, 0, 0] : Fin 3 → ℕ) a, (hin a).2⟩) else 0
  let E : Fin 4096 ≃ W.Idx :=
    { toFun := fun k => fun a => match a with
        | ⟨0, _⟩ => (⟨0, Nat.one_pos⟩ : Fin 1)
        | ⟨1, _⟩ => (⟨0, Nat.one_pos⟩ : Fin 1)
        | ⟨2, _⟩ => k
      invFun := fun y => y (2 : Fin 3)
      left_inv := fun k => rfl
      right_inv := fun y => funext fun a => match a with
        | ⟨0, _⟩ => Fin.ext (by have h : (y (0 : Fin 3)).val < 1 := (y (0 : Fin 3)).isLt; show 0 = (y (0 : Fin 3)).val; omega)
        | ⟨1, _⟩ => Fin.ext (by have h : (y (1 : Fin 3)).val < 1 := (y (1 : Fin 3)).isLt; show 0 = (y (1 : Fin 3)).val; omega)
        | ⟨2, _⟩ => rfl }
  have key : ∀ k : Fin 4096, G (E k) = (((fun D => if D < 4096 then g D else 0) (C.val + k.val) : ℝ) : EReal) := fun k => by
    have hk := k.isLt
    by_cases hlt : C.val + k.val < 4096
    · have hin : ∀ a, (![0, 0, 0] : Fin 3 → ℕ) a ≤ (ix3 h R C a).val * (![1, 1, 1] : Fin 3 → ℕ) a + (E k a).val
          ∧ (ix3 h R C a).val * (![1, 1, 1] : Fin 3 → ℕ) a + (E k a).val - (![0, 0, 0] : Fin 3 → ℕ) a < S8x4096x4096.size a := fun a => match a with
        | ⟨0, _⟩ => ⟨Nat.zero_le _, by have := h.isLt; show h.val * 1 + 0 - 0 < 8; omega⟩
        | ⟨1, _⟩ => ⟨Nat.zero_le _, by have := R.isLt; show R.val * 1 + 0 - 0 < 4096; omega⟩
        | ⟨2, _⟩ => ⟨Nat.zero_le _, by show C.val * 1 + k.val - 0 < 4096; omega⟩
      refine (dif_pos hin).trans ?_
      refine Eq.trans (congrArg x (funext fun a => Fin.ext ?_)) ((hx ⟨C.val + k.val, hlt⟩).trans ?_)
      · match a with
        | ⟨0, _⟩ => show h.val * 1 + 0 - 0 = h.val; omega
        | ⟨1, _⟩ => show R.val * 1 + 0 - 0 = R.val; omega
        | ⟨2, _⟩ => show C.val * 1 + k.val - 0 = C.val + k.val; omega
      · show (g (C.val + k.val) : EReal) = ((if C.val + k.val < 4096 then g (C.val + k.val) else 0 : ℝ) : EReal)
        rw [if_pos hlt]
    · refine (dif_neg fun hin => hlt ?_).trans ?_
      · have h2 : C.val * 1 + k.val - 0 < 4096 := (hin (2 : Fin 3)).2
        omega
      · show (0 : EReal) = ((if C.val + k.val < 4096 then g (C.val + k.val) else 0 : ℝ) : EReal)
        rw [if_neg hlt]; rfl
  have main : ∑ n, G (W.rowMajor.symm n) = ((∑ D ∈ Finset.Ico C.val 4096, g D : ℝ) : EReal) := by
    rw [Equiv.sum_comp W.rowMajor.symm G, ← Equiv.sum_comp E, Finset.sum_congr rfl fun k _ => key k, coe_sum',
      sum_block (fun D => if D < 4096 then g D else 0) C.val 4096, ← Finset.sum_filter]
    refine congrArg _ (Finset.sum_congr ?_ fun _ _ => rfl)
    have := C.isLt
    ext D; simp only [Finset.mem_filter, Finset.mem_Ico]; omega
  refine Eq.trans (Finset.sum_congr rfl fun n _ => ?_) main
  exact dite_any _ _ _ _

/-- The scores of head `h`, query `R`, key `C`. -/
def zRef (X : S4096x1024.Idx → ℝ) (h : Fin 8) (R : Fin 4096) (C : ℕ) : ℝ :=
  (∑ d : Fin 64, X (ix2 R (Fin.ofNat 1024 (64 * h.val + d.val))) * X (ix2 (Fin.ofNat 4096 C) (Fin.ofNat 1024 (512 + (64 * h.val + d.val))))) * (1 / 8)

section Ref

variable (X : S4096x1024.Idx → ℝ) (x1 : S4096x2048.Idx → EReal)

/-- The queries and keys as extended reals. -/
abbrev eX : S4096x1024.Idx → EReal := fun i => (X i : EReal)

theorem v2_at (R : Fin 4096) (h : Fin 8) (d : Fin 64) : val_main_v2 (F := Ideal) (eX X) (ix3 R h d) = (X (ix2 R (Fin.ofNat 1024 (64 * h.val + d.val))) : EReal) := by
  have hR := R.isLt; have hh := h.isLt; have hd := d.isLt
  rw [val_main_v2_apply, val_main_v1_apply, val_main_v0_apply]
  refine congrArg (fun i => (X i : EReal)) (funext fun a => Fin.ext ?_)
  match a with
  | ⟨0, _⟩ => show ((R.val * 8 + h.val) * 64 + d.val) / 512 = R.val; omega
  | ⟨1, _⟩ => show ((R.val * 8 + h.val) * 64 + d.val) % 512 = (64 * h.val + d.val) % 1024; omega

theorem v5_at (R : Fin 4096) (h : Fin 8) (d : Fin 64) : val_main_v5 (F := Ideal) (eX X) (ix3 R h d) = (X (ix2 R (Fin.ofNat 1024 (512 + (64 * h.val + d.val)))) : EReal) := by
  have hR := R.isLt; have hh := h.isLt; have hd := d.isLt
  rw [val_main_v5_apply, val_main_v4_apply, val_main_v3_apply]
  refine congrArg (fun i => (X i : EReal)) (funext fun a => Fin.ext ?_)
  match a with
  | ⟨0, _⟩ => show ((R.val * 8 + h.val) * 64 + d.val) / 512 = R.val; omega
  | ⟨1, _⟩ => show 512 + ((R.val * 8 + h.val) * 64 + d.val) % 512 = (512 + (64 * h.val + d.val)) % 1024; omega

theorem v7_at (R : Fin 4096) (h : Fin 8) (d : Fin 64) : val_main_v7 (F := Ideal) x1 (ix3 R h d) = x1 (ix2 R (Fin.ofNat 2048 (1024 + (64 * h.val + d.val)))) := by
  have hR := R.isLt; have hh := h.isLt; have hd := d.isLt
  rw [val_main_v7_apply, val_main_v6_apply]
  refine congrArg x1 (funext fun a => Fin.ext ?_)
  match a with
  | ⟨0, _⟩ => show ((R.val * 8 + h.val) * 64 + d.val) / 512 = R.val; omega
  | ⟨1, _⟩ => show 1024 + ((R.val * 8 + h.val) * 64 + d.val) % 512 = (1024 + (64 * h.val + d.val)) % 2048; omega

theorem ofNat_val (C : Fin 4096) : Fin.ofNat 4096 C.val = C := Fin.ext (Nat.mod_eq_of_lt C.isLt)

theorem v10_at (h : Fin 8) (R C : Fin 4096) : val_main_v10 (F := Ideal) (eX X) (ix3 h R C) = (zRef X h R C.val : EReal) := by
  rw [val_main_v10_apply, val_main_v9_apply, val_main_cst_apply, val_main_v8_apply]
  have e : ∀ k : Fin 64, val_main_v2 (F := Ideal) (eX X) (lidx_main_v8 (ix3 h R C) k) * val_main_v5 (F := Ideal) (eX X) (ridx_main_v8 (ix3 h R C) k)
      = ((X (ix2 R (Fin.ofNat 1024 (64 * h.val + k.val))) * X (ix2 (Fin.ofNat 4096 C.val) (Fin.ofNat 1024 (512 + (64 * h.val + k.val)))) : ℝ) : EReal) := fun k => by
    have e1 : lidx_main_v8 (ix3 h R C) k = ix3 R h k := funext fun a => match a with | ⟨0, _⟩ => rfl | ⟨1, _⟩ => rfl | ⟨2, _⟩ => rfl
    have e2 : ridx_main_v8 (ix3 h R C) k = ix3 C h k := funext fun a => match a with | ⟨0, _⟩ => rfl | ⟨1, _⟩ => rfl | ⟨2, _⟩ => rfl
    rw [e1, e2, v2_at, v5_at, ofNat_val, EReal.coe_mul]
  rw [Finset.sum_congr rfl fun k _ => e k, coe_sum']
  show ((_ : ℝ) : EReal) * Ideal.ofBits .f32 0x3E000000#32 = _
  rw [eighth_f32, ← EReal.coe_mul]
  rfl

theorem v18_at (h : Fin 8) (R C : Fin 4096) : val_main_v18 (F := Ideal) (eX X) (ix3 h R C) = (l1R (zRef X h R C.val) : EReal) := by
  rw [val_main_v18_apply]
  simp only [val_main_call0_call0_cst_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_v0_apply, val_main_call0_v1_apply, val_main_v17_apply, v10_at]
  show -(Scalar.select (Ideal.cmp .une (-(-(zRef X h R C.val : EReal)) - Ideal.ofBits .f32 0x00000000#32) (-(-(zRef X h R C.val : EReal)) - Ideal.ofBits .f32 0x00000000#32)) (-(-(zRef X h R C.val : EReal)) + Ideal.ofBits .f32 0x00000000#32)
      (max (-(-(zRef X h R C.val : EReal))) (Ideal.ofBits .f32 0x00000000#32) + Ideal.log (1 + Ideal.exp (-(max (-(-(zRef X h R C.val : EReal)) - Ideal.ofBits .f32 0x00000000#32) (-(-(-(zRef X h R C.val : EReal)) - Ideal.ofBits .f32 0x00000000#32))))))) = _
  rw [Ideal.ofBits_zero_f32, neg_neg, softplus_coe, ← EReal.coe_neg]
  refine congrArg _ ?_
  unfold l1R lbR
  rcases le_total (zRef X h R C.val) 0 with hz | hz
  · rw [max_eq_right hz, min_eq_left hz]; ring
  · rw [max_eq_left hz, min_eq_right hz]; ring

theorem v22_at (h : Fin 8) (R C : Fin 4096) : val_main_v22 (F := Ideal) (eX X) (ix3 h R C) = (lbR (zRef X h R C.val) : EReal) := by
  rw [val_main_v22_apply]
  simp only [val_main_call3_call0_cst_apply, val_main_call3_call0_v0_apply, val_main_call3_call0_v1_apply, val_main_call3_call0_v2_apply, val_main_call3_call0_v3_apply, val_main_call3_call0_v4_apply, val_main_call3_call0_v5_apply, val_main_call3_call0_v6_apply, val_main_call3_call0_v7_apply, val_main_call3_call0_v8_apply, val_main_call3_call0_v9_apply, val_main_call3_call0_v10_apply, val_main_call3_call0_v11_apply, val_main_call3_v0_apply, val_main_call3_v1_apply, v10_at]
  show -(Scalar.select (Ideal.cmp .une (-(zRef X h R C.val : EReal) - Ideal.ofBits .f32 0x00000000#32) (-(zRef X h R C.val : EReal) - Ideal.ofBits .f32 0x00000000#32)) (-(zRef X h R C.val : EReal) + Ideal.ofBits .f32 0x00000000#32)
      (max (-(zRef X h R C.val : EReal)) (Ideal.ofBits .f32 0x00000000#32) + Ideal.log (1 + Ideal.exp (-(max (-(zRef X h R C.val : EReal) - Ideal.ofBits .f32 0x00000000#32) (-(-(zRef X h R C.val : EReal) - Ideal.ofBits .f32 0x00000000#32))))))) = _
  rw [Ideal.ofBits_zero_f32, ← EReal.coe_neg, softplus_coe, ← EReal.coe_neg]
  refine congrArg _ ?_
  unfold lbR
  rw [abs_neg]
  rcases le_total (zRef X h R C.val) 0 with hz | hz
  · rw [max_eq_left (by linarith), min_eq_left hz]; ring
  · rw [max_eq_right (by linarith), min_eq_right hz]; ring

/-- The mask. -/
theorem v16_select {α : Type} (i : S4096x4096.Idx) (a b : α) : Scalar.select (val_main_v16 (F := Ideal) i) a b = if (i 1).val < (i 0).val then a else b := by
  have h0 : (i 0).val < 4096 := (i 0).isLt
  have h1 : (i 1).val < 4096 := (i 1).isLt
  have e : val_main_v16 (F := Ideal) i = BitVec.ofBool (decide ((i 1).val < (i 0).val)) := by
    rw [val_main_v16_apply, val_main_v14_apply, val_main_v15_apply, val_main_v12_apply, val_main_v13_apply, val_main_v11_apply, val_main_v11_apply]
    exact WordCmp.cmpi_slt_ofNat (w := 32) (a := (i 1).val) (b := (i 0).val) (by omega) (by omega)
  rw [e]
  by_cases h : (i 1).val < (i 0).val <;> simp [h, Scalar.select]

/-- The masked logs of one minus beta. -/
def gR (h : Fin 8) (R : Fin 4096) (C : ℕ) : ℝ := if C < R.val then l1R (zRef X h R C) else 0

theorem v19_at (h : Fin 8) (R C : Fin 4096) : val_main_v19 (F := Ideal) (eX X) (ix3 h R C) = (gR X h R C.val : EReal) := by
  rw [val_main_v19_apply, val_main_call1_v1_apply, val_main_call1_v2_apply, val_main_call1_v0_apply, val_main_cst_0_apply, v16_select, v18_at]
  show (if C.val < R.val then _ else Ideal.ofBits .f32 0x00000000#32) = _
  unfold gR
  by_cases hC : C.val < R.val
  · rw [if_pos hC, if_pos hC]
  · rw [if_neg hC, if_neg hC, Ideal.ofBits_zero_f32]; rfl

/-- The sum over the later keys before the query. -/
theorem v21_at (h : Fin 8) (R C : Fin 4096) :
    val_main_v21 (F := Ideal) (eX X) (ix3 h R C) = ((∑ D ∈ Finset.Ioo C.val R.val, l1R (zRef X h R D) : ℝ) : EReal) := by
  have hC := C.isLt
  have hR := R.isLt
  have e : val_main_v20 (F := Ideal) (eX X) (ix3 h R C) = ((∑ D ∈ Finset.Ico C.val 4096, gR X h R D : ℝ) : EReal) := by
    unfold val_main_v20
    refine window_sum (val_main_v19 (F := Ideal) (eX X)) (gR X h R) h R C (fun D => v19_at X h R D) _ ?_
    rw [val_main_call2_v0_apply, val_main_call2_cst_apply]
    exact Ideal.ofBits_zero_f32
  rw [val_main_v21_apply, e, v19_at]
  show ((_ : ℝ) : EReal) - ((_ : ℝ) : EReal) = _
  rw [← EReal.coe_sub]
  refine congrArg _ ?_
  rw [Finset.sum_eq_sum_Ico_succ_bot hC, add_sub_cancel_left]
  unfold gR
  rw [← Finset.sum_filter]
  refine Finset.sum_congr ?_ fun _ _ => rfl
  ext D; simp only [Finset.mem_filter, Finset.mem_Ico, Finset.mem_Ioo]; omega

/-- The weights. -/
theorem v25_at (h : Fin 8) (R C : Fin 4096) : val_main_v25 (F := Ideal) (eX X) (ix3 h R C)
    = if C.val < R.val then (wR (fun C => lbR (zRef X h R C)) (fun C => l1R (zRef X h R C)) R.val C.val : EReal) else 0 := by
  rw [val_main_v25_apply, val_main_call4_v1_apply, val_main_call4_v2_apply, val_main_call4_v0_apply, val_main_cst_1_apply, v16_select,
    val_main_v24_apply, val_main_v23_apply, v22_at, v21_at]
  show (if C.val < R.val then Ideal.exp (((_ : ℝ) : EReal) + ((_ : ℝ) : EReal)) else Ideal.ofBits .f32 0x00000000#32) = _
  rw [← EReal.coe_add, Ideal.exp_coe, Ideal.ofBits_zero_f32]
  rfl

/-- The reference's output. -/
theorem out_at (R : Fin 4096) (h : Fin 8) (d : Fin 64) : val_main_v27 (F := Ideal) (eX X) x1 (ix3 R h d)
    = outR (fun C => lbR (zRef X h R C)) (fun C => l1R (zRef X h R C)) (fun C => x1 (ix2 (Fin.ofNat 4096 C) (Fin.ofNat 2048 (1024 + (64 * h.val + d.val))))) 0 R.val := by
  rw [val_main_v27_apply, val_main_v26_apply]
  have e : ∀ k : Fin 4096, val_main_v7 (F := Ideal) x1 (lidx_main_v26 (idx_main_v27 (ix3 R h d)) k) * val_main_v25 (F := Ideal) (eX X) (ridx_main_v26 (idx_main_v27 (ix3 R h d)) k)
      = if k.val < R.val then (fun C => (wR (fun C => lbR (zRef X h R C)) (fun C => l1R (zRef X h R C)) R.val C : EReal)
          * x1 (ix2 (Fin.ofNat 4096 C) (Fin.ofNat 2048 (1024 + (64 * h.val + d.val))))) (0 + k.val) else 0 := fun k => by
    have e1 : lidx_main_v26 (idx_main_v27 (ix3 R h d)) k = ix3 k h d := funext fun a => match a with | ⟨0, _⟩ => rfl | ⟨1, _⟩ => rfl | ⟨2, _⟩ => rfl
    have e2 : ridx_main_v26 (idx_main_v27 (ix3 R h d)) k = ix3 h R k := funext fun a => match a with | ⟨0, _⟩ => rfl | ⟨1, _⟩ => rfl | ⟨2, _⟩ => rfl
    rw [e1, e2, v7_at, v25_at, Nat.zero_add]
    by_cases hk : k.val < R.val
    · rw [if_pos hk, if_pos hk, mul_comm]
      show _ = (_ : EReal) * x1 (ix2 (Fin.ofNat 4096 k.val) _)
      rw [ofNat_val]
    · rw [if_neg hk, if_neg hk, mul_zero]
  rw [Finset.sum_congr rfl fun k _ => e k, sum_block_lt (fun C => (wR (fun C => lbR (zRef X h R C)) (fun C => l1R (zRef X h R C)) R.val C : EReal)
          * x1 (ix2 (Fin.ofNat 4096 C) (Fin.ofNat 2048 (1024 + (64 * h.val + d.val))))) 0 4096 R.val (by have := R.isLt; omega), Nat.zero_add]
  rfl

/-- The reference's row sums. -/
theorem tot_at (R : Fin 4096) (h : Fin 8) (d : Fin 64) : val_main_v31 (F := Ideal) (eX X) (ix3 R h d) = (totR (fun C => l1R (zRef X h R C)) 0 R.val : EReal) := by
  rw [val_main_v31_apply, val_main_v30_apply, val_main_v29_apply, val_main_cst_2_apply]
  have e : ∀ k : Fin 4096, val_main_v19 (F := Ideal) (eX X) (idx_main_v29 (idx_main_v30 (idx_main_v31 (ix3 R h d))) k)
      = ((if k.val < R.val then (fun C => l1R (zRef X h R C)) (0 + k.val) else 0 : ℝ) : EReal) := fun k => by
    have e1 : idx_main_v29 (idx_main_v30 (idx_main_v31 (ix3 R h d))) k = ix3 h R k := funext fun a => match a with | ⟨0, _⟩ => rfl | ⟨1, _⟩ => rfl | ⟨2, _⟩ => rfl
    rw [e1, v19_at, Nat.zero_add]
    rfl
  rw [Finset.sum_congr rfl fun k _ => e k, coe_sum', sum_block_lt (fun C => l1R (zRef X h R C)) 0 4096 R.val (by have := R.isLt; omega), Nat.zero_add]
  show Ideal.ofBits .f32 0x00000000#32 + _ = _
  rw [Ideal.ofBits_zero_f32, zero_add]
  rfl

/-- The first result. -/
theorem res_o (i : S4096x512.Idx) : val_main_v28 (F := Ideal) (eX X) x1 i
    = outR (fun C => lbR (zRef X (Fin.ofNat 8 ((i 1).val / 64)) (i 0) C)) (fun C => l1R (zRef X (Fin.ofNat 8 ((i 1).val / 64)) (i 0) C))
      (fun C => x1 (ix2 (Fin.ofNat 4096 C) (Fin.ofNat 2048 (1024 + (i 1).val)))) 0 (i 0).val := by
  have h0 : (i 0).val < 4096 := (i 0).isLt
  have h1 : (i 1).val < 512 := (i 1).isLt
  have e : idx_main_v28 i = ix3 (i 0) (Fin.ofNat 8 ((i 1).val / 64)) (Fin.ofNat 64 ((i 1).val % 64)) := funext fun a => Fin.ext (match a with
    | ⟨0, _⟩ => by show ((i 0).val * 512 + (i 1).val) / 512 = (i 0).val; omega
    | ⟨1, _⟩ => by show ((i 0).val * 512 + (i 1).val) / 64 % 8 = (i 1).val / 64 % 8; omega
    | ⟨2, _⟩ => by show ((i 0).val * 512 + (i 1).val) % 64 = (i 1).val % 64 % 64; omega)
  have ec : 64 * (Fin.ofNat 8 ((i 1).val / 64)).val + (Fin.ofNat 64 ((i 1).val % 64)).val = (i 1).val := by
    show 64 * ((i 1).val / 64 % 8) + (i 1).val % 64 % 64 = (i 1).val; omega
  rw [val_main_v28_apply, e]
  refine (out_at X x1 (i 0) _ _).trans ?_
  rw [ec]

/-- The second result. -/
theorem res_tot (i : S4096x512.Idx) : val_main_v32 (F := Ideal) (eX X) i
    = (totR (fun C => l1R (zRef X (Fin.ofNat 8 ((i 1).val / 64)) (i 0) C)) 0 (i 0).val : EReal) := by
  have h0 : (i 0).val < 4096 := (i 0).isLt
  have h1 : (i 1).val < 512 := (i 1).isLt
  have e : idx_main_v32 i = ix3 (i 0) (Fin.ofNat 8 ((i 1).val / 64)) (Fin.ofNat 64 ((i 1).val % 64)) := funext fun a => Fin.ext (match a with
    | ⟨0, _⟩ => by show ((i 0).val * 512 + (i 1).val) / 512 = (i 0).val; omega
    | ⟨1, _⟩ => by show ((i 0).val * 512 + (i 1).val) / 64 % 8 = (i 1).val / 64 % 8; omega
    | ⟨2, _⟩ => by show ((i 0).val * 512 + (i 1).val) % 64 = (i 1).val % 64 % 64; omega)
  rw [val_main_v32_apply, e]
  exact tot_at X (i 0) _ _

end Ref

end Cert.Proof.AttnRef

end
-- ==== Proof.AttnFwd.lean ====
/-
  The attention's arrays after the run, and that they are the reference's.
-/
module

public import proofs.«01_k».proof.Proof.AttnFrame
public import proofs.«01_k».proof.Proof.AttnRow
public import proofs.«01_k».proof.Proof.AttnRef
public import proofs.«01_k».proof.Proof.Gen.AttnFwdRefIdeal.Run
public import proofs.«01_k».proof.Proof.Gen.Pre_finite_qk
public import proofs.«01_k».proof.Defs

@[expose] public section

set_option maxRecDepth 16384

noncomputable section

namespace Cert.Proof.AttnFwd

open Cert.AttnFwdIdeal Cert.AttnFwdIdeal.Gen Cert.Proof.Attn
open Idealize.ShloMosaic Idealize.SL.Sem Idealize.ShloMosaic.TcCoe Idealize.ShloMosaic.ValueIdx
open Idealize.ShloMosaic.Pipeline (Dat)

variable (m : (ℓ : Loc nD τ sig) → Buf (Elt Ideal) ℓ) (ρ : Dev nD → PrngReg)

/-- The queries and keys. -/
abbrev arg0 (c : Dev nD) : S4096x1024.Idx → EReal := m ((c : Thread nD τ).loc main_arg0)
/-- The projection whose last half of columns begins with the values. -/
abbrev arg1 (c : Dev nD) : S4096x2048.Idx → EReal := m ((c : Thread nD τ).loc main_arg1)

/-- The queries and keys as reals. -/
def X (c : Dev nD) : S4096x1024.Idx → ℝ := fun i => (arg0 m c i).toReal

theorem inf_f32 : Ideal.ofBits .f32 0x7F800000#32 = ⊤ := by
  simp [Ideal.ofBits, Ideal.ieee]

/-- An extended real of finite magnitude is a real. -/
theorem real_of_abs (x : EReal) (h : max x (-x) < ⊤) : x = (x.toReal : EReal) := by
  refine (EReal.coe_toReal (fun e => ?_) (fun e => ?_)).symm
  · rw [e] at h; exact absurd h (by simp)
  · rw [e] at h; exact absurd h (by simp)

/-- Under the precondition the queries and keys are reals. -/
theorem arg0_eq (h : Cert.Pre_AttnFwdIdeal_finite_qk (hPre_finite_qk := Cert.Pre_finite_qk.Gen.facts) m) (c : Dev nD) (i : S4096x1024.Idx) :
    arg0 m c i = (X m c i : EReal) := by
  refine real_of_abs _ ?_
  have e : Ideal.cmp .olt (max (arg0 m c i) (-(arg0 m c i))) (Ideal.ofBits .f32 0x7F800000#32) = 1#1 := congrFun (h c) i
  rw [inf_f32] at e
  unfold Ideal.cmp at e
  by_contra hn
  simp [hn] at e

/-- Which blocks the windows are at, at each point. -/
theorem idx_facts : ∀ t : Fin cfg0.N, (win0_0.index t 0 = t.val % 16 ∧ win0_0.index t 1 = t.val / 16)
    ∧ (win0_1.index t 0 = 0 ∧ win0_1.index t 1 = 4 + t.val / 16)
    ∧ (win0_2.index t 0 = 0 ∧ win0_2.index t 1 = 8 + t.val / 16)
    ∧ (win0_3.index t 0 = t.val % 16 ∧ win0_3.index t 1 = t.val / 16)
    ∧ (win0_4.index t 0 = t.val % 16 ∧ win0_4.index t 1 = t.val / 16) ∧ (grid0.coords t 1).val = t.val % 16 :=
  (by decide +kernel : ∀ t : Fin grid0.N, (win0_0.index t 0 = t.val % 16 ∧ win0_0.index t 1 = t.val / 16)
    ∧ (win0_1.index t 0 = 0 ∧ win0_1.index t 1 = 4 + t.val / 16)
    ∧ (win0_2.index t 0 = 0 ∧ win0_2.index t 1 = 8 + t.val / 16)
    ∧ (win0_3.index t 0 = t.val % 16 ∧ win0_3.index t 1 = t.val / 16)
    ∧ (win0_4.index t 0 = t.val % 16 ∧ win0_4.index t 1 = t.val / 16) ∧ (grid0.coords t 1).val = t.val % 16)

/-- The block of queries of a point. -/
def X2 (c : Dev nD) (t : Fin cfg0.N) : S256x128.Idx → ℝ := fun y =>
  X m c (ix2 (Fin.ofNat 4096 (256 * (t.val % 16) + (y 0).val)) (Fin.ofNat 1024 (128 * (t.val / 16) + (y 1).val)))

/-- The keys of a point. -/
def X3 (c : Dev nD) (t : Fin cfg0.N) : S4096x128.Idx → ℝ := fun y =>
  X m c (ix2 (y 0) (Fin.ofNat 1024 (512 + 128 * (t.val / 16) + (y 1).val)))

/-- The values of a point. -/
def x4 (c : Dev nD) (t : Fin cfg0.N) : S4096x128.Idx → EReal := fun y =>
  arg1 m c (ix2 (y 0) (Fin.ofNat 2048 (1024 + 128 * (t.val / 16) + (y 1).val)))

variable (h : Cert.Pre_AttnFwdIdeal_finite_qk (hPre_finite_qk := Cert.Pre_finite_qk.Gen.facts) m)

include h in
theorem iblk0_eq (c : Dev nD) (t : Fin cfg0.N) : (iblk m c 0 t : S256x128.Idx → EReal) = eq2 (X2 m c t) := by
  obtain ⟨⟨a0, a1⟩, _⟩ := idx_facts t
  have ht : t.val < 64 := t.isLt
  funext y
  have h0 : (y 0).val < 256 := (y 0).isLt
  have h1 : (y 1).val < 128 := (y 1).isLt
  show V m c main_arg0 ((win0_0.rect t).emb y) = _
  rw [V_main_arg0]
  refine Eq.trans ?_ (arg0_eq m h c _)
  refine congrArg (arg0 m c) (funext fun a => Fin.ext ?_)
  match a with
  | ⟨0, _⟩ =>
    refine (win0_0.rect_emb_val t y 0).trans ?_
    rw [a0]; show t.val % 16 * 256 + (y 0).val = (256 * (t.val % 16) + (y 0).val) % 4096; omega
  | ⟨1, _⟩ =>
    refine (win0_0.rect_emb_val t y 1).trans ?_
    rw [a1]; show t.val / 16 * 128 + (y 1).val = (128 * (t.val / 16) + (y 1).val) % 1024; omega

include h in
theorem iblk1_eq (c : Dev nD) (t : Fin cfg0.N) : (iblk m c 1 t : S4096x128.Idx → EReal) = eq3 (X3 m c t) := by
  obtain ⟨_, ⟨a0, a1⟩, _⟩ := idx_facts t
  have ht : t.val < 64 := t.isLt
  funext y
  have h0 : (y 0).val < 4096 := (y 0).isLt
  have h1 : (y 1).val < 128 := (y 1).isLt
  show V m c main_arg0 ((win0_1.rect t).emb y) = _
  rw [V_main_arg0]
  refine Eq.trans ?_ (arg0_eq m h c _)
  refine congrArg (arg0 m c) (funext fun a => Fin.ext ?_)
  match a with
  | ⟨0, _⟩ => exact win0_1.rect_emb_val_of_index_zero t 0 a0 y
  | ⟨1, _⟩ =>
    refine (win0_1.rect_emb_val t y 1).trans ?_
    rw [a1]; show (4 + t.val / 16) * 128 + (y 1).val = (512 + 128 * (t.val / 16) + (y 1).val) % 1024; omega

theorem iblk2_eq (c : Dev nD) (t : Fin cfg0.N) : (iblk m c 2 t : S4096x128.Idx → EReal) = x4 m c t := by
  obtain ⟨_, _, ⟨a0, a1⟩, _⟩ := idx_facts t
  have ht : t.val < 64 := t.isLt
  funext y
  have h0 : (y 0).val < 4096 := (y 0).isLt
  have h1 : (y 1).val < 128 := (y 1).isLt
  show V m c main_arg1 ((win0_2.rect t).emb y) = _
  rw [V_main_arg1]
  refine congrArg (arg1 m c) (funext fun a => Fin.ext ?_)
  match a with
  | ⟨0, _⟩ => exact win0_2.rect_emb_val_of_index_zero t 0 a0 y
  | ⟨1, _⟩ =>
    refine (win0_2.rect_emb_val t y 1).trans ?_
    rw [a1]; show (8 + t.val / 16) * 128 + (y 1).val = (1024 + 128 * (t.val / 16) + (y 1).val) % 2048; omega

include h in
/-- The two outputs of a point: the whole walk over its blocks. -/
theorem outsAt_eq (c : Dev nD) (t : Fin cfg0.N) : outsAt m c t
    = ((seqOT (Q0 (X2 m c t)) (Q1 (X2 m c t)) (rows (eq3 (X3 m c t))) (rows (x4 m c t)) (t.val % 16) (t.val % 16)).1,
       (seqOT (Q0 (X2 m c t)) (Q1 (X2 m c t)) (rows (eq3 (X3 m c t))) (rows (x4 m c t)) (t.val % 16) (t.val % 16)).2) := by
  obtain ⟨_, _, _, _, _, e⟩ := idx_facts t
  have key := outs_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t)
  rw [e, iblk0_eq m h c t, iblk1_eq m h c t, iblk2_eq m c t] at key
  refine Eq.trans ?_ key
  unfold outsAt
  rw [← iblk0_eq m h c t, ← iblk1_eq m h c t, ← iblk2_eq m c t]

/-- The scores of a point are the reference's. -/
theorem zc_eq (c : Dev nD) (t : Fin cfg0.N) (r : Fin 256) (cc : Fin 128) (C : ℕ) :
    zc (X2 m c t) (X3 m c t) cc r C
      = AttnRef.zRef (X m c) (Fin.ofNat 8 ((128 * (t.val / 16) + cc.val) / 64)) (Fin.ofNat 4096 (256 * (t.val % 16) + r.val)) C := by
  have ht : t.val < 64 := t.isLt
  have hc := cc.isLt
  unfold zc zR AttnRef.zRef X2 X3
  refine congrArg (· * (1 / 8 : ℝ)) (Finset.sum_congr rfl fun d _ => congrArg₂ (· * ·) ?_ ?_)
  · refine congrArg (X m c) (congrArg (ix2 _) (Fin.ext ?_))
    have hd := d.isLt
    show (128 * (t.val / 16) + (64 * (if cc.val < 64 then 0 else 1) + d.val) % 128) % 1024 = (64 * ((128 * (t.val / 16) + cc.val) / 64 % 8) + d.val) % 1024
    split <;> omega
  · refine congrArg (X m c) (congrArg (ix2 _) (Fin.ext ?_))
    have hd := d.isLt
    show (512 + 128 * (t.val / 16) + (64 * (if cc.val < 64 then 0 else 1) + d.val) % 128) % 1024 = (512 + (64 * ((128 * (t.val / 16) + cc.val) / 64 % 8) + d.val)) % 1024
    split <;> omega

/-- The reference's first array for the kernel's arguments. -/
abbrev RO (c : Dev nD) : S4096x512.Idx → EReal :=
  AttnFwdRefIdeal.Read.val_main_v28 (F := Ideal) (m ((c : Thread nD τ).loc main_arg0)) (m ((c : Thread nD τ).loc main_arg1))

/-- The reference's second array for the kernel's arguments. -/
abbrev RT (c : Dev nD) : S4096x512.Idx → EReal :=
  AttnFwdRefIdeal.Read.val_main_v32 (F := Ideal) (m ((c : Thread nD τ).loc main_arg0))

include h in
theorem arg0_fun (c : Dev nD) : (m ((c : Thread nD τ).loc main_arg0) : S4096x1024.Idx → EReal) = AttnRef.eX (X m c) :=
  funext fun i => arg0_eq m h c i

include h in
/-- What a point writes back of the output is its block of the reference's array. -/
theorem flushed3 (c : Dev nD) (t : Fin cfg0.N) :
    (dats m 0 c).flushed 3 t = ((cfg0.win 3).blk t).view.read (Elt Ideal) (RO m c) := by
  obtain ⟨_, _, _, ⟨o0, o1⟩, _, _⟩ := idx_facts t
  have ht : t.val < 64 := t.isLt
  show (cfg0.win 3).cut (grid0.coords t) ((dats m 0 c).after 3 t) = _
  rw [after3, outsAt_eq m h c t]
  funext j
  have h0 : (j 0).val < 256 := (j 0).isLt
  have h1 : (j 1).val < 128 := (j 1).isLt
  show (seqOT (Q0 (X2 m c t)) (Q1 (X2 m c t)) (rows (eq3 (X3 m c t))) (rows (x4 m c t)) (t.val % 16) (t.val % 16)).1 j = RO m c ((win0_3.rect t).emb j)
  have e0 : (((win0_3.rect t).emb j : S4096x512.Idx) 0).val = 256 * (t.val % 16) + (j 0).val :=
    (win0_3.rect_emb_val t j 0).trans (by rw [o0]; show t.val % 16 * 256 + (j 0).val = _; omega)
  have e1 : (((win0_3.rect t).emb j : S4096x512.Idx) 1).val = 128 * (t.val / 16) + (j 1).val :=
    (win0_3.rect_emb_val t j 1).trans (by rw [o1]; show t.val / 16 * 128 + (j 1).val = _; omega)
  generalize hi : ((win0_3.rect t).emb j : S4096x512.Idx) = i at e0 e1
  have er : i 0 = Fin.ofNat 4096 (256 * (t.val % 16) + (j 0).val) := Fin.ext (by show (i 0).val = (256 * (t.val % 16) + (j 0).val) % 4096; omega)
  unfold RO
  rw [arg0_fun m h c]
  refine Eq.trans ?_ (AttnRef.res_o (X m c) (arg1 m c) i).symm
  rw [e1, e0, er]
  have ej : j = ix2 (j 0) (j 1) := eq_ix2 j
  rw [ej]
  refine (seq_end (X2 m c t) (X3 m c t) (x4 m c t) (t.val % 16) (j 0) (j 1)).2.trans ?_
  have ez : (fun C => zc (X2 m c t) (X3 m c t) (j 1) (j 0) C) = fun C => AttnRef.zRef (X m c) (Fin.ofNat 8 ((128 * (t.val / 16) + (j 1).val) / 64)) (Fin.ofNat 4096 (256 * (t.val % 16) + (j 0).val)) C :=
    funext fun C => zc_eq m c t (j 0) (j 1) C
  have ev : (fun C => x4 m c t (ix2 (Fin.ofNat 4096 C) (j 1))) = fun C => arg1 m c (ix2 (Fin.ofNat 4096 C) (Fin.ofNat 2048 (1024 + (128 * (t.val / 16) + (j 1).val)))) :=
    funext fun C => congrArg (arg1 m c) (congrArg (ix2 _) (Fin.ext (by
      show (1024 + 128 * (t.val / 16) + (j 1).val) % 2048 = (1024 + (128 * (t.val / 16) + (j 1).val)) % 2048; omega)))
  rw [ev, funext fun C => congrArg lbR (congrFun ez C), funext fun C => congrArg l1R (congrFun ez C)]
  rfl

include h in
/-- What a point writes back of the sums is its block of the reference's array. -/
theorem flushed4 (c : Dev nD) (t : Fin cfg0.N) :
    (dats m 0 c).flushed 4 t = ((cfg0.win 4).blk t).view.read (Elt Ideal) (RT m c) := by
  obtain ⟨_, _, _, _, ⟨o0, o1⟩, _⟩ := idx_facts t
  have ht : t.val < 64 := t.isLt
  show (cfg0.win 4).cut (grid0.coords t) ((dats m 0 c).after 4 t) = _
  rw [after4, outsAt_eq m h c t]
  funext j
  have h0 : (j 0).val < 256 := (j 0).isLt
  have h1 : (j 1).val < 128 := (j 1).isLt
  show (seqOT (Q0 (X2 m c t)) (Q1 (X2 m c t)) (rows (eq3 (X3 m c t))) (rows (x4 m c t)) (t.val % 16) (t.val % 16)).2 j = RT m c ((win0_4.rect t).emb j)
  have e0 : (((win0_4.rect t).emb j : S4096x512.Idx) 0).val = 256 * (t.val % 16) + (j 0).val :=
    (win0_4.rect_emb_val t j 0).trans (by rw [o0]; show t.val % 16 * 256 + (j 0).val = _; omega)
  have e1 : (((win0_4.rect t).emb j : S4096x512.Idx) 1).val = 128 * (t.val / 16) + (j 1).val :=
    (win0_4.rect_emb_val t j 1).trans (by rw [o1]; show t.val / 16 * 128 + (j 1).val = _; omega)
  generalize hi : ((win0_4.rect t).emb j : S4096x512.Idx) = i at e0 e1
  have er : i 0 = Fin.ofNat 4096 (256 * (t.val % 16) + (j 0).val) := Fin.ext (by show (i 0).val = (256 * (t.val % 16) + (j 0).val) % 4096; omega)
  unfold RT
  rw [arg0_fun m h c]
  refine Eq.trans ?_ (AttnRef.res_tot (X m c) i).symm
  rw [e1, e0, er]
  have ej : j = ix2 (j 0) (j 1) := eq_ix2 j
  rw [ej]
  refine (seq_end (X2 m c t) (X3 m c t) (x4 m c t) (t.val % 16) (j 0) (j 1)).1.trans ?_
  have ez : (fun C => zc (X2 m c t) (X3 m c t) (j 1) (j 0) C) = fun C => AttnRef.zRef (X m c) (Fin.ofNat 8 ((128 * (t.val / 16) + (j 1).val) / 64)) (Fin.ofNat 4096 (256 * (t.val % 16) + (j 0).val)) C :=
    funext fun C => zc_eq m c t (j 0) (j 1) C
  rw [funext fun C => congrArg l1R (congrFun ez C)]
  rfl

/-- Every index of the result lies in the block of some point. -/
theorem covered3 (i : S4096x512.Idx) :
    ∃ t : Fin cfg0.N, (cfg0.win 3).flush t = true ∧ i ∈ ((cfg0.win 3).blk t).view.set := by
  have h0 : (i 0).val < 4096 := (i 0).isLt
  have h1 : (i 1).val < 512 := (i 1).isLt
  refine ⟨⟨(i 1).val / 128 * 16 + (i 0).val / 256, by show _ < 64; omega⟩, flush0_3 _, ?_⟩
  generalize ht : (⟨(i 1).val / 128 * 16 + (i 0).val / 256, _⟩ : Fin cfg0.N) = t
  have hv : t.val = (i 1).val / 128 * 16 + (i 0).val / 256 := by rw [← ht]
  obtain ⟨_, _, _, ⟨o0, o1⟩, _, _⟩ := idx_facts t
  show i ∈ ((View.whole main_v0_0).slice (win0_3.rect t)).set
  rw [View.set_slice_whole, Rect.mem_set_unit]
  intro a
  match a with
  | ⟨0, _⟩ => show win0_3.index t 0 * 256 ≤ (i 0).val ∧ (i 0).val < win0_3.index t 0 * 256 + 256
              rw [o0, hv]; omega
  | ⟨1, _⟩ => show win0_3.index t 1 * 128 ≤ (i 1).val ∧ (i 1).val < win0_3.index t 1 * 128 + 128
              rw [o1, hv]; omega

include h in
/-- After the run the kernel's result array is the reference's. -/
theorem final3 (c : Dev nD) : (dats m 0 c).arrAt 3 cfg0.N = RO m c :=
  (dats m 0 c).arrAt_eq_of_cover 3 (RO m c) (fun t _ => flushed3 m h c t) covered3

/-- Every index of the result lies in the block of some point. -/
theorem covered4 (i : S4096x512.Idx) :
    ∃ t : Fin cfg0.N, (cfg0.win 4).flush t = true ∧ i ∈ ((cfg0.win 4).blk t).view.set := by
  have h0 : (i 0).val < 4096 := (i 0).isLt
  have h1 : (i 1).val < 512 := (i 1).isLt
  refine ⟨⟨(i 1).val / 128 * 16 + (i 0).val / 256, by show _ < 64; omega⟩, flush0_4 _, ?_⟩
  generalize ht : (⟨(i 1).val / 128 * 16 + (i 0).val / 256, _⟩ : Fin cfg0.N) = t
  have hv : t.val = (i 1).val / 128 * 16 + (i 0).val / 256 := by rw [← ht]
  obtain ⟨_, _, _, _, ⟨o0, o1⟩, _⟩ := idx_facts t
  show i ∈ ((View.whole main_v0_1).slice (win0_4.rect t)).set
  rw [View.set_slice_whole, Rect.mem_set_unit]
  intro a
  match a with
  | ⟨0, _⟩ => show win0_4.index t 0 * 256 ≤ (i 0).val ∧ (i 0).val < win0_4.index t 0 * 256 + 256
              rw [o0, hv]; omega
  | ⟨1, _⟩ => show win0_4.index t 1 * 128 ≤ (i 1).val ∧ (i 1).val < win0_4.index t 1 * 128 + 128
              rw [o1, hv]; omega

include h in
/-- After the run the kernel's result array is the reference's. -/
theorem final4 (c : Dev nD) : (dats m 0 c).arrAt 4 cfg0.N = RT m c :=
  (dats m 0 c).arrAt_eq_of_cover 4 (RT m c) (fun t _ => flushed4 m h c t) covered4

end Cert.Proof.AttnFwd

namespace Cert.Proof.AttnFwd

open Idealize.ShloMosaic Idealize.SL.Sem Idealize.ShloMosaic.TcCoe

/-- The kernel's frame over the extended reals. -/
theorem frame_ideal : Cert.quiescent_AttnFwdIdeal (hAttnFwdIdeal := Cert.AttnFwdIdeal.Gen.facts) := fun m ρ _ => Cert.Proof.Attn.frame (F := Ideal) m ρ

/-- The same, under the precondition. -/
theorem frame_ideal_pre : Cert.quiescent_AttnFwdIdeal_pre_finite_qk (hAttnFwdIdeal := Cert.AttnFwdIdeal.Gen.facts) (hPre_finite_qk := Cert.Pre_finite_qk.Gen.facts) :=
  fun m ρ _ => Cert.Proof.Attn.frame (F := Ideal) m ρ

/-- The reference's own run: its arguments end unchanged. -/
theorem frame_ref : Cert.quiescent_AttnFwdRefIdeal (hAttnFwdRefIdeal := Cert.AttnFwdRefIdeal.Gen.facts) := fun m ρ _ =>
  (θ_run _ _ _).mono (fun r h => ⟨fun c => (h c).2.2, sem_eq_zero_of_no_sems (by decide) r.2⟩) (AttnFwdRefIdeal.Value.run m ρ)

/-- The same, under the precondition. -/
theorem frame_ref_pre : Cert.quiescent_AttnFwdRefIdeal_pre_finite_qk (hAttnFwdRefIdeal := Cert.AttnFwdRefIdeal.Gen.facts) (hPre_finite_qk := Cert.Pre_finite_qk.Gen.facts) :=
  fun m ρ _ => frame_ref m ρ trivial

/-- The claim: run on the same arguments, kernel and reference leave the same two arrays. -/
theorem algebraic : Cert.algebraic_AttnFwdIdeal_AttnFwdRefIdeal_pre_finite_qk (hAttnFwdIdeal := Cert.AttnFwdIdeal.Gen.facts)
    (hAttnFwdRefIdeal := Cert.AttnFwdRefIdeal.Gen.facts) (hPre_finite_qk := Cert.Pre_finite_qk.Gen.facts) := by
  intro m ρ m' ρ' h hag
  refine ⟨fun c => RO m c, fun c => RT m c, (θ_run _ _ _).mono (fun r hr c => ?_) (θ_run_and (Attn.run_main (F := Ideal) m ρ) (Attn.unchanged (F := Ideal) m ρ)),
    (θ_run _ _ _).mono (fun r hr c => ?_) (AttnFwdRefIdeal.Value.run m' ρ')⟩
  · exact ⟨((hr.1 c).1 3).trans (final3 m h c), ((hr.1 c).1 4).trans (final4 m h c), hr.2 c⟩
  · obtain ⟨h1, h2, k⟩ := hr c
    refine ⟨h1.trans ?_, h2.trans ?_, k⟩
    · rw [AttnFwdRefIdeal.Read.val_main_v28_eq, (hag c).1, (hag c).2]
    · rw [AttnFwdRefIdeal.Read.val_main_v32_eq, (hag c).1]

end Cert.Proof.AttnFwd

end
-- ==== Proof.AttnBits.lean ====
/-
  The attention's frame at the words.
-/
module

public import proofs.«01_k».proof.Proof.AttnFrame
public import proofs.«01_k».proof.Proof.Gen.AttnFwd.Frame
public import proofs.«01_k».proof.Proof.Gen.AttnFwdIdeal.Frame
public import proofs.«01_k».proof.Defs

@[expose] public section

set_option maxRecDepth 65536

noncomputable section

namespace Cert.Proof.AttnFwd

open Idealize.ShloMosaic Idealize.SL.Sem Idealize.ShloMosaic.TcCoe

attribute [local instance] Cert.AttnFwd.Gen.facts Cert.AttnFwdIdeal.Gen.facts

/-- The two programs have the same text: the kernel's function. -/
theorem fn_eq : @Cert.AttnFwd.cc0_attn_fwd Bits _ _ = @Cert.AttnFwdIdeal.cc0_attn_fwd Bits _ _ := rfl

/-- The kernels' body table. -/
theorem defs₀_eq : Cert.AttnFwd.defs₀ (F := Bits) = Cert.AttnFwdIdeal.defs₀ (F := Bits) := by
  unfold Cert.AttnFwd.defs₀ Cert.AttnFwdIdeal.defs₀
  refine congrArg Defs.onTc (funext fun l => ?_)
  match l with
  | ⟨0, _⟩ => exact funext fun x => rfl
  | ⟨n + 1, hn⟩ => exact absurd hn (Nat.not_lt.2 (Nat.le_add_left _ _))

/-- The whole table. -/
theorem defs_eq : Cert.AttnFwd.defs (F := Bits) = Cert.AttnFwdIdeal.defs (F := Bits) := by
  unfold Cert.AttnFwd.defs Cert.AttnFwdIdeal.defs
  rw [defs₀_eq]
  rfl

/-- The main functions. -/
theorem main_eq : Cert.AttnFwd.main (F := Bits) = Cert.AttnFwdIdeal.main (F := Bits) := rfl

/-- The kernel's frame over the words: the same run, the program's text being the same. -/
theorem frame : Cert.quiescent_AttnFwd (hAttnFwd := Cert.AttnFwd.Gen.facts) := fun m ρ _ => by
  have h := Cert.Proof.Attn.frame (F := Bits) m ρ
  rw [defs_eq, main_eq]
  exact h

end Cert.Proof.AttnFwd

end
-- ==== Proof.lean ====
/-
  The certificate's claims, put together: for every call the kernel's frame at the machine's words, its frame and its
  reference's frame over the extended reals, and that over the extended reals the two leave equal results. The value proofs
  are in the modules named after the calls; the frames of the calls whose body runs straight through are the generated ones.
-/
module

public import proofs.«01_k».proof.Defs
public import proofs.«01_k».proof.Proof.LossHead
public import proofs.«01_k».proof.Proof.Gen.LossHead.Frame
public import proofs.«01_k».proof.Proof.LnMod
public import proofs.«01_k».proof.Proof.Gen.LnMod.Frame
public import proofs.«01_k».proof.Proof.Gate
public import proofs.«01_k».proof.Proof.Gen.Gate.Frame
public import proofs.«01_k».proof.Proof.DAct
public import proofs.«01_k».proof.Proof.Gen.DAct.Frame
public import proofs.«01_k».proof.Proof.DWDown
public import proofs.«01_k».proof.Proof.Gen.DWDown.Frame
public import proofs.«01_k».proof.Proof.DH2
public import proofs.«01_k».proof.Proof.Gen.DH2.Frame
public import proofs.«01_k».proof.Proof.DWUp
public import proofs.«01_k».proof.Proof.Gen.DWUp.Frame
public import proofs.«01_k».proof.Proof.DO
public import proofs.«01_k».proof.Proof.Gen.DO.Frame
public import proofs.«01_k».proof.Proof.DWOut
public import proofs.«01_k».proof.Proof.Gen.DWOut.Frame
public import proofs.«01_k».proof.Proof.DH
public import proofs.«01_k».proof.Proof.Gen.DH.Frame
public import proofs.«01_k».proof.Proof.DWIn
public import proofs.«01_k».proof.Proof.Gen.DWIn.Frame
public import proofs.«01_k».proof.Proof.MIn
public import proofs.«01_k».proof.Proof.Gen.MIn.Frame
public import proofs.«01_k».proof.Proof.MOut
public import proofs.«01_k».proof.Proof.Gen.MOut.Frame
public import proofs.«01_k».proof.Proof.MUp
public import proofs.«01_k».proof.Proof.Gen.MUp.Frame
public import proofs.«01_k».proof.Proof.MDown
public import proofs.«01_k».proof.Proof.Gen.MDown.Frame
public import proofs.«01_k».proof.Proof.OptIn
public import proofs.«01_k».proof.Proof.Gen.OptIn.Frame
public import proofs.«01_k».proof.Proof.OptOut
public import proofs.«01_k».proof.Proof.Gen.OptOut.Frame
public import proofs.«01_k».proof.Proof.OptUp
public import proofs.«01_k».proof.Proof.Gen.OptUp.Frame
public import proofs.«01_k».proof.Proof.OptConv
public import proofs.«01_k».proof.Proof.Gen.OptConv.Frame
public import proofs.«01_k».proof.Proof.OptDown
public import proofs.«01_k».proof.Proof.Gen.OptDown.Frame
public import proofs.«01_k».proof.Proof.OptAda
public import proofs.«01_k».proof.Proof.Gen.OptAda.Frame
public import proofs.«01_k».proof.Proof.OptSmall
public import proofs.«01_k».proof.Proof.Gen.OptSmall.Frame
public import proofs.«01_k».proof.Proof.AttnFwd
public import proofs.«01_k».proof.Proof.AttnBits

@[expose] public section

noncomputable section

namespace Cert.Proof

open Idealize.ShloMosaic Idealize.SL.Sem

/-- Everything claimed. -/
theorem claim : Cert.Claim :=
  ⟨Cert.LossHead.Gen.facts,
  Cert.LossHeadIdeal.Gen.facts,
  Cert.LossHeadRefIdeal.Gen.facts,
  Cert.LnMod.Gen.facts,
  Cert.LnModIdeal.Gen.facts,
  Cert.LnModRefIdeal.Gen.facts,
  Cert.Gate.Gen.facts,
  Cert.GateIdeal.Gen.facts,
  Cert.GateRefIdeal.Gen.facts,
  Cert.DAct.Gen.facts,
  Cert.DActIdeal.Gen.facts,
  Cert.DActRefIdeal.Gen.facts,
  Cert.DWDown.Gen.facts,
  Cert.DWDownIdeal.Gen.facts,
  Cert.DWDownRefIdeal.Gen.facts,
  Cert.DH2.Gen.facts,
  Cert.DH2Ideal.Gen.facts,
  Cert.DH2RefIdeal.Gen.facts,
  Cert.DWUp.Gen.facts,
  Cert.DWUpIdeal.Gen.facts,
  Cert.DWUpRefIdeal.Gen.facts,
  Cert.DO.Gen.facts,
  Cert.DOIdeal.Gen.facts,
  Cert.DORefIdeal.Gen.facts,
  Cert.DWOut.Gen.facts,
  Cert.DWOutIdeal.Gen.facts,
  Cert.DWOutRefIdeal.Gen.facts,
  Cert.DH.Gen.facts,
  Cert.DHIdeal.Gen.facts,
  Cert.DHRefIdeal.Gen.facts,
  Cert.DWIn.Gen.facts,
  Cert.DWInIdeal.Gen.facts,
  Cert.DWInRefIdeal.Gen.facts,
  Cert.MIn.Gen.facts,
  Cert.MInIdeal.Gen.facts,
  Cert.MInRefIdeal.Gen.facts,
  Cert.MOut.Gen.facts,
  Cert.MOutIdeal.Gen.facts,
  Cert.MOutRefIdeal.Gen.facts,
  Cert.MUp.Gen.facts,
  Cert.MUpIdeal.Gen.facts,
  Cert.MUpRefIdeal.Gen.facts,
  Cert.MDown.Gen.facts,
  Cert.MDownIdeal.Gen.facts,
  Cert.MDownRefIdeal.Gen.facts,
  Cert.OptIn.Gen.facts,
  Cert.OptInIdeal.Gen.facts,
  Cert.OptInRefIdeal.Gen.facts,
  Cert.OptOut.Gen.facts,
  Cert.OptOutIdeal.Gen.facts,
  Cert.OptOutRefIdeal.Gen.facts,
  Cert.OptUp.Gen.facts,
  Cert.OptUpIdeal.Gen.facts,
  Cert.OptUpRefIdeal.Gen.facts,
  Cert.OptConv.Gen.facts,
  Cert.OptConvIdeal.Gen.facts,
  Cert.OptConvRefIdeal.Gen.facts,
  Cert.OptDown.Gen.facts,
  Cert.OptDownIdeal.Gen.facts,
  Cert.OptDownRefIdeal.Gen.facts,
  Cert.OptAda.Gen.facts,
  Cert.OptAdaIdeal.Gen.facts,
  Cert.OptAdaRefIdeal.Gen.facts,
  Cert.OptSmall.Gen.facts,
  Cert.OptSmallIdeal.Gen.facts,
  Cert.OptSmallRefIdeal.Gen.facts,
  Cert.AttnFwd.Gen.facts,
  Cert.AttnFwdIdeal.Gen.facts,
  Cert.AttnFwdRefIdeal.Gen.facts,
  Cert.Pre_finite_qk.Gen.facts,
  fun m ρ _ => Cert.LossHead.Gen.frame m ρ,
  fun m ρ _ => Cert.LossHeadIdeal.Gen.frame m ρ,
  LossHead.frame_ref,
  fun m ρ _ => Cert.LnMod.Gen.frame m ρ,
  fun m ρ _ => Cert.LnModIdeal.Gen.frame m ρ,
  LnMod.frame_ref,
  fun m ρ _ => Cert.Gate.Gen.frame m ρ,
  fun m ρ _ => Cert.GateIdeal.Gen.frame m ρ,
  Gate.frame_ref,
  fun m ρ _ => Cert.DAct.Gen.frame m ρ,
  fun m ρ _ => Cert.DActIdeal.Gen.frame m ρ,
  DAct.frame_ref,
  fun m ρ _ => Cert.DWDown.Gen.frame m ρ,
  fun m ρ _ => Cert.DWDownIdeal.Gen.frame m ρ,
  DWDown.frame_ref,
  fun m ρ _ => Cert.DH2.Gen.frame m ρ,
  fun m ρ _ => Cert.DH2Ideal.Gen.frame m ρ,
  DH2.frame_ref,
  fun m ρ _ => Cert.DWUp.Gen.frame m ρ,
  fun m ρ _ => Cert.DWUpIdeal.Gen.frame m ρ,
  DWUp.frame_ref,
  fun m ρ _ => Cert.DO.Gen.frame m ρ,
  fun m ρ _ => Cert.DOIdeal.Gen.frame m ρ,
  DO.frame_ref,
  fun m ρ _ => Cert.DWOut.Gen.frame m ρ,
  fun m ρ _ => Cert.DWOutIdeal.Gen.frame m ρ,
  DWOut.frame_ref,
  fun m ρ _ => Cert.DH.Gen.frame m ρ,
  fun m ρ _ => Cert.DHIdeal.Gen.frame m ρ,
  DH.frame_ref,
  fun m ρ _ => Cert.DWIn.Gen.frame m ρ,
  fun m ρ _ => Cert.DWInIdeal.Gen.frame m ρ,
  DWIn.frame_ref,
  fun m ρ _ => Cert.MIn.Gen.frame m ρ,
  fun m ρ _ => Cert.MInIdeal.Gen.frame m ρ,
  MIn.frame_ref,
  fun m ρ _ => Cert.MOut.Gen.frame m ρ,
  fun m ρ _ => Cert.MOutIdeal.Gen.frame m ρ,
  MOut.frame_ref,
  fun m ρ _ => Cert.MUp.Gen.frame m ρ,
  fun m ρ _ => Cert.MUpIdeal.Gen.frame m ρ,
  MUp.frame_ref,
  fun m ρ _ => Cert.MDown.Gen.frame m ρ,
  fun m ρ _ => Cert.MDownIdeal.Gen.frame m ρ,
  MDown.frame_ref,
  fun m ρ _ => Cert.OptIn.Gen.frame m ρ,
  fun m ρ _ => Cert.OptInIdeal.Gen.frame m ρ,
  OptIn.frame_ref,
  fun m ρ _ => Cert.OptOut.Gen.frame m ρ,
  fun m ρ _ => Cert.OptOutIdeal.Gen.frame m ρ,
  OptOut.frame_ref,
  fun m ρ _ => Cert.OptUp.Gen.frame m ρ,
  fun m ρ _ => Cert.OptUpIdeal.Gen.frame m ρ,
  OptUp.frame_ref,
  fun m ρ _ => Cert.OptConv.Gen.frame m ρ,
  fun m ρ _ => Cert.OptConvIdeal.Gen.frame m ρ,
  OptConv.frame_ref,
  fun m ρ _ => Cert.OptDown.Gen.frame m ρ,
  fun m ρ _ => Cert.OptDownIdeal.Gen.frame m ρ,
  OptDown.frame_ref,
  fun m ρ _ => Cert.OptAda.Gen.frame m ρ,
  fun m ρ _ => Cert.OptAdaIdeal.Gen.frame m ρ,
  OptAda.frame_ref,
  fun m ρ _ => Cert.OptSmall.Gen.frame m ρ,
  fun m ρ _ => Cert.OptSmallIdeal.Gen.frame m ρ,
  OptSmall.frame_ref,
  AttnFwd.frame,
  AttnFwd.frame_ideal,
  AttnFwd.frame_ideal_pre,
  AttnFwd.frame_ref,
  AttnFwd.frame_ref_pre,
  trivial,
  LossHead.algebraic,
  trivial,
  LnMod.algebraic,
  trivial,
  Gate.algebraic,
  trivial,
  DAct.algebraic,
  trivial,
  DWDown.algebraic,
  trivial,
  DH2.algebraic,
  trivial,
  DWUp.algebraic,
  trivial,
  DO.algebraic,
  trivial,
  DWOut.algebraic,
  trivial,
  DH.algebraic,
  trivial,
  DWIn.algebraic,
  trivial,
  MIn.algebraic,
  trivial,
  MOut.algebraic,
  trivial,
  MUp.algebraic,
  trivial,
  MDown.algebraic,
  trivial,
  OptIn.algebraic,
  trivial,
  OptOut.algebraic,
  trivial,
  OptUp.algebraic,
  trivial,
  OptConv.algebraic,
  trivial,
  OptDown.algebraic,
  trivial,
  OptAda.algebraic,
  trivial,
  OptSmall.algebraic,
  trivial,
  AttnFwd.algebraic⟩

end Cert.Proof

end
